-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_FfndKernel (m : (ℓ : Loc Cert.FfndKernel.nD Cert.FfndKernel.τ Cert.FfndKernel.sig) → Buf (Elt Bits) ℓ) : Prop :=
  True

def Pre_FfndKernelIdeal (m : (ℓ : Loc Cert.FfndKernelIdeal.nD Cert.FfndKernelIdeal.τ Cert.FfndKernelIdeal.sig) → Buf (Elt Ideal) ℓ) : Prop :=
  True

def Pre_FfndKernelIdeal_ffnd_finite [hPre_ffnd_finite : Cert.Pre_ffnd_finite.Facts] (m : (ℓ : Loc Cert.FfndKernelIdeal.nD Cert.FfndKernelIdeal.τ Cert.FfndKernelIdeal.sig) → Buf (Elt Ideal) ℓ) : Prop :=
  ∀ c : Dev Cert.FfndKernelIdeal.nD,
    (Cert.Pre_ffnd_finite.fn (F := Ideal) (m ((c.tc : Thread Cert.FfndKernelIdeal.nD Cert.FfndKernelIdeal.τ).loc Cert.FfndKernelIdeal.main_arg0)) (m ((c.tc : Thread Cert.FfndKernelIdeal.nD Cert.FfndKernelIdeal.τ).loc Cert.FfndKernelIdeal.main_arg1)) (m ((c.tc : Thread Cert.FfndKernelIdeal.nD Cert.FfndKernelIdeal.τ).loc Cert.FfndKernelIdeal.main_arg2)) (m ((c.tc : Thread Cert.FfndKernelIdeal.nD Cert.FfndKernelIdeal.τ).loc Cert.FfndKernelIdeal.main_arg3)) (m ((c.tc : Thread Cert.FfndKernelIdeal.nD Cert.FfndKernelIdeal.τ).loc Cert.FfndKernelIdeal.main_arg4))).1 = (fun _ => 1#1)
    ∧ (Cert.Pre_ffnd_finite.fn (F := Ideal) (m ((c.tc : Thread Cert.FfndKernelIdeal.nD Cert.FfndKernelIdeal.τ).loc Cert.FfndKernelIdeal.main_arg0)) (m ((c.tc : Thread Cert.FfndKernelIdeal.nD Cert.FfndKernelIdeal.τ).loc Cert.FfndKernelIdeal.main_arg1)) (m ((c.tc : Thread Cert.FfndKernelIdeal.nD Cert.FfndKernelIdeal.τ).loc Cert.FfndKernelIdeal.main_arg2)) (m ((c.tc : Thread Cert.FfndKernelIdeal.nD Cert.FfndKernelIdeal.τ).loc Cert.FfndKernelIdeal.main_arg3)) (m ((c.tc : Thread Cert.FfndKernelIdeal.nD Cert.FfndKernelIdeal.τ).loc Cert.FfndKernelIdeal.main_arg4))).2.1 = (fun _ => 1#1)
    ∧ (Cert.Pre_ffnd_finite.fn (F := Ideal) (m ((c.tc : Thread Cert.FfndKernelIdeal.nD Cert.FfndKernelIdeal.τ).loc Cert.FfndKernelIdeal.main_arg0)) (m ((c.tc : Thread Cert.FfndKernelIdeal.nD Cert.FfndKernelIdeal.τ).loc Cert.FfndKernelIdeal.main_arg1)) (m ((c.tc : Thread Cert.FfndKernelIdeal.nD Cert.FfndKernelIdeal.τ).loc Cert.FfndKernelIdeal.main_arg2)) (m ((c.tc : Thread Cert.FfndKernelIdeal.nD Cert.FfndKernelIdeal.τ).loc Cert.FfndKernelIdeal.main_arg3)) (m ((c.tc : Thread Cert.FfndKernelIdeal.nD Cert.FfndKernelIdeal.τ).loc Cert.FfndKernelIdeal.main_arg4))).2.2.1 = (fun _ => 1#1)
    ∧ (Cert.Pre_ffnd_finite.fn (F := Ideal) (m ((c.tc : Thread Cert.FfndKernelIdeal.nD Cert.FfndKernelIdeal.τ).loc Cert.FfndKernelIdeal.main_arg0)) (m ((c.tc : Thread Cert.FfndKernelIdeal.nD Cert.FfndKernelIdeal.τ).loc Cert.FfndKernelIdeal.main_arg1)) (m ((c.tc : Thread Cert.FfndKernelIdeal.nD Cert.FfndKernelIdeal.τ).loc Cert.FfndKernelIdeal.main_arg2)) (m ((c.tc : Thread Cert.FfndKernelIdeal.nD Cert.FfndKernelIdeal.τ).loc Cert.FfndKernelIdeal.main_arg3)) (m ((c.tc : Thread Cert.FfndKernelIdeal.nD Cert.FfndKernelIdeal.τ).loc Cert.FfndKernelIdeal.main_arg4))).2.2.2.1 = (fun _ => 1#1)
    ∧ (Cert.Pre_ffnd_finite.fn (F := Ideal) (m ((c.tc : Thread Cert.FfndKernelIdeal.nD Cert.FfndKernelIdeal.τ).loc Cert.FfndKernelIdeal.main_arg0)) (m ((c.tc : Thread Cert.FfndKernelIdeal.nD Cert.FfndKernelIdeal.τ).loc Cert.FfndKernelIdeal.main_arg1)) (m ((c.tc : Thread Cert.FfndKernelIdeal.nD Cert.FfndKernelIdeal.τ).loc Cert.FfndKernelIdeal.main_arg2)) (m ((c.tc : Thread Cert.FfndKernelIdeal.nD Cert.FfndKernelIdeal.τ).loc Cert.FfndKernelIdeal.main_arg3)) (m ((c.tc : Thread Cert.FfndKernelIdeal.nD Cert.FfndKernelIdeal.τ).loc Cert.FfndKernelIdeal.main_arg4))).2.2.2.2 = (fun _ => 1#1)

def Pre_FfndReferenceIdeal (m : (ℓ : Loc Cert.FfndReferenceIdeal.nD Cert.FfndReferenceIdeal.τ Cert.FfndReferenceIdeal.sig) → Buf (Elt Ideal) ℓ) : Prop :=
  True

def Pre_FfndReferenceIdeal_ffnd_finite [hPre_ffnd_finite : Cert.Pre_ffnd_finite.Facts] (m : (ℓ : Loc Cert.FfndReferenceIdeal.nD Cert.FfndReferenceIdeal.τ Cert.FfndReferenceIdeal.sig) → Buf (Elt Ideal) ℓ) : Prop :=
  ∀ c : Dev Cert.FfndReferenceIdeal.nD,
    (Cert.Pre_ffnd_finite.fn (F := Ideal) (m ((c.tc : Thread Cert.FfndReferenceIdeal.nD Cert.FfndReferenceIdeal.τ).loc Cert.FfndReferenceIdeal.main_arg0)) (m ((c.tc : Thread Cert.FfndReferenceIdeal.nD Cert.FfndReferenceIdeal.τ).loc Cert.FfndReferenceIdeal.main_arg1)) (m ((c.tc : Thread Cert.FfndReferenceIdeal.nD Cert.FfndReferenceIdeal.τ).loc Cert.FfndReferenceIdeal.main_arg2)) (m ((c.tc : Thread Cert.FfndReferenceIdeal.nD Cert.FfndReferenceIdeal.τ).loc Cert.FfndReferenceIdeal.main_arg3)) (m ((c.tc : Thread Cert.FfndReferenceIdeal.nD Cert.FfndReferenceIdeal.τ).loc Cert.FfndReferenceIdeal.main_arg4))).1 = (fun _ => 1#1)
    ∧ (Cert.Pre_ffnd_finite.fn (F := Ideal) (m ((c.tc : Thread Cert.FfndReferenceIdeal.nD Cert.FfndReferenceIdeal.τ).loc Cert.FfndReferenceIdeal.main_arg0)) (m ((c.tc : Thread Cert.FfndReferenceIdeal.nD Cert.FfndReferenceIdeal.τ).loc Cert.FfndReferenceIdeal.main_arg1)) (m ((c.tc : Thread Cert.FfndReferenceIdeal.nD Cert.FfndReferenceIdeal.τ).loc Cert.FfndReferenceIdeal.main_arg2)) (m ((c.tc : Thread Cert.FfndReferenceIdeal.nD Cert.FfndReferenceIdeal.τ).loc Cert.FfndReferenceIdeal.main_arg3)) (m ((c.tc : Thread Cert.FfndReferenceIdeal.nD Cert.FfndReferenceIdeal.τ).loc Cert.FfndReferenceIdeal.main_arg4))).2.1 = (fun _ => 1#1)
    ∧ (Cert.Pre_ffnd_finite.fn (F := Ideal) (m ((c.tc : Thread Cert.FfndReferenceIdeal.nD Cert.FfndReferenceIdeal.τ).loc Cert.FfndReferenceIdeal.main_arg0)) (m ((c.tc : Thread Cert.FfndReferenceIdeal.nD Cert.FfndReferenceIdeal.τ).loc Cert.FfndReferenceIdeal.main_arg1)) (m ((c.tc : Thread Cert.FfndReferenceIdeal.nD Cert.FfndReferenceIdeal.τ).loc Cert.FfndReferenceIdeal.main_arg2)) (m ((c.tc : Thread Cert.FfndReferenceIdeal.nD Cert.FfndReferenceIdeal.τ).loc Cert.FfndReferenceIdeal.main_arg3)) (m ((c.tc : Thread Cert.FfndReferenceIdeal.nD Cert.FfndReferenceIdeal.τ).loc Cert.FfndReferenceIdeal.main_arg4))).2.2.1 = (fun _ => 1#1)
    ∧ (Cert.Pre_ffnd_finite.fn (F := Ideal) (m ((c.tc : Thread Cert.FfndReferenceIdeal.nD Cert.FfndReferenceIdeal.τ).loc Cert.FfndReferenceIdeal.main_arg0)) (m ((c.tc : Thread Cert.FfndReferenceIdeal.nD Cert.FfndReferenceIdeal.τ).loc Cert.FfndReferenceIdeal.main_arg1)) (m ((c.tc : Thread Cert.FfndReferenceIdeal.nD Cert.FfndReferenceIdeal.τ).loc Cert.FfndReferenceIdeal.main_arg2)) (m ((c.tc : Thread Cert.FfndReferenceIdeal.nD Cert.FfndReferenceIdeal.τ).loc Cert.FfndReferenceIdeal.main_arg3)) (m ((c.tc : Thread Cert.FfndReferenceIdeal.nD Cert.FfndReferenceIdeal.τ).loc Cert.FfndReferenceIdeal.main_arg4))).2.2.2.1 = (fun _ => 1#1)
    ∧ (Cert.Pre_ffnd_finite.fn (F := Ideal) (m ((c.tc : Thread Cert.FfndReferenceIdeal.nD Cert.FfndReferenceIdeal.τ).loc Cert.FfndReferenceIdeal.main_arg0)) (m ((c.tc : Thread Cert.FfndReferenceIdeal.nD Cert.FfndReferenceIdeal.τ).loc Cert.FfndReferenceIdeal.main_arg1)) (m ((c.tc : Thread Cert.FfndReferenceIdeal.nD Cert.FfndReferenceIdeal.τ).loc Cert.FfndReferenceIdeal.main_arg2)) (m ((c.tc : Thread Cert.FfndReferenceIdeal.nD Cert.FfndReferenceIdeal.τ).loc Cert.FfndReferenceIdeal.main_arg3)) (m ((c.tc : Thread Cert.FfndReferenceIdeal.nD Cert.FfndReferenceIdeal.τ).loc Cert.FfndReferenceIdeal.main_arg4))).2.2.2.2 = (fun _ => 1#1)

def Pre_MobKernel (m : (ℓ : Loc Cert.MobKernel.nD Cert.MobKernel.τ Cert.MobKernel.sig) → Buf (Elt Bits) ℓ) : Prop :=
  True

def Pre_MobKernelIdeal (m : (ℓ : Loc Cert.MobKernelIdeal.nD Cert.MobKernelIdeal.τ Cert.MobKernelIdeal.sig) → Buf (Elt Ideal) ℓ) : Prop :=
  True

def Pre_MobReferenceIdeal (m : (ℓ : Loc Cert.MobReferenceIdeal.nD Cert.MobReferenceIdeal.τ Cert.MobReferenceIdeal.sig) → Buf (Elt Ideal) ℓ) : Prop :=
  True

def Pre_UpbKernel (m : (ℓ : Loc Cert.UpbKernel.nD Cert.UpbKernel.τ Cert.UpbKernel.sig) → Buf (Elt Bits) ℓ) : Prop :=
  True

def Pre_UpbKernelIdeal (m : (ℓ : Loc Cert.UpbKernelIdeal.nD Cert.UpbKernelIdeal.τ Cert.UpbKernelIdeal.sig) → Buf (Elt Ideal) ℓ) : Prop :=
  True

def Pre_UpbReferenceIdeal (m : (ℓ : Loc Cert.UpbReferenceIdeal.nD Cert.UpbReferenceIdeal.τ Cert.UpbReferenceIdeal.sig) → Buf (Elt Ideal) ℓ) : Prop :=
  True

def Pre_SwfKernel (m : (ℓ : Loc Cert.SwfKernel.nD Cert.SwfKernel.τ Cert.SwfKernel.sig) → Buf (Elt Bits) ℓ) : Prop :=
  True

def Pre_SwfKernelIdeal (m : (ℓ : Loc Cert.SwfKernelIdeal.nD Cert.SwfKernelIdeal.τ Cert.SwfKernelIdeal.sig) → Buf (Elt Ideal) ℓ) : Prop :=
  True

def Pre_SwfKernelIdeal_swf_finite [hPre_swf_finite : Cert.Pre_swf_finite.Facts] (m : (ℓ : Loc Cert.SwfKernelIdeal.nD Cert.SwfKernelIdeal.τ Cert.SwfKernelIdeal.sig) → Buf (Elt Ideal) ℓ) : Prop :=
  ∀ c : Dev Cert.SwfKernelIdeal.nD,
    (Cert.Pre_swf_finite.fn (F := Ideal) (m ((c.tc : Thread Cert.SwfKernelIdeal.nD Cert.SwfKernelIdeal.τ).loc Cert.SwfKernelIdeal.main_arg0)) (m ((c.tc : Thread Cert.SwfKernelIdeal.nD Cert.SwfKernelIdeal.τ).loc Cert.SwfKernelIdeal.main_arg1)) (m ((c.tc : Thread Cert.SwfKernelIdeal.nD Cert.SwfKernelIdeal.τ).loc Cert.SwfKernelIdeal.main_arg2))).1 = (fun _ => 1#1)
    ∧ (Cert.Pre_swf_finite.fn (F := Ideal) (m ((c.tc : Thread Cert.SwfKernelIdeal.nD Cert.SwfKernelIdeal.τ).loc Cert.SwfKernelIdeal.main_arg0)) (m ((c.tc : Thread Cert.SwfKernelIdeal.nD Cert.SwfKernelIdeal.τ).loc Cert.SwfKernelIdeal.main_arg1)) (m ((c.tc : Thread Cert.SwfKernelIdeal.nD Cert.SwfKernelIdeal.τ).loc Cert.SwfKernelIdeal.main_arg2))).2.1 = (fun _ => 1#1)
    ∧ (Cert.Pre_swf_finite.fn (F := Ideal) (m ((c.tc : Thread Cert.SwfKernelIdeal.nD Cert.SwfKernelIdeal.τ).loc Cert.SwfKernelIdeal.main_arg0)) (m ((c.tc : Thread Cert.SwfKernelIdeal.nD Cert.SwfKernelIdeal.τ).loc Cert.SwfKernelIdeal.main_arg1)) (m ((c.tc : Thread Cert.SwfKernelIdeal.nD Cert.SwfKernelIdeal.τ).loc Cert.SwfKernelIdeal.main_arg2))).2.2 = (fun _ => 1#1)

def Pre_SwfReferenceIdeal (m : (ℓ : Loc Cert.SwfReferenceIdeal.nD Cert.SwfReferenceIdeal.τ Cert.SwfReferenceIdeal.sig) → Buf (Elt Ideal) ℓ) : Prop :=
  True

def Pre_SwfReferenceIdeal_swf_finite [hPre_swf_finite : Cert.Pre_swf_finite.Facts] (m : (ℓ : Loc Cert.SwfReferenceIdeal.nD Cert.SwfReferenceIdeal.τ Cert.SwfReferenceIdeal.sig) → Buf (Elt Ideal) ℓ) : Prop :=
  ∀ c : Dev Cert.SwfReferenceIdeal.nD,
    (Cert.Pre_swf_finite.fn (F := Ideal) (m ((c.tc : Thread Cert.SwfReferenceIdeal.nD Cert.SwfReferenceIdeal.τ).loc Cert.SwfReferenceIdeal.main_arg0)) (m ((c.tc : Thread Cert.SwfReferenceIdeal.nD Cert.SwfReferenceIdeal.τ).loc Cert.SwfReferenceIdeal.main_arg1)) (m ((c.tc : Thread Cert.SwfReferenceIdeal.nD Cert.SwfReferenceIdeal.τ).loc Cert.SwfReferenceIdeal.main_arg2))).1 = (fun _ => 1#1)
    ∧ (Cert.Pre_swf_finite.fn (F := Ideal) (m ((c.tc : Thread Cert.SwfReferenceIdeal.nD Cert.SwfReferenceIdeal.τ).loc Cert.SwfReferenceIdeal.main_arg0)) (m ((c.tc : Thread Cert.SwfReferenceIdeal.nD Cert.SwfReferenceIdeal.τ).loc Cert.SwfReferenceIdeal.main_arg1)) (m ((c.tc : Thread Cert.SwfReferenceIdeal.nD Cert.SwfReferenceIdeal.τ).loc Cert.SwfReferenceIdeal.main_arg2))).2.1 = (fun _ => 1#1)
    ∧ (Cert.Pre_swf_finite.fn (F := Ideal) (m ((c.tc : Thread Cert.SwfReferenceIdeal.nD Cert.SwfReferenceIdeal.τ).loc Cert.SwfReferenceIdeal.main_arg0)) (m ((c.tc : Thread Cert.SwfReferenceIdeal.nD Cert.SwfReferenceIdeal.τ).loc Cert.SwfReferenceIdeal.main_arg1)) (m ((c.tc : Thread Cert.SwfReferenceIdeal.nD Cert.SwfReferenceIdeal.τ).loc Cert.SwfReferenceIdeal.main_arg2))).2.2 = (fun _ => 1#1)

def Pre_GlfKernel (m : (ℓ : Loc Cert.GlfKernel.nD Cert.GlfKernel.τ Cert.GlfKernel.sig) → Buf (Elt Bits) ℓ) : Prop :=
  True

def Pre_GlfKernelIdeal (m : (ℓ : Loc Cert.GlfKernelIdeal.nD Cert.GlfKernelIdeal.τ Cert.GlfKernelIdeal.sig) → Buf (Elt Ideal) ℓ) : Prop :=
  True

def Pre_GlfKernelIdeal_glf_finite [hPre_glf_finite : Cert.Pre_glf_finite.Facts] (m : (ℓ : Loc Cert.GlfKernelIdeal.nD Cert.GlfKernelIdeal.τ Cert.GlfKernelIdeal.sig) → Buf (Elt Ideal) ℓ) : Prop :=
  ∀ c : Dev Cert.GlfKernelIdeal.nD,
    (Cert.Pre_glf_finite.fn (F := Ideal) (m ((c.tc : Thread Cert.GlfKernelIdeal.nD Cert.GlfKernelIdeal.τ).loc Cert.GlfKernelIdeal.main_arg0)) (m ((c.tc : Thread Cert.GlfKernelIdeal.nD Cert.GlfKernelIdeal.τ).loc Cert.GlfKernelIdeal.main_arg1)) (m ((c.tc : Thread Cert.GlfKernelIdeal.nD Cert.GlfKernelIdeal.τ).loc Cert.GlfKernelIdeal.main_arg2)) (m ((c.tc : Thread Cert.GlfKernelIdeal.nD Cert.GlfKernelIdeal.τ).loc Cert.GlfKernelIdeal.main_arg3))).1 = (fun _ => 1#1)
    ∧ (Cert.Pre_glf_finite.fn (F := Ideal) (m ((c.tc : Thread Cert.GlfKernelIdeal.nD Cert.GlfKernelIdeal.τ).loc Cert.GlfKernelIdeal.main_arg0)) (m ((c.tc : Thread Cert.GlfKernelIdeal.nD Cert.GlfKernelIdeal.τ).loc Cert.GlfKernelIdeal.main_arg1)) (m ((c.tc : Thread Cert.GlfKernelIdeal.nD Cert.GlfKernelIdeal.τ).loc Cert.GlfKernelIdeal.main_arg2)) (m ((c.tc : Thread Cert.GlfKernelIdeal.nD Cert.GlfKernelIdeal.τ).loc Cert.GlfKernelIdeal.main_arg3))).2.1 = (fun _ => 1#1)
    ∧ (Cert.Pre_glf_finite.fn (F := Ideal) (m ((c.tc : Thread Cert.GlfKernelIdeal.nD Cert.GlfKernelIdeal.τ).loc Cert.GlfKernelIdeal.main_arg0)) (m ((c.tc : Thread Cert.GlfKernelIdeal.nD Cert.GlfKernelIdeal.τ).loc Cert.GlfKernelIdeal.main_arg1)) (m ((c.tc : Thread Cert.GlfKernelIdeal.nD Cert.GlfKernelIdeal.τ).loc Cert.GlfKernelIdeal.main_arg2)) (m ((c.tc : Thread Cert.GlfKernelIdeal.nD Cert.GlfKernelIdeal.τ).loc Cert.GlfKernelIdeal.main_arg3))).2.2 = (fun _ => 1#1)

def Pre_GlfReferenceIdeal (m : (ℓ : Loc Cert.GlfReferenceIdeal.nD Cert.GlfReferenceIdeal.τ Cert.GlfReferenceIdeal.sig) → Buf (Elt Ideal) ℓ) : Prop :=
  True

def Pre_GlfReferenceIdeal_glf_finite [hPre_glf_finite : Cert.Pre_glf_finite.Facts] (m : (ℓ : Loc Cert.GlfReferenceIdeal.nD Cert.GlfReferenceIdeal.τ Cert.GlfReferenceIdeal.sig) → Buf (Elt Ideal) ℓ) : Prop :=
  ∀ c : Dev Cert.GlfReferenceIdeal.nD,
    (Cert.Pre_glf_finite.fn (F := Ideal) (m ((c.tc : Thread Cert.GlfReferenceIdeal.nD Cert.GlfReferenceIdeal.τ).loc Cert.GlfReferenceIdeal.main_arg0)) (m ((c.tc : Thread Cert.GlfReferenceIdeal.nD Cert.GlfReferenceIdeal.τ).loc Cert.GlfReferenceIdeal.main_arg1)) (m ((c.tc : Thread Cert.GlfReferenceIdeal.nD Cert.GlfReferenceIdeal.τ).loc Cert.GlfReferenceIdeal.main_arg2)) (m ((c.tc : Thread Cert.GlfReferenceIdeal.nD Cert.GlfReferenceIdeal.τ).loc Cert.GlfReferenceIdeal.main_arg3))).1 = (fun _ => 1#1)
    ∧ (Cert.Pre_glf_finite.fn (F := Ideal) (m ((c.tc : Thread Cert.GlfReferenceIdeal.nD Cert.GlfReferenceIdeal.τ).loc Cert.GlfReferenceIdeal.main_arg0)) (m ((c.tc : Thread Cert.GlfReferenceIdeal.nD Cert.GlfReferenceIdeal.τ).loc Cert.GlfReferenceIdeal.main_arg1)) (m ((c.tc : Thread Cert.GlfReferenceIdeal.nD Cert.GlfReferenceIdeal.τ).loc Cert.GlfReferenceIdeal.main_arg2)) (m ((c.tc : Thread Cert.GlfReferenceIdeal.nD Cert.GlfReferenceIdeal.τ).loc Cert.GlfReferenceIdeal.main_arg3))).2.1 = (fun _ => 1#1)
    ∧ (Cert.Pre_glf_finite.fn (F := Ideal) (m ((c.tc : Thread Cert.GlfReferenceIdeal.nD Cert.GlfReferenceIdeal.τ).loc Cert.GlfReferenceIdeal.main_arg0)) (m ((c.tc : Thread Cert.GlfReferenceIdeal.nD Cert.GlfReferenceIdeal.τ).loc Cert.GlfReferenceIdeal.main_arg1)) (m ((c.tc : Thread Cert.GlfReferenceIdeal.nD Cert.GlfReferenceIdeal.τ).loc Cert.GlfReferenceIdeal.main_arg2)) (m ((c.tc : Thread Cert.GlfReferenceIdeal.nD Cert.GlfReferenceIdeal.τ).loc Cert.GlfReferenceIdeal.main_arg3))).2.2 = (fun _ => 1#1)

def Pre_DnfKernel (m : (ℓ : Loc Cert.DnfKernel.nD Cert.DnfKernel.τ Cert.DnfKernel.sig) → Buf (Elt Bits) ℓ) : Prop :=
  True

def Pre_DnfKernelIdeal (m : (ℓ : Loc Cert.DnfKernelIdeal.nD Cert.DnfKernelIdeal.τ Cert.DnfKernelIdeal.sig) → Buf (Elt Ideal) ℓ) : Prop :=
  True

def Pre_DnfKernelIdeal_dnf_finite [hPre_dnf_finite : Cert.Pre_dnf_finite.Facts] (m : (ℓ : Loc Cert.DnfKernelIdeal.nD Cert.DnfKernelIdeal.τ Cert.DnfKernelIdeal.sig) → Buf (Elt Ideal) ℓ) : Prop :=
  ∀ c : Dev Cert.DnfKernelIdeal.nD,
    (Cert.Pre_dnf_finite.fn (F := Ideal) (m ((c.tc : Thread Cert.DnfKernelIdeal.nD Cert.DnfKernelIdeal.τ).loc Cert.DnfKernelIdeal.main_arg0)) (m ((c.tc : Thread Cert.DnfKernelIdeal.nD Cert.DnfKernelIdeal.τ).loc Cert.DnfKernelIdeal.main_arg1)) (m ((c.tc : Thread Cert.DnfKernelIdeal.nD Cert.DnfKernelIdeal.τ).loc Cert.DnfKernelIdeal.main_arg2)) (m ((c.tc : Thread Cert.DnfKernelIdeal.nD Cert.DnfKernelIdeal.τ).loc Cert.DnfKernelIdeal.main_arg3)) (m ((c.tc : Thread Cert.DnfKernelIdeal.nD Cert.DnfKernelIdeal.τ).loc Cert.DnfKernelIdeal.main_arg4))).1 = (fun _ => 1#1)
    ∧ (Cert.Pre_dnf_finite.fn (F := Ideal) (m ((c.tc : Thread Cert.DnfKernelIdeal.nD Cert.DnfKernelIdeal.τ).loc Cert.DnfKernelIdeal.main_arg0)) (m ((c.tc : Thread Cert.DnfKernelIdeal.nD Cert.DnfKernelIdeal.τ).loc Cert.DnfKernelIdeal.main_arg1)) (m ((c.tc : Thread Cert.DnfKernelIdeal.nD Cert.DnfKernelIdeal.τ).loc Cert.DnfKernelIdeal.main_arg2)) (m ((c.tc : Thread Cert.DnfKernelIdeal.nD Cert.DnfKernelIdeal.τ).loc Cert.DnfKernelIdeal.main_arg3)) (m ((c.tc : Thread Cert.DnfKernelIdeal.nD Cert.DnfKernelIdeal.τ).loc Cert.DnfKernelIdeal.main_arg4))).2.1 = (fun _ => 1#1)
    ∧ (Cert.Pre_dnf_finite.fn (F := Ideal) (m ((c.tc : Thread Cert.DnfKernelIdeal.nD Cert.DnfKernelIdeal.τ).loc Cert.DnfKernelIdeal.main_arg0)) (m ((c.tc : Thread Cert.DnfKernelIdeal.nD Cert.DnfKernelIdeal.τ).loc Cert.DnfKernelIdeal.main_arg1)) (m ((c.tc : Thread Cert.DnfKernelIdeal.nD Cert.DnfKernelIdeal.τ).loc Cert.DnfKernelIdeal.main_arg2)) (m ((c.tc : Thread Cert.DnfKernelIdeal.nD Cert.DnfKernelIdeal.τ).loc Cert.DnfKernelIdeal.main_arg3)) (m ((c.tc : Thread Cert.DnfKernelIdeal.nD Cert.DnfKernelIdeal.τ).loc Cert.DnfKernelIdeal.main_arg4))).2.2.1 = (fun _ => 1#1)
    ∧ (Cert.Pre_dnf_finite.fn (F := Ideal) (m ((c.tc : Thread Cert.DnfKernelIdeal.nD Cert.DnfKernelIdeal.τ).loc Cert.DnfKernelIdeal.main_arg0)) (m ((c.tc : Thread Cert.DnfKernelIdeal.nD Cert.DnfKernelIdeal.τ).loc Cert.DnfKernelIdeal.main_arg1)) (m ((c.tc : Thread Cert.DnfKernelIdeal.nD Cert.DnfKernelIdeal.τ).loc Cert.DnfKernelIdeal.main_arg2)) (m ((c.tc : Thread Cert.DnfKernelIdeal.nD Cert.DnfKernelIdeal.τ).loc Cert.DnfKernelIdeal.main_arg3)) (m ((c.tc : Thread Cert.DnfKernelIdeal.nD Cert.DnfKernelIdeal.τ).loc Cert.DnfKernelIdeal.main_arg4))).2.2.2 = (fun _ => 1#1)

def Pre_DnfReferenceIdeal (m : (ℓ : Loc Cert.DnfReferenceIdeal.nD Cert.DnfReferenceIdeal.τ Cert.DnfReferenceIdeal.sig) → Buf (Elt Ideal) ℓ) : Prop :=
  True

def Pre_DnfReferenceIdeal_dnf_finite [hPre_dnf_finite : Cert.Pre_dnf_finite.Facts] (m : (ℓ : Loc Cert.DnfReferenceIdeal.nD Cert.DnfReferenceIdeal.τ Cert.DnfReferenceIdeal.sig) → Buf (Elt Ideal) ℓ) : Prop :=
  ∀ c : Dev Cert.DnfReferenceIdeal.nD,
    (Cert.Pre_dnf_finite.fn (F := Ideal) (m ((c.tc : Thread Cert.DnfReferenceIdeal.nD Cert.DnfReferenceIdeal.τ).loc Cert.DnfReferenceIdeal.main_arg0)) (m ((c.tc : Thread Cert.DnfReferenceIdeal.nD Cert.DnfReferenceIdeal.τ).loc Cert.DnfReferenceIdeal.main_arg1)) (m ((c.tc : Thread Cert.DnfReferenceIdeal.nD Cert.DnfReferenceIdeal.τ).loc Cert.DnfReferenceIdeal.main_arg2)) (m ((c.tc : Thread Cert.DnfReferenceIdeal.nD Cert.DnfReferenceIdeal.τ).loc Cert.DnfReferenceIdeal.main_arg3)) (m ((c.tc : Thread Cert.DnfReferenceIdeal.nD Cert.DnfReferenceIdeal.τ).loc Cert.DnfReferenceIdeal.main_arg4))).1 = (fun _ => 1#1)
    ∧ (Cert.Pre_dnf_finite.fn (F := Ideal) (m ((c.tc : Thread Cert.DnfReferenceIdeal.nD Cert.DnfReferenceIdeal.τ).loc Cert.DnfReferenceIdeal.main_arg0)) (m ((c.tc : Thread Cert.DnfReferenceIdeal.nD Cert.DnfReferenceIdeal.τ).loc Cert.DnfReferenceIdeal.main_arg1)) (m ((c.tc : Thread Cert.DnfReferenceIdeal.nD Cert.DnfReferenceIdeal.τ).loc Cert.DnfReferenceIdeal.main_arg2)) (m ((c.tc : Thread Cert.DnfReferenceIdeal.nD Cert.DnfReferenceIdeal.τ).loc Cert.DnfReferenceIdeal.main_arg3)) (m ((c.tc : Thread Cert.DnfReferenceIdeal.nD Cert.DnfReferenceIdeal.τ).loc Cert.DnfReferenceIdeal.main_arg4))).2.1 = (fun _ => 1#1)
    ∧ (Cert.Pre_dnf_finite.fn (F := Ideal) (m ((c.tc : Thread Cert.DnfReferenceIdeal.nD Cert.DnfReferenceIdeal.τ).loc Cert.DnfReferenceIdeal.main_arg0)) (m ((c.tc : Thread Cert.DnfReferenceIdeal.nD Cert.DnfReferenceIdeal.τ).loc Cert.DnfReferenceIdeal.main_arg1)) (m ((c.tc : Thread Cert.DnfReferenceIdeal.nD Cert.DnfReferenceIdeal.τ).loc Cert.DnfReferenceIdeal.main_arg2)) (m ((c.tc : Thread Cert.DnfReferenceIdeal.nD Cert.DnfReferenceIdeal.τ).loc Cert.DnfReferenceIdeal.main_arg3)) (m ((c.tc : Thread Cert.DnfReferenceIdeal.nD Cert.DnfReferenceIdeal.τ).loc Cert.DnfReferenceIdeal.main_arg4))).2.2.1 = (fun _ => 1#1)
    ∧ (Cert.Pre_dnf_finite.fn (F := Ideal) (m ((c.tc : Thread Cert.DnfReferenceIdeal.nD Cert.DnfReferenceIdeal.τ).loc Cert.DnfReferenceIdeal.main_arg0)) (m ((c.tc : Thread Cert.DnfReferenceIdeal.nD Cert.DnfReferenceIdeal.τ).loc Cert.DnfReferenceIdeal.main_arg1)) (m ((c.tc : Thread Cert.DnfReferenceIdeal.nD Cert.DnfReferenceIdeal.τ).loc Cert.DnfReferenceIdeal.main_arg2)) (m ((c.tc : Thread Cert.DnfReferenceIdeal.nD Cert.DnfReferenceIdeal.τ).loc Cert.DnfReferenceIdeal.main_arg3)) (m ((c.tc : Thread Cert.DnfReferenceIdeal.nD Cert.DnfReferenceIdeal.τ).loc Cert.DnfReferenceIdeal.main_arg4))).2.2.2 = (fun _ => 1#1)

def Pre_FfuKernel (m : (ℓ : Loc Cert.FfuKernel.nD Cert.FfuKernel.τ Cert.FfuKernel.sig) → Buf (Elt Bits) ℓ) : Prop :=
  True

def Pre_FfuKernelIdeal (m : (ℓ : Loc Cert.FfuKernelIdeal.nD Cert.FfuKernelIdeal.τ Cert.FfuKernelIdeal.sig) → Buf (Elt Ideal) ℓ) : Prop :=
  True

def Pre_FfuReferenceIdeal (m : (ℓ : Loc Cert.FfuReferenceIdeal.nD Cert.FfuReferenceIdeal.τ Cert.FfuReferenceIdeal.sig) → Buf (Elt Ideal) ℓ) : Prop :=
  True

def Pre_FfdKernel (m : (ℓ : Loc Cert.FfdKernel.nD Cert.FfdKernel.τ Cert.FfdKernel.sig) → Buf (Elt Bits) ℓ) : Prop :=
  True

def Pre_FfdKernelIdeal (m : (ℓ : Loc Cert.FfdKernelIdeal.nD Cert.FfdKernelIdeal.τ Cert.FfdKernelIdeal.sig) → Buf (Elt Ideal) ℓ) : Prop :=
  True

def Pre_FfdReferenceIdeal (m : (ℓ : Loc Cert.FfdReferenceIdeal.nD Cert.FfdReferenceIdeal.τ Cert.FfdReferenceIdeal.sig) → Buf (Elt Ideal) ℓ) : Prop :=
  True

def Pre_MxiKernel (m : (ℓ : Loc Cert.MxiKernel.nD Cert.MxiKernel.τ Cert.MxiKernel.sig) → Buf (Elt Bits) ℓ) : Prop :=
  True

def Pre_MxiKernelIdeal (m : (ℓ : Loc Cert.MxiKernelIdeal.nD Cert.MxiKernelIdeal.τ Cert.MxiKernelIdeal.sig) → Buf (Elt Ideal) ℓ) : Prop :=
  True

def Pre_MxiReferenceIdeal (m : (ℓ : Loc Cert.MxiReferenceIdeal.nD Cert.MxiReferenceIdeal.τ Cert.MxiReferenceIdeal.sig) → Buf (Elt Ideal) ℓ) : Prop :=
  True

def Pre_MxoKernel (m : (ℓ : Loc Cert.MxoKernel.nD Cert.MxoKernel.τ Cert.MxoKernel.sig) → Buf (Elt Bits) ℓ) : Prop :=
  True

def Pre_MxoKernelIdeal (m : (ℓ : Loc Cert.MxoKernelIdeal.nD Cert.MxoKernelIdeal.τ Cert.MxoKernelIdeal.sig) → Buf (Elt Ideal) ℓ) : Prop :=
  True

def Pre_MxoReferenceIdeal (m : (ℓ : Loc Cert.MxoReferenceIdeal.nD Cert.MxoReferenceIdeal.τ Cert.MxoReferenceIdeal.sig) → Buf (Elt Ideal) ℓ) : Prop :=
  True

def Pre_CvfKernel (m : (ℓ : Loc Cert.CvfKernel.nD Cert.CvfKernel.τ Cert.CvfKernel.sig) → Buf (Elt Bits) ℓ) : Prop :=
  True

def Pre_CvfKernelIdeal (m : (ℓ : Loc Cert.CvfKernelIdeal.nD Cert.CvfKernelIdeal.τ Cert.CvfKernelIdeal.sig) → Buf (Elt Ideal) ℓ) : Prop :=
  True

def Pre_CvfReferenceIdeal (m : (ℓ : Loc Cert.CvfReferenceIdeal.nD Cert.CvfReferenceIdeal.τ Cert.CvfReferenceIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_BiaKernel (m : (ℓ : Loc Cert.BiaKernel.nD Cert.BiaKernel.τ Cert.BiaKernel.sig) → Buf (Elt Bits) ℓ) : Prop :=
  True

def Pre_BiaKernelIdeal (m : (ℓ : Loc Cert.BiaKernelIdeal.nD Cert.BiaKernelIdeal.τ Cert.BiaKernelIdeal.sig) → Buf (Elt Ideal) ℓ) : Prop :=
  True

def Pre_BiaReferenceIdeal (m : (ℓ : Loc Cert.BiaReferenceIdeal.nD Cert.BiaReferenceIdeal.τ Cert.BiaReferenceIdeal.sig) → Buf (Elt Ideal) ℓ) : Prop :=
  True

def Pre_BifKernel (m : (ℓ : Loc Cert.BifKernel.nD Cert.BifKernel.τ Cert.BifKernel.sig) → Buf (Elt Bits) ℓ) : Prop :=
  True

def Pre_BifKernelIdeal (m : (ℓ : Loc Cert.BifKernelIdeal.nD Cert.BifKernelIdeal.τ Cert.BifKernelIdeal.sig) → Buf (Elt Ideal) ℓ) : Prop :=
  True

def Pre_BifReferenceIdeal (m : (ℓ : Loc Cert.BifReferenceIdeal.nD Cert.BifReferenceIdeal.τ Cert.BifReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_FfndKernel [hFfndKernel : Cert.FfndKernel.Facts] : Prop :=
  ∀ (m : (ℓ : Loc Cert.FfndKernel.nD Cert.FfndKernel.τ Cert.FfndKernel.sig) → Buf (Elt Bits) ℓ) (g : Dev Cert.FfndKernel.nD → PrngReg), Pre_FfndKernel m →
    θ_run (Cert.FfndKernel.defs (F := Bits)) (onTc (τ := Cert.FfndKernel.τ) (Cert.FfndKernel.main (F := Bits))) ⟨m, fun _ => 0, g⟩ (fun r => (∀ c : Dev Cert.FfndKernel.nD,
      r.2.mem ((c.tc : Thread Cert.FfndKernel.nD Cert.FfndKernel.τ).loc Cert.FfndKernel.main_arg0) = m ((c.tc : Thread Cert.FfndKernel.nD Cert.FfndKernel.τ).loc Cert.FfndKernel.main_arg0)
      ∧ r.2.mem ((c.tc : Thread Cert.FfndKernel.nD Cert.FfndKernel.τ).loc Cert.FfndKernel.main_arg1) = m ((c.tc : Thread Cert.FfndKernel.nD Cert.FfndKernel.τ).loc Cert.FfndKernel.main_arg1)
      ∧ r.2.mem ((c.tc : Thread Cert.FfndKernel.nD Cert.FfndKernel.τ).loc Cert.FfndKernel.main_arg2) = m ((c.tc : Thread Cert.FfndKernel.nD Cert.FfndKernel.τ).loc Cert.FfndKernel.main_arg2)
      ∧ r.2.mem ((c.tc : Thread Cert.FfndKernel.nD Cert.FfndKernel.τ).loc Cert.FfndKernel.main_arg3) = m ((c.tc : Thread Cert.FfndKernel.nD Cert.FfndKernel.τ).loc Cert.FfndKernel.main_arg3)
      ∧ r.2.mem ((c.tc : Thread Cert.FfndKernel.nD Cert.FfndKernel.τ).loc Cert.FfndKernel.main_arg4) = m ((c.tc : Thread Cert.FfndKernel.nD Cert.FfndKernel.τ).loc Cert.FfndKernel.main_arg4))
      ∧ r.2.sem = fun _ => 0)

def quiescent_FfndKernelIdeal [hFfndKernelIdeal : Cert.FfndKernelIdeal.Facts] : Prop :=
  ∀ (m : (ℓ : Loc Cert.FfndKernelIdeal.nD Cert.FfndKernelIdeal.τ Cert.FfndKernelIdeal.sig) → Buf (Elt Ideal) ℓ) (g : Dev Cert.FfndKernelIdeal.nD → PrngReg), Pre_FfndKernelIdeal m →
    θ_run (Cert.FfndKernelIdeal.defs (F := Ideal)) (onTc (τ := Cert.FfndKernelIdeal.τ) (Cert.FfndKernelIdeal.main (F := Ideal))) ⟨m, fun _ => 0, g⟩ (fun r => (∀ c : Dev Cert.FfndKernelIdeal.nD,
      r.2.mem ((c.tc : Thread Cert.FfndKernelIdeal.nD Cert.FfndKernelIdeal.τ).loc Cert.FfndKernelIdeal.main_arg0) = m ((c.tc : Thread Cert.FfndKernelIdeal.nD Cert.FfndKernelIdeal.τ).loc Cert.FfndKernelIdeal.main_arg0)
      ∧ r.2.mem ((c.tc : Thread Cert.FfndKernelIdeal.nD Cert.FfndKernelIdeal.τ).loc Cert.FfndKernelIdeal.main_arg1) = m ((c.tc : Thread Cert.FfndKernelIdeal.nD Cert.FfndKernelIdeal.τ).loc Cert.FfndKernelIdeal.main_arg1)
      ∧ r.2.mem ((c.tc : Thread Cert.FfndKernelIdeal.nD Cert.FfndKernelIdeal.τ).loc Cert.FfndKernelIdeal.main_arg2) = m ((c.tc : Thread Cert.FfndKernelIdeal.nD Cert.FfndKernelIdeal.τ).loc Cert.FfndKernelIdeal.main_arg2)
      ∧ r.2.mem ((c.tc : Thread Cert.FfndKernelIdeal.nD Cert.FfndKernelIdeal.τ).loc Cert.FfndKernelIdeal.main_arg3) = m ((c.tc : Thread Cert.FfndKernelIdeal.nD Cert.FfndKernelIdeal.τ).loc Cert.FfndKernelIdeal.main_arg3)
      ∧ r.2.mem ((c.tc : Thread Cert.FfndKernelIdeal.nD Cert.FfndKernelIdeal.τ).loc Cert.FfndKernelIdeal.main_arg4) = m ((c.tc : Thread Cert.FfndKernelIdeal.nD Cert.FfndKernelIdeal.τ).loc Cert.FfndKernelIdeal.main_arg4))
      ∧ r.2.sem = fun _ => 0)

def quiescent_FfndKernelIdeal_pre_ffnd_finite [hFfndKernelIdeal : Cert.FfndKernelIdeal.Facts] [hPre_ffnd_finite : Cert.Pre_ffnd_finite.Facts] : Prop :=
  ∀ (m : (ℓ : Loc Cert.FfndKernelIdeal.nD Cert.FfndKernelIdeal.τ Cert.FfndKernelIdeal.sig) → Buf (Elt Ideal) ℓ) (g : Dev Cert.FfndKernelIdeal.nD → PrngReg), Pre_FfndKernelIdeal_ffnd_finite m →
    θ_run (Cert.FfndKernelIdeal.defs (F := Ideal)) (onTc (τ := Cert.FfndKernelIdeal.τ) (Cert.FfndKernelIdeal.main (F := Ideal))) ⟨m, fun _ => 0, g⟩ (fun r => (∀ c : Dev Cert.FfndKernelIdeal.nD,
      r.2.mem ((c.tc : Thread Cert.FfndKernelIdeal.nD Cert.FfndKernelIdeal.τ).loc Cert.FfndKernelIdeal.main_arg0) = m ((c.tc : Thread Cert.FfndKernelIdeal.nD Cert.FfndKernelIdeal.τ).loc Cert.FfndKernelIdeal.main_arg0)
      ∧ r.2.mem ((c.tc : Thread Cert.FfndKernelIdeal.nD Cert.FfndKernelIdeal.τ).loc Cert.FfndKernelIdeal.main_arg1) = m ((c.tc : Thread Cert.FfndKernelIdeal.nD Cert.FfndKernelIdeal.τ).loc Cert.FfndKernelIdeal.main_arg1)
      ∧ r.2.mem ((c.tc : Thread Cert.FfndKernelIdeal.nD Cert.FfndKernelIdeal.τ).loc Cert.FfndKernelIdeal.main_arg2) = m ((c.tc : Thread Cert.FfndKernelIdeal.nD Cert.FfndKernelIdeal.τ).loc Cert.FfndKernelIdeal.main_arg2)
      ∧ r.2.mem ((c.tc : Thread Cert.FfndKernelIdeal.nD Cert.FfndKernelIdeal.τ).loc Cert.FfndKernelIdeal.main_arg3) = m ((c.tc : Thread Cert.FfndKernelIdeal.nD Cert.FfndKernelIdeal.τ).loc Cert.FfndKernelIdeal.main_arg3)
      ∧ r.2.mem ((c.tc : Thread Cert.FfndKernelIdeal.nD Cert.FfndKernelIdeal.τ).loc Cert.FfndKernelIdeal.main_arg4) = m ((c.tc : Thread Cert.FfndKernelIdeal.nD Cert.FfndKernelIdeal.τ).loc Cert.FfndKernelIdeal.main_arg4))
      ∧ r.2.sem = fun _ => 0)

def quiescent_FfndReferenceIdeal [hFfndReferenceIdeal : Cert.FfndReferenceIdeal.Facts] : Prop :=
  ∀ (m : (ℓ : Loc Cert.FfndReferenceIdeal.nD Cert.FfndReferenceIdeal.τ Cert.FfndReferenceIdeal.sig) → Buf (Elt Ideal) ℓ) (g : Dev Cert.FfndReferenceIdeal.nD → PrngReg), Pre_FfndReferenceIdeal m →
    θ_run (Cert.FfndReferenceIdeal.defs (F := Ideal)) (onTc (τ := Cert.FfndReferenceIdeal.τ) (Cert.FfndReferenceIdeal.main (F := Ideal))) ⟨m, fun _ => 0, g⟩ (fun r => (∀ c : Dev Cert.FfndReferenceIdeal.nD,
      r.2.mem ((c.tc : Thread Cert.FfndReferenceIdeal.nD Cert.FfndReferenceIdeal.τ).loc Cert.FfndReferenceIdeal.main_arg0) = m ((c.tc : Thread Cert.FfndReferenceIdeal.nD Cert.FfndReferenceIdeal.τ).loc Cert.FfndReferenceIdeal.main_arg0)
      ∧ r.2.mem ((c.tc : Thread Cert.FfndReferenceIdeal.nD Cert.FfndReferenceIdeal.τ).loc Cert.FfndReferenceIdeal.main_arg1) = m ((c.tc : Thread Cert.FfndReferenceIdeal.nD Cert.FfndReferenceIdeal.τ).loc Cert.FfndReferenceIdeal.main_arg1)
      ∧ r.2.mem ((c.tc : Thread Cert.FfndReferenceIdeal.nD Cert.FfndReferenceIdeal.τ).loc Cert.FfndReferenceIdeal.main_arg2) = m ((c.tc : Thread Cert.FfndReferenceIdeal.nD Cert.FfndReferenceIdeal.τ).loc Cert.FfndReferenceIdeal.main_arg2)
      ∧ r.2.mem ((c.tc : Thread Cert.FfndReferenceIdeal.nD Cert.FfndReferenceIdeal.τ).loc Cert.FfndReferenceIdeal.main_arg3) = m ((c.tc : Thread Cert.FfndReferenceIdeal.nD Cert.FfndReferenceIdeal.τ).loc Cert.FfndReferenceIdeal.main_arg3)
      ∧ r.2.mem ((c.tc : Thread Cert.FfndReferenceIdeal.nD Cert.FfndReferenceIdeal.τ).loc Cert.FfndReferenceIdeal.main_arg4) = m ((c.tc : Thread Cert.FfndReferenceIdeal.nD Cert.FfndReferenceIdeal.τ).loc Cert.FfndReferenceIdeal.main_arg4))
      ∧ r.2.sem = fun _ => 0)

def quiescent_FfndReferenceIdeal_pre_ffnd_finite [hFfndReferenceIdeal : Cert.FfndReferenceIdeal.Facts] [hPre_ffnd_finite : Cert.Pre_ffnd_finite.Facts] : Prop :=
  ∀ (m : (ℓ : Loc Cert.FfndReferenceIdeal.nD Cert.FfndReferenceIdeal.τ Cert.FfndReferenceIdeal.sig) → Buf (Elt Ideal) ℓ) (g : Dev Cert.FfndReferenceIdeal.nD → PrngReg), Pre_FfndReferenceIdeal_ffnd_finite m →
    θ_run (Cert.FfndReferenceIdeal.defs (F := Ideal)) (onTc (τ := Cert.FfndReferenceIdeal.τ) (Cert.FfndReferenceIdeal.main (F := Ideal))) ⟨m, fun _ => 0, g⟩ (fun r => (∀ c : Dev Cert.FfndReferenceIdeal.nD,
      r.2.mem ((c.tc : Thread Cert.FfndReferenceIdeal.nD Cert.FfndReferenceIdeal.τ).loc Cert.FfndReferenceIdeal.main_arg0) = m ((c.tc : Thread Cert.FfndReferenceIdeal.nD Cert.FfndReferenceIdeal.τ).loc Cert.FfndReferenceIdeal.main_arg0)
      ∧ r.2.mem ((c.tc : Thread Cert.FfndReferenceIdeal.nD Cert.FfndReferenceIdeal.τ).loc Cert.FfndReferenceIdeal.main_arg1) = m ((c.tc : Thread Cert.FfndReferenceIdeal.nD Cert.FfndReferenceIdeal.τ).loc Cert.FfndReferenceIdeal.main_arg1)
      ∧ r.2.mem ((c.tc : Thread Cert.FfndReferenceIdeal.nD Cert.FfndReferenceIdeal.τ).loc Cert.FfndReferenceIdeal.main_arg2) = m ((c.tc : Thread Cert.FfndReferenceIdeal.nD Cert.FfndReferenceIdeal.τ).loc Cert.FfndReferenceIdeal.main_arg2)
      ∧ r.2.mem ((c.tc : Thread Cert.FfndReferenceIdeal.nD Cert.FfndReferenceIdeal.τ).loc Cert.FfndReferenceIdeal.main_arg3) = m ((c.tc : Thread Cert.FfndReferenceIdeal.nD Cert.FfndReferenceIdeal.τ).loc Cert.FfndReferenceIdeal.main_arg3)
      ∧ r.2.mem ((c.tc : Thread Cert.FfndReferenceIdeal.nD Cert.FfndReferenceIdeal.τ).loc Cert.FfndReferenceIdeal.main_arg4) = m ((c.tc : Thread Cert.FfndReferenceIdeal.nD Cert.FfndReferenceIdeal.τ).loc Cert.FfndReferenceIdeal.main_arg4))
      ∧ r.2.sem = fun _ => 0)

def quiescent_MobKernel [hMobKernel : Cert.MobKernel.Facts] : Prop :=
  ∀ (m : (ℓ : Loc Cert.MobKernel.nD Cert.MobKernel.τ Cert.MobKernel.sig) → Buf (Elt Bits) ℓ) (g : Dev Cert.MobKernel.nD → PrngReg), Pre_MobKernel m →
    θ_run (Cert.MobKernel.defs (F := Bits)) (onTc (τ := Cert.MobKernel.τ) (Cert.MobKernel.main (F := Bits))) ⟨m, fun _ => 0, g⟩ (fun r => (∀ c : Dev Cert.MobKernel.nD,
      r.2.mem ((c.tc : Thread Cert.MobKernel.nD Cert.MobKernel.τ).loc Cert.MobKernel.main_arg0) = m ((c.tc : Thread Cert.MobKernel.nD Cert.MobKernel.τ).loc Cert.MobKernel.main_arg0)
      ∧ r.2.mem ((c.tc : Thread Cert.MobKernel.nD Cert.MobKernel.τ).loc Cert.MobKernel.main_arg1) = m ((c.tc : Thread Cert.MobKernel.nD Cert.MobKernel.τ).loc Cert.MobKernel.main_arg1)
      ∧ r.2.mem ((c.tc : Thread Cert.MobKernel.nD Cert.MobKernel.τ).loc Cert.MobKernel.main_arg2) = m ((c.tc : Thread Cert.MobKernel.nD Cert.MobKernel.τ).loc Cert.MobKernel.main_arg2)
      ∧ r.2.mem ((c.tc : Thread Cert.MobKernel.nD Cert.MobKernel.τ).loc Cert.MobKernel.main_arg3) = m ((c.tc : Thread Cert.MobKernel.nD Cert.MobKernel.τ).loc Cert.MobKernel.main_arg3))
      ∧ r.2.sem = fun _ => 0)

def quiescent_MobKernelIdeal [hMobKernelIdeal : Cert.MobKernelIdeal.Facts] : Prop :=
  ∀ (m : (ℓ : Loc Cert.MobKernelIdeal.nD Cert.MobKernelIdeal.τ Cert.MobKernelIdeal.sig) → Buf (Elt Ideal) ℓ) (g : Dev Cert.MobKernelIdeal.nD → PrngReg), Pre_MobKernelIdeal m →
    θ_run (Cert.MobKernelIdeal.defs (F := Ideal)) (onTc (τ := Cert.MobKernelIdeal.τ) (Cert.MobKernelIdeal.main (F := Ideal))) ⟨m, fun _ => 0, g⟩ (fun r => (∀ c : Dev Cert.MobKernelIdeal.nD,
      r.2.mem ((c.tc : Thread Cert.MobKernelIdeal.nD Cert.MobKernelIdeal.τ).loc Cert.MobKernelIdeal.main_arg0) = m ((c.tc : Thread Cert.MobKernelIdeal.nD Cert.MobKernelIdeal.τ).loc Cert.MobKernelIdeal.main_arg0)
      ∧ r.2.mem ((c.tc : Thread Cert.MobKernelIdeal.nD Cert.MobKernelIdeal.τ).loc Cert.MobKernelIdeal.main_arg1) = m ((c.tc : Thread Cert.MobKernelIdeal.nD Cert.MobKernelIdeal.τ).loc Cert.MobKernelIdeal.main_arg1)
      ∧ r.2.mem ((c.tc : Thread Cert.MobKernelIdeal.nD Cert.MobKernelIdeal.τ).loc Cert.MobKernelIdeal.main_arg2) = m ((c.tc : Thread Cert.MobKernelIdeal.nD Cert.MobKernelIdeal.τ).loc Cert.MobKernelIdeal.main_arg2)
      ∧ r.2.mem ((c.tc : Thread Cert.MobKernelIdeal.nD Cert.MobKernelIdeal.τ).loc Cert.MobKernelIdeal.main_arg3) = m ((c.tc : Thread Cert.MobKernelIdeal.nD Cert.MobKernelIdeal.τ).loc Cert.MobKernelIdeal.main_arg3))
      ∧ r.2.sem = fun _ => 0)

def quiescent_MobReferenceIdeal [hMobReferenceIdeal : Cert.MobReferenceIdeal.Facts] : Prop :=
  ∀ (m : (ℓ : Loc Cert.MobReferenceIdeal.nD Cert.MobReferenceIdeal.τ Cert.MobReferenceIdeal.sig) → Buf (Elt Ideal) ℓ) (g : Dev Cert.MobReferenceIdeal.nD → PrngReg), Pre_MobReferenceIdeal m →
    θ_run (Cert.MobReferenceIdeal.defs (F := Ideal)) (onTc (τ := Cert.MobReferenceIdeal.τ) (Cert.MobReferenceIdeal.main (F := Ideal))) ⟨m, fun _ => 0, g⟩ (fun r => (∀ c : Dev Cert.MobReferenceIdeal.nD,
      r.2.mem ((c.tc : Thread Cert.MobReferenceIdeal.nD Cert.MobReferenceIdeal.τ).loc Cert.MobReferenceIdeal.main_arg0) = m ((c.tc : Thread Cert.MobReferenceIdeal.nD Cert.MobReferenceIdeal.τ).loc Cert.MobReferenceIdeal.main_arg0)
      ∧ r.2.mem ((c.tc : Thread Cert.MobReferenceIdeal.nD Cert.MobReferenceIdeal.τ).loc Cert.MobReferenceIdeal.main_arg1) = m ((c.tc : Thread Cert.MobReferenceIdeal.nD Cert.MobReferenceIdeal.τ).loc Cert.MobReferenceIdeal.main_arg1)
      ∧ r.2.mem ((c.tc : Thread Cert.MobReferenceIdeal.nD Cert.MobReferenceIdeal.τ).loc Cert.MobReferenceIdeal.main_arg2) = m ((c.tc : Thread Cert.MobReferenceIdeal.nD Cert.MobReferenceIdeal.τ).loc Cert.MobReferenceIdeal.main_arg2)
      ∧ r.2.mem ((c.tc : Thread Cert.MobReferenceIdeal.nD Cert.MobReferenceIdeal.τ).loc Cert.MobReferenceIdeal.main_arg3) = m ((c.tc : Thread Cert.MobReferenceIdeal.nD Cert.MobReferenceIdeal.τ).loc Cert.MobReferenceIdeal.main_arg3))
      ∧ r.2.sem = fun _ => 0)

def quiescent_UpbKernel [hUpbKernel : Cert.UpbKernel.Facts] : Prop :=
  ∀ (m : (ℓ : Loc Cert.UpbKernel.nD Cert.UpbKernel.τ Cert.UpbKernel.sig) → Buf (Elt Bits) ℓ) (g : Dev Cert.UpbKernel.nD → PrngReg), Pre_UpbKernel m →
    θ_run (Cert.UpbKernel.defs (F := Bits)) (onTc (τ := Cert.UpbKernel.τ) (Cert.UpbKernel.main (F := Bits))) ⟨m, fun _ => 0, g⟩ (fun r => (∀ c : Dev Cert.UpbKernel.nD,
      r.2.mem ((c.tc : Thread Cert.UpbKernel.nD Cert.UpbKernel.τ).loc Cert.UpbKernel.main_arg0) = m ((c.tc : Thread Cert.UpbKernel.nD Cert.UpbKernel.τ).loc Cert.UpbKernel.main_arg0)
      ∧ r.2.mem ((c.tc : Thread Cert.UpbKernel.nD Cert.UpbKernel.τ).loc Cert.UpbKernel.main_arg1) = m ((c.tc : Thread Cert.UpbKernel.nD Cert.UpbKernel.τ).loc Cert.UpbKernel.main_arg1)
      ∧ r.2.mem ((c.tc : Thread Cert.UpbKernel.nD Cert.UpbKernel.τ).loc Cert.UpbKernel.main_arg2) = m ((c.tc : Thread Cert.UpbKernel.nD Cert.UpbKernel.τ).loc Cert.UpbKernel.main_arg2)
      ∧ r.2.mem ((c.tc : Thread Cert.UpbKernel.nD Cert.UpbKernel.τ).loc Cert.UpbKernel.main_arg3) = m ((c.tc : Thread Cert.UpbKernel.nD Cert.UpbKernel.τ).loc Cert.UpbKernel.main_arg3)
      ∧ r.2.mem ((c.tc : Thread Cert.UpbKernel.nD Cert.UpbKernel.τ).loc Cert.UpbKernel.main_arg4) = m ((c.tc : Thread Cert.UpbKernel.nD Cert.UpbKernel.τ).loc Cert.UpbKernel.main_arg4)
      ∧ r.2.mem ((c.tc : Thread Cert.UpbKernel.nD Cert.UpbKernel.τ).loc Cert.UpbKernel.main_arg5) = m ((c.tc : Thread Cert.UpbKernel.nD Cert.UpbKernel.τ).loc Cert.UpbKernel.main_arg5)
      ∧ r.2.mem ((c.tc : Thread Cert.UpbKernel.nD Cert.UpbKernel.τ).loc Cert.UpbKernel.main_arg6) = m ((c.tc : Thread Cert.UpbKernel.nD Cert.UpbKernel.τ).loc Cert.UpbKernel.main_arg6))
      ∧ r.2.sem = fun _ => 0)

def quiescent_UpbKernelIdeal [hUpbKernelIdeal : Cert.UpbKernelIdeal.Facts] : Prop :=
  ∀ (m : (ℓ : Loc Cert.UpbKernelIdeal.nD Cert.UpbKernelIdeal.τ Cert.UpbKernelIdeal.sig) → Buf (Elt Ideal) ℓ) (g : Dev Cert.UpbKernelIdeal.nD → PrngReg), Pre_UpbKernelIdeal m →
    θ_run (Cert.UpbKernelIdeal.defs (F := Ideal)) (onTc (τ := Cert.UpbKernelIdeal.τ) (Cert.UpbKernelIdeal.main (F := Ideal))) ⟨m, fun _ => 0, g⟩ (fun r => (∀ c : Dev Cert.UpbKernelIdeal.nD,
      r.2.mem ((c.tc : Thread Cert.UpbKernelIdeal.nD Cert.UpbKernelIdeal.τ).loc Cert.UpbKernelIdeal.main_arg0) = m ((c.tc : Thread Cert.UpbKernelIdeal.nD Cert.UpbKernelIdeal.τ).loc Cert.UpbKernelIdeal.main_arg0)
      ∧ r.2.mem ((c.tc : Thread Cert.UpbKernelIdeal.nD Cert.UpbKernelIdeal.τ).loc Cert.UpbKernelIdeal.main_arg1) = m ((c.tc : Thread Cert.UpbKernelIdeal.nD Cert.UpbKernelIdeal.τ).loc Cert.UpbKernelIdeal.main_arg1)
      ∧ r.2.mem ((c.tc : Thread Cert.UpbKernelIdeal.nD Cert.UpbKernelIdeal.τ).loc Cert.UpbKernelIdeal.main_arg2) = m ((c.tc : Thread Cert.UpbKernelIdeal.nD Cert.UpbKernelIdeal.τ).loc Cert.UpbKernelIdeal.main_arg2)
      ∧ r.2.mem ((c.tc : Thread Cert.UpbKernelIdeal.nD Cert.UpbKernelIdeal.τ).loc Cert.UpbKernelIdeal.main_arg3) = m ((c.tc : Thread Cert.UpbKernelIdeal.nD Cert.UpbKernelIdeal.τ).loc Cert.UpbKernelIdeal.main_arg3)
      ∧ r.2.mem ((c.tc : Thread Cert.UpbKernelIdeal.nD Cert.UpbKernelIdeal.τ).loc Cert.UpbKernelIdeal.main_arg4) = m ((c.tc : Thread Cert.UpbKernelIdeal.nD Cert.UpbKernelIdeal.τ).loc Cert.UpbKernelIdeal.main_arg4)
      ∧ r.2.mem ((c.tc : Thread Cert.UpbKernelIdeal.nD Cert.UpbKernelIdeal.τ).loc Cert.UpbKernelIdeal.main_arg5) = m ((c.tc : Thread Cert.UpbKernelIdeal.nD Cert.UpbKernelIdeal.τ).loc Cert.UpbKernelIdeal.main_arg5)
      ∧ r.2.mem ((c.tc : Thread Cert.UpbKernelIdeal.nD Cert.UpbKernelIdeal.τ).loc Cert.UpbKernelIdeal.main_arg6) = m ((c.tc : Thread Cert.UpbKernelIdeal.nD Cert.UpbKernelIdeal.τ).loc Cert.UpbKernelIdeal.main_arg6))
      ∧ r.2.sem = fun _ => 0)

def quiescent_UpbReferenceIdeal [hUpbReferenceIdeal : Cert.UpbReferenceIdeal.Facts] : Prop :=
  ∀ (m : (ℓ : Loc Cert.UpbReferenceIdeal.nD Cert.UpbReferenceIdeal.τ Cert.UpbReferenceIdeal.sig) → Buf (Elt Ideal) ℓ) (g : Dev Cert.UpbReferenceIdeal.nD → PrngReg), Pre_UpbReferenceIdeal m →
    θ_run (Cert.UpbReferenceIdeal.defs (F := Ideal)) (onTc (τ := Cert.UpbReferenceIdeal.τ) (Cert.UpbReferenceIdeal.main (F := Ideal))) ⟨m, fun _ => 0, g⟩ (fun r => (∀ c : Dev Cert.UpbReferenceIdeal.nD,
      r.2.mem ((c.tc : Thread Cert.UpbReferenceIdeal.nD Cert.UpbReferenceIdeal.τ).loc Cert.UpbReferenceIdeal.main_arg0) = m ((c.tc : Thread Cert.UpbReferenceIdeal.nD Cert.UpbReferenceIdeal.τ).loc Cert.UpbReferenceIdeal.main_arg0)
      ∧ r.2.mem ((c.tc : Thread Cert.UpbReferenceIdeal.nD Cert.UpbReferenceIdeal.τ).loc Cert.UpbReferenceIdeal.main_arg1) = m ((c.tc : Thread Cert.UpbReferenceIdeal.nD Cert.UpbReferenceIdeal.τ).loc Cert.UpbReferenceIdeal.main_arg1)
      ∧ r.2.mem ((c.tc : Thread Cert.UpbReferenceIdeal.nD Cert.UpbReferenceIdeal.τ).loc Cert.UpbReferenceIdeal.main_arg2) = m ((c.tc : Thread Cert.UpbReferenceIdeal.nD Cert.UpbReferenceIdeal.τ).loc Cert.UpbReferenceIdeal.main_arg2)
      ∧ r.2.mem ((c.tc : Thread Cert.UpbReferenceIdeal.nD Cert.UpbReferenceIdeal.τ).loc Cert.UpbReferenceIdeal.main_arg3) = m ((c.tc : Thread Cert.UpbReferenceIdeal.nD Cert.UpbReferenceIdeal.τ).loc Cert.UpbReferenceIdeal.main_arg3)
      ∧ r.2.mem ((c.tc : Thread Cert.UpbReferenceIdeal.nD Cert.UpbReferenceIdeal.τ).loc Cert.UpbReferenceIdeal.main_arg4) = m ((c.tc : Thread Cert.UpbReferenceIdeal.nD Cert.UpbReferenceIdeal.τ).loc Cert.UpbReferenceIdeal.main_arg4)
      ∧ r.2.mem ((c.tc : Thread Cert.UpbReferenceIdeal.nD Cert.UpbReferenceIdeal.τ).loc Cert.UpbReferenceIdeal.main_arg5) = m ((c.tc : Thread Cert.UpbReferenceIdeal.nD Cert.UpbReferenceIdeal.τ).loc Cert.UpbReferenceIdeal.main_arg5)
      ∧ r.2.mem ((c.tc : Thread Cert.UpbReferenceIdeal.nD Cert.UpbReferenceIdeal.τ).loc Cert.UpbReferenceIdeal.main_arg6) = m ((c.tc : Thread Cert.UpbReferenceIdeal.nD Cert.UpbReferenceIdeal.τ).loc Cert.UpbReferenceIdeal.main_arg6))
      ∧ r.2.sem = fun _ => 0)

def quiescent_SwfKernel [hSwfKernel : Cert.SwfKernel.Facts] : Prop :=
  ∀ (m : (ℓ : Loc Cert.SwfKernel.nD Cert.SwfKernel.τ Cert.SwfKernel.sig) → Buf (Elt Bits) ℓ) (g : Dev Cert.SwfKernel.nD → PrngReg), Pre_SwfKernel m →
    θ_run (Cert.SwfKernel.defs (F := Bits)) (onTc (τ := Cert.SwfKernel.τ) (Cert.SwfKernel.main (F := Bits))) ⟨m, fun _ => 0, g⟩ (fun r => (∀ c : Dev Cert.SwfKernel.nD,
      r.2.mem ((c.tc : Thread Cert.SwfKernel.nD Cert.SwfKernel.τ).loc Cert.SwfKernel.main_arg0) = m ((c.tc : Thread Cert.SwfKernel.nD Cert.SwfKernel.τ).loc Cert.SwfKernel.main_arg0)
      ∧ r.2.mem ((c.tc : Thread Cert.SwfKernel.nD Cert.SwfKernel.τ).loc Cert.SwfKernel.main_arg1) = m ((c.tc : Thread Cert.SwfKernel.nD Cert.SwfKernel.τ).loc Cert.SwfKernel.main_arg1)
      ∧ r.2.mem ((c.tc : Thread Cert.SwfKernel.nD Cert.SwfKernel.τ).loc Cert.SwfKernel.main_arg2) = m ((c.tc : Thread Cert.SwfKernel.nD Cert.SwfKernel.τ).loc Cert.SwfKernel.main_arg2))
      ∧ r.2.sem = fun _ => 0)

def quiescent_SwfKernelIdeal [hSwfKernelIdeal : Cert.SwfKernelIdeal.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg), Pre_SwfKernelIdeal m →
    θ_run (Cert.SwfKernelIdeal.defs (F := Ideal)) (onTc (τ := Cert.SwfKernelIdeal.τ) (Cert.SwfKernelIdeal.main (F := Ideal))) ⟨m, fun _ => 0, g⟩ (fun r => (∀ c : Dev Cert.SwfKernelIdeal.nD,
      r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0)
      ∧ r.2.mem ((c.tc : Thread Cert.SwfKernelIdeal.nD Cert.SwfKernelIdeal.τ).loc Cert.SwfKernelIdeal.main_arg1) = m ((c.tc : Thread Cert.SwfKernelIdeal.nD Cert.SwfKernelIdeal.τ).loc Cert.SwfKernelIdeal.main_arg1)
      ∧ r.2.mem ((c.tc : Thread Cert.SwfKernelIdeal.nD Cert.SwfKernelIdeal.τ).loc Cert.SwfKernelIdeal.main_arg2) = m ((c.tc : Thread Cert.SwfKernelIdeal.nD Cert.SwfKernelIdeal.τ).loc Cert.SwfKernelIdeal.main_arg2))
      ∧ r.2.sem = fun _ => 0)

def quiescent_SwfKernelIdeal_pre_swf_finite [hSwfKernelIdeal : Cert.SwfKernelIdeal.Facts] [hPre_swf_finite : Cert.Pre_swf_finite.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg), Pre_SwfKernelIdeal_swf_finite m →
    θ_run (Cert.SwfKernelIdeal.defs (F := Ideal)) (onTc (τ := Cert.SwfKernelIdeal.τ) (Cert.SwfKernelIdeal.main (F := Ideal))) ⟨m, fun _ => 0, g⟩ (fun r => (∀ c : Dev Cert.SwfKernelIdeal.nD,
      r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0)
      ∧ r.2.mem ((c.tc : Thread Cert.SwfKernelIdeal.nD Cert.SwfKernelIdeal.τ).loc Cert.SwfKernelIdeal.main_arg1) = m ((c.tc : Thread Cert.SwfKernelIdeal.nD Cert.SwfKernelIdeal.τ).loc Cert.SwfKernelIdeal.main_arg1)
      ∧ r.2.mem ((c.tc : Thread Cert.SwfKernelIdeal.nD Cert.SwfKernelIdeal.τ).loc Cert.SwfKernelIdeal.main_arg2) = m ((c.tc : Thread Cert.SwfKernelIdeal.nD Cert.SwfKernelIdeal.τ).loc Cert.SwfKernelIdeal.main_arg2))
      ∧ r.2.sem = fun _ => 0)

def quiescent_SwfReferenceIdeal [hSwfReferenceIdeal : Cert.SwfReferenceIdeal.Facts] : Prop :=
  ∀ (m : (ℓ : Loc Cert.SwfReferenceIdeal.nD Cert.SwfReferenceIdeal.τ Cert.SwfReferenceIdeal.sig) → Buf (Elt Ideal) ℓ) (g : Dev Cert.SwfReferenceIdeal.nD → PrngReg), Pre_SwfReferenceIdeal m →
    θ_run (Cert.SwfReferenceIdeal.defs (F := Ideal)) (onTc (τ := Cert.SwfReferenceIdeal.τ) (Cert.SwfReferenceIdeal.main (F := Ideal))) ⟨m, fun _ => 0, g⟩ (fun r => (∀ c : Dev Cert.SwfReferenceIdeal.nD,
      r.2.mem ((c.tc : Thread Cert.SwfReferenceIdeal.nD Cert.SwfReferenceIdeal.τ).loc Cert.SwfReferenceIdeal.main_arg0) = m ((c.tc : Thread Cert.SwfReferenceIdeal.nD Cert.SwfReferenceIdeal.τ).loc Cert.SwfReferenceIdeal.main_arg0)
      ∧ r.2.mem ((c.tc : Thread Cert.SwfReferenceIdeal.nD Cert.SwfReferenceIdeal.τ).loc Cert.SwfReferenceIdeal.main_arg1) = m ((c.tc : Thread Cert.SwfReferenceIdeal.nD Cert.SwfReferenceIdeal.τ).loc Cert.SwfReferenceIdeal.main_arg1)
      ∧ r.2.mem ((c.tc : Thread Cert.SwfReferenceIdeal.nD Cert.SwfReferenceIdeal.τ).loc Cert.SwfReferenceIdeal.main_arg2) = m ((c.tc : Thread Cert.SwfReferenceIdeal.nD Cert.SwfReferenceIdeal.τ).loc Cert.SwfReferenceIdeal.main_arg2))
      ∧ r.2.sem = fun _ => 0)

def quiescent_SwfReferenceIdeal_pre_swf_finite [hSwfReferenceIdeal : Cert.SwfReferenceIdeal.Facts] [hPre_swf_finite : Cert.Pre_swf_finite.Facts] : Prop :=
  ∀ (m : (ℓ : Loc Cert.SwfReferenceIdeal.nD Cert.SwfReferenceIdeal.τ Cert.SwfReferenceIdeal.sig) → Buf (Elt Ideal) ℓ) (g : Dev Cert.SwfReferenceIdeal.nD → PrngReg), Pre_SwfReferenceIdeal_swf_finite m →
    θ_run (Cert.SwfReferenceIdeal.defs (F := Ideal)) (onTc (τ := Cert.SwfReferenceIdeal.τ) (Cert.SwfReferenceIdeal.main (F := Ideal))) ⟨m, fun _ => 0, g⟩ (fun r => (∀ c : Dev Cert.SwfReferenceIdeal.nD,
      r.2.mem ((c.tc : Thread Cert.SwfReferenceIdeal.nD Cert.SwfReferenceIdeal.τ).loc Cert.SwfReferenceIdeal.main_arg0) = m ((c.tc : Thread Cert.SwfReferenceIdeal.nD Cert.SwfReferenceIdeal.τ).loc Cert.SwfReferenceIdeal.main_arg0)
      ∧ r.2.mem ((c.tc : Thread Cert.SwfReferenceIdeal.nD Cert.SwfReferenceIdeal.τ).loc Cert.SwfReferenceIdeal.main_arg1) = m ((c.tc : Thread Cert.SwfReferenceIdeal.nD Cert.SwfReferenceIdeal.τ).loc Cert.SwfReferenceIdeal.main_arg1)
      ∧ r.2.mem ((c.tc : Thread Cert.SwfReferenceIdeal.nD Cert.SwfReferenceIdeal.τ).loc Cert.SwfReferenceIdeal.main_arg2) = m ((c.tc : Thread Cert.SwfReferenceIdeal.nD Cert.SwfReferenceIdeal.τ).loc Cert.SwfReferenceIdeal.main_arg2))
      ∧ r.2.sem = fun _ => 0)

def quiescent_GlfKernel [hGlfKernel : Cert.GlfKernel.Facts] : Prop :=
  ∀ (m : (ℓ : Loc Cert.GlfKernel.nD Cert.GlfKernel.τ Cert.GlfKernel.sig) → Buf (Elt Bits) ℓ) (g : Dev Cert.GlfKernel.nD → PrngReg), Pre_GlfKernel m →
    θ_run (Cert.GlfKernel.defs (F := Bits)) (onTc (τ := Cert.GlfKernel.τ) (Cert.GlfKernel.main (F := Bits))) ⟨m, fun _ => 0, g⟩ (fun r => (∀ c : Dev Cert.GlfKernel.nD,
      r.2.mem ((c.tc : Thread Cert.GlfKernel.nD Cert.GlfKernel.τ).loc Cert.GlfKernel.main_arg0) = m ((c.tc : Thread Cert.GlfKernel.nD Cert.GlfKernel.τ).loc Cert.GlfKernel.main_arg0)
      ∧ r.2.mem ((c.tc : Thread Cert.GlfKernel.nD Cert.GlfKernel.τ).loc Cert.GlfKernel.main_arg1) = m ((c.tc : Thread Cert.GlfKernel.nD Cert.GlfKernel.τ).loc Cert.GlfKernel.main_arg1)
      ∧ r.2.mem ((c.tc : Thread Cert.GlfKernel.nD Cert.GlfKernel.τ).loc Cert.GlfKernel.main_arg2) = m ((c.tc : Thread Cert.GlfKernel.nD Cert.GlfKernel.τ).loc Cert.GlfKernel.main_arg2)
      ∧ r.2.mem ((c.tc : Thread Cert.GlfKernel.nD Cert.GlfKernel.τ).loc Cert.GlfKernel.main_arg3) = m ((c.tc : Thread Cert.GlfKernel.nD Cert.GlfKernel.τ).loc Cert.GlfKernel.main_arg3))
      ∧ r.2.sem = fun _ => 0)

def quiescent_GlfKernelIdeal [hGlfKernelIdeal : Cert.GlfKernelIdeal.Facts] : Prop :=
  ∀ (m : (ℓ : Loc Cert.GlfKernelIdeal.nD Cert.GlfKernelIdeal.τ Cert.GlfKernelIdeal.sig) → Buf (Elt Ideal) ℓ) (g : Dev Cert.GlfKernelIdeal.nD → PrngReg), Pre_GlfKernelIdeal m →
    θ_run (Cert.GlfKernelIdeal.defs (F := Ideal)) (onTc (τ := Cert.GlfKernelIdeal.τ) (Cert.GlfKernelIdeal.main (F := Ideal))) ⟨m, fun _ => 0, g⟩ (fun r => (∀ c : Dev Cert.GlfKernelIdeal.nD,
      r.2.mem ((c.tc : Thread Cert.GlfKernelIdeal.nD Cert.GlfKernelIdeal.τ).loc Cert.GlfKernelIdeal.main_arg0) = m ((c.tc : Thread Cert.GlfKernelIdeal.nD Cert.GlfKernelIdeal.τ).loc Cert.GlfKernelIdeal.main_arg0)
      ∧ r.2.mem ((c.tc : Thread Cert.GlfKernelIdeal.nD Cert.GlfKernelIdeal.τ).loc Cert.GlfKernelIdeal.main_arg1) = m ((c.tc : Thread Cert.GlfKernelIdeal.nD Cert.GlfKernelIdeal.τ).loc Cert.GlfKernelIdeal.main_arg1)
      ∧ r.2.mem ((c.tc : Thread Cert.GlfKernelIdeal.nD Cert.GlfKernelIdeal.τ).loc Cert.GlfKernelIdeal.main_arg2) = m ((c.tc : Thread Cert.GlfKernelIdeal.nD Cert.GlfKernelIdeal.τ).loc Cert.GlfKernelIdeal.main_arg2)
      ∧ r.2.mem ((c.tc : Thread Cert.GlfKernelIdeal.nD Cert.GlfKernelIdeal.τ).loc Cert.GlfKernelIdeal.main_arg3) = m ((c.tc : Thread Cert.GlfKernelIdeal.nD Cert.GlfKernelIdeal.τ).loc Cert.GlfKernelIdeal.main_arg3))
      ∧ r.2.sem = fun _ => 0)

def quiescent_GlfKernelIdeal_pre_glf_finite [hGlfKernelIdeal : Cert.GlfKernelIdeal.Facts] [hPre_glf_finite : Cert.Pre_glf_finite.Facts] : Prop :=
  ∀ (m : (ℓ : Loc Cert.GlfKernelIdeal.nD Cert.GlfKernelIdeal.τ Cert.GlfKernelIdeal.sig) → Buf (Elt Ideal) ℓ) (g : Dev Cert.GlfKernelIdeal.nD → PrngReg), Pre_GlfKernelIdeal_glf_finite m →
    θ_run (Cert.GlfKernelIdeal.defs (F := Ideal)) (onTc (τ := Cert.GlfKernelIdeal.τ) (Cert.GlfKernelIdeal.main (F := Ideal))) ⟨m, fun _ => 0, g⟩ (fun r => (∀ c : Dev Cert.GlfKernelIdeal.nD,
      r.2.mem ((c.tc : Thread Cert.GlfKernelIdeal.nD Cert.GlfKernelIdeal.τ).loc Cert.GlfKernelIdeal.main_arg0) = m ((c.tc : Thread Cert.GlfKernelIdeal.nD Cert.GlfKernelIdeal.τ).loc Cert.GlfKernelIdeal.main_arg0)
      ∧ r.2.mem ((c.tc : Thread Cert.GlfKernelIdeal.nD Cert.GlfKernelIdeal.τ).loc Cert.GlfKernelIdeal.main_arg1) = m ((c.tc : Thread Cert.GlfKernelIdeal.nD Cert.GlfKernelIdeal.τ).loc Cert.GlfKernelIdeal.main_arg1)
      ∧ r.2.mem ((c.tc : Thread Cert.GlfKernelIdeal.nD Cert.GlfKernelIdeal.τ).loc Cert.GlfKernelIdeal.main_arg2) = m ((c.tc : Thread Cert.GlfKernelIdeal.nD Cert.GlfKernelIdeal.τ).loc Cert.GlfKernelIdeal.main_arg2)
      ∧ r.2.mem ((c.tc : Thread Cert.GlfKernelIdeal.nD Cert.GlfKernelIdeal.τ).loc Cert.GlfKernelIdeal.main_arg3) = m ((c.tc : Thread Cert.GlfKernelIdeal.nD Cert.GlfKernelIdeal.τ).loc Cert.GlfKernelIdeal.main_arg3))
      ∧ r.2.sem = fun _ => 0)

def quiescent_GlfReferenceIdeal [hGlfReferenceIdeal : Cert.GlfReferenceIdeal.Facts] : Prop :=
  ∀ (m : (ℓ : Loc Cert.GlfReferenceIdeal.nD Cert.GlfReferenceIdeal.τ Cert.GlfReferenceIdeal.sig) → Buf (Elt Ideal) ℓ) (g : Dev Cert.GlfReferenceIdeal.nD → PrngReg), Pre_GlfReferenceIdeal m →
    θ_run (Cert.GlfReferenceIdeal.defs (F := Ideal)) (onTc (τ := Cert.GlfReferenceIdeal.τ) (Cert.GlfReferenceIdeal.main (F := Ideal))) ⟨m, fun _ => 0, g⟩ (fun r => (∀ c : Dev Cert.GlfReferenceIdeal.nD,
      r.2.mem ((c.tc : Thread Cert.GlfReferenceIdeal.nD Cert.GlfReferenceIdeal.τ).loc Cert.GlfReferenceIdeal.main_arg0) = m ((c.tc : Thread Cert.GlfReferenceIdeal.nD Cert.GlfReferenceIdeal.τ).loc Cert.GlfReferenceIdeal.main_arg0)
      ∧ r.2.mem ((c.tc : Thread Cert.GlfReferenceIdeal.nD Cert.GlfReferenceIdeal.τ).loc Cert.GlfReferenceIdeal.main_arg1) = m ((c.tc : Thread Cert.GlfReferenceIdeal.nD Cert.GlfReferenceIdeal.τ).loc Cert.GlfReferenceIdeal.main_arg1)
      ∧ r.2.mem ((c.tc : Thread Cert.GlfReferenceIdeal.nD Cert.GlfReferenceIdeal.τ).loc Cert.GlfReferenceIdeal.main_arg2) = m ((c.tc : Thread Cert.GlfReferenceIdeal.nD Cert.GlfReferenceIdeal.τ).loc Cert.GlfReferenceIdeal.main_arg2)
      ∧ r.2.mem ((c.tc : Thread Cert.GlfReferenceIdeal.nD Cert.GlfReferenceIdeal.τ).loc Cert.GlfReferenceIdeal.main_arg3) = m ((c.tc : Thread Cert.GlfReferenceIdeal.nD Cert.GlfReferenceIdeal.τ).loc Cert.GlfReferenceIdeal.main_arg3))
      ∧ r.2.sem = fun _ => 0)

def quiescent_GlfReferenceIdeal_pre_glf_finite [hGlfReferenceIdeal : Cert.GlfReferenceIdeal.Facts] [hPre_glf_finite : Cert.Pre_glf_finite.Facts] : Prop :=
  ∀ (m : (ℓ : Loc Cert.GlfReferenceIdeal.nD Cert.GlfReferenceIdeal.τ Cert.GlfReferenceIdeal.sig) → Buf (Elt Ideal) ℓ) (g : Dev Cert.GlfReferenceIdeal.nD → PrngReg), Pre_GlfReferenceIdeal_glf_finite m →
    θ_run (Cert.GlfReferenceIdeal.defs (F := Ideal)) (onTc (τ := Cert.GlfReferenceIdeal.τ) (Cert.GlfReferenceIdeal.main (F := Ideal))) ⟨m, fun _ => 0, g⟩ (fun r => (∀ c : Dev Cert.GlfReferenceIdeal.nD,
      r.2.mem ((c.tc : Thread Cert.GlfReferenceIdeal.nD Cert.GlfReferenceIdeal.τ).loc Cert.GlfReferenceIdeal.main_arg0) = m ((c.tc : Thread Cert.GlfReferenceIdeal.nD Cert.GlfReferenceIdeal.τ).loc Cert.GlfReferenceIdeal.main_arg0)
      ∧ r.2.mem ((c.tc : Thread Cert.GlfReferenceIdeal.nD Cert.GlfReferenceIdeal.τ).loc Cert.GlfReferenceIdeal.main_arg1) = m ((c.tc : Thread Cert.GlfReferenceIdeal.nD Cert.GlfReferenceIdeal.τ).loc Cert.GlfReferenceIdeal.main_arg1)
      ∧ r.2.mem ((c.tc : Thread Cert.GlfReferenceIdeal.nD Cert.GlfReferenceIdeal.τ).loc Cert.GlfReferenceIdeal.main_arg2) = m ((c.tc : Thread Cert.GlfReferenceIdeal.nD Cert.GlfReferenceIdeal.τ).loc Cert.GlfReferenceIdeal.main_arg2)
      ∧ r.2.mem ((c.tc : Thread Cert.GlfReferenceIdeal.nD Cert.GlfReferenceIdeal.τ).loc Cert.GlfReferenceIdeal.main_arg3) = m ((c.tc : Thread Cert.GlfReferenceIdeal.nD Cert.GlfReferenceIdeal.τ).loc Cert.GlfReferenceIdeal.main_arg3))
      ∧ r.2.sem = fun _ => 0)

def quiescent_DnfKernel [hDnfKernel : Cert.DnfKernel.Facts] : Prop :=
  ∀ (m : (ℓ : Loc Cert.DnfKernel.nD Cert.DnfKernel.τ Cert.DnfKernel.sig) → Buf (Elt Bits) ℓ) (g : Dev Cert.DnfKernel.nD → PrngReg), Pre_DnfKernel m →
    θ_run (Cert.DnfKernel.defs (F := Bits)) (onTc (τ := Cert.DnfKernel.τ) (Cert.DnfKernel.main (F := Bits))) ⟨m, fun _ => 0, g⟩ (fun r => (∀ c : Dev Cert.DnfKernel.nD,
      r.2.mem ((c.tc : Thread Cert.DnfKernel.nD Cert.DnfKernel.τ).loc Cert.DnfKernel.main_arg0) = m ((c.tc : Thread Cert.DnfKernel.nD Cert.DnfKernel.τ).loc Cert.DnfKernel.main_arg0)
      ∧ r.2.mem ((c.tc : Thread Cert.DnfKernel.nD Cert.DnfKernel.τ).loc Cert.DnfKernel.main_arg1) = m ((c.tc : Thread Cert.DnfKernel.nD Cert.DnfKernel.τ).loc Cert.DnfKernel.main_arg1)
      ∧ r.2.mem ((c.tc : Thread Cert.DnfKernel.nD Cert.DnfKernel.τ).loc Cert.DnfKernel.main_arg2) = m ((c.tc : Thread Cert.DnfKernel.nD Cert.DnfKernel.τ).loc Cert.DnfKernel.main_arg2)
      ∧ r.2.mem ((c.tc : Thread Cert.DnfKernel.nD Cert.DnfKernel.τ).loc Cert.DnfKernel.main_arg3) = m ((c.tc : Thread Cert.DnfKernel.nD Cert.DnfKernel.τ).loc Cert.DnfKernel.main_arg3)
      ∧ r.2.mem ((c.tc : Thread Cert.DnfKernel.nD Cert.DnfKernel.τ).loc Cert.DnfKernel.main_arg4) = m ((c.tc : Thread Cert.DnfKernel.nD Cert.DnfKernel.τ).loc Cert.DnfKernel.main_arg4))
      ∧ r.2.sem = fun _ => 0)

def quiescent_DnfKernelIdeal [hDnfKernelIdeal : Cert.DnfKernelIdeal.Facts] : Prop :=
  ∀ (m : (ℓ : Loc Cert.DnfKernelIdeal.nD Cert.DnfKernelIdeal.τ Cert.DnfKernelIdeal.sig) → Buf (Elt Ideal) ℓ) (g : Dev Cert.DnfKernelIdeal.nD → PrngReg), Pre_DnfKernelIdeal m →
    θ_run (Cert.DnfKernelIdeal.defs (F := Ideal)) (onTc (τ := Cert.DnfKernelIdeal.τ) (Cert.DnfKernelIdeal.main (F := Ideal))) ⟨m, fun _ => 0, g⟩ (fun r => (∀ c : Dev Cert.DnfKernelIdeal.nD,
      r.2.mem ((c.tc : Thread Cert.DnfKernelIdeal.nD Cert.DnfKernelIdeal.τ).loc Cert.DnfKernelIdeal.main_arg0) = m ((c.tc : Thread Cert.DnfKernelIdeal.nD Cert.DnfKernelIdeal.τ).loc Cert.DnfKernelIdeal.main_arg0)
      ∧ r.2.mem ((c.tc : Thread Cert.DnfKernelIdeal.nD Cert.DnfKernelIdeal.τ).loc Cert.DnfKernelIdeal.main_arg1) = m ((c.tc : Thread Cert.DnfKernelIdeal.nD Cert.DnfKernelIdeal.τ).loc Cert.DnfKernelIdeal.main_arg1)
      ∧ r.2.mem ((c.tc : Thread Cert.DnfKernelIdeal.nD Cert.DnfKernelIdeal.τ).loc Cert.DnfKernelIdeal.main_arg2) = m ((c.tc : Thread Cert.DnfKernelIdeal.nD Cert.DnfKernelIdeal.τ).loc Cert.DnfKernelIdeal.main_arg2)
      ∧ r.2.mem ((c.tc : Thread Cert.DnfKernelIdeal.nD Cert.DnfKernelIdeal.τ).loc Cert.DnfKernelIdeal.main_arg3) = m ((c.tc : Thread Cert.DnfKernelIdeal.nD Cert.DnfKernelIdeal.τ).loc Cert.DnfKernelIdeal.main_arg3)
      ∧ r.2.mem ((c.tc : Thread Cert.DnfKernelIdeal.nD Cert.DnfKernelIdeal.τ).loc Cert.DnfKernelIdeal.main_arg4) = m ((c.tc : Thread Cert.DnfKernelIdeal.nD Cert.DnfKernelIdeal.τ).loc Cert.DnfKernelIdeal.main_arg4))
      ∧ r.2.sem = fun _ => 0)

def quiescent_DnfKernelIdeal_pre_dnf_finite [hDnfKernelIdeal : Cert.DnfKernelIdeal.Facts] [hPre_dnf_finite : Cert.Pre_dnf_finite.Facts] : Prop :=
  ∀ (m : (ℓ : Loc Cert.DnfKernelIdeal.nD Cert.DnfKernelIdeal.τ Cert.DnfKernelIdeal.sig) → Buf (Elt Ideal) ℓ) (g : Dev Cert.DnfKernelIdeal.nD → PrngReg), Pre_DnfKernelIdeal_dnf_finite m →
    θ_run (Cert.DnfKernelIdeal.defs (F := Ideal)) (onTc (τ := Cert.DnfKernelIdeal.τ) (Cert.DnfKernelIdeal.main (F := Ideal))) ⟨m, fun _ => 0, g⟩ (fun r => (∀ c : Dev Cert.DnfKernelIdeal.nD,
      r.2.mem ((c.tc : Thread Cert.DnfKernelIdeal.nD Cert.DnfKernelIdeal.τ).loc Cert.DnfKernelIdeal.main_arg0) = m ((c.tc : Thread Cert.DnfKernelIdeal.nD Cert.DnfKernelIdeal.τ).loc Cert.DnfKernelIdeal.main_arg0)
      ∧ r.2.mem ((c.tc : Thread Cert.DnfKernelIdeal.nD Cert.DnfKernelIdeal.τ).loc Cert.DnfKernelIdeal.main_arg1) = m ((c.tc : Thread Cert.DnfKernelIdeal.nD Cert.DnfKernelIdeal.τ).loc Cert.DnfKernelIdeal.main_arg1)
      ∧ r.2.mem ((c.tc : Thread Cert.DnfKernelIdeal.nD Cert.DnfKernelIdeal.τ).loc Cert.DnfKernelIdeal.main_arg2) = m ((c.tc : Thread Cert.DnfKernelIdeal.nD Cert.DnfKernelIdeal.τ).loc Cert.DnfKernelIdeal.main_arg2)
      ∧ r.2.mem ((c.tc : Thread Cert.DnfKernelIdeal.nD Cert.DnfKernelIdeal.τ).loc Cert.DnfKernelIdeal.main_arg3) = m ((c.tc : Thread Cert.DnfKernelIdeal.nD Cert.DnfKernelIdeal.τ).loc Cert.DnfKernelIdeal.main_arg3)
      ∧ r.2.mem ((c.tc : Thread Cert.DnfKernelIdeal.nD Cert.DnfKernelIdeal.τ).loc Cert.DnfKernelIdeal.main_arg4) = m ((c.tc : Thread Cert.DnfKernelIdeal.nD Cert.DnfKernelIdeal.τ).loc Cert.DnfKernelIdeal.main_arg4))
      ∧ r.2.sem = fun _ => 0)

def quiescent_DnfReferenceIdeal [hDnfReferenceIdeal : Cert.DnfReferenceIdeal.Facts] : Prop :=
  ∀ (m : (ℓ : Loc Cert.DnfReferenceIdeal.nD Cert.DnfReferenceIdeal.τ Cert.DnfReferenceIdeal.sig) → Buf (Elt Ideal) ℓ) (g : Dev Cert.DnfReferenceIdeal.nD → PrngReg), Pre_DnfReferenceIdeal m →
    θ_run (Cert.DnfReferenceIdeal.defs (F := Ideal)) (onTc (τ := Cert.DnfReferenceIdeal.τ) (Cert.DnfReferenceIdeal.main (F := Ideal))) ⟨m, fun _ => 0, g⟩ (fun r => (∀ c : Dev Cert.DnfReferenceIdeal.nD,
      r.2.mem ((c.tc : Thread Cert.DnfReferenceIdeal.nD Cert.DnfReferenceIdeal.τ).loc Cert.DnfReferenceIdeal.main_arg0) = m ((c.tc : Thread Cert.DnfReferenceIdeal.nD Cert.DnfReferenceIdeal.τ).loc Cert.DnfReferenceIdeal.main_arg0)
      ∧ r.2.mem ((c.tc : Thread Cert.DnfReferenceIdeal.nD Cert.DnfReferenceIdeal.τ).loc Cert.DnfReferenceIdeal.main_arg1) = m ((c.tc : Thread Cert.DnfReferenceIdeal.nD Cert.DnfReferenceIdeal.τ).loc Cert.DnfReferenceIdeal.main_arg1)
      ∧ r.2.mem ((c.tc : Thread Cert.DnfReferenceIdeal.nD Cert.DnfReferenceIdeal.τ).loc Cert.DnfReferenceIdeal.main_arg2) = m ((c.tc : Thread Cert.DnfReferenceIdeal.nD Cert.DnfReferenceIdeal.τ).loc Cert.DnfReferenceIdeal.main_arg2)
      ∧ r.2.mem ((c.tc : Thread Cert.DnfReferenceIdeal.nD Cert.DnfReferenceIdeal.τ).loc Cert.DnfReferenceIdeal.main_arg3) = m ((c.tc : Thread Cert.DnfReferenceIdeal.nD Cert.DnfReferenceIdeal.τ).loc Cert.DnfReferenceIdeal.main_arg3)
      ∧ r.2.mem ((c.tc : Thread Cert.DnfReferenceIdeal.nD Cert.DnfReferenceIdeal.τ).loc Cert.DnfReferenceIdeal.main_arg4) = m ((c.tc : Thread Cert.DnfReferenceIdeal.nD Cert.DnfReferenceIdeal.τ).loc Cert.DnfReferenceIdeal.main_arg4))
      ∧ r.2.sem = fun _ => 0)

def quiescent_DnfReferenceIdeal_pre_dnf_finite [hDnfReferenceIdeal : Cert.DnfReferenceIdeal.Facts] [hPre_dnf_finite : Cert.Pre_dnf_finite.Facts] : Prop :=
  ∀ (m : (ℓ : Loc Cert.DnfReferenceIdeal.nD Cert.DnfReferenceIdeal.τ Cert.DnfReferenceIdeal.sig) → Buf (Elt Ideal) ℓ) (g : Dev Cert.DnfReferenceIdeal.nD → PrngReg), Pre_DnfReferenceIdeal_dnf_finite m →
    θ_run (Cert.DnfReferenceIdeal.defs (F := Ideal)) (onTc (τ := Cert.DnfReferenceIdeal.τ) (Cert.DnfReferenceIdeal.main (F := Ideal))) ⟨m, fun _ => 0, g⟩ (fun r => (∀ c : Dev Cert.DnfReferenceIdeal.nD,
      r.2.mem ((c.tc : Thread Cert.DnfReferenceIdeal.nD Cert.DnfReferenceIdeal.τ).loc Cert.DnfReferenceIdeal.main_arg0) = m ((c.tc : Thread Cert.DnfReferenceIdeal.nD Cert.DnfReferenceIdeal.τ).loc Cert.DnfReferenceIdeal.main_arg0)
      ∧ r.2.mem ((c.tc : Thread Cert.DnfReferenceIdeal.nD Cert.DnfReferenceIdeal.τ).loc Cert.DnfReferenceIdeal.main_arg1) = m ((c.tc : Thread Cert.DnfReferenceIdeal.nD Cert.DnfReferenceIdeal.τ).loc Cert.DnfReferenceIdeal.main_arg1)
      ∧ r.2.mem ((c.tc : Thread Cert.DnfReferenceIdeal.nD Cert.DnfReferenceIdeal.τ).loc Cert.DnfReferenceIdeal.main_arg2) = m ((c.tc : Thread Cert.DnfReferenceIdeal.nD Cert.DnfReferenceIdeal.τ).loc Cert.DnfReferenceIdeal.main_arg2)
      ∧ r.2.mem ((c.tc : Thread Cert.DnfReferenceIdeal.nD Cert.DnfReferenceIdeal.τ).loc Cert.DnfReferenceIdeal.main_arg3) = m ((c.tc : Thread Cert.DnfReferenceIdeal.nD Cert.DnfReferenceIdeal.τ).loc Cert.DnfReferenceIdeal.main_arg3)
      ∧ r.2.mem ((c.tc : Thread Cert.DnfReferenceIdeal.nD Cert.DnfReferenceIdeal.τ).loc Cert.DnfReferenceIdeal.main_arg4) = m ((c.tc : Thread Cert.DnfReferenceIdeal.nD Cert.DnfReferenceIdeal.τ).loc Cert.DnfReferenceIdeal.main_arg4))
      ∧ r.2.sem = fun _ => 0)

def quiescent_FfuKernel [hFfuKernel : Cert.FfuKernel.Facts] : Prop :=
  ∀ (m : (ℓ : Loc Cert.FfuKernel.nD Cert.FfuKernel.τ Cert.FfuKernel.sig) → Buf (Elt Bits) ℓ) (g : Dev Cert.FfuKernel.nD → PrngReg), Pre_FfuKernel m →
    θ_run (Cert.FfuKernel.defs (F := Bits)) (onTc (τ := Cert.FfuKernel.τ) (Cert.FfuKernel.main (F := Bits))) ⟨m, fun _ => 0, g⟩ (fun r => (∀ c : Dev Cert.FfuKernel.nD,
      r.2.mem ((c.tc : Thread Cert.FfuKernel.nD Cert.FfuKernel.τ).loc Cert.FfuKernel.main_arg0) = m ((c.tc : Thread Cert.FfuKernel.nD Cert.FfuKernel.τ).loc Cert.FfuKernel.main_arg0)
      ∧ r.2.mem ((c.tc : Thread Cert.FfuKernel.nD Cert.FfuKernel.τ).loc Cert.FfuKernel.main_arg1) = m ((c.tc : Thread Cert.FfuKernel.nD Cert.FfuKernel.τ).loc Cert.FfuKernel.main_arg1)
      ∧ r.2.mem ((c.tc : Thread Cert.FfuKernel.nD Cert.FfuKernel.τ).loc Cert.FfuKernel.main_arg2) = m ((c.tc : Thread Cert.FfuKernel.nD Cert.FfuKernel.τ).loc Cert.FfuKernel.main_arg2)
      ∧ r.2.mem ((c.tc : Thread Cert.FfuKernel.nD Cert.FfuKernel.τ).loc Cert.FfuKernel.main_arg3) = m ((c.tc : Thread Cert.FfuKernel.nD Cert.FfuKernel.τ).loc Cert.FfuKernel.main_arg3))
      ∧ r.2.sem = fun _ => 0)

def quiescent_FfuKernelIdeal [hFfuKernelIdeal : Cert.FfuKernelIdeal.Facts] : Prop :=
  ∀ (m : (ℓ : Loc Cert.FfuKernelIdeal.nD Cert.FfuKernelIdeal.τ Cert.FfuKernelIdeal.sig) → Buf (Elt Ideal) ℓ) (g : Dev Cert.FfuKernelIdeal.nD → PrngReg), Pre_FfuKernelIdeal m →
    θ_run (Cert.FfuKernelIdeal.defs (F := Ideal)) (onTc (τ := Cert.FfuKernelIdeal.τ) (Cert.FfuKernelIdeal.main (F := Ideal))) ⟨m, fun _ => 0, g⟩ (fun r => (∀ c : Dev Cert.FfuKernelIdeal.nD,
      r.2.mem ((c.tc : Thread Cert.FfuKernelIdeal.nD Cert.FfuKernelIdeal.τ).loc Cert.FfuKernelIdeal.main_arg0) = m ((c.tc : Thread Cert.FfuKernelIdeal.nD Cert.FfuKernelIdeal.τ).loc Cert.FfuKernelIdeal.main_arg0)
      ∧ r.2.mem ((c.tc : Thread Cert.FfuKernelIdeal.nD Cert.FfuKernelIdeal.τ).loc Cert.FfuKernelIdeal.main_arg1) = m ((c.tc : Thread Cert.FfuKernelIdeal.nD Cert.FfuKernelIdeal.τ).loc Cert.FfuKernelIdeal.main_arg1)
      ∧ r.2.mem ((c.tc : Thread Cert.FfuKernelIdeal.nD Cert.FfuKernelIdeal.τ).loc Cert.FfuKernelIdeal.main_arg2) = m ((c.tc : Thread Cert.FfuKernelIdeal.nD Cert.FfuKernelIdeal.τ).loc Cert.FfuKernelIdeal.main_arg2)
      ∧ r.2.mem ((c.tc : Thread Cert.FfuKernelIdeal.nD Cert.FfuKernelIdeal.τ).loc Cert.FfuKernelIdeal.main_arg3) = m ((c.tc : Thread Cert.FfuKernelIdeal.nD Cert.FfuKernelIdeal.τ).loc Cert.FfuKernelIdeal.main_arg3))
      ∧ r.2.sem = fun _ => 0)

def quiescent_FfuReferenceIdeal [hFfuReferenceIdeal : Cert.FfuReferenceIdeal.Facts] : Prop :=
  ∀ (m : (ℓ : Loc Cert.FfuReferenceIdeal.nD Cert.FfuReferenceIdeal.τ Cert.FfuReferenceIdeal.sig) → Buf (Elt Ideal) ℓ) (g : Dev Cert.FfuReferenceIdeal.nD → PrngReg), Pre_FfuReferenceIdeal m →
    θ_run (Cert.FfuReferenceIdeal.defs (F := Ideal)) (onTc (τ := Cert.FfuReferenceIdeal.τ) (Cert.FfuReferenceIdeal.main (F := Ideal))) ⟨m, fun _ => 0, g⟩ (fun r => (∀ c : Dev Cert.FfuReferenceIdeal.nD,
      r.2.mem ((c.tc : Thread Cert.FfuReferenceIdeal.nD Cert.FfuReferenceIdeal.τ).loc Cert.FfuReferenceIdeal.main_arg0) = m ((c.tc : Thread Cert.FfuReferenceIdeal.nD Cert.FfuReferenceIdeal.τ).loc Cert.FfuReferenceIdeal.main_arg0)
      ∧ r.2.mem ((c.tc : Thread Cert.FfuReferenceIdeal.nD Cert.FfuReferenceIdeal.τ).loc Cert.FfuReferenceIdeal.main_arg1) = m ((c.tc : Thread Cert.FfuReferenceIdeal.nD Cert.FfuReferenceIdeal.τ).loc Cert.FfuReferenceIdeal.main_arg1)
      ∧ r.2.mem ((c.tc : Thread Cert.FfuReferenceIdeal.nD Cert.FfuReferenceIdeal.τ).loc Cert.FfuReferenceIdeal.main_arg2) = m ((c.tc : Thread Cert.FfuReferenceIdeal.nD Cert.FfuReferenceIdeal.τ).loc Cert.FfuReferenceIdeal.main_arg2)
      ∧ r.2.mem ((c.tc : Thread Cert.FfuReferenceIdeal.nD Cert.FfuReferenceIdeal.τ).loc Cert.FfuReferenceIdeal.main_arg3) = m ((c.tc : Thread Cert.FfuReferenceIdeal.nD Cert.FfuReferenceIdeal.τ).loc Cert.FfuReferenceIdeal.main_arg3))
      ∧ r.2.sem = fun _ => 0)

def quiescent_FfdKernel [hFfdKernel : Cert.FfdKernel.Facts] : Prop :=
  ∀ (m : (ℓ : Loc Cert.FfdKernel.nD Cert.FfdKernel.τ Cert.FfdKernel.sig) → Buf (Elt Bits) ℓ) (g : Dev Cert.FfdKernel.nD → PrngReg), Pre_FfdKernel m →
    θ_run (Cert.FfdKernel.defs (F := Bits)) (onTc (τ := Cert.FfdKernel.τ) (Cert.FfdKernel.main (F := Bits))) ⟨m, fun _ => 0, g⟩ (fun r => (∀ c : Dev Cert.FfdKernel.nD,
      r.2.mem ((c.tc : Thread Cert.FfdKernel.nD Cert.FfdKernel.τ).loc Cert.FfdKernel.main_arg0) = m ((c.tc : Thread Cert.FfdKernel.nD Cert.FfdKernel.τ).loc Cert.FfdKernel.main_arg0)
      ∧ r.2.mem ((c.tc : Thread Cert.FfdKernel.nD Cert.FfdKernel.τ).loc Cert.FfdKernel.main_arg1) = m ((c.tc : Thread Cert.FfdKernel.nD Cert.FfdKernel.τ).loc Cert.FfdKernel.main_arg1)
      ∧ r.2.mem ((c.tc : Thread Cert.FfdKernel.nD Cert.FfdKernel.τ).loc Cert.FfdKernel.main_arg2) = m ((c.tc : Thread Cert.FfdKernel.nD Cert.FfdKernel.τ).loc Cert.FfdKernel.main_arg2)
      ∧ r.2.mem ((c.tc : Thread Cert.FfdKernel.nD Cert.FfdKernel.τ).loc Cert.FfdKernel.main_arg3) = m ((c.tc : Thread Cert.FfdKernel.nD Cert.FfdKernel.τ).loc Cert.FfdKernel.main_arg3))
      ∧ r.2.sem = fun _ => 0)

def quiescent_FfdKernelIdeal [hFfdKernelIdeal : Cert.FfdKernelIdeal.Facts] : Prop :=
  ∀ (m : (ℓ : Loc Cert.FfdKernelIdeal.nD Cert.FfdKernelIdeal.τ Cert.FfdKernelIdeal.sig) → Buf (Elt Ideal) ℓ) (g : Dev Cert.FfdKernelIdeal.nD → PrngReg), Pre_FfdKernelIdeal m →
    θ_run (Cert.FfdKernelIdeal.defs (F := Ideal)) (onTc (τ := Cert.FfdKernelIdeal.τ) (Cert.FfdKernelIdeal.main (F := Ideal))) ⟨m, fun _ => 0, g⟩ (fun r => (∀ c : Dev Cert.FfdKernelIdeal.nD,
      r.2.mem ((c.tc : Thread Cert.FfdKernelIdeal.nD Cert.FfdKernelIdeal.τ).loc Cert.FfdKernelIdeal.main_arg0) = m ((c.tc : Thread Cert.FfdKernelIdeal.nD Cert.FfdKernelIdeal.τ).loc Cert.FfdKernelIdeal.main_arg0)
      ∧ r.2.mem ((c.tc : Thread Cert.FfdKernelIdeal.nD Cert.FfdKernelIdeal.τ).loc Cert.FfdKernelIdeal.main_arg1) = m ((c.tc : Thread Cert.FfdKernelIdeal.nD Cert.FfdKernelIdeal.τ).loc Cert.FfdKernelIdeal.main_arg1)
      ∧ r.2.mem ((c.tc : Thread Cert.FfdKernelIdeal.nD Cert.FfdKernelIdeal.τ).loc Cert.FfdKernelIdeal.main_arg2) = m ((c.tc : Thread Cert.FfdKernelIdeal.nD Cert.FfdKernelIdeal.τ).loc Cert.FfdKernelIdeal.main_arg2)
      ∧ r.2.mem ((c.tc : Thread Cert.FfdKernelIdeal.nD Cert.FfdKernelIdeal.τ).loc Cert.FfdKernelIdeal.main_arg3) = m ((c.tc : Thread Cert.FfdKernelIdeal.nD Cert.FfdKernelIdeal.τ).loc Cert.FfdKernelIdeal.main_arg3))
      ∧ r.2.sem = fun _ => 0)

def quiescent_FfdReferenceIdeal [hFfdReferenceIdeal : Cert.FfdReferenceIdeal.Facts] : Prop :=
  ∀ (m : (ℓ : Loc Cert.FfdReferenceIdeal.nD Cert.FfdReferenceIdeal.τ Cert.FfdReferenceIdeal.sig) → Buf (Elt Ideal) ℓ) (g : Dev Cert.FfdReferenceIdeal.nD → PrngReg), Pre_FfdReferenceIdeal m →
    θ_run (Cert.FfdReferenceIdeal.defs (F := Ideal)) (onTc (τ := Cert.FfdReferenceIdeal.τ) (Cert.FfdReferenceIdeal.main (F := Ideal))) ⟨m, fun _ => 0, g⟩ (fun r => (∀ c : Dev Cert.FfdReferenceIdeal.nD,
      r.2.mem ((c.tc : Thread Cert.FfdReferenceIdeal.nD Cert.FfdReferenceIdeal.τ).loc Cert.FfdReferenceIdeal.main_arg0) = m ((c.tc : Thread Cert.FfdReferenceIdeal.nD Cert.FfdReferenceIdeal.τ).loc Cert.FfdReferenceIdeal.main_arg0)
      ∧ r.2.mem ((c.tc : Thread Cert.FfdReferenceIdeal.nD Cert.FfdReferenceIdeal.τ).loc Cert.FfdReferenceIdeal.main_arg1) = m ((c.tc : Thread Cert.FfdReferenceIdeal.nD Cert.FfdReferenceIdeal.τ).loc Cert.FfdReferenceIdeal.main_arg1)
      ∧ r.2.mem ((c.tc : Thread Cert.FfdReferenceIdeal.nD Cert.FfdReferenceIdeal.τ).loc Cert.FfdReferenceIdeal.main_arg2) = m ((c.tc : Thread Cert.FfdReferenceIdeal.nD Cert.FfdReferenceIdeal.τ).loc Cert.FfdReferenceIdeal.main_arg2)
      ∧ r.2.mem ((c.tc : Thread Cert.FfdReferenceIdeal.nD Cert.FfdReferenceIdeal.τ).loc Cert.FfdReferenceIdeal.main_arg3) = m ((c.tc : Thread Cert.FfdReferenceIdeal.nD Cert.FfdReferenceIdeal.τ).loc Cert.FfdReferenceIdeal.main_arg3))
      ∧ r.2.sem = fun _ => 0)

def quiescent_MxiKernel [hMxiKernel : Cert.MxiKernel.Facts] : Prop :=
  ∀ (m : (ℓ : Loc Cert.MxiKernel.nD Cert.MxiKernel.τ Cert.MxiKernel.sig) → Buf (Elt Bits) ℓ) (g : Dev Cert.MxiKernel.nD → PrngReg), Pre_MxiKernel m →
    θ_run (Cert.MxiKernel.defs (F := Bits)) (onTc (τ := Cert.MxiKernel.τ) (Cert.MxiKernel.main (F := Bits))) ⟨m, fun _ => 0, g⟩ (fun r => (∀ c : Dev Cert.MxiKernel.nD,
      r.2.mem ((c.tc : Thread Cert.MxiKernel.nD Cert.MxiKernel.τ).loc Cert.MxiKernel.main_arg0) = m ((c.tc : Thread Cert.MxiKernel.nD Cert.MxiKernel.τ).loc Cert.MxiKernel.main_arg0)
      ∧ r.2.mem ((c.tc : Thread Cert.MxiKernel.nD Cert.MxiKernel.τ).loc Cert.MxiKernel.main_arg1) = m ((c.tc : Thread Cert.MxiKernel.nD Cert.MxiKernel.τ).loc Cert.MxiKernel.main_arg1)
      ∧ r.2.mem ((c.tc : Thread Cert.MxiKernel.nD Cert.MxiKernel.τ).loc Cert.MxiKernel.main_arg2) = m ((c.tc : Thread Cert.MxiKernel.nD Cert.MxiKernel.τ).loc Cert.MxiKernel.main_arg2))
      ∧ r.2.sem = fun _ => 0)

def quiescent_MxiKernelIdeal [hMxiKernelIdeal : Cert.MxiKernelIdeal.Facts] : Prop :=
  ∀ (m : (ℓ : Loc Cert.MxiKernelIdeal.nD Cert.MxiKernelIdeal.τ Cert.MxiKernelIdeal.sig) → Buf (Elt Ideal) ℓ) (g : Dev Cert.MxiKernelIdeal.nD → PrngReg), Pre_MxiKernelIdeal m →
    θ_run (Cert.MxiKernelIdeal.defs (F := Ideal)) (onTc (τ := Cert.MxiKernelIdeal.τ) (Cert.MxiKernelIdeal.main (F := Ideal))) ⟨m, fun _ => 0, g⟩ (fun r => (∀ c : Dev Cert.MxiKernelIdeal.nD,
      r.2.mem ((c.tc : Thread Cert.MxiKernelIdeal.nD Cert.MxiKernelIdeal.τ).loc Cert.MxiKernelIdeal.main_arg0) = m ((c.tc : Thread Cert.MxiKernelIdeal.nD Cert.MxiKernelIdeal.τ).loc Cert.MxiKernelIdeal.main_arg0)
      ∧ r.2.mem ((c.tc : Thread Cert.MxiKernelIdeal.nD Cert.MxiKernelIdeal.τ).loc Cert.MxiKernelIdeal.main_arg1) = m ((c.tc : Thread Cert.MxiKernelIdeal.nD Cert.MxiKernelIdeal.τ).loc Cert.MxiKernelIdeal.main_arg1)
      ∧ r.2.mem ((c.tc : Thread Cert.MxiKernelIdeal.nD Cert.MxiKernelIdeal.τ).loc Cert.MxiKernelIdeal.main_arg2) = m ((c.tc : Thread Cert.MxiKernelIdeal.nD Cert.MxiKernelIdeal.τ).loc Cert.MxiKernelIdeal.main_arg2))
      ∧ r.2.sem = fun _ => 0)

def quiescent_MxiReferenceIdeal [hMxiReferenceIdeal : Cert.MxiReferenceIdeal.Facts] : Prop :=
  ∀ (m : (ℓ : Loc Cert.MxiReferenceIdeal.nD Cert.MxiReferenceIdeal.τ Cert.MxiReferenceIdeal.sig) → Buf (Elt Ideal) ℓ) (g : Dev Cert.MxiReferenceIdeal.nD → PrngReg), Pre_MxiReferenceIdeal m →
    θ_run (Cert.MxiReferenceIdeal.defs (F := Ideal)) (onTc (τ := Cert.MxiReferenceIdeal.τ) (Cert.MxiReferenceIdeal.main (F := Ideal))) ⟨m, fun _ => 0, g⟩ (fun r => (∀ c : Dev Cert.MxiReferenceIdeal.nD,
      r.2.mem ((c.tc : Thread Cert.MxiReferenceIdeal.nD Cert.MxiReferenceIdeal.τ).loc Cert.MxiReferenceIdeal.main_arg0) = m ((c.tc : Thread Cert.MxiReferenceIdeal.nD Cert.MxiReferenceIdeal.τ).loc Cert.MxiReferenceIdeal.main_arg0)
      ∧ r.2.mem ((c.tc : Thread Cert.MxiReferenceIdeal.nD Cert.MxiReferenceIdeal.τ).loc Cert.MxiReferenceIdeal.main_arg1) = m ((c.tc : Thread Cert.MxiReferenceIdeal.nD Cert.MxiReferenceIdeal.τ).loc Cert.MxiReferenceIdeal.main_arg1)
      ∧ r.2.mem ((c.tc : Thread Cert.MxiReferenceIdeal.nD Cert.MxiReferenceIdeal.τ).loc Cert.MxiReferenceIdeal.main_arg2) = m ((c.tc : Thread Cert.MxiReferenceIdeal.nD Cert.MxiReferenceIdeal.τ).loc Cert.MxiReferenceIdeal.main_arg2))
      ∧ r.2.sem = fun _ => 0)

def quiescent_MxoKernel [hMxoKernel : Cert.MxoKernel.Facts] : Prop :=
  ∀ (m : (ℓ : Loc Cert.MxoKernel.nD Cert.MxoKernel.τ Cert.MxoKernel.sig) → Buf (Elt Bits) ℓ) (g : Dev Cert.MxoKernel.nD → PrngReg), Pre_MxoKernel m →
    θ_run (Cert.MxoKernel.defs (F := Bits)) (onTc (τ := Cert.MxoKernel.τ) (Cert.MxoKernel.main (F := Bits))) ⟨m, fun _ => 0, g⟩ (fun r => (∀ c : Dev Cert.MxoKernel.nD,
      r.2.mem ((c.tc : Thread Cert.MxoKernel.nD Cert.MxoKernel.τ).loc Cert.MxoKernel.main_arg0) = m ((c.tc : Thread Cert.MxoKernel.nD Cert.MxoKernel.τ).loc Cert.MxoKernel.main_arg0)
      ∧ r.2.mem ((c.tc : Thread Cert.MxoKernel.nD Cert.MxoKernel.τ).loc Cert.MxoKernel.main_arg1) = m ((c.tc : Thread Cert.MxoKernel.nD Cert.MxoKernel.τ).loc Cert.MxoKernel.main_arg1)
      ∧ r.2.mem ((c.tc : Thread Cert.MxoKernel.nD Cert.MxoKernel.τ).loc Cert.MxoKernel.main_arg2) = m ((c.tc : Thread Cert.MxoKernel.nD Cert.MxoKernel.τ).loc Cert.MxoKernel.main_arg2)
      ∧ r.2.mem ((c.tc : Thread Cert.MxoKernel.nD Cert.MxoKernel.τ).loc Cert.MxoKernel.main_arg3) = m ((c.tc : Thread Cert.MxoKernel.nD Cert.MxoKernel.τ).loc Cert.MxoKernel.main_arg3)
      ∧ r.2.mem ((c.tc : Thread Cert.MxoKernel.nD Cert.MxoKernel.τ).loc Cert.MxoKernel.main_arg4) = m ((c.tc : Thread Cert.MxoKernel.nD Cert.MxoKernel.τ).loc Cert.MxoKernel.main_arg4))
      ∧ r.2.sem = fun _ => 0)

def quiescent_MxoKernelIdeal [hMxoKernelIdeal : Cert.MxoKernelIdeal.Facts] : Prop :=
  ∀ (m : (ℓ : Loc Cert.MxoKernelIdeal.nD Cert.MxoKernelIdeal.τ Cert.MxoKernelIdeal.sig) → Buf (Elt Ideal) ℓ) (g : Dev Cert.MxoKernelIdeal.nD → PrngReg), Pre_MxoKernelIdeal m →
    θ_run (Cert.MxoKernelIdeal.defs (F := Ideal)) (onTc (τ := Cert.MxoKernelIdeal.τ) (Cert.MxoKernelIdeal.main (F := Ideal))) ⟨m, fun _ => 0, g⟩ (fun r => (∀ c : Dev Cert.MxoKernelIdeal.nD,
      r.2.mem ((c.tc : Thread Cert.MxoKernelIdeal.nD Cert.MxoKernelIdeal.τ).loc Cert.MxoKernelIdeal.main_arg0) = m ((c.tc : Thread Cert.MxoKernelIdeal.nD Cert.MxoKernelIdeal.τ).loc Cert.MxoKernelIdeal.main_arg0)
      ∧ r.2.mem ((c.tc : Thread Cert.MxoKernelIdeal.nD Cert.MxoKernelIdeal.τ).loc Cert.MxoKernelIdeal.main_arg1) = m ((c.tc : Thread Cert.MxoKernelIdeal.nD Cert.MxoKernelIdeal.τ).loc Cert.MxoKernelIdeal.main_arg1)
      ∧ r.2.mem ((c.tc : Thread Cert.MxoKernelIdeal.nD Cert.MxoKernelIdeal.τ).loc Cert.MxoKernelIdeal.main_arg2) = m ((c.tc : Thread Cert.MxoKernelIdeal.nD Cert.MxoKernelIdeal.τ).loc Cert.MxoKernelIdeal.main_arg2)
      ∧ r.2.mem ((c.tc : Thread Cert.MxoKernelIdeal.nD Cert.MxoKernelIdeal.τ).loc Cert.MxoKernelIdeal.main_arg3) = m ((c.tc : Thread Cert.MxoKernelIdeal.nD Cert.MxoKernelIdeal.τ).loc Cert.MxoKernelIdeal.main_arg3)
      ∧ r.2.mem ((c.tc : Thread Cert.MxoKernelIdeal.nD Cert.MxoKernelIdeal.τ).loc Cert.MxoKernelIdeal.main_arg4) = m ((c.tc : Thread Cert.MxoKernelIdeal.nD Cert.MxoKernelIdeal.τ).loc Cert.MxoKernelIdeal.main_arg4))
      ∧ r.2.sem = fun _ => 0)

def quiescent_MxoReferenceIdeal [hMxoReferenceIdeal : Cert.MxoReferenceIdeal.Facts] : Prop :=
  ∀ (m : (ℓ : Loc Cert.MxoReferenceIdeal.nD Cert.MxoReferenceIdeal.τ Cert.MxoReferenceIdeal.sig) → Buf (Elt Ideal) ℓ) (g : Dev Cert.MxoReferenceIdeal.nD → PrngReg), Pre_MxoReferenceIdeal m →
    θ_run (Cert.MxoReferenceIdeal.defs (F := Ideal)) (onTc (τ := Cert.MxoReferenceIdeal.τ) (Cert.MxoReferenceIdeal.main (F := Ideal))) ⟨m, fun _ => 0, g⟩ (fun r => (∀ c : Dev Cert.MxoReferenceIdeal.nD,
      r.2.mem ((c.tc : Thread Cert.MxoReferenceIdeal.nD Cert.MxoReferenceIdeal.τ).loc Cert.MxoReferenceIdeal.main_arg0) = m ((c.tc : Thread Cert.MxoReferenceIdeal.nD Cert.MxoReferenceIdeal.τ).loc Cert.MxoReferenceIdeal.main_arg0)
      ∧ r.2.mem ((c.tc : Thread Cert.MxoReferenceIdeal.nD Cert.MxoReferenceIdeal.τ).loc Cert.MxoReferenceIdeal.main_arg1) = m ((c.tc : Thread Cert.MxoReferenceIdeal.nD Cert.MxoReferenceIdeal.τ).loc Cert.MxoReferenceIdeal.main_arg1)
      ∧ r.2.mem ((c.tc : Thread Cert.MxoReferenceIdeal.nD Cert.MxoReferenceIdeal.τ).loc Cert.MxoReferenceIdeal.main_arg2) = m ((c.tc : Thread Cert.MxoReferenceIdeal.nD Cert.MxoReferenceIdeal.τ).loc Cert.MxoReferenceIdeal.main_arg2)
      ∧ r.2.mem ((c.tc : Thread Cert.MxoReferenceIdeal.nD Cert.MxoReferenceIdeal.τ).loc Cert.MxoReferenceIdeal.main_arg3) = m ((c.tc : Thread Cert.MxoReferenceIdeal.nD Cert.MxoReferenceIdeal.τ).loc Cert.MxoReferenceIdeal.main_arg3)
      ∧ r.2.mem ((c.tc : Thread Cert.MxoReferenceIdeal.nD Cert.MxoReferenceIdeal.τ).loc Cert.MxoReferenceIdeal.main_arg4) = m ((c.tc : Thread Cert.MxoReferenceIdeal.nD Cert.MxoReferenceIdeal.τ).loc Cert.MxoReferenceIdeal.main_arg4))
      ∧ r.2.sem = fun _ => 0)

def quiescent_CvfKernel [hCvfKernel : Cert.CvfKernel.Facts] : Prop :=
  ∀ (m : (ℓ : Loc Cert.CvfKernel.nD Cert.CvfKernel.τ Cert.CvfKernel.sig) → Buf (Elt Bits) ℓ) (g : Dev Cert.CvfKernel.nD → PrngReg), Pre_CvfKernel m →
    θ_run (Cert.CvfKernel.defs (F := Bits)) (onTc (τ := Cert.CvfKernel.τ) (Cert.CvfKernel.main (F := Bits))) ⟨m, fun _ => 0, g⟩ (fun r => (∀ c : Dev Cert.CvfKernel.nD,
      r.2.mem ((c.tc : Thread Cert.CvfKernel.nD Cert.CvfKernel.τ).loc Cert.CvfKernel.main_arg0) = m ((c.tc : Thread Cert.CvfKernel.nD Cert.CvfKernel.τ).loc Cert.CvfKernel.main_arg0)
      ∧ r.2.mem ((c.tc : Thread Cert.CvfKernel.nD Cert.CvfKernel.τ).loc Cert.CvfKernel.main_arg1) = m ((c.tc : Thread Cert.CvfKernel.nD Cert.CvfKernel.τ).loc Cert.CvfKernel.main_arg1))
      ∧ r.2.sem = fun _ => 0)

def quiescent_CvfKernelIdeal [hCvfKernelIdeal : Cert.CvfKernelIdeal.Facts] : Prop :=
  ∀ (m : (ℓ : Loc Cert.CvfKernelIdeal.nD Cert.CvfKernelIdeal.τ Cert.CvfKernelIdeal.sig) → Buf (Elt Ideal) ℓ) (g : Dev Cert.CvfKernelIdeal.nD → PrngReg), Pre_CvfKernelIdeal m →
    θ_run (Cert.CvfKernelIdeal.defs (F := Ideal)) (onTc (τ := Cert.CvfKernelIdeal.τ) (Cert.CvfKernelIdeal.main (F := Ideal))) ⟨m, fun _ => 0, g⟩ (fun r => (∀ c : Dev Cert.CvfKernelIdeal.nD,
      r.2.mem ((c.tc : Thread Cert.CvfKernelIdeal.nD Cert.CvfKernelIdeal.τ).loc Cert.CvfKernelIdeal.main_arg0) = m ((c.tc : Thread Cert.CvfKernelIdeal.nD Cert.CvfKernelIdeal.τ).loc Cert.CvfKernelIdeal.main_arg0)
      ∧ r.2.mem ((c.tc : Thread Cert.CvfKernelIdeal.nD Cert.CvfKernelIdeal.τ).loc Cert.CvfKernelIdeal.main_arg1) = m ((c.tc : Thread Cert.CvfKernelIdeal.nD Cert.CvfKernelIdeal.τ).loc Cert.CvfKernelIdeal.main_arg1))
      ∧ r.2.sem = fun _ => 0)

def quiescent_CvfReferenceIdeal [hCvfReferenceIdeal : Cert.CvfReferenceIdeal.Facts] : Prop :=
  ∀ (m : (ℓ : Loc Cert.CvfReferenceIdeal.nD Cert.CvfReferenceIdeal.τ Cert.CvfReferenceIdeal.sig) → Buf (Elt Ideal) ℓ) (g : Dev Cert.CvfReferenceIdeal.nD → PrngReg), Pre_CvfReferenceIdeal m →
    θ_run (Cert.CvfReferenceIdeal.defs (F := Ideal)) (onTc (τ := Cert.CvfReferenceIdeal.τ) (Cert.CvfReferenceIdeal.main (F := Ideal))) ⟨m, fun _ => 0, g⟩ (fun r => (∀ c : Dev Cert.CvfReferenceIdeal.nD,
      r.2.mem ((c.tc : Thread Cert.CvfReferenceIdeal.nD Cert.CvfReferenceIdeal.τ).loc Cert.CvfReferenceIdeal.main_arg0) = m ((c.tc : Thread Cert.CvfReferenceIdeal.nD Cert.CvfReferenceIdeal.τ).loc Cert.CvfReferenceIdeal.main_arg0)
      ∧ r.2.mem ((c.tc : Thread Cert.CvfReferenceIdeal.nD Cert.CvfReferenceIdeal.τ).loc Cert.CvfReferenceIdeal.main_arg1) = m ((c.tc : Thread Cert.CvfReferenceIdeal.nD Cert.CvfReferenceIdeal.τ).loc Cert.CvfReferenceIdeal.main_arg1))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1)
      ∧ r.2.mem ((c.tc : Thread Cert.TnKernel.nD Cert.TnKernel.τ).loc Cert.TnKernel.main_arg2) = m ((c.tc : Thread Cert.TnKernel.nD Cert.TnKernel.τ).loc Cert.TnKernel.main_arg2)
      ∧ r.2.mem ((c.tc : Thread Cert.TnKernel.nD Cert.TnKernel.τ).loc Cert.TnKernel.main_arg3) = m ((c.tc : Thread Cert.TnKernel.nD Cert.TnKernel.τ).loc Cert.TnKernel.main_arg3)
      ∧ r.2.mem ((c.tc : Thread Cert.TnKernel.nD Cert.TnKernel.τ).loc Cert.TnKernel.main_arg4) = m ((c.tc : Thread Cert.TnKernel.nD Cert.TnKernel.τ).loc Cert.TnKernel.main_arg4))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1)
      ∧ r.2.mem ((c.tc : Thread Cert.TnKernelIdeal.nD Cert.TnKernelIdeal.τ).loc Cert.TnKernelIdeal.main_arg2) = m ((c.tc : Thread Cert.TnKernelIdeal.nD Cert.TnKernelIdeal.τ).loc Cert.TnKernelIdeal.main_arg2)
      ∧ r.2.mem ((c.tc : Thread Cert.TnKernelIdeal.nD Cert.TnKernelIdeal.τ).loc Cert.TnKernelIdeal.main_arg3) = m ((c.tc : Thread Cert.TnKernelIdeal.nD Cert.TnKernelIdeal.τ).loc Cert.TnKernelIdeal.main_arg3)
      ∧ r.2.mem ((c.tc : Thread Cert.TnKernelIdeal.nD Cert.TnKernelIdeal.τ).loc Cert.TnKernelIdeal.main_arg4) = m ((c.tc : Thread Cert.TnKernelIdeal.nD Cert.TnKernelIdeal.τ).loc Cert.TnKernelIdeal.main_arg4))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1)
      ∧ r.2.mem ((c.tc : Thread Cert.TnReferenceIdeal.nD Cert.TnReferenceIdeal.τ).loc Cert.TnReferenceIdeal.main_arg2) = m ((c.tc : Thread Cert.TnReferenceIdeal.nD Cert.TnReferenceIdeal.τ).loc Cert.TnReferenceIdeal.main_arg2)
      ∧ r.2.mem ((c.tc : Thread Cert.TnReferenceIdeal.nD Cert.TnReferenceIdeal.τ).loc Cert.TnReferenceIdeal.main_arg3) = m ((c.tc : Thread Cert.TnReferenceIdeal.nD Cert.TnReferenceIdeal.τ).loc Cert.TnReferenceIdeal.main_arg3)
      ∧ r.2.mem ((c.tc : Thread Cert.TnReferenceIdeal.nD Cert.TnReferenceIdeal.τ).loc Cert.TnReferenceIdeal.main_arg4) = m ((c.tc : Thread Cert.TnReferenceIdeal.nD Cert.TnReferenceIdeal.τ).loc Cert.TnReferenceIdeal.main_arg4))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_BiaKernel [hBiaKernel : Cert.BiaKernel.Facts] : Prop :=
  ∀ (m : (ℓ : Loc Cert.BiaKernel.nD Cert.BiaKernel.τ Cert.BiaKernel.sig) → Buf (Elt Bits) ℓ) (g : Dev Cert.BiaKernel.nD → PrngReg), Pre_BiaKernel m →
    θ_run (Cert.BiaKernel.defs (F := Bits)) (onTc (τ := Cert.BiaKernel.τ) (Cert.BiaKernel.main (F := Bits))) ⟨m, fun _ => 0, g⟩ (fun r => (∀ c : Dev Cert.BiaKernel.nD,
      r.2.mem ((c.tc : Thread Cert.BiaKernel.nD Cert.BiaKernel.τ).loc Cert.BiaKernel.main_arg0) = m ((c.tc : Thread Cert.BiaKernel.nD Cert.BiaKernel.τ).loc Cert.BiaKernel.main_arg0)
      ∧ r.2.mem ((c.tc : Thread Cert.BiaKernel.nD Cert.BiaKernel.τ).loc Cert.BiaKernel.main_arg1) = m ((c.tc : Thread Cert.BiaKernel.nD Cert.BiaKernel.τ).loc Cert.BiaKernel.main_arg1))
      ∧ r.2.sem = fun _ => 0)

def quiescent_BiaKernelIdeal [hBiaKernelIdeal : Cert.BiaKernelIdeal.Facts] : Prop :=
  ∀ (m : (ℓ : Loc Cert.BiaKernelIdeal.nD Cert.BiaKernelIdeal.τ Cert.BiaKernelIdeal.sig) → Buf (Elt Ideal) ℓ) (g : Dev Cert.BiaKernelIdeal.nD → PrngReg), Pre_BiaKernelIdeal m →
    θ_run (Cert.BiaKernelIdeal.defs (F := Ideal)) (onTc (τ := Cert.BiaKernelIdeal.τ) (Cert.BiaKernelIdeal.main (F := Ideal))) ⟨m, fun _ => 0, g⟩ (fun r => (∀ c : Dev Cert.BiaKernelIdeal.nD,
      r.2.mem ((c.tc : Thread Cert.BiaKernelIdeal.nD Cert.BiaKernelIdeal.τ).loc Cert.BiaKernelIdeal.main_arg0) = m ((c.tc : Thread Cert.BiaKernelIdeal.nD Cert.BiaKernelIdeal.τ).loc Cert.BiaKernelIdeal.main_arg0)
      ∧ r.2.mem ((c.tc : Thread Cert.BiaKernelIdeal.nD Cert.BiaKernelIdeal.τ).loc Cert.BiaKernelIdeal.main_arg1) = m ((c.tc : Thread Cert.BiaKernelIdeal.nD Cert.BiaKernelIdeal.τ).loc Cert.BiaKernelIdeal.main_arg1))
      ∧ r.2.sem = fun _ => 0)

def quiescent_BiaReferenceIdeal [hBiaReferenceIdeal : Cert.BiaReferenceIdeal.Facts] : Prop :=
  ∀ (m : (ℓ : Loc Cert.BiaReferenceIdeal.nD Cert.BiaReferenceIdeal.τ Cert.BiaReferenceIdeal.sig) → Buf (Elt Ideal) ℓ) (g : Dev Cert.BiaReferenceIdeal.nD → PrngReg), Pre_BiaReferenceIdeal m →
    θ_run (Cert.BiaReferenceIdeal.defs (F := Ideal)) (onTc (τ := Cert.BiaReferenceIdeal.τ) (Cert.BiaReferenceIdeal.main (F := Ideal))) ⟨m, fun _ => 0, g⟩ (fun r => (∀ c : Dev Cert.BiaReferenceIdeal.nD,
      r.2.mem ((c.tc : Thread Cert.BiaReferenceIdeal.nD Cert.BiaReferenceIdeal.τ).loc Cert.BiaReferenceIdeal.main_arg0) = m ((c.tc : Thread Cert.BiaReferenceIdeal.nD Cert.BiaReferenceIdeal.τ).loc Cert.BiaReferenceIdeal.main_arg0)
      ∧ r.2.mem ((c.tc : Thread Cert.BiaReferenceIdeal.nD Cert.BiaReferenceIdeal.τ).loc Cert.BiaReferenceIdeal.main_arg1) = m ((c.tc : Thread Cert.BiaReferenceIdeal.nD Cert.BiaReferenceIdeal.τ).loc Cert.BiaReferenceIdeal.main_arg1))
      ∧ r.2.sem = fun _ => 0)

def quiescent_BifKernel [hBifKernel : Cert.BifKernel.Facts] : Prop :=
  ∀ (m : (ℓ : Loc Cert.BifKernel.nD Cert.BifKernel.τ Cert.BifKernel.sig) → Buf (Elt Bits) ℓ) (g : Dev Cert.BifKernel.nD → PrngReg), Pre_BifKernel m →
    θ_run (Cert.BifKernel.defs (F := Bits)) (onTc (τ := Cert.BifKernel.τ) (Cert.BifKernel.main (F := Bits))) ⟨m, fun _ => 0, g⟩ (fun r => (∀ c : Dev Cert.BifKernel.nD,
      r.2.mem ((c.tc : Thread Cert.BifKernel.nD Cert.BifKernel.τ).loc Cert.BifKernel.main_arg0) = m ((c.tc : Thread Cert.BifKernel.nD Cert.BifKernel.τ).loc Cert.BifKernel.main_arg0)
      ∧ r.2.mem ((c.tc : Thread Cert.BifKernel.nD Cert.BifKernel.τ).loc Cert.BifKernel.main_arg1) = m ((c.tc : Thread Cert.BifKernel.nD Cert.BifKernel.τ).loc Cert.BifKernel.main_arg1))
      ∧ r.2.sem = fun _ => 0)

def quiescent_BifKernelIdeal [hBifKernelIdeal : Cert.BifKernelIdeal.Facts] : Prop :=
  ∀ (m : (ℓ : Loc Cert.BifKernelIdeal.nD Cert.BifKernelIdeal.τ Cert.BifKernelIdeal.sig) → Buf (Elt Ideal) ℓ) (g : Dev Cert.BifKernelIdeal.nD → PrngReg), Pre_BifKernelIdeal m →
    θ_run (Cert.BifKernelIdeal.defs (F := Ideal)) (onTc (τ := Cert.BifKernelIdeal.τ) (Cert.BifKernelIdeal.main (F := Ideal))) ⟨m, fun _ => 0, g⟩ (fun r => (∀ c : Dev Cert.BifKernelIdeal.nD,
      r.2.mem ((c.tc : Thread Cert.BifKernelIdeal.nD Cert.BifKernelIdeal.τ).loc Cert.BifKernelIdeal.main_arg0) = m ((c.tc : Thread Cert.BifKernelIdeal.nD Cert.BifKernelIdeal.τ).loc Cert.BifKernelIdeal.main_arg0)
      ∧ r.2.mem ((c.tc : Thread Cert.BifKernelIdeal.nD Cert.BifKernelIdeal.τ).loc Cert.BifKernelIdeal.main_arg1) = m ((c.tc : Thread Cert.BifKernelIdeal.nD Cert.BifKernelIdeal.τ).loc Cert.BifKernelIdeal.main_arg1))
      ∧ r.2.sem = fun _ => 0)

def quiescent_BifReferenceIdeal [hBifReferenceIdeal : Cert.BifReferenceIdeal.Facts] : Prop :=
  ∀ (m : (ℓ : Loc Cert.BifReferenceIdeal.nD Cert.BifReferenceIdeal.τ Cert.BifReferenceIdeal.sig) → Buf (Elt Ideal) ℓ) (g : Dev Cert.BifReferenceIdeal.nD → PrngReg), Pre_BifReferenceIdeal m →
    θ_run (Cert.BifReferenceIdeal.defs (F := Ideal)) (onTc (τ := Cert.BifReferenceIdeal.τ) (Cert.BifReferenceIdeal.main (F := Ideal))) ⟨m, fun _ => 0, g⟩ (fun r => (∀ c : Dev Cert.BifReferenceIdeal.nD,
      r.2.mem ((c.tc : Thread Cert.BifReferenceIdeal.nD Cert.BifReferenceIdeal.τ).loc Cert.BifReferenceIdeal.main_arg0) = m ((c.tc : Thread Cert.BifReferenceIdeal.nD Cert.BifReferenceIdeal.τ).loc Cert.BifReferenceIdeal.main_arg0)
      ∧ r.2.mem ((c.tc : Thread Cert.BifReferenceIdeal.nD Cert.BifReferenceIdeal.τ).loc Cert.BifReferenceIdeal.main_arg1) = m ((c.tc : Thread Cert.BifReferenceIdeal.nD Cert.BifReferenceIdeal.τ).loc Cert.BifReferenceIdeal.main_arg1))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v18) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v16_0)) (v1 : (c : Dev Cert.ConvKernelIdeal.nD) → Buf (Elt Ideal) ((c.tc : Thread Cert.ConvKernelIdeal.nD Cert.ConvKernelIdeal.τ).loc Cert.ConvKernelIdeal.main_v16_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v16_0) = v0 c
          ∧ r.2.mem ((c.tc : Thread Cert.ConvKernelIdeal.nD Cert.ConvKernelIdeal.τ).loc Cert.ConvKernelIdeal.main_v16_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v84) = v0 c
          ∧ r.2.mem ((c.tc : Thread Cert.ConvReferenceIdeal.nD Cert.ConvReferenceIdeal.τ).loc Cert.ConvReferenceIdeal.main_v78) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_FfndKernel_FfndKernelIdeal : Prop :=
  True

def algebraic_FfndKernelIdeal_FfndReferenceIdeal_pre_ffnd_finite [hFfndKernelIdeal : Cert.FfndKernelIdeal.Facts] [hFfndReferenceIdeal : Cert.FfndReferenceIdeal.Facts] [hPre_ffnd_finite : Cert.Pre_ffnd_finite.Facts] : Prop :=
  ∀ (m : (ℓ : Loc Cert.FfndKernelIdeal.nD Cert.FfndKernelIdeal.τ Cert.FfndKernelIdeal.sig) → Buf (Elt Ideal) ℓ) (g : Dev Cert.FfndKernelIdeal.nD → PrngReg)
    (m' : (ℓ : Loc Cert.FfndReferenceIdeal.nD Cert.FfndReferenceIdeal.τ Cert.FfndReferenceIdeal.sig) → Buf (Elt Ideal) ℓ) (g' : Dev Cert.FfndReferenceIdeal.nD → PrngReg), Pre_FfndKernelIdeal_ffnd_finite m →
    (∀ c : Dev Cert.FfndKernelIdeal.nD,
      m' ((c.tc : Thread Cert.FfndReferenceIdeal.nD Cert.FfndReferenceIdeal.τ).loc Cert.FfndReferenceIdeal.main_arg0) = m ((c.tc : Thread Cert.FfndKernelIdeal.nD Cert.FfndKernelIdeal.τ).loc Cert.FfndKernelIdeal.main_arg0)
      ∧ m' ((c.tc : Thread Cert.FfndReferenceIdeal.nD Cert.FfndReferenceIdeal.τ).loc Cert.FfndReferenceIdeal.main_arg1) = m ((c.tc : Thread Cert.FfndKernelIdeal.nD Cert.FfndKernelIdeal.τ).loc Cert.FfndKernelIdeal.main_arg1)
      ∧ m' ((c.tc : Thread Cert.FfndReferenceIdeal.nD Cert.FfndReferenceIdeal.τ).loc Cert.FfndReferenceIdeal.main_arg2) = m ((c.tc : Thread Cert.FfndKernelIdeal.nD Cert.FfndKernelIdeal.τ).loc Cert.FfndKernelIdeal.main_arg2)
      ∧ m' ((c.tc : Thread Cert.FfndReferenceIdeal.nD Cert.FfndReferenceIdeal.τ).loc Cert.FfndReferenceIdeal.main_arg3) = m ((c.tc : Thread Cert.FfndKernelIdeal.nD Cert.FfndKernelIdeal.τ).loc Cert.FfndKernelIdeal.main_arg3)
      ∧ m' ((c.tc : Thread Cert.FfndReferenceIdeal.nD Cert.FfndReferenceIdeal.τ).loc Cert.FfndReferenceIdeal.main_arg4) = m ((c.tc : Thread Cert.FfndKernelIdeal.nD Cert.FfndKernelIdeal.τ).loc Cert.FfndKernelIdeal.main_arg4)) →
    ∃ (v0 : (c : Dev Cert.FfndKernelIdeal.nD) → Buf (Elt Ideal) ((c.tc : Thread Cert.FfndKernelIdeal.nD Cert.FfndKernelIdeal.τ).loc Cert.FfndKernelIdeal.main_v14_0)) (v1 : (c : Dev Cert.FfndKernelIdeal.nD) → Buf (Elt Ideal) ((c.tc : Thread Cert.FfndKernelIdeal.nD Cert.FfndKernelIdeal.τ).loc Cert.FfndKernelIdeal.main_v14_1)) (v2 : (c : Dev Cert.FfndKernelIdeal.nD) → Buf (Elt Ideal) ((c.tc : Thread Cert.FfndKernelIdeal.nD Cert.FfndKernelIdeal.τ).loc Cert.FfndKernelIdeal.main_v14_2)),
      θ_run (Cert.FfndKernelIdeal.defs (F := Ideal)) (onTc (τ := Cert.FfndKernelIdeal.τ) (Cert.FfndKernelIdeal.main (F := Ideal))) ⟨m, fun _ => 0, g⟩ (fun r => ∀ c : Dev Cert.FfndKernelIdeal.nD,
          r.2.mem ((c.tc : Thread Cert.FfndKernelIdeal.nD Cert.FfndKernelIdeal.τ).loc Cert.FfndKernelIdeal.main_v14_0) = v0 c
          ∧ r.2.mem ((c.tc : Thread Cert.FfndKernelIdeal.nD Cert.FfndKernelIdeal.τ).loc Cert.FfndKernelIdeal.main_v14_1) = v1 c
          ∧ r.2.mem ((c.tc : Thread Cert.FfndKernelIdeal.nD Cert.FfndKernelIdeal.τ).loc Cert.FfndKernelIdeal.main_v14_2) = v2 c
          ∧ r.2.mem ((c.tc : Thread Cert.FfndKernelIdeal.nD Cert.FfndKernelIdeal.τ).loc Cert.FfndKernelIdeal.main_arg0) = m ((c.tc : Thread Cert.FfndKernelIdeal.nD Cert.FfndKernelIdeal.τ).loc Cert.FfndKernelIdeal.main_arg0)
          ∧ r.2.mem ((c.tc : Thread Cert.FfndKernelIdeal.nD Cert.FfndKernelIdeal.τ).loc Cert.FfndKernelIdeal.main_arg1) = m ((c.tc : Thread Cert.FfndKernelIdeal.nD Cert.FfndKernelIdeal.τ).loc Cert.FfndKernelIdeal.main_arg1)
          ∧ r.2.mem ((c.tc : Thread Cert.FfndKernelIdeal.nD Cert.FfndKernelIdeal.τ).loc Cert.FfndKernelIdeal.main_arg2) = m ((c.tc : Thread Cert.FfndKernelIdeal.nD Cert.FfndKernelIdeal.τ).loc Cert.FfndKernelIdeal.main_arg2)
          ∧ r.2.mem ((c.tc : Thread Cert.FfndKernelIdeal.nD Cert.FfndKernelIdeal.τ).loc Cert.FfndKernelIdeal.main_arg3) = m ((c.tc : Thread Cert.FfndKernelIdeal.nD Cert.FfndKernelIdeal.τ).loc Cert.FfndKernelIdeal.main_arg3)
          ∧ r.2.mem ((c.tc : Thread Cert.FfndKernelIdeal.nD Cert.FfndKernelIdeal.τ).loc Cert.FfndKernelIdeal.main_arg4) = m ((c.tc : Thread Cert.FfndKernelIdeal.nD Cert.FfndKernelIdeal.τ).loc Cert.FfndKernelIdeal.main_arg4))
      ∧ θ_run (Cert.FfndReferenceIdeal.defs (F := Ideal)) (onTc (τ := Cert.FfndReferenceIdeal.τ) (Cert.FfndReferenceIdeal.main (F := Ideal))) ⟨m', fun _ => 0, g'⟩ (fun r => ∀ c : Dev Cert.FfndReferenceIdeal.nD,
          r.2.mem ((c.tc : Thread Cert.FfndReferenceIdeal.nD Cert.FfndReferenceIdeal.τ).loc Cert.FfndReferenceIdeal.main_v47) = v0 c
          ∧ r.2.mem ((c.tc : Thread Cert.FfndReferenceIdeal.nD Cert.FfndReferenceIdeal.τ).loc Cert.FfndReferenceIdeal.main_v24) = v1 c
          ∧ r.2.mem ((c.tc : Thread Cert.FfndReferenceIdeal.nD Cert.FfndReferenceIdeal.τ).loc Cert.FfndReferenceIdeal.main_v51) = v2 c
          ∧ r.2.mem ((c.tc : Thread Cert.FfndReferenceIdeal.nD Cert.FfndReferenceIdeal.τ).loc Cert.FfndReferenceIdeal.main_arg0) = m' ((c.tc : Thread Cert.FfndReferenceIdeal.nD Cert.FfndReferenceIdeal.τ).loc Cert.FfndReferenceIdeal.main_arg0)
          ∧ r.2.mem ((c.tc : Thread Cert.FfndReferenceIdeal.nD Cert.FfndReferenceIdeal.τ).loc Cert.FfndReferenceIdeal.main_arg1) = m' ((c.tc : Thread Cert.FfndReferenceIdeal.nD Cert.FfndReferenceIdeal.τ).loc Cert.FfndReferenceIdeal.main_arg1)
          ∧ r.2.mem ((c.tc : Thread Cert.FfndReferenceIdeal.nD Cert.FfndReferenceIdeal.τ).loc Cert.FfndReferenceIdeal.main_arg2) = m' ((c.tc : Thread Cert.FfndReferenceIdeal.nD Cert.FfndReferenceIdeal.τ).loc Cert.FfndReferenceIdeal.main_arg2)
          ∧ r.2.mem ((c.tc : Thread Cert.FfndReferenceIdeal.nD Cert.FfndReferenceIdeal.τ).loc Cert.FfndReferenceIdeal.main_arg3) = m' ((c.tc : Thread Cert.FfndReferenceIdeal.nD Cert.FfndReferenceIdeal.τ).loc Cert.FfndReferenceIdeal.main_arg3)
          ∧ r.2.mem ((c.tc : Thread Cert.FfndReferenceIdeal.nD Cert.FfndReferenceIdeal.τ).loc Cert.FfndReferenceIdeal.main_arg4) = m' ((c.tc : Thread Cert.FfndReferenceIdeal.nD Cert.FfndReferenceIdeal.τ).loc Cert.FfndReferenceIdeal.main_arg4))

def preserves_MobKernel_MobKernelIdeal : Prop :=
  True

def algebraic_MobKernelIdeal_MobReferenceIdeal [hMobKernelIdeal : Cert.MobKernelIdeal.Facts] [hMobReferenceIdeal : Cert.MobReferenceIdeal.Facts] : Prop :=
  ∀ (m : (ℓ : Loc Cert.MobKernelIdeal.nD Cert.MobKernelIdeal.τ Cert.MobKernelIdeal.sig) → Buf (Elt Ideal) ℓ) (g : Dev Cert.MobKernelIdeal.nD → PrngReg)
    (m' : (ℓ : Loc Cert.MobReferenceIdeal.nD Cert.MobReferenceIdeal.τ Cert.MobReferenceIdeal.sig) → Buf (Elt Ideal) ℓ) (g' : Dev Cert.MobReferenceIdeal.nD → PrngReg), Pre_MobKernelIdeal m →
    (∀ c : Dev Cert.MobKernelIdeal.nD,
      m' ((c.tc : Thread Cert.MobReferenceIdeal.nD Cert.MobReferenceIdeal.τ).loc Cert.MobReferenceIdeal.main_arg0) = m ((c.tc : Thread Cert.MobKernelIdeal.nD Cert.MobKernelIdeal.τ).loc Cert.MobKernelIdeal.main_arg0)
      ∧ m' ((c.tc : Thread Cert.MobReferenceIdeal.nD Cert.MobReferenceIdeal.τ).loc Cert.MobReferenceIdeal.main_arg1) = m ((c.tc : Thread Cert.MobKernelIdeal.nD Cert.MobKernelIdeal.τ).loc Cert.MobKernelIdeal.main_arg1)
      ∧ m' ((c.tc : Thread Cert.MobReferenceIdeal.nD Cert.MobReferenceIdeal.τ).loc Cert.MobReferenceIdeal.main_arg2) = m ((c.tc : Thread Cert.MobKernelIdeal.nD Cert.MobKernelIdeal.τ).loc Cert.MobKernelIdeal.main_arg2)
      ∧ m' ((c.tc : Thread Cert.MobReferenceIdeal.nD Cert.MobReferenceIdeal.τ).loc Cert.MobReferenceIdeal.main_arg3) = m ((c.tc : Thread Cert.MobKernelIdeal.nD Cert.MobKernelIdeal.τ).loc Cert.MobKernelIdeal.main_arg3)) →
    ∃ (v0 : (c : Dev Cert.MobKernelIdeal.nD) → Buf (Elt Ideal) ((c.tc : Thread Cert.MobKernelIdeal.nD Cert.MobKernelIdeal.τ).loc Cert.MobKernelIdeal.main_v6_0)) (v1 : (c : Dev Cert.MobKernelIdeal.nD) → Buf (Elt Ideal) ((c.tc : Thread Cert.MobKernelIdeal.nD Cert.MobKernelIdeal.τ).loc Cert.MobKernelIdeal.main_v6_1)) (v2 : (c : Dev Cert.MobKernelIdeal.nD) → Buf (Elt Ideal) ((c.tc : Thread Cert.MobKernelIdeal.nD Cert.MobKernelIdeal.τ).loc Cert.MobKernelIdeal.main_v6_2)),
      θ_run (Cert.MobKernelIdeal.defs (F := Ideal)) (onTc (τ := Cert.MobKernelIdeal.τ) (Cert.MobKernelIdeal.main (F := Ideal))) ⟨m, fun _ => 0, g⟩ (fun r => ∀ c : Dev Cert.MobKernelIdeal.nD,
          r.2.mem ((c.tc : Thread Cert.MobKernelIdeal.nD Cert.MobKernelIdeal.τ).loc Cert.MobKernelIdeal.main_v6_0) = v0 c
          ∧ r.2.mem ((c.tc : Thread Cert.MobKernelIdeal.nD Cert.MobKernelIdeal.τ).loc Cert.MobKernelIdeal.main_v6_1) = v1 c
          ∧ r.2.mem ((c.tc : Thread Cert.MobKernelIdeal.nD Cert.MobKernelIdeal.τ).loc Cert.MobKernelIdeal.main_v6_2) = v2 c
          ∧ r.2.mem ((c.tc : Thread Cert.MobKernelIdeal.nD Cert.MobKernelIdeal.τ).loc Cert.MobKernelIdeal.main_arg0) = m ((c.tc : Thread Cert.MobKernelIdeal.nD Cert.MobKernelIdeal.τ).loc Cert.MobKernelIdeal.main_arg0)
          ∧ r.2.mem ((c.tc : Thread Cert.MobKernelIdeal.nD Cert.MobKernelIdeal.τ).loc Cert.MobKernelIdeal.main_arg1) = m ((c.tc : Thread Cert.MobKernelIdeal.nD Cert.MobKernelIdeal.τ).loc Cert.MobKernelIdeal.main_arg1)
          ∧ r.2.mem ((c.tc : Thread Cert.MobKernelIdeal.nD Cert.MobKernelIdeal.τ).loc Cert.MobKernelIdeal.main_arg2) = m ((c.tc : Thread Cert.MobKernelIdeal.nD Cert.MobKernelIdeal.τ).loc Cert.MobKernelIdeal.main_arg2)
          ∧ r.2.mem ((c.tc : Thread Cert.MobKernelIdeal.nD Cert.MobKernelIdeal.τ).loc Cert.MobKernelIdeal.main_arg3) = m ((c.tc : Thread Cert.MobKernelIdeal.nD Cert.MobKernelIdeal.τ).loc Cert.MobKernelIdeal.main_arg3))
      ∧ θ_run (Cert.MobReferenceIdeal.defs (F := Ideal)) (onTc (τ := Cert.MobReferenceIdeal.τ) (Cert.MobReferenceIdeal.main (F := Ideal))) ⟨m', fun _ => 0, g'⟩ (fun r => ∀ c : Dev Cert.MobReferenceIdeal.nD,
          r.2.mem ((c.tc : Thread Cert.MobReferenceIdeal.nD Cert.MobReferenceIdeal.τ).loc Cert.MobReferenceIdeal.main_v38) = v0 c
          ∧ r.2.mem ((c.tc : Thread Cert.MobReferenceIdeal.nD Cert.MobReferenceIdeal.τ).loc Cert.MobReferenceIdeal.main_v18) = v1 c
          ∧ r.2.mem ((c.tc : Thread Cert.MobReferenceIdeal.nD Cert.MobReferenceIdeal.τ).loc Cert.MobReferenceIdeal.main_v40) = v2 c
          ∧ r.2.mem ((c.tc : Thread Cert.MobReferenceIdeal.nD Cert.MobReferenceIdeal.τ).loc Cert.MobReferenceIdeal.main_arg0) = m' ((c.tc : Thread Cert.MobReferenceIdeal.nD Cert.MobReferenceIdeal.τ).loc Cert.MobReferenceIdeal.main_arg0)
          ∧ r.2.mem ((c.tc : Thread Cert.MobReferenceIdeal.nD Cert.MobReferenceIdeal.τ).loc Cert.MobReferenceIdeal.main_arg1) = m' ((c.tc : Thread Cert.MobReferenceIdeal.nD Cert.MobReferenceIdeal.τ).loc Cert.MobReferenceIdeal.main_arg1)
          ∧ r.2.mem ((c.tc : Thread Cert.MobReferenceIdeal.nD Cert.MobReferenceIdeal.τ).loc Cert.MobReferenceIdeal.main_arg2) = m' ((c.tc : Thread Cert.MobReferenceIdeal.nD Cert.MobReferenceIdeal.τ).loc Cert.MobReferenceIdeal.main_arg2)
          ∧ r.2.mem ((c.tc : Thread Cert.MobReferenceIdeal.nD Cert.MobReferenceIdeal.τ).loc Cert.MobReferenceIdeal.main_arg3) = m' ((c.tc : Thread Cert.MobReferenceIdeal.nD Cert.MobReferenceIdeal.τ).loc Cert.MobReferenceIdeal.main_arg3))

def preserves_UpbKernel_UpbKernelIdeal : Prop :=
  True

def algebraic_UpbKernelIdeal_UpbReferenceIdeal [hUpbKernelIdeal : Cert.UpbKernelIdeal.Facts] [hUpbReferenceIdeal : Cert.UpbReferenceIdeal.Facts] : Prop :=
  ∀ (m : (ℓ : Loc Cert.UpbKernelIdeal.nD Cert.UpbKernelIdeal.τ Cert.UpbKernelIdeal.sig) → Buf (Elt Ideal) ℓ) (g : Dev Cert.UpbKernelIdeal.nD → PrngReg)
    (m' : (ℓ : Loc Cert.UpbReferenceIdeal.nD Cert.UpbReferenceIdeal.τ Cert.UpbReferenceIdeal.sig) → Buf (Elt Ideal) ℓ) (g' : Dev Cert.UpbReferenceIdeal.nD → PrngReg), Pre_UpbKernelIdeal m →
    (∀ c : Dev Cert.UpbKernelIdeal.nD,
      m' ((c.tc : Thread Cert.UpbReferenceIdeal.nD Cert.UpbReferenceIdeal.τ).loc Cert.UpbReferenceIdeal.main_arg0) = m ((c.tc : Thread Cert.UpbKernelIdeal.nD Cert.UpbKernelIdeal.τ).loc Cert.UpbKernelIdeal.main_arg0)
      ∧ m' ((c.tc : Thread Cert.UpbReferenceIdeal.nD Cert.UpbReferenceIdeal.τ).loc Cert.UpbReferenceIdeal.main_arg1) = m ((c.tc : Thread Cert.UpbKernelIdeal.nD Cert.UpbKernelIdeal.τ).loc Cert.UpbKernelIdeal.main_arg1)
      ∧ m' ((c.tc : Thread Cert.UpbReferenceIdeal.nD Cert.UpbReferenceIdeal.τ).loc Cert.UpbReferenceIdeal.main_arg2) = m ((c.tc : Thread Cert.UpbKernelIdeal.nD Cert.UpbKernelIdeal.τ).loc Cert.UpbKernelIdeal.main_arg2)
      ∧ m' ((c.tc : Thread Cert.UpbReferenceIdeal.nD Cert.UpbReferenceIdeal.τ).loc Cert.UpbReferenceIdeal.main_arg3) = m ((c.tc : Thread Cert.UpbKernelIdeal.nD Cert.UpbKernelIdeal.τ).loc Cert.UpbKernelIdeal.main_arg3)
      ∧ m' ((c.tc : Thread Cert.UpbReferenceIdeal.nD Cert.UpbReferenceIdeal.τ).loc Cert.UpbReferenceIdeal.main_arg4) = m ((c.tc : Thread Cert.UpbKernelIdeal.nD Cert.UpbKernelIdeal.τ).loc Cert.UpbKernelIdeal.main_arg4)
      ∧ m' ((c.tc : Thread Cert.UpbReferenceIdeal.nD Cert.UpbReferenceIdeal.τ).loc Cert.UpbReferenceIdeal.main_arg5) = m ((c.tc : Thread Cert.UpbKernelIdeal.nD Cert.UpbKernelIdeal.τ).loc Cert.UpbKernelIdeal.main_arg5)
      ∧ m' ((c.tc : Thread Cert.UpbReferenceIdeal.nD Cert.UpbReferenceIdeal.τ).loc Cert.UpbReferenceIdeal.main_arg6) = m ((c.tc : Thread Cert.UpbKernelIdeal.nD Cert.UpbKernelIdeal.τ).loc Cert.UpbKernelIdeal.main_arg6)) →
    ∃ (v0 : (c : Dev Cert.UpbKernelIdeal.nD) → Buf (Elt Ideal) ((c.tc : Thread Cert.UpbKernelIdeal.nD Cert.UpbKernelIdeal.τ).loc Cert.UpbKernelIdeal.main_v12_0)) (v1 : (c : Dev Cert.UpbKernelIdeal.nD) → Buf (Elt Ideal) ((c.tc : Thread Cert.UpbKernelIdeal.nD Cert.UpbKernelIdeal.τ).loc Cert.UpbKernelIdeal.main_v12_1)),
      θ_run (Cert.UpbKernelIdeal.defs (F := Ideal)) (onTc (τ := Cert.UpbKernelIdeal.τ) (Cert.UpbKernelIdeal.main (F := Ideal))) ⟨m, fun _ => 0, g⟩ (fun r => ∀ c : Dev Cert.UpbKernelIdeal.nD,
          r.2.mem ((c.tc : Thread Cert.UpbKernelIdeal.nD Cert.UpbKernelIdeal.τ).loc Cert.UpbKernelIdeal.main_v12_0) = v0 c
          ∧ r.2.mem ((c.tc : Thread Cert.UpbKernelIdeal.nD Cert.UpbKernelIdeal.τ).loc Cert.UpbKernelIdeal.main_v12_1) = v1 c
          ∧ r.2.mem ((c.tc : Thread Cert.UpbKernelIdeal.nD Cert.UpbKernelIdeal.τ).loc Cert.UpbKernelIdeal.main_arg0) = m ((c.tc : Thread Cert.UpbKernelIdeal.nD Cert.UpbKernelIdeal.τ).loc Cert.UpbKernelIdeal.main_arg0)
          ∧ r.2.mem ((c.tc : Thread Cert.UpbKernelIdeal.nD Cert.UpbKernelIdeal.τ).loc Cert.UpbKernelIdeal.main_arg1) = m ((c.tc : Thread Cert.UpbKernelIdeal.nD Cert.UpbKernelIdeal.τ).loc Cert.UpbKernelIdeal.main_arg1)
          ∧ r.2.mem ((c.tc : Thread Cert.UpbKernelIdeal.nD Cert.UpbKernelIdeal.τ).loc Cert.UpbKernelIdeal.main_arg2) = m ((c.tc : Thread Cert.UpbKernelIdeal.nD Cert.UpbKernelIdeal.τ).loc Cert.UpbKernelIdeal.main_arg2)
          ∧ r.2.mem ((c.tc : Thread Cert.UpbKernelIdeal.nD Cert.UpbKernelIdeal.τ).loc Cert.UpbKernelIdeal.main_arg3) = m ((c.tc : Thread Cert.UpbKernelIdeal.nD Cert.UpbKernelIdeal.τ).loc Cert.UpbKernelIdeal.main_arg3)
          ∧ r.2.mem ((c.tc : Thread Cert.UpbKernelIdeal.nD Cert.UpbKernelIdeal.τ).loc Cert.UpbKernelIdeal.main_arg4) = m ((c.tc : Thread Cert.UpbKernelIdeal.nD Cert.UpbKernelIdeal.τ).loc Cert.UpbKernelIdeal.main_arg4)
          ∧ r.2.mem ((c.tc : Thread Cert.UpbKernelIdeal.nD Cert.UpbKernelIdeal.τ).loc Cert.UpbKernelIdeal.main_arg5) = m ((c.tc : Thread Cert.UpbKernelIdeal.nD Cert.UpbKernelIdeal.τ).loc Cert.UpbKernelIdeal.main_arg5)
          ∧ r.2.mem ((c.tc : Thread Cert.UpbKernelIdeal.nD Cert.UpbKernelIdeal.τ).loc Cert.UpbKernelIdeal.main_arg6) = m ((c.tc : Thread Cert.UpbKernelIdeal.nD Cert.UpbKernelIdeal.τ).loc Cert.UpbKernelIdeal.main_arg6))
      ∧ θ_run (Cert.UpbReferenceIdeal.defs (F := Ideal)) (onTc (τ := Cert.UpbReferenceIdeal.τ) (Cert.UpbReferenceIdeal.main (F := Ideal))) ⟨m', fun _ => 0, g'⟩ (fun r => ∀ c : Dev Cert.UpbReferenceIdeal.nD,
          r.2.mem ((c.tc : Thread Cert.UpbReferenceIdeal.nD Cert.UpbReferenceIdeal.τ).loc Cert.UpbReferenceIdeal.main_v41) = v0 c
          ∧ r.2.mem ((c.tc : Thread Cert.UpbReferenceIdeal.nD Cert.UpbReferenceIdeal.τ).loc Cert.UpbReferenceIdeal.main_v22) = v1 c
          ∧ r.2.mem ((c.tc : Thread Cert.UpbReferenceIdeal.nD Cert.UpbReferenceIdeal.τ).loc Cert.UpbReferenceIdeal.main_arg0) = m' ((c.tc : Thread Cert.UpbReferenceIdeal.nD Cert.UpbReferenceIdeal.τ).loc Cert.UpbReferenceIdeal.main_arg0)
          ∧ r.2.mem ((c.tc : Thread Cert.UpbReferenceIdeal.nD Cert.UpbReferenceIdeal.τ).loc Cert.UpbReferenceIdeal.main_arg1) = m' ((c.tc : Thread Cert.UpbReferenceIdeal.nD Cert.UpbReferenceIdeal.τ).loc Cert.UpbReferenceIdeal.main_arg1)
          ∧ r.2.mem ((c.tc : Thread Cert.UpbReferenceIdeal.nD Cert.UpbReferenceIdeal.τ).loc Cert.UpbReferenceIdeal.main_arg2) = m' ((c.tc : Thread Cert.UpbReferenceIdeal.nD Cert.UpbReferenceIdeal.τ).loc Cert.UpbReferenceIdeal.main_arg2)
          ∧ r.2.mem ((c.tc : Thread Cert.UpbReferenceIdeal.nD Cert.UpbReferenceIdeal.τ).loc Cert.UpbReferenceIdeal.main_arg3) = m' ((c.tc : Thread Cert.UpbReferenceIdeal.nD Cert.UpbReferenceIdeal.τ).loc Cert.UpbReferenceIdeal.main_arg3)
          ∧ r.2.mem ((c.tc : Thread Cert.UpbReferenceIdeal.nD Cert.UpbReferenceIdeal.τ).loc Cert.UpbReferenceIdeal.main_arg4) = m' ((c.tc : Thread Cert.UpbReferenceIdeal.nD Cert.UpbReferenceIdeal.τ).loc Cert.UpbReferenceIdeal.main_arg4)
          ∧ r.2.mem ((c.tc : Thread Cert.UpbReferenceIdeal.nD Cert.UpbReferenceIdeal.τ).loc Cert.UpbReferenceIdeal.main_arg5) = m' ((c.tc : Thread Cert.UpbReferenceIdeal.nD Cert.UpbReferenceIdeal.τ).loc Cert.UpbReferenceIdeal.main_arg5)
          ∧ r.2.mem ((c.tc : Thread Cert.UpbReferenceIdeal.nD Cert.UpbReferenceIdeal.τ).loc Cert.UpbReferenceIdeal.main_arg6) = m' ((c.tc : Thread Cert.UpbReferenceIdeal.nD Cert.UpbReferenceIdeal.τ).loc Cert.UpbReferenceIdeal.main_arg6))

def preserves_SwfKernel_SwfKernelIdeal : Prop :=
  IdealRules.named_const.Statement Cert.SwfKernelIdeal.κ "gap" .f32 0x7149F2CA#32 ⊤

def algebraic_SwfKernelIdeal_SwfReferenceIdeal_pre_swf_finite [hSwfKernelIdeal : Cert.SwfKernelIdeal.Facts] [hSwfReferenceIdeal : Cert.SwfReferenceIdeal.Facts] [hPre_swf_finite : Cert.Pre_swf_finite.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg)
    (m' : (ℓ : Loc Cert.SwfReferenceIdeal.nD Cert.SwfReferenceIdeal.τ Cert.SwfReferenceIdeal.sig) → Buf (Elt Ideal) ℓ) (g' : Dev Cert.SwfReferenceIdeal.nD → PrngReg), Pre_SwfKernelIdeal_swf_finite m →
    (∀ c : Dev Cert.SwfKernelIdeal.nD,
      m' ((c.tc : Thread Cert.SwfReferenceIdeal.nD Cert.SwfReferenceIdeal.τ).loc Cert.SwfReferenceIdeal.main_arg0) = m ((c.tc : Thread Cert.SwfKernelIdeal.nD Cert.SwfKernelIdeal.τ).loc Cert.SwfKernelIdeal.main_arg0)
      ∧ m' ((c.tc : Thread Cert.SwfReferenceIdeal.nD Cert.SwfReferenceIdeal.τ).loc Cert.SwfReferenceIdeal.main_arg1) = m ((c.tc : Thread Cert.SwfKernelIdeal.nD Cert.SwfKernelIdeal.τ).loc Cert.SwfKernelIdeal.main_arg1)
      ∧ m' ((c.tc : Thread Cert.SwfReferenceIdeal.nD Cert.SwfReferenceIdeal.τ).loc Cert.SwfReferenceIdeal.main_arg2) = m ((c.tc : Thread Cert.SwfKernelIdeal.nD Cert.SwfKernelIdeal.τ).loc Cert.SwfKernelIdeal.main_arg2)) →
    ∃ (v0 : (c : Dev Cert.SwfKernelIdeal.nD) → Buf (Elt Ideal) ((c.tc : Thread Cert.SwfKernelIdeal.nD Cert.SwfKernelIdeal.τ).loc Cert.SwfKernelIdeal.main_v81)),
      θ_run (Cert.SwfKernelIdeal.defs (F := Ideal)) (onTc (τ := Cert.SwfKernelIdeal.τ) (Cert.SwfKernelIdeal.main (F := Ideal))) ⟨m, fun _ => 0, g⟩ (fun r => ∀ c : Dev Cert.SwfKernelIdeal.nD,
          r.2.mem ((c.tc : Thread Cert.SwfKernelIdeal.nD Cert.SwfKernelIdeal.τ).loc Cert.SwfKernelIdeal.main_v81) = v0 c
          ∧ r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0)
          ∧ r.2.mem ((c.tc : Thread Cert.SwfKernelIdeal.nD Cert.SwfKernelIdeal.τ).loc Cert.SwfKernelIdeal.main_arg1) = m ((c.tc : Thread Cert.SwfKernelIdeal.nD Cert.SwfKernelIdeal.τ).loc Cert.SwfKernelIdeal.main_arg1)
          ∧ r.2.mem ((c.tc : Thread Cert.SwfKernelIdeal.nD Cert.SwfKernelIdeal.τ).loc Cert.SwfKernelIdeal.main_arg2) = m ((c.tc : Thread Cert.SwfKernelIdeal.nD Cert.SwfKernelIdeal.τ).loc Cert.SwfKernelIdeal.main_arg2))
      ∧ θ_run (Cert.SwfReferenceIdeal.defs (F := Ideal)) (onTc (τ := Cert.SwfReferenceIdeal.τ) (Cert.SwfReferenceIdeal.main (F := Ideal))) ⟨m', fun _ => 0, g'⟩ (fun r => ∀ c : Dev Cert.SwfReferenceIdeal.nD,
          r.2.mem ((c.tc : Thread Cert.SwfReferenceIdeal.nD Cert.SwfReferenceIdeal.τ).loc Cert.SwfReferenceIdeal.main_v166) = v0 c
          ∧ r.2.mem ((c.tc : Thread Cert.SwfReferenceIdeal.nD Cert.SwfReferenceIdeal.τ).loc Cert.SwfReferenceIdeal.main_arg0) = m' ((c.tc : Thread Cert.SwfReferenceIdeal.nD Cert.SwfReferenceIdeal.τ).loc Cert.SwfReferenceIdeal.main_arg0)
          ∧ r.2.mem ((c.tc : Thread Cert.SwfReferenceIdeal.nD Cert.SwfReferenceIdeal.τ).loc Cert.SwfReferenceIdeal.main_arg1) = m' ((c.tc : Thread Cert.SwfReferenceIdeal.nD Cert.SwfReferenceIdeal.τ).loc Cert.SwfReferenceIdeal.main_arg1)
          ∧ r.2.mem ((c.tc : Thread Cert.SwfReferenceIdeal.nD Cert.SwfReferenceIdeal.τ).loc Cert.SwfReferenceIdeal.main_arg2) = m' ((c.tc : Thread Cert.SwfReferenceIdeal.nD Cert.SwfReferenceIdeal.τ).loc Cert.SwfReferenceIdeal.main_arg2))

def preserves_GlfKernel_GlfKernelIdeal : Prop :=
  True

def algebraic_GlfKernelIdeal_GlfReferenceIdeal_pre_glf_finite [hGlfKernelIdeal : Cert.GlfKernelIdeal.Facts] [hGlfReferenceIdeal : Cert.GlfReferenceIdeal.Facts] [hPre_glf_finite : Cert.Pre_glf_finite.Facts] : Prop :=
  ∀ (m : (ℓ : Loc Cert.GlfKernelIdeal.nD Cert.GlfKernelIdeal.τ Cert.GlfKernelIdeal.sig) → Buf (Elt Ideal) ℓ) (g : Dev Cert.GlfKernelIdeal.nD → PrngReg)
    (m' : (ℓ : Loc Cert.GlfReferenceIdeal.nD Cert.GlfReferenceIdeal.τ Cert.GlfReferenceIdeal.sig) → Buf (Elt Ideal) ℓ) (g' : Dev Cert.GlfReferenceIdeal.nD → PrngReg), Pre_GlfKernelIdeal_glf_finite m →
    (∀ c : Dev Cert.GlfKernelIdeal.nD,
      m' ((c.tc : Thread Cert.GlfReferenceIdeal.nD Cert.GlfReferenceIdeal.τ).loc Cert.GlfReferenceIdeal.main_arg0) = m ((c.tc : Thread Cert.GlfKernelIdeal.nD Cert.GlfKernelIdeal.τ).loc Cert.GlfKernelIdeal.main_arg0)
      ∧ m' ((c.tc : Thread Cert.GlfReferenceIdeal.nD Cert.GlfReferenceIdeal.τ).loc Cert.GlfReferenceIdeal.main_arg1) = m ((c.tc : Thread Cert.GlfKernelIdeal.nD Cert.GlfKernelIdeal.τ).loc Cert.GlfKernelIdeal.main_arg1)
      ∧ m' ((c.tc : Thread Cert.GlfReferenceIdeal.nD Cert.GlfReferenceIdeal.τ).loc Cert.GlfReferenceIdeal.main_arg2) = m ((c.tc : Thread Cert.GlfKernelIdeal.nD Cert.GlfKernelIdeal.τ).loc Cert.GlfKernelIdeal.main_arg2)
      ∧ m' ((c.tc : Thread Cert.GlfReferenceIdeal.nD Cert.GlfReferenceIdeal.τ).loc Cert.GlfReferenceIdeal.main_arg3) = m ((c.tc : Thread Cert.GlfKernelIdeal.nD Cert.GlfKernelIdeal.τ).loc Cert.GlfKernelIdeal.main_arg3)) →
    ∃ (v0 : (c : Dev Cert.GlfKernelIdeal.nD) → Buf (Elt Ideal) ((c.tc : Thread Cert.GlfKernelIdeal.nD Cert.GlfKernelIdeal.τ).loc Cert.GlfKernelIdeal.main_v4_0)),
      θ_run (Cert.GlfKernelIdeal.defs (F := Ideal)) (onTc (τ := Cert.GlfKernelIdeal.τ) (Cert.GlfKernelIdeal.main (F := Ideal))) ⟨m, fun _ => 0, g⟩ (fun r => ∀ c : Dev Cert.GlfKernelIdeal.nD,
          r.2.mem ((c.tc : Thread Cert.GlfKernelIdeal.nD Cert.GlfKernelIdeal.τ).loc Cert.GlfKernelIdeal.main_v4_0) = v0 c
          ∧ r.2.mem ((c.tc : Thread Cert.GlfKernelIdeal.nD Cert.GlfKernelIdeal.τ).loc Cert.GlfKernelIdeal.main_arg0) = m ((c.tc : Thread Cert.GlfKernelIdeal.nD Cert.GlfKernelIdeal.τ).loc Cert.GlfKernelIdeal.main_arg0)
          ∧ r.2.mem ((c.tc : Thread Cert.GlfKernelIdeal.nD Cert.GlfKernelIdeal.τ).loc Cert.GlfKernelIdeal.main_arg1) = m ((c.tc : Thread Cert.GlfKernelIdeal.nD Cert.GlfKernelIdeal.τ).loc Cert.GlfKernelIdeal.main_arg1)
          ∧ r.2.mem ((c.tc : Thread Cert.GlfKernelIdeal.nD Cert.GlfKernelIdeal.τ).loc Cert.GlfKernelIdeal.main_arg2) = m ((c.tc : Thread Cert.GlfKernelIdeal.nD Cert.GlfKernelIdeal.τ).loc Cert.GlfKernelIdeal.main_arg2)
          ∧ r.2.mem ((c.tc : Thread Cert.GlfKernelIdeal.nD Cert.GlfKernelIdeal.τ).loc Cert.GlfKernelIdeal.main_arg3) = m ((c.tc : Thread Cert.GlfKernelIdeal.nD Cert.GlfKernelIdeal.τ).loc Cert.GlfKernelIdeal.main_arg3))
      ∧ θ_run (Cert.GlfReferenceIdeal.defs (F := Ideal)) (onTc (τ := Cert.GlfReferenceIdeal.τ) (Cert.GlfReferenceIdeal.main (F := Ideal))) ⟨m', fun _ => 0, g'⟩ (fun r => ∀ c : Dev Cert.GlfReferenceIdeal.nD,
          r.2.mem ((c.tc : Thread Cert.GlfReferenceIdeal.nD Cert.GlfReferenceIdeal.τ).loc Cert.GlfReferenceIdeal.main_v97) = v0 c
          ∧ r.2.mem ((c.tc : Thread Cert.GlfReferenceIdeal.nD Cert.GlfReferenceIdeal.τ).loc Cert.GlfReferenceIdeal.main_arg0) = m' ((c.tc : Thread Cert.GlfReferenceIdeal.nD Cert.GlfReferenceIdeal.τ).loc Cert.GlfReferenceIdeal.main_arg0)
          ∧ r.2.mem ((c.tc : Thread Cert.GlfReferenceIdeal.nD Cert.GlfReferenceIdeal.τ).loc Cert.GlfReferenceIdeal.main_arg1) = m' ((c.tc : Thread Cert.GlfReferenceIdeal.nD Cert.GlfReferenceIdeal.τ).loc Cert.GlfReferenceIdeal.main_arg1)
          ∧ r.2.mem ((c.tc : Thread Cert.GlfReferenceIdeal.nD Cert.GlfReferenceIdeal.τ).loc Cert.GlfReferenceIdeal.main_arg2) = m' ((c.tc : Thread Cert.GlfReferenceIdeal.nD Cert.GlfReferenceIdeal.τ).loc Cert.GlfReferenceIdeal.main_arg2)
          ∧ r.2.mem ((c.tc : Thread Cert.GlfReferenceIdeal.nD Cert.GlfReferenceIdeal.τ).loc Cert.GlfReferenceIdeal.main_arg3) = m' ((c.tc : Thread Cert.GlfReferenceIdeal.nD Cert.GlfReferenceIdeal.τ).loc Cert.GlfReferenceIdeal.main_arg3))

def preserves_DnfKernel_DnfKernelIdeal : Prop :=
  True

def algebraic_DnfKernelIdeal_DnfReferenceIdeal_pre_dnf_finite [hDnfKernelIdeal : Cert.DnfKernelIdeal.Facts] [hDnfReferenceIdeal : Cert.DnfReferenceIdeal.Facts] [hPre_dnf_finite : Cert.Pre_dnf_finite.Facts] : Prop :=
  ∀ (m : (ℓ : Loc Cert.DnfKernelIdeal.nD Cert.DnfKernelIdeal.τ Cert.DnfKernelIdeal.sig) → Buf (Elt Ideal) ℓ) (g : Dev Cert.DnfKernelIdeal.nD → PrngReg)
    (m' : (ℓ : Loc Cert.DnfReferenceIdeal.nD Cert.DnfReferenceIdeal.τ Cert.DnfReferenceIdeal.sig) → Buf (Elt Ideal) ℓ) (g' : Dev Cert.DnfReferenceIdeal.nD → PrngReg), Pre_DnfKernelIdeal_dnf_finite m →
    (∀ c : Dev Cert.DnfKernelIdeal.nD,
      m' ((c.tc : Thread Cert.DnfReferenceIdeal.nD Cert.DnfReferenceIdeal.τ).loc Cert.DnfReferenceIdeal.main_arg0) = m ((c.tc : Thread Cert.DnfKernelIdeal.nD Cert.DnfKernelIdeal.τ).loc Cert.DnfKernelIdeal.main_arg0)
      ∧ m' ((c.tc : Thread Cert.DnfReferenceIdeal.nD Cert.DnfReferenceIdeal.τ).loc Cert.DnfReferenceIdeal.main_arg1) = m ((c.tc : Thread Cert.DnfKernelIdeal.nD Cert.DnfKernelIdeal.τ).loc Cert.DnfKernelIdeal.main_arg1)
      ∧ m' ((c.tc : Thread Cert.DnfReferenceIdeal.nD Cert.DnfReferenceIdeal.τ).loc Cert.DnfReferenceIdeal.main_arg2) = m ((c.tc : Thread Cert.DnfKernelIdeal.nD Cert.DnfKernelIdeal.τ).loc Cert.DnfKernelIdeal.main_arg2)
      ∧ m' ((c.tc : Thread Cert.DnfReferenceIdeal.nD Cert.DnfReferenceIdeal.τ).loc Cert.DnfReferenceIdeal.main_arg3) = m ((c.tc : Thread Cert.DnfKernelIdeal.nD Cert.DnfKernelIdeal.τ).loc Cert.DnfKernelIdeal.main_arg3)
      ∧ m' ((c.tc : Thread Cert.DnfReferenceIdeal.nD Cert.DnfReferenceIdeal.τ).loc Cert.DnfReferenceIdeal.main_arg4) = m ((c.tc : Thread Cert.DnfKernelIdeal.nD Cert.DnfKernelIdeal.τ).loc Cert.DnfKernelIdeal.main_arg4)) →
    ∃ (v0 : (c : Dev Cert.DnfKernelIdeal.nD) → Buf (Elt Ideal) ((c.tc : Thread Cert.DnfKernelIdeal.nD Cert.DnfKernelIdeal.τ).loc Cert.DnfKernelIdeal.main_v19_0)),
      θ_run (Cert.DnfKernelIdeal.defs (F := Ideal)) (onTc (τ := Cert.DnfKernelIdeal.τ) (Cert.DnfKernelIdeal.main (F := Ideal))) ⟨m, fun _ => 0, g⟩ (fun r => ∀ c : Dev Cert.DnfKernelIdeal.nD,
          r.2.mem ((c.tc : Thread Cert.DnfKernelIdeal.nD Cert.DnfKernelIdeal.τ).loc Cert.DnfKernelIdeal.main_v19_0) = v0 c
          ∧ r.2.mem ((c.tc : Thread Cert.DnfKernelIdeal.nD Cert.DnfKernelIdeal.τ).loc Cert.DnfKernelIdeal.main_arg0) = m ((c.tc : Thread Cert.DnfKernelIdeal.nD Cert.DnfKernelIdeal.τ).loc Cert.DnfKernelIdeal.main_arg0)
          ∧ r.2.mem ((c.tc : Thread Cert.DnfKernelIdeal.nD Cert.DnfKernelIdeal.τ).loc Cert.DnfKernelIdeal.main_arg1) = m ((c.tc : Thread Cert.DnfKernelIdeal.nD Cert.DnfKernelIdeal.τ).loc Cert.DnfKernelIdeal.main_arg1)
          ∧ r.2.mem ((c.tc : Thread Cert.DnfKernelIdeal.nD Cert.DnfKernelIdeal.τ).loc Cert.DnfKernelIdeal.main_arg2) = m ((c.tc : Thread Cert.DnfKernelIdeal.nD Cert.DnfKernelIdeal.τ).loc Cert.DnfKernelIdeal.main_arg2)
          ∧ r.2.mem ((c.tc : Thread Cert.DnfKernelIdeal.nD Cert.DnfKernelIdeal.τ).loc Cert.DnfKernelIdeal.main_arg3) = m ((c.tc : Thread Cert.DnfKernelIdeal.nD Cert.DnfKernelIdeal.τ).loc Cert.DnfKernelIdeal.main_arg3)
          ∧ r.2.mem ((c.tc : Thread Cert.DnfKernelIdeal.nD Cert.DnfKernelIdeal.τ).loc Cert.DnfKernelIdeal.main_arg4) = m ((c.tc : Thread Cert.DnfKernelIdeal.nD Cert.DnfKernelIdeal.τ).loc Cert.DnfKernelIdeal.main_arg4))
      ∧ θ_run (Cert.DnfReferenceIdeal.defs (F := Ideal)) (onTc (τ := Cert.DnfReferenceIdeal.τ) (Cert.DnfReferenceIdeal.main (F := Ideal))) ⟨m', fun _ => 0, g'⟩ (fun r => ∀ c : Dev Cert.DnfReferenceIdeal.nD,
          r.2.mem ((c.tc : Thread Cert.DnfReferenceIdeal.nD Cert.DnfReferenceIdeal.τ).loc Cert.DnfReferenceIdeal.main_v64) = v0 c
          ∧ r.2.mem ((c.tc : Thread Cert.DnfReferenceIdeal.nD Cert.DnfReferenceIdeal.τ).loc Cert.DnfReferenceIdeal.main_arg0) = m' ((c.tc : Thread Cert.DnfReferenceIdeal.nD Cert.DnfReferenceIdeal.τ).loc Cert.DnfReferenceIdeal.main_arg0)
          ∧ r.2.mem ((c.tc : Thread Cert.DnfReferenceIdeal.nD Cert.DnfReferenceIdeal.τ).loc Cert.DnfReferenceIdeal.main_arg1) = m' ((c.tc : Thread Cert.DnfReferenceIdeal.nD Cert.DnfReferenceIdeal.τ).loc Cert.DnfReferenceIdeal.main_arg1)
          ∧ r.2.mem ((c.tc : Thread Cert.DnfReferenceIdeal.nD Cert.DnfReferenceIdeal.τ).loc Cert.DnfReferenceIdeal.main_arg2) = m' ((c.tc : Thread Cert.DnfReferenceIdeal.nD Cert.DnfReferenceIdeal.τ).loc Cert.DnfReferenceIdeal.main_arg2)
          ∧ r.2.mem ((c.tc : Thread Cert.DnfReferenceIdeal.nD Cert.DnfReferenceIdeal.τ).loc Cert.DnfReferenceIdeal.main_arg3) = m' ((c.tc : Thread Cert.DnfReferenceIdeal.nD Cert.DnfReferenceIdeal.τ).loc Cert.DnfReferenceIdeal.main_arg3)
          ∧ r.2.mem ((c.tc : Thread Cert.DnfReferenceIdeal.nD Cert.DnfReferenceIdeal.τ).loc Cert.DnfReferenceIdeal.main_arg4) = m' ((c.tc : Thread Cert.DnfReferenceIdeal.nD Cert.DnfReferenceIdeal.τ).loc Cert.DnfReferenceIdeal.main_arg4))

def preserves_FfuKernel_FfuKernelIdeal : Prop :=
  True

def algebraic_FfuKernelIdeal_FfuReferenceIdeal [hFfuKernelIdeal : Cert.FfuKernelIdeal.Facts] [hFfuReferenceIdeal : Cert.FfuReferenceIdeal.Facts] : Prop :=
  ∀ (m : (ℓ : Loc Cert.FfuKernelIdeal.nD Cert.FfuKernelIdeal.τ Cert.FfuKernelIdeal.sig) → Buf (Elt Ideal) ℓ) (g : Dev Cert.FfuKernelIdeal.nD → PrngReg)
    (m' : (ℓ : Loc Cert.FfuReferenceIdeal.nD Cert.FfuReferenceIdeal.τ Cert.FfuReferenceIdeal.sig) → Buf (Elt Ideal) ℓ) (g' : Dev Cert.FfuReferenceIdeal.nD → PrngReg), Pre_FfuKernelIdeal m →
    (∀ c : Dev Cert.FfuKernelIdeal.nD,
      m' ((c.tc : Thread Cert.FfuReferenceIdeal.nD Cert.FfuReferenceIdeal.τ).loc Cert.FfuReferenceIdeal.main_arg0) = m ((c.tc : Thread Cert.FfuKernelIdeal.nD Cert.FfuKernelIdeal.τ).loc Cert.FfuKernelIdeal.main_arg0)
      ∧ m' ((c.tc : Thread Cert.FfuReferenceIdeal.nD Cert.FfuReferenceIdeal.τ).loc Cert.FfuReferenceIdeal.main_arg1) = m ((c.tc : Thread Cert.FfuKernelIdeal.nD Cert.FfuKernelIdeal.τ).loc Cert.FfuKernelIdeal.main_arg1)
      ∧ m' ((c.tc : Thread Cert.FfuReferenceIdeal.nD Cert.FfuReferenceIdeal.τ).loc Cert.FfuReferenceIdeal.main_arg2) = m ((c.tc : Thread Cert.FfuKernelIdeal.nD Cert.FfuKernelIdeal.τ).loc Cert.FfuKernelIdeal.main_arg2)
      ∧ m' ((c.tc : Thread Cert.FfuReferenceIdeal.nD Cert.FfuReferenceIdeal.τ).loc Cert.FfuReferenceIdeal.main_arg3) = m ((c.tc : Thread Cert.FfuKernelIdeal.nD Cert.FfuKernelIdeal.τ).loc Cert.FfuKernelIdeal.main_arg3)) →
    ∃ (v0 : (c : Dev Cert.FfuKernelIdeal.nD) → Buf (Elt Ideal) ((c.tc : Thread Cert.FfuKernelIdeal.nD Cert.FfuKernelIdeal.τ).loc Cert.FfuKernelIdeal.main_v6_0)) (v1 : (c : Dev Cert.FfuKernelIdeal.nD) → Buf (Elt Ideal) ((c.tc : Thread Cert.FfuKernelIdeal.nD Cert.FfuKernelIdeal.τ).loc Cert.FfuKernelIdeal.main_v6_1)) (v2 : (c : Dev Cert.FfuKernelIdeal.nD) → Buf (Elt Ideal) ((c.tc : Thread Cert.FfuKernelIdeal.nD Cert.FfuKernelIdeal.τ).loc Cert.FfuKernelIdeal.main_v6_2)) (v3 : (c : Dev Cert.FfuKernelIdeal.nD) → Buf (Elt Ideal) ((c.tc : Thread Cert.FfuKernelIdeal.nD Cert.FfuKernelIdeal.τ).loc Cert.FfuKernelIdeal.main_v6_3)),
      θ_run (Cert.FfuKernelIdeal.defs (F := Ideal)) (onTc (τ := Cert.FfuKernelIdeal.τ) (Cert.FfuKernelIdeal.main (F := Ideal))) ⟨m, fun _ => 0, g⟩ (fun r => ∀ c : Dev Cert.FfuKernelIdeal.nD,
          r.2.mem ((c.tc : Thread Cert.FfuKernelIdeal.nD Cert.FfuKernelIdeal.τ).loc Cert.FfuKernelIdeal.main_v6_0) = v0 c
          ∧ r.2.mem ((c.tc : Thread Cert.FfuKernelIdeal.nD Cert.FfuKernelIdeal.τ).loc Cert.FfuKernelIdeal.main_v6_1) = v1 c
          ∧ r.2.mem ((c.tc : Thread Cert.FfuKernelIdeal.nD Cert.FfuKernelIdeal.τ).loc Cert.FfuKernelIdeal.main_v6_2) = v2 c
          ∧ r.2.mem ((c.tc : Thread Cert.FfuKernelIdeal.nD Cert.FfuKernelIdeal.τ).loc Cert.FfuKernelIdeal.main_v6_3) = v3 c
          ∧ r.2.mem ((c.tc : Thread Cert.FfuKernelIdeal.nD Cert.FfuKernelIdeal.τ).loc Cert.FfuKernelIdeal.main_arg0) = m ((c.tc : Thread Cert.FfuKernelIdeal.nD Cert.FfuKernelIdeal.τ).loc Cert.FfuKernelIdeal.main_arg0)
          ∧ r.2.mem ((c.tc : Thread Cert.FfuKernelIdeal.nD Cert.FfuKernelIdeal.τ).loc Cert.FfuKernelIdeal.main_arg1) = m ((c.tc : Thread Cert.FfuKernelIdeal.nD Cert.FfuKernelIdeal.τ).loc Cert.FfuKernelIdeal.main_arg1)
          ∧ r.2.mem ((c.tc : Thread Cert.FfuKernelIdeal.nD Cert.FfuKernelIdeal.τ).loc Cert.FfuKernelIdeal.main_arg2) = m ((c.tc : Thread Cert.FfuKernelIdeal.nD Cert.FfuKernelIdeal.τ).loc Cert.FfuKernelIdeal.main_arg2)
          ∧ r.2.mem ((c.tc : Thread Cert.FfuKernelIdeal.nD Cert.FfuKernelIdeal.τ).loc Cert.FfuKernelIdeal.main_arg3) = m ((c.tc : Thread Cert.FfuKernelIdeal.nD Cert.FfuKernelIdeal.τ).loc Cert.FfuKernelIdeal.main_arg3))
      ∧ θ_run (Cert.FfuReferenceIdeal.defs (F := Ideal)) (onTc (τ := Cert.FfuReferenceIdeal.τ) (Cert.FfuReferenceIdeal.main (F := Ideal))) ⟨m', fun _ => 0, g'⟩ (fun r => ∀ c : Dev Cert.FfuReferenceIdeal.nD,
          r.2.mem ((c.tc : Thread Cert.FfuReferenceIdeal.nD Cert.FfuReferenceIdeal.τ).loc Cert.FfuReferenceIdeal.main_v18) = v0 c
          ∧ r.2.mem ((c.tc : Thread Cert.FfuReferenceIdeal.nD Cert.FfuReferenceIdeal.τ).loc Cert.FfuReferenceIdeal.main_v21) = v1 c
          ∧ r.2.mem ((c.tc : Thread Cert.FfuReferenceIdeal.nD Cert.FfuReferenceIdeal.τ).loc Cert.FfuReferenceIdeal.main_v24) = v2 c
          ∧ r.2.mem ((c.tc : Thread Cert.FfuReferenceIdeal.nD Cert.FfuReferenceIdeal.τ).loc Cert.FfuReferenceIdeal.main_v27) = v3 c
          ∧ r.2.mem ((c.tc : Thread Cert.FfuReferenceIdeal.nD Cert.FfuReferenceIdeal.τ).loc Cert.FfuReferenceIdeal.main_arg0) = m' ((c.tc : Thread Cert.FfuReferenceIdeal.nD Cert.FfuReferenceIdeal.τ).loc Cert.FfuReferenceIdeal.main_arg0)
          ∧ r.2.mem ((c.tc : Thread Cert.FfuReferenceIdeal.nD Cert.FfuReferenceIdeal.τ).loc Cert.FfuReferenceIdeal.main_arg1) = m' ((c.tc : Thread Cert.FfuReferenceIdeal.nD Cert.FfuReferenceIdeal.τ).loc Cert.FfuReferenceIdeal.main_arg1)
          ∧ r.2.mem ((c.tc : Thread Cert.FfuReferenceIdeal.nD Cert.FfuReferenceIdeal.τ).loc Cert.FfuReferenceIdeal.main_arg2) = m' ((c.tc : Thread Cert.FfuReferenceIdeal.nD Cert.FfuReferenceIdeal.τ).loc Cert.FfuReferenceIdeal.main_arg2)
          ∧ r.2.mem ((c.tc : Thread Cert.FfuReferenceIdeal.nD Cert.FfuReferenceIdeal.τ).loc Cert.FfuReferenceIdeal.main_arg3) = m' ((c.tc : Thread Cert.FfuReferenceIdeal.nD Cert.FfuReferenceIdeal.τ).loc Cert.FfuReferenceIdeal.main_arg3))

def preserves_FfdKernel_FfdKernelIdeal : Prop :=
  True

def algebraic_FfdKernelIdeal_FfdReferenceIdeal [hFfdKernelIdeal : Cert.FfdKernelIdeal.Facts] [hFfdReferenceIdeal : Cert.FfdReferenceIdeal.Facts] : Prop :=
  ∀ (m : (ℓ : Loc Cert.FfdKernelIdeal.nD Cert.FfdKernelIdeal.τ Cert.FfdKernelIdeal.sig) → Buf (Elt Ideal) ℓ) (g : Dev Cert.FfdKernelIdeal.nD → PrngReg)
    (m' : (ℓ : Loc Cert.FfdReferenceIdeal.nD Cert.FfdReferenceIdeal.τ Cert.FfdReferenceIdeal.sig) → Buf (Elt Ideal) ℓ) (g' : Dev Cert.FfdReferenceIdeal.nD → PrngReg), Pre_FfdKernelIdeal m →
    (∀ c : Dev Cert.FfdKernelIdeal.nD,
      m' ((c.tc : Thread Cert.FfdReferenceIdeal.nD Cert.FfdReferenceIdeal.τ).loc Cert.FfdReferenceIdeal.main_arg0) = m ((c.tc : Thread Cert.FfdKernelIdeal.nD Cert.FfdKernelIdeal.τ).loc Cert.FfdKernelIdeal.main_arg0)
      ∧ m' ((c.tc : Thread Cert.FfdReferenceIdeal.nD Cert.FfdReferenceIdeal.τ).loc Cert.FfdReferenceIdeal.main_arg1) = m ((c.tc : Thread Cert.FfdKernelIdeal.nD Cert.FfdKernelIdeal.τ).loc Cert.FfdKernelIdeal.main_arg1)
      ∧ m' ((c.tc : Thread Cert.FfdReferenceIdeal.nD Cert.FfdReferenceIdeal.τ).loc Cert.FfdReferenceIdeal.main_arg2) = m ((c.tc : Thread Cert.FfdKernelIdeal.nD Cert.FfdKernelIdeal.τ).loc Cert.FfdKernelIdeal.main_arg2)
      ∧ m' ((c.tc : Thread Cert.FfdReferenceIdeal.nD Cert.FfdReferenceIdeal.τ).loc Cert.FfdReferenceIdeal.main_arg3) = m ((c.tc : Thread Cert.FfdKernelIdeal.nD Cert.FfdKernelIdeal.τ).loc Cert.FfdKernelIdeal.main_arg3)) →
    ∃ (v0 : (c : Dev Cert.FfdKernelIdeal.nD) → Buf (Elt Ideal) ((c.tc : Thread Cert.FfdKernelIdeal.nD Cert.FfdKernelIdeal.τ).loc Cert.FfdKernelIdeal.main_v6_0)) (v1 : (c : Dev Cert.FfdKernelIdeal.nD) → Buf (Elt Ideal) ((c.tc : Thread Cert.FfdKernelIdeal.nD Cert.FfdKernelIdeal.τ).loc Cert.FfdKernelIdeal.main_v6_1)),
      θ_run (Cert.FfdKernelIdeal.defs (F := Ideal)) (onTc (τ := Cert.FfdKernelIdeal.τ) (Cert.FfdKernelIdeal.main (F := Ideal))) ⟨m, fun _ => 0, g⟩ (fun r => ∀ c : Dev Cert.FfdKernelIdeal.nD,
          r.2.mem ((c.tc : Thread Cert.FfdKernelIdeal.nD Cert.FfdKernelIdeal.τ).loc Cert.FfdKernelIdeal.main_v6_0) = v0 c
          ∧ r.2.mem ((c.tc : Thread Cert.FfdKernelIdeal.nD Cert.FfdKernelIdeal.τ).loc Cert.FfdKernelIdeal.main_v6_1) = v1 c
          ∧ r.2.mem ((c.tc : Thread Cert.FfdKernelIdeal.nD Cert.FfdKernelIdeal.τ).loc Cert.FfdKernelIdeal.main_arg0) = m ((c.tc : Thread Cert.FfdKernelIdeal.nD Cert.FfdKernelIdeal.τ).loc Cert.FfdKernelIdeal.main_arg0)
          ∧ r.2.mem ((c.tc : Thread Cert.FfdKernelIdeal.nD Cert.FfdKernelIdeal.τ).loc Cert.FfdKernelIdeal.main_arg1) = m ((c.tc : Thread Cert.FfdKernelIdeal.nD Cert.FfdKernelIdeal.τ).loc Cert.FfdKernelIdeal.main_arg1)
          ∧ r.2.mem ((c.tc : Thread Cert.FfdKernelIdeal.nD Cert.FfdKernelIdeal.τ).loc Cert.FfdKernelIdeal.main_arg2) = m ((c.tc : Thread Cert.FfdKernelIdeal.nD Cert.FfdKernelIdeal.τ).loc Cert.FfdKernelIdeal.main_arg2)
          ∧ r.2.mem ((c.tc : Thread Cert.FfdKernelIdeal.nD Cert.FfdKernelIdeal.τ).loc Cert.FfdKernelIdeal.main_arg3) = m ((c.tc : Thread Cert.FfdKernelIdeal.nD Cert.FfdKernelIdeal.τ).loc Cert.FfdKernelIdeal.main_arg3))
      ∧ θ_run (Cert.FfdReferenceIdeal.defs (F := Ideal)) (onTc (τ := Cert.FfdReferenceIdeal.τ) (Cert.FfdReferenceIdeal.main (F := Ideal))) ⟨m', fun _ => 0, g'⟩ (fun r => ∀ c : Dev Cert.FfdReferenceIdeal.nD,
          r.2.mem ((c.tc : Thread Cert.FfdReferenceIdeal.nD Cert.FfdReferenceIdeal.τ).loc Cert.FfdReferenceIdeal.main_v2) = v0 c
          ∧ r.2.mem ((c.tc : Thread Cert.FfdReferenceIdeal.nD Cert.FfdReferenceIdeal.τ).loc Cert.FfdReferenceIdeal.main_v19) = v1 c
          ∧ r.2.mem ((c.tc : Thread Cert.FfdReferenceIdeal.nD Cert.FfdReferenceIdeal.τ).loc Cert.FfdReferenceIdeal.main_arg0) = m' ((c.tc : Thread Cert.FfdReferenceIdeal.nD Cert.FfdReferenceIdeal.τ).loc Cert.FfdReferenceIdeal.main_arg0)
          ∧ r.2.mem ((c.tc : Thread Cert.FfdReferenceIdeal.nD Cert.FfdReferenceIdeal.τ).loc Cert.FfdReferenceIdeal.main_arg1) = m' ((c.tc : Thread Cert.FfdReferenceIdeal.nD Cert.FfdReferenceIdeal.τ).loc Cert.FfdReferenceIdeal.main_arg1)
          ∧ r.2.mem ((c.tc : Thread Cert.FfdReferenceIdeal.nD Cert.FfdReferenceIdeal.τ).loc Cert.FfdReferenceIdeal.main_arg2) = m' ((c.tc : Thread Cert.FfdReferenceIdeal.nD Cert.FfdReferenceIdeal.τ).loc Cert.FfdReferenceIdeal.main_arg2)
          ∧ r.2.mem ((c.tc : Thread Cert.FfdReferenceIdeal.nD Cert.FfdReferenceIdeal.τ).loc Cert.FfdReferenceIdeal.main_arg3) = m' ((c.tc : Thread Cert.FfdReferenceIdeal.nD Cert.FfdReferenceIdeal.τ).loc Cert.FfdReferenceIdeal.main_arg3))

def preserves_MxiKernel_MxiKernelIdeal : Prop :=
  True

def algebraic_MxiKernelIdeal_MxiReferenceIdeal [hMxiKernelIdeal : Cert.MxiKernelIdeal.Facts] [hMxiReferenceIdeal : Cert.MxiReferenceIdeal.Facts] : Prop :=
  ∀ (m : (ℓ : Loc Cert.MxiKernelIdeal.nD Cert.MxiKernelIdeal.τ Cert.MxiKernelIdeal.sig) → Buf (Elt Ideal) ℓ) (g : Dev Cert.MxiKernelIdeal.nD → PrngReg)
    (m' : (ℓ : Loc Cert.MxiReferenceIdeal.nD Cert.MxiReferenceIdeal.τ Cert.MxiReferenceIdeal.sig) → Buf (Elt Ideal) ℓ) (g' : Dev Cert.MxiReferenceIdeal.nD → PrngReg), Pre_MxiKernelIdeal m →
    (∀ c : Dev Cert.MxiKernelIdeal.nD,
      m' ((c.tc : Thread Cert.MxiReferenceIdeal.nD Cert.MxiReferenceIdeal.τ).loc Cert.MxiReferenceIdeal.main_arg0) = m ((c.tc : Thread Cert.MxiKernelIdeal.nD Cert.MxiKernelIdeal.τ).loc Cert.MxiKernelIdeal.main_arg0)
      ∧ m' ((c.tc : Thread Cert.MxiReferenceIdeal.nD Cert.MxiReferenceIdeal.τ).loc Cert.MxiReferenceIdeal.main_arg1) = m ((c.tc : Thread Cert.MxiKernelIdeal.nD Cert.MxiKernelIdeal.τ).loc Cert.MxiKernelIdeal.main_arg1)
      ∧ m' ((c.tc : Thread Cert.MxiReferenceIdeal.nD Cert.MxiReferenceIdeal.τ).loc Cert.MxiReferenceIdeal.main_arg2) = m ((c.tc : Thread Cert.MxiKernelIdeal.nD Cert.MxiKernelIdeal.τ).loc Cert.MxiKernelIdeal.main_arg2)) →
    ∃ (v0 : (c : Dev Cert.MxiKernelIdeal.nD) → Buf (Elt Ideal) ((c.tc : Thread Cert.MxiKernelIdeal.nD Cert.MxiKernelIdeal.τ).loc Cert.MxiKernelIdeal.main_v5_0)) (v1 : (c : Dev Cert.MxiKernelIdeal.nD) → Buf (Elt Ideal) ((c.tc : Thread Cert.MxiKernelIdeal.nD Cert.MxiKernelIdeal.τ).loc Cert.MxiKernelIdeal.main_v5_1)),
      θ_run (Cert.MxiKernelIdeal.defs (F := Ideal)) (onTc (τ := Cert.MxiKernelIdeal.τ) (Cert.MxiKernelIdeal.main (F := Ideal))) ⟨m, fun _ => 0, g⟩ (fun r => ∀ c : Dev Cert.MxiKernelIdeal.nD,
          r.2.mem ((c.tc : Thread Cert.MxiKernelIdeal.nD Cert.MxiKernelIdeal.τ).loc Cert.MxiKernelIdeal.main_v5_0) = v0 c
          ∧ r.2.mem ((c.tc : Thread Cert.MxiKernelIdeal.nD Cert.MxiKernelIdeal.τ).loc Cert.MxiKernelIdeal.main_v5_1) = v1 c
          ∧ r.2.mem ((c.tc : Thread Cert.MxiKernelIdeal.nD Cert.MxiKernelIdeal.τ).loc Cert.MxiKernelIdeal.main_arg0) = m ((c.tc : Thread Cert.MxiKernelIdeal.nD Cert.MxiKernelIdeal.τ).loc Cert.MxiKernelIdeal.main_arg0)
          ∧ r.2.mem ((c.tc : Thread Cert.MxiKernelIdeal.nD Cert.MxiKernelIdeal.τ).loc Cert.MxiKernelIdeal.main_arg1) = m ((c.tc : Thread Cert.MxiKernelIdeal.nD Cert.MxiKernelIdeal.τ).loc Cert.MxiKernelIdeal.main_arg1)
          ∧ r.2.mem ((c.tc : Thread Cert.MxiKernelIdeal.nD Cert.MxiKernelIdeal.τ).loc Cert.MxiKernelIdeal.main_arg2) = m ((c.tc : Thread Cert.MxiKernelIdeal.nD Cert.MxiKernelIdeal.τ).loc Cert.MxiKernelIdeal.main_arg2))
      ∧ θ_run (Cert.MxiReferenceIdeal.defs (F := Ideal)) (onTc (τ := Cert.MxiReferenceIdeal.τ) (Cert.MxiReferenceIdeal.main (F := Ideal))) ⟨m', fun _ => 0, g'⟩ (fun r => ∀ c : Dev Cert.MxiReferenceIdeal.nD,
          r.2.mem ((c.tc : Thread Cert.MxiReferenceIdeal.nD Cert.MxiReferenceIdeal.τ).loc Cert.MxiReferenceIdeal.main_v14) = v0 c
          ∧ r.2.mem ((c.tc : Thread Cert.MxiReferenceIdeal.nD Cert.MxiReferenceIdeal.τ).loc Cert.MxiReferenceIdeal.main_v16) = v1 c
          ∧ r.2.mem ((c.tc : Thread Cert.MxiReferenceIdeal.nD Cert.MxiReferenceIdeal.τ).loc Cert.MxiReferenceIdeal.main_arg0) = m' ((c.tc : Thread Cert.MxiReferenceIdeal.nD Cert.MxiReferenceIdeal.τ).loc Cert.MxiReferenceIdeal.main_arg0)
          ∧ r.2.mem ((c.tc : Thread Cert.MxiReferenceIdeal.nD Cert.MxiReferenceIdeal.τ).loc Cert.MxiReferenceIdeal.main_arg1) = m' ((c.tc : Thread Cert.MxiReferenceIdeal.nD Cert.MxiReferenceIdeal.τ).loc Cert.MxiReferenceIdeal.main_arg1)
          ∧ r.2.mem ((c.tc : Thread Cert.MxiReferenceIdeal.nD Cert.MxiReferenceIdeal.τ).loc Cert.MxiReferenceIdeal.main_arg2) = m' ((c.tc : Thread Cert.MxiReferenceIdeal.nD Cert.MxiReferenceIdeal.τ).loc Cert.MxiReferenceIdeal.main_arg2))

def preserves_MxoKernel_MxoKernelIdeal : Prop :=
  True

def algebraic_MxoKernelIdeal_MxoReferenceIdeal [hMxoKernelIdeal : Cert.MxoKernelIdeal.Facts] [hMxoReferenceIdeal : Cert.MxoReferenceIdeal.Facts] : Prop :=
  ∀ (m : (ℓ : Loc Cert.MxoKernelIdeal.nD Cert.MxoKernelIdeal.τ Cert.MxoKernelIdeal.sig) → Buf (Elt Ideal) ℓ) (g : Dev Cert.MxoKernelIdeal.nD → PrngReg)
    (m' : (ℓ : Loc Cert.MxoReferenceIdeal.nD Cert.MxoReferenceIdeal.τ Cert.MxoReferenceIdeal.sig) → Buf (Elt Ideal) ℓ) (g' : Dev Cert.MxoReferenceIdeal.nD → PrngReg), Pre_MxoKernelIdeal m →
    (∀ c : Dev Cert.MxoKernelIdeal.nD,
      m' ((c.tc : Thread Cert.MxoReferenceIdeal.nD Cert.MxoReferenceIdeal.τ).loc Cert.MxoReferenceIdeal.main_arg0) = m ((c.tc : Thread Cert.MxoKernelIdeal.nD Cert.MxoKernelIdeal.τ).loc Cert.MxoKernelIdeal.main_arg0)
      ∧ m' ((c.tc : Thread Cert.MxoReferenceIdeal.nD Cert.MxoReferenceIdeal.τ).loc Cert.MxoReferenceIdeal.main_arg1) = m ((c.tc : Thread Cert.MxoKernelIdeal.nD Cert.MxoKernelIdeal.τ).loc Cert.MxoKernelIdeal.main_arg1)
      ∧ m' ((c.tc : Thread Cert.MxoReferenceIdeal.nD Cert.MxoReferenceIdeal.τ).loc Cert.MxoReferenceIdeal.main_arg2) = m ((c.tc : Thread Cert.MxoKernelIdeal.nD Cert.MxoKernelIdeal.τ).loc Cert.MxoKernelIdeal.main_arg2)
      ∧ m' ((c.tc : Thread Cert.MxoReferenceIdeal.nD Cert.MxoReferenceIdeal.τ).loc Cert.MxoReferenceIdeal.main_arg3) = m ((c.tc : Thread Cert.MxoKernelIdeal.nD Cert.MxoKernelIdeal.τ).loc Cert.MxoKernelIdeal.main_arg3)
      ∧ m' ((c.tc : Thread Cert.MxoReferenceIdeal.nD Cert.MxoReferenceIdeal.τ).loc Cert.MxoReferenceIdeal.main_arg4) = m ((c.tc : Thread Cert.MxoKernelIdeal.nD Cert.MxoKernelIdeal.τ).loc Cert.MxoKernelIdeal.main_arg4)) →
    ∃ (v0 : (c : Dev Cert.MxoKernelIdeal.nD) → Buf (Elt Ideal) ((c.tc : Thread Cert.MxoKernelIdeal.nD Cert.MxoKernelIdeal.τ).loc Cert.MxoKernelIdeal.main_v7_0)) (v1 : (c : Dev Cert.MxoKernelIdeal.nD) → Buf (Elt Ideal) ((c.tc : Thread Cert.MxoKernelIdeal.nD Cert.MxoKernelIdeal.τ).loc Cert.MxoKernelIdeal.main_v7_1)),
      θ_run (Cert.MxoKernelIdeal.defs (F := Ideal)) (onTc (τ := Cert.MxoKernelIdeal.τ) (Cert.MxoKernelIdeal.main (F := Ideal))) ⟨m, fun _ => 0, g⟩ (fun r => ∀ c : Dev Cert.MxoKernelIdeal.nD,
          r.2.mem ((c.tc : Thread Cert.MxoKernelIdeal.nD Cert.MxoKernelIdeal.τ).loc Cert.MxoKernelIdeal.main_v7_0) = v0 c
          ∧ r.2.mem ((c.tc : Thread Cert.MxoKernelIdeal.nD Cert.MxoKernelIdeal.τ).loc Cert.MxoKernelIdeal.main_v7_1) = v1 c
          ∧ r.2.mem ((c.tc : Thread Cert.MxoKernelIdeal.nD Cert.MxoKernelIdeal.τ).loc Cert.MxoKernelIdeal.main_arg0) = m ((c.tc : Thread Cert.MxoKernelIdeal.nD Cert.MxoKernelIdeal.τ).loc Cert.MxoKernelIdeal.main_arg0)
          ∧ r.2.mem ((c.tc : Thread Cert.MxoKernelIdeal.nD Cert.MxoKernelIdeal.τ).loc Cert.MxoKernelIdeal.main_arg1) = m ((c.tc : Thread Cert.MxoKernelIdeal.nD Cert.MxoKernelIdeal.τ).loc Cert.MxoKernelIdeal.main_arg1)
          ∧ r.2.mem ((c.tc : Thread Cert.MxoKernelIdeal.nD Cert.MxoKernelIdeal.τ).loc Cert.MxoKernelIdeal.main_arg2) = m ((c.tc : Thread Cert.MxoKernelIdeal.nD Cert.MxoKernelIdeal.τ).loc Cert.MxoKernelIdeal.main_arg2)
          ∧ r.2.mem ((c.tc : Thread Cert.MxoKernelIdeal.nD Cert.MxoKernelIdeal.τ).loc Cert.MxoKernelIdeal.main_arg3) = m ((c.tc : Thread Cert.MxoKernelIdeal.nD Cert.MxoKernelIdeal.τ).loc Cert.MxoKernelIdeal.main_arg3)
          ∧ r.2.mem ((c.tc : Thread Cert.MxoKernelIdeal.nD Cert.MxoKernelIdeal.τ).loc Cert.MxoKernelIdeal.main_arg4) = m ((c.tc : Thread Cert.MxoKernelIdeal.nD Cert.MxoKernelIdeal.τ).loc Cert.MxoKernelIdeal.main_arg4))
      ∧ θ_run (Cert.MxoReferenceIdeal.defs (F := Ideal)) (onTc (τ := Cert.MxoReferenceIdeal.τ) (Cert.MxoReferenceIdeal.main (F := Ideal))) ⟨m', fun _ => 0, g'⟩ (fun r => ∀ c : Dev Cert.MxoReferenceIdeal.nD,
          r.2.mem ((c.tc : Thread Cert.MxoReferenceIdeal.nD Cert.MxoReferenceIdeal.τ).loc Cert.MxoReferenceIdeal.main_v3) = v0 c
          ∧ r.2.mem ((c.tc : Thread Cert.MxoReferenceIdeal.nD Cert.MxoReferenceIdeal.τ).loc Cert.MxoReferenceIdeal.main_v18) = v1 c
          ∧ r.2.mem ((c.tc : Thread Cert.MxoReferenceIdeal.nD Cert.MxoReferenceIdeal.τ).loc Cert.MxoReferenceIdeal.main_arg0) = m' ((c.tc : Thread Cert.MxoReferenceIdeal.nD Cert.MxoReferenceIdeal.τ).loc Cert.MxoReferenceIdeal.main_arg0)
          ∧ r.2.mem ((c.tc : Thread Cert.MxoReferenceIdeal.nD Cert.MxoReferenceIdeal.τ).loc Cert.MxoReferenceIdeal.main_arg1) = m' ((c.tc : Thread Cert.MxoReferenceIdeal.nD Cert.MxoReferenceIdeal.τ).loc Cert.MxoReferenceIdeal.main_arg1)
          ∧ r.2.mem ((c.tc : Thread Cert.MxoReferenceIdeal.nD Cert.MxoReferenceIdeal.τ).loc Cert.MxoReferenceIdeal.main_arg2) = m' ((c.tc : Thread Cert.MxoReferenceIdeal.nD Cert.MxoReferenceIdeal.τ).loc Cert.MxoReferenceIdeal.main_arg2)
          ∧ r.2.mem ((c.tc : Thread Cert.MxoReferenceIdeal.nD Cert.MxoReferenceIdeal.τ).loc Cert.MxoReferenceIdeal.main_arg3) = m' ((c.tc : Thread Cert.MxoReferenceIdeal.nD Cert.MxoReferenceIdeal.τ).loc Cert.MxoReferenceIdeal.main_arg3)
          ∧ r.2.mem ((c.tc : Thread Cert.MxoReferenceIdeal.nD Cert.MxoReferenceIdeal.τ).loc Cert.MxoReferenceIdeal.main_arg4) = m' ((c.tc : Thread Cert.MxoReferenceIdeal.nD Cert.MxoReferenceIdeal.τ).loc Cert.MxoReferenceIdeal.main_arg4))

def preserves_CvfKernel_CvfKernelIdeal : Prop :=
  True

def algebraic_CvfKernelIdeal_CvfReferenceIdeal [hCvfKernelIdeal : Cert.CvfKernelIdeal.Facts] [hCvfReferenceIdeal : Cert.CvfReferenceIdeal.Facts] : Prop :=
  ∀ (m : (ℓ : Loc Cert.CvfKernelIdeal.nD Cert.CvfKernelIdeal.τ Cert.CvfKernelIdeal.sig) → Buf (Elt Ideal) ℓ) (g : Dev Cert.CvfKernelIdeal.nD → PrngReg)
    (m' : (ℓ : Loc Cert.CvfReferenceIdeal.nD Cert.CvfReferenceIdeal.τ Cert.CvfReferenceIdeal.sig) → Buf (Elt Ideal) ℓ) (g' : Dev Cert.CvfReferenceIdeal.nD → PrngReg), Pre_CvfKernelIdeal m →
    (∀ c : Dev Cert.CvfKernelIdeal.nD,
      m' ((c.tc : Thread Cert.CvfReferenceIdeal.nD Cert.CvfReferenceIdeal.τ).loc Cert.CvfReferenceIdeal.main_arg0) = m ((c.tc : Thread Cert.CvfKernelIdeal.nD Cert.CvfKernelIdeal.τ).loc Cert.CvfKernelIdeal.main_arg0)
      ∧ m' ((c.tc : Thread Cert.CvfReferenceIdeal.nD Cert.CvfReferenceIdeal.τ).loc Cert.CvfReferenceIdeal.main_arg1) = m ((c.tc : Thread Cert.CvfKernelIdeal.nD Cert.CvfKernelIdeal.τ).loc Cert.CvfKernelIdeal.main_arg1)) →
    ∃ (v0 : (c : Dev Cert.CvfKernelIdeal.nD) → Buf (Elt Ideal) ((c.tc : Thread Cert.CvfKernelIdeal.nD Cert.CvfKernelIdeal.τ).loc Cert.CvfKernelIdeal.main_v14)),
      θ_run (Cert.CvfKernelIdeal.defs (F := Ideal)) (onTc (τ := Cert.CvfKernelIdeal.τ) (Cert.CvfKernelIdeal.main (F := Ideal))) ⟨m, fun _ => 0, g⟩ (fun r => ∀ c : Dev Cert.CvfKernelIdeal.nD,
          r.2.mem ((c.tc : Thread Cert.CvfKernelIdeal.nD Cert.CvfKernelIdeal.τ).loc Cert.CvfKernelIdeal.main_v14) = v0 c
          ∧ r.2.mem ((c.tc : Thread Cert.CvfKernelIdeal.nD Cert.CvfKernelIdeal.τ).loc Cert.CvfKernelIdeal.main_arg0) = m ((c.tc : Thread Cert.CvfKernelIdeal.nD Cert.CvfKernelIdeal.τ).loc Cert.CvfKernelIdeal.main_arg0)
          ∧ r.2.mem ((c.tc : Thread Cert.CvfKernelIdeal.nD Cert.CvfKernelIdeal.τ).loc Cert.CvfKernelIdeal.main_arg1) = m ((c.tc : Thread Cert.CvfKernelIdeal.nD Cert.CvfKernelIdeal.τ).loc Cert.CvfKernelIdeal.main_arg1))
      ∧ θ_run (Cert.CvfReferenceIdeal.defs (F := Ideal)) (onTc (τ := Cert.CvfReferenceIdeal.τ) (Cert.CvfReferenceIdeal.main (F := Ideal))) ⟨m', fun _ => 0, g'⟩ (fun r => ∀ c : Dev Cert.CvfReferenceIdeal.nD,
          r.2.mem ((c.tc : Thread Cert.CvfReferenceIdeal.nD Cert.CvfReferenceIdeal.τ).loc Cert.CvfReferenceIdeal.main_v33) = v0 c
          ∧ r.2.mem ((c.tc : Thread Cert.CvfReferenceIdeal.nD Cert.CvfReferenceIdeal.τ).loc Cert.CvfReferenceIdeal.main_arg0) = m' ((c.tc : Thread Cert.CvfReferenceIdeal.nD Cert.CvfReferenceIdeal.τ).loc Cert.CvfReferenceIdeal.main_arg0)
          ∧ r.2.mem ((c.tc : Thread Cert.CvfReferenceIdeal.nD Cert.CvfReferenceIdeal.τ).loc Cert.CvfReferenceIdeal.main_arg1) = m' ((c.tc : Thread Cert.CvfReferenceIdeal.nD Cert.CvfReferenceIdeal.τ).loc Cert.CvfReferenceIdeal.main_arg1))

def preserves_TnKernel_TnKernelIdeal : Prop :=
  True

def algebraic_TnKernelIdeal_TnReferenceIdeal [hTnKernelIdeal : Cert.TnKernelIdeal.Facts] [hTnReferenceIdeal : Cert.TnReferenceIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnKernelIdeal m →
    (∀ c : Dev Cert.TnKernelIdeal.nD,
      m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0)
      ∧ m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)
      ∧ m' ((c.tc : Thread Cert.TnReferenceIdeal.nD Cert.TnReferenceIdeal.τ).loc Cert.TnReferenceIdeal.main_arg2) = m ((c.tc : Thread Cert.TnKernelIdeal.nD Cert.TnKernelIdeal.τ).loc Cert.TnKernelIdeal.main_arg2)
      ∧ m' ((c.tc : Thread Cert.TnReferenceIdeal.nD Cert.TnReferenceIdeal.τ).loc Cert.TnReferenceIdeal.main_arg3) = m ((c.tc : Thread Cert.TnKernelIdeal.nD Cert.TnKernelIdeal.τ).loc Cert.TnKernelIdeal.main_arg3)
      ∧ m' ((c.tc : Thread Cert.TnReferenceIdeal.nD Cert.TnReferenceIdeal.τ).loc Cert.TnReferenceIdeal.main_arg4) = m ((c.tc : Thread Cert.TnKernelIdeal.nD Cert.TnKernelIdeal.τ).loc Cert.TnKernelIdeal.main_arg4)) →
    ∃ (v0 : (c : Dev Cert.TnKernelIdeal.nD) → Buf (Elt Ideal) ((c.tc : Thread Cert.TnKernelIdeal.nD Cert.TnKernelIdeal.τ).loc Cert.TnKernelIdeal.main_v19)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v19) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1)
          ∧ r.2.mem ((c.tc : Thread Cert.TnKernelIdeal.nD Cert.TnKernelIdeal.τ).loc Cert.TnKernelIdeal.main_arg2) = m ((c.tc : Thread Cert.TnKernelIdeal.nD Cert.TnKernelIdeal.τ).loc Cert.TnKernelIdeal.main_arg2)
          ∧ r.2.mem ((c.tc : Thread Cert.TnKernelIdeal.nD Cert.TnKernelIdeal.τ).loc Cert.TnKernelIdeal.main_arg3) = m ((c.tc : Thread Cert.TnKernelIdeal.nD Cert.TnKernelIdeal.τ).loc Cert.TnKernelIdeal.main_arg3)
          ∧ r.2.mem ((c.tc : Thread Cert.TnKernelIdeal.nD Cert.TnKernelIdeal.τ).loc Cert.TnKernelIdeal.main_arg4) = m ((c.tc : Thread Cert.TnKernelIdeal.nD Cert.TnKernelIdeal.τ).loc Cert.TnKernelIdeal.main_arg4))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v33) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1)
          ∧ r.2.mem ((c.tc : Thread Cert.TnReferenceIdeal.nD Cert.TnReferenceIdeal.τ).loc Cert.TnReferenceIdeal.main_arg2) = m' ((c.tc : Thread Cert.TnReferenceIdeal.nD Cert.TnReferenceIdeal.τ).loc Cert.TnReferenceIdeal.main_arg2)
          ∧ r.2.mem ((c.tc : Thread Cert.TnReferenceIdeal.nD Cert.TnReferenceIdeal.τ).loc Cert.TnReferenceIdeal.main_arg3) = m' ((c.tc : Thread Cert.TnReferenceIdeal.nD Cert.TnReferenceIdeal.τ).loc Cert.TnReferenceIdeal.main_arg3)
          ∧ r.2.mem ((c.tc : Thread Cert.TnReferenceIdeal.nD Cert.TnReferenceIdeal.τ).loc Cert.TnReferenceIdeal.main_arg4) = m' ((c.tc : Thread Cert.TnReferenceIdeal.nD Cert.TnReferenceIdeal.τ).loc Cert.TnReferenceIdeal.main_arg4))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)) →
    ∃ (v0 : (c : Dev Cert.AdaKernelIdeal.nD) → Buf (Elt Ideal) ((c.tc : Thread Cert.AdaKernelIdeal.nD Cert.AdaKernelIdeal.τ).loc Cert.AdaKernelIdeal.main_v0_0)) (v1 : (c : Dev Cert.AdaKernelIdeal.nD) → Buf (Elt Ideal) ((c.tc : Thread Cert.AdaKernelIdeal.nD Cert.AdaKernelIdeal.τ).loc Cert.AdaKernelIdeal.main_v0_1)) (v2 : (c : Dev Cert.AdaKernelIdeal.nD) → Buf (Elt Ideal) ((c.tc : Thread Cert.AdaKernelIdeal.nD Cert.AdaKernelIdeal.τ).loc Cert.AdaKernelIdeal.main_v0_2)) (v3 : (c : Dev Cert.AdaKernelIdeal.nD) → Buf (Elt Ideal) ((c.tc : Thread Cert.AdaKernelIdeal.nD Cert.AdaKernelIdeal.τ).loc Cert.AdaKernelIdeal.main_v0_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v0_0) = v0 c
          ∧ r.2.mem ((c.tc : Thread Cert.AdaKernelIdeal.nD Cert.AdaKernelIdeal.τ).loc Cert.AdaKernelIdeal.main_v0_1) = v1 c
          ∧ r.2.mem ((c.tc : Thread Cert.AdaKernelIdeal.nD Cert.AdaKernelIdeal.τ).loc Cert.AdaKernelIdeal.main_v0_2) = v2 c
          ∧ r.2.mem ((c.tc : Thread Cert.AdaKernelIdeal.nD Cert.AdaKernelIdeal.τ).loc Cert.AdaKernelIdeal.main_v0_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v3) = v0 c
          ∧ r.2.mem ((c.tc : Thread Cert.AdaReferenceIdeal.nD Cert.AdaReferenceIdeal.τ).loc Cert.AdaReferenceIdeal.main_v27) = v1 c
          ∧ r.2.mem ((c.tc : Thread Cert.AdaReferenceIdeal.nD Cert.AdaReferenceIdeal.τ).loc Cert.AdaReferenceIdeal.main_v8) = v2 c
          ∧ r.2.mem ((c.tc : Thread Cert.AdaReferenceIdeal.nD Cert.AdaReferenceIdeal.τ).loc Cert.AdaReferenceIdeal.main_v14) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_BiaKernel_BiaKernelIdeal : Prop :=
  True

def algebraic_BiaKernelIdeal_BiaReferenceIdeal [hBiaKernelIdeal : Cert.BiaKernelIdeal.Facts] [hBiaReferenceIdeal : Cert.BiaReferenceIdeal.Facts] : Prop :=
  ∀ (m : (ℓ : Loc Cert.BiaKernelIdeal.nD Cert.BiaKernelIdeal.τ Cert.BiaKernelIdeal.sig) → Buf (Elt Ideal) ℓ) (g : Dev Cert.BiaKernelIdeal.nD → PrngReg)
    (m' : (ℓ : Loc Cert.BiaReferenceIdeal.nD Cert.BiaReferenceIdeal.τ Cert.BiaReferenceIdeal.sig) → Buf (Elt Ideal) ℓ) (g' : Dev Cert.BiaReferenceIdeal.nD → PrngReg), Pre_BiaKernelIdeal m →
    (∀ c : Dev Cert.BiaKernelIdeal.nD,
      m' ((c.tc : Thread Cert.BiaReferenceIdeal.nD Cert.BiaReferenceIdeal.τ).loc Cert.BiaReferenceIdeal.main_arg0) = m ((c.tc : Thread Cert.BiaKernelIdeal.nD Cert.BiaKernelIdeal.τ).loc Cert.BiaKernelIdeal.main_arg0)
      ∧ m' ((c.tc : Thread Cert.BiaReferenceIdeal.nD Cert.BiaReferenceIdeal.τ).loc Cert.BiaReferenceIdeal.main_arg1) = m ((c.tc : Thread Cert.BiaKernelIdeal.nD Cert.BiaKernelIdeal.τ).loc Cert.BiaKernelIdeal.main_arg1)) →
    ∃ (v0 : (c : Dev Cert.BiaKernelIdeal.nD) → Buf (Elt Ideal) ((c.tc : Thread Cert.BiaKernelIdeal.nD Cert.BiaKernelIdeal.τ).loc Cert.BiaKernelIdeal.main_v0)),
      θ_run (Cert.BiaKernelIdeal.defs (F := Ideal)) (onTc (τ := Cert.BiaKernelIdeal.τ) (Cert.BiaKernelIdeal.main (F := Ideal))) ⟨m, fun _ => 0, g⟩ (fun r => ∀ c : Dev Cert.BiaKernelIdeal.nD,
          r.2.mem ((c.tc : Thread Cert.BiaKernelIdeal.nD Cert.BiaKernelIdeal.τ).loc Cert.BiaKernelIdeal.main_v0) = v0 c
          ∧ r.2.mem ((c.tc : Thread Cert.BiaKernelIdeal.nD Cert.BiaKernelIdeal.τ).loc Cert.BiaKernelIdeal.main_arg0) = m ((c.tc : Thread Cert.BiaKernelIdeal.nD Cert.BiaKernelIdeal.τ).loc Cert.BiaKernelIdeal.main_arg0)
          ∧ r.2.mem ((c.tc : Thread Cert.BiaKernelIdeal.nD Cert.BiaKernelIdeal.τ).loc Cert.BiaKernelIdeal.main_arg1) = m ((c.tc : Thread Cert.BiaKernelIdeal.nD Cert.BiaKernelIdeal.τ).loc Cert.BiaKernelIdeal.main_arg1))
      ∧ θ_run (Cert.BiaReferenceIdeal.defs (F := Ideal)) (onTc (τ := Cert.BiaReferenceIdeal.τ) (Cert.BiaReferenceIdeal.main (F := Ideal))) ⟨m', fun _ => 0, g'⟩ (fun r => ∀ c : Dev Cert.BiaReferenceIdeal.nD,
          r.2.mem ((c.tc : Thread Cert.BiaReferenceIdeal.nD Cert.BiaReferenceIdeal.τ).loc Cert.BiaReferenceIdeal.main_v16) = v0 c
          ∧ r.2.mem ((c.tc : Thread Cert.BiaReferenceIdeal.nD Cert.BiaReferenceIdeal.τ).loc Cert.BiaReferenceIdeal.main_arg0) = m' ((c.tc : Thread Cert.BiaReferenceIdeal.nD Cert.BiaReferenceIdeal.τ).loc Cert.BiaReferenceIdeal.main_arg0)
          ∧ r.2.mem ((c.tc : Thread Cert.BiaReferenceIdeal.nD Cert.BiaReferenceIdeal.τ).loc Cert.BiaReferenceIdeal.main_arg1) = m' ((c.tc : Thread Cert.BiaReferenceIdeal.nD Cert.BiaReferenceIdeal.τ).loc Cert.BiaReferenceIdeal.main_arg1))

def preserves_BifKernel_BifKernelIdeal : Prop :=
  True

def algebraic_BifKernelIdeal_BifReferenceIdeal [hBifKernelIdeal : Cert.BifKernelIdeal.Facts] [hBifReferenceIdeal : Cert.BifReferenceIdeal.Facts] : Prop :=
  ∀ (m : (ℓ : Loc Cert.BifKernelIdeal.nD Cert.BifKernelIdeal.τ Cert.BifKernelIdeal.sig) → Buf (Elt Ideal) ℓ) (g : Dev Cert.BifKernelIdeal.nD → PrngReg)
    (m' : (ℓ : Loc Cert.BifReferenceIdeal.nD Cert.BifReferenceIdeal.τ Cert.BifReferenceIdeal.sig) → Buf (Elt Ideal) ℓ) (g' : Dev Cert.BifReferenceIdeal.nD → PrngReg), Pre_BifKernelIdeal m →
    (∀ c : Dev Cert.BifKernelIdeal.nD,
      m' ((c.tc : Thread Cert.BifReferenceIdeal.nD Cert.BifReferenceIdeal.τ).loc Cert.BifReferenceIdeal.main_arg0) = m ((c.tc : Thread Cert.BifKernelIdeal.nD Cert.BifKernelIdeal.τ).loc Cert.BifKernelIdeal.main_arg0)
      ∧ m' ((c.tc : Thread Cert.BifReferenceIdeal.nD Cert.BifReferenceIdeal.τ).loc Cert.BifReferenceIdeal.main_arg1) = m ((c.tc : Thread Cert.BifKernelIdeal.nD Cert.BifKernelIdeal.τ).loc Cert.BifKernelIdeal.main_arg1)) →
    ∃ (v0 : (c : Dev Cert.BifKernelIdeal.nD) → Buf (Elt Ideal) ((c.tc : Thread Cert.BifKernelIdeal.nD Cert.BifKernelIdeal.τ).loc Cert.BifKernelIdeal.main_v0)),
      θ_run (Cert.BifKernelIdeal.defs (F := Ideal)) (onTc (τ := Cert.BifKernelIdeal.τ) (Cert.BifKernelIdeal.main (F := Ideal))) ⟨m, fun _ => 0, g⟩ (fun r => ∀ c : Dev Cert.BifKernelIdeal.nD,
          r.2.mem ((c.tc : Thread Cert.BifKernelIdeal.nD Cert.BifKernelIdeal.τ).loc Cert.BifKernelIdeal.main_v0) = v0 c
          ∧ r.2.mem ((c.tc : Thread Cert.BifKernelIdeal.nD Cert.BifKernelIdeal.τ).loc Cert.BifKernelIdeal.main_arg0) = m ((c.tc : Thread Cert.BifKernelIdeal.nD Cert.BifKernelIdeal.τ).loc Cert.BifKernelIdeal.main_arg0)
          ∧ r.2.mem ((c.tc : Thread Cert.BifKernelIdeal.nD Cert.BifKernelIdeal.τ).loc Cert.BifKernelIdeal.main_arg1) = m ((c.tc : Thread Cert.BifKernelIdeal.nD Cert.BifKernelIdeal.τ).loc Cert.BifKernelIdeal.main_arg1))
      ∧ θ_run (Cert.BifReferenceIdeal.defs (F := Ideal)) (onTc (τ := Cert.BifReferenceIdeal.τ) (Cert.BifReferenceIdeal.main (F := Ideal))) ⟨m', fun _ => 0, g'⟩ (fun r => ∀ c : Dev Cert.BifReferenceIdeal.nD,
          r.2.mem ((c.tc : Thread Cert.BifReferenceIdeal.nD Cert.BifReferenceIdeal.τ).loc Cert.BifReferenceIdeal.main_v10) = v0 c
          ∧ r.2.mem ((c.tc : Thread Cert.BifReferenceIdeal.nD Cert.BifReferenceIdeal.τ).loc Cert.BifReferenceIdeal.main_arg0) = m' ((c.tc : Thread Cert.BifReferenceIdeal.nD Cert.BifReferenceIdeal.τ).loc Cert.BifReferenceIdeal.main_arg0)
          ∧ r.2.mem ((c.tc : Thread Cert.BifReferenceIdeal.nD Cert.BifReferenceIdeal.τ).loc Cert.BifReferenceIdeal.main_arg1) = m' ((c.tc : Thread Cert.BifReferenceIdeal.nD Cert.BifReferenceIdeal.τ).loc Cert.BifReferenceIdeal.main_arg1))

def Claim : Prop :=
  ∃ (hLossKernel : Cert.LossKernel.Facts) (hLossKernelIdeal : Cert.LossKernelIdeal.Facts) (hLossReferenceIdeal : Cert.LossReferenceIdeal.Facts) (hConvKernel : Cert.ConvKernel.Facts) (hConvKernelIdeal : Cert.ConvKernelIdeal.Facts) (hConvReferenceIdeal : Cert.ConvReferenceIdeal.Facts) (hFfndKernel : Cert.FfndKernel.Facts) (hFfndKernelIdeal : Cert.FfndKernelIdeal.Facts) (hFfndReferenceIdeal : Cert.FfndReferenceIdeal.Facts) (hMobKernel : Cert.MobKernel.Facts) (hMobKernelIdeal : Cert.MobKernelIdeal.Facts) (hMobReferenceIdeal : Cert.MobReferenceIdeal.Facts) (hUpbKernel : Cert.UpbKernel.Facts) (hUpbKernelIdeal : Cert.UpbKernelIdeal.Facts) (hUpbReferenceIdeal : Cert.UpbReferenceIdeal.Facts) (hSwfKernel : Cert.SwfKernel.Facts) (hSwfKernelIdeal : Cert.SwfKernelIdeal.Facts) (hSwfReferenceIdeal : Cert.SwfReferenceIdeal.Facts) (hGlfKernel : Cert.GlfKernel.Facts) (hGlfKernelIdeal : Cert.GlfKernelIdeal.Facts) (hGlfReferenceIdeal : Cert.GlfReferenceIdeal.Facts) (hDnfKernel : Cert.DnfKernel.Facts) (hDnfKernelIdeal : Cert.DnfKernelIdeal.Facts) (hDnfReferenceIdeal : Cert.DnfReferenceIdeal.Facts) (hFfuKernel : Cert.FfuKernel.Facts) (hFfuKernelIdeal : Cert.FfuKernelIdeal.Facts) (hFfuReferenceIdeal : Cert.FfuReferenceIdeal.Facts) (hFfdKernel : Cert.FfdKernel.Facts) (hFfdKernelIdeal : Cert.FfdKernelIdeal.Facts) (hFfdReferenceIdeal : Cert.FfdReferenceIdeal.Facts) (hMxiKernel : Cert.MxiKernel.Facts) (hMxiKernelIdeal : Cert.MxiKernelIdeal.Facts) (hMxiReferenceIdeal : Cert.MxiReferenceIdeal.Facts) (hMxoKernel : Cert.MxoKernel.Facts) (hMxoKernelIdeal : Cert.MxoKernelIdeal.Facts) (hMxoReferenceIdeal : Cert.MxoReferenceIdeal.Facts) (hCvfKernel : Cert.CvfKernel.Facts) (hCvfKernelIdeal : Cert.CvfKernelIdeal.Facts) (hCvfReferenceIdeal : Cert.CvfReferenceIdeal.Facts) (hTnKernel : Cert.TnKernel.Facts) (hTnKernelIdeal : Cert.TnKernelIdeal.Facts) (hTnReferenceIdeal : Cert.TnReferenceIdeal.Facts) (hAdaKernel : Cert.AdaKernel.Facts) (hAdaKernelIdeal : Cert.AdaKernelIdeal.Facts) (hAdaReferenceIdeal : Cert.AdaReferenceIdeal.Facts) (hBiaKernel : Cert.BiaKernel.Facts) (hBiaKernelIdeal : Cert.BiaKernelIdeal.Facts) (hBiaReferenceIdeal : Cert.BiaReferenceIdeal.Facts) (hBifKernel : Cert.BifKernel.Facts) (hBifKernelIdeal : Cert.BifKernelIdeal.Facts) (hBifReferenceIdeal : Cert.BifReferenceIdeal.Facts) (hPre_ffnd_finite : Cert.Pre_ffnd_finite.Facts) (hPre_swf_finite : Cert.Pre_swf_finite.Facts) (hPre_glf_finite : Cert.Pre_glf_finite.Facts) (hPre_dnf_finite : Cert.Pre_dnf_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_FfndKernel (hFfndKernel := hFfndKernel)
    ∧ quiescent_FfndKernelIdeal (hFfndKernelIdeal := hFfndKernelIdeal)
    ∧ quiescent_FfndKernelIdeal_pre_ffnd_finite (hFfndKernelIdeal := hFfndKernelIdeal) (hPre_ffnd_finite := hPre_ffnd_finite)
    ∧ quiescent_FfndReferenceIdeal (hFfndReferenceIdeal := hFfndReferenceIdeal)
    ∧ quiescent_FfndReferenceIdeal_pre_ffnd_finite (hFfndReferenceIdeal := hFfndReferenceIdeal) (hPre_ffnd_finite := hPre_ffnd_finite)
    ∧ quiescent_MobKernel (hMobKernel := hMobKernel)
    ∧ quiescent_MobKernelIdeal (hMobKernelIdeal := hMobKernelIdeal)
    ∧ quiescent_MobReferenceIdeal (hMobReferenceIdeal := hMobReferenceIdeal)
    ∧ quiescent_UpbKernel (hUpbKernel := hUpbKernel)
    ∧ quiescent_UpbKernelIdeal (hUpbKernelIdeal := hUpbKernelIdeal)
    ∧ quiescent_UpbReferenceIdeal (hUpbReferenceIdeal := hUpbReferenceIdeal)
    ∧ quiescent_SwfKernel (hSwfKernel := hSwfKernel)
    ∧ quiescent_SwfKernelIdeal (hSwfKernelIdeal := hSwfKernelIdeal)
    ∧ quiescent_SwfKernelIdeal_pre_swf_finite (hSwfKernelIdeal := hSwfKernelIdeal) (hPre_swf_finite := hPre_swf_finite)
    ∧ quiescent_SwfReferenceIdeal (hSwfReferenceIdeal := hSwfReferenceIdeal)
    ∧ quiescent_SwfReferenceIdeal_pre_swf_finite (hSwfReferenceIdeal := hSwfReferenceIdeal) (hPre_swf_finite := hPre_swf_finite)
    ∧ quiescent_GlfKernel (hGlfKernel := hGlfKernel)
    ∧ quiescent_GlfKernelIdeal (hGlfKernelIdeal := hGlfKernelIdeal)
    ∧ quiescent_GlfKernelIdeal_pre_glf_finite (hGlfKernelIdeal := hGlfKernelIdeal) (hPre_glf_finite := hPre_glf_finite)
    ∧ quiescent_GlfReferenceIdeal (hGlfReferenceIdeal := hGlfReferenceIdeal)
    ∧ quiescent_GlfReferenceIdeal_pre_glf_finite (hGlfReferenceIdeal := hGlfReferenceIdeal) (hPre_glf_finite := hPre_glf_finite)
    ∧ quiescent_DnfKernel (hDnfKernel := hDnfKernel)
    ∧ quiescent_DnfKernelIdeal (hDnfKernelIdeal := hDnfKernelIdeal)
    ∧ quiescent_DnfKernelIdeal_pre_dnf_finite (hDnfKernelIdeal := hDnfKernelIdeal) (hPre_dnf_finite := hPre_dnf_finite)
    ∧ quiescent_DnfReferenceIdeal (hDnfReferenceIdeal := hDnfReferenceIdeal)
    ∧ quiescent_DnfReferenceIdeal_pre_dnf_finite (hDnfReferenceIdeal := hDnfReferenceIdeal) (hPre_dnf_finite := hPre_dnf_finite)
    ∧ quiescent_FfuKernel (hFfuKernel := hFfuKernel)
    ∧ quiescent_FfuKernelIdeal (hFfuKernelIdeal := hFfuKernelIdeal)
    ∧ quiescent_FfuReferenceIdeal (hFfuReferenceIdeal := hFfuReferenceIdeal)
    ∧ quiescent_FfdKernel (hFfdKernel := hFfdKernel)
    ∧ quiescent_FfdKernelIdeal (hFfdKernelIdeal := hFfdKernelIdeal)
    ∧ quiescent_FfdReferenceIdeal (hFfdReferenceIdeal := hFfdReferenceIdeal)
    ∧ quiescent_MxiKernel (hMxiKernel := hMxiKernel)
    ∧ quiescent_MxiKernelIdeal (hMxiKernelIdeal := hMxiKernelIdeal)
    ∧ quiescent_MxiReferenceIdeal (hMxiReferenceIdeal := hMxiReferenceIdeal)
    ∧ quiescent_MxoKernel (hMxoKernel := hMxoKernel)
    ∧ quiescent_MxoKernelIdeal (hMxoKernelIdeal := hMxoKernelIdeal)
    ∧ quiescent_MxoReferenceIdeal (hMxoReferenceIdeal := hMxoReferenceIdeal)
    ∧ quiescent_CvfKernel (hCvfKernel := hCvfKernel)
    ∧ quiescent_CvfKernelIdeal (hCvfKernelIdeal := hCvfKernelIdeal)
    ∧ quiescent_CvfReferenceIdeal (hCvfReferenceIdeal := hCvfReferenceIdeal)
    ∧ quiescent_TnKernel (hTnKernel := hTnKernel)
    ∧ quiescent_TnKernelIdeal (hTnKernelIdeal := hTnKernelIdeal)
    ∧ quiescent_TnReferenceIdeal (hTnReferenceIdeal := hTnReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_BiaKernel (hBiaKernel := hBiaKernel)
    ∧ quiescent_BiaKernelIdeal (hBiaKernelIdeal := hBiaKernelIdeal)
    ∧ quiescent_BiaReferenceIdeal (hBiaReferenceIdeal := hBiaReferenceIdeal)
    ∧ quiescent_BifKernel (hBifKernel := hBifKernel)
    ∧ quiescent_BifKernelIdeal (hBifKernelIdeal := hBifKernelIdeal)
    ∧ quiescent_BifReferenceIdeal (hBifReferenceIdeal := hBifReferenceIdeal)
    ∧ preserves_LossKernel_LossKernelIdeal
    ∧ algebraic_LossKernelIdeal_LossReferenceIdeal (hLossKernelIdeal := hLossKernelIdeal) (hLossReferenceIdeal := hLossReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_FfndKernel_FfndKernelIdeal
    ∧ algebraic_FfndKernelIdeal_FfndReferenceIdeal_pre_ffnd_finite (hFfndKernelIdeal := hFfndKernelIdeal) (hFfndReferenceIdeal := hFfndReferenceIdeal) (hPre_ffnd_finite := hPre_ffnd_finite)
    ∧ preserves_MobKernel_MobKernelIdeal
    ∧ algebraic_MobKernelIdeal_MobReferenceIdeal (hMobKernelIdeal := hMobKernelIdeal) (hMobReferenceIdeal := hMobReferenceIdeal)
    ∧ preserves_UpbKernel_UpbKernelIdeal
    ∧ algebraic_UpbKernelIdeal_UpbReferenceIdeal (hUpbKernelIdeal := hUpbKernelIdeal) (hUpbReferenceIdeal := hUpbReferenceIdeal)
    ∧ preserves_SwfKernel_SwfKernelIdeal
    ∧ algebraic_SwfKernelIdeal_SwfReferenceIdeal_pre_swf_finite (hSwfKernelIdeal := hSwfKernelIdeal) (hSwfReferenceIdeal := hSwfReferenceIdeal) (hPre_swf_finite := hPre_swf_finite)
    ∧ preserves_GlfKernel_GlfKernelIdeal
    ∧ algebraic_GlfKernelIdeal_GlfReferenceIdeal_pre_glf_finite (hGlfKernelIdeal := hGlfKernelIdeal) (hGlfReferenceIdeal := hGlfReferenceIdeal) (hPre_glf_finite := hPre_glf_finite)
    ∧ preserves_DnfKernel_DnfKernelIdeal
    ∧ algebraic_DnfKernelIdeal_DnfReferenceIdeal_pre_dnf_finite (hDnfKernelIdeal := hDnfKernelIdeal) (hDnfReferenceIdeal := hDnfReferenceIdeal) (hPre_dnf_finite := hPre_dnf_finite)
    ∧ preserves_FfuKernel_FfuKernelIdeal
    ∧ algebraic_FfuKernelIdeal_FfuReferenceIdeal (hFfuKernelIdeal := hFfuKernelIdeal) (hFfuReferenceIdeal := hFfuReferenceIdeal)
    ∧ preserves_FfdKernel_FfdKernelIdeal
    ∧ algebraic_FfdKernelIdeal_FfdReferenceIdeal (hFfdKernelIdeal := hFfdKernelIdeal) (hFfdReferenceIdeal := hFfdReferenceIdeal)
    ∧ preserves_MxiKernel_MxiKernelIdeal
    ∧ algebraic_MxiKernelIdeal_MxiReferenceIdeal (hMxiKernelIdeal := hMxiKernelIdeal) (hMxiReferenceIdeal := hMxiReferenceIdeal)
    ∧ preserves_MxoKernel_MxoKernelIdeal
    ∧ algebraic_MxoKernelIdeal_MxoReferenceIdeal (hMxoKernelIdeal := hMxoKernelIdeal) (hMxoReferenceIdeal := hMxoReferenceIdeal)
    ∧ preserves_CvfKernel_CvfKernelIdeal
    ∧ algebraic_CvfKernelIdeal_CvfReferenceIdeal (hCvfKernelIdeal := hCvfKernelIdeal) (hCvfReferenceIdeal := hCvfReferenceIdeal)
    ∧ preserves_TnKernel_TnKernelIdeal
    ∧ algebraic_TnKernelIdeal_TnReferenceIdeal (hTnKernelIdeal := hTnKernelIdeal) (hTnReferenceIdeal := hTnReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_BiaKernel_BiaKernelIdeal
    ∧ algebraic_BiaKernelIdeal_BiaReferenceIdeal (hBiaKernelIdeal := hBiaKernelIdeal) (hBiaReferenceIdeal := hBiaReferenceIdeal)
    ∧ preserves_BifKernel_BifKernelIdeal
    ∧ algebraic_BifKernelIdeal_BifReferenceIdeal (hBifKernelIdeal := hBifKernelIdeal) (hBifReferenceIdeal := hBifReferenceIdeal)
-- ==== Pre_dnf_finite.lean ====
abbrev S4112x2824 : Shape := ⟨2, ![4112, 2824]⟩
abbrev S4112x1536 : Shape := ⟨2, ![4112, 1536]⟩
abbrev S4 : Shape := ⟨1, ![4]⟩
abbrev S128 : Shape := ⟨1, ![128]⟩
abbrev S_ : Shape := ⟨0, ![]⟩

class Facts : Prop where
  bcast_S_S4112x2824 : S_.BroadcastsInDim S4112x2824 (![] : Fin 0 → Fin S4112x2824.rank)
  bcast_S_S4112x1536 : S_.BroadcastsInDim S4112x1536 (![] : Fin 0 → Fin S4112x1536.rank)
  bcast_S_S4 : S_.BroadcastsInDim S4 (![] : Fin 0 → Fin S4.rank)

variable [Facts]

def fn {F : FTy → Type} [FloatOps F] (main_arg0 : FVec F S4112x2824 .f32) (main_arg1 : FVec F S4112x1536 .f32) (main_arg2 : FVec F S4 .f32) (main_arg3 : FVec F S4 .f32) (main_arg4 : FVec F S128 .f32) : IVec S4112x2824 1 × IVec S4112x1536 1 × IVec S4 1 × IVec S4 1 :=
  let main_v0 : FVec F S4112x2824 .f32 := Host.absf main_arg0
  let main_cst : FVec F S_ .f32 := constant S_ .f32 0x7F800000#32
  let main_v1 : FVec F S4112x2824 .f32 := broadcastInDim S4112x2824 ![] bcast_S_S4112x2824 main_cst
  let main_v2 : IVec S4112x2824 1 := cmpf .olt main_v0 main_v1
  let main_v3 : FVec F S4112x1536 .f32 := Host.absf main_arg1
  let main_cst_0 : FVec F S_ .f32 := constant S_ .f32 0x7F800000#32
  let main_v4 : FVec F S4112x1536 .f32 := broadcastInDim S4112x1536 ![] bcast_S_S4112x1536 main_cst_0
  let main_v5 : IVec S4112x1536 1 := cmpf .olt main_v3 main_v4
  let main_v6 : FVec F S4 .f32 := Host.absf main_arg2
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  (main_v2, main_v5, main_v8, main_v11)
-- ==== Pre_ffnd_finite.lean ====
abbrev S4112x1024 : Shape := ⟨2, ![4112, 1024]⟩
abbrev S4112x2816 : Shape := ⟨2, ![4112, 2816]⟩
abbrev S2816x1024 : Shape := ⟨2, ![2816, 1024]⟩
abbrev S1x1024 : Shape := ⟨2, ![1, 1024]⟩
abbrev S_ : Shape := ⟨0, ![]⟩

class Facts : Prop where
  bcast_S_S4112x1024 : S_.BroadcastsInDim S4112x1024 (![] : Fin 0 → Fin S4112x1024.rank)
  bcast_S_S4112x2816 : S_.BroadcastsInDim S4112x2816 (![] : Fin 0 → Fin S4112x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S4112x1024 .f32) (main_arg1 : FVec F S4112x2816 .f32) (main_arg2 : FVec F S4112x2816 .f32) (main_arg3 : FVec F S2816x1024 .f32) (main_arg4 : FVec F S1x1024 .f32) : IVec S4112x1024 1 × IVec S4112x2816 1 × IVec S4112x2816 1 × IVec S2816x1024 1 × IVec S1x1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x2816 .f32 := Host.absf main_arg1
  let main_cst_0 : FVec F S_ .f32 := constant S_ .f32 0x7F800000#32
  let main_v4 : FVec F S4112x2816 .f32 := broadcastInDim S4112x2816 ![] bcast_S_S4112x2816 main_cst_0
  let main_v5 : IVec S4112x2816 1 := cmpf .olt main_v3 main_v4
  let main_v6 : FVec F S4112x2816 .f32 := Host.absf main_arg2
  let main_cst_1 : FVec F S_ .f32 := constant S_ .f32 0x7F800000#32
  let main_v7 : FVec F S4112x2816 .f32 := broadcastInDim S4112x2816 ![] bcast_S_S4112x2816 main_cst_1
  let main_v8 : IVec S4112x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_glf_finite.lean ====
abbrev S4112x3088 : Shape := ⟨2, ![4112, 3088]⟩
abbrev S16x512 : Shape := ⟨2, ![16, 512]⟩
abbrev S512 : Shape := ⟨1, ![512]⟩
abbrev S256 : Shape := ⟨1, ![256]⟩
abbrev S_ : Shape := ⟨0, ![]⟩

class Facts : Prop where
  bcast_S_S4112x3088 : S_.BroadcastsInDim S4112x3088 (![] : Fin 0 → Fin S4112x3088.rank)
  bcast_S_S16x512 : S_.BroadcastsInDim S16x512 (![] : Fin 0 → Fin S16x512.rank)
  bcast_S_S512 : S_.BroadcastsInDim S512 (![] : Fin 0 → Fin S512.rank)

variable [Facts]

def fn {F : FTy → Type} [FloatOps F] (main_arg0 : FVec F S4112x3088 .f32) (main_arg1 : FVec F S16x512 .f32) (main_arg2 : FVec F S512 .f32) (main_arg3 : FVec F S256 .f32) : IVec S4112x3088 1 × IVec S16x512 1 × IVec S512 1 :=
  let main_v0 : FVec F S4112x3088 .f32 := Host.absf main_arg0
  let main_cst : FVec F S_ .f32 := constant S_ .f32 0x7F800000#32
  let main_v1 : FVec F S4112x3088 .f32 := broadcastInDim S4112x3088 ![] bcast_S_S4112x3088 main_cst
  let main_v2 : IVec S4112x3088 1 := cmpf .olt main_v0 main_v1
  let main_v3 : FVec F S16x512 .f32 := Host.absf main_arg1
  let main_cst_0 : FVec F S_ .f32 := constant S_ .f32 0x7F800000#32
  let main_v4 : FVec F S16x512 .f32 := broadcastInDim S16x512 ![] bcast_S_S16x512 main_cst_0
  let main_v5 : IVec S16x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  (main_v2, main_v5, main_v8)
-- ==== Pre_swf_finite.lean ====
abbrev S4112x2824 : Shape := ⟨2, ![4112, 2824]⟩
abbrev S32x8 : Shape := ⟨2, ![32, 8]⟩
abbrev S8 : Shape := ⟨1, ![8]⟩
abbrev S_ : Shape := ⟨0, ![]⟩

class Facts : Prop where
  bcast_S_S4112x2824 : S_.BroadcastsInDim S4112x2824 (![] : Fin 0 → Fin S4112x2824.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S4112x2824 .f32) (main_arg1 : FVec F S32x8 .f32) (main_arg2 : FVec F S8 .f32) : IVec S4112x2824 1 × IVec S32x8 1 × IVec S8 1 :=
  let main_v0 : FVec F S4112x2824 .f32 := Host.absf main_arg0
  let main_cst : FVec F S_ .f32 := constant S_ .f32 0x7F800000#32
  let main_v1 : FVec F S4112x2824 .f32 := broadcastInDim S4112x2824 ![] bcast_S_S4112x2824 main_cst
  let main_v2 : IVec S4112x2824 1 := cmpf .olt main_v0 main_v1
  let main_v3 : FVec F S32x8 .f32 := Host.absf main_arg1
  let main_cst_0 : FVec F S_ .f32 := constant S_ .f32 0x7F800000#32
  let main_v4 : FVec F S32x8 .f32 := broadcastInDim S32x8 ![] bcast_S_S32x8 main_cst_0
  let main_v5 : IVec S32x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== LossKernel.lean ====
abbrev S4112x1024 : Shape := ⟨2, ![4112, 1024]⟩
abbrev S4096x1024 : Shape := ⟨2, ![4096, 1024]⟩
abbrev S_ : Shape := ⟨0, ![]⟩
abbrev S112x1024 : Shape := ⟨2, ![112, 1024]⟩
abbrev S4224x1024 : Shape := ⟨2, ![4224, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩

abbrev nBuf : Space → Nat
  | .hbm => 7
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S_, .f32⟩
  | .hbm, ⟨3, _⟩ => ⟨S112x1024, .f32⟩
  | .hbm, ⟨4, _⟩ => ⟨S4224x1024, .f32⟩
  | .hbm, ⟨5, _⟩ => ⟨S4224x1024, .f32⟩
  | .hbm, ⟨6, _⟩ => ⟨S1x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4112x1024 : Shape := ⟨2, ![4112, 1024]⟩
abbrev S4096x1024 : Shape := ⟨2, ![4096, 1024]⟩
abbrev S_ : Shape := ⟨0, ![]⟩
abbrev S4096 : Shape := ⟨1, ![4096]⟩
abbrev S112x1024 : Shape := ⟨2, ![112, 1024]⟩
abbrev S4224x1024 : Shape := ⟨2, ![4224, 1024]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4112x1024, .f32⟩
  | .hbm, ⟨28, _⟩ => ⟨S_, .f32⟩
  | .hbm, ⟨29, _⟩ => ⟨S112x1024, .f32⟩
  | .hbm, ⟨30, _⟩ => ⟨S4224x1024, .f32⟩
  | .hbm, ⟨31, _⟩ => ⟨S1x1, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== ConvKernel.lean ====
abbrev S4112x2824 : Shape := ⟨2, ![4112, 2824]⟩
abbrev S4x1536 : Shape := ⟨2, ![4, 1536]⟩
abbrev S4112x1536 : Shape := ⟨2, ![4112, 1536]⟩
abbrev S4224x3200 : Shape := ⟨2, ![4224, 3200]⟩
abbrev S2824x4112 : Shape := ⟨2, ![2824, 4112]⟩
abbrev S64x4112 : Shape := ⟨2, ![64, 4112]⟩
abbrev S_ : Shape := ⟨0, ![]⟩
abbrev S120x4112 : Shape := ⟨2, ![120, 4112]⟩
abbrev S512x4112 : Shape := ⟨2, ![512, 4112]⟩
abbrev S2048x4112 : Shape := ⟨2, ![2048, 4112]⟩
abbrev S4x4112 : Shape := ⟨2, ![4, 4112]⟩
abbrev S3200x4112 : Shape := ⟨2, ![3200, 4112]⟩
abbrev S4112x3200 : Shape := ⟨2, ![4112, 3200]⟩
abbrev S112x3200 : Shape := ⟨2, ![112, 3200]⟩
abbrev S112x1536 : Shape := ⟨2, ![112, 1536]⟩
abbrev S4224x1536 : Shape := ⟨2, ![4224, 1536]⟩
abbrev S384x512 : Shape := ⟨2, ![384, 512]⟩
abbrev S8x512 : Shape := ⟨2, ![8, 512]⟩
abbrev S4x512 : Shape := ⟨2, ![4, 512]⟩
abbrev S392x512 : Shape := ⟨2, ![392, 512]⟩
abbrev S1x512 : Shape := ⟨2, ![1, 512]⟩
abbrev S512 : Shape := ⟨1, ![512]⟩

abbrev nBuf : Space → Nat
  | .hbm => 25
  | .vmem => 16
  | .smem => 0
  | _ => 0

abbrev bufTy : (tb : Table) → Fin (tcTables nBuf tb) → BufTy
  | .hbm, ⟨0, _⟩ => ⟨S4112x2824, .f32⟩
  | .hbm, ⟨1, _⟩ => ⟨S4x1536, .f32⟩
  | .hbm, ⟨2, _⟩ => ⟨S4112x1536, .f32⟩
  | .hbm, ⟨3, _⟩ => ⟨S4224x3200, .bf16⟩
  | .hbm, ⟨4, _⟩ => ⟨S2824x4112, .f32⟩
  | .hbm, ⟨5, _⟩ => ⟨S64x4112, .f32⟩
  | .hbm, ⟨6, _⟩ => ⟨S64x4112, .f32⟩
  | .hbm, ⟨7, _⟩ => ⟨S64x4112, .f32⟩
  | .hbm, ⟨8, _⟩ => ⟨S64x4112, .f32⟩
  | .hbm, ⟨9, _⟩ => ⟨S_, .f32⟩
  | .hbm, ⟨10, _⟩ => ⟨S120x4112, .f32⟩
  | .hbm, ⟨11, _⟩ => ⟨S512x4112, .f32⟩
  | .hbm, ⟨12, _⟩ => ⟨S2048x4112, .f32⟩
  | .hbm, ⟨13, _⟩ => ⟨S4x4112, .f32⟩
  | .hbm, ⟨14, _⟩ => ⟨S4x4112, .f32⟩
  | .hbm, ⟨15, _⟩ => ⟨S3200x4112, .f32⟩
  | .hbm, ⟨16, _⟩ => ⟨S4112x3200, .f32⟩
  | .hbm, ⟨17, _⟩ => ⟨S_, .f32⟩
  | .hbm, ⟨18, _⟩ => ⟨S112x3200, .f32⟩
  | .hbm, ⟨19, _⟩ => ⟨S4224x3200, .f32⟩
  | .hbm, ⟨20, _⟩ => ⟨S_, .f32⟩
  | .hbm, ⟨21, _⟩ => ⟨S112x1536, .f32⟩
  | .hbm, ⟨22, _⟩ => ⟨S4224x1536, .f32⟩
  | .hbm, ⟨23, _⟩ => ⟨S4224x3200, .bf16⟩
  | .hbm, ⟨24, _⟩ => ⟨S4x1536, .f32⟩
  | .local _ .vmem, ⟨0, _⟩ => ⟨S384x512, .f32⟩
  | .local _ .vmem, ⟨1, _⟩ => ⟨S384x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S384x512, .f32⟩
  | .local _ .vmem, ⟨7, _⟩ => ⟨S384x512, .f32⟩
  | .local _ .vmem, ⟨8, _⟩ => ⟨S8x512, .f32⟩
  | .local _ .vmem, ⟨9, _⟩ => ⟨S8x512, .f32⟩
  | .local _ .vmem, ⟨10, _⟩ => ⟨S384x512, .bf16⟩
  | .local _ .vmem, ⟨11, _⟩ => ⟨S384x512, .bf16⟩
  | .local _ .vmem, ⟨12, _⟩ => ⟨S4x512, .f32⟩
  | .local _ .vmem, ⟨13, _⟩ => ⟨S4x512, .f32⟩
  | .local _ .vmem, ⟨14, _⟩ => ⟨S392x512, .f32⟩
  | .local _ .vmem, ⟨15, _⟩ => ⟨S392x512, .f32⟩
  | _, _ => ⟨S4112x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c527_i32 : BitVec 32 := 527#32
  let v2 : BitVec 32 := Scalar.minsi v1 c527_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvReferenceIdeal.lean ====
abbrev S4112x2824 : Shape := ⟨2, ![4112, 2824]⟩
abbrev S4x1536 : Shape := ⟨2, ![4, 1536]⟩
abbrev S4112x1536 : Shape := ⟨2, ![4112, 1536]⟩
abbrev S4224x3200 : Shape := ⟨2, ![4224, 3200]⟩
abbrev S_ : Shape := ⟨0, ![]⟩
abbrev S112x1536 : Shape := ⟨2, ![112, 1536]⟩
abbrev S4224x1536 : Shape := ⟨2, ![4224, 1536]⟩
abbrev S3x1536 : Shape := ⟨2, ![3, 1536]⟩
abbrev S4227x1536 : Shape := ⟨2, ![4227, 1536]⟩
abbrev S1x1536 : Shape := ⟨2, ![1, 1536]⟩
abbrev S1536 : Shape := ⟨1, ![1536]⟩
abbrev S4224x1024 : Shape := ⟨2, ![4224, 1024]⟩
abbrev S4224x640 : Shape := ⟨2, ![4224, 640]⟩

abbrev nBuf : Space → Nat
  | .hbm => 110
  | .vmem => 0
  | .smem => 0
  | _ => 0

abbrev bufTy : (tb : Table) → Fin (tcTables nBuf tb) → BufTy
  | .hbm, ⟨0, _⟩ => ⟨S4112x2824, .f32⟩
  | .hbm, ⟨1, _⟩ => ⟨S4x1536, .f32⟩
  | .hbm, ⟨2, _⟩ => ⟨S4112x1536, .f32⟩
  | .hbm, ⟨3, _⟩ => ⟨S4224x3200, .bf16⟩
  | .hbm, ⟨4, _⟩ => ⟨S4112x1536, .f32⟩
  | .hbm, ⟨5, _⟩ => ⟨S_, .f32⟩
  | .hbm, ⟨6, _⟩ => ⟨S112x1536, .f32⟩
  | .hbm, ⟨7, _⟩ => ⟨S4224x1536, .f32⟩
  | .hbm, ⟨8, _⟩ => ⟨S_, .f32⟩
  | .hbm, ⟨9, _⟩ => ⟨S3x1536, .f32⟩
  | .hbm, ⟨10, _⟩ => ⟨S4227x1536, .f32⟩
  | .hbm, ⟨11, _⟩ => ⟨S_, .f32⟩
  | .hbm, ⟨12, _⟩ => ⟨S3x1536, .f32⟩
  | .hbm, ⟨13, _⟩ => ⟨S1x1536, .f32⟩
  | .hbm, ⟨14, _⟩ => ⟨S1536, .f32⟩
  | .hbm, ⟨15, _⟩ => ⟨S1x1536, .f32⟩
  | .hbm, ⟨16, _⟩ => ⟨S4224x1536, .f32⟩
  | .hbm, ⟨17, _⟩ => ⟨S4224x1536, .f32⟩
  | .hbm, ⟨18, _⟩ => ⟨S4224x1536, .f32⟩
  | .hbm, ⟨19, _⟩ => ⟨S_, .f32⟩
  | .hbm, ⟨20, _⟩ => ⟨S4224x1536, .f32⟩
  | .hbm, ⟨21, _⟩ => ⟨S4224x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S4224x1536, .f32⟩
  | .hbm, ⟨26, _⟩ => ⟨S4224x1536, .f32⟩
  | .hbm, ⟨27, _⟩ => ⟨S4224x1536, .f32⟩
  | .hbm, ⟨28, _⟩ => ⟨S4224x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S4224x1536, .f32⟩
  | .hbm, ⟨33, _⟩ => ⟨S4224x1536, .f32⟩
  | .hbm, ⟨34, _⟩ => ⟨S4224x1536, .f32⟩
  | .hbm, ⟨35, _⟩ => ⟨S4224x1536, .f32⟩
  | .hbm, ⟨36, _⟩ => ⟨S1x1536, .f32⟩
  | .hbm, ⟨37, _⟩ => ⟨S1536, .f32⟩
  | .hbm, ⟨38, _⟩ => ⟨S1x1536, .f32⟩
  | .hbm, ⟨39, _⟩ => ⟨S4224x1536, .f32⟩
  | .hbm, ⟨40, _⟩ => ⟨S4224x1536, .f32⟩
  | .hbm, ⟨41, _⟩ => ⟨S4224x1536, .f32⟩
  | .hbm, ⟨42, _⟩ => ⟨S4224x1536, .f32⟩
  | .hbm, ⟨43, _⟩ => ⟨S_, .f32⟩
  | .hbm, ⟨44, _⟩ => ⟨S112x1536, .f32⟩
  | .hbm, ⟨45, _⟩ => ⟨S4224x1536, .f32⟩
  | .hbm, ⟨46, _⟩ => ⟨S4224x1536, .f32⟩
  | .hbm, ⟨47, _⟩ => ⟨S4224x1536, .f32⟩
  | .hbm, ⟨48, _⟩ => ⟨S4224x1536, .f32⟩
  | .hbm, ⟨49, _⟩ => ⟨S_, .f32⟩
  | .hbm, ⟨50, _⟩ => ⟨S1536, .f32⟩
  | .hbm, ⟨51, _⟩ => ⟨S1x1536, .f32⟩
  | .hbm, ⟨52, _⟩ => ⟨S_, .f32⟩
  | .hbm, ⟨53, _⟩ => ⟨S4227x1536, .f32⟩
  | .hbm, ⟨54, _⟩ => ⟨S_, .f32⟩
  | .hbm, ⟨55, _⟩ => ⟨S1536, .f32⟩
  | .hbm, ⟨56, _⟩ => ⟨S1x1536, .f32⟩
  | .hbm, ⟨57, _⟩ => ⟨S_, .f32⟩
  | .hbm, ⟨58, _⟩ => ⟨S4x1536, .f32⟩
  | .hbm, ⟨59, _⟩ => ⟨S4224x1536, .f32⟩
  | .hbm, ⟨60, _⟩ => ⟨S4224x1536, .f32⟩
  | .hbm, ⟨61, _⟩ => ⟨S4224x1536, .f32⟩
  | .hbm, ⟨62, _⟩ => ⟨S_, .f32⟩
  | .hbm, ⟨63, _⟩ => ⟨S1536, .f32⟩
  | .hbm, ⟨64, _⟩ => ⟨S1x1536, .f32⟩
  | .hbm, ⟨65, _⟩ => ⟨S_, .f32⟩
  | .hbm, ⟨66, _⟩ => ⟨S4227x1536, .f32⟩
  | .hbm, ⟨67, _⟩ => ⟨S4227x1536, .f32⟩
  | .hbm, ⟨68, _⟩ => ⟨S_, .f32⟩
  | .hbm, ⟨69, _⟩ => ⟨S1536, .f32⟩
  | .hbm, ⟨70, _⟩ => ⟨S1x1536, .f32⟩
  | .hbm, ⟨71, _⟩ => ⟨S_, .f32⟩
  | .hbm, ⟨72, _⟩ => ⟨S4x1536, .f32⟩
  | .hbm, ⟨73, _⟩ => ⟨S4x1536, .f32⟩
  | .hbm, ⟨74, _⟩ => ⟨S4224x1536, .f32⟩
  | .hbm, ⟨75, _⟩ => ⟨S4224x1536, .f32⟩
  | .hbm, ⟨76, _⟩ => ⟨S4224x1536, .f32⟩
  | .hbm, ⟨77, _⟩ => ⟨S_, .f32⟩
  | .hbm, ⟨78, _⟩ => ⟨S1536, .f32⟩
  | .hbm, ⟨79, _⟩ => ⟨S1x1536, .f32⟩
  | .hbm, ⟨80, _⟩ => ⟨S_, .f32⟩
  | .hbm, ⟨81, _⟩ => ⟨S4227x1536, .f32⟩
  | .hbm, ⟨82, _⟩ => ⟨S4227x1536, .f32⟩
  | .hbm, ⟨83, _⟩ => ⟨S_, .f32⟩
  | .hbm, ⟨84, _⟩ => ⟨S1536, .f32⟩
  | .hbm, ⟨85, _⟩ => ⟨S1x1536, .f32⟩
  | .hbm, ⟨86, _⟩ => ⟨S_, .f32⟩
  | .hbm, ⟨87, _⟩ => ⟨S4x1536, .f32⟩
  | .hbm, ⟨88, _⟩ => ⟨S4x1536, .f32⟩
  | .hbm, ⟨89, _⟩ => ⟨S4224x1536, .f32⟩
  | .hbm, ⟨90, _⟩ => ⟨S4224x1536, .f32⟩
  | .hbm, ⟨91, _⟩ => ⟨S4224x1536, .f32⟩
  | .hbm, ⟨92, _⟩ => ⟨S_, .f32⟩
  | .hbm, ⟨93, _⟩ => ⟨S1536, .f32⟩
  | .hbm, ⟨94, _⟩ => ⟨S1x1536, .f32⟩
  | .hbm, ⟨95, _⟩ => ⟨S_, .f32⟩
  | .hbm, ⟨96, _⟩ => ⟨S4227x1536, .f32⟩
  | .hbm, ⟨97, _⟩ => ⟨S4227x1536, .f32⟩
  | .hbm, ⟨98, _⟩ => ⟨S_, .f32⟩
  | .hbm, ⟨99, _⟩ => ⟨S1536, .f32⟩
  | .hbm, ⟨100, _⟩ => ⟨S1x1536, .f32⟩
  | .hbm, ⟨101, _⟩ => ⟨S_, .f32⟩
  | .hbm, ⟨102, _⟩ => ⟨S4x1536, .f32⟩
  | .hbm, ⟨103, _⟩ => ⟨S4x1536, .f32⟩
  | .hbm, ⟨104, _⟩ => ⟨S3x1536, .f32⟩
  | .hbm, ⟨105, _⟩ => ⟨S4224x1536, .f32⟩
  | .hbm, ⟨106, _⟩ => ⟨S4224x1024, .bf16⟩
  | .hbm, ⟨107, _⟩ => ⟨S4224x1536, .bf16⟩
  | .hbm, ⟨108, _⟩ => ⟨S4224x640, .bf16⟩
  | .hbm, ⟨109, _⟩ => ⟨S4224x3200, .bf16⟩
  | _, _ => ⟨S4112x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_cst_18 : Ref sig .tc := ⟨.hbm, 98, rfl⟩
abbrev main_v75 : Ref sig .tc := ⟨.hbm, 99, rfl⟩
abbrev main_v76 : Ref sig .tc := ⟨.hbm, 100, rfl⟩
abbrev main_cst_19 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== FfndKernel.lean ====
abbrev S4112x1024 : Shape := ⟨2, ![4112, 1024]⟩
abbrev S4112x2816 : Shape := ⟨2, ![4112, 2816]⟩
abbrev S2816x1024 : Shape := ⟨2, ![2816, 1024]⟩
abbrev S1x1024 : Shape := ⟨2, ![1, 1024]⟩
abbrev S_ : Shape := ⟨0, ![]⟩
abbrev S112x2816 : Shape := ⟨2, ![112, 2816]⟩
abbrev S4224x2816 : Shape := ⟨2, ![4224, 2816]⟩
abbrev S112x1024 : Shape := ⟨2, ![112, 1024]⟩
abbrev S4224x1024 : Shape := ⟨2, ![4224, 1024]⟩
abbrev S4224x5632 : Shape := ⟨2, ![4224, 5632]⟩
abbrev S384x1024 : Shape := ⟨2, ![384, 1024]⟩
abbrev S384x2816 : Shape := ⟨2, ![384, 2816]⟩
abbrev S384x5632 : Shape := ⟨2, ![384, 5632]⟩
abbrev S384 : Shape := ⟨1, ![384]⟩
abbrev S384x1 : Shape := ⟨2, ![384, 1]⟩
abbrev S1024 : Shape := ⟨1, ![1024]⟩

abbrev nBuf : Space → Nat
  | .hbm => 34
  | .vmem => 15
  | .smem => 0
  | _ => 0

abbrev bufTy : (tb : Table) → Fin (tcTables nBuf tb) → BufTy
  | .hbm, ⟨0, _⟩ => ⟨S4112x1024, .f32⟩
  | .hbm, ⟨1, _⟩ => ⟨S4112x2816, .f32⟩
  | .hbm, ⟨2, _⟩ => ⟨S4112x2816, .f32⟩
  | .hbm, ⟨3, _⟩ => ⟨S2816x1024, .f32⟩
  | .hbm, ⟨4, _⟩ => ⟨S1x1024, .f32⟩
  | .hbm, ⟨5, _⟩ => ⟨S_, .f32⟩
  | .hbm, ⟨6, _⟩ => ⟨S112x2816, .f32⟩
  | .hbm, ⟨7, _⟩ => ⟨S4224x2816, .f32⟩
  | .hbm, ⟨8, _⟩ => ⟨S4224x2816, .bf16⟩
  | .hbm, ⟨9, _⟩ => ⟨S_, .f32⟩
  | .hbm, ⟨10, _⟩ => ⟨S112x2816, .f32⟩
  | .hbm, ⟨11, _⟩ => ⟨S4224x2816, .f32⟩
  | .hbm, ⟨12, _⟩ => ⟨S4224x2816, .bf16⟩
  | .hbm, ⟨13, _⟩ => ⟨S2816x1024, .bf16⟩
  | .hbm, ⟨14, _⟩ => ⟨S4112x2816, .f32⟩
  | .hbm, ⟨15, _⟩ => ⟨S4112x2816, .f32⟩
  | .hbm, ⟨16, _⟩ => ⟨S_, .f32⟩
  | .hbm, ⟨17, _⟩ => ⟨S4112x2816, .f32⟩
  | .hbm, ⟨18, _⟩ => ⟨S4112x2816, .f32⟩
  | .hbm, ⟨19, _⟩ => ⟨S_, .f32⟩
  | .hbm, ⟨20, _⟩ => ⟨S4112x2816, .f32⟩
  | .hbm, ⟨21, _⟩ => ⟨S4112x2816, .f32⟩
  | .hbm, ⟨22, _⟩ => ⟨S4112x2816, .f32⟩
  | .hbm, ⟨23, _⟩ => ⟨S4112x2816, .f32⟩
  | .hbm, ⟨24, _⟩ => ⟨S4112x1024, .f32⟩
  | .hbm, ⟨25, _⟩ => ⟨S_, .f32⟩
  | .hbm, ⟨26, _⟩ => ⟨S112x1024, .f32⟩
  | .hbm, ⟨27, _⟩ => ⟨S4224x1024, .f32⟩
  | .hbm, ⟨28, _⟩ => ⟨S_, .f32⟩
  | .hbm, ⟨29, _⟩ => ⟨S112x1024, .f32⟩
  | .hbm, ⟨30, _⟩ => ⟨S4224x1024, .f32⟩
  | .hbm, ⟨31, _⟩ => ⟨S4224x1024, .bf16⟩
  | .hbm, ⟨32, _⟩ => ⟨S1x1024, .f32⟩
  | .hbm, ⟨33, _⟩ => ⟨S4224x5632, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S2816x1024, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | .local _ .vmem, ⟨13, _⟩ => ⟨S384x5632, .bf16⟩
  | .local _ .vmem, ⟨14, _⟩ => ⟨S384x5632, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfndReferenceIdeal.lean ====
abbrev S4112x1024 : Shape := ⟨2, ![4112, 1024]⟩
abbrev S4112x2816 : Shape := ⟨2, ![4112, 2816]⟩
abbrev S2816x1024 : Shape := ⟨2, ![2816, 1024]⟩
abbrev S1x1024 : Shape := ⟨2, ![1, 1024]⟩
abbrev S_ : Shape := ⟨0, ![]⟩
abbrev S4112 : Shape := ⟨1, ![4112]⟩
abbrev S4112x1 : Shape := ⟨2, ![4112, 1]⟩
abbrev S1024 : Shape := ⟨1, ![1024]⟩
abbrev S112x1024 : Shape := ⟨2, ![112, 1024]⟩
abbrev S4224x1024 : Shape := ⟨2, ![4224, 1024]⟩
abbrev S4112x5632 : Shape := ⟨2, ![4112, 5632]⟩
abbrev S112x5632 : Shape := ⟨2, ![112, 5632]⟩
abbrev S4224x5632 : Shape := ⟨2, ![4224, 5632]⟩

abbrev nBuf : Space → Nat
  | .hbm => 84
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x2816, .f32⟩
  | .hbm, ⟨2, _⟩ => ⟨S4112x2816, .f32⟩
  | .hbm, ⟨3, _⟩ => ⟨S2816x1024, .f32⟩
  | .hbm, ⟨4, _⟩ => ⟨S1x1024, .f32⟩
  | .hbm, ⟨5, _⟩ => ⟨S4112x2816, .f32⟩
  | .hbm, ⟨6, _⟩ => ⟨S4112x2816, .f32⟩
  | .hbm, ⟨7, _⟩ => ⟨S_, .f32⟩
  | .hbm, ⟨8, _⟩ => ⟨S4112x2816, .f32⟩
  | .hbm, ⟨9, _⟩ => ⟨S4112x2816, .f32⟩
  | .hbm, ⟨10, _⟩ => ⟨S_, .f32⟩
  | .hbm, ⟨11, _⟩ => ⟨S4112x2816, .f32⟩
  | .hbm, ⟨12, _⟩ => ⟨S4112x2816, .f32⟩
  | .hbm, ⟨13, _⟩ => ⟨S_, .f32⟩
  | .hbm, ⟨14, _⟩ => ⟨S4112x2816, .f32⟩
  | .hbm, ⟨15, _⟩ => ⟨S4112x2816, .f32⟩
  | .hbm, ⟨16, _⟩ => ⟨S4112x2816, .f32⟩
  | .hbm, ⟨17, _⟩ => ⟨S4112x2816, .f32⟩
  | .hbm, ⟨18, _⟩ => ⟨S4112x2816, .f32⟩
  | .hbm, ⟨19, _⟩ => ⟨S4112x1024, .f32⟩
  | .hbm, ⟨20, _⟩ => ⟨S4112x1024, .f32⟩
  | .hbm, ⟨21, _⟩ => ⟨S_, .f32⟩
  | .hbm, ⟨22, _⟩ => ⟨S4112, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S4112x1, .f32⟩
  | .hbm, ⟨31, _⟩ => ⟨S4112x1, .f32⟩
  | .hbm, ⟨32, _⟩ => ⟨S_, .f32⟩
  | .hbm, ⟨33, _⟩ => ⟨S4112x1, .f32⟩
  | .hbm, ⟨34, _⟩ => ⟨S4112x1, .f32⟩
  | .hbm, ⟨35, _⟩ => ⟨S4112x1024, .f32⟩
  | .hbm, ⟨36, _⟩ => ⟨S4112x1024, .f32⟩
  | .hbm, ⟨37, _⟩ => ⟨S4112x1024, .f32⟩
  | .hbm, ⟨38, _⟩ => ⟨S4112x1024, .f32⟩
  | .hbm, ⟨39, _⟩ => ⟨S_, .f32⟩
  | .hbm, ⟨40, _⟩ => ⟨S4112x1024, .f32⟩
  | .hbm, ⟨41, _⟩ => ⟨S4112x1024, .f32⟩
  | .hbm, ⟨42, _⟩ => ⟨S_, .f32⟩
  | .hbm, ⟨43, _⟩ => ⟨S4112x1024, .f32⟩
  | .hbm, ⟨44, _⟩ => ⟨S4112x1024, .f32⟩
  | .hbm, ⟨45, _⟩ => ⟨S4112x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S_, .f32⟩
  | .hbm, ⟨53, _⟩ => ⟨S4112, .f32⟩
  | .hbm, ⟨54, _⟩ => ⟨S4112x1, .f32⟩
  | .hbm, ⟨55, _⟩ => ⟨S4112x1024, .f32⟩
  | .hbm, ⟨56, _⟩ => ⟨S4112x1024, .f32⟩
  | .hbm, ⟨57, _⟩ => ⟨S4112x1, .f32⟩
  | .hbm, ⟨58, _⟩ => ⟨S_, .f32⟩
  | .hbm, ⟨59, _⟩ => ⟨S4112x1, .f32⟩
  | .hbm, ⟨60, _⟩ => ⟨S4112x1, .f32⟩
  | .hbm, ⟨61, _⟩ => ⟨S_, .f32⟩
  | .hbm, ⟨62, _⟩ => ⟨S4112, .f32⟩
  | .hbm, ⟨63, _⟩ => ⟨S4112x1024, .f32⟩
  | .hbm, ⟨64, _⟩ => ⟨S4112x1024, .f32⟩
  | .hbm, ⟨65, _⟩ => ⟨S4112x1024, .f32⟩
  | .hbm, ⟨66, _⟩ => ⟨S4112x1024, .f32⟩
  | .hbm, ⟨67, _⟩ => ⟨S4112x1024, .f32⟩
  | .hbm, ⟨68, _⟩ => ⟨S4112x2816, .f32⟩
  | .hbm, ⟨69, _⟩ => ⟨S4112x2816, .f32⟩
  | .hbm, ⟨70, _⟩ => ⟨S4112x2816, .f32⟩
  | .hbm, ⟨71, _⟩ => ⟨S4112x2816, .f32⟩
  | .hbm, ⟨72, _⟩ => ⟨S4112x2816, .f32⟩
  | .hbm, ⟨73, _⟩ => ⟨S4112x2816, .f32⟩
  | .hbm, ⟨74, _⟩ => ⟨S4112x2816, .f32⟩
  | .hbm, ⟨75, _⟩ => ⟨S_, .f32⟩
  | .hbm, ⟨76, _⟩ => ⟨S112x1024, .f32⟩
  | .hbm, ⟨77, _⟩ => ⟨S4224x1024, .f32⟩
  | .hbm, ⟨78, _⟩ => ⟨S4224x1024, .bf16⟩
  | .hbm, ⟨79, _⟩ => ⟨S4112x5632, .f32⟩
  | .hbm, ⟨80, _⟩ => ⟨S_, .f32⟩
  | .hbm, ⟨81, _⟩ => ⟨S112x5632, .f32⟩
  | .hbm, ⟨82, _⟩ => ⟨S4224x5632, .f32⟩
  | .hbm, ⟨83, _⟩ => ⟨S4224x5632, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩

abbrev nD : Nat := 1
abbrev τ : Topo := Topo.v7x

variable {F : FTy → Type} [FloatOps F]
-- ==== MobKernel.lean ====
abbrev S4112x1024 : Shape := ⟨2, ![4112, 1024]⟩
abbrev S1024x1024 : Shape := ⟨2, ![1024, 1024]⟩
abbrev S1x1024 : Shape := ⟨2, ![1, 1024]⟩
abbrev S_ : Shape := ⟨0, ![]⟩
abbrev S112x1024 : Shape := ⟨2, ![112, 1024]⟩
abbrev S4224x1024 : Shape := ⟨2, ![4224, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024x1024, .f32⟩
  | .hbm, ⟨3, _⟩ => ⟨S1x1024, .f32⟩
  | .hbm, ⟨4, _⟩ => ⟨S4112x1024, .f32⟩
  | .hbm, ⟨5, _⟩ => ⟨S_, .f32⟩
  | .hbm, ⟨6, _⟩ => ⟨S112x1024, .f32⟩
  | .hbm, ⟨7, _⟩ => ⟨S4224x1024, .f32⟩
  | .hbm, ⟨8, _⟩ => ⟨S_, .f32⟩
  | .hbm, ⟨9, _⟩ => ⟨S112x1024, .f32⟩
  | .hbm, ⟨10, _⟩ => ⟨S4224x1024, .f32⟩
  | .hbm, ⟨11, _⟩ => ⟨S1024x1024, .bf16⟩
  | .hbm, ⟨12, _⟩ => ⟨S4224x1024, .bf16⟩
  | .hbm, ⟨13, _⟩ => ⟨S1x1024, .f32⟩
  | .hbm, ⟨14, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1024x1024, .bf16⟩
  | .local _ .vmem, ⟨6, _⟩ => ⟨S384x1024, .bf16⟩
  | .local _ .vmem, ⟨7, _⟩ => ⟨S384x1024, .bf16⟩
  | .local _ .vmem, ⟨8, _⟩ => ⟨S1x1024, .f32⟩
  | .local _ .vmem, ⟨9, _⟩ => ⟨S384x1024, .f32⟩
  | .local _ .vmem, ⟨10, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MobReferenceIdeal.lean ====
abbrev S4112x1024 : Shape := ⟨2, ![4112, 1024]⟩
abbrev S1024x1024 : Shape := ⟨2, ![1024, 1024]⟩
abbrev S1x1024 : Shape := ⟨2, ![1, 1024]⟩
abbrev S_ : Shape := ⟨0, ![]⟩
abbrev S4112 : Shape := ⟨1, ![4112]⟩
abbrev S4112x1 : Shape := ⟨2, ![4112, 1]⟩
abbrev S1024 : Shape := ⟨1, ![1024]⟩
abbrev S112x1024 : Shape := ⟨2, ![112, 1024]⟩
abbrev S4224x1024 : Shape := ⟨2, ![4224, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024x1024, .f32⟩
  | .hbm, ⟨3, _⟩ => ⟨S1x1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4112x1024, .f32⟩
  | .hbm, ⟨29, _⟩ => ⟨S4112x1024, .f32⟩
  | .hbm, ⟨30, _⟩ => ⟨S4112x1024, .f32⟩
  | .hbm, ⟨31, _⟩ => ⟨S_, .f32⟩
  | .hbm, ⟨32, _⟩ => ⟨S4112, .f32⟩
  | .hbm, ⟨33, _⟩ => ⟨S4112x1, .f32⟩
  | .hbm, ⟨34, _⟩ => ⟨S4112x1024, .f32⟩
  | .hbm, ⟨35, _⟩ => ⟨S4112x1024, .f32⟩
  | .hbm, ⟨36, _⟩ => ⟨S4112x1, .f32⟩
  | .hbm, ⟨37, _⟩ => ⟨S_, .f32⟩
  | .hbm, ⟨38, _⟩ => ⟨S4112x1, .f32⟩
  | .hbm, ⟨39, _⟩ => ⟨S4112x1, .f32⟩
  | .hbm, ⟨40, _⟩ => ⟨S_, .f32⟩
  | .hbm, ⟨41, _⟩ => ⟨S4112, .f32⟩
  | .hbm, ⟨42, _⟩ => ⟨S4112x1024, .f32⟩
  | .hbm, ⟨43, _⟩ => ⟨S4112x1024, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1024, .f32⟩
  | .hbm, ⟨48, _⟩ => ⟨S_, .f32⟩
  | .hbm, ⟨49, _⟩ => ⟨S112x1024, .f32⟩
  | .hbm, ⟨50, _⟩ => ⟨S4224x1024, .f32⟩
  | .hbm, ⟨51, _⟩ => ⟨S4224x1024, .bf16⟩
  | .hbm, ⟨52, _⟩ => ⟨S_, .f32⟩
  | .hbm, ⟨53, _⟩ => ⟨S112x1024, .f32⟩
  | .hbm, ⟨54, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== UpbKernel.lean ====
abbrev S4112x1024 : Shape := ⟨2, ![4112, 1024]⟩
abbrev S1x1024 : Shape := ⟨2, ![1, 1024]⟩
abbrev S1024x2816 : Shape := ⟨2, ![1024, 2816]⟩
abbrev S4112x2816 : Shape := ⟨2, ![4112, 2816]⟩
abbrev S2816x1024 : Shape := ⟨2, ![2816, 1024]⟩
abbrev S5632x1024 : Shape := ⟨2, ![5632, 1024]⟩
abbrev S4112x5632 : Shape := ⟨2, ![4112, 5632]⟩
abbrev S_ : Shape := ⟨0, ![]⟩
abbrev S112x5632 : Shape := ⟨2, ![112, 5632]⟩
abbrev S4224x5632 : Shape := ⟨2, ![4224, 5632]⟩
abbrev S112x1024 : Shape := ⟨2, ![112, 1024]⟩
abbrev S4224x1024 : Shape := ⟨2, ![4224, 1024]⟩
abbrev S384x5632 : Shape := ⟨2, ![384, 5632]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 24
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S2816x1024, .f32⟩
  | .hbm, ⟨8, _⟩ => ⟨S2816x1024, .f32⟩
  | .hbm, ⟨9, _⟩ => ⟨S5632x1024, .f32⟩
  | .hbm, ⟨10, _⟩ => ⟨S5632x1024, .bf16⟩
  | .hbm, ⟨11, _⟩ => ⟨S4112x5632, .f32⟩
  | .hbm, ⟨12, _⟩ => ⟨S4112x5632, .bf16⟩
  | .hbm, ⟨13, _⟩ => ⟨S_, .bf16⟩
  | .hbm, ⟨14, _⟩ => ⟨S112x5632, .bf16⟩
  | .hbm, ⟨15, _⟩ => ⟨S4224x5632, .bf16⟩
  | .hbm, ⟨16, _⟩ => ⟨S_, .f32⟩
  | .hbm, ⟨17, _⟩ => ⟨S112x1024, .f32⟩
  | .hbm, ⟨18, _⟩ => ⟨S4224x1024, .f32⟩
  | .hbm, ⟨19, _⟩ => ⟨S_, .f32⟩
  | .hbm, ⟨20, _⟩ => ⟨S112x1024, .f32⟩
  | .hbm, ⟨21, _⟩ => ⟨S4224x1024, .f32⟩
  | .hbm, ⟨22, _⟩ => ⟨S4224x1024, .f32⟩
  | .hbm, ⟨23, _⟩ => ⟨S1x1024, .f32⟩
  | .local _ .vmem, ⟨0, _⟩ => ⟨S384x5632, .bf16⟩
  | .local _ .vmem, ⟨1, _⟩ => ⟨S384x5632, .bf16⟩
  | .local _ .vmem, ⟨2, _⟩ => ⟨S5632x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpbReferenceIdeal.lean ====
abbrev S4112x1024 : Shape := ⟨2, ![4112, 1024]⟩
abbrev S1x1024 : Shape := ⟨2, ![1, 1024]⟩
abbrev S1024x2816 : Shape := ⟨2, ![1024, 2816]⟩
abbrev S4112x2816 : Shape := ⟨2, ![4112, 2816]⟩
abbrev S_ : Shape := ⟨0, ![]⟩
abbrev S4112 : Shape := ⟨1, ![4112]⟩
abbrev S4112x1 : Shape := ⟨2, ![4112, 1]⟩
abbrev S1024 : Shape := ⟨1, ![1024]⟩
abbrev S112x1024 : Shape := ⟨2, ![112, 1024]⟩
abbrev S4224x1024 : Shape := ⟨2, ![4224, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S4112x1024, .f32⟩
  | .hbm, ⟨26, _⟩ => ⟨S4112x2816, .f32⟩
  | .hbm, ⟨27, _⟩ => ⟨S4112x2816, .f32⟩
  | .hbm, ⟨28, _⟩ => ⟨S4112x1024, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4112x1024, .f32⟩
  | .hbm, ⟨36, _⟩ => ⟨S4112x1024, .f32⟩
  | .hbm, ⟨37, _⟩ => ⟨S4112x1024, .f32⟩
  | .hbm, ⟨38, _⟩ => ⟨S_, .f32⟩
  | .hbm, ⟨39, _⟩ => ⟨S4112, .f32⟩
  | .hbm, ⟨40, _⟩ => ⟨S4112x1, .f32⟩
  | .hbm, ⟨41, _⟩ => ⟨S4112x1024, .f32⟩
  | .hbm, ⟨42, _⟩ => ⟨S4112x1024, .f32⟩
  | .hbm, ⟨43, _⟩ => ⟨S4112x1024, .f32⟩
  | .hbm, ⟨44, _⟩ => ⟨S4112x1, .f32⟩
  | .hbm, ⟨45, _⟩ => ⟨S_, .f32⟩
  | .hbm, ⟨46, _⟩ => ⟨S4112x1, .f32⟩
  | .hbm, ⟨47, _⟩ => ⟨S4112x1, .f32⟩
  | .hbm, ⟨48, _⟩ => ⟨S_, .f32⟩
  | .hbm, ⟨49, _⟩ => ⟨S4112, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S_, .f32⟩
  | .hbm, ⟨56, _⟩ => ⟨S112x1024, .f32⟩
  | .hbm, ⟨57, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== SwfKernel.lean ====
abbrev S4112x2824 : Shape := ⟨2, ![4112, 2824]⟩
abbrev S32x8 : Shape := ⟨2, ![32, 8]⟩
abbrev S8 : Shape := ⟨1, ![8]⟩
abbrev S2824x4112 : Shape := ⟨2, ![2824, 4112]⟩
abbrev S64x4112 : Shape := ⟨2, ![64, 4112]⟩
abbrev S_ : Shape := ⟨0, ![]⟩
abbrev S120x4112 : Shape := ⟨2, ![120, 4112]⟩
abbrev S512x4112 : Shape := ⟨2, ![512, 4112]⟩
abbrev S2048x4112 : Shape := ⟨2, ![2048, 4112]⟩
abbrev S4x4112 : Shape := ⟨2, ![4, 4112]⟩
abbrev S3200x4112 : Shape := ⟨2, ![3200, 4112]⟩
abbrev S4112x3200 : Shape := ⟨2, ![4112, 3200]⟩
abbrev S4224x3200 : Shape := ⟨2, ![4224, 3200]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S1x128x384 : Shape := ⟨3, ![1, 128, 384]⟩
abbrev S3x128x384 : Shape := ⟨3, ![3, 128, 384]⟩
abbrev S3x128x384x1 : Shape := ⟨4, ![3, 128, 384, 1]⟩
abbrev S3x128x384x8 : Shape := ⟨4, ![3, 128, 384, 8]⟩
abbrev S3x8x128x384 : Shape := ⟨4, ![3, 8, 128, 384]⟩
abbrev S1x8 : Shape := ⟨2, ![1, 8]⟩
abbrev S1x128 : Shape := ⟨2, ![1, 128]⟩
abbrev S4224x512 : Shape := ⟨2, ![4224, 512]⟩
abbrev S128x512 : Shape := ⟨2, ![128, 512]⟩
abbrev S1x8x128x384 : Shape := ⟨4, ![1, 8, 128, 384]⟩
abbrev S8x128x384 : Shape := ⟨3, ![8, 128, 384]⟩
abbrev S384x512 : Shape := ⟨2, ![384, 512]⟩
abbrev S384x128 : Shape := ⟨2, ![384, 128]⟩
abbrev S1x384x128 : Shape := ⟨3, ![1, 384, 128]⟩
abbrev S8x384x128 : Shape := ⟨3, ![8, 384, 128]⟩
abbrev S128x128 : Shape := ⟨2, ![128, 128]⟩
abbrev S1x128x128 : Shape := ⟨3, ![1, 128, 128]⟩
abbrev S8x128x128 : Shape := ⟨3, ![8, 128, 128]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8x128 : Shape := ⟨2, ![8, 128]⟩
abbrev S8x128x1 : Shape := ⟨3, ![8, 128, 1]⟩

abbrev nBuf : Space → Nat
  | .hbm => 109
  | .vmem => 12
  | .smem => 0
  | _ => 0

abbrev bufTy : (tb : Table) → Fin (tcTables nBuf tb) → BufTy
  | .hbm, ⟨0, _⟩ => ⟨S4112x2824, .f32⟩
  | .hbm, ⟨1, _⟩ => ⟨S32x8, .f32⟩
  | .hbm, ⟨2, _⟩ => ⟨S8, .f32⟩
  | .hbm, ⟨3, _⟩ => ⟨S2824x4112, .f32⟩
  | .hbm, ⟨4, _⟩ => ⟨S64x4112, .f32⟩
  | .hbm, ⟨5, _⟩ => ⟨S64x4112, .f32⟩
  | .hbm, ⟨6, _⟩ => ⟨S64x4112, .f32⟩
  | .hbm, ⟨7, _⟩ => ⟨S64x4112, .f32⟩
  | .hbm, ⟨8, _⟩ => ⟨S_, .f32⟩
  | .hbm, ⟨9, _⟩ => ⟨S120x4112, .f32⟩
  | .hbm, ⟨10, _⟩ => ⟨S512x4112, .f32⟩
  | .hbm, ⟨11, _⟩ => ⟨S2048x4112, .f32⟩
  | .hbm, ⟨12, _⟩ => ⟨S4x4112, .f32⟩
  | .hbm, ⟨13, _⟩ => ⟨S4x4112, .f32⟩
  | .hbm, ⟨14, _⟩ => ⟨S3200x4112, .f32⟩
  | .hbm, ⟨15, _⟩ => ⟨S4112x3200, .f32⟩
  | .hbm, ⟨16, _⟩ => ⟨S_, .i32⟩
  | .hbm, ⟨17, _⟩ => ⟨S_, .f32⟩
  | .hbm, ⟨18, _⟩ => ⟨S4224x3200, .f32⟩
  | .hbm, ⟨19, _⟩ => ⟨S128, .i32⟩
  | .hbm, ⟨20, _⟩ => ⟨S128x1, .i32⟩
  | .hbm, ⟨21, _⟩ => ⟨S384, .i32⟩
  | .hbm, ⟨22, _⟩ => ⟨S1x384, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S_, .i32⟩
  | .hbm, ⟨27, _⟩ => ⟨S1x384, .i32⟩
  | .hbm, ⟨28, _⟩ => ⟨S1x384, .i1⟩
  | .hbm, ⟨29, _⟩ => ⟨S_, .i32⟩
  | .hbm, ⟨30, _⟩ => ⟨S1x384, .i32⟩
  | .hbm, ⟨31, _⟩ => ⟨S1x384, .i32⟩
  | .hbm, ⟨32, _⟩ => ⟨S1x384, .i32⟩
  | .hbm, ⟨33, _⟩ => ⟨S128x384, .i32⟩
  | .hbm, ⟨34, _⟩ => ⟨S128x384, .i32⟩
  | .hbm, ⟨35, _⟩ => ⟨S128x384, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S1x384, .i32⟩
  | .hbm, ⟨41, _⟩ => ⟨S1x384, .i1⟩
  | .hbm, ⟨42, _⟩ => ⟨S_, .i32⟩
  | .hbm, ⟨43, _⟩ => ⟨S1x384, .i32⟩
  | .hbm, ⟨44, _⟩ => ⟨S1x384, .i32⟩
  | .hbm, ⟨45, _⟩ => ⟨S1x384, .i32⟩
  | .hbm, ⟨46, _⟩ => ⟨S128x384, .i32⟩
  | .hbm, ⟨47, _⟩ => ⟨S128x384, .i32⟩
  | .hbm, ⟨48, _⟩ => ⟨S128x384, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S1x384, .i32⟩
  | .hbm, ⟨54, _⟩ => ⟨S1x384, .i1⟩
  | .hbm, ⟨55, _⟩ => ⟨S_, .i32⟩
  | .hbm, ⟨56, _⟩ => ⟨S1x384, .i32⟩
  | .hbm, ⟨57, _⟩ => ⟨S1x384, .i32⟩
  | .hbm, ⟨58, _⟩ => ⟨S1x384, .i32⟩
  | .hbm, ⟨59, _⟩ => ⟨S128x384, .i32⟩
  | .hbm, ⟨60, _⟩ => ⟨S128x384, .i32⟩
  | .hbm, ⟨61, _⟩ => ⟨S128x384, .i32⟩
  | .hbm, ⟨62, _⟩ => ⟨S1x128x384, .i32⟩
  | .hbm, ⟨63, _⟩ => ⟨S1x128x384, .i32⟩
  | .hbm, ⟨64, _⟩ => ⟨S1x128x384, .i32⟩
  | .hbm, ⟨65, _⟩ => ⟨S3x128x384, .i32⟩
  | .hbm, ⟨66, _⟩ => ⟨S_, .i32⟩
  | .hbm, ⟨67, _⟩ => ⟨S3x128x384, .i32⟩
  | .hbm, ⟨68, _⟩ => ⟨S3x128x384, .i32⟩
  | .hbm, ⟨69, _⟩ => ⟨S_, .i32⟩
  | .hbm, ⟨70, _⟩ => ⟨S3x128x384, .i32⟩
  | .hbm, ⟨71, _⟩ => ⟨S3x128x384, .i32⟩
  | .hbm, ⟨72, _⟩ => ⟨S3x128x384, .f32⟩
  | .hbm, ⟨73, _⟩ => ⟨S_, .f32⟩
  | .hbm, ⟨74, _⟩ => ⟨S3x128x384, .f32⟩
  | .hbm, ⟨75, _⟩ => ⟨S3x128x384, .f32⟩
  | .hbm, ⟨76, _⟩ => ⟨S3x128x384, .f32⟩
  | .hbm, ⟨77, _⟩ => ⟨S_, .f32⟩
  | .hbm, ⟨78, _⟩ => ⟨S3x128x384, .f32⟩
  | .hbm, ⟨79, _⟩ => ⟨S3x128x384, .f32⟩
  | .hbm, ⟨80, _⟩ => ⟨S_, .f32⟩
  | .hbm, ⟨81, _⟩ => ⟨S3x128x384, .f32⟩
  | .hbm, ⟨82, _⟩ => ⟨S3x128x384, .f32⟩
  | .hbm, ⟨83, _⟩ => ⟨S3x128x384, .i32⟩
  | .hbm, ⟨84, _⟩ => ⟨S_, .i32⟩
  | .hbm, ⟨85, _⟩ => ⟨S3x128x384, .i32⟩
  | .hbm, ⟨86, _⟩ => ⟨S3x128x384, .i32⟩
  | .hbm, ⟨87, _⟩ => ⟨S_, .i32⟩
  | .hbm, ⟨88, _⟩ => ⟨S3x128x384, .i32⟩
  | .hbm, ⟨89, _⟩ => ⟨S3x128x384, .i32⟩
  | .hbm, ⟨90, _⟩ => ⟨S_, .i32⟩
  | .hbm, ⟨91, _⟩ => ⟨S3x128x384, .i32⟩
  | .hbm, ⟨92, _⟩ => ⟨S3x128x384, .i1⟩
  | .hbm, ⟨93, _⟩ => ⟨S3x128x384, .i32⟩
  | .hbm, ⟨94, _⟩ => ⟨S_, .i32⟩
  | .hbm, ⟨95, _⟩ => ⟨S3x128x384, .i32⟩
  | .hbm, ⟨96, _⟩ => ⟨S3x128x384, .i1⟩
  | .hbm, ⟨97, _⟩ => ⟨S_, .i32⟩
  | .hbm, ⟨98, _⟩ => ⟨S3x128x384, .i32⟩
  | .hbm, ⟨99, _⟩ => ⟨S3x128x384, .i32⟩
  | .hbm, ⟨100, _⟩ => ⟨S3x128x384, .i32⟩
  | .hbm, ⟨101, _⟩ => ⟨S3x128x384x1, .i32⟩
  | .hbm, ⟨102, _⟩ => ⟨S3x128x384x8, .f32⟩
  | .hbm, ⟨103, _⟩ => ⟨S3x8x128x384, .f32⟩
  | .hbm, ⟨104, _⟩ => ⟨S1x8, .f32⟩
  | .hbm, ⟨105, _⟩ => ⟨S_, .i32⟩
  | .hbm, ⟨106, _⟩ => ⟨S_, .f32⟩
  | .hbm, ⟨107, _⟩ => ⟨S1x128, .f32⟩
  | .hbm, ⟨108, _⟩ => ⟨S4224x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S1x8x128x384, .f32⟩
  | .local _ .vmem, ⟨8, _⟩ => ⟨S1x8x128x384, .f32⟩
  | .local _ .vmem, ⟨9, _⟩ => ⟨S1x128, .f32⟩
  | .local _ .vmem, ⟨10, _⟩ => ⟨S128x512, .f32⟩
  | .local _ .vmem, ⟨11, _⟩ => ⟨S128x512, .f32⟩
  | _, _ => ⟨S4112x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_17 : Ref sig .tc := ⟨.hbm, 94, rfl⟩
abbrev main_v71 : Ref sig .tc := ⟨.hbm, 95, rfl⟩
abbrev main_v72 : Ref sig .tc := ⟨.hbm, 96, rfl⟩
abbrev main_c_18 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_19 : Ref sig .tc := ⟨.hbm, 105, rfl⟩
abbrev main_call5_v0 : Ref sig .tc := ⟨.hbm, 106, rfl⟩
abbrev main_v80 : Ref sig .tc := ⟨.hbm, 107, rfl⟩
abbrev main_v81 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 4 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwfKernelIdeal.lean ====
variable {F : FTy → Type} [FloatOps F] [Named F]
def κ : String → Option EReal := fun
  | "gap" => some ⊤
  | _ => none
-- ==== SwfReferenceIdeal.lean ====
abbrev S4112x2824 : Shape := ⟨2, ![4112, 2824]⟩
abbrev S32x8 : Shape := ⟨2, ![32, 8]⟩
abbrev S8 : Shape := ⟨1, ![8]⟩
abbrev S4112x512 : Shape := ⟨2, ![4112, 512]⟩
abbrev S4112x8x64 : Shape := ⟨3, ![4112, 8, 64]⟩
abbrev S4112x128 : Shape := ⟨2, ![4112, 128]⟩
abbrev S4112x2x64 : Shape := ⟨3, ![4112, 2, 64]⟩
abbrev S_ : Shape := ⟨0, ![]⟩
abbrev S112x8x64 : Shape := ⟨3, ![112, 8, 64]⟩
abbrev S4224x8x64 : Shape := ⟨3, ![4224, 8, 64]⟩
abbrev S33x128x2x4x64 : Shape := ⟨5, ![33, 128, 2, 4, 64]⟩
abbrev S112x2x64 : Shape := ⟨3, ![112, 2, 64]⟩
abbrev S4224x2x64 : Shape := ⟨3, ![4224, 2, 64]⟩
abbrev S33x128x2x64 : Shape := ⟨4, ![33, 128, 2, 64]⟩
abbrev S1x128x2x64 : Shape := ⟨4, ![1, 128, 2, 64]⟩
abbrev S32x128x2x64 : Shape := ⟨4, ![32, 128, 2, 64]⟩
abbrev S33x256x2x64 : Shape := ⟨4, ![33, 256, 2, 64]⟩
abbrev S16x2x64 : Shape := ⟨3, ![16, 2, 64]⟩
abbrev S2x33x256x128x4 : Shape := ⟨5, ![2, 33, 256, 128, 4]⟩
abbrev S2x4x33x128x256 : Shape := ⟨5, ![2, 4, 33, 128, 256]⟩
abbrev S2x16x33x128x4 : Shape := ⟨5, ![2, 16, 33, 128, 4]⟩
abbrev S2x4x33x128x16 : Shape := ⟨5, ![2, 4, 33, 128, 16]⟩
abbrev S33 : Shape := ⟨1, ![33]⟩
abbrev S33x1 : Shape := ⟨2, ![33, 1]⟩
abbrev S128 : Shape := ⟨1, ![128]⟩
abbrev S1x128 : Shape := ⟨2, ![1, 128]⟩
abbrev S33x128 : Shape := ⟨2, ![33, 128]⟩
abbrev S256 : Shape := ⟨1, ![256]⟩
abbrev S1x256 : Shape := ⟨2, ![1, 256]⟩
abbrev S33x256 : Shape := ⟨2, ![33, 256]⟩
abbrev S33x128x1 : Shape := ⟨3, ![33, 128, 1]⟩
abbrev S33x1x256 : Shape := ⟨3, ![33, 1, 256]⟩
abbrev S33x128x256 : Shape := ⟨3, ![33, 128, 256]⟩
abbrev S16 : Shape := ⟨1, ![16]⟩
abbrev S1x1x16 : Shape := ⟨3, ![1, 1, 16]⟩
abbrev S33x128x16 : Shape := ⟨3, ![33, 128, 16]⟩
abbrev S33x128x256x1 : Shape := ⟨4, ![33, 128, 256, 1]⟩
abbrev S33x128x256x8 : Shape := ⟨4, ![33, 128, 256, 8]⟩
abbrev S8x33x128x256 : Shape := ⟨4, ![8, 33, 128, 256]⟩
abbrev S33x128x16x1 : Shape := ⟨4, ![33, 128, 16, 1]⟩
abbrev S33x128x16x8 : Shape := ⟨4, ![33, 128, 16, 8]⟩
abbrev S8x33x128x16 : Shape := ⟨4, ![8, 33, 128, 16]⟩
abbrev S2x4x1x1x1 : Shape := ⟨5, ![2, 4, 1, 1, 1]⟩
abbrev S2x4x33x128x1 : Shape := ⟨5, ![2, 4, 33, 128, 1]⟩
abbrev S2x4x33x128x273 : Shape := ⟨5, ![2, 4, 33, 128, 273]⟩
abbrev S2x4x33x128 : Shape := ⟨4, ![2, 4, 33, 128]⟩
abbrev S33x2x64x4x128 : Shape := ⟨5, ![33, 2, 64, 4, 128]⟩
abbrev S2x64x4x33x128 : Shape := ⟨5, ![2, 64, 4, 33, 128]⟩
abbrev S4224x512 : Shape := ⟨2, ![4224, 512]⟩
abbrev S112x512 : Shape := ⟨2, ![112, 512]⟩

abbrev nBuf : Space → Nat
  | .hbm => 218
  | .vmem => 0
  | .smem => 0
  | _ => 0

abbrev hbmTy0_0 (i : Nat) : BufTy := match i % 128 with
  | 0 => ⟨S4112x2824, .f32⟩
  | 1 => ⟨S32x8, .f32⟩
  | 2 => ⟨S8, .f32⟩
  | 3 => ⟨S4112x512, .f32⟩
  | 4 => ⟨S4112x8x64, .f32⟩
  | 5 => ⟨S4112x128, .f32⟩
  | 6 => ⟨S4112x2x64, .f32⟩
  | 7 => ⟨S4112x128, .f32⟩
  | 8 => ⟨S4112x2x64, .f32⟩
  | 9 => ⟨S_, .f32⟩
  | 10 => ⟨S112x8x64, .f32⟩
  | 11 => ⟨S4224x8x64, .f32⟩
  | 12 => ⟨S33x128x2x4x64, .f32⟩
  | 13 => ⟨S_, .f32⟩
  | 14 => ⟨S112x2x64, .f32⟩
  | 15 => ⟨S4224x2x64, .f32⟩
  | 16 => ⟨S33x128x2x64, .f32⟩
  | 17 => ⟨S_, .f32⟩
  | 18 => ⟨S112x2x64, .f32⟩
  | 19 => ⟨S4224x2x64, .f32⟩
  | 20 => ⟨S33x128x2x64, .f32⟩
  | 21 => ⟨S1x128x2x64, .f32⟩
  | 22 => ⟨S_, .f32⟩
  | 23 => ⟨S1x128x2x64, .f32⟩
  | 24 => ⟨S32x128x2x64, .f32⟩
  | 25 => ⟨S33x128x2x64, .f32⟩
  | 26 => ⟨S33x256x2x64, .f32⟩
  | 27 => ⟨S1x128x2x64, .f32⟩
  | 28 => ⟨S_, .f32⟩
  | 29 => ⟨S1x128x2x64, .f32⟩
  | 30 => ⟨S32x128x2x64, .f32⟩
  | 31 => ⟨S33x128x2x64, .f32⟩
  | 32 => ⟨S33x256x2x64, .f32⟩
  | 33 => ⟨S16x2x64, .f32⟩
  | 34 => ⟨S16x2x64, .f32⟩
  | 35 => ⟨S2x33x256x128x4, .f32⟩
  | 36 => ⟨S2x4x33x128x256, .f32⟩
  | 37 => ⟨S_, .f32⟩
  | 38 => ⟨S2x4x33x128x256, .f32⟩
  | 39 => ⟨S2x4x33x128x256, .f32⟩
  | 40 => ⟨S2x16x33x128x4, .f32⟩
  | 41 => ⟨S2x4x33x128x16, .f32⟩
  | 42 => ⟨S_, .f32⟩
  | 43 => ⟨S2x4x33x128x16, .f32⟩
  | 44 => ⟨S2x4x33x128x16, .f32⟩
  | 45 => ⟨S33, .i32⟩
  | 46 => ⟨S33x1, .i32⟩
  | 47 => ⟨S_, .i32⟩
  | 48 => ⟨S33x1, .i32⟩
  | 49 => ⟨S33x1, .i32⟩
  | 50 => ⟨S128, .i32⟩
  | 51 => ⟨S1x128, .i32⟩
  | 52 => ⟨S33x128, .i32⟩
  | 53 => ⟨S33x128, .i32⟩
  | 54 => ⟨S33x128, .i32⟩
  | 55 => ⟨S_, .i32⟩
  | 56 => ⟨S33x128, .i32⟩
  | 57 => ⟨S33x128, .i32⟩
  | 58 => ⟨S_, .i32⟩
  | 59 => ⟨S33x1, .i32⟩
  | 60 => ⟨S33x1, .i32⟩
  | 61 => ⟨S256, .i32⟩
  | 62 => ⟨S1x256, .i32⟩
  | 63 => ⟨S33x256, .i32⟩
  | 64 => ⟨S33x256, .i32⟩
  | 65 => ⟨S33x256, .i32⟩
  | 66 => ⟨S_, .i32⟩
  | 67 => ⟨S33x256, .i32⟩
  | 68 => ⟨S33x256, .i32⟩
  | 69 => ⟨S_, .i32⟩
  | 70 => ⟨S33x256, .i32⟩
  | 71 => ⟨S33x256, .i32⟩
  | 72 => ⟨S33x128x1, .i32⟩
  | 73 => ⟨S33x1x256, .i32⟩
  | 74 => ⟨S33x128x256, .i32⟩
  | 75 => ⟨S33x128x256, .i32⟩
  | 76 => ⟨S33x128x256, .i32⟩
  | 77 => ⟨S33x1x256, .i32⟩
  | 78 => ⟨S_, .i32⟩
  | 79 => ⟨S33x1x256, .i32⟩
  | 80 => ⟨S33x1x256, .i1⟩
  | 81 => ⟨S_, .i32⟩
  | 82 => ⟨S33x128x256, .i32⟩
  | 83 => ⟨S33x128x256, .i1⟩
  | 84 => ⟨S33x128x256, .i1⟩
  | 85 => ⟨S33x128x256, .i1⟩
  | 86 => ⟨S_, .i32⟩
  | 87 => ⟨S33x128x256, .i32⟩
  | 88 => ⟨S33x128x256, .i1⟩
  | 89 => ⟨S33x128x256, .i1⟩
  | 90 => ⟨S33x128x1, .i32⟩
  | 91 => ⟨S16, .i32⟩
  | 92 => ⟨S1x1x16, .i32⟩
  | 93 => ⟨S33x128x16, .i32⟩
  | 94 => ⟨S33x128x16, .i32⟩
  | 95 => ⟨S33x128x16, .i32⟩
  | 96 => ⟨S_, .i32⟩
  | 97 => ⟨S33x128x16, .i32⟩
  | 98 => ⟨S33x128x16, .i1⟩
  | 99 => ⟨S_, .i32⟩
  | 100 => ⟨S33x128x256, .i32⟩
  | 101 => ⟨S33x128x256, .i32⟩
  | 102 => ⟨S_, .i32⟩
  | 103 => ⟨S33x128x256, .i32⟩
  | 104 => ⟨S33x128x256, .i32⟩
  | 105 => ⟨S33x128x256, .f32⟩
  | 106 => ⟨S_, .f32⟩
  | 107 => ⟨S33x128x256, .f32⟩
  | 108 => ⟨S33x128x256, .f32⟩
  | 109 => ⟨S33x128x256, .f32⟩
  | 110 => ⟨S_, .f32⟩
  | 111 => ⟨S33x128x256, .f32⟩
  | 112 => ⟨S33x128x256, .f32⟩
  | 113 => ⟨S_, .f32⟩
  | 114 => ⟨S33x128x256, .f32⟩
  | 115 => ⟨S33x128x256, .f32⟩
  | 116 => ⟨S33x128x256, .i32⟩
  | 117 => ⟨S_, .i32⟩
  | 118 => ⟨S33x128x256, .i32⟩
  | 119 => ⟨S33x128x256, .i32⟩
  | 120 => ⟨S_, .i32⟩
  | 121 => ⟨S33x128x256, .i32⟩
  | 122 => ⟨S33x128x256, .i32⟩
  | 123 => ⟨S_, .i32⟩
  | 124 => ⟨S33x128x256, .i32⟩
  | 125 => ⟨S33x128x256, .i1⟩
  | 126 => ⟨S33x128x256, .i32⟩
  | 127 => ⟨S_, .i32⟩
  | _ => ⟨S4112x2824, .f32⟩

abbrev hbmTy0_1 (i : Nat) : BufTy := match i % 128 with
  | 0 => ⟨S33x128x256, .i32⟩
  | 1 => ⟨S33x128x256, .i1⟩
  | 2 => ⟨S_, .i32⟩
  | 3 => ⟨S33x128x256, .i32⟩
  | 4 => ⟨S33x128x256, .i32⟩
  | 5 => ⟨S33x128x256, .i32⟩
  | 6 => ⟨S33x128x256x1, .i32⟩
  | 7 => ⟨S33x128x256x8, .f32⟩
  | 8 => ⟨S8x33x128x256, .f32⟩
  | 9 => ⟨S2x4x33x128x256, .f32⟩
  | 10 => ⟨S2x4x33x128x256, .f32⟩
  | 11 => ⟨S_, .f32⟩
  | 12 => ⟨S_, .f32⟩
  | 13 => ⟨S2x4x33x128x256, .i1⟩
  | 14 => ⟨S2x4x33x128x256, .f32⟩
  | 15 => ⟨S2x4x33x128x256, .f32⟩
  | 16 => ⟨S_, .i32⟩
  | 17 => ⟨S33x128x16, .i32⟩
  | 18 => ⟨S33x128x16, .i32⟩
  | 19 => ⟨S_, .i32⟩
  | 20 => ⟨S33x128x16, .i32⟩
  | 21 => ⟨S33x128x16, .i32⟩
  | 22 => ⟨S33x128x16, .f32⟩
  | 23 => ⟨S_, .f32⟩
  | 24 => ⟨S33x128x16, .f32⟩
  | 25 => ⟨S33x128x16, .f32⟩
  | 26 => ⟨S33x128x16, .f32⟩
  | 27 => ⟨S_, .f32⟩
  | 28 => ⟨S33x128x16, .f32⟩
  | 29 => ⟨S33x128x16, .f32⟩
  | 30 => ⟨S_, .f32⟩
  | 31 => ⟨S33x128x16, .f32⟩
  | 32 => ⟨S33x128x16, .f32⟩
  | 33 => ⟨S33x128x16, .i32⟩
  | 34 => ⟨S_, .i32⟩
  | 35 => ⟨S33x128x16, .i32⟩
  | 36 => ⟨S33x128x16, .i32⟩
  | 37 => ⟨S_, .i32⟩
  | 38 => ⟨S33x128x16, .i32⟩
  | 39 => ⟨S33x128x16, .i32⟩
  | 40 => ⟨S_, .i32⟩
  | 41 => ⟨S33x128x16, .i32⟩
  | 42 => ⟨S33x128x16, .i1⟩
  | 43 => ⟨S33x128x16, .i32⟩
  | 44 => ⟨S_, .i32⟩
  | 45 => ⟨S33x128x16, .i32⟩
  | 46 => ⟨S33x128x16, .i1⟩
  | 47 => ⟨S_, .i32⟩
  | 48 => ⟨S33x128x16, .i32⟩
  | 49 => ⟨S33x128x16, .i32⟩
  | 50 => ⟨S33x128x16, .i32⟩
  | 51 => ⟨S33x128x16x1, .i32⟩
  | 52 => ⟨S33x128x16x8, .f32⟩
  | 53 => ⟨S8x33x128x16, .f32⟩
  | 54 => ⟨S2x4x33x128x16, .f32⟩
  | 55 => ⟨S2x4x33x128x16, .f32⟩
  | 56 => ⟨S_, .f32⟩
  | 57 => ⟨S_, .f32⟩
  | 58 => ⟨S2x4x33x128x16, .i1⟩
  | 59 => ⟨S2x4x33x128x16, .f32⟩
  | 60 => ⟨S2x4x33x128x16, .f32⟩
  | 61 => ⟨S2x4x1x1x1, .f32⟩
  | 62 => ⟨S2x4x33x128x1, .f32⟩
  | 63 => ⟨S2x4x33x128x273, .f32⟩
  | 64 => ⟨S_, .f32⟩
  | 65 => ⟨S2x4x33x128, .f32⟩
  | 66 => ⟨S_, .f32⟩
  | 67 => ⟨S2x4x33x128, .f32⟩
  | 68 => ⟨S2x4x33x128, .f32⟩
  | 69 => ⟨S2x4x33x128x1, .f32⟩
  | 70 => ⟨S2x4x33x128x273, .f32⟩
  | 71 => ⟨S2x4x33x128x273, .f32⟩
  | 72 => ⟨S2x4x33x128x273, .f32⟩
  | 73 => ⟨S_, .f32⟩
  | 74 => ⟨S2x4x33x128, .f32⟩
  | 75 => ⟨S2x4x33x128x1, .f32⟩
  | 76 => ⟨S2x4x33x128x273, .f32⟩
  | 77 => ⟨S2x4x33x128x273, .f32⟩
  | 78 => ⟨S2x4x33x128x256, .f32⟩
  | 79 => ⟨S33x2x64x4x128, .f32⟩
  | 80 => ⟨S33x128x2x4x64, .f32⟩
  | 81 => ⟨S2x4x33x128x16, .f32⟩
  | 82 => ⟨S2x64x4x33x128, .f32⟩
  | 83 => ⟨S33x128x2x4x64, .f32⟩
  | 84 => ⟨S33x128x2x4x64, .f32⟩
  | 85 => ⟨S4224x512, .f32⟩
  | 86 => ⟨S4112x512, .f32⟩
  | 87 => ⟨S_, .f32⟩
  | 88 => ⟨S112x512, .f32⟩
  | 89 => ⟨S4224x512, .f32⟩
  | _ => ⟨S4112x2824, .f32⟩

abbrev hbmTy (i : Nat) : BufTy := match i / 128 with
  | 0 => hbmTy0_0 i
  | 1 => hbmTy0_1 i
  | _ => ⟨S4112x2824, .f32⟩

abbrev bufTy : (tb : Table) → Fin (tcTables nBuf tb) → BufTy
  | .hbm, ⟨i, _⟩ => hbmTy i
  | _, _ => ⟨S4112x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_8 : Ref sig .tc := ⟨.hbm, 66, rfl⟩
abbrev main_v53 : Ref sig .tc := ⟨.hbm, 67, rfl⟩
abbrev main_v54 : Ref sig .tc := ⟨.hbm, 68, rfl⟩
abbrev main_c_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_10 : Ref sig .tc := ⟨.hbm, 78, rfl⟩
abbrev main_v63 : Ref sig .tc := ⟨.hbm, 79, rfl⟩
abbrev main_v64 : Ref sig .tc := ⟨.hbm, 80, rfl⟩
abbrev main_c_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_13 : Ref sig .tc := ⟨.hbm, 96, rfl⟩
abbrev main_v78 : Ref sig .tc := ⟨.hbm, 97, rfl⟩
abbrev main_v79 : Ref sig .tc := ⟨.hbm, 98, rfl⟩
abbrev main_c_14 : Ref sig .tc := ⟨.hbm, 99, rfl⟩
abbrev main_v80 : Ref sig .tc := ⟨.hbm, 100, rfl⟩
abbrev main_v81 : Ref sig .tc := ⟨.hbm, 101, rfl⟩
abbrev main_c_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_16 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_cst_18 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_c_19 : Ref sig .tc := ⟨.hbm, 117, rfl⟩
abbrev main_v93 : Ref sig .tc := ⟨.hbm, 118, rfl⟩
abbrev main_v94 : Ref sig .tc := ⟨.hbm, 119, rfl⟩
abbrev main_c_20 : Ref sig .tc := ⟨.hbm, 120, rfl⟩
abbrev main_v95 : Ref sig .tc := ⟨.hbm, 121, rfl⟩
abbrev main_v96 : Ref sig .tc := ⟨.hbm, 122, rfl⟩
abbrev main_c_21 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_22 : Ref sig .tc := ⟨.hbm, 127, rfl⟩
abbrev main_v100 : Ref sig .tc := ⟨.hbm, 128, rfl⟩
abbrev main_v101 : Ref sig .tc := ⟨.hbm, 129, rfl⟩
abbrev main_c_23 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_24 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v110 : Ref sig .tc := ⟨.hbm, 143, rfl⟩
abbrev main_c_25 : Ref sig .tc := ⟨.hbm, 144, rfl⟩
abbrev main_v111 : Ref sig .tc := ⟨.hbm, 145, rfl⟩
abbrev main_v112 : Ref sig .tc := ⟨.hbm, 146, rfl⟩
abbrev main_c_26 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_27 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_28 : Ref sig .tc := ⟨.hbm, 155, rfl⟩
abbrev main_v119 : Ref sig .tc := ⟨.hbm, 156, rfl⟩
abbrev main_v120 : Ref sig .tc := ⟨.hbm, 157, rfl⟩
abbrev main_cst_29 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_30 : Ref sig .tc := ⟨.hbm, 162, rfl⟩
abbrev main_v124 : Ref sig .tc := ⟨.hbm, 163, rfl⟩
abbrev main_v125 : Ref sig .tc := ⟨.hbm, 164, rfl⟩
abbrev main_c_31 : Ref sig .tc := ⟨.hbm, 165, rfl⟩
abbrev main_v126 : Ref sig .tc := ⟨.hbm, 166, rfl⟩
abbrev main_v127 : Ref sig .tc := ⟨.hbm, 167, rfl⟩
abbrev main_c_32 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_33 : Ref sig .tc := ⟨.hbm, 172, rfl⟩
abbrev main_v131 : Ref sig .tc := ⟨.hbm, 173, rfl⟩
abbrev main_v132 : Ref sig .tc := ⟨.hbm, 174, rfl⟩
abbrev main_c_34 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_35 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_36 : Ref sig .tc := ⟨.hbm, 192, rfl⟩
abbrev main_v145 : Ref sig .tc := ⟨.hbm, 193, rfl⟩
abbrev main_cst_37 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_38 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_39 : Ref sig .tc := ⟨.hbm, 215, rfl⟩
abbrev main_v165 : Ref sig .tc := ⟨.hbm, 216, rfl⟩
abbrev main_v166 : Ref sig .tc := ⟨.hbm, 217, rfl⟩

abbrev nD : Nat := 1
abbrev τ : Topo := Topo.v7x

variable {F : FTy → Type} [FloatOps F]
-- ==== GlfKernel.lean ====
abbrev S4112x3088 : Shape := ⟨2, ![4112, 3088]⟩
abbrev S16x512 : Shape := ⟨2, ![16, 512]⟩
abbrev S512 : Shape := ⟨1, ![512]⟩
abbrev S256 : Shape := ⟨1, ![256]⟩
abbrev S_ : Shape := ⟨0, ![]⟩
abbrev S4224x3200 : Shape := ⟨2, ![4224, 3200]⟩
abbrev S128x512 : Shape := ⟨2, ![128, 512]⟩
abbrev S1x512 : Shape := ⟨2, ![1, 512]⟩
abbrev S1x256 : Shape := ⟨2, ![1, 256]⟩
abbrev S4224x1024 : Shape := ⟨2, ![4224, 1024]⟩
abbrev S66x4x128x256 : Shape := ⟨4, ![66, 4, 128, 256]⟩
abbrev S384x512 : Shape := ⟨2, ![384, 512]⟩
abbrev S384x1024 : Shape := ⟨2, ![384, 1024]⟩
abbrev S384x128 : Shape := ⟨2, ![384, 128]⟩
abbrev S6x4x128x256 : Shape := ⟨4, ![6, 4, 128, 256]⟩
abbrev S4x128x256 : Shape := ⟨3, ![4, 128, 256]⟩
abbrev S1x4x128x256 : Shape := ⟨4, ![1, 4, 128, 256]⟩
abbrev S64x512 : Shape := ⟨2, ![64, 512]⟩
abbrev S64x1024 : Shape := ⟨2, ![64, 1024]⟩
abbrev S64x128 : Shape := ⟨2, ![64, 128]⟩
abbrev S64x1 : Shape := ⟨2, ![64, 1]⟩
abbrev S64x64 : Shape := ⟨2, ![64, 64]⟩
abbrev S1x64x128 : Shape := ⟨3, ![1, 64, 128]⟩
abbrev S4x64x128 : Shape := ⟨3, ![4, 64, 128]⟩
abbrev S64x256 : Shape := ⟨2, ![64, 256]⟩
abbrev S1x64x256 : Shape := ⟨3, ![1, 64, 256]⟩
abbrev S4x64x256 : Shape := ⟨3, ![4, 64, 256]⟩
abbrev S4x64x64 : Shape := ⟨3, ![4, 64, 64]⟩
abbrev S1x64x64 : Shape := ⟨3, ![1, 64, 64]⟩
abbrev S4x128 : Shape := ⟨2, ![4, 128]⟩
abbrev S4x1x128 : Shape := ⟨3, ![4, 1, 128]⟩
abbrev S128x128 : Shape := ⟨2, ![128, 128]⟩
abbrev S1x128x128 : Shape := ⟨3, ![1, 128, 128]⟩
abbrev S4x128x128 : Shape := ⟨3, ![4, 128, 128]⟩
abbrev S4x128x1 : Shape := ⟨3, ![4, 128, 1]⟩
abbrev S4x64 : Shape := ⟨2, ![4, 64]⟩
abbrev S4x64x1 : Shape := ⟨3, ![4, 64, 1]⟩
abbrev S1x1x256 : Shape := ⟨3, ![1, 1, 256]⟩

abbrev nBuf : Space → Nat
  | .hbm => 14
  | .vmem => 18
  | .smem => 0
  | _ => 0

abbrev bufTy : (tb : Table) → Fin (tcTables nBuf tb) → BufTy
  | .hbm, ⟨0, _⟩ => ⟨S4112x3088, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4224x3200, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S1x512, .f32⟩
  | .hbm, ⟨11, _⟩ => ⟨S1x256, .f32⟩
  | .hbm, ⟨12, _⟩ => ⟨S4224x1024, .f32⟩
  | .hbm, ⟨13, _⟩ => ⟨S66x4x128x256, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x128, .f32⟩
  | .local _ .vmem, ⟨9, _⟩ => ⟨S384x128, .f32⟩
  | .local _ .vmem, ⟨10, _⟩ => ⟨S128x512, .f32⟩
  | .local _ .vmem, ⟨11, _⟩ => ⟨S1x512, .f32⟩
  | .local _ .vmem, ⟨12, _⟩ => ⟨S1x256, .f32⟩
  | .local _ .vmem, ⟨13, _⟩ => ⟨S384x1024, .f32⟩
  | .local _ .vmem, ⟨14, _⟩ => ⟨S384x1024, .f32⟩
  | .local _ .vmem, ⟨15, _⟩ => ⟨S6x4x128x256, .f32⟩
  | .local _ .vmem, ⟨16, _⟩ => ⟨S6x4x128x256, .f32⟩
  | .local _ .vmem, ⟨17, _⟩ => ⟨S4x128x256, .f32⟩
  | _, _ => ⟨S4112x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlfReferenceIdeal.lean ====
abbrev S4112x3088 : Shape := ⟨2, ![4112, 3088]⟩
abbrev S16x512 : Shape := ⟨2, ![16, 512]⟩
abbrev S512 : Shape := ⟨1, ![512]⟩
abbrev S256 : Shape := ⟨1, ![256]⟩
abbrev S4112x512 : Shape := ⟨2, ![4112, 512]⟩
abbrev S4112x1024 : Shape := ⟨2, ![4112, 1024]⟩
abbrev S4112x16 : Shape := ⟨2, ![4112, 16]⟩
abbrev S1x512 : Shape := ⟨2, ![1, 512]⟩
abbrev S_ : Shape := ⟨0, ![]⟩
abbrev S4112x4x128 : Shape := ⟨3, ![4112, 4, 128]⟩
abbrev S4112x4x256 : Shape := ⟨3, ![4112, 4, 256]⟩
abbrev S48x4x128 : Shape := ⟨3, ![48, 4, 128]⟩
abbrev S4160x4x128 : Shape := ⟨3, ![4160, 4, 128]⟩
abbrev S65x64x4x128 : Shape := ⟨4, ![65, 64, 4, 128]⟩
abbrev S4x65x64x128 : Shape := ⟨4, ![4, 65, 64, 128]⟩
abbrev S48x4x256 : Shape := ⟨3, ![48, 4, 256]⟩
abbrev S4160x4x256 : Shape := ⟨3, ![4160, 4, 256]⟩
abbrev S65x64x4x256 : Shape := ⟨4, ![65, 64, 4, 256]⟩
abbrev S4x65x64x256 : Shape := ⟨4, ![4, 65, 64, 256]⟩
abbrev S64x64 : Shape := ⟨2, ![64, 64]⟩
abbrev S4x65x128x64 : Shape := ⟨4, ![4, 65, 128, 64]⟩
abbrev S4x65x64x64 : Shape := ⟨4, ![4, 65, 64, 64]⟩
abbrev S4x65x1x128 : Shape := ⟨4, ![4, 65, 1, 128]⟩
abbrev S4x65x128 : Shape := ⟨3, ![4, 65, 128]⟩
abbrev S4x128x256 : Shape := ⟨3, ![4, 128, 256]⟩
abbrev S65x4x64x128 : Shape := ⟨4, ![65, 4, 64, 128]⟩
abbrev S65x4x64x256 : Shape := ⟨4, ![65, 4, 64, 256]⟩
abbrev S65x4x128 : Shape := ⟨3, ![65, 4, 128]⟩
abbrev S65x4x64x64 : Shape := ⟨4, ![65, 4, 64, 64]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x128 : Shape := ⟨3, ![1, 4, 128]⟩
abbrev S4x128 : Shape := ⟨2, ![4, 128]⟩
abbrev S1x4x64x64 : Shape := ⟨4, ![1, 4, 64, 64]⟩
abbrev S4x64x64 : Shape := ⟨3, ![4, 64, 64]⟩
abbrev S4x128x1 : Shape := ⟨3, ![4, 128, 1]⟩
abbrev S4112x4 : Shape := ⟨2, ![4112, 4]⟩
abbrev S4112x4x1 : Shape := ⟨3, ![4112, 4, 1]⟩
abbrev S1x1x256 : Shape := ⟨3, ![1, 1, 256]⟩
abbrev S4224x1024 : Shape := ⟨2, ![4224, 1024]⟩

abbrev nBuf : Space → Nat
  | .hbm => 195
  | .vmem => 0
  | .smem => 0
  | _ => 0

abbrev hbmTy0_0 (i : Nat) : BufTy := match i % 128 with
  | 0 => ⟨S4112x3088, .f32⟩
  | 1 => ⟨S16x512, .f32⟩
  | 2 => ⟨S512, .f32⟩
  | 3 => ⟨S256, .f32⟩
  | 4 => ⟨S4112x512, .f32⟩
  | 5 => ⟨S4112x512, .f32⟩
  | 6 => ⟨S4112x1024, .f32⟩
  | 7 => ⟨S4112x16, .f32⟩
  | 8 => ⟨S4112x512, .f32⟩
  | 9 => ⟨S1x512, .f32⟩
  | 10 => ⟨S4112x512, .f32⟩
  | 11 => ⟨S4112x512, .f32⟩
  | 12 => ⟨S4112x512, .f32⟩
  | 13 => ⟨S_, .f32⟩
  | 14 => ⟨S4112x512, .f32⟩
  | 15 => ⟨S4112x512, .f32⟩
  | 16 => ⟨S4112x512, .f32⟩
  | 17 => ⟨S4112x512, .f32⟩
  | 18 => ⟨S4112x512, .i1⟩
  | 19 => ⟨S4112x512, .f32⟩
  | 20 => ⟨S4112x512, .f32⟩
  | 21 => ⟨S4112x512, .f32⟩
  | 22 => ⟨S4112x512, .f32⟩
  | 23 => ⟨S4112x512, .f32⟩
  | 24 => ⟨S4112x512, .f32⟩
  | 25 => ⟨S4112x512, .f32⟩
  | 26 => ⟨S4112x512, .f32⟩
  | 27 => ⟨S4112x512, .f32⟩
  | 28 => ⟨S_, .f32⟩
  | 29 => ⟨S4112x512, .f32⟩
  | 30 => ⟨S4112x512, .f32⟩
  | 31 => ⟨S4112x4x128, .f32⟩
  | 32 => ⟨S_, .f32⟩
  | 33 => ⟨S4112x4x128, .f32⟩
  | 34 => ⟨S4112x4x128, .f32⟩
  | 35 => ⟨S4112x4x128, .f32⟩
  | 36 => ⟨S4112x4x256, .f32⟩
  | 37 => ⟨S4112x4x128, .f32⟩
  | 38 => ⟨S_, .f32⟩
  | 39 => ⟨S48x4x128, .f32⟩
  | 40 => ⟨S4160x4x128, .f32⟩
  | 41 => ⟨S65x64x4x128, .f32⟩
  | 42 => ⟨S4x65x64x128, .f32⟩
  | 43 => ⟨S_, .f32⟩
  | 44 => ⟨S48x4x128, .f32⟩
  | 45 => ⟨S4160x4x128, .f32⟩
  | 46 => ⟨S65x64x4x128, .f32⟩
  | 47 => ⟨S4x65x64x128, .f32⟩
  | 48 => ⟨S_, .f32⟩
  | 49 => ⟨S48x4x256, .f32⟩
  | 50 => ⟨S4160x4x256, .f32⟩
  | 51 => ⟨S65x64x4x256, .f32⟩
  | 52 => ⟨S4x65x64x256, .f32⟩
  | 53 => ⟨S_, .f32⟩
  | 54 => ⟨S48x4x128, .f32⟩
  | 55 => ⟨S4160x4x128, .f32⟩
  | 56 => ⟨S65x64x4x128, .f32⟩
  | 57 => ⟨S4x65x64x128, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S_, .f32⟩
  | 70 => ⟨S64x64, .f32⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i1⟩
  | 77 => ⟨S_, .f32⟩
  | 78 => ⟨S64x64, .f32⟩
  | 79 => ⟨S64x64, .f32⟩
  | 80 => ⟨S4x65x128x64, .f32⟩
  | 81 => ⟨S4x65x64x128, .f32⟩
  | 82 => ⟨S4x65x64x128, .f32⟩
  | 83 => ⟨S4x65x64x128, .f32⟩
  | 84 => ⟨S4x65x64x128, .f32⟩
  | 85 => ⟨S4x65x64x128, .f32⟩
  | 86 => ⟨S4x65x64x128, .f32⟩
  | 87 => ⟨S4x65x64x64, .f32⟩
  | 88 => ⟨S_, .f32⟩
  | 89 => ⟨S_, .f32⟩
  | 90 => ⟨S4x65x64x64, .i1⟩
  | 91 => ⟨S4x65x64x64, .f32⟩
  | 92 => ⟨S4x65x64x64, .f32⟩
  | 93 => ⟨S4x65x1x128, .f32⟩
  | 94 => ⟨S4x65x64x128, .f32⟩
  | 95 => ⟨S4x65x64x128, .f32⟩
  | 96 => ⟨S4x65x64x128, .f32⟩
  | 97 => ⟨S4x65x64x128, .f32⟩
  | 98 => ⟨S4x65x128, .f32⟩
  | 99 => ⟨S4x65x128, .f32⟩
  | 100 => ⟨S_, .f32⟩
  | 101 => ⟨S4x128x256, .f32⟩
  | 102 => ⟨S65x4x64x128, .f32⟩
  | 103 => ⟨S65x4x64x128, .f32⟩
  | 104 => ⟨S65x4x64x256, .f32⟩
  | 105 => ⟨S65x4x128, .f32⟩
  | 106 => ⟨S65x4x64x64, .f32⟩
  | 107 => ⟨S_, .f32⟩
  | 108 => ⟨S65x4x64x256, .f32⟩
  | 109 => ⟨S_, .i32⟩
  | 110 => ⟨S65x4x64x128, .f32⟩
  | 111 => ⟨S65x4x64x128, .f32⟩
  | 112 => ⟨S65x4x64x256, .f32⟩
  | 113 => ⟨S65x4x128, .f32⟩
  | 114 => ⟨S65x4x64x64, .f32⟩
  | 115 => ⟨S_, .i32⟩
  | 116 => ⟨S4x128x256, .f32⟩
  | 117 => ⟨S65x4x64x256, .f32⟩
  | 118 => ⟨S_, .i32⟩
  | 119 => ⟨S_, .i1⟩
  | 120 => ⟨S_, .i32⟩
  | 121 => ⟨S_, .i32⟩
  | 122 => ⟨S_, .i32⟩
  | 123 => ⟨S1x4x64x128, .f32⟩
  | 124 => ⟨S4x64x128, .f32⟩
  | 125 => ⟨S_, .i32⟩
  | 126 => ⟨S_, .i32⟩
  | 127 => ⟨S_, .i32⟩
  | _ => ⟨S4112x3088, .f32⟩

abbrev hbmTy0_1 (i : Nat) : BufTy := match i % 128 with
  | 0 => ⟨S1x4x64x128, .f32⟩
  | 1 => ⟨S4x64x128, .f32⟩
  | 2 => ⟨S_, .i32⟩
  | 3 => ⟨S_, .i32⟩
  | 4 => ⟨S_, .i32⟩
  | 5 => ⟨S1x4x64x256, .f32⟩
  | 6 => ⟨S4x64x256, .f32⟩
  | 7 => ⟨S_, .i32⟩
  | 8 => ⟨S_, .i32⟩
  | 9 => ⟨S1x4x128, .f32⟩
  | 10 => ⟨S4x128, .f32⟩
  | 11 => ⟨S_, .i32⟩
  | 12 => ⟨S_, .i32⟩
  | 13 => ⟨S_, .i32⟩
  | 14 => ⟨S1x4x64x64, .f32⟩
  | 15 => ⟨S4x64x64, .f32⟩
  | 16 => ⟨S4x64x256, .f32⟩
  | 17 => ⟨S4x64x256, .f32⟩
  | 18 => ⟨S4x64x256, .f32⟩
  | 19 => ⟨S4x128x1, .f32⟩
  | 20 => ⟨S4x128x256, .f32⟩
  | 21 => ⟨S4x128x256, .f32⟩
  | 22 => ⟨S4x128x256, .f32⟩
  | 23 => ⟨S4x128x256, .f32⟩
  | 24 => ⟨S1x4x64x256, .f32⟩
  | 25 => ⟨S_, .i32⟩
  | 26 => ⟨S_, .i32⟩
  | 27 => ⟨S_, .i32⟩
  | 28 => ⟨S65x4x64x256, .f32⟩
  | 29 => ⟨S_, .i32⟩
  | 30 => ⟨S_, .i32⟩
  | 31 => ⟨S4x65x64x256, .f32⟩
  | 32 => ⟨S65x64x4x256, .f32⟩
  | 33 => ⟨S4160x4x256, .f32⟩
  | 34 => ⟨S4112x4x256, .f32⟩
  | 35 => ⟨S4112x4x256, .f32⟩
  | 36 => ⟨S_, .f32⟩
  | 37 => ⟨S4112x4, .f32⟩
  | 38 => ⟨S4112x4x1, .f32⟩
  | 39 => ⟨S_, .f32⟩
  | 40 => ⟨S4112x4x1, .f32⟩
  | 41 => ⟨S4112x4x1, .f32⟩
  | 42 => ⟨S_, .f32⟩
  | 43 => ⟨S4112x4x1, .f32⟩
  | 44 => ⟨S4112x4x1, .f32⟩
  | 45 => ⟨S4112x4x1, .f32⟩
  | 46 => ⟨S4112x4x256, .f32⟩
  | 47 => ⟨S4112x4x256, .f32⟩
  | 48 => ⟨S1x1x256, .f32⟩
  | 49 => ⟨S4112x4x256, .f32⟩
  | 50 => ⟨S4112x4x256, .f32⟩
  | 51 => ⟨S4112x1024, .f32⟩
  | 52 => ⟨S4112x4x256, .f32⟩
  | 53 => ⟨S4112x4x256, .f32⟩
  | 54 => ⟨S4112x4x256, .f32⟩
  | 55 => ⟨S_, .f32⟩
  | 56 => ⟨S4112x4x256, .f32⟩
  | 57 => ⟨S4112x4x256, .f32⟩
  | 58 => ⟨S_, .f32⟩
  | 59 => ⟨S4112x4x256, .f32⟩
  | 60 => ⟨S4112x4x256, .f32⟩
  | 61 => ⟨S4112x4x256, .f32⟩
  | 62 => ⟨S4112x4x256, .f32⟩
  | 63 => ⟨S4112x1024, .f32⟩
  | 64 => ⟨S_, .i32⟩
  | 65 => ⟨S_, .f32⟩
  | 66 => ⟨S4224x1024, .f32⟩
  | _ => ⟨S4112x3088, .f32⟩

abbrev hbmTy (i : Nat) : BufTy := match i / 128 with
  | 0 => hbmTy0_0 i
  | 1 => hbmTy0_1 i
  | _ => ⟨S4112x3088, .f32⟩

abbrev bufTy : (tb : Table) → Fin (tcTables nBuf tb) → BufTy
  | .hbm, ⟨i, _⟩ => hbmTy i
  | _, _ => ⟨S4112x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c : Ref sig .tc := ⟨.hbm, 58, rfl⟩
abbrev main_v47 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_cst : Ref sig .tc := ⟨.hbm, 77, rfl⟩
abbrev main_call1_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_8 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_9 : Ref sig .tc := ⟨.hbm, 107, rfl⟩
abbrev main_v73 : Ref sig .tc := ⟨.hbm, 108, rfl⟩
abbrev main_c_10 : Ref sig .tc := ⟨.hbm, 109, rfl⟩
abbrev main_v74_0 : Ref sig .tc := ⟨.hbm, 110, rfl⟩
abbrev main_v74_1 : Ref sig .tc := ⟨.hbm, 111, rfl⟩
abbrev main_v74_2 : Ref sig .tc := ⟨.hbm, 112, rfl⟩
abbrev main_v74_3 : Ref sig .tc := ⟨.hbm, 113, rfl⟩
abbrev main_v74_4 : Ref sig .tc := ⟨.hbm, 114, rfl⟩
abbrev main_v74_5 : Ref sig .tc := ⟨.hbm, 115, rfl⟩
abbrev main_v74_6 : Ref sig .tc := ⟨.hbm, 116, rfl⟩
abbrev main_v74_7 : Ref sig .tc := ⟨.hbm, 117, rfl⟩
abbrev main_while0c_c_22 : Ref sig .tc := ⟨.hbm, 118, rfl⟩
abbrev main_while0c_v98 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_c_1 : Ref sig .tc := ⟨.hbm, 122, rfl⟩
abbrev main_while0b_call3_v0 : Ref sig .tc := ⟨.hbm, 123, rfl⟩
abbrev main_while0b_v98 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_v0 : Ref sig .tc := ⟨.hbm, 128, rfl⟩
abbrev main_while0b_v99 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_v0 : Ref sig .tc := ⟨.hbm, 133, rfl⟩
abbrev main_while0b_v100 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_v0 : Ref sig .tc := ⟨.hbm, 137, rfl⟩
abbrev main_while0b_v101 : Ref sig .tc := ⟨.hbm, 138, rfl⟩
abbrev main_while0b_call7_c : Ref sig .tc := ⟨.hbm, 139, rfl⟩
abbrev main_while0b_call7_c_0 : Ref sig .tc := ⟨.hbm, 140, rfl⟩
abbrev main_while0b_call7_c_1 : Ref sig .tc := ⟨.hbm, 141, rfl⟩
abbrev main_while0b_call7_v0 : Ref sig .tc := ⟨.hbm, 142, rfl⟩
abbrev main_while0b_v102 : Ref sig .tc := ⟨.hbm, 143, rfl⟩
abbrev main_while0b_v103 : Ref sig .tc := ⟨.hbm, 144, rfl⟩
abbrev main_while0b_v104 : Ref sig .tc := ⟨.hbm, 145, rfl⟩
abbrev main_while0b_v105 : Ref sig .tc := ⟨.hbm, 146, rfl⟩
abbrev main_while0b_v106 : Ref sig .tc := ⟨.hbm, 147, rfl⟩
abbrev main_while0b_v107 : Ref sig .tc := ⟨.hbm, 148, rfl⟩
abbrev main_while0b_v108 : Ref sig .tc := ⟨.hbm, 149, rfl⟩
abbrev main_while0b_v109 : Ref sig .tc := ⟨.hbm, 150, rfl⟩
abbrev main_while0b_v110 : Ref sig .tc := ⟨.hbm, 151, rfl⟩
abbrev main_while0b_call8_v0 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_v111 : Ref sig .tc := ⟨.hbm, 156, rfl⟩
abbrev main_while0b_c_22 : Ref sig .tc := ⟨.hbm, 157, rfl⟩
abbrev main_while0b_v112 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_cst_11 : Ref sig .tc := ⟨.hbm, 164, rfl⟩
abbrev main_v80 : Ref sig .tc := ⟨.hbm, 165, rfl⟩
abbrev main_v81 : Ref sig .tc := ⟨.hbm, 166, rfl⟩
abbrev main_cst_12 : Ref sig .tc := ⟨.hbm, 167, rfl⟩
abbrev main_v82 : Ref sig .tc := ⟨.hbm, 168, rfl⟩
abbrev main_v83 : Ref sig .tc := ⟨.hbm, 169, rfl⟩
abbrev main_cst_13 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_call9_v0 : Ref sig .tc := ⟨.hbm, 181, rfl⟩
abbrev main_call9_v1 : Ref sig .tc := ⟨.hbm, 182, rfl⟩
abbrev main_call9_cst : Ref sig .tc := ⟨.hbm, 183, rfl⟩
abbrev main_call9_v2 : Ref sig .tc := ⟨.hbm, 184, rfl⟩
abbrev main_call9_v3 : Ref sig .tc := ⟨.hbm, 185, rfl⟩
abbrev main_call9_cst_0 : Ref sig .tc := ⟨.hbm, 186, rfl⟩
abbrev main_call9_v4 : Ref sig .tc := ⟨.hbm, 187, rfl⟩
abbrev main_call9_v5 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_c_14 : Ref sig .tc := ⟨.hbm, 192, rfl⟩
abbrev main_call10_v0 : Ref sig .tc := ⟨.hbm, 193, rfl⟩
abbrev main_v97 : Ref sig .tc := ⟨.hbm, 194, rfl⟩

abbrev nD : Nat := 1
abbrev τ : Topo := Topo.v7x

variable {F : FTy → Type} [FloatOps F]

abbrev main_while0_count : Scf.Loop 32 := ⟨0#32, 65#32, 1#32⟩
-- ==== DnfKernel.lean ====
abbrev S4112x2824 : Shape := ⟨2, ![4112, 2824]⟩
abbrev S4112x1536 : Shape := ⟨2, ![4112, 1536]⟩
abbrev S4 : Shape := ⟨1, ![4]⟩
abbrev S128 : Shape := ⟨1, ![128]⟩
abbrev S2824x4112 : Shape := ⟨2, ![2824, 4112]⟩
abbrev S64x4112 : Shape := ⟨2, ![64, 4112]⟩
abbrev S_ : Shape := ⟨0, ![]⟩
abbrev S120x4112 : Shape := ⟨2, ![120, 4112]⟩
abbrev S512x4112 : Shape := ⟨2, ![512, 4112]⟩
abbrev S2048x4112 : Shape := ⟨2, ![2048, 4112]⟩
abbrev S4x4112 : Shape := ⟨2, ![4, 4112]⟩
abbrev S3200x4112 : Shape := ⟨2, ![3200, 4112]⟩
abbrev S4112x3200 : Shape := ⟨2, ![4112, 3200]⟩
abbrev S4224x3200 : Shape := ⟨2, ![4224, 3200]⟩
abbrev S4224x1536 : Shape := ⟨2, ![4224, 1536]⟩
abbrev S1x4 : Shape := ⟨2, ![1, 4]⟩
abbrev S1x128 : Shape := ⟨2, ![1, 128]⟩
abbrev S4224x512 : Shape := ⟨2, ![4224, 512]⟩
abbrev S66x4x128x128 : Shape := ⟨4, ![66, 4, 128, 128]⟩
abbrev S66x4x64x64 : Shape := ⟨4, ![66, 4, 64, 64]⟩
abbrev S384x1536 : Shape := ⟨2, ![384, 1536]⟩
abbrev S384x512 : Shape := ⟨2, ![384, 512]⟩
abbrev S384x128 : Shape := ⟨2, ![384, 128]⟩
abbrev S6x4x128x128 : Shape := ⟨4, ![6, 4, 128, 128]⟩
abbrev S6x4x64x64 : Shape := ⟨4, ![6, 4, 64, 64]⟩
abbrev S4x128x128 : Shape := ⟨3, ![4, 128, 128]⟩
abbrev S1x4x128x128 : Shape := ⟨4, ![1, 4, 128, 128]⟩
abbrev S64x1536 : Shape := ⟨2, ![64, 1536]⟩
abbrev S64x512 : Shape := ⟨2, ![64, 512]⟩
abbrev S64x128 : Shape := ⟨2, ![64, 128]⟩
abbrev S64x1 : Shape := ⟨2, ![64, 1]⟩
abbrev S64x64 : Shape := ⟨2, ![64, 64]⟩
abbrev S1x64x128 : Shape := ⟨3, ![1, 64, 128]⟩
abbrev S4x64x128 : Shape := ⟨3, ![4, 64, 128]⟩
abbrev S4x64 : Shape := ⟨2, ![4, 64]⟩
abbrev S4x64x1 : Shape := ⟨3, ![4, 64, 1]⟩
abbrev S64 : Shape := ⟨1, ![64]⟩
abbrev S1x64x1 : Shape := ⟨3, ![1, 64, 1]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S1x64x64 : Shape := ⟨3, ![1, 64, 64]⟩
abbrev S4x64x64 : Shape := ⟨3, ![4, 64, 64]⟩
abbrev S4x1x64 : Shape := ⟨3, ![4, 1, 64]⟩
abbrev S4x64x256 : Shape := ⟨3, ![4, 64, 256]⟩
abbrev S1x1x128 : Shape := ⟨3, ![1, 1, 128]⟩
abbrev S1x4x64x64 : Shape := ⟨4, ![1, 4, 64, 64]⟩

abbrev nBuf : Space → Nat
  | .hbm => 36
  | .vmem => 16
  | .smem => 0
  | _ => 0

abbrev bufTy : (tb : Table) → Fin (tcTables nBuf tb) → BufTy
  | .hbm, ⟨0, _⟩ => ⟨S4112x2824, .f32⟩
  | .hbm, ⟨1, _⟩ => ⟨S4112x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S2824x4112, .f32⟩
  | .hbm, ⟨6, _⟩ => ⟨S64x4112, .f32⟩
  | .hbm, ⟨7, _⟩ => ⟨S64x4112, .f32⟩
  | .hbm, ⟨8, _⟩ => ⟨S64x4112, .f32⟩
  | .hbm, ⟨9, _⟩ => ⟨S64x4112, .f32⟩
  | .hbm, ⟨10, _⟩ => ⟨S_, .f32⟩
  | .hbm, ⟨11, _⟩ => ⟨S120x4112, .f32⟩
  | .hbm, ⟨12, _⟩ => ⟨S512x4112, .f32⟩
  | .hbm, ⟨13, _⟩ => ⟨S2048x4112, .f32⟩
  | .hbm, ⟨14, _⟩ => ⟨S4x4112, .f32⟩
  | .hbm, ⟨15, _⟩ => ⟨S4x4112, .f32⟩
  | .hbm, ⟨16, _⟩ => ⟨S3200x4112, .f32⟩
  | .hbm, ⟨17, _⟩ => ⟨S4112x3200, .f32⟩
  | .hbm, ⟨18, _⟩ => ⟨S_, .i32⟩
  | .hbm, ⟨19, _⟩ => ⟨S_, .f32⟩
  | .hbm, ⟨20, _⟩ => ⟨S4224x3200, .f32⟩
  | .hbm, ⟨21, _⟩ => ⟨S_, .i32⟩
  | .hbm, ⟨22, _⟩ => ⟨S_, .f32⟩
  | .hbm, ⟨23, _⟩ => ⟨S4224x1536, .f32⟩
  | .hbm, ⟨24, _⟩ => ⟨S1x4, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S1x4, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S4224x512, .f32⟩
  | .hbm, ⟨34, _⟩ => ⟨S66x4x128x128, .f32⟩
  | .hbm, ⟨35, _⟩ => ⟨S66x4x64x64, .f32⟩
  | .local _ .vmem, ⟨0, _⟩ => ⟨S384x1536, .f32⟩
  | .local _ .vmem, ⟨1, _⟩ => ⟨S384x1536, .f32⟩
  | .local _ .vmem, ⟨2, _⟩ => ⟨S384x512, .f32⟩
  | .local _ .vmem, ⟨3, _⟩ => ⟨S384x512, .f32⟩
  | .local _ .vmem, ⟨4, _⟩ => ⟨S384x128, .f32⟩
  | .local _ .vmem, ⟨5, _⟩ => ⟨S384x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S384x512, .f32⟩
  | .local _ .vmem, ⟨10, _⟩ => ⟨S384x512, .f32⟩
  | .local _ .vmem, ⟨11, _⟩ => ⟨S6x4x128x128, .f32⟩
  | .local _ .vmem, ⟨12, _⟩ => ⟨S6x4x128x128, .f32⟩
  | .local _ .vmem, ⟨13, _⟩ => ⟨S6x4x64x64, .f32⟩
  | .local _ .vmem, ⟨14, _⟩ => ⟨S6x4x64x64, .f32⟩
  | .local _ .vmem, ⟨15, _⟩ => ⟨S4x128x128, .f32⟩
  | _, _ => ⟨S4112x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S384x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DnfReferenceIdeal.lean ====
abbrev S4112x2824 : Shape := ⟨2, ![4112, 2824]⟩
abbrev S4112x1536 : Shape := ⟨2, ![4112, 1536]⟩
abbrev S4 : Shape := ⟨1, ![4]⟩
abbrev S128 : Shape := ⟨1, ![128]⟩
abbrev S4112x4 : Shape := ⟨2, ![4112, 4]⟩
abbrev S_ : Shape := ⟨0, ![]⟩
abbrev S4112x512 : Shape := ⟨2, ![4112, 512]⟩
abbrev S4112x4x128 : Shape := ⟨3, ![4112, 4, 128]⟩
abbrev S4112x4x1 : Shape := ⟨3, ![4112, 4, 1]⟩
abbrev S1x4 : Shape := ⟨2, ![1, 4]⟩
abbrev S4x128x128 : Shape := ⟨3, ![4, 128, 128]⟩
abbrev S1x4x128 : Shape := ⟨3, ![1, 4, 128]⟩
abbrev S4x128 : Shape := ⟨2, ![4, 128]⟩
abbrev S4x1x1 : Shape := ⟨3, ![4, 1, 1]⟩
abbrev S4x1 : Shape := ⟨2, ![4, 1]⟩
abbrev S4x128x1 : Shape := ⟨3, ![4, 128, 1]⟩
abbrev S4x1x128 : Shape := ⟨3, ![4, 1, 128]⟩
abbrev S1x1x128 : Shape := ⟨3, ![1, 1, 128]⟩
abbrev S4224x512 : Shape := ⟨2, ![4224, 512]⟩

abbrev nBuf : Space → Nat
  | .hbm => 162
  | .vmem => 0
  | .smem => 0
  | _ => 0

abbrev hbmTy0_0 (i : Nat) : BufTy := match i % 128 with
  | 0 => ⟨S4112x2824, .f32⟩
  | 1 => ⟨S4112x1536, .f32⟩
  | 2 => ⟨S4, .f32⟩
  | 3 => ⟨S4, .f32⟩
  | 4 => ⟨S128, .f32⟩
  | 5 => ⟨S4112x4, .f32⟩
  | 6 => ⟨S4112x4, .f32⟩
  | 7 => ⟨S4112x1536, .f32⟩
  | 8 => ⟨S4112x1536, .f32⟩
  | 9 => ⟨S_, .f32⟩
  | 10 => ⟨S4112x1536, .f32⟩
  | 11 => ⟨S4112x1536, .f32⟩
  | 12 => ⟨S_, .f32⟩
  | 13 => ⟨S4112x1536, .f32⟩
  | 14 => ⟨S4112x1536, .f32⟩
  | 15 => ⟨S4112x1536, .f32⟩
  | 16 => ⟨S4112x512, .f32⟩
  | 17 => ⟨S4112x4x128, .f32⟩
  | 18 => ⟨S4112x512, .f32⟩
  | 19 => ⟨S4112x4x128, .f32⟩
  | 20 => ⟨S4112x512, .f32⟩
  | 21 => ⟨S4112x4x128, .f32⟩
  | 22 => ⟨S4112x4x128, .f32⟩
  | 23 => ⟨S_, .f32⟩
  | 24 => ⟨S4112x4, .f32⟩
  | 25 => ⟨S4112x4x1, .f32⟩
  | 26 => ⟨S_, .f32⟩
  | 27 => ⟨S4112x4x1, .f32⟩
  | 28 => ⟨S4112x4x1, .f32⟩
  | 29 => ⟨S4112x4x1, .f32⟩
  | 30 => ⟨S4112x4x128, .f32⟩
  | 31 => ⟨S4112x4x128, .f32⟩
  | 32 => ⟨S_, .f32⟩
  | 33 => ⟨S4112x4x128, .f32⟩
  | 34 => ⟨S4112x4x128, .f32⟩
  | 35 => ⟨S4112x4x128, .f32⟩
  | 36 => ⟨S_, .f32⟩
  | 37 => ⟨S4112x4, .f32⟩
  | 38 => ⟨S4112x4x1, .f32⟩
  | 39 => ⟨S_, .f32⟩
  | 40 => ⟨S4112x4x1, .f32⟩
  | 41 => ⟨S4112x4x1, .f32⟩
  | 42 => ⟨S4112x4x1, .f32⟩
  | 43 => ⟨S4112x4x128, .f32⟩
  | 44 => ⟨S4112x4x128, .f32⟩
  | 45 => ⟨S4112x4, .f32⟩
  | 46 => ⟨S4112x4, .f32⟩
  | 47 => ⟨S_, .f32⟩
  | 48 => ⟨S4112x4, .f32⟩
  | 49 => ⟨S4112x4, .f32⟩
  | 50 => ⟨S_, .f32⟩
  | 51 => ⟨S4112x4, .f32⟩
  | 52 => ⟨S4112x4, .f32⟩
  | 53 => ⟨S4, .f32⟩
  | 54 => ⟨S4, .f32⟩
  | 55 => ⟨S1x4, .f32⟩
  | 56 => ⟨S4112x4, .f32⟩
  | 57 => ⟨S4112x4, .f32⟩
  | 58 => ⟨S_, .f32⟩
  | 59 => ⟨S4112x4, .f32⟩
  | 60 => ⟨S4112x4, .f32⟩
  | 61 => ⟨S4112x4, .f32⟩
  | 62 => ⟨S4112x4, .f32⟩
  | 63 => ⟨S4112x4, .i1⟩
  | 64 => ⟨S4112x4, .f32⟩
  | 65 => ⟨S4112x4, .f32⟩
  | 66 => ⟨S4112x4, .f32⟩
  | 67 => ⟨S4112x4, .f32⟩
  | 68 => ⟨S4112x4, .f32⟩
  | 69 => ⟨S4112x4, .f32⟩
  | 70 => ⟨S4112x4, .f32⟩
  | 71 => ⟨S4112x4, .f32⟩
  | 72 => ⟨S1x4, .f32⟩
  | 73 => ⟨S4112x4, .f32⟩
  | 74 => ⟨S4112x4, .f32⟩
  | 75 => ⟨S_, .f32⟩
  | 76 => ⟨S4x128x128, .f32⟩
  | 77 => ⟨S4112x4, .f32⟩
  | 78 => ⟨S_, .f32⟩
  | 79 => ⟨S4112x4x128, .f32⟩
  | 80 => ⟨S_, .i32⟩
  | 81 => ⟨S4112x4x128, .f32⟩
  | 82 => ⟨S4112x4x128, .f32⟩
  | 83 => ⟨S4112x4x128, .f32⟩
  | 84 => ⟨S4112x4, .f32⟩
  | 85 => ⟨S4112x4, .f32⟩
  | 86 => ⟨S_, .i32⟩
  | 87 => ⟨S4x128x128, .f32⟩
  | 88 => ⟨S4112x4x128, .f32⟩
  | 89 => ⟨S_, .i32⟩
  | 90 => ⟨S_, .i1⟩
  | 91 => ⟨S_, .i32⟩
  | 92 => ⟨S_, .i32⟩
  | 93 => ⟨S1x4x128, .f32⟩
  | 94 => ⟨S4x128, .f32⟩
  | 95 => ⟨S_, .i32⟩
  | 96 => ⟨S_, .i32⟩
  | 97 => ⟨S1x4x128, .f32⟩
  | 98 => ⟨S4x128, .f32⟩
  | 99 => ⟨S_, .i32⟩
  | 100 => ⟨S_, .i32⟩
  | 101 => ⟨S1x4x128, .f32⟩
  | 102 => ⟨S4x128, .f32⟩
  | 103 => ⟨S_, .i32⟩
  | 104 => ⟨S1x4, .f32⟩
  | 105 => ⟨S4, .f32⟩
  | 106 => ⟨S_, .i32⟩
  | 107 => ⟨S1x4, .f32⟩
  | 108 => ⟨S4, .f32⟩
  | 109 => ⟨S4x1x1, .f32⟩
  | 110 => ⟨S4x128x128, .f32⟩
  | 111 => ⟨S4x128x128, .f32⟩
  | 112 => ⟨S4x128, .f32⟩
  | 113 => ⟨S4x128, .f32⟩
  | 114 => ⟨S4x1, .f32⟩
  | 115 => ⟨S4x128, .f32⟩
  | 116 => ⟨S4x128, .f32⟩
  | 117 => ⟨S4x128x1, .f32⟩
  | 118 => ⟨S4x1x128, .f32⟩
  | 119 => ⟨S4x128x128, .f32⟩
  | 120 => ⟨S4x128x128, .f32⟩
  | 121 => ⟨S4x128x128, .f32⟩
  | 122 => ⟨S4x128x128, .f32⟩
  | 123 => ⟨S4x128, .f32⟩
  | 124 => ⟨S1x4x128, .f32⟩
  | 125 => ⟨S_, .i32⟩
  | 126 => ⟨S_, .i32⟩
  | 127 => ⟨S4112x4x128, .f32⟩
  | _ => ⟨S4112x2824, .f32⟩

abbrev hbmTy0_1 (i : Nat) : BufTy := match i % 128 with
  | 0 => ⟨S_, .i32⟩
  | 1 => ⟨S_, .i32⟩
  | 2 => ⟨S4112x4x128, .f32⟩
  | 3 => ⟨S_, .f32⟩
  | 4 => ⟨S4112x4, .f32⟩
  | 5 => ⟨S4112x4x1, .f32⟩
  | 6 => ⟨S_, .f32⟩
  | 7 => ⟨S4112x4x1, .f32⟩
  | 8 => ⟨S4112x4x1, .f32⟩
  | 9 => ⟨S_, .f32⟩
  | 10 => ⟨S4112x4x1, .f32⟩
  | 11 => ⟨S4112x4x1, .f32⟩
  | 12 => ⟨S4112x4x1, .f32⟩
  | 13 => ⟨S4112x4x128, .f32⟩
  | 14 => ⟨S4112x4x128, .f32⟩
  | 15 => ⟨S1x1x128, .f32⟩
  | 16 => ⟨S4112x4x128, .f32⟩
  | 17 => ⟨S4112x4x128, .f32⟩
  | 18 => ⟨S4112x512, .f32⟩
  | 19 => ⟨S4112x4x128, .f32⟩
  | 20 => ⟨S4112x4x128, .f32⟩
  | 21 => ⟨S4112x4x128, .f32⟩
  | 22 => ⟨S_, .f32⟩
  | 23 => ⟨S4112x4x128, .f32⟩
  | 24 => ⟨S4112x4x128, .f32⟩
  | 25 => ⟨S_, .f32⟩
  | 26 => ⟨S4112x4x128, .f32⟩
  | 27 => ⟨S4112x4x128, .f32⟩
  | 28 => ⟨S4112x4x128, .f32⟩
  | 29 => ⟨S4112x4x128, .f32⟩
  | 30 => ⟨S4112x512, .f32⟩
  | 31 => ⟨S_, .i32⟩
  | 32 => ⟨S_, .f32⟩
  | 33 => ⟨S4224x512, .f32⟩
  | _ => ⟨S4112x2824, .f32⟩

abbrev hbmTy (i : Nat) : BufTy := match i / 128 with
  | 0 => hbmTy0_0 i
  | 1 => hbmTy0_1 i
  | _ => ⟨S4112x2824, .f32⟩

abbrev bufTy : (tb : Table) → Fin (tcTables nBuf tb) → BufTy
  | .hbm, ⟨i, _⟩ => hbmTy i
  | _, _ => ⟨S4112x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_c : Ref sig .tc := ⟨.hbm, 80, rfl⟩
abbrev main_v45_0 : Ref sig .tc := ⟨.hbm, 81, rfl⟩
abbrev main_v45_1 : Ref sig .tc := ⟨.hbm, 82, rfl⟩
abbrev main_v45_2 : Ref sig .tc := ⟨.hbm, 83, rfl⟩
abbrev main_v45_3 : Ref sig .tc := ⟨.hbm, 84, rfl⟩
abbrev main_v45_4 : Ref sig .tc := ⟨.hbm, 85, rfl⟩
abbrev main_v45_5 : Ref sig .tc := ⟨.hbm, 86, rfl⟩
abbrev main_v45_6 : Ref sig .tc := ⟨.hbm, 87, rfl⟩
abbrev main_v45_7 : Ref sig .tc := ⟨.hbm, 88, rfl⟩
abbrev main_while0c_c_19 : Ref sig .tc := ⟨.hbm, 89, rfl⟩
abbrev main_while0c_v65 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_v0 : Ref sig .tc := ⟨.hbm, 93, rfl⟩
abbrev main_while0b_v65 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_v0 : Ref sig .tc := ⟨.hbm, 97, rfl⟩
abbrev main_while0b_v66 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_v0 : Ref sig .tc := ⟨.hbm, 101, rfl⟩
abbrev main_while0b_v67 : Ref sig .tc := ⟨.hbm, 102, rfl⟩
abbrev main_while0b_call5_c : Ref sig .tc := ⟨.hbm, 103, rfl⟩
abbrev main_while0b_call5_v0 : Ref sig .tc := ⟨.hbm, 104, rfl⟩
abbrev main_while0b_v68 : Ref sig .tc := ⟨.hbm, 105, rfl⟩
abbrev main_while0b_call6_c : Ref sig .tc := ⟨.hbm, 106, rfl⟩
abbrev main_while0b_call6_v0 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_call7_v0 : Ref sig .tc := ⟨.hbm, 124, rfl⟩
abbrev main_while0b_call7_c : Ref sig .tc := ⟨.hbm, 125, rfl⟩
abbrev main_while0b_call7_c_0 : Ref sig .tc := ⟨.hbm, 126, rfl⟩
abbrev main_while0b_v85 : Ref sig .tc := ⟨.hbm, 127, rfl⟩
abbrev main_while0b_c_19 : Ref sig .tc := ⟨.hbm, 128, rfl⟩
abbrev main_while0b_v86 : Ref sig .tc := ⟨.hbm, 129, rfl⟩
abbrev main_v46 : Ref sig .tc := ⟨.hbm, 130, rfl⟩
abbrev main_cst_8 : Ref sig .tc := ⟨.hbm, 131, rfl⟩
abbrev main_v47 : Ref sig .tc := ⟨.hbm, 132, rfl⟩
abbrev main_v48 : Ref sig .tc := ⟨.hbm, 133, rfl⟩
abbrev main_cst_9 : Ref sig .tc := ⟨.hbm, 134, rfl⟩
abbrev main_v49 : Ref sig .tc := ⟨.hbm, 135, rfl⟩
abbrev main_v50 : Ref sig .tc := ⟨.hbm, 136, rfl⟩
abbrev main_cst_10 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_call8_v0 : Ref sig .tc := ⟨.hbm, 148, rfl⟩
abbrev main_call8_v1 : Ref sig .tc := ⟨.hbm, 149, rfl⟩
abbrev main_call8_cst : Ref sig .tc := ⟨.hbm, 150, rfl⟩
abbrev main_call8_v2 : Ref sig .tc := ⟨.hbm, 151, rfl⟩
abbrev main_call8_v3 : Ref sig .tc := ⟨.hbm, 152, rfl⟩
abbrev main_call8_cst_0 : Ref sig .tc := ⟨.hbm, 153, rfl⟩
abbrev main_call8_v4 : Ref sig .tc := ⟨.hbm, 154, rfl⟩
abbrev main_call8_v5 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_c_11 : Ref sig .tc := ⟨.hbm, 159, rfl⟩
abbrev main_call9_v0 : Ref sig .tc := ⟨.hbm, 160, rfl⟩
abbrev main_v64 : Ref sig .tc := ⟨.hbm, 161, rfl⟩

abbrev nD : Nat := 1
abbrev τ : Topo := Topo.v7x

variable {F : FTy → Type} [FloatOps F]

abbrev main_while0_count : Scf.Loop 32 := ⟨0#32, 4112#32, 1#32⟩
-- ==== FfuKernel.lean ====
abbrev S4112x1024 : Shape := ⟨2, ![4112, 1024]⟩
abbrev S1x1024 : Shape := ⟨2, ![1, 1024]⟩
abbrev S1024x2816 : Shape := ⟨2, ![1024, 2816]⟩
abbrev S2816x1024 : Shape := ⟨2, ![2816, 1024]⟩
abbrev S5632x1024 : Shape := ⟨2, ![5632, 1024]⟩
abbrev S_ : Shape := ⟨0, ![]⟩
abbrev S112x1024 : Shape := ⟨2, ![112, 1024]⟩
abbrev S4224x1024 : Shape := ⟨2, ![4224, 1024]⟩
abbrev S4224x2816 : Shape := ⟨2, ![4224, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S384x5632 : Shape := ⟨2, ![384, 5632]⟩

abbrev nBuf : Space → Nat
  | .hbm => 15
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S5632x1024, .f32⟩
  | .hbm, ⟨7, _⟩ => ⟨S5632x1024, .bf16⟩
  | .hbm, ⟨8, _⟩ => ⟨S_, .f32⟩
  | .hbm, ⟨9, _⟩ => ⟨S112x1024, .f32⟩
  | .hbm, ⟨10, _⟩ => ⟨S4224x1024, .f32⟩
  | .hbm, ⟨11, _⟩ => ⟨S4224x1024, .bf16⟩
  | .hbm, ⟨12, _⟩ => ⟨S4224x2816, .bf16⟩
  | .hbm, ⟨13, _⟩ => ⟨S4224x2816, .bf16⟩
  | .hbm, ⟨14, _⟩ => ⟨S4224x2816, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S5632x1024, .bf16⟩
  | .local _ .vmem, ⟨4, _⟩ => ⟨S384x1024, .bf16⟩
  | .local _ .vmem, ⟨5, _⟩ => ⟨S384x1024, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x2816, .bf16⟩
  | .local _ .vmem, ⟨11, _⟩ => ⟨S384x2816, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfuReferenceIdeal.lean ====
abbrev S4112x1024 : Shape := ⟨2, ![4112, 1024]⟩
abbrev S1x1024 : Shape := ⟨2, ![1, 1024]⟩
abbrev S1024x2816 : Shape := ⟨2, ![1024, 2816]⟩
abbrev S_ : Shape := ⟨0, ![]⟩
abbrev S4112 : Shape := ⟨1, ![4112]⟩
abbrev S4112x1 : Shape := ⟨2, ![4112, 1]⟩
abbrev S4112x2816 : Shape := ⟨2, ![4112, 2816]⟩
abbrev S112x1024 : Shape := ⟨2, ![112, 1024]⟩
abbrev S4224x1024 : Shape := ⟨2, ![4224, 1024]⟩
abbrev S112x2816 : Shape := ⟨2, ![112, 2816]⟩
abbrev S4224x2816 : Shape := ⟨2, ![4224, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4112x1024, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S4112x1024, .f32⟩
  | .hbm, ⟨19, _⟩ => ⟨S4112x2816, .f32⟩
  | .hbm, ⟨20, _⟩ => ⟨S4112x2816, .f32⟩
  | .hbm, ⟨21, _⟩ => ⟨S4112x2816, .f32⟩
  | .hbm, ⟨22, _⟩ => ⟨S4112x2816, .f32⟩
  | .hbm, ⟨23, _⟩ => ⟨S_, .f32⟩
  | .hbm, ⟨24, _⟩ => ⟨S4112x2816, .f32⟩
  | .hbm, ⟨25, _⟩ => ⟨S4112x2816, .f32⟩
  | .hbm, ⟨26, _⟩ => ⟨S_, .f32⟩
  | .hbm, ⟨27, _⟩ => ⟨S4112x2816, .f32⟩
  | .hbm, ⟨28, _⟩ => ⟨S4112x2816, .f32⟩
  | .hbm, ⟨29, _⟩ => ⟨S4112x2816, .f32⟩
  | .hbm, ⟨30, _⟩ => ⟨S4112x2816, .f32⟩
  | .hbm, ⟨31, _⟩ => ⟨S_, .f32⟩
  | .hbm, ⟨32, _⟩ => ⟨S112x1024, .f32⟩
  | .hbm, ⟨33, _⟩ => ⟨S4224x1024, .f32⟩
  | .hbm, ⟨34, _⟩ => ⟨S4224x1024, .bf16⟩
  | .hbm, ⟨35, _⟩ => ⟨S_, .f32⟩
  | .hbm, ⟨36, _⟩ => ⟨S112x2816, .f32⟩
  | .hbm, ⟨37, _⟩ => ⟨S4224x2816, .f32⟩
  | .hbm, ⟨38, _⟩ => ⟨S4224x2816, .bf16⟩
  | .hbm, ⟨39, _⟩ => ⟨S_, .f32⟩
  | .hbm, ⟨40, _⟩ => ⟨S112x2816, .f32⟩
  | .hbm, ⟨41, _⟩ => ⟨S4224x2816, .f32⟩
  | .hbm, ⟨42, _⟩ => ⟨S4224x2816, .bf16⟩
  | .hbm, ⟨43, _⟩ => ⟨S_, .f32⟩
  | .hbm, ⟨44, _⟩ => ⟨S112x2816, .f32⟩
  | .hbm, ⟨45, _⟩ => ⟨S4224x2816, .f32⟩
  | .hbm, ⟨46, _⟩ => ⟨S4224x2816, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== FfdKernel.lean ====
abbrev S4112x2816 : Shape := ⟨2, ![4112, 2816]⟩
abbrev S2816x1024 : Shape := ⟨2, ![2816, 1024]⟩
abbrev S4112x1024 : Shape := ⟨2, ![4112, 1024]⟩
abbrev S1x1024 : Shape := ⟨2, ![1, 1024]⟩
abbrev S_ : Shape := ⟨0, ![]⟩
abbrev S112x2816 : Shape := ⟨2, ![112, 2816]⟩
abbrev S4224x2816 : Shape := ⟨2, ![4224, 2816]⟩
abbrev S112x1024 : Shape := ⟨2, ![112, 1024]⟩
abbrev S4224x1024 : Shape := ⟨2, ![4224, 1024]⟩
abbrev S384x2816 : Shape := ⟨2, ![384, 2816]⟩
abbrev S384x1024 : Shape := ⟨2, ![384, 1024]⟩
abbrev S384 : Shape := ⟨1, ![384]⟩
abbrev S384x1 : Shape := ⟨2, ![384, 1]⟩

abbrev nBuf : Space → Nat
  | .hbm => 14
  | .vmem => 10
  | .smem => 0
  | _ => 0

abbrev bufTy : (tb : Table) → Fin (tcTables nBuf tb) → BufTy
  | .hbm, ⟨0, _⟩ => ⟨S4112x2816, .f32⟩
  | .hbm, ⟨1, _⟩ => ⟨S2816x1024, .f32⟩
  | .hbm, ⟨2, _⟩ => ⟨S4112x1024, .f32⟩
  | .hbm, ⟨3, _⟩ => ⟨S1x1024, .f32⟩
  | .hbm, ⟨4, _⟩ => ⟨S4112x2816, .bf16⟩
  | .hbm, ⟨5, _⟩ => ⟨S_, .bf16⟩
  | .hbm, ⟨6, _⟩ => ⟨S112x2816, .bf16⟩
  | .hbm, ⟨7, _⟩ => ⟨S4224x2816, .bf16⟩
  | .hbm, ⟨8, _⟩ => ⟨S2816x1024, .bf16⟩
  | .hbm, ⟨9, _⟩ => ⟨S_, .f32⟩
  | .hbm, ⟨10, _⟩ => ⟨S112x1024, .f32⟩
  | .hbm, ⟨11, _⟩ => ⟨S4224x1024, .f32⟩
  | .hbm, ⟨12, _⟩ => ⟨S4224x1024, .f32⟩
  | .hbm, ⟨13, _⟩ => ⟨S4224x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | _, _ => ⟨S4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfdReferenceIdeal.lean ====
abbrev S4112x2816 : Shape := ⟨2, ![4112, 2816]⟩
abbrev S2816x1024 : Shape := ⟨2, ![2816, 1024]⟩
abbrev S4112x1024 : Shape := ⟨2, ![4112, 1024]⟩
abbrev S1x1024 : Shape := ⟨2, ![1, 1024]⟩
abbrev S_ : Shape := ⟨0, ![]⟩
abbrev S112x1024 : Shape := ⟨2, ![112, 1024]⟩
abbrev S4224x1024 : Shape := ⟨2, ![4224, 1024]⟩
abbrev S4112 : Shape := ⟨1, ![4112]⟩
abbrev S4112x1 : Shape := ⟨2, ![4112, 1]⟩

abbrev nBuf : Space → Nat
  | .hbm => 30
  | .vmem => 0
  | .smem => 0
  | _ => 0

abbrev bufTy : (tb : Table) → Fin (tcTables nBuf tb) → BufTy
  | .hbm, ⟨0, _⟩ => ⟨S4112x2816, .f32⟩
  | .hbm, ⟨1, _⟩ => ⟨S2816x1024, .f32⟩
  | .hbm, ⟨2, _⟩ => ⟨S4112x1024, .f32⟩
  | .hbm, ⟨3, _⟩ => ⟨S1x1024, .f32⟩
  | .hbm, ⟨4, _⟩ => ⟨S4112x1024, .f32⟩
  | .hbm, ⟨5, _⟩ => ⟨S_, .f32⟩
  | .hbm, ⟨6, _⟩ => ⟨S112x1024, .f32⟩
  | .hbm, ⟨7, _⟩ => ⟨S4224x1024, .f32⟩
  | .hbm, ⟨8, _⟩ => ⟨S4112x1024, .f32⟩
  | .hbm, ⟨9, _⟩ => ⟨S_, .f32⟩
  | .hbm, ⟨10, _⟩ => ⟨S4112, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S4112x1024, .f32⟩
  | .hbm, ⟨20, _⟩ => ⟨S4112x1024, .f32⟩
  | .hbm, ⟨21, _⟩ => ⟨S4112x1024, .f32⟩
  | .hbm, ⟨22, _⟩ => ⟨S4112x1024, .f32⟩
  | .hbm, ⟨23, _⟩ => ⟨S_, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S_, .f32⟩
  | .hbm, ⟨28, _⟩ => ⟨S112x1024, .f32⟩
  | .hbm, ⟨29, _⟩ => ⟨S4224x1024, .f32⟩
  | _, _ => ⟨S4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== MxiKernel.lean ====
abbrev S4112x1024 : Shape := ⟨2, ![4112, 1024]⟩
abbrev S1x1024 : Shape := ⟨2, ![1, 1024]⟩
abbrev S1024x3088 : Shape := ⟨2, ![1024, 3088]⟩
abbrev S3088x1024 : Shape := ⟨2, ![3088, 1024]⟩
abbrev S_ : Shape := ⟨0, ![]⟩
abbrev S3200x1024 : Shape := ⟨2, ![3200, 1024]⟩
abbrev S112x1024 : Shape := ⟨2, ![112, 1024]⟩
abbrev S4224x1024 : Shape := ⟨2, ![4224, 1024]⟩
abbrev S4224x3200 : Shape := ⟨2, ![4224, 3200]⟩
abbrev S384x1024 : Shape := ⟨2, ![384, 1024]⟩
abbrev S384x3200 : Shape := ⟨2, ![384, 3200]⟩
abbrev S384 : Shape := ⟨1, ![384]⟩
abbrev S384x1 : Shape := ⟨2, ![384, 1]⟩

abbrev nBuf : Space → Nat
  | .hbm => 13
  | .vmem => 8
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1024x3088, .f32⟩
  | .hbm, ⟨3, _⟩ => ⟨S3088x1024, .f32⟩
  | .hbm, ⟨4, _⟩ => ⟨S_, .i32⟩
  | .hbm, ⟨5, _⟩ => ⟨S_, .f32⟩
  | .hbm, ⟨6, _⟩ => ⟨S3200x1024, .f32⟩
  | .hbm, ⟨7, _⟩ => ⟨S3200x1024, .bf16⟩
  | .hbm, ⟨8, _⟩ => ⟨S_, .f32⟩
  | .hbm, ⟨9, _⟩ => ⟨S112x1024, .f32⟩
  | .hbm, ⟨10, _⟩ => ⟨S4224x1024, .f32⟩
  | .hbm, ⟨11, _⟩ => ⟨S4224x1024, .bf16⟩
  | .hbm, ⟨12, _⟩ => ⟨S4224x3200, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S3200x1024, .bf16⟩
  | .local _ .vmem, ⟨4, _⟩ => ⟨S384x1024, .bf16⟩
  | .local _ .vmem, ⟨5, _⟩ => ⟨S384x1024, .bf16⟩
  | .local _ .vmem, ⟨6, _⟩ => ⟨S384x3200, .f32⟩
  | .local _ .vmem, ⟨7, _⟩ => ⟨S384x3200, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MxiReferenceIdeal.lean ====
abbrev S4112x1024 : Shape := ⟨2, ![4112, 1024]⟩
abbrev S1x1024 : Shape := ⟨2, ![1, 1024]⟩
abbrev S1024x3088 : Shape := ⟨2, ![1024, 3088]⟩
abbrev S_ : Shape := ⟨0, ![]⟩
abbrev S4112 : Shape := ⟨1, ![4112]⟩
abbrev S4112x1 : Shape := ⟨2, ![4112, 1]⟩
abbrev S112x1024 : Shape := ⟨2, ![112, 1024]⟩
abbrev S4224x1024 : Shape := ⟨2, ![4224, 1024]⟩
abbrev S4112x3088 : Shape := ⟨2, ![4112, 3088]⟩
abbrev S4224x3200 : Shape := ⟨2, ![4224, 3200]⟩

abbrev nBuf : Space → Nat
  | .hbm => 26
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1024x3088, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S_, .f32⟩
  | .hbm, ⟨19, _⟩ => ⟨S112x1024, .f32⟩
  | .hbm, ⟨20, _⟩ => ⟨S4224x1024, .f32⟩
  | .hbm, ⟨21, _⟩ => ⟨S4224x1024, .bf16⟩
  | .hbm, ⟨22, _⟩ => ⟨S4112x3088, .f32⟩
  | .hbm, ⟨23, _⟩ => ⟨S_, .i32⟩
  | .hbm, ⟨24, _⟩ => ⟨S_, .f32⟩
  | .hbm, ⟨25, _⟩ => ⟨S4224x3200, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== MxoKernel.lean ====
abbrev S4112x512 : Shape := ⟨2, ![4112, 512]⟩
abbrev S1024x1024 : Shape := ⟨2, ![1024, 1024]⟩
abbrev S4112x1024 : Shape := ⟨2, ![4112, 1024]⟩
abbrev S1x1024 : Shape := ⟨2, ![1, 1024]⟩
abbrev S_ : Shape := ⟨0, ![]⟩
abbrev S112x512 : Shape := ⟨2, ![112, 512]⟩
abbrev S4224x512 : Shape := ⟨2, ![4224, 512]⟩
abbrev S112x1024 : Shape := ⟨2, ![112, 1024]⟩
abbrev S4224x1024 : Shape := ⟨2, ![4224, 1024]⟩
abbrev S384x512 : Shape := ⟨2, ![384, 512]⟩
abbrev S384x1024 : Shape := ⟨2, ![384, 1024]⟩
abbrev S512x1024 : Shape := ⟨2, ![512, 1024]⟩
abbrev S384 : Shape := ⟨1, ![384]⟩
abbrev S384x1 : Shape := ⟨2, ![384, 1]⟩

abbrev nBuf : Space → Nat
  | .hbm => 17
  | .vmem => 12
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S1024x1024, .f32⟩
  | .hbm, ⟨3, _⟩ => ⟨S4112x1024, .f32⟩
  | .hbm, ⟨4, _⟩ => ⟨S1x1024, .f32⟩
  | .hbm, ⟨5, _⟩ => ⟨S_, .f32⟩
  | .hbm, ⟨6, _⟩ => ⟨S112x512, .f32⟩
  | .hbm, ⟨7, _⟩ => ⟨S4224x512, .f32⟩
  | .hbm, ⟨8, _⟩ => ⟨S_, .f32⟩
  | .hbm, ⟨9, _⟩ => ⟨S112x512, .f32⟩
  | .hbm, ⟨10, _⟩ => ⟨S4224x512, .f32⟩
  | .hbm, ⟨11, _⟩ => ⟨S1024x1024, .bf16⟩
  | .hbm, ⟨12, _⟩ => ⟨S_, .f32⟩
  | .hbm, ⟨13, _⟩ => ⟨S112x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MxoReferenceIdeal.lean ====
abbrev S4112x512 : Shape := ⟨2, ![4112, 512]⟩
abbrev S1024x1024 : Shape := ⟨2, ![1024, 1024]⟩
abbrev S4112x1024 : Shape := ⟨2, ![4112, 1024]⟩
abbrev S1x1024 : Shape := ⟨2, ![1, 1024]⟩
abbrev S_ : Shape := ⟨0, ![]⟩
abbrev S112x1024 : Shape := ⟨2, ![112, 1024]⟩
abbrev S4224x1024 : Shape := ⟨2, ![4224, 1024]⟩
abbrev S4112 : Shape := ⟨1, ![4112]⟩
abbrev S4112x1 : Shape := ⟨2, ![4112, 1]⟩

abbrev nBuf : Space → Nat
  | .hbm => 29
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S1024x1024, .f32⟩
  | .hbm, ⟨3, _⟩ => ⟨S4112x1024, .f32⟩
  | .hbm, ⟨4, _⟩ => ⟨S1x1024, .f32⟩
  | .hbm, ⟨5, _⟩ => ⟨S4112x1024, .f32⟩
  | .hbm, ⟨6, _⟩ => ⟨S4112x1024, .f32⟩
  | .hbm, ⟨7, _⟩ => ⟨S_, .f32⟩
  | .hbm, ⟨8, _⟩ => ⟨S112x1024, .f32⟩
  | .hbm, ⟨9, _⟩ => ⟨S4224x1024, .f32⟩
  | .hbm, ⟨10, _⟩ => ⟨S4112x1024, .f32⟩
  | .hbm, ⟨11, _⟩ => ⟨S_, .f32⟩
  | .hbm, ⟨12, _⟩ => ⟨S4112, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S4112x1024, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S4112x1024, .f32⟩
  | .hbm, ⟨26, _⟩ => ⟨S_, .f32⟩
  | .hbm, ⟨27, _⟩ => ⟨S112x1024, .f32⟩
  | .hbm, ⟨28, _⟩ => ⟨S4224x1024, .f32⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== CvfKernel.lean ====
abbrev S4112x2824 : Shape := ⟨2, ![4112, 2824]⟩
abbrev S4x1536 : Shape := ⟨2, ![4, 1536]⟩
abbrev S2824x4112 : Shape := ⟨2, ![2824, 4112]⟩
abbrev S64x4112 : Shape := ⟨2, ![64, 4112]⟩
abbrev S_ : Shape := ⟨0, ![]⟩
abbrev S120x4112 : Shape := ⟨2, ![120, 4112]⟩
abbrev S512x4112 : Shape := ⟨2, ![512, 4112]⟩
abbrev S2048x4112 : Shape := ⟨2, ![2048, 4112]⟩
abbrev S4x4112 : Shape := ⟨2, ![4, 4112]⟩
abbrev S3200x4112 : Shape := ⟨2, ![3200, 4112]⟩
abbrev S4112x3200 : Shape := ⟨2, ![4112, 3200]⟩
abbrev S112x3200 : Shape := ⟨2, ![112, 3200]⟩
abbrev S4224x3200 : Shape := ⟨2, ![4224, 3200]⟩
abbrev S4224x1536 : Shape := ⟨2, ![4224, 1536]⟩
abbrev S384x512 : Shape := ⟨2, ![384, 512]⟩
abbrev S8x512 : Shape := ⟨2, ![8, 512]⟩
abbrev S4x512 : Shape := ⟨2, ![4, 512]⟩
abbrev S392x512 : Shape := ⟨2, ![392, 512]⟩
abbrev S1x512 : Shape := ⟨2, ![1, 512]⟩

abbrev nBuf : Space → Nat
  | .hbm => 19
  | .vmem => 9
  | .smem => 0
  | _ => 0

abbrev bufTy : (tb : Table) → Fin (tcTables nBuf tb) → BufTy
  | .hbm, ⟨0, _⟩ => ⟨S4112x2824, .f32⟩
  | .hbm, ⟨1, _⟩ => ⟨S4x1536, .f32⟩
  | .hbm, ⟨2, _⟩ => ⟨S2824x4112, .f32⟩
  | .hbm, ⟨3, _⟩ => ⟨S64x4112, .f32⟩
  | .hbm, ⟨4, _⟩ => ⟨S64x4112, .f32⟩
  | .hbm, ⟨5, _⟩ => ⟨S64x4112, .f32⟩
  | .hbm, ⟨6, _⟩ => ⟨S64x4112, .f32⟩
  | .hbm, ⟨7, _⟩ => ⟨S_, .f32⟩
  | .hbm, ⟨8, _⟩ => ⟨S120x4112, .f32⟩
  | .hbm, ⟨9, _⟩ => ⟨S512x4112, .f32⟩
  | .hbm, ⟨10, _⟩ => ⟨S2048x4112, .f32⟩
  | .hbm, ⟨11, _⟩ => ⟨S4x4112, .f32⟩
  | .hbm, ⟨12, _⟩ => ⟨S4x4112, .f32⟩
  | .hbm, ⟨13, _⟩ => ⟨S3200x4112, .f32⟩
  | .hbm, ⟨14, _⟩ => ⟨S4112x3200, .f32⟩
  | .hbm, ⟨15, _⟩ => ⟨S_, .f32⟩
  | .hbm, ⟨16, _⟩ => ⟨S112x3200, .f32⟩
  | .hbm, ⟨17, _⟩ => ⟨S4224x3200, .f32⟩
  | .hbm, ⟨18, _⟩ => ⟨S4224x1536, .f32⟩
  | .local _ .vmem, ⟨0, _⟩ => ⟨S384x512, .f32⟩
  | .local _ .vmem, ⟨1, _⟩ => ⟨S384x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S384x512, .f32⟩
  | .local _ .vmem, ⟨7, _⟩ => ⟨S384x512, .f32⟩
  | .local _ .vmem, ⟨8, _⟩ => ⟨S392x512, .f32⟩
  | _, _ => ⟨S4112x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CvfReferenceIdeal.lean ====
abbrev S4112x2824 : Shape := ⟨2, ![4112, 2824]⟩
abbrev S4x1536 : Shape := ⟨2, ![4, 1536]⟩
abbrev S4112x1536 : Shape := ⟨2, ![4112, 1536]⟩
abbrev S_ : Shape := ⟨0, ![]⟩
abbrev S3x1536 : Shape := ⟨2, ![3, 1536]⟩
abbrev S4115x1536 : Shape := ⟨2, ![4115, 1536]⟩
abbrev S1x1536 : Shape := ⟨2, ![1, 1536]⟩
abbrev S1536 : Shape := ⟨1, ![1536]⟩
abbrev S112x1536 : Shape := ⟨2, ![112, 1536]⟩
abbrev S4224x1536 : Shape := ⟨2, ![4224, 1536]⟩

abbrev nBuf : Space → Nat
  | .hbm => 39
  | .vmem => 0
  | .smem => 0
  | _ => 0

abbrev bufTy : (tb : Table) → Fin (tcTables nBuf tb) → BufTy
  | .hbm, ⟨0, _⟩ => ⟨S4112x2824, .f32⟩
  | .hbm, ⟨1, _⟩ => ⟨S4x1536, .f32⟩
  | .hbm, ⟨2, _⟩ => ⟨S4112x1536, .f32⟩
  | .hbm, ⟨3, _⟩ => ⟨S_, .f32⟩
  | .hbm, ⟨4, _⟩ => ⟨S3x1536, .f32⟩
  | .hbm, ⟨5, _⟩ => ⟨S4115x1536, .f32⟩
  | .hbm, ⟨6, _⟩ => ⟨S1x1536, .f32⟩
  | .hbm, ⟨7, _⟩ => ⟨S1536, .f32⟩
  | .hbm, ⟨8, _⟩ => ⟨S1x1536, .f32⟩
  | .hbm, ⟨9, _⟩ => ⟨S4112x1536, .f32⟩
  | .hbm, ⟨10, _⟩ => ⟨S4112x1536, .f32⟩
  | .hbm, ⟨11, _⟩ => ⟨S4112x1536, .f32⟩
  | .hbm, ⟨12, _⟩ => ⟨S_, .f32⟩
  | .hbm, ⟨13, _⟩ => ⟨S4112x1536, .f32⟩
  | .hbm, ⟨14, _⟩ => ⟨S4112x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S4112x1536, .f32⟩
  | .hbm, ⟨19, _⟩ => ⟨S4112x1536, .f32⟩
  | .hbm, ⟨20, _⟩ => ⟨S4112x1536, .f32⟩
  | .hbm, ⟨21, _⟩ => ⟨S4112x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S4112x1536, .f32⟩
  | .hbm, ⟨26, _⟩ => ⟨S4112x1536, .f32⟩
  | .hbm, ⟨27, _⟩ => ⟨S4112x1536, .f32⟩
  | .hbm, ⟨28, _⟩ => ⟨S4112x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S4112x1536, .f32⟩
  | .hbm, ⟨33, _⟩ => ⟨S4112x1536, .f32⟩
  | .hbm, ⟨34, _⟩ => ⟨S4112x1536, .f32⟩
  | .hbm, ⟨35, _⟩ => ⟨S4112x1536, .f32⟩
  | .hbm, ⟨36, _⟩ => ⟨S_, .f32⟩
  | .hbm, ⟨37, _⟩ => ⟨S112x1536, .f32⟩
  | .hbm, ⟨38, _⟩ => ⟨S4224x1536, .f32⟩
  | _, _ => ⟨S4112x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_1 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== TnKernel.lean ====
abbrev S4112x2816 : Shape := ⟨2, ![4112, 2816]⟩
abbrev S4112x1024 : Shape := ⟨2, ![4112, 1024]⟩
abbrev S1x1024 : Shape := ⟨2, ![1, 1024]⟩
abbrev S1x1 : Shape := ⟨2, ![1, 1]⟩
abbrev S4112x5632 : Shape := ⟨2, ![4112, 5632]⟩
abbrev S_ : Shape := ⟨0, ![]⟩
abbrev S112x5632 : Shape := ⟨2, ![112, 5632]⟩
abbrev S4224x5632 : Shape := ⟨2, ![4224, 5632]⟩
abbrev S4112 : Shape := ⟨1, ![4112]⟩
abbrev S4112x1 : Shape := ⟨2, ![4112, 1]⟩
abbrev S112x1024 : Shape := ⟨2, ![112, 1024]⟩
abbrev S4224x1024 : Shape := ⟨2, ![4224, 1024]⟩
abbrev S5632x1024 : Shape := ⟨2, ![5632, 1024]⟩
abbrev S4224x512 : Shape := ⟨2, ![4224, 512]⟩
abbrev S512x1024 : Shape := ⟨2, ![512, 1024]⟩

abbrev nBuf : Space → Nat
  | .hbm => 30
  | .vmem => 5
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S4112x1024, .f32⟩
  | .hbm, ⟨3, _⟩ => ⟨S1x1024, .f32⟩
  | .hbm, ⟨4, _⟩ => ⟨S1x1, .f32⟩
  | .hbm, ⟨5, _⟩ => ⟨S4112x5632, .f32⟩
  | .hbm, ⟨6, _⟩ => ⟨S_, .f32⟩
  | .hbm, ⟨7, _⟩ => ⟨S112x5632, .f32⟩
  | .hbm, ⟨8, _⟩ => ⟨S4224x5632, .f32⟩
  | .hbm, ⟨9, _⟩ => ⟨S4224x5632, .bf16⟩
  | .hbm, ⟨10, _⟩ => ⟨S4112x1024, .f32⟩
  | .hbm, ⟨11, _⟩ => ⟨S_, .f32⟩
  | .hbm, ⟨12, _⟩ => ⟨S4112, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S4112x1024, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S_, .f32⟩
  | .hbm, ⟨26, _⟩ => ⟨S112x1024, .f32⟩
  | .hbm, ⟨27, _⟩ => ⟨S4224x1024, .f32⟩
  | .hbm, ⟨28, _⟩ => ⟨S4224x1024, .bf16⟩
  | .hbm, ⟨29, _⟩ => ⟨S5632x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S512x1024, .bf16⟩
  | .local _ .vmem, ⟨4, _⟩ => ⟨S512x1024, .bf16⟩
  | _, _ => ⟨S4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TnReferenceIdeal.lean ====
abbrev S4112x2816 : Shape := ⟨2, ![4112, 2816]⟩
abbrev S4112x1024 : Shape := ⟨2, ![4112, 1024]⟩
abbrev S1x1024 : Shape := ⟨2, ![1, 1024]⟩
abbrev S1x1 : Shape := ⟨2, ![1, 1]⟩
abbrev S_ : Shape := ⟨0, ![]⟩
abbrev S1024x2816 : Shape := ⟨2, ![1024, 2816]⟩
abbrev S4112 : Shape := ⟨1, ![4112]⟩
abbrev S4112x1 : Shape := ⟨2, ![4112, 1]⟩
abbrev S2816x1024 : Shape := ⟨2, ![2816, 1024]⟩
abbrev S1024x5632 : Shape := ⟨2, ![1024, 5632]⟩
abbrev S5632x1024 : Shape := ⟨2, ![5632, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S4112x1024, .f32⟩
  | .hbm, ⟨3, _⟩ => ⟨S1x1024, .f32⟩
  | .hbm, ⟨4, _⟩ => ⟨S1x1, .f32⟩
  | .hbm, ⟨5, _⟩ => ⟨S_, .f32⟩
  | .hbm, ⟨6, _⟩ => ⟨S1024x2816, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S4112x1024, .f32⟩
  | .hbm, ⟨21, _⟩ => ⟨S4112x1024, .f32⟩
  | .hbm, ⟨22, _⟩ => ⟨S4112x2816, .f32⟩
  | .hbm, ⟨23, _⟩ => ⟨S4112x1024, .f32⟩
  | .hbm, ⟨24, _⟩ => ⟨S_, .f32⟩
  | .hbm, ⟨25, _⟩ => ⟨S4112, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S_, .f32⟩
  | .hbm, ⟨31, _⟩ => ⟨S4112x1, .f32⟩
  | .hbm, ⟨32, _⟩ => ⟨S4112x1, .f32⟩
  | .hbm, ⟨33, _⟩ => ⟨S4112x1, .f32⟩
  | .hbm, ⟨34, _⟩ => ⟨S4112x1024, .f32⟩
  | .hbm, ⟨35, _⟩ => ⟨S4112x1024, .f32⟩
  | .hbm, ⟨36, _⟩ => ⟨S4112x1024, .f32⟩
  | .hbm, ⟨37, _⟩ => ⟨S4112x1024, .f32⟩
  | .hbm, ⟨38, _⟩ => ⟨S4112x2816, .f32⟩
  | .hbm, ⟨39, _⟩ => ⟨S2816x1024, .f32⟩
  | .hbm, ⟨40, _⟩ => ⟨S1024x2816, .f32⟩
  | .hbm, ⟨41, _⟩ => ⟨S2816x1024, .f32⟩
  | .hbm, ⟨42, _⟩ => ⟨S1024x2816, .f32⟩
  | .hbm, ⟨43, _⟩ => ⟨S1024x5632, .f32⟩
  | .hbm, ⟨44, _⟩ => ⟨S5632x1024, .f32⟩
  | .hbm, ⟨45, _⟩ => ⟨S5632x1024, .bf16⟩
  | _, _ => ⟨S4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== AdaKernel.lean ====
abbrev S8x400x1024 : Shape := ⟨3, ![8, 400, 1024]⟩
abbrev S1x386x1024 : Shape := ⟨3, ![1, 386, 1024]⟩
abbrev S400x1024 : Shape := ⟨2, ![400, 1024]⟩
abbrev S1x400x1024 : Shape := ⟨3, ![1, 400, 1024]⟩
abbrev S386x1024 : Shape := ⟨2, ![386, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8x400x1024, .bf16⟩
  | .hbm, ⟨1, _⟩ => ⟨S1x386x1024, .f32⟩
  | .hbm, ⟨2, _⟩ => ⟨S1x386x1024, .f32⟩
  | .hbm, ⟨3, _⟩ => ⟨S1x386x1024, .f32⟩
  | .hbm, ⟨4, _⟩ => ⟨S1x386x1024, .f32⟩
  | .hbm, ⟨5, _⟩ => ⟨S1x386x1024, .f32⟩
  | .hbm, ⟨6, _⟩ => ⟨S1x386x1024, .f32⟩
  | .hbm, ⟨7, _⟩ => ⟨S1x386x1024, .f32⟩
  | .local _ .vmem, ⟨0, _⟩ => ⟨S8x400x1024, .bf16⟩
  | .local _ .vmem, ⟨1, _⟩ => ⟨S1x386x1024, .f32⟩
  | .local _ .vmem, ⟨2, _⟩ => ⟨S1x386x1024, .f32⟩
  | .local _ .vmem, ⟨3, _⟩ => ⟨S1x386x1024, .f32⟩
  | .local _ .vmem, ⟨4, _⟩ => ⟨S1x386x1024, .f32⟩
  | .local _ .vmem, ⟨5, _⟩ => ⟨S1x386x1024, .f32⟩
  | .local _ .vmem, ⟨6, _⟩ => ⟨S1x386x1024, .f32⟩
  | .local _ .vmem, ⟨7, _⟩ => ⟨S1x386x1024, .f32⟩
  | .local _ .vmem, ⟨8, _⟩ => ⟨S400x1024, .f32⟩
  | _, _ => ⟨S8x400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x400x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x386x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x386x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x386x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x386x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x386x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x386x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x386x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdaReferenceIdeal.lean ====
abbrev S8x400x1024 : Shape := ⟨3, ![8, 400, 1024]⟩
abbrev S1x386x1024 : Shape := ⟨3, ![1, 386, 1024]⟩
abbrev S8x386x1024 : Shape := ⟨3, ![8, 386, 1024]⟩
abbrev S_ : Shape := ⟨0, ![]⟩
abbrev S386x1024 : Shape := ⟨2, ![386, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x400x1024, .bf16⟩
  | .hbm, ⟨1, _⟩ => ⟨S1x386x1024, .f32⟩
  | .hbm, ⟨2, _⟩ => ⟨S1x386x1024, .f32⟩
  | .hbm, ⟨3, _⟩ => ⟨S1x386x1024, .f32⟩
  | .hbm, ⟨4, _⟩ => ⟨S8x386x1024, .bf16⟩
  | .hbm, ⟨5, _⟩ => ⟨S8x386x1024, .f32⟩
  | .hbm, ⟨6, _⟩ => ⟨S_, .f32⟩
  | .hbm, ⟨7, _⟩ => ⟨S386x1024, .f32⟩
  | .hbm, ⟨8, _⟩ => ⟨S1x386x1024, .f32⟩
  | .hbm, ⟨9, _⟩ => ⟨S_, .f32⟩
  | .hbm, ⟨10, _⟩ => ⟨S1x386x1024, .f32⟩
  | .hbm, ⟨11, _⟩ => ⟨S1x386x1024, .f32⟩
  | .hbm, ⟨12, _⟩ => ⟨S_, .f32⟩
  | .hbm, ⟨13, _⟩ => ⟨S1x386x1024, .f32⟩
  | .hbm, ⟨14, _⟩ => ⟨S1x386x1024, .f32⟩
  | .hbm, ⟨15, _⟩ => ⟨S1x386x1024, .f32⟩
  | .hbm, ⟨16, _⟩ => ⟨S_, .f32⟩
  | .hbm, ⟨17, _⟩ => ⟨S1x386x1024, .f32⟩
  | .hbm, ⟨18, _⟩ => ⟨S1x386x1024, .f32⟩
  | .hbm, ⟨19, _⟩ => ⟨S1x386x1024, .f32⟩
  | .hbm, ⟨20, _⟩ => ⟨S_, .f32⟩
  | .hbm, ⟨21, _⟩ => ⟨S1x386x1024, .f32⟩
  | .hbm, ⟨22, _⟩ => ⟨S1x386x1024, .f32⟩
  | .hbm, ⟨23, _⟩ => ⟨S1x386x1024, .f32⟩
  | .hbm, ⟨24, _⟩ => ⟨S_, .f32⟩
  | .hbm, ⟨25, _⟩ => ⟨S1x386x1024, .f32⟩
  | .hbm, ⟨26, _⟩ => ⟨S1x386x1024, .f32⟩
  | .hbm, ⟨27, _⟩ => ⟨S_, .f32⟩
  | .hbm, ⟨28, _⟩ => ⟨S1x386x1024, .f32⟩
  | .hbm, ⟨29, _⟩ => ⟨S1x386x1024, .f32⟩
  | .hbm, ⟨30, _⟩ => ⟨S1x386x1024, .f32⟩
  | .hbm, ⟨31, _⟩ => ⟨S_, .f32⟩
  | .hbm, ⟨32, _⟩ => ⟨S1x386x1024, .f32⟩
  | .hbm, ⟨33, _⟩ => ⟨S1x386x1024, .f32⟩
  | .hbm, ⟨34, _⟩ => ⟨S1x386x1024, .f32⟩
  | .hbm, ⟨35, _⟩ => ⟨S_, .f32⟩
  | .hbm, ⟨36, _⟩ => ⟨S1x386x1024, .f32⟩
  | .hbm, ⟨37, _⟩ => ⟨S1x386x1024, .f32⟩
  | .hbm, ⟨38, _⟩ => ⟨S1x386x1024, .f32⟩
  | .hbm, ⟨39, _⟩ => ⟨S_, .f32⟩
  | .hbm, ⟨40, _⟩ => ⟨S1x386x1024, .f32⟩
  | .hbm, ⟨41, _⟩ => ⟨S1x386x1024, .f32⟩
  | _, _ => ⟨S8x400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== BiaKernel.lean ====
abbrev S3x8x128x384 : Shape := ⟨4, ![3, 8, 128, 384]⟩
abbrev S3x128x384 : Shape := ⟨3, ![3, 128, 384]⟩
abbrev S32x128 : Shape := ⟨2, ![32, 128]⟩
abbrev S1x128 : Shape := ⟨2, ![1, 128]⟩
abbrev S1x128x384 : Shape := ⟨3, ![1, 128, 384]⟩
abbrev S128x384 : Shape := ⟨2, ![128, 384]⟩
abbrev S1x1x128x384 : Shape := ⟨4, ![1, 1, 128, 384]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S3x8x128x384, .f32⟩
  | .hbm, ⟨1, _⟩ => ⟨S3x128x384, .i32⟩
  | .hbm, ⟨2, _⟩ => ⟨S32x128, .f32⟩
  | .local _ .vmem, ⟨0, _⟩ => ⟨S3x8x128x384, .f32⟩
  | .local _ .vmem, ⟨1, _⟩ => ⟨S3x128x384, .i32⟩
  | .local _ .vmem, ⟨2, _⟩ => ⟨S32x128, .f32⟩
  | _, _ => ⟨S3x8x128x384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3x8x128x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiaReferenceIdeal.lean ====
abbrev S3x8x128x384 : Shape := ⟨4, ![3, 8, 128, 384]⟩
abbrev S3x128x384 : Shape := ⟨3, ![3, 128, 384]⟩
abbrev S384x384 : Shape := ⟨2, ![384, 384]⟩
abbrev S384x384x1 : Shape := ⟨3, ![384, 384, 1]⟩
abbrev S32 : Shape := ⟨1, ![32]⟩
abbrev S1x1x32 : Shape := ⟨3, ![1, 1, 32]⟩
abbrev S384x384x32 : Shape := ⟨3, ![384, 384, 32]⟩
abbrev S_ : Shape := ⟨0, ![]⟩
abbrev S32x8 : Shape := ⟨2, ![32, 8]⟩
abbrev S384x384x8 : Shape := ⟨3, ![384, 384, 8]⟩
abbrev S3x128x384x8 : Shape := ⟨4, ![3, 128, 384, 8]⟩
abbrev S8x32 : Shape := ⟨2, ![8, 32]⟩
abbrev S32x128 : Shape := ⟨2, ![32, 128]⟩

abbrev nBuf : Space → Nat
  | .hbm => 22
  | .vmem => 0
  | .smem => 0
  | _ => 0

abbrev bufTy : (tb : Table) → Fin (tcTables nBuf tb) → BufTy
  | .hbm, ⟨0, _⟩ => ⟨S3x8x128x384, .f32⟩
  | .hbm, ⟨1, _⟩ => ⟨S3x128x384, .i32⟩
  | .hbm, ⟨2, _⟩ => ⟨S384x384, .i32⟩
  | .hbm, ⟨3, _⟩ => ⟨S384x384x1, .i32⟩
  | .hbm, ⟨4, _⟩ => ⟨S32, .i32⟩
  | .hbm, ⟨5, _⟩ => ⟨S1x1x32, .i32⟩
  | .hbm, ⟨6, _⟩ => ⟨S384x384x32, .i32⟩
  | .hbm, ⟨7, _⟩ => ⟨S384x384x32, .i32⟩
  | .hbm, ⟨8, _⟩ => ⟨S384x384x32, .i1⟩
  | .hbm, ⟨9, _⟩ => ⟨S384x384x32, .f32⟩
  | .hbm, ⟨10, _⟩ => ⟨S_, .f32⟩
  | .hbm, ⟨11, _⟩ => ⟨S32x8, .f32⟩
  | .hbm, ⟨12, _⟩ => ⟨S384x384x8, .f32⟩
  | .hbm, ⟨13, _⟩ => ⟨S3x128x384x8, .f32⟩
  | .hbm, ⟨14, _⟩ => ⟨S3x8x128x384, .f32⟩
  | .hbm, ⟨15, _⟩ => ⟨S3x128x384x8, .f32⟩
  | .hbm, ⟨16, _⟩ => ⟨S384x384x8, .f32⟩
  | .hbm, ⟨17, _⟩ => ⟨S8x32, .f32⟩
  | .hbm, ⟨18, _⟩ => ⟨S32x8, .f32⟩
  | .hbm, ⟨19, _⟩ => ⟨S_, .i32⟩
  | .hbm, ⟨20, _⟩ => ⟨S_, .f32⟩
  | .hbm, ⟨21, _⟩ => ⟨S32x128, .f32⟩
  | _, _ => ⟨S3x8x128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== BifKernel.lean ====
abbrev S32x8 : Shape := ⟨2, ![32, 8]⟩
abbrev S3x128x384 : Shape := ⟨3, ![3, 128, 384]⟩
abbrev S3x8x128x384 : Shape := ⟨4, ![3, 8, 128, 384]⟩
abbrev S1x128x384 : Shape := ⟨3, ![1, 128, 384]⟩
abbrev S128x384 : Shape := ⟨2, ![128, 384]⟩
abbrev S1x1 : Shape := ⟨2, ![1, 1]⟩
abbrev S1x1x128x384 : Shape := ⟨4, ![1, 1, 128, 384]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S3x128x384, .i32⟩
  | .hbm, ⟨2, _⟩ => ⟨S3x8x128x384, .f32⟩
  | .local _ .vmem, ⟨0, _⟩ => ⟨S3x128x384, .i32⟩
  | .local _ .vmem, ⟨1, _⟩ => ⟨S3x8x128x384, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BifReferenceIdeal.lean ====
abbrev S32x8 : Shape := ⟨2, ![32, 8]⟩
abbrev S3x128x384 : Shape := ⟨3, ![3, 128, 384]⟩
abbrev S384x384 : Shape := ⟨2, ![384, 384]⟩
abbrev S384x384x1 : Shape := ⟨3, ![384, 384, 1]⟩
abbrev S32 : Shape := ⟨1, ![32]⟩
abbrev S1x1x32 : Shape := ⟨3, ![1, 1, 32]⟩
abbrev S384x384x32 : Shape := ⟨3, ![384, 384, 32]⟩
abbrev S384x384x8 : Shape := ⟨3, ![384, 384, 8]⟩
abbrev S3x128x384x8 : Shape := ⟨4, ![3, 128, 384, 8]⟩
abbrev S3x8x128x384 : Shape := ⟨4, ![3, 8, 128, 384]⟩

abbrev nBuf : Space → Nat
  | .hbm => 13
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S3x128x384, .i32⟩
  | .hbm, ⟨2, _⟩ => ⟨S384x384, .i32⟩
  | .hbm, ⟨3, _⟩ => ⟨S384x384x1, .i32⟩
  | .hbm, ⟨4, _⟩ => ⟨S32, .i32⟩
  | .hbm, ⟨5, _⟩ => ⟨S1x1x32, .i32⟩
  | .hbm, ⟨6, _⟩ => ⟨S384x384x32, .i32⟩
  | .hbm, ⟨7, _⟩ => ⟨S384x384x32, .i32⟩
  | .hbm, ⟨8, _⟩ => ⟨S384x384x32, .i1⟩
  | .hbm, ⟨9, _⟩ => ⟨S384x384x32, .f32⟩
  | .hbm, ⟨10, _⟩ => ⟨S384x384x8, .f32⟩
  | .hbm, ⟨11, _⟩ => ⟨S3x128x384x8, .f32⟩
  | .hbm, ⟨12, _⟩ => ⟨S3x8x128x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.Numbers.lean ====
/-
  Facts about numbers the value proofs share: what the float literals of the programs are as extended reals, and how a
  finite nonnegative factor goes through a finite sum of extended reals.
-/
module

public import Idealize.ShloMosaic.PureOps.Ideal.Laws
public import Idealize.ShloMosaic.Lib.Pipeline.Value
public import Idealize.ShloMosaic.Lib.ValueIdx

@[expose] public section

noncomputable section

namespace Cert.Numbers

open Idealize.ShloMosaic

/-- Two zero offsets, as a constant function. -/
theorem zeros2 : (![0, 0] : Fin 2 → Nat) = fun _ => 0 := funext fun a => by fin_cases a <;> rfl

/-- A load of the whole of a buffer of rank two reads its contents. -/
theorem ld_all {Val : EltTy → Type} {e : EltTy} {m n : Nat} (X : (⟨2, ![m, n]⟩ : Shape).Idx → Val e)
    (h : ∀ a, (![0, 0] : Fin 2 → Nat) a + (![m, n] : Fin 2 → Nat) a ≤ (⟨2, ![m, n]⟩ : Shape).size a) :
    View.ld X (Rect.unit (s := (⟨2, ![m, n]⟩ : Shape)) ![0, 0] ![m, n] h) = X :=
  View.ld_unit_zero (S := ⟨2, ![m, n]⟩) zeros2 h X

/-- Two indices of a buffer of rank two with the same coordinates are the same. -/
theorem at2 {m n : Nat} {i j : (⟨2, ![m, n]⟩ : Shape).Idx} (h0 : (i 0).val = (j 0).val) (h1 : (i 1).val = (j 1).val) : i = j :=
  funext fun a => Fin.ext (match a with | ⟨0, _⟩ => h0 | ⟨1, _⟩ => h1)

/-- The place of entry `k` of block `v`, and of the first block. -/
theorem at_block {w v n k : Nat} (h : w = v) : w * n + 1 * k = v * n + k := by rw [h, Nat.one_mul]
theorem at_row {w n b : Nat} (h : w = n / b) : n = w * b + 1 * (n % b) := by rw [h, Nat.one_mul]; exact (Nat.div_add_mod' n b).symm
theorem at_first {w n k : Nat} (h : w = 0) : w * n + 1 * k = k := by rw [h, Nat.zero_mul, Nat.one_mul, Nat.zero_add]

/-- The f32 zero word is the number 0. -/
theorem f32_zero : (Ideal.ofBits .f32 0x00000000#32 : EReal) = 0 := by
  simp [Ideal.ofBits, Ideal.ieee]

/-- The f32 word 0x3A800000 is 1/1024. -/
theorem f32_inv1024 : (Ideal.ofBits .f32 0x3A800000#32 : EReal) = (((1 : ℝ) / 1024 : ℝ) : EReal) := by
  simp [Ideal.ofBits, Ideal.ieee, -EReal.coe_mul]; norm_num

/-- The f32 word 0x44800000 is 1024. -/
theorem f32_1024 : (Ideal.ofBits .f32 0x44800000#32 : EReal) = ((1024 : ℝ) : EReal) := by
  simp [Ideal.ofBits, Ideal.ieee, -EReal.coe_mul]; norm_num

/-- The f32 word 0x3F000000 is 1/2. -/
theorem f32_half : (Ideal.ofBits .f32 0x3F000000#32 : EReal) = (((1 : ℝ) / 2 : ℝ) : EReal) := by
  simp [Ideal.ofBits, Ideal.ieee, -EReal.coe_mul]; norm_num

/-- The f32 word 0x3F800000 is 1. -/
theorem f32_one : (Ideal.ofBits .f32 0x3F800000#32 : EReal) = ((1 : ℝ) : EReal) := by
  simp [Ideal.ofBits, Ideal.ieee, -EReal.coe_mul]; norm_num

/-- The f32 word 0x40000000 is 2. -/
theorem f32_two : (Ideal.ofBits .f32 0x40000000#32 : EReal) = ((2 : ℝ) : EReal) := by
  simp [Ideal.ofBits, Ideal.ieee, -EReal.coe_mul]; norm_num

/-- The f32 word 0xBF000000 is -1/2. -/
theorem f32_neg_half : (Ideal.ofBits .f32 0xBF000000#32 : EReal) = ((-(1 / 2) : ℝ) : EReal) := by
  simp [Ideal.ofBits, Ideal.ieee, -EReal.coe_mul]; norm_num

/-- The bf16 word 0x3F00 is 1/2. -/
theorem bf16_half : (Ideal.ofBits .bf16 0x3F00#16 : EReal) = (((1 : ℝ) / 2 : ℝ) : EReal) := by
  simp [Ideal.ofBits, Ideal.ieee, -EReal.coe_mul]; norm_num

/-- The f32 word 0x7F800000 is the infinity. -/
theorem f32_inf : (Ideal.ofBits .f32 0x7F800000#32 : EReal) = ⊤ := by
  simp [Ideal.ofBits, Ideal.ieee]

/-- The f32 word 0x358637BD, the number added under the root of the norm, is a positive real. -/
theorem f32_eps : ∃ e : ℝ, 0 < e ∧ (Ideal.ofBits .f32 0x358637BD#32 : EReal) = (e : EReal) := by
  refine ⟨_, ?_, by simp [Ideal.ofBits, Ideal.ieee, -EReal.coe_mul]; rfl⟩
  norm_num

/-- A finite nonnegative factor goes through a finite sum of extended reals, infinite terms of both signs included. -/
theorem coe_mul_sum {ι : Type} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Cert.Numbers

end
-- ==== Proof.LossKernelValue.lean ====
/-
  What the loss kernel computes, at any float values: each grid point's block of dh, and the loss cell as a fold over the
  grid points.
-/
module

public import proofs.«01_k».proof.Proof.Numbers
public import proofs.«01_k».proof.Proof.Gen.LossKernelIdeal.Value

@[expose] public section

noncomputable section

namespace Cert.LossKernelIdeal.Value

open Cert.LossKernelIdeal Cert.LossKernelIdeal.Gen Idealize.ShloMosaic Idealize.ShloMosaic.TcCoe Idealize.SL.Sem
open Cert.Numbers

variable {F : FTy → Type} [FloatOps F]
variable (m : (ℓ : Loc nD τ sig) → Buf (Elt F) ℓ) (ρ : Dev nD → PrngReg)

section cases
variable (c : Dev nD) (i : grid0.Coords) (a1 : Memref sig .tc .vmem S128x1024 .f32) (h1 : a1.IsWhole)
  (a2 : Memref sig .tc .vmem S128x1024 .f32) (h2 : a2.IsWhole) (a3 : Memref sig .tc .vmem S128x1024 .f32) (h3 : a3.IsWhole)
  (a4 : Memref sig .tc .vmem S1x1 .f32) (h4 : a4.IsWhole) (x0 x1 : Vec F S128x1024 .f32) (xo : Vec F S1x1 .f32)

/-- The first point stores zeros into its block of dh. -/
theorem outA_dh (hc0 : cond0_0 i) (hc1 : ¬cond0_1 i) :
    out0_A_2 c i a1 h1 a2 h2 a3 h3 a4 h4 hc0 hc1 x0 x1 = k0_pay2 := by
  unfold out0_A_2
  rw [View.read_writes_eq_canon _ _ _ fun _ => cover0_A_2 ..]
  unfold kernelRun0_A; dsimp only; sl_unfold_words
  rw [View.canon_unit_zero zeros2]

/-- The first point stores zero into the loss cell. -/
theorem outA_loss (hc0 : cond0_0 i) (hc1 : ¬cond0_1 i) :
    out0_A_3 c i a1 h1 a2 h2 a3 h3 a4 h4 hc0 hc1 x0 x1 = k0_pay1 := by
  unfold out0_A_3
  rw [View.read_writes_eq_canon _ _ _ fun _ => cover0_A_3 ..]
  unfold kernelRun0_A; dsimp only; sl_unfold_words
  rw [View.canon_unit_zero zeros2]

/-- A later point stores the scaled difference of its two blocks into its block of dh. -/
theorem outB_dh (hc0 : ¬cond0_0 i) (hc1 : cond0_1 i) :
    out0_B_2 c i a1 h1 a2 h2 a3 h3 a4 h4 hc0 hc1 x0 x1 xo = k0_pay4 x0 x1 := by
  unfold out0_B_2
  rw [View.read_writes_eq_canon _ _ _ fun _ => cover0_B_2 ..]
  unfold kernelRun0_B; dsimp only; sl_unfold_words
  rw [View.canon_unit_zero zeros2]
  simp only [View.readAt_eq_ld, Memref.IsWhole.read_unread, ld_all]

/-- A later point adds its block's half sum of squares, scaled, to the loss cell. -/
theorem outB_loss (hc0 : ¬cond0_0 i) (hc1 : cond0_1 i) :
    out0_B_3 c i a1 h1 a2 h2 a3 h3 a4 h4 hc0 hc1 x0 x1 xo = k0_pay5 x0 x1 xo := by
  unfold out0_B_3
  rw [View.read_writes_eq_canon _ _ _ fun _ => cover0_B_3 ..]
  unfold kernelRun0_B; dsimp only; sl_unfold_words
  rw [View.canon_unit_zero zeros2]
  simp only [View.readAt_eq_ld, Memref.IsWhole.read_unread,
    ld_all]

end cases

/-- The block indices of the four windows at a point. -/
theorem index_facts : ∀ t : Fin cfg0.N, win0_0.index t 0 = t.val ∧ win0_0.index t 1 = 0 ∧
    win0_1.index t 0 = t.val - 1 ∧ win0_1.index t 1 = 0 ∧ win0_2.index t 0 = t.val ∧ win0_2.index t 1 = 0 ∧
    win0_3.index t 0 = 0 ∧ win0_3.index t 1 = 0 :=
  (by decide +kernel : ∀ t : Fin grid0.N, _)

/-- Row `y` of block `t` of an array of 4224 rows. -/
def rowAt (t : Fin cfg0.N) (y : S128x1024.Idx) : S4224x1024.Idx := fun a => match a with
  | ⟨0, _⟩ => ⟨t.val * 128 + (y 0).val, by
      have h : (y 0).val < 128 := (y 0).isLt
      have ht : t.val < 33 := t.isLt
      show _ < 4224; omega⟩
  | ⟨1, _⟩ => ⟨(y 1).val, (y 1).isLt⟩

/-- The block of the padded `h` a point reads. -/
theorem block_h (c : Dev nD) (t : Fin cfg0.N) (y : S128x1024.Idx) :
    (iblk m c 0 t : Vec F S128x1024 .f32) y = V m c main_v1 (rowAt t y) := by
  have hi := index_facts t
  unfold iblk
  rw [View.read_apply]
  show V m c main_v1 _ = V m c main_v1 _
  congr 1
  exact at2 (by show win0_0.index t 0 * 128 + 1 * (y 0).val = t.val * 128 + (y 0).val; rw [hi.1]; omega) (by show win0_0.index t 1 * 1024 + 1 * (y 1).val = (y 1).val; rw [hi.2.1]; omega)

/-- Row `y` of block `t - 1` of an array of 4096 rows. -/
def rowBefore (t : Fin cfg0.N) (y : S128x1024.Idx) : S4096x1024.Idx := fun a => match a with
  | ⟨0, _⟩ => ⟨(t.val - 1) * 128 + (y 0).val, by
      have h : (y 0).val < 128 := (y 0).isLt
      have ht : t.val < 33 := t.isLt
      show _ < 4096; omega⟩
  | ⟨1, _⟩ => ⟨(y 1).val, (y 1).isLt⟩

/-- The block of the target a point reads. -/
theorem block_target (c : Dev nD) (t : Fin cfg0.N) (y : S128x1024.Idx) :
    (iblk m c 1 t : Vec F S128x1024 .f32) y = m ((c.tc : Thread nD τ).loc main_arg1) (rowBefore t y) := by
  have hi := index_facts t
  unfold iblk
  rw [View.read_apply]
  show V m c main_arg1 _ = _
  rw [V_main_arg1]
  congr 1
  exact at2 (by show win0_1.index t 0 * 128 + 1 * (y 0).val = (t.val - 1) * 128 + (y 0).val; rw [hi.2.2.1]; omega) (by show win0_1.index t 1 * 1024 + 1 * (y 1).val = (y 1).val; rw [hi.2.2.2.1]; omega)

/-- What point `t` leaves in its block of dh. -/
def dhBlock (c : Dev nD) (t : Fin cfg0.N) : Vec F S128x1024 .f32 :=
  if t.val = 0 then k0_pay2 else k0_pay4 (iblk m c 0 t) (iblk m c 1 t)

/-- The loss cell after point `n`. -/
def lossAt (c : Dev nD) : (n : ℕ) → n < cfg0.N → Vec F S1x1 .f32
  | 0, _ => k0_pay1
  | n + 1, h => k0_pay5 (iblk m c 0 ⟨n + 1, h⟩) (iblk m c 1 ⟨n + 1, h⟩) (lossAt c n (Nat.lt_of_succ_lt h))

/-- Both outputs after each point. -/
theorem outsAt_eq (c : Dev nD) : ∀ (n : ℕ) (h : n < cfg0.N), outsAt0 m c n h = (dhBlock m c ⟨n, h⟩, lossAt m c n h)
  | 0, h => by
    rw [outsAt0_A m c ⟨0, h⟩ rfl (by simp), outA_dh, outA_loss]
    rfl
  | n + 1, h => by
    have hN : n + 1 < 33 := h
    rw [outsAt0_B m c ⟨n + 1, h⟩ (by dsimp only; omega) (by dsimp only; omega), outB_dh, outB_loss]
    show (_, k0_pay5 _ _ (outsAt0 m c n _).2) = _
    rw [outsAt_eq c n]
    rfl

/-- The dh array, block by block. -/
theorem dh_at (c : Dev nD) (t : Fin cfg0.N) (y : S128x1024.Idx) :
    (dats m 0 c).arrAt 2 cfg0.N (rowAt t y) = dhBlock m c t y := by
  have hi := index_facts t
  have h := congrFun (blocks2 m c t (flush0_2 t)) y
  rw [flushed2, outsAt_eq, View.read_apply] at h
  refine Eq.trans (congrArg _ ?_) h
  exact at2 (by show t.val * 128 + (y 0).val = win0_2.index t 0 * 128 + 1 * (y 0).val; rw [hi.2.2.2.2.1]; omega) (by show (y 1).val = win0_2.index t 1 * 1024 + 1 * (y 1).val; rw [hi.2.2.2.2.2.1]; omega)

/-- The last point. -/
abbrev last : Fin cfg0.N := ⟨32, by show 32 < 33; decide⟩

/-- The loss array is the cell after the last point. -/
theorem loss_eq (c : Dev nD) : (dats m 0 c).arrAt 3 cfg0.N = lossAt m c 32 last.isLt :=
  (dats m 0 c).arrAt_eq_of_cover 3 (lossAt m c 32 last.isLt)
    (fun t hf => by
      have h3 := (flush0_3 t).mp hf
      have ht : t.val < 33 := t.isLt
      obtain rfl : t = last := Fin.ext (by show t.val = 32; omega)
      rw [flushed3, outsAt_eq]
      funext y
      rw [View.read_apply]
      show lossAt m c 32 _ y = lossAt m c 32 _ _
      congr 1
      exact @Subsingleton.elim _ ⟨fun p q => funext fun a => Fin.ext (by
        have hp := (p a).isLt; have hq := (q a).isLt
        match a with
        | ⟨0, _⟩ => have : (p 0).val < 1 := hp; have : (q 0).val < 1 := hq; show (p 0).val = (q 0).val; omega
        | ⟨1, _⟩ => have : (p 1).val < 1 := hp; have : (q 1).val < 1 := hq; show (p 1).val = (q 1).val; omega)⟩ _ _)
    fun i => ⟨last, (flush0_3 last).mpr rfl, by
      show i ∈ ((View.whole main_v2_1).slice (win0_3.rect last)).set
      rw [View.set_slice_whole, Rect.mem_set_unit]
      intro a
      have h0 : (i 0 : Nat) < 1 := (i 0).isLt
      have h1 : (i 1 : Nat) < 1 := (i 1).isLt
      match a with
      | ⟨0, _⟩ => show win0_3.index last 0 * 1 ≤ (i 0 : Nat) ∧ (i 0 : Nat) < win0_3.index last 0 * 1 + 1
                  rw [(index_facts last).2.2.2.2.2.2.1]; omega
      | ⟨1, _⟩ => show win0_3.index last 1 * 1 ≤ (i 1 : Nat) ∧ (i 1 : Nat) < win0_3.index last 1 * 1 + 1
                  rw [(index_facts last).2.2.2.2.2.2.2]; omega⟩

/-- The padded `h` at region entry: 112 rows of zeros, then `h`. -/
theorem padded_h (c : Dev nD) : V m c main_v1 = concatenate S4224x1024 0
    [⟨S112x1024, broadcastInDim S112x1024 ![] bcast_S_S112x1024 (constant S_ .f32 0x00000000#32)⟩,
      ⟨S4112x1024, m ((c.tc : Thread nD τ).loc main_arg0)⟩] concatenates_S112x1024_S4112x1024_S4224x1024_d0 := by
  dsimp only [V, hostOps0]
  after_results

end Cert.LossKernelIdeal.Value

end
-- ==== Proof.LossValue.lean ====
/-
  The loss kernel and its reference compute the same two arrays over the extended reals.
-/
module

public import proofs.«01_k».proof.Proof.LossKernelValue
public import proofs.«01_k».proof.Proof.Gen.LossReferenceIdeal.Read
public import Idealize.ShloMosaic.Lib.Pointwise
public import Idealize.ShloMosaic.Lib.Pipeline.ValueKit.Acc

@[expose] public section

noncomputable section

namespace Cert.LossValue

open Cert.LossKernelIdeal Cert.LossKernelIdeal.Gen Cert.LossKernelIdeal.Value Cert.LossReferenceIdeal.Read
open Idealize.ShloMosaic Idealize.ShloMosaic.TcCoe Idealize.SL.Sem
open Cert.Numbers

/-- A block of dh after the first: the difference over 1024. -/
theorem pay4_at (x y : Vec Ideal S128x1024 .f32) (i : S128x1024.Idx) :
    k0_pay4 x y i = (x i - y i) * (((1 : ℝ) / 1024 : ℝ) : EReal) := by
  pointwise [k0_pay4, k0_pay3]
  rw [f32_inv1024]

/-- A point's addition to the loss cell. -/
theorem pay5_at (x y : Vec Ideal S128x1024 .f32) (a : Vec Ideal S1x1 .f32) (i : S1x1.Idx) :
    k0_pay5 x y a i = a i + (((1 : ℝ) / 2048 : ℝ) : EReal) *
      ∑ r : Fin 128, ∑ k : Fin 1024, (x (ix2 r k) - y (ix2 r k)) * (x (ix2 r k) - y (ix2 r k)) := by
  pointwise [k0_pay5, k0_pay3]
  rw [f32_inv1024, f32_half, mul_right_comm, ← EReal.coe_mul]
  norm_num

section reference
variable (h : Vec Ideal S4112x1024 .f32) (t : Vec Ideal S4096x1024 .f32)

/-- The difference of the output row and the target row. -/
def err (r : Fin 4096) (k : Fin 1024) : EReal := h (ix2 ⟨16 + r.val, by omega⟩ k) - t (ix2 r k)

/-- The reference's gradient row by row. -/
theorem ref_row (r : Fin 4096) (k : Fin 1024) :
    val_main_v15 (F := Ideal) h t (ix2 r k) = err h t r k * (((1 : ℝ) / 1024 : ℝ) : EReal) := by
  pointwise [val_main_v15, val_main_v14, val_main_v13, val_main_v12, val_main_v11, val_main_v10, val_main_v4, val_main_v3,
    val_main_v1, val_main_v0, val_main_cst, val_main_cst_4, val_main_cst_5, val_main_cst_6, err]
  rw [f32_half, f32_1024, f32_two, Ideal.div_coe (by norm_num), ← mul_assoc, ← EReal.coe_mul, ← EReal.coe_mul, mul_comm]
  norm_num

/-- The reference's dh at an index. -/
theorem ref_dh (i : S4224x1024.Idx) :
    val_main_v18 (F := Ideal) h t i = if hr : (i 0).val < 128 then 0
      else err h t ⟨(i 0).val - 128, by have := (i 0).isLt; have : (i 0).val < 4224 := this; omega⟩ (i 1)
        * (((1 : ℝ) / 1024 : ℝ) : EReal) := by
  have hi : (i 0).val < 4224 := (i 0).isLt
  pointwise [val_main_v18, val_main_v17, val_main_v16, val_main_cst_7, val_main_cst_8]
  by_cases h1 : (i 0).val < 112
  · rw [dif_pos h1, dif_pos (by omega)]
  · rw [dif_neg h1]
    by_cases h2 : (i 0).val < 128
    · rw [dif_neg (by omega), dif_pos h2]
    · rw [dif_pos ⟨by omega, by omega⟩, dif_neg h2]
      refine (ref_row h t ⟨(i 0).val - 112 - 16, by omega⟩ (i 1)).trans ?_
      have e : (i 0).val - 112 - 16 = (i 0).val - 128 := by omega
      simp only [e]

/-- The reference's loss. -/
theorem ref_loss (i : S1x1.Idx) :
    val_main_v19 (F := Ideal) h t i = (((1 : ℝ) / 2048 : ℝ) : EReal) *
      ∑ r : Fin 4096, ∑ k : Fin 1024, err h t r k * err h t r k := by
  pointwise [val_main_v19, val_main_v9, val_main_v8, val_main_v7, val_main_v6, val_main_v5, val_main_v2, val_main_v1,
    val_main_v0, val_main_cst_0, val_main_cst_1, val_main_cst_2, val_main_cst_3, err]
  rw [f32_half, f32_1024]
  simp only [Ideal.div_coe (y := 1024) (by norm_num), mul_comm _ (((1 : ℝ) / 1024 : ℝ) : EReal)]
  rw [← coe_mul_sum _ _ (by norm_num), ← mul_assoc, ← EReal.coe_mul]
  norm_num

end reference

section kernel
variable (m : (ℓ : Loc nD τ sig) → Buf (Elt Ideal) ℓ) (c : Dev nD)

/-- The padded `h` at a row that is in `h`. -/
theorem padded_row (r : Fin 4224) (k : Fin 1024) (hr : 112 ≤ r.val) :
    (V m c main_v1 : Vec Ideal S4224x1024 .f32) (ix2 r k)
      = (m ((c.tc : Thread nD τ).loc main_arg0) : Vec Ideal S4112x1024 .f32) (ix2 ⟨r.val - 112, by omega⟩ k) := by
  rw [padded_h]
  pointwise
  rw [dif_neg (by omega)]

/-- The output of the forward pass and the target, as the kernel's arguments. -/
abbrev hOf : Vec Ideal S4112x1024 .f32 := m ((c.tc : Thread nD τ).loc main_arg0)
abbrev tOf : Vec Ideal S4096x1024 .f32 := m ((c.tc : Thread nD τ).loc main_arg1)

/-- The two blocks a point reads. -/
abbrev hBlock (t : Fin cfg0.N) : Vec Ideal S128x1024 .f32 := iblk m c 0 t
abbrev tBlock (t : Fin cfg0.N) : Vec Ideal S128x1024 .f32 := iblk m c 1 t

/-- The difference a later point forms, as the difference of its rows. -/
theorem block_err (t : Fin cfg0.N) (ht : t.val ≠ 0) (r : Fin 128) (k : Fin 1024) (hr : (t.val - 1) * 128 + r.val < 4096) :
    hBlock m c t (ix2 r k) - tBlock m c t (ix2 r k) = err (hOf m c) (tOf m c) ⟨(t.val - 1) * 128 + r.val, hr⟩ k := by
  have ht' : t.val < 33 := t.isLt
  unfold hBlock tBlock
  rw [block_h, block_target]
  have e1 : rowAt t (ix2 r k) = ix2 (⟨t.val * 128 + r.val, by omega⟩ : Fin 4224) k := by
    funext a; match a with | ⟨0, _⟩ => rfl | ⟨1, _⟩ => rfl
  have e2 : rowBefore t (ix2 r k) = ix2 (⟨(t.val - 1) * 128 + r.val, hr⟩ : Fin 4096) k := by
    funext a; match a with | ⟨0, _⟩ => rfl | ⟨1, _⟩ => rfl
  rw [e1, e2, padded_row m c _ k (by dsimp only; omega)]
  unfold err
  congr 3
  exact Fin.ext (by dsimp only; omega)

/-- The dh array is the reference's. -/
theorem dh_eq : (Cert.LossKernelIdeal.Gen.dats m 0 c).arrAt 2 cfg0.N = val_main_v18 (F := Ideal) (hOf m c) (tOf m c) := by
  funext i
  have hi : (i 0).val < 4224 := (i 0).isLt
  have ht : (i 0).val / 128 < cfg0.N := by show _ < 33; omega
  have ei : i = rowAt ⟨(i 0).val / 128, ht⟩ (ix2 ⟨(i 0).val % 128, Nat.mod_lt _ (by decide)⟩ (i 1)) := by
    exact at2 (by show (i 0).val = (i 0).val / 128 * 128 + (i 0).val % 128; omega) rfl
  rw [ref_dh]
  conv_lhs => rw [ei]
  rw [dh_at]
  unfold dhBlock
  by_cases h : (i 0).val < 128
  · rw [dif_pos h, if_pos (by dsimp only; omega)]
    pointwise [k0_pay2]
  · have hr : ((i 0).val / 128 - 1) * 128 + (i 0).val % 128 = (i 0).val - 128 := by omega
    rw [dif_neg h, if_neg (by dsimp only; omega), pay4_at,
      block_err m c ⟨(i 0).val / 128, ht⟩ (by dsimp only; omega) ⟨(i 0).val % 128, Nat.mod_lt _ (by decide)⟩ (i 1)
        (by dsimp only; omega)]
    simp only [hr]

/-- The loss cell after point `n`: the first `n` blocks of 128 target rows. -/
theorem lossAt_sum : ∀ (n : ℕ) (hn : n < cfg0.N) (i : S1x1.Idx), lossAt m c n hn i = (((1 : ℝ) / 2048 : ℝ) : EReal) *
    ∑ s : Fin n, ∑ r : Fin 128, ∑ k : Fin 1024,
      err (hOf m c) (tOf m c) ⟨s.val * 128 + r.val, by have : n < 33 := hn; omega⟩ k
        * err (hOf m c) (tOf m c) ⟨s.val * 128 + r.val, by have : n < 33 := hn; omega⟩ k
  | 0, hn, i => by
    show k0_pay1 i = _
    pointwise [k0_pay1]
    simp
  | n + 1, hn, i => by
    have hn' : n + 1 < 33 := hn
    rw [Fin.sum_univ_castSucc, EReal.left_distrib_of_nonneg_of_ne_top (EReal.coe_nonneg.mpr (by norm_num)) (EReal.coe_ne_top _)]
    refine (pay5_at (hBlock m c ⟨n + 1, hn⟩) (tBlock m c ⟨n + 1, hn⟩) (lossAt m c n (Nat.lt_of_succ_lt hn)) i).trans ?_
    refine congrArg₂ (· + ·) (lossAt_sum n (Nat.lt_of_succ_lt hn) i) (congrArg _ ?_)
    refine Finset.sum_congr rfl fun r _ => Finset.sum_congr rfl fun k _ => ?_
    rw [block_err m c ⟨n + 1, hn⟩ (by dsimp only; omega) r k (by dsimp only; omega)]
    rfl

/-- The loss array is the reference's. -/
theorem loss_eq_ref : (Cert.LossKernelIdeal.Gen.dats m 0 c).arrAt 3 cfg0.N = val_main_v19 (F := Ideal) (hOf m c) (tOf m c) := by
  funext i
  rw [loss_eq, ref_loss, lossAt_sum]
  congr 1
  exact Fin.sum_mul_add_fin 32 128 (fun l : Fin 4096 => ∑ k : Fin 1024, err (hOf m c) (tOf m c) l k * err (hOf m c) (tOf m c) l k)

end kernel

end Cert.LossValue

end
-- ==== Proof.LossClaims.lean ====
/-
  The claims about the loss kernel and its reference.
-/
module

public import proofs.«01_k».proof.Defs
public import proofs.«01_k».proof.Proof.LossValue
public import proofs.«01_k».proof.Proof.Gen.LossKernel.Frame
public import proofs.«01_k».proof.Proof.Gen.LossReferenceIdeal.Run

@[expose] public section

noncomputable section

namespace Cert.LossClaims

open Idealize.ShloMosaic Idealize.ShloMosaic.TcCoe Idealize.SL.Sem

/-- The loss kernel runs without fault, keeps its arguments and leaves every counter at zero. -/
theorem frame_kernel : Cert.quiescent_LossKernel := fun m ρ _ => Cert.LossKernel.Gen.frame m ρ

/-- So does its ideal program. -/
theorem frame_ideal : Cert.quiescent_LossKernelIdeal := fun m ρ _ => Cert.LossKernelIdeal.Gen.frame m ρ

/-- So does the reference. -/
theorem frame_reference : Cert.quiescent_LossReferenceIdeal := fun m ρ _ =>
  (θ_run _ _ _).mono (fun r h => ⟨fun c => (h c).2.2, sem_eq_zero_of_no_sems (by decide) r.2⟩)
    (Cert.LossReferenceIdeal.Value.run m ρ)

/-- The kernel and the reference compute the same gradient and the same loss. -/
theorem algebraic : Cert.algebraic_LossKernelIdeal_LossReferenceIdeal := fun m g m' g' _ hargs =>
  ⟨fun c => (Cert.LossKernelIdeal.Gen.dats m 0 c).arrAt 2 Cert.LossKernelIdeal.cfg0.N,
   fun c => (Cert.LossKernelIdeal.Gen.dats m 0 c).arrAt 3 Cert.LossKernelIdeal.cfg0.N,
   Cert.LossKernelIdeal.Value.run_blocks m g,
   (θ_run _ _ _).mono (fun r h c => by
      obtain ⟨h0, h1, hk⟩ := h c
      refine ⟨h0.trans ?_, h1.trans ?_, hk⟩
      · rw [(hargs c).1, (hargs c).2]
        exact (Cert.LossReferenceIdeal.Read.val_main_v18_eq _ _).trans (Cert.LossValue.dh_eq m c).symm
      · rw [(hargs c).1, (hargs c).2]
        exact (Cert.LossReferenceIdeal.Read.val_main_v19_eq _ _).trans (Cert.LossValue.loss_eq_ref m c).symm)
    (Cert.LossReferenceIdeal.Value.run m' g')⟩

end Cert.LossClaims

end
-- ==== Proof.Rows.lean ====
/-
  Buffers stored and loaded by whole rows: what a buffer of rank two holds at an index after a store of some of its rows, and
  what a load of some of its rows reads.
-/
module

public import Idealize.ShloMosaic.Lib.Pointwise

@[expose] public section

noncomputable section

namespace Cert.Rows

open Idealize.ShloMosaic

variable {Val : EltTy → Type} {e : EltTy} {m n k : Nat}

/-- After a store of rows `o … o + k - 1` the buffer holds the payload there and the earlier stores elsewhere. -/
theorem canon_rows_cons [∀ e, Nonempty (Val e)] (o : Nat)
    (inb : ∀ a, (![o, 0] : Fin 2 → Nat) a + (⟨2, ![k, n]⟩ : Shape).size a ≤ (⟨2, ![m, n]⟩ : Shape).size a)
    (w : (⟨2, ![k, n]⟩ : Shape).Idx → Val e) (L : List (View.Piece Val (⟨2, ![m, n]⟩ : Shape) e)) (r : Fin m) (c : Fin n) :
    View.canon ((⟨Rect.unit (s := (⟨2, ![m, n]⟩ : Shape)) ![o, 0] (⟨2, ![k, n]⟩ : Shape).size inb, w⟩ :
        View.Piece Val (⟨2, ![m, n]⟩ : Shape) e) :: L) (ix2 r c)
      = if h : o ≤ r.val ∧ r.val < o + k then w (ix2 ⟨r.val - o, by omega⟩ c) else View.canon L (ix2 r c) := by
  split
  · rename_i h
    refine Eq.trans (congrArg _ ?_) (View.canon_cons_emb (Rect.unit (s := (⟨2, ![m, n]⟩ : Shape)) ![o, 0]
      (⟨2, ![k, n]⟩ : Shape).size inb) w L (ix2 ⟨r.val - o, by omega⟩ c))
    funext a
    apply Fin.ext
    match a with
    | ⟨0, _⟩ => show r.val = o + 1 * (r.val - o); omega
    | ⟨1, _⟩ => show c.val = 0 + 1 * c.val; omega
  · rename_i h
    refine View.canon_cons_of_not_mem _ L fun hm => h ?_
    have h0 := (Rect.mem_set_unit (inb := inb) |>.mp hm) 0
    exact ⟨h0.1, h0.2⟩

/-- Rows `64 j … 64 j + 63` lie in a buffer of 384 rows. -/
theorem six_inb (j : Fin 6) : ∀ a, (![64 * j.val, 0] : Fin 2 → Nat) a + (⟨2, ![64, n]⟩ : Shape).size a ≤ (⟨2, ![384, n]⟩ : Shape).size a
  | ⟨0, _⟩ => by show 64 * j.val + 64 ≤ 384; omega
  | ⟨1, _⟩ => by show 0 + n ≤ n; omega

/-- The stores of six chunks of 64 rows into a buffer of 384 rows, the last first. -/
def six (y : Fin 6 → (⟨2, ![64, n]⟩ : Shape).Idx → Val e) : List (View.Piece Val (⟨2, ![384, n]⟩ : Shape) e) :=
  [5, 4, 3, 2, 1, 0].map fun j : Fin 6 =>
    ⟨Rect.unit (s := (⟨2, ![384, n]⟩ : Shape)) ![64 * j.val, 0] (⟨2, ![64, n]⟩ : Shape).size (six_inb j), y j⟩

/-- Six stores of 64 rows, one after the other, fill a buffer of 384 rows: row `64 k + r` is row `r` of store `k`. -/
theorem canon_six [∀ e, Nonempty (Val e)] (y : Fin 6 → (⟨2, ![64, n]⟩ : Shape).Idx → Val e)
    (k : Fin 6) (r : Fin 64) (c : Fin n) (h : 64 * k.val + r.val < 384) :
    View.canon (six y) (ix2 ⟨64 * k.val + r.val, h⟩ c) = y k (ix2 r c) := by
  have hit (j : Fin 6) (L) (hj : j = k ∨ View.canon L (ix2 (⟨64 * k.val + r.val, h⟩ : Fin 384) c) = y k (ix2 r c)) :
      View.canon ((⟨Rect.unit (s := (⟨2, ![384, n]⟩ : Shape)) ![64 * j.val, 0] (⟨2, ![64, n]⟩ : Shape).size (six_inb j), y j⟩ :
        View.Piece Val (⟨2, ![384, n]⟩ : Shape) e) :: L) (ix2 ⟨64 * k.val + r.val, h⟩ c) = y k (ix2 r c) := by
    refine (canon_rows_cons (64 * j.val) _ _ _ _ _).trans ?_
    split
    · rename_i b
      obtain rfl : j = k := Fin.ext (by dsimp only at b; omega)
      exact congrArg (fun a => y j (ix2 a c)) (Fin.ext (by dsimp only; omega))
    · rename_i b
      exact hj.resolve_left fun g => b (by subst g; dsimp only; omega)
  have hk : 5 = k ∨ 4 = k ∨ 3 = k ∨ 2 = k ∨ 1 = k ∨ 0 = k := by omega
  exact hit 5 _ (hk.imp_right fun hk => hit 4 _ (hk.imp_right fun hk => hit 3 _ (hk.imp_right fun hk =>
    hit 2 _ (hk.imp_right fun hk => hit 1 _ (hk.imp_right fun hk => hit 0 _ (.inl hk))))))

/-- A load of rows `o … o + k - 1` reads those rows. -/
theorem ld_rows (x : (⟨2, ![m, n]⟩ : Shape).Idx → Val e) (o : Nat)
    (inb : ∀ a, (![o, 0] : Fin 2 → Nat) a + (⟨2, ![k, n]⟩ : Shape).size a ≤ (⟨2, ![m, n]⟩ : Shape).size a)
    (r : Fin k) (c : Fin n) (h : o + r.val < m) :
    View.ld x (Rect.unit (s := (⟨2, ![m, n]⟩ : Shape)) ![o, 0] (⟨2, ![k, n]⟩ : Shape).size inb) (ix2 r c)
      = x (ix2 ⟨o + r.val, h⟩ c) := by
  show x _ = x _
  congr 1
  funext a
  apply Fin.ext
  match a with
  | ⟨0, _⟩ => show o + 1 * r.val = o + r.val; omega
  | ⟨1, _⟩ => show 0 + 1 * c.val = c.val; omega

/-- A load of rows after stores reads what the stores left in those rows. -/
theorem readCov_rows [∀ e, Nonempty (Val e)] {sig : RefSig} {κ : Kind} {sp : Space} (v : View sig κ sp (⟨2, ![m, n]⟩ : Shape) e)
    (L : List (View.Piece Val (⟨2, ![m, n]⟩ : Shape) e)) (o : Nat)
    (inb : ∀ a, (![o, 0] : Fin 2 → Nat) a + (⟨2, ![k, n]⟩ : Shape).size a ≤ (⟨2, ![m, n]⟩ : Shape).size a)
    (r : Fin k) (c : Fin n) (h : o + r.val < m) :
    v.readCov L (Rect.unit (s := (⟨2, ![m, n]⟩ : Shape)) ![o, 0] (⟨2, ![k, n]⟩ : Shape).size inb).toLoadRect (ix2 r c)
      = View.canon L (ix2 ⟨o + r.val, h⟩ c) := by
  rw [View.readCov_eq_canon']
  exact ld_rows (View.canon L) o inb r c h

/-- After a store of columns `o … o + k - 1` the buffer holds the payload there and the earlier stores elsewhere. -/
theorem canon_cols_cons [∀ e, Nonempty (Val e)] (o : Nat)
    (inb : ∀ a, (![0, o] : Fin 2 → Nat) a + (⟨2, ![m, k]⟩ : Shape).size a ≤ (⟨2, ![m, n]⟩ : Shape).size a)
    (w : (⟨2, ![m, k]⟩ : Shape).Idx → Val e) (L : List (View.Piece Val (⟨2, ![m, n]⟩ : Shape) e)) (r : Fin m) (c : Fin n) :
    View.canon ((⟨Rect.unit (s := (⟨2, ![m, n]⟩ : Shape)) ![0, o] (⟨2, ![m, k]⟩ : Shape).size inb, w⟩ :
        View.Piece Val (⟨2, ![m, n]⟩ : Shape) e) :: L) (ix2 r c)
      = if h : o ≤ c.val ∧ c.val < o + k then w (ix2 r ⟨c.val - o, by omega⟩) else View.canon L (ix2 r c) := by
  split
  · rename_i h
    refine Eq.trans (congrArg _ ?_) (View.canon_cons_emb (Rect.unit (s := (⟨2, ![m, n]⟩ : Shape)) ![0, o]
      (⟨2, ![m, k]⟩ : Shape).size inb) w L (ix2 r ⟨c.val - o, by omega⟩))
    funext a
    apply Fin.ext
    match a with
    | ⟨0, _⟩ => show r.val = 0 + 1 * r.val; omega
    | ⟨1, _⟩ => show c.val = o + 1 * (c.val - o); omega
  · rename_i h
    refine View.canon_cons_of_not_mem _ L fun hm => h ?_
    have h0 := (Rect.mem_set_unit (inb := inb) |>.mp hm) 1
    exact ⟨h0.1, h0.2⟩

end Cert.Rows

end
-- ==== Proof.ConvKernelValue.lean ====
/-
  What one grid point of the gradient of the causal convolution computes over the extended reals: its block of dx, and what it
  adds to its block of dw, row by row.
-/
module

public import proofs.«01_k».proof.Proof.Numbers
public import proofs.«01_k».proof.Proof.Rows
public import proofs.«01_k».proof.Proof.Gen.ConvKernelIdeal.Value

@[expose] public section

noncomputable section

namespace Cert.ConvKernelIdeal.Value

open Cert.ConvKernelIdeal Cert.ConvKernelIdeal.Gen Idealize.ShloMosaic Idealize.ShloMosaic.TcCoe Idealize.SL.Sem
open Cert.Numbers Cert.Rows

section cases
variable (c : Dev nD) (i : grid0.Coords) (a2 : Memref sig .tc .vmem S384x512 .f32) (h2 : a2.IsWhole)
  (a3 : Memref sig .tc .vmem S8x512 .f32) (h3 : a3.IsWhole) (a4 : Memref sig .tc .vmem S4x512 .f32) (h4 : a4.IsWhole)
  (a5 : Memref sig .tc .vmem S384x512 .f32) (h5 : a5.IsWhole) (a6 : Memref sig .tc .vmem S8x512 .f32) (h6 : a6.IsWhole)
  (a8 : Memref sig .tc .vmem S384x512 .bf16) (h8 : a8.IsWhole) (a9 : Memref sig .tc .vmem S4x512 .f32) (h9 : a9.IsWhole)
  (a10 : Memref sig .tc .vmem S392x512 .f32) (h10 : a10.IsWhole) (a11 : Memref sig .tc .vmem S392x512 .f32) (h11 : a11.IsWhole)
  (x0 : Vec Ideal S384x512 .f32) (x1 : Vec Ideal S8x512 .f32) (x2 : Vec Ideal S4x512 .f32) (x3 : Vec Ideal S384x512 .f32)
  (x4 : Vec Ideal S8x512 .f32) (xo : Vec Ideal S4x512 .f32)

/-- Row `s` of the point's rows of `x` with the eight rows before them (zeros before the array's first row). -/
def xRow (s : Fin 392) (k : Fin 512) : EReal :=
  if h : s.val < 8 then (if (i 1).val = 0 then 0 else x1 (ix2 ⟨s.val, h⟩ k)) else x0 (ix2 ⟨s.val - 8, by omega⟩ k)

/-- Row `s` of the point's rows of `dy` with the eight rows after them (zeros after the array's last row). -/
def dRow (s : Fin 392) (k : Fin 512) : EReal :=
  if h : s.val < 384 then x3 (ix2 ⟨s.val, h⟩ k) else (if (i 1).val = 10 then 0 else x4 (ix2 ⟨s.val - 384, by omega⟩ k))

/-- A choice on the second grid coordinate being positive. -/
theorem select_positive (n : Fin 11) (a b : EReal) :
    Scalar.select (Scalar.cmpi .sgt (BitVec.ofNat 32 n.val) 0#32) a b = if n.val = 0 then b else a := by
  have h : (Scalar.cmpi .sgt (BitVec.ofNat 32 n.val) 0#32 = 1#1) ↔ n.val ≠ 0 := by revert n; decide
  unfold Scalar.select
  by_cases h0 : n.val = 0
  · rw [if_pos h0]; exact if_neg (fun hh => h.mp hh h0)
  · rw [if_neg h0]; exact if_pos (h.mpr h0)

/-- A choice on the second grid coordinate being below the last. -/
theorem select_before_last (n : Fin 11) (a b : EReal) :
    Scalar.select (Scalar.cmpi .slt (BitVec.ofNat 32 n.val) 10#32) a b = if n.val = 10 then b else a := by
  have h : (Scalar.cmpi .slt (BitVec.ofNat 32 n.val) 10#32 = 1#1) ↔ n.val ≠ 10 := by revert n; decide
  unfold Scalar.select
  by_cases h0 : n.val = 10
  · rw [if_pos h0]; exact if_neg (fun hh => h.mp hh h0)
  · rw [if_neg h0]; exact if_pos (h.mpr h0)

/-- The scratch that holds `x`, as the two stores leave it. -/
theorem xbuf_at (s : Fin 392) (k : Fin 512) :
    View.canon (Val := Elt Ideal) (e := .f32) [⟨Rect.unit ![8, 0] ![384, 512] inb_S392x512_S384x512_8_0,
        k0_pay7 (View.ld x0 (Rect.unit ![0, 0] ![384, 512] inb_S384x512_S384x512_0_0))⟩,
      ⟨Rect.unit ![0, 0] ![8, 512] inb_S392x512_S8x512_0_0,
        k0_pay6 i (View.ld x1 (Rect.unit ![0, 0] ![8, 512] inb_S8x512_S8x512_0_0))⟩] (ix2 s k) = xRow i x0 x1 s k := by
  refine (canon_rows_cons (k := 384) 8 _ _ _ s k).trans ?_
  unfold xRow
  by_cases h : s.val < 8
  · rw [dif_neg (by omega), dif_pos h]
    refine (canon_rows_cons (k := 8) 0 _ _ _ s k).trans ?_
    rw [dif_pos ⟨by omega, by omega⟩]
    pointwise [k0_pay6]
    exact select_positive (i 1) _ _
  · rw [dif_pos ⟨by omega, by omega⟩, dif_neg h]
    pointwise [k0_pay7]

/-- The scratch that holds `dy`, as the two stores leave it. -/
theorem dbuf_at (s : Fin 392) (k : Fin 512) :
    View.canon (Val := Elt Ideal) (e := .f32) [⟨Rect.unit ![384, 0] ![8, 512] inb_S392x512_S8x512_384_0,
        k0_pay9 i (View.ld x4 (Rect.unit ![0, 0] ![8, 512] inb_S8x512_S8x512_0_0))⟩,
      ⟨Rect.unit ![0, 0] ![384, 512] inb_S392x512_S384x512_0_0,
        k0_pay8 (View.ld x3 (Rect.unit ![0, 0] ![384, 512] inb_S384x512_S384x512_0_0))⟩] (ix2 s k) = dRow i x3 x4 s k := by
  refine (canon_rows_cons (k := 8) 384 _ _ _ s k).trans ?_
  unfold dRow
  by_cases h : s.val < 384
  · rw [dif_neg (by omega), dif_pos h]
    refine (canon_rows_cons (k := 384) 0 _ _ _ s k).trans ?_
    rw [dif_pos ⟨by omega, by omega⟩]
    pointwise [k0_pay8]
  · rw [dif_pos ⟨by omega, by omega⟩, dif_neg h]
    pointwise [k0_pay9]
    exact select_before_last (i 1) _ _

/-- Entry `(r, k)` of the point's block of dx. -/
def dxAt (r : Fin 384) (k : Fin 512) : EReal :=
  x2 (ix2 0 k) * dRow i x3 x4 ⟨3 + r.val, by omega⟩ k + x2 (ix2 1 k) * dRow i x3 x4 ⟨2 + r.val, by omega⟩ k
    + x2 (ix2 2 k) * dRow i x3 x4 ⟨1 + r.val, by omega⟩ k + x2 (ix2 3 k) * dRow i x3 x4 ⟨0 + r.val, by omega⟩ k

/-- What the point adds to entry `(j, k)` of its block of dw. -/
def dwAt (j : Fin 4) (k : Fin 512) : EReal :=
  ∑ r : Fin 384, x3 (ix2 r k) * xRow i x0 x1 ⟨5 + j.val + r.val, by omega⟩ k

/-- The value stored into the block of dx. -/
theorem pay_dx (v : View sig .tc .vmem S392x512 .f32) (r : Fin 384) (k : Fin 512) (L) (hL : ∀ s k, View.canon L (ix2 s k) = dRow i x3 x4 s k) :
    k0_pay15 (F := Ideal) (View.ld x2 (Rect.unit ![0, 0] ![1, 512] inb_S4x512_S1x512_0_0))
      (v.readCov L (Rect.unit ![3, 0] ![384, 512] inb_S392x512_S384x512_3_0).toLoadRect)
      (View.ld x2 (Rect.unit ![1, 0] ![1, 512] inb_S4x512_S1x512_1_0))
      (v.readCov L (Rect.unit ![2, 0] ![384, 512] inb_S392x512_S384x512_2_0).toLoadRect)
      (View.ld x2 (Rect.unit ![2, 0] ![1, 512] inb_S4x512_S1x512_2_0))
      (v.readCov L (Rect.unit ![1, 0] ![384, 512] inb_S392x512_S384x512_1_0).toLoadRect)
      (View.ld x2 (Rect.unit ![3, 0] ![1, 512] inb_S4x512_S1x512_3_0))
      (v.readCov L (Rect.unit ![0, 0] ![384, 512] inb_S392x512_S384x512_0_0).toLoadRect) (ix2 r k) = dxAt i x2 x3 x4 r k := by
  pointwise [k0_pay15]
  unfold dxAt
  have e (o : Nat) (inb) (h : o + r.val < 392) :
      v.readCov L (Rect.unit (s := S392x512) ![o, 0] ![384, 512] inb).toLoadRect (ix2 r k) = dRow i x3 x4 ⟨o + r.val, h⟩ k :=
    (readCov_rows (k := 384) v L o inb r k h).trans (hL _ k)
  exact congrArg₂ (· + ·) (congrArg₂ (· + ·) (congrArg₂ (· + ·) (congrArg _ (e 3 _ _)) (congrArg _ (e 2 _ _)))
    (congrArg _ (e 1 _ _))) (congrArg _ (e 0 _ _))

/-- What the first point of a column stores in its block of dx. -/
theorem outA_dx (hc0 : cond0_0 i) (r : Fin 384) (k : Fin 512) :
    out0_A_5 c i a2 h2 a3 h3 a4 h4 a5 h5 a6 h6 a8 h8 a9 h9 a10 h10 a11 h11 hc0 x0 x1 x2 x3 x4 (ix2 r k) = dxAt i x2 x3 x4 r k := by
  unfold out0_A_5
  rw [View.read_writes_eq_canon _ _ _ fun _ => cover0_A_5 ..]
  unfold kernelRun0_A; dsimp only; sl_unfold_words
  rw [View.canon_unit_zero zeros2]
  simp only [View.readAt_eq_ld, Memref.IsWhole.read_unread]
  exact pay_dx i x2 x3 x4 a11.view r k _ (dbuf_at i x3 x4)

/-- What a later point of a column stores in its block of dx. -/
theorem outB_dx (hc0 : ¬cond0_0 i) (r : Fin 384) (k : Fin 512) :
    out0_B_5 c i a2 h2 a3 h3 a4 h4 a5 h5 a6 h6 a8 h8 a9 h9 a10 h10 a11 h11 hc0 x0 x1 x2 x3 x4 xo (ix2 r k) = dxAt i x2 x3 x4 r k := by
  unfold out0_B_5
  rw [View.read_writes_eq_canon _ _ _ fun _ => cover0_B_5 ..]
  unfold kernelRun0_B; dsimp only; sl_unfold_words
  rw [View.canon_unit_zero zeros2]
  simp only [View.readAt_eq_ld, Memref.IsWhole.read_unread]
  exact pay_dx i x2 x3 x4 a11.view r k _ (dbuf_at i x3 x4)

/-- The sum over a tile's rows of `dy` times shifted rows of `x`, as the body forms it for each shift. -/
theorem tap_sum (v : View sig .tc .vmem S392x512 .f32) (o : Nat) (inb) (j : Fin 4) (ho : o = 5 + j.val) (k : Fin 512) (L)
    (hL : ∀ s k, View.canon L (ix2 s k) = xRow i x0 x1 s k) :
    (∑ r : Fin 384, x3 (ix2 r k) * v.readCov L (Rect.unit (s := S392x512) ![o, 0] ![384, 512] inb).toLoadRect (ix2 r k))
      = dwAt i x0 x1 x3 j k := by
  subst ho
  exact Finset.sum_congr rfl fun r _ => congrArg _ ((readCov_rows (k := 384) v L _ inb r k (by omega)).trans (hL _ k))

/-- Four stored rows, one after the other. -/
theorem four_rows (w0 w1 w2 w3 : Vec Ideal S1x512 .f32) (L) (j : Fin 4) (k : Fin 512) :
    View.canon (Val := Elt Ideal) (e := .f32) (⟨Rect.unit ![3, 0] ![1, 512] inb_S4x512_S1x512_3_0, w3⟩
      :: ⟨Rect.unit ![2, 0] ![1, 512] inb_S4x512_S1x512_2_0, w2⟩ :: ⟨Rect.unit ![1, 0] ![1, 512] inb_S4x512_S1x512_1_0, w1⟩
      :: ⟨Rect.unit ![0, 0] ![1, 512] inb_S4x512_S1x512_0_0, w0⟩ :: L) (ix2 j k)
      = (match j with | 0 => w0 | 1 => w1 | 2 => w2 | 3 => w3) (ix2 0 k) := by
  refine (canon_rows_cons (k := 1) 3 _ _ _ j k).trans ?_
  have e : ∀ h : 0 < 1, (⟨0, h⟩ : Fin 1) = 0 := fun _ => rfl
  match j with
  | 3 => rw [dif_pos (by decide)]; rfl
  | 2 => rw [dif_neg (by decide)]; refine (canon_rows_cons (k := 1) 2 _ _ _ 2 k).trans ?_; rw [dif_pos (by decide)]; rfl
  | 1 =>
    rw [dif_neg (by decide)]; refine (canon_rows_cons (k := 1) 2 _ _ _ 1 k).trans ?_
    rw [dif_neg (by decide)]; refine (canon_rows_cons (k := 1) 1 _ _ _ 1 k).trans ?_
    rw [dif_pos (by decide)]; rfl
  | 0 =>
    rw [dif_neg (by decide)]; refine (canon_rows_cons (k := 1) 2 _ _ _ 0 k).trans ?_
    rw [dif_neg (by decide)]; refine (canon_rows_cons (k := 1) 1 _ _ _ 0 k).trans ?_
    rw [dif_neg (by decide)]; refine (canon_rows_cons (k := 1) 0 _ _ _ 0 k).trans ?_
    rw [dif_pos (by decide)]; rfl

/-- A later point of a column adds its sums to its block of dw. -/
theorem outB_dw (hc0 : ¬cond0_0 i) (j : Fin 4) (k : Fin 512) :
    out0_B_6 c i a2 h2 a3 h3 a4 h4 a5 h5 a6 h6 a8 h8 a9 h9 a10 h10 a11 h11 hc0 x0 x1 x2 x3 x4 xo (ix2 j k)
      = xo (ix2 j k) + dwAt i x0 x1 x3 j k := by
  unfold out0_B_6
  rw [View.read_writes_eq_canon _ _ _ fun _ => cover0_B_6 ..]
  unfold kernelRun0_B; dsimp only; sl_unfold_words
  simp only [View.readAt_eq_ld, Memref.IsWhole.read_unread]
  refine (four_rows _ _ _ _ _ j k).trans ?_
  match j with
  | 0 => pointwise [k0_pay2, k0_pay11, k0_pay10]; exact congrArg _ (tap_sum i x0 x1 x3 _ 5 _ 0 rfl k _ (xbuf_at i x0 x1))
  | 1 => pointwise [k0_pay3, k0_pay12, k0_pay10]; exact congrArg _ (tap_sum i x0 x1 x3 _ 6 _ 1 rfl k _ (xbuf_at i x0 x1))
  | 2 => pointwise [k0_pay4, k0_pay13, k0_pay10]; exact congrArg _ (tap_sum i x0 x1 x3 _ 7 _ 2 rfl k _ (xbuf_at i x0 x1))
  | 3 => pointwise [k0_pay5, k0_pay14, k0_pay10]; exact congrArg _ (tap_sum i x0 x1 x3 _ 8 _ 3 rfl k _ (xbuf_at i x0 x1))

/-- A stored row leaves the other rows as they were. -/
theorem skip_row (o : Nat) (inb) (w : Vec Ideal S1x512 .f32) (L) (r : Fin 4) (k : Fin 512) (h : ¬(o ≤ r.val ∧ r.val < o + 1)) :
    View.canon (Val := Elt Ideal) (e := .f32) (⟨Rect.unit (s := S4x512) ![o, 0] ![1, 512] inb, w⟩ :: L) (ix2 r k)
      = View.canon L (ix2 r k) :=
  (canon_rows_cons (k := 1) o inb w L r k).trans (dif_neg h)

/-- The block of dw after the first point's store of zeros. -/
theorem zeroed (y : S4x512.Idx) : View.canon (Val := Elt Ideal) (e := .f32)
    [⟨Rect.unit ![0, 0] ![4, 512] inb_S4x512_S4x512_0_0, k0_pay1 (F := Ideal)⟩] y = 0 := by
  rw [View.canon_unit_zero (S := S4x512) zeros2]
  pointwise [k0_pay1]

/-- The first point of a column leaves its own sums in its block of dw. -/
theorem outA_dw (hc0 : cond0_0 i) (j : Fin 4) (k : Fin 512) :
    out0_A_6 c i a2 h2 a3 h3 a4 h4 a5 h5 a6 h6 a8 h8 a9 h9 a10 h10 a11 h11 hc0 x0 x1 x2 x3 x4 (ix2 j k)
      = dwAt i x0 x1 x3 j k := by
  unfold out0_A_6
  rw [View.read_writes_eq_canon _ _ _ fun _ => cover0_A_6 ..]
  unfold kernelRun0_A; dsimp only; sl_unfold_words
  simp only [View.readAt_eq_ld, Memref.IsWhole.read_unread]
  refine (four_rows _ _ _ _ _ j k).trans ?_
  match j with
  | 0 =>
    pointwise [k0_pay2, k0_pay11, k0_pay10]
    refine (congrArg₂ (· + ·) ?_ (tap_sum i x0 x1 x3 _ 5 _ 0 rfl k _ (xbuf_at i x0 x1))).trans (zero_add _)
    exact (readCov_rows (k := 1) _ _ 0 _ 0 k (by decide)).trans (zeroed _)
  | 1 =>
    pointwise [k0_pay3, k0_pay12, k0_pay10]
    refine (congrArg₂ (· + ·) ?_ (tap_sum i x0 x1 x3 _ 6 _ 1 rfl k _ (xbuf_at i x0 x1))).trans (zero_add _)
    exact (readCov_rows (k := 1) _ _ 1 _ 0 k (by decide)).trans ((skip_row 0 _ _ _ _ k (by decide)).trans (zeroed _))
  | 2 =>
    pointwise [k0_pay4, k0_pay13, k0_pay10]
    refine (congrArg₂ (· + ·) ?_ (tap_sum i x0 x1 x3 _ 7 _ 2 rfl k _ (xbuf_at i x0 x1))).trans (zero_add _)
    exact (readCov_rows (k := 1) _ _ 2 _ 0 k (by decide)).trans ((skip_row 1 _ _ _ _ k (by decide)).trans
      ((skip_row 0 _ _ _ _ k (by decide)).trans (zeroed _)))
  | 3 =>
    pointwise [k0_pay5, k0_pay14, k0_pay10]
    refine (congrArg₂ (· + ·) ?_ (tap_sum i x0 x1 x3 _ 8 _ 3 rfl k _ (xbuf_at i x0 x1))).trans (zero_add _)
    exact (readCov_rows (k := 1) _ _ 3 _ 0 k (by decide)).trans ((skip_row 2 _ _ _ _ k (by decide)).trans
      ((skip_row 1 _ _ _ _ k (by decide)).trans ((skip_row 0 _ _ _ _ k (by decide)).trans (zeroed _))))

end cases
end Cert.ConvKernelIdeal.Value
end
-- ==== Proof.ConvBlocks.lean ====
/-
  The two arrays the gradient of the causal convolution leaves over the extended reals: dx row by row, and dw as sums over all
  rows.
-/
module

public import proofs.«01_k».proof.Proof.ConvKernelValue
public import Idealize.ShloMosaic.Lib.Pipeline.ValueKit.Acc

@[expose] public section

noncomputable section

namespace Cert.ConvKernelIdeal.Value

open Cert.ConvKernelIdeal Cert.ConvKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is column block `t / 11`, row block `t % 11`. -/
theorem index_facts : ∀ t : Fin cfg0.N, (grid0.coords t 1).val = t.val % 11 ∧
    win0_0.index t 0 = t.val % 11 ∧ win0_0.index t 1 = 2 + t.val / 11 ∧
    win0_1.index t 0 = t.val % 11 * 48 - 1 ∧ win0_1.index t 1 = 2 + t.val / 11 ∧
    win0_2.index t 0 = 0 ∧ win0_2.index t 1 = t.val / 11 ∧
    win0_3.index t 0 = t.val % 11 ∧ win0_3.index t 1 = t.val / 11 ∧
    win0_4.index t 0 = min ((t.val % 11 + 1) * 48) 527 ∧ win0_4.index t 1 = t.val / 11 ∧
    win0_5.index t 0 = t.val % 11 ∧ win0_5.index t 1 = 2 + t.val / 11 ∧
    win0_6.index t 0 = 0 ∧ win0_6.index t 1 = t.val / 11 :=
  (by decide +kernel : ∀ t : Fin grid0.N, _)

/-- The padded columns of `x` (from the packed product) and the padded `dy`, as the region finds them. -/
def xs (n : Fin 4224) (k : Fin 1536) : EReal := (V m c main_v13 : Vec Ideal S4224x3200 .f32) (ix2 n ⟨1024 + k.val, by omega⟩)
def ds (n : Fin 4224) (k : Fin 1536) : EReal := (V m c main_v15 : Vec Ideal S4224x1536 .f32) (ix2 n k)
def ws (j : Fin 4) (k : Fin 1536) : EReal := (m ((c.tc : Thread nD τ).loc main_arg1) : Vec Ideal S4x1536 .f32) (ix2 j k)

/-- Row `n - o` of `x`, zero before the first row. -/
def xBack (n : ℕ) (o : ℕ) (hn : n < 4224 + o) (k : Fin 1536) : EReal := if h : n < o then 0 else xs m c ⟨n - o, by omega⟩ k
/-- Row `n` of `dy`, zero after the last row. -/
def dFwd (n : ℕ) (k : Fin 1536) : EReal := if h : n < 4224 then ds m c ⟨n, h⟩ k else 0

abbrev colOf (t : Fin cfg0.N) (k : Fin 512) : Fin 1536 := ⟨t.val / 11 * 512 + k.val, by have ht : t.val < 33 := t.isLt; omega⟩

theorem block_x (t : Fin cfg0.N) (r : Fin 384) (k : Fin 512) :
    (X0_0 m c t : Vec Ideal S384x512 .f32) (ix2 r k)
      = xs m c ⟨t.val % 11 * 384 + r.val, by omega⟩ (colOf t k) := by
  have hi := index_facts t
  unfold X0_0 xs Pipeline.Window.fill
  rw [dif_pos (moved0_0 t _)]
  unfold iblk
  rw [View.read_apply]
  show V m c main_v13 _ = V m c main_v13 _
  congr 1
  exact at2 (by show win0_0.index t 0 * 384 + 1 * r.val = t.val % 11 * 384 + r.val; rw [hi.2.1]; omega) (by show win0_0.index t 1 * 512 + 1 * k.val = 1024 + (t.val / 11 * 512 + k.val); rw [hi.2.2.1]; omega)

theorem block_xhalo (t : Fin cfg0.N) (ht : t.val % 11 ≠ 0) (r : Fin 8) (k : Fin 512) :
    (X0_1 m c t : Vec Ideal S8x512 .f32) (ix2 r k)
      = xs m c ⟨t.val % 11 * 384 + r.val - 8, by omega⟩ (colOf t k) := by
  have hi := index_facts t
  unfold X0_1 xs Pipeline.Window.fill
  rw [dif_pos (moved0_1 t _)]
  unfold iblk
  rw [View.read_apply]
  show V m c main_v13 _ = V m c main_v13 _
  congr 1
  exact at2 (by show win0_1.index t 0 * 8 + 1 * r.val = t.val % 11 * 384 + r.val - 8; rw [hi.2.2.2.1]; omega) (by show win0_1.index t 1 * 512 + 1 * k.val = 1024 + (t.val / 11 * 512 + k.val); rw [hi.2.2.2.2.1]; omega)

theorem block_w (t : Fin cfg0.N) (j : Fin 4) (k : Fin 512) :
    (iblk m c 2 t : Vec Ideal S4x512 .f32) (ix2 j k) = ws m c j (colOf t k) := by
  have hi := index_facts t
  unfold iblk ws
  rw [View.read_apply]
  show V m c main_arg1 _ = _
  rw [V_main_arg1]
  congr 1
  exact at2 (by show win0_2.index t 0 * 4 + 1 * j.val = j.val; rw [hi.2.2.2.2.2.1]; omega) (by show win0_2.index t 1 * 512 + 1 * k.val = t.val / 11 * 512 + k.val; rw [hi.2.2.2.2.2.2.1]; omega)

theorem block_d (t : Fin cfg0.N) (r : Fin 384) (k : Fin 512) :
    (iblk m c 3 t : Vec Ideal S384x512 .f32) (ix2 r k) = ds m c ⟨t.val % 11 * 384 + r.val, by omega⟩ (colOf t k) := by
  have hi := index_facts t
  unfold iblk ds
  rw [View.read_apply]
  show V m c main_v15 _ = V m c main_v15 _
  congr 1
  exact at2 (by show win0_3.index t 0 * 384 + 1 * r.val = t.val % 11 * 384 + r.val; rw [hi.2.2.2.2.2.2.2.1]; omega) (by show win0_3.index t 1 * 512 + 1 * k.val = t.val / 11 * 512 + k.val; rw [hi.2.2.2.2.2.2.2.2.1]; omega)

theorem block_dhalo (t : Fin cfg0.N) (ht : t.val % 11 ≠ 10) (r : Fin 8) (k : Fin 512) :
    (iblk m c 4 t : Vec Ideal S8x512 .f32) (ix2 r k) = ds m c ⟨t.val % 11 * 384 + 384 + r.val, by omega⟩ (colOf t k) := by
  have hi := index_facts t
  unfold iblk ds
  rw [View.read_apply]
  show V m c main_v15 _ = V m c main_v15 _
  congr 1
  exact at2 (by show win0_4.index t 0 * 8 + 1 * r.val = t.val % 11 * 384 + 384 + r.val; rw [hi.2.2.2.2.2.2.2.2.2.1]; omega) (by show win0_4.index t 1 * 512 + 1 * k.val = t.val / 11 * 512 + k.val; rw [hi.2.2.2.2.2.2.2.2.2.2.1]; omega)

/-- The point's rows of `x` with the rows before them, as rows of the array. -/
theorem xRow_eq (t : Fin cfg0.N) (s : Fin 392) (k : Fin 512) :
    xRow (grid0.coords t) (X0_0 m c t) (X0_1 m c t) s k
      = xBack m c (t.val % 11 * 384 + s.val) 8 (by omega) (colOf t k) := by
  have hi := index_facts t
  unfold xRow xBack
  rw [hi.1]
  by_cases h : s.val < 8
  · rw [dif_pos h]
    by_cases h0 : t.val % 11 = 0
    · rw [if_pos h0, dif_pos (by omega)]
    · rw [if_neg h0, dif_neg (by omega)]
      exact block_xhalo m c t h0 _ _
  · rw [dif_neg h, dif_neg (by omega)]
    refine (block_x m c t _ _).trans ?_
    congr 1
    exact Fin.ext (by dsimp only; omega)

theorem dRow_eq (t : Fin cfg0.N) (s : Fin 392) (k : Fin 512) :
    dRow (grid0.coords t) (iblk m c 3 t) (iblk m c 4 t) s k = dFwd m c (t.val % 11 * 384 + s.val) (colOf t k) := by
  have hi := index_facts t
  unfold dRow dFwd
  rw [hi.1]
  by_cases h : s.val < 384
  · rw [dif_pos h, dif_pos (by omega)]
    exact block_d m c t _ _
  · rw [dif_neg h]
    by_cases h0 : t.val % 11 = 10
    · rw [if_pos h0, dif_neg (by omega)]
    · rw [if_neg h0, dif_pos (by omega)]
      refine (block_dhalo m c t h0 _ _).trans ?_
      congr 1
      exact Fin.ext (by dsimp only; omega)

/-- Row `n` of dx: the four following rows of `dy`, weighted. -/
def dxRow (n : Fin 4224) (k : Fin 1536) : EReal :=
  ws m c 0 k * dFwd m c (n.val + 3) k + ws m c 1 k * dFwd m c (n.val + 2) k + ws m c 2 k * dFwd m c (n.val + 1) k
    + ws m c 3 k * dFwd m c (n.val + 0) k

/-- Rows of `dy` times rows of `x`, `3 - j` rows back. -/
def term (j : Fin 4) (k : Fin 1536) (n : Fin 4224) : EReal :=
  ds m c n k * xBack m c n.val (3 - j.val) (by omega) k

theorem dxAt_eq (t : Fin cfg0.N) (r : Fin 384) (k : Fin 512) :
    dxAt (grid0.coords t) (iblk m c 2 t) (iblk m c 3 t) (iblk m c 4 t) r k
      = dxRow m c ⟨t.val % 11 * 384 + r.val, by omega⟩ (colOf t k) := by
  unfold dxAt dxRow
  rw [dRow_eq, dRow_eq, dRow_eq, dRow_eq, block_w, block_w, block_w, block_w]
  have e (o : ℕ) : t.val % 11 * 384 + (o + r.val) = t.val % 11 * 384 + r.val + o := by omega
  dsimp only
  rw [e 3, e 2, e 1, e 0]

theorem dwAt_eq (t : Fin cfg0.N) (j : Fin 4) (k : Fin 512) :
    dwAt (grid0.coords t) (X0_0 m c t) (X0_1 m c t) (iblk m c 3 t) j k
      = ∑ r : Fin 384, term m c j (colOf t k) ⟨t.val % 11 * 384 + r.val, by omega⟩ := by
  unfold dwAt term
  refine Finset.sum_congr rfl fun r _ => ?_
  refine congrArg₂ (· * ·) (block_d m c t r k) ?_
  refine (xRow_eq m c t _ k).trans ?_
  unfold xBack
  dsimp only
  by_cases h : t.val % 11 * 384 + r.val < 3 - j.val
  · rw [dif_pos h, dif_pos (by omega)]
  · rw [dif_neg h, dif_neg (by omega)]
    congr 1
    exact Fin.ext (by dsimp only; omega)

/-- The block of dx after each point. -/
theorem outs_dx (t : Fin cfg0.N) (r : Fin 384) (k : Fin 512) :
    (outsAt0 m c t.val t.isLt).1 (ix2 r k) = dxRow m c ⟨t.val % 11 * 384 + r.val, by omega⟩ (colOf t k) := by
  by_cases h0 : t.val % 11 = 0
  · rw [outsAt0_A m c t h0, ← dxAt_eq]
    dsimp only
    rw [outA_dx]
  · rw [outsAt0_B m c t h0, ← dxAt_eq]
    dsimp only
    rw [outB_dx]

/-- Entry `(j, k)` of the block of dw after point `n`. -/
def dwCell (n : ℕ) (hn : n < 33) (j : Fin 4) (k : Fin 512) : EReal := (outsAt0 m c n hn).2 (ix2 j k)

/-- What point `n` adds to it. -/
def dwStep (n : ℕ) (hn : n < 33) (j : Fin 4) (k : Fin 512) : EReal :=
  ∑ r : Fin 384, term m c j ⟨n / 11 * 512 + k.val, by omega⟩ ⟨n % 11 * 384 + r.val, by omega⟩

/-- The first point of a column leaves the sums over its own rows. -/
theorem dw_first (n : ℕ) (hn : n < 33) (h0 : n % 11 = 0) (j : Fin 4) (k : Fin 512) : dwCell m c n hn j k = dwStep m c n hn j k := by
  unfold dwCell
  rw [outsAt0_A m c ⟨n, hn⟩ h0]
  dsimp only
  rw [outA_dw]
  exact dwAt_eq m c ⟨n, hn⟩ j k

/-- A later point adds the sums over its own rows. -/
theorem dw_next (n : ℕ) (hn : n + 1 < 33) (h0 : ¬(n + 1) % 11 = 0) (j : Fin 4) (k : Fin 512) :
    dwCell m c (n + 1) hn j k = dwCell m c n (by omega) j k + dwStep m c (n + 1) hn j k := by
  unfold dwCell
  rw [outsAt0_B m c ⟨n + 1, hn⟩ h0]
  dsimp only
  rw [outB_dw]
  exact congrArg _ (dwAt_eq m c ⟨n + 1, hn⟩ j k)

/-- The block of dw after point `i` of a column: the sums over the row blocks up to `i`. -/
theorem dw_sum (q : Fin 3) (j : Fin 4) (k : Fin 512) (i : ℕ) : ∀ (n : ℕ) (hn : n < 33) (hi : i < 11), n = q.val * 11 + i →
    dwCell m c n hn j k
      = ∑ s : Fin (i + 1), ∑ r : Fin 384, term m c j ⟨q.val * 512 + k.val, by omega⟩ ⟨s.val * 384 + r.val, by omega⟩ := by
  induction i with
  | zero =>
    intro n hn hi e
    rw [Fin.sum_univ_one, dw_first m c n hn (by omega)]
    refine Finset.sum_congr rfl fun r _ => ?_
    congr 1
    · exact Fin.ext (by dsimp only; omega)
    · exact Fin.ext (by simp only [Fin.val_zero]; omega)
  | succ i ih =>
    intro n hn hi e
    obtain ⟨n, rfl⟩ : ∃ n', n = n' + 1 := ⟨n - 1, by omega⟩
    rw [Fin.sum_univ_castSucc, dw_next m c n hn (by omega), ih n (by omega) (by omega) (by omega)]
    refine congrArg _ (Finset.sum_congr rfl fun r _ => ?_)
    congr 1
    · exact Fin.ext (by dsimp only; omega)
    · exact Fin.ext (by simp only [Fin.val_last]; omega)

/-- No transfer of the dx window is cut. -/
theorem xsize5 : ∀ t : Fin cfg0.N, ∀ a, (cfg0.win 5).xsize (cfg0.grid.coords t) a = (cfg0.win 5).size a := by decide +kernel

/-- An index of the dx window's block. -/
def at5 (t : Fin cfg0.N) (y : S384x512.Idx) : ((cfg0.win 5).xblock (cfg0.grid.coords t)).Idx :=
  fun a => ⟨(y a).val, lt_of_lt_of_eq (y a).isLt (xsize5 t a).symm⟩

/-- The dx array at a row and a column of the written columns. -/
theorem dx_at (n : Fin 4224) (k : Fin 1536) :
    (dats m 0 c).arrAt 5 cfg0.N (ix2 n ⟨1024 + k.val, by omega⟩ : S4224x3200.Idx) = dxRow m c n k := by
  have ht : k.val / 512 * 11 + n.val / 384 < cfg0.N := by show _ < 33; omega
  have hi := index_facts ⟨_, ht⟩
  have h := congrFun (blocks5 m c ⟨_, ht⟩ (flush0_5 _))
    (at5 ⟨_, ht⟩ (ix2 (⟨n.val % 384, by omega⟩ : Fin 384) (⟨k.val % 512, by omega⟩ : Fin 512)))
  rw [flushed5, View.read_apply] at h
  refine Eq.trans (congrArg _ ?_) (h.trans ((outs_dx m c ⟨_, ht⟩ ⟨n.val % 384, by omega⟩ ⟨k.val % 512, by omega⟩).trans ?_))
  · exact at2 (by show n.val = win0_5.index ⟨_, ht⟩ 0 * 384 + 1 * (n.val % 384); rw [hi.2.2.2.2.2.2.2.2.2.2.2.1]; dsimp only; omega) (by show 1024 + k.val = win0_5.index ⟨_, ht⟩ 1 * 512 + 1 * (k.val % 512); rw [hi.2.2.2.2.2.2.2.2.2.2.2.2.1]; dsimp only; omega)
  · congr 1
    · exact Fin.ext (by dsimp only; omega)
    · exact Fin.ext (by dsimp only; omega)

/-- The other columns of the dx array are the argument's. -/
theorem dx_kept (n : Fin 4224) (k : Fin 3200) (hk : k.val < 1024 ∨ 2560 ≤ k.val) :
    (dats m 0 c).arrAt 5 cfg0.N (ix2 n k : S4224x3200.Idx)
      = (m ((c.tc : Thread nD τ).loc main_arg3) : Vec Ideal S4224x3200 .bf16) (ix2 n k) := by
  rw [entry5]
  · show V m c main_v16_0 _ = _
    dsimp only [V, hostOps0]
    after_results
    rfl
  · intro t hf hm
    have hi := index_facts t
    have ht : t.val < 33 := t.isLt
    have hm' : (ix2 n k : S4224x3200.Idx) ∈ ((View.whole main_v16_0).slice (win0_5.rect t)).set := hm
    rw [View.set_slice_whole, Rect.mem_set_unit] at hm'
    have h1 : win0_5.index t 1 * 512 ≤ k.val ∧ k.val < win0_5.index t 1 * 512 + (cfg0.win 5).xsize (cfg0.grid.coords t) 1 := hm' 1
    rw [xsize5] at h1
    have h1 : win0_5.index t 1 * 512 ≤ k.val ∧ k.val < win0_5.index t 1 * 512 + 512 := h1
    rw [hi.2.2.2.2.2.2.2.2.2.2.2.2.1] at h1
    omega

/-- The points that write back a block of dw write different blocks. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  (cfg0.win 6).disjoint_blk fun e => hne (by
    have h0 := (flush0_6 t).mp h
    have h0' := (flush0_6 t').mp h'
    have e1 : win0_6.index t 1 = win0_6.index t' 1 := congrFun e 1
    rw [(index_facts t).2.2.2.2.2.2.2.2.2.2.2.2.2.2, (index_facts t').2.2.2.2.2.2.2.2.2.2.2.2.2.2] at e1
    exact Fin.ext (by omega))

/-- The dw array at an entry: the sum over all rows. -/
theorem dw_at (j : Fin 4) (k : Fin 1536) :
    (dats m 0 c).arrAt 6 cfg0.N (ix2 j k : S4x1536.Idx) = ∑ n : Fin 4224, term m c j k n := by
  have ht : k.val / 512 * 11 + 10 < cfg0.N := by show _ < 33; omega
  have hi := index_facts ⟨_, ht⟩
  have hf : (cfg0.win 6).flush ⟨_, ht⟩ = true := (flush0_6 _).mpr (by dsimp only; omega)
  have h := congrFun ((dats m 0 c).read_blk_arrAt_eq_flushed 6 disjoint6 cfg0.N ⟨_, ht⟩ ht hf)
    (ix2 j (⟨k.val % 512, by omega⟩ : Fin 512))
  rw [flushed6, View.read_apply] at h
  refine Eq.trans (congrArg _ ?_) (h.trans ((dw_sum m c ⟨k.val / 512, by omega⟩ j ⟨k.val % 512, by omega⟩ 10 _ ht (by decide) rfl).trans ?_))
  · exact at2 (by show j.val = win0_6.index ⟨_, ht⟩ 0 * 4 + 1 * j.val; rw [hi.2.2.2.2.2.2.2.2.2.2.2.2.2.1]; omega) (by show k.val = win0_6.index ⟨_, ht⟩ 1 * 512 + 1 * (k.val % 512); rw [hi.2.2.2.2.2.2.2.2.2.2.2.2.2.2]; dsimp only; omega)
  · refine Eq.trans ?_ (Fin.sum_mul_add_fin 11 384 (fun l : Fin 4224 => term m c j k l))
    refine Finset.sum_congr rfl fun s _ => Finset.sum_congr rfl fun r _ => ?_
    congr 1
    exact Fin.ext (by dsimp only; omega)

end Cert.ConvKernelIdeal.Value
end
-- ==== Proof.ConvValue.lean ====
/-
  The convolution's gradient kernel and its reference compute the same two arrays over the extended reals.
-/
module

public import proofs.«01_k».proof.Proof.ConvBlocks
public import proofs.«01_k».proof.Proof.Gen.ConvReferenceIdeal.Read

@[expose] public section

noncomputable section

namespace Cert.ConvValue

open Cert.ConvKernelIdeal Cert.ConvKernelIdeal.Gen Cert.ConvKernelIdeal.Value Cert.ConvReferenceIdeal.Read
open Idealize.ShloMosaic Idealize.ShloMosaic.TcCoe Idealize.SL.Sem

section reference
variable (x : Vec Ideal S4112x2824 .f32) (w : Vec Ideal S4x1536 .f32) (y : Vec Ideal S4112x1536 .f32)
  (p : Vec Ideal S4224x3200 .bf16)

/-- The convolved columns of `x` below 112 zero rows. -/
def xPad (n : Fin 4224) (k : Fin 1536) : EReal :=
  if h : n.val < 112 then 0 else x (ix2 ⟨n.val - 112, by omega⟩ ⟨768 + k.val, by omega⟩)
/-- The cotangent below 112 zero rows. -/
def yPad (n : Fin 4224) (k : Fin 1536) : EReal :=
  if h : n.val < 112 then 0 else y (ix2 ⟨n.val - 112, by omega⟩ k)

theorem ref_x (n : Fin 4224) (k : Fin 1536) : val_main_v2 (F := Ideal) x (ix2 n k) = xPad x n k := by
  unfold xPad
  pointwise [val_main_v2, val_main_v1, val_main_v0, val_main_cst]

theorem ref_y (n : Fin 4224) (k : Fin 1536) : val_main_v36 (F := Ideal) y (ix2 n k) = yPad y n k := by
  unfold yPad
  pointwise [val_main_v36, val_main_v35, val_main_cst_3]

/-- Row `n` of the cotangent, zero after the last row. -/
def yFwd (n : ℕ) (k : Fin 1536) : EReal := if h : n < 4224 then yPad y ⟨n, h⟩ k else 0

/-- A product with a row of the cotangent that may lie past the last one. -/
theorem mul_yFwd (a : EReal) (n : ℕ) (k : Fin 1536) :
    a * yFwd y n k = if h : n < 4224 then a * yPad y ⟨n, h⟩ k else 0 := by
  unfold yFwd
  split
  · rfl
  · rw [mul_zero]

theorem ref_pad0 (n : Fin 4224) (k : Fin 1536) :
    val_main_v42 (F := Ideal) w y (ix2 (⟨3 + n.val, by omega⟩ : Fin 4227) k) = w (ix2 3 k) * yFwd y (n.val + 0) k := by
  rw [mul_yFwd, dif_pos (by omega)]
  pointwise [val_main_v42, val_main_cst_5, val_main_v38, val_main_v37, val_main_v30, val_main_v29, val_main_v28, ref_y]
theorem ref_pad1 (n : Fin 4224) (k : Fin 1536) :
    val_main_v51 (F := Ideal) w y (ix2 (⟨3 + n.val, by omega⟩ : Fin 4227) k) = w (ix2 2 k) * yFwd y (n.val + 1) k := by
  rw [mul_yFwd]
  have e : 3 + n.val - 2 = n.val + 1 := by omega
  pointwise [val_main_v51, val_main_cst_9, val_main_v47, val_main_v46, val_main_v23, val_main_v22, val_main_v21, ref_y]
  simp only [e, (by omega : 2 ≤ 3 + n.val), true_and]
theorem ref_pad2 (n : Fin 4224) (k : Fin 1536) :
    val_main_v62 (F := Ideal) w y (ix2 (⟨3 + n.val, by omega⟩ : Fin 4227) k) = w (ix2 1 k) * yFwd y (n.val + 2) k := by
  rw [mul_yFwd]
  have e : 3 + n.val - 1 = n.val + 2 := by omega
  pointwise [val_main_v62, val_main_cst_13, val_main_v58, val_main_v57, val_main_v16, val_main_v15, val_main_v14, ref_y]
  simp only [e, (by omega : 1 ≤ 3 + n.val), true_and]
theorem ref_pad3 (n : Fin 4224) (k : Fin 1536) :
    val_main_v73 (F := Ideal) w y (ix2 (⟨3 + n.val, by omega⟩ : Fin 4227) k) = w (ix2 0 k) * yFwd y (n.val + 3) k := by
  rw [mul_yFwd]
  have e : 3 + n.val = n.val + 3 := by omega
  pointwise [val_main_v73, val_main_cst_17, val_main_v69, val_main_v68, val_main_v8, val_main_v7, val_main_v6, ref_y]
  simp only [e]

/-- The gradient of the convolved columns at a row. -/
theorem ref_dx (n : Fin 4224) (k : Fin 1536) :
    val_main_v80 (F := Ideal) w y (ix2 n k) = w (ix2 3 k) * yFwd y (n.val + 0) k + w (ix2 2 k) * yFwd y (n.val + 1) k
      + w (ix2 1 k) * yFwd y (n.val + 2) k + w (ix2 0 k) * yFwd y (n.val + 3) k := by
  pointwise [val_main_v80, val_main_v74, val_main_v63, val_main_v52]
  rw [ref_pad0, ref_pad1, ref_pad2, ref_pad3]
  rfl

/-- The first result: the gradient in its columns, the given array in the others. -/
theorem ref_out (n : Fin 4224) (k : Fin 3200) :
    val_main_v84 (F := Ideal) w y p (ix2 n k) = if h : 1024 ≤ k.val ∧ k.val < 2560
      then val_main_v80 (F := Ideal) w y (ix2 n ⟨k.val - 1024, by omega⟩) else p (ix2 n k) := by
  pointwise [val_main_v84, val_main_v82, val_main_v81, val_main_v83]
  by_cases h1 : k.val < 1024
  · rw [dif_pos h1, dif_neg (by omega)]
  · rw [dif_neg h1]
    by_cases h2 : k.val - 1024 < 1536
    · rw [dif_pos h2, dif_pos (by omega)]
    · rw [dif_neg h2, dif_neg (by omega)]
      have e : 2560 + (k.val - 1024 - 1536) = k.val := by omega
      simp only [e]

/-- Row `n - 3` of `x`, zero before the first row. -/
def xShift (n : ℕ) (hn : n < 4227) (k : Fin 1536) : EReal := if h : n < 3 then 0 else xPad x ⟨n - 3, by omega⟩ k

theorem ref_shift (n : Fin 4227) (k : Fin 1536) : val_main_v4 (F := Ideal) x (ix2 n k) = xShift x n.val n.isLt k := by
  unfold xShift
  pointwise [val_main_v4, val_main_v3, val_main_cst_0, ref_x]

/-- The gradient of a weight: the cotangent's rows times rows of `x`. -/
def dwSum (j : Fin 4) (k : Fin 1536) : EReal := ∑ n : Fin 4224, yPad y n k * xShift x (j.val + n.val) (by omega) k

theorem ref_tap0 (k : Fin 1536) : val_main_v76 (F := Ideal) x y (ix2 0 k) = dwSum x y 0 k := by
  unfold dwSum
  pointwise [val_main_v76, val_main_v75, val_main_v72, val_main_v71, val_main_v70, val_main_v9, val_main_cst_16, val_main_cst_18,
    ref_y, ref_shift]
  simp
theorem ref_tap1 (k : Fin 1536) : val_main_v65 (F := Ideal) x y (ix2 0 k) = dwSum x y 1 k := by
  unfold dwSum
  pointwise [val_main_v65, val_main_v64, val_main_v61, val_main_v60, val_main_v59, val_main_v17, val_main_cst_12, val_main_cst_14,
    ref_y, ref_shift]
  simp
theorem ref_tap2 (k : Fin 1536) : val_main_v54 (F := Ideal) x y (ix2 0 k) = dwSum x y 2 k := by
  unfold dwSum
  pointwise [val_main_v54, val_main_v53, val_main_v50, val_main_v49, val_main_v48, val_main_v24, val_main_cst_8, val_main_cst_10,
    ref_y, ref_shift]
  simp
theorem ref_tap3 (k : Fin 1536) : val_main_v44 (F := Ideal) x y (ix2 0 k) = dwSum x y 3 k := by
  unfold dwSum
  pointwise [val_main_v44, val_main_v43, val_main_v41, val_main_v40, val_main_v39, val_main_v31, val_main_cst_4, val_main_cst_6,
    ref_y, ref_shift]
  simp

/-- The second result: the gradients of the weights. -/
theorem ref_dw (j : Fin 4) (k : Fin 1536) : val_main_v78 (F := Ideal) x y (ix2 j k) = dwSum x y j k := by
  pointwise [val_main_v78, val_main_v67, val_main_v56, val_main_v77, val_main_v66, val_main_v55, val_main_v45,
    val_main_cst_7, val_main_cst_11, val_main_cst_15, val_main_cst_19]
  match j with
  | ⟨0, _⟩ => simp [ref_tap0]
  | ⟨1, _⟩ => simp [ref_tap1]
  | ⟨2, _⟩ => simp [ref_tap2]
  | ⟨3, _⟩ => simp [ref_tap3]

end reference

section kernel
variable (m : (ℓ : Loc nD τ sig) → Buf (Elt Ideal) ℓ) (c : Dev nD)

abbrev xOf : Vec Ideal S4112x2824 .f32 := m ((c.tc : Thread nD τ).loc main_arg0)
abbrev wOf : Vec Ideal S4x1536 .f32 := m ((c.tc : Thread nD τ).loc main_arg1)
abbrev yOf : Vec Ideal S4112x1536 .f32 := m ((c.tc : Thread nD τ).loc main_arg2)
abbrev pOf : Vec Ideal S4224x3200 .bf16 := m ((c.tc : Thread nD τ).loc main_arg3)

/-- The rows of the thirteen stacked pieces that hold the convolved columns and the next ones: the tenth piece. -/
theorem proj_row (x0 : Vec Ideal S512x4112 .f32) (x1 x2 x3 x4 x5 x6 x7 x8 : Vec Ideal S64x4112 .f32)
    (x9 : Vec Ideal S2048x4112 .f32) (x10 x11 : Vec Ideal S4x4112 .f32) (x12 : Vec Ideal S120x4112 .f32)
    (k : Fin 2048) (r : Fin 4112) :
    concatenate S3200x4112 0 [⟨S512x4112, x0⟩, ⟨S64x4112, x1⟩, ⟨S64x4112, x2⟩, ⟨S64x4112, x3⟩, ⟨S64x4112, x4⟩, ⟨S64x4112, x5⟩,
        ⟨S64x4112, x6⟩, ⟨S64x4112, x7⟩, ⟨S64x4112, x8⟩, ⟨S2048x4112, x9⟩, ⟨S4x4112, x10⟩, ⟨S4x4112, x11⟩, ⟨S120x4112, x12⟩]
        concatenates_S512x4112_S64x4112_S64x4112_S64x4112_S64x4112_S64x4112_S64x4112_S64x4112_S64x4112_S2048x4112_S4x4112_S4x4112_S120x4112_S3200x4112_d0
        (ix2 ⟨1024 + k.val, by omega⟩ r) = x9 (ix2 k r) :=
  concatenate_apply_piece (α := EReal) (t := S3200x4112) 0 [⟨S512x4112, x0⟩, ⟨S64x4112, x1⟩, ⟨S64x4112, x2⟩, ⟨S64x4112, x3⟩,
    ⟨S64x4112, x4⟩, ⟨S64x4112, x5⟩, ⟨S64x4112, x6⟩, ⟨S64x4112, x7⟩, ⟨S64x4112, x8⟩, ⟨S2048x4112, x9⟩, ⟨S4x4112, x10⟩,
    ⟨S4x4112, x11⟩, ⟨S120x4112, x12⟩] _ _ 9 (by decide : 9 < 13) S2048x4112 x9 rfl rfl 1024 rfl (ix2 k r)
    (fun b hb => match b with
      | ⟨0, _⟩ => absurd rfl hb
      | ⟨1, _⟩ => rfl) rfl

theorem xs_eq (n : Fin 4224) (k : Fin 1536) : xs m c n k = xPad (xOf m c) n k := by
  unfold xs xPad
  dsimp only [V, hostOps0]
  after_results
  rw [concatenate_pair_apply]
  by_cases h : n.val < 112
  · rw [dif_pos h]
    refine (dif_pos h).trans ?_
    pointwise
  · rw [dif_neg h]
    refine (dif_neg h).trans ((transpose_apply [1, 0] _ _ _ (ix2 (⟨1024 + k.val, by omega⟩ : Fin 3200) (⟨n.val - 112, by omega⟩ : Fin 4112)) (fun b => match b with | ⟨0, _⟩ => rfl | ⟨1, _⟩ => rfl)).trans ?_)
    refine Eq.trans (proj_row _ _ _ _ _ _ _ _ _ _ _ _ _ ⟨k.val, by omega⟩ ⟨n.val - 112, by omega⟩) ?_
    show HloOp.result _ _ (Proc.devRef .tc main_v7) (ix2 (⟨k.val, by omega⟩ : Fin 2048) (⟨n.val - 112, by omega⟩ : Fin 4112)) = _
    after_results_steps
    pointwise

theorem ds_eq (n : Fin 4224) (k : Fin 1536) : ds m c n k = yPad (yOf m c) n k := by
  unfold ds yPad
  dsimp only [V, hostOps0]
  after_results
  pointwise

theorem dFwd_eq (n : ℕ) (k : Fin 1536) : dFwd m c n k = yFwd (yOf m c) n k := by
  unfold dFwd yFwd
  simp only [ds_eq]

/-- A product of the weight's gradient. -/
theorem term_eq (j : Fin 4) (k : Fin 1536) (n : Fin 4224) :
    term m c j k n = yPad (yOf m c) n k * xShift (xOf m c) (j.val + n.val) (by omega) k := by
  unfold term xBack xShift
  rw [ds_eq]
  refine congrArg _ ?_
  by_cases h : n.val < 3 - j.val
  · rw [dif_pos h, dif_pos (by omega)]
  · rw [dif_neg h, dif_neg (by omega), xs_eq]
    congr 1
    exact Fin.ext (by dsimp only; omega)

theorem dx_entry (n : Fin 4224) (k : Fin 3200) : (dats m 0 c).arrAt 5 cfg0.N (ix2 n k : S4224x3200.Idx)
    = val_main_v84 (F := Ideal) (wOf m c) (yOf m c) (pOf m c) (ix2 n k) := by
  rw [ref_out]
  by_cases h : 1024 ≤ k.val ∧ k.val < 2560
  · rw [dif_pos h]
    refine Eq.trans ?_ (Eq.trans (dx_at m c n ⟨k.val - 1024, by omega⟩) ?_)
    · refine congrArg (fun q : Fin 3200 => (dats m 0 c).arrAt 5 cfg0.N (ix2 n q : S4224x3200.Idx)) ?_
      exact Fin.ext (by dsimp only; omega)
    · rw [ref_dx]
      unfold dxRow ws
      simp only [dFwd_eq]
      abel
  · rw [dif_neg h]
    exact dx_kept m c n k (by omega)

/-- The first array is the reference's. -/
theorem dx_eq : (dats m 0 c).arrAt 5 cfg0.N = val_main_v84 (F := Ideal) (wOf m c) (yOf m c) (pOf m c) := by
  funext i
  have e : i = ix2 (i 0) (i 1) := eq_ix2 i
  rw [e]
  exact dx_entry m c (i 0) (i 1)

theorem dw_entry (j : Fin 4) (k : Fin 1536) : (dats m 0 c).arrAt 6 cfg0.N (ix2 j k : S4x1536.Idx)
    = val_main_v78 (F := Ideal) (xOf m c) (yOf m c) (ix2 j k) := by
  refine (dw_at m c j k).trans (Eq.trans ?_ (ref_dw _ _ j k).symm)
  unfold dwSum
  exact congrArg (fun f : Fin 4224 → EReal => ∑ n, f n) (funext fun n => term_eq m c j k n)

/-- The second array is the reference's. -/
theorem dw_eq : (dats m 0 c).arrAt 6 cfg0.N = val_main_v78 (F := Ideal) (xOf m c) (yOf m c) := by
  funext i
  have e : i = ix2 (i 0) (i 1) := eq_ix2 i
  rw [e]
  exact dw_entry m c (i 0) (i 1)

end kernel
end Cert.ConvValue
end
-- ==== Proof.ConvClaims.lean ====
/-
  The claims about the convolution gradient kernel and its reference.
-/
module

public import proofs.«01_k».proof.Defs
public import proofs.«01_k».proof.Proof.ConvValue
public import proofs.«01_k».proof.Proof.Gen.ConvKernel.Frame
public import proofs.«01_k».proof.Proof.Gen.ConvReferenceIdeal.Run

@[expose] public section

noncomputable section

namespace Cert.ConvClaims

open Idealize.ShloMosaic Idealize.ShloMosaic.TcCoe Idealize.SL.Sem

/-- The convolution gradient kernel runs without fault, keeps its arguments and leaves every counter at zero. -/
theorem frame_kernel : Cert.quiescent_ConvKernel := fun m ρ _ => Cert.ConvKernel.Gen.frame m ρ

/-- So does its ideal program. -/
theorem frame_ideal : Cert.quiescent_ConvKernelIdeal := fun m ρ _ => Cert.ConvKernelIdeal.Gen.frame m ρ

/-- So does the reference. -/
theorem frame_reference : Cert.quiescent_ConvReferenceIdeal := fun m ρ _ =>
  (θ_run _ _ _).mono (fun r h => ⟨fun c => (h c).2.2, sem_eq_zero_of_no_sems (by decide) r.2⟩)
    (Cert.ConvReferenceIdeal.Value.run m ρ)

/-- The kernel and the reference compute the same gradients of the columns and of the weights. -/
theorem algebraic : Cert.algebraic_ConvKernelIdeal_ConvReferenceIdeal := fun m g m' g' _ hargs =>
  ⟨fun c => (Cert.ConvKernelIdeal.Gen.dats m 0 c).arrAt 5 Cert.ConvKernelIdeal.cfg0.N,
   fun c => (Cert.ConvKernelIdeal.Gen.dats m 0 c).arrAt 6 Cert.ConvKernelIdeal.cfg0.N,
   Cert.ConvKernelIdeal.Value.run_blocks m g,
   (θ_run _ _ _).mono (fun r h c => by
      obtain ⟨h0, h1, hk⟩ := h c
      obtain ⟨a0, a1, a2, a3⟩ := hargs c
      refine ⟨h0.trans ?_, h1.trans ?_, hk⟩
      · rw [a1, a2, a3]
        exact (Cert.ConvReferenceIdeal.Read.val_main_v84_eq _ _ _).trans (Cert.ConvValue.dx_eq m c).symm
      · rw [Cert.ConvReferenceIdeal.Read.val_main_v78_eq, a0, a2]
        exact (Cert.ConvValue.dw_eq m c).symm)
    (Cert.ConvReferenceIdeal.Value.run m' g')⟩

end Cert.ConvClaims

end
-- ==== Proof.Masks.lean ====
/-
  The mask of the padded rows that the kernels multiply with: 0 on the first 112 rows of the padded array, 1 on the others.
-/
module

public import proofs.«01_k».proof.Proof.Numbers

@[expose] public section

noncomputable section

namespace Cert.Masks

open Idealize.ShloMosaic

/-- Whether row `r` of tile `n` is one of the array's own rows. -/
theorem real_row : ∀ (n : Fin 11) (r : Fin 384),
    BitVec.setWidth 32 (IntOp.cmpi .sge (IntOp.addi (Scalar.muli (BitVec.ofNat 32 n.val) 384#32) (BitVec.ofNat 32 r.val)) 112#32)
      = if 112 ≤ n.val * 384 + r.val then 1#32 else 0#32 := by decide +kernel

/-- The mask of row `r` of tile `n` as a number. -/
theorem mask_tile (n : Fin 11) (r : Fin 384) :
    (FloatOps.sitofp (F := Ideal) .f32 (BitVec.setWidth 32
      (IntOp.cmpi .sge (IntOp.addi (Scalar.muli (BitVec.ofNat 32 n.val) 384#32) (BitVec.ofNat 32 r.val)) 112#32)) : EReal)
      = if 112 ≤ n.val * 384 + r.val then 1 else 0 := by
  rw [real_row]
  by_cases h : 112 ≤ n.val * 384 + r.val
  · rw [if_pos h, if_pos h]
    show (((1#32 : BitVec 32).toInt : ℝ) : EReal) = 1
    norm_num
  · rw [if_neg h, if_neg h]
    show (((0#32 : BitVec 32).toInt : ℝ) : EReal) = 0
    norm_num

end Cert.Masks

end
-- ==== Proof.Finite.lean ====
/-
  Extended reals that are real numbers: what keeps them real, how a precondition states that an array holds only such, and
  the logistic function written by the hyperbolic tangent.
-/
module

public import proofs.«01_k».proof.Proof.Numbers

@[expose] public section

noncomputable section

namespace Cert.Finite

open Idealize.ShloMosaic Cert.Numbers

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩

variable {x y : EReal}

theorem IsReal.add (hx : IsReal x) (hy : IsReal y) : IsReal (x + y) := by
  obtain ⟨a, rfl⟩ := hx; obtain ⟨b, rfl⟩ := hy; exact ⟨a + b, (EReal.coe_add a b).symm⟩
theorem IsReal.mul (hx : IsReal x) (hy : IsReal y) : IsReal (x * y) := by
  obtain ⟨a, rfl⟩ := hx; obtain ⟨b, rfl⟩ := hy; exact ⟨a * b, (EReal.coe_mul a b).symm⟩
theorem IsReal.neg (hx : IsReal x) : IsReal (-x) := by
  obtain ⟨a, rfl⟩ := hx; exact ⟨-a, (EReal.coe_neg a).symm⟩

/-- The sum of real numbers, as extended reals, is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, EReal.coe_add, ih]

theorem isReal_sum {ι : Type} (s : Finset ι) {f : ι → EReal} (h : ∀ k, IsReal (f k)) : IsReal (∑ k ∈ s, f k) := by
  choose g hg using h
  exact ⟨∑ k ∈ s, g k, by rw [← coe_sum]; exact Finset.sum_congr rfl fun k _ => hg k⟩

/-- Division of reals by a real other than zero. -/
theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reciprocal root of a positive real. -/
theorem rsqrt_real {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

theorem exp_real (r : ℝ) : Ideal.exp (r : EReal) = ((Real.exp r : ℝ) : EReal) := rfl
theorem tanh_real (r : ℝ) : Ideal.tanh (r : EReal) = ((Real.tanh r : ℝ) : EReal) := rfl

theorem isReal_exp (hx : IsReal x) : IsReal (Ideal.exp x) := by obtain ⟨a, rfl⟩ := hx; exact ⟨_, exp_real a⟩

/-- The logistic function of a real. -/
def sig (r : ℝ) : ℝ := 1 / (1 + Real.exp (-r))

/-- The logistic function as the reference writes it. -/
theorem div_sig (r : ℝ) : Ideal.div 1 (1 + Ideal.exp (-(r : EReal))) = ((sig r : ℝ) : EReal) := by
  rw [← EReal.coe_neg, exp_real, ← EReal.coe_one, ← EReal.coe_add, div_real _ (by positivity)]
  rfl

/-- The logistic function by the hyperbolic tangent of half the argument. -/
theorem half_tanh (r : ℝ) : 1 / 2 * (Real.tanh (1 / 2 * r) + 1) = sig r := by
  unfold sig
  rw [Real.tanh_eq_sinh_div_cosh, Real.sinh_eq, Real.cosh_eq]
  have e : Real.exp (-r) = Real.exp (-(1 / 2 * r)) * Real.exp (-(1 / 2 * r)) := by rw [← Real.exp_add]; ring_nf
  have e1 : Real.exp (1 / 2 * r) * Real.exp (-(1 / 2 * r)) = 1 := by rw [← Real.exp_add]; simp
  rw [e]
  generalize Real.exp (1 / 2 * r) = p at *
  have hq : 0 < Real.exp (-(1 / 2 * r)) := Real.exp_pos _
  generalize Real.exp (-(1 / 2 * r)) = q at *
  have hp : p = 1 / q := by field_simp; exact e1
  subst hp
  field_simp
  ring

/-- The logistic function as the kernels write it. -/
theorem tanh_sig (r : ℝ) : (((1 : ℝ) / 2 : ℝ) : EReal) * (Ideal.tanh ((((1 : ℝ) / 2 : ℝ) : EReal) * (r : EReal)) + 1) = ((sig r : ℝ) : EReal) := by
  rw [← EReal.coe_mul, tanh_real, ← EReal.coe_one, ← EReal.coe_add, ← EReal.coe_mul, half_tanh]

/-- An extended real whose absolute value is below the infinity is a real number. -/
theorem real_of_abs (a : EReal) (h : max a (-a) < ⊤) : IsReal a := by
  induction a using EReal.rec with
  | bot => simp at h
  | coe r => exact ⟨r, rfl⟩
  | top => simp at h

/-- An array whose absolute values a precondition compares below the infinity holds real numbers only. -/
theorem real_of_pre {s : Shape} (x b : FVec Ideal s .f32) (hb : ∀ i, b i = (⊤ : EReal))
    (h : cmpf .olt (Host.absf x) b = fun _ => 1#1) (i : s.Idx) : IsReal (x i) := by
  have h1 : Ideal.cmp .olt (max (x i : EReal) (-(x i : EReal))) (b i) = 1#1 := congrFun h i
  rw [hb i] at h1
  have h2 : max (x i : EReal) (-(x i : EReal)) < ⊤ := by
    by_contra hn
    rw [show Ideal.cmp .olt (max (x i : EReal) (-(x i : EReal))) ⊤ = 0#1 by simp [Ideal.cmp, hn]] at h1
    exact absurd h1 (by decide)
  exact real_of_abs _ h2

end Cert.Finite

end
-- ==== Proof.Norm.lean ====
/-
  The gradient of the root-mean-square norm of one row, as both the kernels and the reference compute it from the row, the
  row's cotangent and the weights; it is real where these are.
-/
module

public import proofs.«01_k».proof.Proof.Finite

@[expose] public section

noncomputable section

namespace Cert.Norm

open Idealize.ShloMosaic Cert.Numbers Cert.Finite

variable (x g w : Fin 1024 → EReal)

/-- The mean square of a row, with the small number added. -/
def meanEps : EReal := Ideal.div (∑ k, x k * x k) (Ideal.ofBits .f32 1149239296#32) + Ideal.ofBits .f32 897988541#32

/-- Its reciprocal root. -/
def rr : EReal := Ideal.rsqrt (meanEps x)

/-- The row's part of the gradient through the mean square, before it is multiplied by the entries. -/
def qq : EReal :=
  Ideal.div ((∑ k, x k * (g k * w k)) * (Ideal.ofBits .f32 3204448256#32 * Ideal.div (rr x) (meanEps x)))
    (Ideal.ofBits .f32 1149239296#32)

/-- The gradient of the norm with respect to entry `k` of the row. -/
def dx (k : Fin 1024) : EReal := g k * w k * rr x + x k * (∑ _u : Fin 1, qq x g w) + (∑ _u : Fin 1, qq x g w) * x k

/-- What the row adds to the gradient of weight `k`. -/
def dw (k : Fin 1024) : EReal := x k * rr x * g k

theorem meanEps_real (hx : ∀ k, IsReal (x k)) : ∃ r : ℝ, 0 < r ∧ meanEps x = (r : EReal) := by
  obtain ⟨e, he, h⟩ := f32_eps
  choose a ha using hx
  refine ⟨(∑ k, a k * a k) / 1024 + e, by have : 0 ≤ ∑ k, a k * a k := Finset.sum_nonneg fun k _ => mul_self_nonneg _; positivity, ?_⟩
  have h2 : ∑ k, x k * x k = ((∑ k, a k * a k : ℝ) : EReal) := by
    rw [← coe_sum]; exact Finset.sum_congr rfl fun k _ => by rw [ha k, EReal.coe_mul]
  unfold meanEps
  rw [h2, f32_1024, h, div_real _ (by norm_num), EReal.coe_add]

theorem rr_real (hx : ∀ k, IsReal (x k)) : IsReal (rr x) := by
  obtain ⟨r, hr, h⟩ := meanEps_real x hx
  unfold rr
  rw [h, rsqrt_real hr]
  exact isReal_coe _

theorem qq_real (hx : ∀ k, IsReal (x k)) (hg : ∀ k, IsReal (g k)) (hw : ∀ k, IsReal (w k)) : IsReal (qq x g w) := by
  obtain ⟨r, hr, h⟩ := meanEps_real x hx
  obtain ⟨s, hs⟩ := rr_real x hx
  unfold qq
  rw [hs, h, f32_1024, f32_neg_half, div_real _ hr.ne']
  obtain ⟨t, ht⟩ : IsReal ((∑ k, x k * (g k * w k)) * (((-(1 / 2) : ℝ) : EReal) * ((s / r : ℝ) : EReal))) :=
    (isReal_sum _ fun k => (hx k).mul ((hg k).mul (hw k))).mul ((isReal_coe _).mul (isReal_coe _))
  rw [ht, div_real _ (by norm_num)]
  exact isReal_coe _

theorem dx_real (hx : ∀ k, IsReal (x k)) (hg : ∀ k, IsReal (g k)) (hw : ∀ k, IsReal (w k)) (k : Fin 1024) : IsReal (dx x g w k) := by
  have q := isReal_sum Finset.univ fun _u : Fin 1 => qq_real x g w hx hg hw
  exact ((((hg k).mul (hw k)).mul (rr_real x hx)).add ((hx k).mul q)).add (q.mul (hx k))

theorem dw_zero (hx : ∀ k, x k = 0) (k : Fin 1024) : dw x g k = 0 := by
  unfold dw
  rw [hx k, zero_mul, zero_mul]

/-- A sum over all rows whose padding is zero is the sum over the others. -/
theorem sum_rows (f : Fin 4224 → EReal) (hf : ∀ n : Fin 4224, n.val < 112 → f n = 0) :
    ∑ n, f n = ∑ n : Fin 4112, f ⟨112 + n.val, by omega⟩ := by
  have e := Fin.sum_univ_add (a := 112) (b := 4112) f
  refine e.trans ?_
  rw [Finset.sum_eq_zero (fun i _ => hf _ i.isLt), zero_add]
  rfl

end Cert.Norm

end
-- ==== Proof.FfndKernelValue.lean ====
/-
  What one grid point of the gradient of the second feed-forward layer computes over the extended reals: its rows of the norm's
  gradient, what it adds to the gradient of the norm's weights, and its rows of the gradients of the gate and of the up
  projection.
-/
module

public import proofs.«01_k».proof.Proof.Masks
public import proofs.«01_k».proof.Proof.Norm
public import proofs.«01_k».proof.Proof.Rows
public import proofs.«01_k».proof.Proof.Gen.FfndKernelIdeal.Value

@[expose] public section

noncomputable section

namespace Cert.FfndKernelIdeal.Value

open Cert.FfndKernelIdeal Cert.FfndKernelIdeal.Gen Idealize.ShloMosaic Idealize.ShloMosaic.TcCoe Idealize.SL.Sem
open Cert.Numbers Cert.Rows

section cases
variable (c : Dev nD) (i : grid0.Coords) (a1 : Memref sig .tc .vmem S384x1024 .f32) (h1 : a1.IsWhole)
  (a2 : Memref sig .tc .vmem S384x1024 .f32) (h2 : a2.IsWhole) (a3 : Memref sig .tc .vmem S1x1024 .f32) (h3 : a3.IsWhole)
  (a4 : Memref sig .tc .vmem S2816x1024 .bf16) (h4 : a4.IsWhole) (a5 : Memref sig .tc .vmem S384x2816 .bf16) (h5 : a5.IsWhole)
  (a6 : Memref sig .tc .vmem S384x2816 .bf16) (h6 : a6.IsWhole) (a7 : Memref sig .tc .vmem S384x1024 .bf16) (h7 : a7.IsWhole)
  (a8 : Memref sig .tc .vmem S1x1024 .f32) (h8 : a8.IsWhole) (a9 : Memref sig .tc .vmem S384x5632 .bf16) (h9 : a9.IsWhole)
  (x0 : Vec Ideal S384x1024 .f32) (x1 : Vec Ideal S384x1024 .f32) (x2 : Vec Ideal S1x1024 .f32) (x3 : Vec Ideal S2816x1024 .bf16)
  (x4 : Vec Ideal S384x2816 .bf16) (x5 : Vec Ideal S384x2816 .bf16) (xo : Vec Ideal S1x1024 .f32)

/-- The cotangent of a row of the norm: half of the row's cotangent. -/
def ctRow (r : Fin 384) (k : Fin 1024) : EReal := Ideal.ofBits .f32 1056964608#32 * x0 (ix2 r k)

/-- Entry `(r, k)` of the point's rows of the norm's gradient, zero in padded rows. -/
def dfAt (r : Fin 384) (k : Fin 1024) : EReal :=
  Norm.dx (fun k => x1 (ix2 r k)) (ctRow x0 r) (fun k => x2 (ix2 0 k)) k * (if 112 ≤ (i 0).val * 384 + r.val then 1 else 0)

/-- Entry `(r, j)` of the rows' product with the transposed weight. -/
def daAt (r : Fin 384) (j : Fin 2816) : EReal := ∑ k : Fin 1024, dfAt i x0 x1 x2 r k * x3 (ix2 j k)

/-- The logistic function of the gate, by the hyperbolic tangent. -/
def sgAt (r : Fin 384) (j : Fin 2816) : EReal :=
  Ideal.ofBits .bf16 16128#16 * (Ideal.tanh (Ideal.ofBits .bf16 16128#16 * x4 (ix2 r j)) + 1)

/-- Entry `(r, j)` of the gate's gradient. -/
def dgAt (r : Fin 384) (j : Fin 2816) : EReal :=
  daAt i x0 x1 x2 x3 r j * x5 (ix2 r j) * sgAt x4 r j * (1 + x4 (ix2 r j) * (1 - sgAt x4 r j))

/-- Entry `(r, j)` of the up projection's gradient. -/
def duAt (r : Fin 384) (j : Fin 2816) : EReal := daAt i x0 x1 x2 x3 r j * x4 (ix2 r j) * sgAt x4 r j

/-- What the point adds to the gradient of weight `k`. -/
def dwAt (k : Fin 1024) : EReal := ∑ r : Fin 384, Norm.dw (fun k => x1 (ix2 r k)) (ctRow x0 r) k

/-- The value stored into the block of the norm's gradient. -/
theorem pay_df (r : Fin 384) (k : Fin 1024) :
    k0_pay10 (F := Ideal) (k0_pay8 x1 x2 x0) (iota .tc S384x1 32 [0] iota_S384x1_d0_w32) (k0_pay9 i) (ix2 r k)
      = dfAt i x0 x1 x2 r k := by
  unfold dfAt
  rw [← Masks.mask_tile (i 0) r]
  pointwise [k0_pay10, k0_pay9, k0_pay8, k0_pay6, k0_pay5, k0_pay4, k0_pay3]
  rfl

/-- The product with the transposed weight. -/
theorem pay_da (r : Fin 384) (j : Fin 2816) :
    k0_pay14 (F := Ideal) (k0_pay8 x1 x2 x0) (iota .tc S384x1 32 [0] iota_S384x1_d0_w32) (k0_pay9 i) x3 (ix2 r j)
      = daAt i x0 x1 x2 x3 r j := by
  unfold daAt
  simp only [← pay_df]
  pointwise [k0_pay14]

/-- What the first point stores in its block of the norm's gradient. -/
theorem outA_df (hc0 : cond0_0 i) (r : Fin 384) (k : Fin 1024) :
    out0_A_6 c i a1 h1 a2 h2 a3 h3 a4 h4 a5 h5 a6 h6 a7 h7 a8 h8 a9 h9 hc0 x0 x1 x2 x3 x4 x5 (ix2 r k) = dfAt i x0 x1 x2 r k := by
  unfold out0_A_6
  rw [View.read_writes_eq_canon _ _ _ fun _ => cover0_A_6 ..]
  unfold kernelRun0_A; dsimp only; sl_unfold_words
  rw [View.canon_unit_zero zeros2]
  simp only [View.readAt_eq_ld, Memref.IsWhole.read_unread, ld_all]
  exact pay_df i x0 x1 x2 r k

/-- What a later point stores in its block of the norm's gradient. -/
theorem outB_df (hc0 : ¬cond0_0 i) (r : Fin 384) (k : Fin 1024) :
    out0_B_6 c i a1 h1 a2 h2 a3 h3 a4 h4 a5 h5 a6 h6 a7 h7 a8 h8 a9 h9 hc0 x0 x1 x2 x3 x4 x5 xo (ix2 r k) = dfAt i x0 x1 x2 r k := by
  unfold out0_B_6
  rw [View.read_writes_eq_canon _ _ _ fun _ => cover0_B_6 ..]
  unfold kernelRun0_B; dsimp only; sl_unfold_words
  rw [View.canon_unit_zero zeros2]
  simp only [View.readAt_eq_ld, Memref.IsWhole.read_unread, ld_all]
  exact pay_df i x0 x1 x2 r k

/-- The point's sum over its rows. -/
theorem pay_dw (k : Fin 1024) : k0_pay7 (F := Ideal) x1 x0 (ix2 0 k) = dwAt x0 x1 k := by
  pointwise [k0_pay7, k0_pay6, k0_pay5, k0_pay4, k0_pay3]
  rfl

/-- The first point leaves its own sums in the gradient of the weights. -/
theorem outA_dw (hc0 : cond0_0 i) (k : Fin 1024) :
    out0_A_7 c i a1 h1 a2 h2 a3 h3 a4 h4 a5 h5 a6 h6 a7 h7 a8 h8 a9 h9 hc0 x0 x1 x2 x3 x4 x5 (ix2 0 k) = dwAt x0 x1 k := by
  unfold out0_A_7
  rw [View.read_writes_eq_canon _ _ _ fun _ => cover0_A_7 ..]
  unfold kernelRun0_A; dsimp only; sl_unfold_words
  rw [View.canon_cons_unit_zero (S := S1x1024) zeros2]
  simp only [View.readAt_eq_ld, View.readCov_unit_zero (S := S1x1024) _ zeros2, Memref.IsWhole.read_unread,
    ld_all]
  pointwise [k0_pay12, k0_pay11]
  exact pay_dw x0 x1 k

/-- A later point adds its sums. -/
theorem outB_dw (hc0 : ¬cond0_0 i) (k : Fin 1024) :
    out0_B_7 c i a1 h1 a2 h2 a3 h3 a4 h4 a5 h5 a6 h6 a7 h7 a8 h8 a9 h9 hc0 x0 x1 x2 x3 x4 x5 xo (ix2 0 k) = xo (ix2 0 k) + dwAt x0 x1 k := by
  unfold out0_B_7
  rw [View.read_writes_eq_canon _ _ _ fun _ => cover0_B_7 ..]
  unfold kernelRun0_B; dsimp only; sl_unfold_words
  rw [View.canon_unit_zero zeros2]
  simp only [View.readAt_eq_ld, Memref.IsWhole.read_unread,
    ld_all]
  pointwise [k0_pay12]
  exact congrArg _ (pay_dw x0 x1 k)

/-- The two stores into the block of the gate's and the up projection's gradients. -/
theorem dgu_at (r : Fin 384) (j : Fin 5632) (p0 p1 : Vec Ideal S384x2816 .bf16)
    (hg : ∀ j, p0 (ix2 r j) = dgAt i x0 x1 x2 x3 x4 x5 r j) (hu : ∀ j, p1 (ix2 r j) = duAt i x0 x1 x2 x3 x4 r j) :
    View.canon (Val := Elt Ideal) (e := .bf16) [⟨Rect.unit ![0, 2816] ![384, 2816] inb_S384x5632_S384x2816_0_2816, p1⟩,
      ⟨Rect.unit ![0, 0] ![384, 2816] inb_S384x5632_S384x2816_0_0, p0⟩] (ix2 r j)
      = if h : j.val < 2816 then dgAt i x0 x1 x2 x3 x4 x5 r ⟨j.val, h⟩ else duAt i x0 x1 x2 x3 x4 r ⟨j.val - 2816, by omega⟩ := by
  refine (canon_cols_cons (k := 2816) 2816 _ _ _ r j).trans ?_
  by_cases h : j.val < 2816
  · rw [dif_neg (by omega), dif_pos h]
    refine (canon_cols_cons (k := 2816) 0 _ _ _ r j).trans ?_
    rw [dif_pos ⟨by omega, by omega⟩]
    exact hg _
  · rw [dif_pos ⟨by omega, by omega⟩, dif_neg h]
    exact hu _

/-- The value stored into the gate's columns. -/
theorem pay_dg (r : Fin 384) (j : Fin 2816) :
    k0_pay1 (F := Ideal) (k0_pay16 (k0_pay8 x1 x2 x0) (iota .tc S384x1 32 [0] iota_S384x1_d0_w32) (k0_pay9 i) x3 x4 x5)
      (k0_pay17 x4) (Scalar.ofBits .bf16 0x3F80#16) (ix2 r j) = dgAt i x0 x1 x2 x3 x4 x5 r j := by
  unfold dgAt
  rw [← pay_da]
  pointwise [k0_pay1, k0_pay16, k0_pay17, k0_pay15, k0_pay13]
  rfl

/-- The value stored into the up projection's columns. -/
theorem pay_du (r : Fin 384) (j : Fin 2816) :
    k0_pay2 (F := Ideal) (k0_pay13 x4) (k0_pay14 (k0_pay8 x1 x2 x0) (iota .tc S384x1 32 [0] iota_S384x1_d0_w32) (k0_pay9 i) x3)
      (k0_pay15 x4) (ix2 r j) = duAt i x0 x1 x2 x3 x4 r j := by
  unfold duAt
  rw [← pay_da]
  pointwise [k0_pay2, k0_pay15, k0_pay13]
  rfl

/-- What the first point stores in its block of the gate's and the up projection's gradients. -/
theorem outA_dgu (hc0 : cond0_0 i) (r : Fin 384) (j : Fin 5632) :
    out0_A_8 c i a1 h1 a2 h2 a3 h3 a4 h4 a5 h5 a6 h6 a7 h7 a8 h8 a9 h9 hc0 x0 x1 x2 x3 x4 x5 (ix2 r j)
      = if h : j.val < 2816 then dgAt i x0 x1 x2 x3 x4 x5 r ⟨j.val, h⟩ else duAt i x0 x1 x2 x3 x4 r ⟨j.val - 2816, by omega⟩ := by
  unfold out0_A_8
  rw [View.read_writes_eq_canon _ _ _ fun _ => cover0_A_8 ..]
  unfold kernelRun0_A; dsimp only; sl_unfold_words
  simp only [View.readAt_eq_ld, Memref.IsWhole.read_unread,
    ld_all]
  exact dgu_at i x0 x1 x2 x3 x4 x5 r j _ _ (pay_dg i x0 x1 x2 x3 x4 x5 r) (pay_du i x0 x1 x2 x3 x4 r)

/-- What a later point stores in its block of the gate's and the up projection's gradients. -/
theorem outB_dgu (hc0 : ¬cond0_0 i) (r : Fin 384) (j : Fin 5632) :
    out0_B_8 c i a1 h1 a2 h2 a3 h3 a4 h4 a5 h5 a6 h6 a7 h7 a8 h8 a9 h9 hc0 x0 x1 x2 x3 x4 x5 xo (ix2 r j)
      = if h : j.val < 2816 then dgAt i x0 x1 x2 x3 x4 x5 r ⟨j.val, h⟩ else duAt i x0 x1 x2 x3 x4 r ⟨j.val - 2816, by omega⟩ := by
  unfold out0_B_8
  rw [View.read_writes_eq_canon _ _ _ fun _ => cover0_B_8 ..]
  unfold kernelRun0_B; dsimp only; sl_unfold_words
  simp only [View.readAt_eq_ld, Memref.IsWhole.read_unread,
    ld_all]
  exact dgu_at i x0 x1 x2 x3 x4 x5 r j _ _ (pay_dg i x0 x1 x2 x3 x4 x5 r) (pay_du i x0 x1 x2 x3 x4 r)

end cases
end Cert.FfndKernelIdeal.Value
end
-- ==== Proof.FfndBlocks.lean ====
/-
  The three arrays the gradient of the second feed-forward layer leaves over the extended reals: the norm's gradient row by row,
  the gradient of its weights as sums over all rows, and the gradients of the gate and of the up projection row by row.
-/
module

public import proofs.«01_k».proof.Proof.FfndKernelValue
public import Idealize.ShloMosaic.Lib.Pipeline.ValueKit.Acc

@[expose] public section

noncomputable section

namespace Cert.FfndKernelIdeal.Value

open Cert.FfndKernelIdeal Cert.FfndKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (grid0.coords t 0).val = t.val ∧
    (win0_0.index t 0 = t.val ∧ win0_0.index t 1 = 0) ∧ (win0_1.index t 0 = t.val ∧ win0_1.index t 1 = 0) ∧
    (win0_2.index t 0 = 0 ∧ win0_2.index t 1 = 0) ∧ (win0_3.index t 0 = 0 ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0) ∧ (win0_7.index t 0 = 0 ∧ win0_7.index t 1 = 0) ∧
    (win0_8.index t 0 = t.val ∧ win0_8.index t 1 = 0) :=
  (by decide +kernel : ∀ t : Fin grid0.N, _)

/-- The arrays the region finds: the padded cotangent, the padded product, the weights, the padded gate and up projection. -/
def dhoA (n : Fin 4224) (k : Fin 1024) : EReal := (V m c main_v13 : Vec Ideal S4224x1024 .f32) (ix2 n k)
def fA (n : Fin 4224) (k : Fin 1024) : EReal := (V m c main_v11 : Vec Ideal S4224x1024 .f32) (ix2 n k)
def nwA (k : Fin 1024) : EReal := (V m c main_arg4 : Vec Ideal S1x1024 .f32) (ix2 0 k)
def wmA (j : Fin 2816) (k : Fin 1024) : EReal := (V m c main_v6 : Vec Ideal S2816x1024 .bf16) (ix2 j k)
def gA (n : Fin 4224) (j : Fin 2816) : EReal := (V m c main_v2 : Vec Ideal S4224x2816 .bf16) (ix2 n j)
def uA (n : Fin 4224) (j : Fin 2816) : EReal := (V m c main_v5 : Vec Ideal S4224x2816 .bf16) (ix2 n j)

/-- Row `r` of the point's row block. -/
abbrev rowOf (t : Fin cfg0.N) (r : Fin 384) : Fin 4224 := ⟨t.val * 384 + r.val, by have ht : t.val < 11 := t.isLt; omega⟩

theorem block_dho (t : Fin cfg0.N) (r : Fin 384) (k : Fin 1024) :
    (iblk m c 0 t : Vec Ideal S384x1024 .f32) (ix2 r k) = dhoA m c (rowOf t r) k :=
  congrArg (V m c main_v13) (at2 (at_block (index_facts t).2.1.1) (at_first (index_facts t).2.1.2))

theorem block_f (t : Fin cfg0.N) (r : Fin 384) (k : Fin 1024) :
    (iblk m c 1 t : Vec Ideal S384x1024 .f32) (ix2 r k) = fA m c (rowOf t r) k :=
  congrArg (V m c main_v11) (at2 (at_block (index_facts t).2.2.1.1) (at_first (index_facts t).2.2.1.2))

theorem block_nw (t : Fin cfg0.N) (k : Fin 1024) : (iblk m c 2 t : Vec Ideal S1x1024 .f32) (ix2 0 k) = nwA m c k :=
  congrArg (V m c main_arg4) (at2 (at_first (index_facts t).2.2.2.1.1) (at_first (index_facts t).2.2.2.1.2))

theorem block_wm (t : Fin cfg0.N) (j : Fin 2816) (k : Fin 1024) :
    (iblk m c 3 t : Vec Ideal S2816x1024 .bf16) (ix2 j k) = wmA m c j k :=
  congrArg (V m c main_v6) (at2 (at_first (index_facts t).2.2.2.2.1.1) (at_first (index_facts t).2.2.2.2.1.2))

theorem block_g (t : Fin cfg0.N) (r : Fin 384) (j : Fin 2816) :
    (iblk m c 4 t : Vec Ideal S384x2816 .bf16) (ix2 r j) = gA m c (rowOf t r) j :=
  congrArg (V m c main_v2) (at2 (at_block (index_facts t).2.2.2.2.2.1.1) (at_first (index_facts t).2.2.2.2.2.1.2))

theorem block_u (t : Fin cfg0.N) (r : Fin 384) (j : Fin 2816) :
    (iblk m c 5 t : Vec Ideal S384x2816 .bf16) (ix2 r j) = uA m c (rowOf t r) j :=
  congrArg (V m c main_v5) (at2 (at_block (index_facts t).2.2.2.2.2.2.1.1) (at_first (index_facts t).2.2.2.2.2.2.1.2))

/-- Row `n` of the norm's gradient. -/
def dfRow (n : Fin 4224) (k : Fin 1024) : EReal :=
  Norm.dx (fun k => fA m c n k) (fun k => Ideal.ofBits .f32 1056964608#32 * dhoA m c n k) (fun k => nwA m c k) k
    * (if 112 ≤ n.val then 1 else 0)

/-- Row `n` of its product with the transposed weight. -/
def daRow (n : Fin 4224) (j : Fin 2816) : EReal := ∑ k : Fin 1024, dfRow m c n k * wmA m c j k

/-- The logistic function of the gate. -/
def sgRow (n : Fin 4224) (j : Fin 2816) : EReal :=
  Ideal.ofBits .bf16 16128#16 * (Ideal.tanh (Ideal.ofBits .bf16 16128#16 * gA m c n j) + 1)

/-- Row `n` of the gate's gradient. -/
def dgRow (n : Fin 4224) (j : Fin 2816) : EReal :=
  daRow m c n j * uA m c n j * sgRow m c n j * (1 + gA m c n j * (1 - sgRow m c n j))

/-- Row `n` of the up projection's gradient. -/
def duRow (n : Fin 4224) (j : Fin 2816) : EReal := daRow m c n j * gA m c n j * sgRow m c n j

/-- What row `n` adds to the gradient of weight `k`. -/
def dwTerm (k : Fin 1024) (n : Fin 4224) : EReal :=
  Norm.dw (fun k => fA m c n k) (fun k => Ideal.ofBits .f32 1056964608#32 * dhoA m c n k) k

theorem dfAt_eq (t : Fin cfg0.N) (r : Fin 384) (k : Fin 1024) :
    dfAt (grid0.coords t) (iblk m c 0 t) (iblk m c 1 t) (iblk m c 2 t) r k = dfRow m c (rowOf t r) k := by
  unfold dfAt dfRow ctRow
  simp only [block_dho, block_f, block_nw, (index_facts t).1]

theorem daAt_eq (t : Fin cfg0.N) (r : Fin 384) (j : Fin 2816) :
    daAt (grid0.coords t) (iblk m c 0 t) (iblk m c 1 t) (iblk m c 2 t) (iblk m c 3 t) r j = daRow m c (rowOf t r) j := by
  unfold daAt daRow
  simp only [dfAt_eq, block_wm]

theorem dgAt_eq (t : Fin cfg0.N) (r : Fin 384) (j : Fin 2816) :
    dgAt (grid0.coords t) (iblk m c 0 t) (iblk m c 1 t) (iblk m c 2 t) (iblk m c 3 t) (iblk m c 4 t) (iblk m c 5 t) r j
      = dgRow m c (rowOf t r) j := by
  unfold dgAt dgRow sgAt sgRow
  simp only [daAt_eq, block_g, block_u]

theorem duAt_eq (t : Fin cfg0.N) (r : Fin 384) (j : Fin 2816) :
    duAt (grid0.coords t) (iblk m c 0 t) (iblk m c 1 t) (iblk m c 2 t) (iblk m c 3 t) (iblk m c 4 t) r j
      = duRow m c (rowOf t r) j := by
  unfold duAt duRow sgAt sgRow
  simp only [daAt_eq, block_g]

theorem dwAt_eq (t : Fin cfg0.N) (k : Fin 1024) :
    dwAt (iblk m c 0 t) (iblk m c 1 t) k = ∑ r : Fin 384, dwTerm m c k (rowOf t r) := by
  unfold dwAt dwTerm ctRow
  simp only [block_dho, block_f]

/-- The block of the norm's gradient after each point. -/
theorem outs_df (t : Fin cfg0.N) (r : Fin 384) (k : Fin 1024) :
    (outsAt0 m c t.val t.isLt).1 (ix2 r k) = dfRow m c (rowOf t r) k := by
  by_cases h0 : t.val % 11 = 0
  · rw [outsAt0_A m c t h0, ← dfAt_eq]
    dsimp only
    rw [outA_df]
  · rw [outsAt0_B m c t h0, ← dfAt_eq]
    dsimp only
    rw [outB_df]

/-- The row of the gate's and the up projection's gradients, side by side. -/
def dguRow (n : Fin 4224) (j : Fin 5632) : EReal :=
  if h : j.val < 2816 then dgRow m c n ⟨j.val, h⟩ else duRow m c n ⟨j.val - 2816, by omega⟩

/-- The block of the gate's and the up projection's gradients after each point. -/
theorem outs_dgu (t : Fin cfg0.N) (r : Fin 384) (j : Fin 5632) :
    (outsAt0 m c t.val t.isLt).2.2 (ix2 r j) = dguRow m c (rowOf t r) j := by
  unfold dguRow
  simp only [← dgAt_eq, ← duAt_eq]
  by_cases h0 : t.val % 11 = 0
  · rw [outsAt0_A m c t h0]
    dsimp only
    rw [outA_dgu]
  · rw [outsAt0_B m c t h0]
    dsimp only
    rw [outB_dgu]

/-- Entry `k` of the block of the weights' gradient after point `n`. -/
def dwCell (n : ℕ) (hn : n < 11) (k : Fin 1024) : EReal := (outsAt0 m c n hn).2.1 (ix2 0 k)

/-- After point `n`: the sums over the rows of the blocks up to `n`. -/
theorem dw_sum (k : Fin 1024) (n : ℕ) : ∀ hn : n < 11,
    dwCell m c n hn k = ∑ s : Fin (n + 1), ∑ r : Fin 384, dwTerm m c k ⟨s.val * 384 + r.val, by omega⟩ := by
  induction n with
  | zero =>
    intro hn
    unfold dwCell
    rw [Fin.sum_univ_one, outsAt0_A m c ⟨0, hn⟩ rfl]
    dsimp only
    rw [outA_dw]
    exact dwAt_eq m c ⟨0, hn⟩ k
  | succ n ih =>
    intro hn
    have e : dwCell m c (n + 1) hn k = dwCell m c n (by omega) k + ∑ r : Fin 384, dwTerm m c k (rowOf ⟨n + 1, hn⟩ r) := by
      unfold dwCell
      rw [outsAt0_B m c ⟨n + 1, hn⟩ (by dsimp only; omega)]
      dsimp only
      rw [outB_dw]
      exact congrArg _ (dwAt_eq m c ⟨n + 1, hn⟩ k)
    rw [Fin.sum_univ_castSucc, e, ih (by omega)]
    rfl

/-- The array of the norm's gradient at an entry. -/
theorem df_at (n : Fin 4224) (k : Fin 1024) :
    (dats m 0 c).arrAt 6 cfg0.N (ix2 n k : S4224x1024.Idx) = dfRow m c n k := by
  have ht : n.val / 384 < cfg0.N := by show _ < 11; omega
  have hi := (index_facts ⟨_, ht⟩).2.2.2.2.2.2.2.1
  have h := congrFun (blocks6 m c ⟨_, ht⟩ (flush0_6 _)) (ix2 (⟨n.val % 384, by omega⟩ : Fin 384) k)
  rw [flushed6, View.read_apply] at h
  refine Eq.trans (congrArg _ ?_) (h.trans ((outs_df m c ⟨_, ht⟩ ⟨n.val % 384, by omega⟩ k).trans ?_))
  · exact at2 (at_row hi.1) (at_first hi.2).symm
  · congr 1
    exact Fin.ext (by dsimp only; omega)

set_option maxRecDepth 20000 in
/-- The array of the gate's and the up projection's gradients at an entry. -/
theorem dgu_arr (n : Fin 4224) (j : Fin 5632) :
    (dats m 0 c).arrAt 8 cfg0.N (ix2 n j : S4224x5632.Idx) = dguRow m c n j := by
  have ht : n.val / 384 < cfg0.N := by show _ < 11; omega
  have hi := (index_facts ⟨_, ht⟩).2.2.2.2.2.2.2.2.2
  have h := congrFun (blocks8 m c ⟨_, ht⟩ (flush0_8 _)) (ix2 (⟨n.val % 384, by omega⟩ : Fin 384) j)
  rw [flushed8, View.read_apply] at h
  refine Eq.trans (congrArg _ ?_) (h.trans ((outs_dgu m c ⟨_, ht⟩ ⟨n.val % 384, by omega⟩ j).trans ?_))
  · exact at2 (at_row hi.1) (at_first hi.2).symm
  · congr 1
    exact Fin.ext (by dsimp only; omega)

/-- Only the last point writes the gradient of the weights back. -/
theorem disjoint7 : ∀ t t' : Fin cfg0.N, (cfg0.win 7).flush t = true → (cfg0.win 7).flush t' = true → t ≠ t' →
    Disjoint ((cfg0.win 7).blk t).view.set ((cfg0.win 7).blk t').view.set := fun t t' h h' hne => by
  have h0 := (flush0_7 t).mp h
  have h0' := (flush0_7 t').mp h'
  have ht : t.val < 11 := t.isLt
  have ht' : t'.val < 11 := t'.isLt
  exact absurd (Fin.ext (by omega)) hne

/-- The array of the weights' gradient at an entry: the sum over all rows. -/
theorem dw_at (k : Fin 1024) :
    (dats m 0 c).arrAt 7 cfg0.N (ix2 0 k : S1x1024.Idx) = ∑ n : Fin 4224, dwTerm m c k n := by
  have ht : 10 < cfg0.N := by show _ < 11; omega
  have hi := (index_facts ⟨_, ht⟩).2.2.2.2.2.2.2.2.1
  have hf : (cfg0.win 7).flush ⟨_, ht⟩ = true := (flush0_7 _).mpr (by dsimp only)
  have h := congrFun ((dats m 0 c).read_blk_arrAt_eq_flushed 7 disjoint7 cfg0.N ⟨_, ht⟩ ht hf) (ix2 (0 : Fin 1) k)
  rw [flushed7, View.read_apply] at h
  refine Eq.trans (congrArg _ ?_) (h.trans ((dw_sum m c k 10 ht).trans
    (Fin.sum_mul_add_fin 11 384 (fun l : Fin 4224 => dwTerm m c k l))))
  exact at2 (at_first hi.1).symm (at_first hi.2).symm

end Cert.FfndKernelIdeal.Value
end
-- ==== Proof.FfndValue.lean ====
/-
  The gradient kernel of the second feed-forward layer and its reference compute the same three arrays over the extended reals,
  where the arguments are real numbers.
-/
module

public import proofs.«01_k».proof.Proof.FfndBlocks
public import proofs.«01_k».proof.Proof.Gen.FfndReferenceIdeal.Read

@[expose] public section

noncomputable section

namespace Cert.FfndValue

open Cert.FfndKernelIdeal Cert.FfndKernelIdeal.Gen Cert.FfndKernelIdeal.Value Cert.FfndReferenceIdeal.Read
open Idealize.ShloMosaic Idealize.ShloMosaic.TcCoe Idealize.SL.Sem
open Cert.Numbers Cert.Finite

section reference
variable (x0 : Vec Ideal S4112x1024 .f32) (x1 x2 : Vec Ideal S4112x2816 .f32) (x3 : Vec Ideal S2816x1024 .f32)
  (x4 : Vec Ideal S1x1024 .f32)

/-- The layer's product before its norm. -/
def fR (n : Fin 4112) (k : Fin 1024) : EReal :=
  ∑ j : Fin 2816, x1 (ix2 n j) * Ideal.div 1 (1 + Ideal.exp (-x1 (ix2 n j))) * x2 (ix2 n j) * x3 (ix2 j k)

theorem ref_f (n : Fin 4112) (k : Fin 1024) : val_main_v2 (F := Ideal) x1 x2 x3 (ix2 n k) = fR x1 x2 x3 n k := by
  unfold fR
  pointwise [val_main_v2, val_main_v1, val_main_v0_0, val_main_v0_2,
    val_main_call0_v0, val_main_call0_v1, val_main_call0_v2, val_main_call0_v3, val_main_call0_v4,
    val_main_call0_cst, val_main_call0_cst_0]

/-- The norm's gradient at a row. -/
def dfR (n : Fin 4112) (k : Fin 1024) : EReal :=
  Norm.dx (fun k => fR x1 x2 x3 n k) (fun k => Ideal.ofBits .f32 1056964608#32 * x0 (ix2 n k)) (fun k => x4 (ix2 0 k)) k

theorem ref_df (n : Fin 4112) (k : Fin 1024) : val_main_v40 (F := Ideal) x0 x1 x2 x3 x4 (ix2 n k) = dfR x0 x1 x2 x3 x4 n k := by
  unfold dfR
  simp only [← ref_f]
  pointwise [val_main_v40, val_main_v39, val_main_v38, val_main_v37, val_main_v36, val_main_v35, val_main_v34, val_main_v33,
    val_main_v32, val_main_v31, val_main_v30, val_main_v29, val_main_v28, val_main_v27, val_main_v26, val_main_v25, val_main_v21,
    val_main_v20, val_main_v13, val_main_v12, val_main_v11, val_main_v10, val_main_v9, val_main_v8, val_main_v7, val_main_v6,
    val_main_v5, val_main_v4, val_main_v3, val_main_cst, val_main_cst_0, val_main_cst_1, val_main_cst_2, val_main_cst_3,
    val_main_cst_4, val_main_cst_5, val_main_cst_6, val_main_cst_7, val_main_cst_8]
  rfl

/-- The rows' product with the transposed weight. -/
def daR (n : Fin 4112) (j : Fin 2816) : EReal := ∑ k : Fin 1024, dfR x0 x1 x2 x3 x4 n k * x3 (ix2 j k)

theorem ref_da (n : Fin 4112) (j : Fin 2816) : val_main_v41 (F := Ideal) x0 x1 x2 x3 x4 (ix2 n j) = daR x0 x1 x2 x3 x4 n j := by
  unfold daR
  pointwise [val_main_v41, ref_df]

/-- The logistic function of the gate. -/
def sgR (n : Fin 4112) (j : Fin 2816) : EReal := Ideal.div 1 (1 + Ideal.exp (-x1 (ix2 n j)))

theorem ref_sg (n : Fin 4112) (j : Fin 2816) : val_main_v0_2 (F := Ideal) x1 (ix2 n j) = sgR x1 n j := by
  unfold sgR
  pointwise [val_main_v0_2, val_main_call0_v0, val_main_call0_v1, val_main_call0_v2, val_main_call0_v3, val_main_call0_v4,
    val_main_call0_cst, val_main_call0_cst_0]

theorem ref_du (n : Fin 4112) (j : Fin 2816) :
    val_main_v42 (F := Ideal) x0 x1 x2 x3 x4 (ix2 n j) = x1 (ix2 n j) * sgR x1 n j * daR x0 x1 x2 x3 x4 n j := by
  pointwise [val_main_v42, val_main_v0_0, ref_da, ref_sg]

theorem ref_dg (n : Fin 4112) (j : Fin 2816) :
    val_main_v44 (F := Ideal) x0 x1 x2 x3 x4 (ix2 n j) = daR x0 x1 x2 x3 x4 n j * x2 (ix2 n j) * sgR x1 n j
      + x1 (ix2 n j) * (daR x0 x1 x2 x3 x4 n j * x2 (ix2 n j)) * (sgR x1 n j * (1 - sgR x1 n j)) := by
  pointwise [val_main_v44, val_main_call1_v1, val_main_call1_v2, val_main_call1_v0, val_main_v43, val_main_v0_1, val_main_call0_v7,
    val_main_call0_v6, val_main_call0_cst_1, ref_da, ref_sg]

/-- The first result: the norm's gradient below 112 zero rows. -/
theorem ref_out0 (n : Fin 4224) (k : Fin 1024) : val_main_v47 (F := Ideal) x0 x1 x2 x3 x4 (ix2 n k)
    = if h : n.val < 112 then 0 else dfR x0 x1 x2 x3 x4 ⟨n.val - 112, by omega⟩ k := by
  pointwise [val_main_v47, val_main_v46, val_main_v45, val_main_cst_9, ref_df]

/-- The second result: the sums over the rows. -/
theorem ref_out1 (k : Fin 1024) : val_main_v24 (F := Ideal) x0 x1 x2 x3 (ix2 0 k)
    = ∑ n : Fin 4112, Norm.dw (fun k => fR x1 x2 x3 n k) (fun k => Ideal.ofBits .f32 1056964608#32 * x0 (ix2 n k)) k := by
  simp only [← ref_f]
  pointwise [val_main_v24, val_main_v23, val_main_v22, val_main_v21,
    val_main_v20, val_main_v19, val_main_v18, val_main_v17, val_main_v16, val_main_v15, val_main_v14, val_main_v13, val_main_v12, val_main_v11, val_main_v10, val_main_v9, val_main_v8, val_main_v7, val_main_v6,
    val_main_v5, val_main_v4, val_main_v3, val_main_cst, val_main_cst_0, val_main_cst_1, val_main_cst_2, val_main_cst_3,
    val_main_cst_4, val_main_cst_5]
  rfl

/-- The third result: the two gradients side by side below 112 zero rows. -/
theorem ref_out2 (n : Fin 4224) (j : Fin 5632) : val_main_v51 (F := Ideal) x0 x1 x2 x3 x4 (ix2 n j)
    = if h : n.val < 112 then 0 else if hj : j.val < 2816
      then val_main_v44 (F := Ideal) x0 x1 x2 x3 x4 (ix2 (⟨n.val - 112, by omega⟩ : Fin 4112) (⟨j.val, hj⟩ : Fin 2816))
      else val_main_v42 (F := Ideal) x0 x1 x2 x3 x4 (ix2 (⟨n.val - 112, by omega⟩ : Fin 4112) (⟨j.val - 2816, by omega⟩ : Fin 2816)) := by
  pointwise [val_main_v51, val_main_v50, val_main_v49, val_main_v48, val_main_cst_10]

end reference

/-- The gate's gradient as the kernel writes it is the reference's, over real numbers. -/
theorem dg_scalar {A U X : EReal} (hA : IsReal A) (hU : IsReal U) (hX : IsReal X) (s : EReal)
    (hs : s = Ideal.div 1 (1 + Ideal.exp (-X))) :
    A * U * s * (1 + X * (1 - s)) = A * U * s + X * (A * U) * (s * (1 - s)) := by
  obtain ⟨a, rfl⟩ := hA; obtain ⟨u, rfl⟩ := hU; obtain ⟨x, rfl⟩ := hX
  rw [hs, div_sig, ← EReal.coe_one]
  simp only [← EReal.coe_mul, ← EReal.coe_sub, ← EReal.coe_add]
  congr 1
  ring

/-- The kernel's logistic function of a real is the reference's. -/
theorem sg_scalar {X : EReal} (hX : IsReal X) :
    Ideal.ofBits .bf16 16128#16 * (Ideal.tanh (Ideal.ofBits .bf16 16128#16 * X) + 1) = Ideal.div 1 (1 + Ideal.exp (-X)) := by
  obtain ⟨x, rfl⟩ := hX
  rw [div_sig, bf16_half]
  exact tanh_sig x

section kernel
variable (m : (ℓ : Loc nD τ sig) → Buf (Elt Ideal) ℓ) (c : Dev nD)

abbrev a0 : Vec Ideal S4112x1024 .f32 := m ((c.tc : Thread nD τ).loc main_arg0)
abbrev a1 : Vec Ideal S4112x2816 .f32 := m ((c.tc : Thread nD τ).loc main_arg1)
abbrev a2 : Vec Ideal S4112x2816 .f32 := m ((c.tc : Thread nD τ).loc main_arg2)
abbrev a3 : Vec Ideal S2816x1024 .f32 := m ((c.tc : Thread nD τ).loc main_arg3)
abbrev a4 : Vec Ideal S1x1024 .f32 := m ((c.tc : Thread nD τ).loc main_arg4)

/-- The padded cotangent. -/
theorem dho_eq (n : Fin 4224) (k : Fin 1024) :
    dhoA m c n k = if h : n.val < 112 then 0 else a0 m c (ix2 (⟨n.val - 112, by omega⟩ : Fin 4112) k) := by
  unfold dhoA
  dsimp only [V, hostOps0, hostOps0_1, hostOps0_2]
  simp only [List.flatten_cons, List.flatten_nil, List.append_nil, List.cons_append, List.nil_append]
  after_results
  pointwise

theorem f_eq (n : Fin 4224) (k : Fin 1024) :
    fA m c n k = if h : n.val < 112 then 0 else fR (a1 m c) (a2 m c) (a3 m c) ⟨n.val - 112, by omega⟩ k := by
  unfold fA fR
  dsimp only [V, hostOps0, hostOps0_1, hostOps0_2]
  simp only [List.flatten_cons, List.flatten_nil, List.append_nil, List.cons_append, List.nil_append]
  after_results
  simp -implicitDefEqProofs only [StableHlo.TRef.toBuf, StableHlo.TRef.ofBuf, cast_cast, cast_eq]
  pointwise

theorem nw_eq (k : Fin 1024) : nwA m c k = a4 m c (ix2 0 k) := by
  unfold nwA
  rw [V_main_arg4]

theorem wm_eq (j : Fin 2816) (k : Fin 1024) : wmA m c j k = a3 m c (ix2 j k) := by
  unfold wmA
  dsimp only [V, hostOps0, hostOps0_1, hostOps0_2]
  simp only [List.flatten_cons, List.flatten_nil, List.append_nil, List.cons_append, List.nil_append]
  after_results
  pointwise

theorem g_eq (n : Fin 4224) (j : Fin 2816) :
    gA m c n j = if h : n.val < 112 then 0 else a1 m c (ix2 (⟨n.val - 112, by omega⟩ : Fin 4112) j) := by
  unfold gA
  dsimp only [V, hostOps0, hostOps0_1, hostOps0_2]
  simp only [List.flatten_cons, List.flatten_nil, List.append_nil, List.cons_append, List.nil_append]
  after_results
  pointwise

theorem u_eq (n : Fin 4224) (j : Fin 2816) :
    uA m c n j = if h : n.val < 112 then 0 else a2 m c (ix2 (⟨n.val - 112, by omega⟩ : Fin 4112) j) := by
  unfold uA
  dsimp only [V, hostOps0, hostOps0_1, hostOps0_2]
  simp only [List.flatten_cons, List.flatten_nil, List.append_nil, List.cons_append, List.nil_append]
  after_results
  pointwise

variable (h0 : ∀ i, IsReal (a0 m c i)) (h1 : ∀ i, IsReal (a1 m c i)) (h2 : ∀ i, IsReal (a2 m c i)) (h3 : ∀ i, IsReal (a3 m c i))
  (h4 : ∀ i, IsReal (a4 m c i))

/-- A row of the norm's gradient is the reference's, zero in the padding. -/
theorem dfRow_eq (n : Fin 4224) (k : Fin 1024) : dfRow m c n k
    = if h : n.val < 112 then 0 else dfR (a0 m c) (a1 m c) (a2 m c) (a3 m c) (a4 m c) ⟨n.val - 112, by omega⟩ k := by
  unfold dfRow dfR
  by_cases h : n.val < 112
  · rw [dif_pos h, if_neg (by omega), mul_zero]
  · rw [dif_neg h, if_pos (by omega), mul_one]
    simp only [f_eq, dho_eq, nw_eq, dif_neg h]

theorem daRow_eq (n : Fin 4224) (j : Fin 2816) : daRow m c n j
    = if h : n.val < 112 then 0 else daR (a0 m c) (a1 m c) (a2 m c) (a3 m c) (a4 m c) ⟨n.val - 112, by omega⟩ j := by
  unfold daRow daR
  by_cases h : n.val < 112
  · rw [dif_pos h]
    simp only [dfRow_eq, dif_pos h, zero_mul, Finset.sum_const_zero]
  · rw [dif_neg h]
    simp only [dfRow_eq, wm_eq, dif_neg h]

include h1 h2 h3 in
theorem fR_real (n : Fin 4112) (k : Fin 1024) : IsReal (fR (a1 m c) (a2 m c) (a3 m c) n k) := by
  unfold fR
  refine isReal_sum _ fun j => ?_
  obtain ⟨x, hx⟩ := h1 (ix2 n j)
  rw [hx, div_sig]
  exact (((isReal_coe _).mul (isReal_coe _)).mul (h2 _)).mul (h3 _)

include h0 h1 h2 h3 h4 in
theorem daR_real (n : Fin 4112) (j : Fin 2816) : IsReal (daR (a0 m c) (a1 m c) (a2 m c) (a3 m c) (a4 m c) n j) := by
  unfold daR dfR
  refine isReal_sum _ fun k => (Norm.dx_real _ _ _ (fun k => fR_real m c h1 h2 h3 n k) (fun k => ?_) (fun k => h4 _) k).mul (h3 _)
  rw [f32_half]
  exact (isReal_coe _).mul (h0 _)

/-- The first array is the reference's. -/
theorem df_entry (n : Fin 4224) (k : Fin 1024) : (dats m 0 c).arrAt 6 cfg0.N (ix2 n k : S4224x1024.Idx)
    = val_main_v47 (F := Ideal) (a0 m c) (a1 m c) (a2 m c) (a3 m c) (a4 m c) (ix2 n k) :=
  (df_at m c n k).trans ((dfRow_eq m c n k).trans (ref_out0 _ _ _ _ _ n k).symm)

theorem df_eq : (dats m 0 c).arrAt 6 cfg0.N = val_main_v47 (F := Ideal) (a0 m c) (a1 m c) (a2 m c) (a3 m c) (a4 m c) := by
  funext i
  have e : i = ix2 (i 0) (i 1) := eq_ix2 i
  rw [e]
  exact df_entry m c (i 0) (i 1)

/-- The sums over the rows are the reference's. -/
theorem dw_rows (k : Fin 1024) : ∑ n : Fin 4224, dwTerm m c k n
    = ∑ n : Fin 4112, Norm.dw (fun k => fR (a1 m c) (a2 m c) (a3 m c) n k) (fun k => Ideal.ofBits .f32 1056964608#32 * a0 m c (ix2 n k)) k := by
  rw [Norm.sum_rows]
  · refine Finset.sum_congr rfl fun n _ => ?_
    unfold dwTerm
    have h : ¬112 + n.val < 112 := by omega
    simp only [f_eq, dho_eq, dif_neg h, Nat.add_sub_cancel_left]
  · intro n hn
    unfold dwTerm
    exact Norm.dw_zero _ _ (fun k => by rw [f_eq, dif_pos hn]) k

/-- The second array is the reference's. -/
theorem dw_entry (k : Fin 1024) : (dats m 0 c).arrAt 7 cfg0.N (ix2 0 k : S1x1024.Idx)
    = val_main_v24 (F := Ideal) (a0 m c) (a1 m c) (a2 m c) (a3 m c) (ix2 0 k) :=
  (dw_at m c k).trans ((dw_rows m c k).trans (ref_out1 _ _ _ _ k).symm)

theorem dw_eq : (dats m 0 c).arrAt 7 cfg0.N = val_main_v24 (F := Ideal) (a0 m c) (a1 m c) (a2 m c) (a3 m c) := by
  funext i
  have e : i = ix2 0 (i 1) := by
    funext a
    match a with
    | ⟨0, _⟩ => exact Subsingleton.elim (α := Fin 1) _ _
    | ⟨1, _⟩ => rfl
  rw [e]
  exact dw_entry m c (i 1)

include h0 h1 h2 h3 h4 in
/-- The third array is the reference's. -/
theorem dgu_entry (n : Fin 4224) (j : Fin 5632) : (dats m 0 c).arrAt 8 cfg0.N (ix2 n j : S4224x5632.Idx)
    = val_main_v51 (F := Ideal) (a0 m c) (a1 m c) (a2 m c) (a3 m c) (a4 m c) (ix2 n j) := by
  refine (dgu_arr m c n j).trans (Eq.trans ?_ (ref_out2 _ _ _ _ _ n j).symm)
  unfold dguRow dgRow duRow sgRow
  by_cases h : n.val < 112
  · rw [dif_pos h]
    simp only [daRow_eq, dif_pos h, zero_mul, dite_eq_ite, ite_self]
  · rw [dif_neg h]
    have hs (j : Fin 2816) := sg_scalar (h1 (ix2 (⟨n.val - 112, by omega⟩ : Fin 4112) j))
    by_cases hj : j.val < 2816
    · rw [dif_pos hj, dif_pos hj, ref_dg]
      simp only [daRow_eq, g_eq, u_eq, dif_neg h, hs]
      exact dg_scalar (daR_real m c h0 h1 h2 h3 h4 _ _) (h2 _) (h1 _) _ rfl
    · rw [dif_neg hj, dif_neg hj, ref_du]
      simp only [daRow_eq, g_eq, dif_neg h, hs]
      unfold sgR
      rw [mul_assoc, mul_comm]

include h0 h1 h2 h3 h4 in
theorem dgu_eq : (dats m 0 c).arrAt 8 cfg0.N = val_main_v51 (F := Ideal) (a0 m c) (a1 m c) (a2 m c) (a3 m c) (a4 m c) := by
  funext i
  have e : i = ix2 (i 0) (i 1) := eq_ix2 i
  rw [e]
  exact dgu_entry m c h0 h1 h2 h3 h4 (i 0) (i 1)

end kernel
end Cert.FfndValue
end
-- ==== Proof.FfndClaims.lean ====
/-
  The claims about the gradient kernel of the second feed-forward layer and its reference.
-/
module

public import proofs.«01_k».proof.Defs
public import proofs.«01_k».proof.Proof.FfndValue
public import proofs.«01_k».proof.Proof.Gen.FfndKernel.Frame
public import proofs.«01_k».proof.Proof.Gen.FfndReferenceIdeal.Run

@[expose] public section

noncomputable section

namespace Cert.FfndClaims

open Idealize.ShloMosaic Idealize.ShloMosaic.TcCoe Idealize.SL.Sem
open Cert.Numbers Cert.Finite

/-- The shapes of the precondition fit. -/
theorem facts_pre : Cert.Pre_ffnd_finite.Facts := ⟨by decide, by decide, by decide, by decide⟩

/-- The kernel runs without fault, keeps its arguments and leaves every counter at zero. -/
theorem frame_kernel : Cert.quiescent_FfndKernel := fun m ρ _ => Cert.FfndKernel.Gen.frame m ρ

/-- So does its ideal program. -/
theorem frame_ideal : Cert.quiescent_FfndKernelIdeal := fun m ρ _ => Cert.FfndKernelIdeal.Gen.frame m ρ

/-- So does the reference. -/
theorem frame_reference : Cert.quiescent_FfndReferenceIdeal := fun m ρ _ =>
  (θ_run _ _ _).mono (fun r h => ⟨fun c => (h c).2.2.2, sem_eq_zero_of_no_sems (by decide) r.2⟩)
    (Cert.FfndReferenceIdeal.Value.run m ρ)

/-- The kernel and the reference compute the same gradients of the norm, of its weights, of the gate and of the up projection,
    where the arguments are real numbers. -/
theorem algebraic : Cert.algebraic_FfndKernelIdeal_FfndReferenceIdeal_pre_ffnd_finite (hPre_ffnd_finite := facts_pre) :=
  fun m g m' g' hpre hargs =>
  ⟨fun c => (Cert.FfndKernelIdeal.Gen.dats m 0 c).arrAt 6 Cert.FfndKernelIdeal.cfg0.N,
   fun c => (Cert.FfndKernelIdeal.Gen.dats m 0 c).arrAt 7 Cert.FfndKernelIdeal.cfg0.N,
   fun c => (Cert.FfndKernelIdeal.Gen.dats m 0 c).arrAt 8 Cert.FfndKernelIdeal.cfg0.N,
   Cert.FfndKernelIdeal.Value.run_blocks m g,
   (θ_run _ _ _).mono (fun r h c => by
      obtain ⟨r0, r1, r2, hk⟩ := h c
      obtain ⟨e0, e1, e2, e3, e4⟩ := hargs c
      obtain ⟨p0, p1, p2, p3, p4⟩ := hpre c
      refine ⟨r0.trans ?_, r1.trans ?_, r2.trans ?_, hk⟩
      · rw [Cert.FfndReferenceIdeal.Read.val_main_v47_eq, e0, e1, e2, e3, e4]
        exact (Cert.FfndValue.df_eq m c).symm
      · rw [Cert.FfndReferenceIdeal.Read.val_main_v24_eq, e0, e1, e2, e3]
        exact (Cert.FfndValue.dw_eq m c).symm
      · rw [Cert.FfndReferenceIdeal.Read.val_main_v51_eq, e0, e1, e2, e3, e4]
        exact (Cert.FfndValue.dgu_eq m c (real_of_pre _ _ (fun _ => f32_inf) p0) (real_of_pre _ _ (fun _ => f32_inf) p1)
          (real_of_pre _ _ (fun _ => f32_inf) p2) (real_of_pre _ _ (fun _ => f32_inf) p3)
          (real_of_pre _ _ (fun _ => f32_inf) p4)).symm)
    (Cert.FfndReferenceIdeal.Value.run m' g')⟩

end Cert.FfndClaims

end
-- ==== Proof.MobKernelValue.lean ====
/-
  What one grid point of the gradient of a mixer's output layer computes over the extended reals: its rows of the norm's
  gradient, what it adds to the gradient of the norm's weights, and its rows of the gradient of the mixer's output.
-/
module

public import proofs.«01_k».proof.Proof.Masks
public import proofs.«01_k».proof.Proof.Norm
public import proofs.«01_k».proof.Proof.Rows
public import proofs.«01_k».proof.Proof.Gen.MobKernelIdeal.Value

@[expose] public section

noncomputable section

namespace Cert.MobKernelIdeal.Value

open Cert.MobKernelIdeal Cert.MobKernelIdeal.Gen Idealize.ShloMosaic Idealize.ShloMosaic.TcCoe Idealize.SL.Sem
open Cert.Numbers Cert.Rows

section cases
variable (c : Dev nD) (i : grid0.Coords) (a1 : Memref sig .tc .vmem S384x1024 .f32) (h1 : a1.IsWhole)
  (a2 : Memref sig .tc .vmem S384x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S384x1024 .bf16) (h5 : a5.IsWhole)
  (a6 : Memref sig .tc .vmem S1x1024 .f32) (h6 : a6.IsWhole) (a7 : Memref sig .tc .vmem S384x1024 .f32) (h7 : a7.IsWhole)
  (x0 : Vec Ideal S384x1024 .f32) (x1 : Vec Ideal S384x1024 .f32) (x2 : Vec Ideal S1x1024 .f32) (x3 : Vec Ideal S1024x1024 .bf16)
  (xo : Vec Ideal S1x1024 .f32)

/-- Entry `(r, k)` of the point's rows of the norm's gradient, zero in padded rows. -/
def dfAt (r : Fin 384) (k : Fin 1024) : EReal :=
  Norm.dx (fun k => x1 (ix2 r k)) (fun k => x0 (ix2 r k)) (fun k => x2 (ix2 0 k)) k * (if 112 ≤ (i 0).val * 384 + r.val then 1 else 0)

/-- Entry `(r, j)` of the rows' product with the transposed weight. -/
def daAt (r : Fin 384) (j : Fin 1024) : EReal := ∑ k : Fin 1024, dfAt i x0 x1 x2 r k * x3 (ix2 j k)

/-- What the point adds to the gradient of weight `k`. -/
def dwAt (k : Fin 1024) : EReal := ∑ r : Fin 384, Norm.dw (fun k => x1 (ix2 r k)) (fun k => x0 (ix2 r k)) k

/-- The value stored into the block of the norm's gradient. -/
theorem pay_df (r : Fin 384) (k : Fin 1024) :
    k0_pay1 (F := Ideal) (k0_pay10 x1 x2 x0) (iota .tc S384x1 32 [0] iota_S384x1_d0_w32) (k0_pay11 i) (ix2 r k)
      = dfAt i x0 x1 x2 r k := by
  unfold dfAt
  rw [← Masks.mask_tile (i 0) r]
  pointwise [k0_pay1, k0_pay11, k0_pay10, k0_pay8, k0_pay7, k0_pay6, k0_pay5]
  rfl

/-- The product with the transposed weight. -/
theorem pay_da (r : Fin 384) (j : Fin 1024) :
    k0_pay4 (F := Ideal) (k0_pay10 x1 x2 x0) (iota .tc S384x1 32 [0] iota_S384x1_d0_w32) (k0_pay11 i) x3 (ix2 r j)
      = daAt i x0 x1 x2 x3 r j := by
  unfold daAt
  simp only [← pay_df]
  pointwise [k0_pay4]

/-- The point's sum over its rows. -/
theorem pay_dw (k : Fin 1024) : k0_pay9 (F := Ideal) x1 x0 (ix2 0 k) = dwAt x0 x1 k := by
  pointwise [k0_pay9, k0_pay8, k0_pay7, k0_pay6, k0_pay5]
  rfl

/-- What the first point stores in its block of the norm's gradient. -/
theorem outA_df (hc0 : cond0_0 i) (r : Fin 384) (k : Fin 1024) :
    out0_A_4 c i a1 h1 a2 h2 a3 h3 a4 h4 a5 h5 a6 h6 a7 h7 hc0 x0 x1 x2 x3 (ix2 r k) = dfAt i x0 x1 x2 r k := by
  unfold out0_A_4
  rw [View.read_writes_eq_canon _ _ _ fun _ => cover0_A_4 ..]
  unfold kernelRun0_A; dsimp only; sl_unfold_words
  rw [View.canon_unit_zero zeros2]
  simp only [View.readAt_eq_ld, Memref.IsWhole.read_unread, ld_all]
  exact pay_df i x0 x1 x2 r k

/-- What a later point stores in its block of the norm's gradient. -/
theorem outB_df (hc0 : ¬cond0_0 i) (r : Fin 384) (k : Fin 1024) :
    out0_B_4 c i a1 h1 a2 h2 a3 h3 a4 h4 a5 h5 a6 h6 a7 h7 hc0 x0 x1 x2 x3 xo (ix2 r k) = dfAt i x0 x1 x2 r k := by
  unfold out0_B_4
  rw [View.read_writes_eq_canon _ _ _ fun _ => cover0_B_4 ..]
  unfold kernelRun0_B; dsimp only; sl_unfold_words
  rw [View.canon_unit_zero zeros2]
  simp only [View.readAt_eq_ld, Memref.IsWhole.read_unread, ld_all]
  exact pay_df i x0 x1 x2 r k

/-- The first point leaves its own sums in the gradient of the weights. -/
theorem outA_dw (hc0 : cond0_0 i) (k : Fin 1024) :
    out0_A_5 c i a1 h1 a2 h2 a3 h3 a4 h4 a5 h5 a6 h6 a7 h7 hc0 x0 x1 x2 x3 (ix2 0 k) = dwAt x0 x1 k := by
  unfold out0_A_5
  rw [View.read_writes_eq_canon _ _ _ fun _ => cover0_A_5 ..]
  unfold kernelRun0_A; dsimp only; sl_unfold_words
  rw [View.canon_cons_unit_zero (S := S1x1024) zeros2]
  simp only [View.readAt_eq_ld, View.readCov_unit_zero (S := S1x1024) _ zeros2, Memref.IsWhole.read_unread, ld_all]
  pointwise [k0_pay3, k0_pay2]
  exact pay_dw x0 x1 k

/-- A later point adds its sums. -/
theorem outB_dw (hc0 : ¬cond0_0 i) (k : Fin 1024) :
    out0_B_5 c i a1 h1 a2 h2 a3 h3 a4 h4 a5 h5 a6 h6 a7 h7 hc0 x0 x1 x2 x3 xo (ix2 0 k) = xo (ix2 0 k) + dwAt x0 x1 k := by
  unfold out0_B_5
  rw [View.read_writes_eq_canon _ _ _ fun _ => cover0_B_5 ..]
  unfold kernelRun0_B; dsimp only; sl_unfold_words
  rw [View.canon_unit_zero zeros2]
  simp only [View.readAt_eq_ld, Memref.IsWhole.read_unread, ld_all]
  pointwise [k0_pay3]
  exact congrArg _ (pay_dw x0 x1 k)

/-- What the first point stores in its block of the gradient of the mixer's output. -/
theorem outA_da (hc0 : cond0_0 i) (r : Fin 384) (k : Fin 1024) :
    out0_A_6 c i a1 h1 a2 h2 a3 h3 a4 h4 a5 h5 a6 h6 a7 h7 hc0 x0 x1 x2 x3 (ix2 r k) = daAt i x0 x1 x2 x3 r k := by
  unfold out0_A_6
  rw [View.read_writes_eq_canon _ _ _ fun _ => cover0_A_6 ..]
  unfold kernelRun0_A; dsimp only; sl_unfold_words
  rw [View.canon_unit_zero zeros2]
  simp only [View.readAt_eq_ld, Memref.IsWhole.read_unread, ld_all]
  exact pay_da i x0 x1 x2 x3 r k

/-- What a later point stores in its block of the gradient of the mixer's output. -/
theorem outB_da (hc0 : ¬cond0_0 i) (r : Fin 384) (k : Fin 1024) :
    out0_B_6 c i a1 h1 a2 h2 a3 h3 a4 h4 a5 h5 a6 h6 a7 h7 hc0 x0 x1 x2 x3 xo (ix2 r k) = daAt i x0 x1 x2 x3 r k := by
  unfold out0_B_6
  rw [View.read_writes_eq_canon _ _ _ fun _ => cover0_B_6 ..]
  unfold kernelRun0_B; dsimp only; sl_unfold_words
  rw [View.canon_unit_zero zeros2]
  simp only [View.readAt_eq_ld, Memref.IsWhole.read_unread, ld_all]
  exact pay_da i x0 x1 x2 x3 r k

end cases
end Cert.MobKernelIdeal.Value
end
-- ==== Proof.MobBlocks.lean ====
/-
  The three arrays the gradient of a mixer's output layer leaves over the extended reals: the norm's gradient row by row, the
  gradient of its weights as sums over all rows, and the gradient of the mixer's output row by row.
-/
module

public import proofs.«01_k».proof.Proof.MobKernelValue
public import Idealize.ShloMosaic.Lib.Pipeline.ValueKit.Acc

@[expose] public section

noncomputable section

namespace Cert.MobKernelIdeal.Value

open Cert.MobKernelIdeal Cert.MobKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (grid0.coords t 0).val = t.val ∧
    (win0_0.index t 0 = t.val ∧ win0_0.index t 1 = 0) ∧ (win0_1.index t 0 = t.val ∧ win0_1.index t 1 = 0) ∧
    (win0_2.index t 0 = 0 ∧ win0_2.index t 1 = 0) ∧ (win0_3.index t 0 = 0 ∧ win0_3.index t 1 = 0) ∧
    (win0_4.index t 0 = t.val ∧ win0_4.index t 1 = 0) ∧ (win0_5.index t 0 = 0 ∧ win0_5.index t 1 = 0) ∧
    (win0_6.index t 0 = t.val ∧ win0_6.index t 1 = 0) :=
  (by decide +kernel : ∀ t : Fin grid0.N, _)

/-- The arrays the region finds: the padded cotangent, the padded product, the weights. -/
def dhoA (n : Fin 4224) (k : Fin 1024) : EReal := (V m c main_v4 : Vec Ideal S4224x1024 .f32) (ix2 n k)
def fA (n : Fin 4224) (k : Fin 1024) : EReal := (V m c main_v2 : Vec Ideal S4224x1024 .f32) (ix2 n k)
def nwA (k : Fin 1024) : EReal := (V m c main_arg3 : Vec Ideal S1x1024 .f32) (ix2 0 k)
def wmA (j : Fin 1024) (k : Fin 1024) : EReal := (V m c main_v5 : Vec Ideal S1024x1024 .bf16) (ix2 j k)

/-- Row `r` of the point's row block. -/
abbrev rowOf (t : Fin cfg0.N) (r : Fin 384) : Fin 4224 := ⟨t.val * 384 + r.val, by have ht : t.val < 11 := t.isLt; omega⟩

theorem block_dho (t : Fin cfg0.N) (r : Fin 384) (k : Fin 1024) :
    (iblk m c 0 t : Vec Ideal S384x1024 .f32) (ix2 r k) = dhoA m c (rowOf t r) k :=
  congrArg (V m c main_v4) (at2 (at_block (index_facts t).2.1.1) (at_first (index_facts t).2.1.2))

theorem block_f (t : Fin cfg0.N) (r : Fin 384) (k : Fin 1024) :
    (iblk m c 1 t : Vec Ideal S384x1024 .f32) (ix2 r k) = fA m c (rowOf t r) k :=
  congrArg (V m c main_v2) (at2 (at_block (index_facts t).2.2.1.1) (at_first (index_facts t).2.2.1.2))

theorem block_nw (t : Fin cfg0.N) (k : Fin 1024) : (iblk m c 2 t : Vec Ideal S1x1024 .f32) (ix2 0 k) = nwA m c k :=
  congrArg (V m c main_arg3) (at2 (at_first (index_facts t).2.2.2.1.1) (at_first (index_facts t).2.2.2.1.2))

theorem block_wm (t : Fin cfg0.N) (j : Fin 1024) (k : Fin 1024) :
    (iblk m c 3 t : Vec Ideal S1024x1024 .bf16) (ix2 j k) = wmA m c j k :=
  congrArg (V m c main_v5) (at2 (at_first (index_facts t).2.2.2.2.1.1) (at_first (index_facts t).2.2.2.2.1.2))

/-- Row `n` of the norm's gradient. -/
def dfRow (n : Fin 4224) (k : Fin 1024) : EReal :=
  Norm.dx (fun k => fA m c n k) (fun k => dhoA m c n k) (fun k => nwA m c k) k
    * (if 112 ≤ n.val then 1 else 0)

/-- Row `n` of its product with the transposed weight. -/
def daRow (n : Fin 4224) (j : Fin 1024) : EReal := ∑ k : Fin 1024, dfRow m c n k * wmA m c j k

/-- What row `n` adds to the gradient of weight `k`. -/
def dwTerm (k : Fin 1024) (n : Fin 4224) : EReal :=
  Norm.dw (fun k => fA m c n k) (fun k => dhoA m c n k) k

theorem dfAt_eq (t : Fin cfg0.N) (r : Fin 384) (k : Fin 1024) :
    dfAt (grid0.coords t) (iblk m c 0 t) (iblk m c 1 t) (iblk m c 2 t) r k = dfRow m c (rowOf t r) k := by
  unfold dfAt dfRow
  simp only [block_dho, block_f, block_nw, (index_facts t).1]

theorem daAt_eq (t : Fin cfg0.N) (r : Fin 384) (j : Fin 1024) :
    daAt (grid0.coords t) (iblk m c 0 t) (iblk m c 1 t) (iblk m c 2 t) (iblk m c 3 t) r j = daRow m c (rowOf t r) j := by
  unfold daAt daRow
  simp only [dfAt_eq, block_wm]

theorem dwAt_eq (t : Fin cfg0.N) (k : Fin 1024) :
    dwAt (iblk m c 0 t) (iblk m c 1 t) k = ∑ r : Fin 384, dwTerm m c k (rowOf t r) := by
  unfold dwAt dwTerm
  simp only [block_dho, block_f]

/-- The block of the norm's gradient after each point. -/
theorem outs_df (t : Fin cfg0.N) (r : Fin 384) (k : Fin 1024) :
    (outsAt0 m c t.val t.isLt).1 (ix2 r k) = dfRow m c (rowOf t r) k := by
  by_cases h0 : t.val % 11 = 0
  · rw [outsAt0_A m c t h0, ← dfAt_eq]
    dsimp only
    rw [outA_df]
  · rw [outsAt0_B m c t h0, ← dfAt_eq]
    dsimp only
    rw [outB_df]

/-- The block of the gradient of the mixer's output after each point. -/
theorem outs_da (t : Fin cfg0.N) (r : Fin 384) (j : Fin 1024) :
    (outsAt0 m c t.val t.isLt).2.2 (ix2 r j) = daRow m c (rowOf t r) j := by
  by_cases h0 : t.val % 11 = 0
  · rw [outsAt0_A m c t h0, ← daAt_eq]
    dsimp only
    rw [outA_da]
  · rw [outsAt0_B m c t h0, ← daAt_eq]
    dsimp only
    rw [outB_da]

/-- Entry `k` of the block of the weights' gradient after point `n`. -/
def dwCell (n : ℕ) (hn : n < 11) (k : Fin 1024) : EReal := (outsAt0 m c n hn).2.1 (ix2 0 k)

/-- After point `n`: the sums over the rows of the blocks up to `n`. -/
theorem dw_sum (k : Fin 1024) (n : ℕ) : ∀ hn : n < 11,
    dwCell m c n hn k = ∑ s : Fin (n + 1), ∑ r : Fin 384, dwTerm m c k ⟨s.val * 384 + r.val, by omega⟩ := by
  induction n with
  | zero =>
    intro hn
    unfold dwCell
    rw [Fin.sum_univ_one, outsAt0_A m c ⟨0, hn⟩ rfl]
    dsimp only
    rw [outA_dw]
    exact dwAt_eq m c ⟨0, hn⟩ k
  | succ n ih =>
    intro hn
    have e : dwCell m c (n + 1) hn k = dwCell m c n (by omega) k + ∑ r : Fin 384, dwTerm m c k (rowOf ⟨n + 1, hn⟩ r) := by
      unfold dwCell
      rw [outsAt0_B m c ⟨n + 1, hn⟩ (by dsimp only; omega)]
      dsimp only
      rw [outB_dw]
      exact congrArg _ (dwAt_eq m c ⟨n + 1, hn⟩ k)
    rw [Fin.sum_univ_castSucc, e, ih (by omega)]
    rfl

/-- The array of the norm's gradient at an entry. -/
theorem df_at (n : Fin 4224) (k : Fin 1024) :
    (dats m 0 c).arrAt 4 cfg0.N (ix2 n k : S4224x1024.Idx) = dfRow m c n k := by
  have ht : n.val / 384 < cfg0.N := by show _ < 11; omega
  have hi := (index_facts ⟨_, ht⟩).2.2.2.2.2.1
  have h := congrFun (blocks4 m c ⟨_, ht⟩ (flush0_4 _)) (ix2 (⟨n.val % 384, by omega⟩ : Fin 384) k)
  rw [flushed4, View.read_apply] at h
  refine Eq.trans (congrArg _ ?_) (h.trans ((outs_df m c ⟨_, ht⟩ ⟨n.val % 384, by omega⟩ k).trans ?_))
  · exact at2 (at_row hi.1) (at_first hi.2).symm
  · congr 1
    exact Fin.ext (by dsimp only; omega)

/-- The array of the gradient of the mixer's output at an entry. -/
theorem da_arr (n : Fin 4224) (j : Fin 1024) :
    (dats m 0 c).arrAt 6 cfg0.N (ix2 n j : S4224x1024.Idx) = daRow m c n j := by
  have ht : n.val / 384 < cfg0.N := by show _ < 11; omega
  have hi := (index_facts ⟨_, ht⟩).2.2.2.2.2.2.2
  have h := congrFun (blocks6 m c ⟨_, ht⟩ (flush0_6 _)) (ix2 (⟨n.val % 384, by omega⟩ : Fin 384) j)
  rw [flushed6, View.read_apply] at h
  refine Eq.trans (congrArg _ ?_) (h.trans ((outs_da m c ⟨_, ht⟩ ⟨n.val % 384, by omega⟩ j).trans ?_))
  · exact at2 (at_row hi.1) (at_first hi.2).symm
  · congr 1
    exact Fin.ext (by dsimp only; omega)

/-- Only the last point writes the gradient of the weights back. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => by
  have h0 := (flush0_5 t).mp h
  have h0' := (flush0_5 t').mp h'
  have ht : t.val < 11 := t.isLt
  have ht' : t'.val < 11 := t'.isLt
  exact absurd (Fin.ext (by omega)) hne

/-- The array of the weights' gradient at an entry: the sum over all rows. -/
theorem dw_at (k : Fin 1024) :
    (dats m 0 c).arrAt 5 cfg0.N (ix2 0 k : S1x1024.Idx) = ∑ n : Fin 4224, dwTerm m c k n := by
  have ht : 10 < cfg0.N := by show _ < 11; omega
  have hi := (index_facts ⟨_, ht⟩).2.2.2.2.2.2.1
  have hf : (cfg0.win 5).flush ⟨_, ht⟩ = true := (flush0_5 _).mpr (by dsimp only)
  have h := congrFun ((dats m 0 c).read_blk_arrAt_eq_flushed 5 disjoint5 cfg0.N ⟨_, ht⟩ ht hf) (ix2 (0 : Fin 1) k)
  rw [flushed5, View.read_apply] at h
  refine Eq.trans (congrArg _ ?_) (h.trans ((dw_sum m c k 10 ht).trans
    (Fin.sum_mul_add_fin 11 384 (fun l : Fin 4224 => dwTerm m c k l))))
  exact at2 (at_first hi.1).symm (at_first hi.2).symm

end Cert.MobKernelIdeal.Value
end
-- ==== Proof.MobValue.lean ====
/-
  The gradient kernel of a mixer's output layer and its reference compute the same three arrays over the extended reals.
-/
module

public import proofs.«01_k».proof.Proof.MobBlocks
public import proofs.«01_k».proof.Proof.Gen.MobReferenceIdeal.Read

@[expose] public section

noncomputable section

namespace Cert.MobValue

open Cert.MobKernelIdeal Cert.MobKernelIdeal.Gen Cert.MobKernelIdeal.Value Cert.MobReferenceIdeal.Read
open Idealize.ShloMosaic Idealize.ShloMosaic.TcCoe Idealize.SL.Sem
open Cert.Numbers Cert.Finite

section reference
variable (x0 x1 : Vec Ideal S4112x1024 .f32) (x2 : Vec Ideal S1024x1024 .f32) (x3 : Vec Ideal S1x1024 .f32)

/-- The layer's product before its norm. -/
def fR (n : Fin 4112) (k : Fin 1024) : EReal := ∑ j : Fin 1024, x1 (ix2 n j) * x2 (ix2 j k)

theorem ref_f (n : Fin 4112) (k : Fin 1024) : val_main_v0 (F := Ideal) x1 x2 (ix2 n k) = fR x1 x2 n k := by
  unfold fR
  pointwise [val_main_v0]

/-- The norm's gradient at a row. -/
def dfR (n : Fin 4112) (k : Fin 1024) : EReal :=
  Norm.dx (fun k => fR x1 x2 n k) (fun k => x0 (ix2 n k)) (fun k => x3 (ix2 0 k)) k

theorem ref_df (n : Fin 4112) (k : Fin 1024) : val_main_v34 (F := Ideal) x0 x1 x2 x3 (ix2 n k) = dfR x0 x1 x2 x3 n k := by
  unfold dfR
  simp only [← ref_f]
  pointwise [val_main_v34, val_main_v33, val_main_v32, val_main_v31, val_main_v30, val_main_v29, val_main_v28, val_main_v27, val_main_v26, val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  rfl

/-- The rows' product with the transposed weight. -/
def daR (n : Fin 4112) (j : Fin 1024) : EReal := ∑ k : Fin 1024, dfR x0 x1 x2 x3 n k * x2 (ix2 j k)

/-- The first result: the norm's gradient below 112 zero rows. -/
theorem ref_out0 (n : Fin 4224) (k : Fin 1024) : val_main_v38 (F := Ideal) x0 x1 x2 x3 (ix2 n k)
    = if h : n.val < 112 then 0 else dfR x0 x1 x2 x3 ⟨n.val - 112, by omega⟩ k := by
  pointwise [val_main_v38, val_main_v37, val_main_v36, val_main_cst_7, ref_df]

/-- The second result: the sums over the rows. -/
theorem ref_out1 (k : Fin 1024) : val_main_v18 (F := Ideal) x0 x1 x2 (ix2 0 k)
    = ∑ n : Fin 4112, Norm.dw (fun k => fR x1 x2 n k) (fun k => x0 (ix2 n k)) k := by
  simp only [← ref_f]
  pointwise [val_main_v18, val_main_v17, val_main_v16, val_main_v13, val_main_v12, val_main_v8, val_main_v7, val_main_v6, val_main_v5, val_main_v4, val_main_v3, val_main_v2, val_main_v1, val_main_cst, val_main_cst_0, val_main_cst_1, val_main_cst_3]
  rfl

/-- The third result: the gradient of the mixer's output below 112 zero rows. -/
theorem ref_out2 (n : Fin 4224) (j : Fin 1024) : val_main_v40 (F := Ideal) x0 x1 x2 x3 (ix2 n j)
    = if h : n.val < 112 then 0 else daR x0 x1 x2 x3 ⟨n.val - 112, by omega⟩ j := by
  unfold daR
  pointwise [val_main_v40, val_main_v39, val_main_v35, val_main_cst_8, ref_df]

end reference

section kernel
variable (m : (ℓ : Loc nD τ sig) → Buf (Elt Ideal) ℓ) (c : Dev nD)

abbrev a0 : Vec Ideal S4112x1024 .f32 := m ((c.tc : Thread nD τ).loc main_arg0)
abbrev a1 : Vec Ideal S4112x1024 .f32 := m ((c.tc : Thread nD τ).loc main_arg1)
abbrev a2 : Vec Ideal S1024x1024 .f32 := m ((c.tc : Thread nD τ).loc main_arg2)
abbrev a3 : Vec Ideal S1x1024 .f32 := m ((c.tc : Thread nD τ).loc main_arg3)

/-- The padded cotangent. -/
theorem dho_eq (n : Fin 4224) (k : Fin 1024) :
    dhoA m c n k = if h : n.val < 112 then 0 else a0 m c (ix2 (⟨n.val - 112, by omega⟩ : Fin 4112) k) := by
  unfold dhoA
  dsimp only [V, hostOps0]
  after_results
  pointwise

theorem f_eq (n : Fin 4224) (k : Fin 1024) :
    fA m c n k = if h : n.val < 112 then 0 else fR (a1 m c) (a2 m c) ⟨n.val - 112, by omega⟩ k := by
  unfold fA fR
  dsimp only [V, hostOps0]
  after_results
  pointwise

theorem nw_eq (k : Fin 1024) : nwA m c k = a3 m c (ix2 0 k) := by
  unfold nwA
  rw [V_main_arg3]

theorem wm_eq (j : Fin 1024) (k : Fin 1024) : wmA m c j k = a2 m c (ix2 j k) := by
  unfold wmA
  dsimp only [V, hostOps0]
  after_results
  pointwise

/-- A row of the norm's gradient is the reference's, zero in the padding. -/
theorem dfRow_eq (n : Fin 4224) (k : Fin 1024) : dfRow m c n k
    = if h : n.val < 112 then 0 else dfR (a0 m c) (a1 m c) (a2 m c) (a3 m c) ⟨n.val - 112, by omega⟩ k := by
  unfold dfRow dfR
  by_cases h : n.val < 112
  · rw [dif_pos h, if_neg (by omega), mul_zero]
  · rw [dif_neg h, if_pos (by omega), mul_one]
    simp only [f_eq, dho_eq, nw_eq, dif_neg h]

theorem daRow_eq (n : Fin 4224) (j : Fin 1024) : daRow m c n j
    = if h : n.val < 112 then 0 else daR (a0 m c) (a1 m c) (a2 m c) (a3 m c) ⟨n.val - 112, by omega⟩ j := by
  unfold daRow daR
  by_cases h : n.val < 112
  · rw [dif_pos h]
    simp only [dfRow_eq, dif_pos h, zero_mul, Finset.sum_const_zero]
  · rw [dif_neg h]
    simp only [dfRow_eq, wm_eq, dif_neg h]

/-- The first array is the reference's. -/
theorem df_entry (n : Fin 4224) (k : Fin 1024) : (dats m 0 c).arrAt 4 cfg0.N (ix2 n k : S4224x1024.Idx)
    = val_main_v38 (F := Ideal) (a0 m c) (a1 m c) (a2 m c) (a3 m c) (ix2 n k) :=
  (df_at m c n k).trans ((dfRow_eq m c n k).trans (ref_out0 _ _ _ _ n k).symm)

theorem df_eq : (dats m 0 c).arrAt 4 cfg0.N = val_main_v38 (F := Ideal) (a0 m c) (a1 m c) (a2 m c) (a3 m c) := by
  funext i
  have e : i = ix2 (i 0) (i 1) := eq_ix2 i
  rw [e]
  exact df_entry m c (i 0) (i 1)

/-- The sums over the rows are the reference's. -/
theorem dw_rows (k : Fin 1024) : ∑ n : Fin 4224, dwTerm m c k n
    = ∑ n : Fin 4112, Norm.dw (fun k => fR (a1 m c) (a2 m c) n k) (fun k => a0 m c (ix2 n k)) k := by
  rw [Norm.sum_rows]
  · refine Finset.sum_congr rfl fun n _ => ?_
    unfold dwTerm
    have h : ¬112 + n.val < 112 := by omega
    simp only [f_eq, dho_eq, dif_neg h, Nat.add_sub_cancel_left]
  · intro n hn
    unfold dwTerm
    exact Norm.dw_zero _ _ (fun k => by rw [f_eq, dif_pos hn]) k

/-- The second array is the reference's. -/
theorem dw_entry (k : Fin 1024) : (dats m 0 c).arrAt 5 cfg0.N (ix2 0 k : S1x1024.Idx)
    = val_main_v18 (F := Ideal) (a0 m c) (a1 m c) (a2 m c) (ix2 0 k) :=
  (dw_at m c k).trans ((dw_rows m c k).trans (ref_out1 _ _ _ k).symm)

theorem dw_eq : (dats m 0 c).arrAt 5 cfg0.N = val_main_v18 (F := Ideal) (a0 m c) (a1 m c) (a2 m c) := by
  funext i
  have e : i = ix2 0 (i 1) := by
    funext a
    match a with
    | ⟨0, _⟩ => exact Subsingleton.elim (α := Fin 1) _ _
    | ⟨1, _⟩ => rfl
  rw [e]
  exact dw_entry m c (i 1)

/-- The third array is the reference's. -/
theorem da_entry (n : Fin 4224) (j : Fin 1024) : (dats m 0 c).arrAt 6 cfg0.N (ix2 n j : S4224x1024.Idx)
    = val_main_v40 (F := Ideal) (a0 m c) (a1 m c) (a2 m c) (a3 m c) (ix2 n j) :=
  (da_arr m c n j).trans ((daRow_eq m c n j).trans (ref_out2 _ _ _ _ n j).symm)

theorem da_eq : (dats m 0 c).arrAt 6 cfg0.N = val_main_v40 (F := Ideal) (a0 m c) (a1 m c) (a2 m c) (a3 m c) := by
  funext i
  have e : i = ix2 (i 0) (i 1) := eq_ix2 i
  rw [e]
  exact da_entry m c (i 0) (i 1)

end kernel
end Cert.MobValue
end
-- ==== Proof.MobClaims.lean ====
/-
  The claims about the gradient kernel of a mixer's output layer and its reference.
-/
module

public import proofs.«01_k».proof.Defs
public import proofs.«01_k».proof.Proof.MobValue
public import proofs.«01_k».proof.Proof.Gen.MobKernel.Frame
public import proofs.«01_k».proof.Proof.Gen.MobReferenceIdeal.Run

@[expose] public section

noncomputable section

namespace Cert.MobClaims

open Idealize.ShloMosaic Idealize.ShloMosaic.TcCoe Idealize.SL.Sem
open Cert.Numbers Cert.Finite

/-- The kernel runs without fault, keeps its arguments and leaves every counter at zero. -/
theorem frame_kernel : Cert.quiescent_MobKernel := fun m ρ _ => Cert.MobKernel.Gen.frame m ρ

/-- So does its ideal program. -/
theorem frame_ideal : Cert.quiescent_MobKernelIdeal := fun m ρ _ => Cert.MobKernelIdeal.Gen.frame m ρ

/-- So does the reference. -/
theorem frame_reference : Cert.quiescent_MobReferenceIdeal := fun m ρ _ =>
  (θ_run _ _ _).mono (fun r h => ⟨fun c => (h c).2.2.2, sem_eq_zero_of_no_sems (by decide) r.2⟩)
    (Cert.MobReferenceIdeal.Value.run m ρ)

/-- The kernel and the reference compute the same gradients of the norm, of its weights and of the mixer's output. -/
theorem algebraic : Cert.algebraic_MobKernelIdeal_MobReferenceIdeal :=
  fun m g m' g' _ hargs =>
  ⟨fun c => (Cert.MobKernelIdeal.Gen.dats m 0 c).arrAt 4 Cert.MobKernelIdeal.cfg0.N,
   fun c => (Cert.MobKernelIdeal.Gen.dats m 0 c).arrAt 5 Cert.MobKernelIdeal.cfg0.N,
   fun c => (Cert.MobKernelIdeal.Gen.dats m 0 c).arrAt 6 Cert.MobKernelIdeal.cfg0.N,
   Cert.MobKernelIdeal.Value.run_blocks m g,
   (θ_run _ _ _).mono (fun r h c => by
      obtain ⟨r0, r1, r2, hk⟩ := h c
      obtain ⟨e0, e1, e2, e3⟩ := hargs c
      refine ⟨r0.trans ?_, r1.trans ?_, r2.trans ?_, hk⟩
      · rw [Cert.MobReferenceIdeal.Read.val_main_v38_eq, e0, e1, e2, e3]
        exact (Cert.MobValue.df_eq m c).symm
      · rw [Cert.MobReferenceIdeal.Read.val_main_v18_eq, e0, e1, e2]
        exact (Cert.MobValue.dw_eq m c).symm
      · rw [Cert.MobReferenceIdeal.Read.val_main_v40_eq, e0, e1, e2, e3]
        exact (Cert.MobValue.da_eq m c).symm)
    (Cert.MobReferenceIdeal.Value.run m' g')⟩

end Cert.MobClaims

end
-- ==== Proof.UpbKernelValue.lean ====
/-
  What one grid point of the gradient of the first feed-forward layer computes over the extended reals: its rows of the gradient
  of the layer's input, and what it adds to the gradient of the norm's weights.
-/
module

public import proofs.«01_k».proof.Proof.Masks
public import proofs.«01_k».proof.Proof.Norm
public import proofs.«01_k».proof.Proof.Rows
public import proofs.«01_k».proof.Proof.Gen.UpbKernelIdeal.Value

@[expose] public section

noncomputable section

namespace Cert.UpbKernelIdeal.Value

open Cert.UpbKernelIdeal Cert.UpbKernelIdeal.Gen Idealize.ShloMosaic Idealize.ShloMosaic.TcCoe Idealize.SL.Sem
open Cert.Numbers Cert.Rows

section cases
variable (c : Dev nD) (i : grid0.Coords) (a1 : Memref sig .tc .vmem S384x5632 .bf16) (h1 : a1.IsWhole)
  (a2 : Memref sig .tc .vmem S5632x1024 .bf16) (h2 : a2.IsWhole) (a3 : Memref sig .tc .vmem S384x1024 .f32) (h3 : a3.IsWhole)
  (a4 : Memref sig .tc .vmem S1x1024 .f32) (h4 : a4.IsWhole) (a5 : Memref sig .tc .vmem S384x1024 .f32) (h5 : a5.IsWhole)
  (a6 : Memref sig .tc .vmem S384x1024 .f32) (h6 : a6.IsWhole) (a7 : Memref sig .tc .vmem S1x1024 .f32) (h7 : a7.IsWhole)
  (x0 : Vec Ideal S384x5632 .bf16) (x1 : Vec Ideal S5632x1024 .bf16) (x2 : Vec Ideal S384x1024 .f32) (x3 : Vec Ideal S1x1024 .f32)
  (x4 : Vec Ideal S384x1024 .f32) (xo : Vec Ideal S1x1024 .f32)

/-- Entry `(r, k)` of the gradient of the norm's output. -/
def gAt (r : Fin 384) (k : Fin 1024) : EReal := ∑ j : Fin 5632, x0 (ix2 r j) * x1 (ix2 j k)

theorem pay_g (r : Fin 384) (k : Fin 1024) : k0_pay4 (F := Ideal) x0 x1 (ix2 r k) = gAt x0 x1 r k := by
  unfold gAt
  pointwise [k0_pay4]

/-- Entry `(r, k)` of the point's rows of the gradient of the layer's input, zero in padded rows. -/
def dhAt (r : Fin 384) (k : Fin 1024) : EReal :=
  (x4 (ix2 r k) + Norm.dx (fun k => x2 (ix2 r k)) (fun k => gAt x0 x1 r k) (fun k => x3 (ix2 0 k)) k)
    * (if 112 ≤ (i 0).val * 384 + r.val then 1 else 0)

/-- What the point adds to the gradient of weight `k`. -/
def dwAt (k : Fin 1024) : EReal := ∑ r : Fin 384, Norm.dw (fun k => x2 (ix2 r k)) (fun k => gAt x0 x1 r k) k

/-- The value stored into the block of the input's gradient. -/
theorem pay_dh (r : Fin 384) (k : Fin 1024) :
    k0_pay1 (F := Ideal) (BitVec.ofNat 32 (i 0).val) (k0_pay9 x0 x1 x2 x3) x4 (ix2 r k) = dhAt i x0 x1 x2 x3 x4 r k := by
  unfold dhAt
  rw [← Masks.mask_tile (i 0) r]
  pointwise [k0_pay1, k0_pay9, k0_pay7, k0_pay6, k0_pay5, pay_g]
  rfl

/-- The point's sum over its rows. -/
theorem pay_dw (k : Fin 1024) : k0_pay8 (F := Ideal) x0 x1 x2 (ix2 0 k) = dwAt x0 x1 x2 k := by
  pointwise [k0_pay8, k0_pay7, k0_pay6, k0_pay5, pay_g]
  rfl

/-- What the first point stores in its block of the input's gradient. -/
theorem outA_dh (hc0 : cond0_0 i) (r : Fin 384) (k : Fin 1024) :
    out0_A_5 c i a1 h1 a2 h2 a3 h3 a4 h4 a5 h5 a6 h6 a7 h7 hc0 x0 x1 x2 x3 x4 (ix2 r k) = dhAt i x0 x1 x2 x3 x4 r k := by
  unfold out0_A_5
  rw [View.read_writes_eq_canon _ _ _ fun _ => cover0_A_5 ..]
  unfold kernelRun0_A; dsimp only; sl_unfold_words
  rw [View.canon_unit_zero zeros2]
  simp only [View.readAt_eq_ld, Memref.IsWhole.read_unread, ld_all]
  exact pay_dh i x0 x1 x2 x3 x4 r k

/-- What a later point stores in its block of the input's gradient. -/
theorem outB_dh (hc0 : ¬cond0_0 i) (r : Fin 384) (k : Fin 1024) :
    out0_B_5 c i a1 h1 a2 h2 a3 h3 a4 h4 a5 h5 a6 h6 a7 h7 hc0 x0 x1 x2 x3 x4 xo (ix2 r k) = dhAt i x0 x1 x2 x3 x4 r k := by
  unfold out0_B_5
  rw [View.read_writes_eq_canon _ _ _ fun _ => cover0_B_5 ..]
  unfold kernelRun0_B; dsimp only; sl_unfold_words
  rw [View.canon_unit_zero zeros2]
  simp only [View.readAt_eq_ld, Memref.IsWhole.read_unread, ld_all]
  exact pay_dh i x0 x1 x2 x3 x4 r k

/-- The first point leaves its own sums in the gradient of the weights. -/
theorem outA_dw (hc0 : cond0_0 i) (k : Fin 1024) :
    out0_A_6 c i a1 h1 a2 h2 a3 h3 a4 h4 a5 h5 a6 h6 a7 h7 hc0 x0 x1 x2 x3 x4 (ix2 0 k) = dwAt x0 x1 x2 k := by
  unfold out0_A_6
  rw [View.read_writes_eq_canon _ _ _ fun _ => cover0_A_6 ..]
  unfold kernelRun0_A; dsimp only; sl_unfold_words
  rw [View.canon_cons_unit_zero (S := S1x1024) zeros2]
  simp only [View.readAt_eq_ld, View.readCov_unit_zero (S := S1x1024) _ zeros2, Memref.IsWhole.read_unread, ld_all]
  pointwise [k0_pay3, k0_pay2]
  exact pay_dw x0 x1 x2 k

/-- A later point adds its sums. -/
theorem outB_dw (hc0 : ¬cond0_0 i) (k : Fin 1024) :
    out0_B_6 c i a1 h1 a2 h2 a3 h3 a4 h4 a5 h5 a6 h6 a7 h7 hc0 x0 x1 x2 x3 x4 xo (ix2 0 k) = xo (ix2 0 k) + dwAt x0 x1 x2 k := by
  unfold out0_B_6
  rw [View.read_writes_eq_canon _ _ _ fun _ => cover0_B_6 ..]
  unfold kernelRun0_B; dsimp only; sl_unfold_words
  rw [View.canon_unit_zero zeros2]
  simp only [View.readAt_eq_ld, Memref.IsWhole.read_unread, ld_all]
  pointwise [k0_pay3]
  exact congrArg _ (pay_dw x0 x1 x2 k)

end cases
end Cert.UpbKernelIdeal.Value
end
-- ==== Proof.UpbBlocks.lean ====
/-
  The two arrays the gradient of the first feed-forward layer leaves over the extended reals: the gradient of the layer's input
  row by row, and the gradient of the norm's weights as sums over all rows.
-/
module

public import proofs.«01_k».proof.Proof.UpbKernelValue
public import Idealize.ShloMosaic.Lib.Pipeline.ValueKit.Acc

@[expose] public section

noncomputable section

namespace Cert.UpbKernelIdeal.Value

open Cert.UpbKernelIdeal Cert.UpbKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (grid0.coords t 0).val = t.val ∧
    (win0_0.index t 0 = t.val ∧ win0_0.index t 1 = 0) ∧ (win0_1.index t 0 = 0 ∧ win0_1.index t 1 = 0) ∧
    (win0_2.index t 0 = t.val ∧ win0_2.index t 1 = 0) ∧ (win0_3.index t 0 = 0 ∧ win0_3.index t 1 = 0) ∧
    (win0_4.index t 0 = t.val ∧ win0_4.index t 1 = 0) ∧ (win0_5.index t 0 = t.val ∧ win0_5.index t 1 = 0) ∧
    (win0_6.index t 0 = 0 ∧ win0_6.index t 1 = 0) :=
  (by decide +kernel : ∀ t : Fin grid0.N, _)

/-- The arrays the region finds: the two cotangents side by side, the two weights one below the other, the layer's input, the
    norm's weights, the cotangent of the sum. -/
def dguA (n : Fin 4224) (j : Fin 5632) : EReal := (V m c main_v7 : Vec Ideal S4224x5632 .bf16) (ix2 n j)
def wguA (j : Fin 5632) (k : Fin 1024) : EReal := (V m c main_v3 : Vec Ideal S5632x1024 .bf16) (ix2 j k)
def hA (n : Fin 4224) (k : Fin 1024) : EReal := (V m c main_v9 : Vec Ideal S4224x1024 .f32) (ix2 n k)
def nwA (k : Fin 1024) : EReal := (V m c main_arg1 : Vec Ideal S1x1024 .f32) (ix2 0 k)
def dhoA (n : Fin 4224) (k : Fin 1024) : EReal := (V m c main_v11 : Vec Ideal S4224x1024 .f32) (ix2 n k)

/-- Row `r` of the point's row block. -/
abbrev rowOf (t : Fin cfg0.N) (r : Fin 384) : Fin 4224 := ⟨t.val * 384 + r.val, by have ht : t.val < 11 := t.isLt; omega⟩

theorem block_dgu (t : Fin cfg0.N) (r : Fin 384) (k : Fin 5632) :
    (iblk m c 0 t : Vec Ideal S384x5632 .bf16) (ix2 r k) = dguA m c (rowOf t r) k :=
  congrArg (V m c main_v7) (at2 (at_block (index_facts t).2.1.1) (at_first (index_facts t).2.1.2))

theorem block_wgu (t : Fin cfg0.N) (r : Fin 5632) (k : Fin 1024) :
    (iblk m c 1 t : Vec Ideal S5632x1024 .bf16) (ix2 r k) = wguA m c r k :=
  congrArg (V m c main_v3) (at2 (at_first (index_facts t).2.2.1.1) (at_first (index_facts t).2.2.1.2))

theorem block_h (t : Fin cfg0.N) (r : Fin 384) (k : Fin 1024) :
    (iblk m c 2 t : Vec Ideal S384x1024 .f32) (ix2 r k) = hA m c (rowOf t r) k :=
  congrArg (V m c main_v9) (at2 (at_block (index_facts t).2.2.2.1.1) (at_first (index_facts t).2.2.2.1.2))

theorem block_nw (t : Fin cfg0.N) (k : Fin 1024) :
    (iblk m c 3 t : Vec Ideal S1x1024 .f32) (ix2 0 k) = nwA m c k :=
  congrArg (V m c main_arg1) (at2 (at_first (index_facts t).2.2.2.2.1.1) (at_first (index_facts t).2.2.2.2.1.2))

theorem block_dho (t : Fin cfg0.N) (r : Fin 384) (k : Fin 1024) :
    (iblk m c 4 t : Vec Ideal S384x1024 .f32) (ix2 r k) = dhoA m c (rowOf t r) k :=
  congrArg (V m c main_v11) (at2 (at_block (index_facts t).2.2.2.2.2.1.1) (at_first (index_facts t).2.2.2.2.2.1.2))

/-- Row `n` of the gradient of the norm's output. -/
def gRow (n : Fin 4224) (k : Fin 1024) : EReal := ∑ j : Fin 5632, dguA m c n j * wguA m c j k

/-- Row `n` of the gradient of the layer's input. -/
def dhRow (n : Fin 4224) (k : Fin 1024) : EReal :=
  (dhoA m c n k + Norm.dx (fun k => hA m c n k) (fun k => gRow m c n k) (fun k => nwA m c k) k)
    * (if 112 ≤ n.val then 1 else 0)

/-- What row `n` adds to the gradient of weight `k`. -/
def dwTerm (k : Fin 1024) (n : Fin 4224) : EReal :=
  Norm.dw (fun k => hA m c n k) (fun k => gRow m c n k) k

theorem gAt_eq (t : Fin cfg0.N) (r : Fin 384) (k : Fin 1024) :
    gAt (iblk m c 0 t) (iblk m c 1 t) r k = gRow m c (rowOf t r) k := by
  unfold gAt gRow
  simp only [block_dgu, block_wgu]

theorem dhAt_eq (t : Fin cfg0.N) (r : Fin 384) (k : Fin 1024) :
    dhAt (grid0.coords t) (iblk m c 0 t) (iblk m c 1 t) (iblk m c 2 t) (iblk m c 3 t) (iblk m c 4 t) r k
      = dhRow m c (rowOf t r) k := by
  unfold dhAt dhRow
  simp only [gAt_eq, block_h, block_nw, block_dho, (index_facts t).1]

theorem dwAt_eq (t : Fin cfg0.N) (k : Fin 1024) :
    dwAt (iblk m c 0 t) (iblk m c 1 t) (iblk m c 2 t) k = ∑ r : Fin 384, dwTerm m c k (rowOf t r) := by
  unfold dwAt dwTerm
  simp only [gAt_eq, block_h]

/-- The block of the input's gradient after each point. -/
theorem outs_dh (t : Fin cfg0.N) (r : Fin 384) (k : Fin 1024) :
    (outsAt0 m c t.val t.isLt).1 (ix2 r k) = dhRow m c (rowOf t r) k := by
  by_cases h0 : t.val % 11 = 0
  · rw [outsAt0_A m c t h0, ← dhAt_eq]
    dsimp only
    rw [outA_dh]
  · rw [outsAt0_B m c t h0, ← dhAt_eq]
    dsimp only
    rw [outB_dh]

/-- Entry `k` of the block of the weights' gradient after point `n`. -/
def dwCell (n : ℕ) (hn : n < 11) (k : Fin 1024) : EReal := (outsAt0 m c n hn).2 (ix2 0 k)

/-- After point `n`: the sums over the rows of the blocks up to `n`. -/
theorem dw_sum (k : Fin 1024) (n : ℕ) : ∀ hn : n < 11,
    dwCell m c n hn k = ∑ s : Fin (n + 1), ∑ r : Fin 384, dwTerm m c k ⟨s.val * 384 + r.val, by omega⟩ := by
  induction n with
  | zero =>
    intro hn
    unfold dwCell
    rw [Fin.sum_univ_one, outsAt0_A m c ⟨0, hn⟩ rfl]
    dsimp only
    rw [outA_dw]
    exact dwAt_eq m c ⟨0, hn⟩ k
  | succ n ih =>
    intro hn
    have e : dwCell m c (n + 1) hn k = dwCell m c n (by omega) k + ∑ r : Fin 384, dwTerm m c k (rowOf ⟨n + 1, hn⟩ r) := by
      unfold dwCell
      rw [outsAt0_B m c ⟨n + 1, hn⟩ (by dsimp only; omega)]
      dsimp only
      rw [outB_dw]
      exact congrArg _ (dwAt_eq m c ⟨n + 1, hn⟩ k)
    rw [Fin.sum_univ_castSucc, e, ih (by omega)]
    rfl

/-- The array of the input's gradient at an entry. -/
theorem dh_at (n : Fin 4224) (k : Fin 1024) :
    (dats m 0 c).arrAt 5 cfg0.N (ix2 n k : S4224x1024.Idx) = dhRow m c n k := by
  have ht : n.val / 384 < cfg0.N := by show _ < 11; omega
  have hi := (index_facts ⟨_, ht⟩).2.2.2.2.2.2.1
  have h := congrFun (blocks5 m c ⟨_, ht⟩ (flush0_5 _)) (ix2 (⟨n.val % 384, by omega⟩ : Fin 384) k)
  rw [flushed5, View.read_apply] at h
  refine Eq.trans (congrArg _ ?_) (h.trans ((outs_dh m c ⟨_, ht⟩ ⟨n.val % 384, by omega⟩ k).trans ?_))
  · exact at2 (at_row hi.1) (at_first hi.2).symm
  · congr 1
    exact Fin.ext (by dsimp only; omega)

/-- Only the last point writes the gradient of the weights back. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have h0 := (flush0_6 t).mp h
  have h0' := (flush0_6 t').mp h'
  have ht : t.val < 11 := t.isLt
  have ht' : t'.val < 11 := t'.isLt
  exact absurd (Fin.ext (by omega)) hne

/-- The array of the weights' gradient at an entry: the sum over all rows. -/
theorem dw_at (k : Fin 1024) :
    (dats m 0 c).arrAt 6 cfg0.N (ix2 0 k : S1x1024.Idx) = ∑ n : Fin 4224, dwTerm m c k n := by
  have ht : 10 < cfg0.N := by show _ < 11; omega
  have hi := (index_facts ⟨_, ht⟩).2.2.2.2.2.2.2
  have hf : (cfg0.win 6).flush ⟨_, ht⟩ = true := (flush0_6 _).mpr (by dsimp only)
  have h := congrFun ((dats m 0 c).read_blk_arrAt_eq_flushed 6 disjoint6 cfg0.N ⟨_, ht⟩ ht hf) (ix2 (0 : Fin 1) k)
  rw [flushed6, View.read_apply] at h
  refine Eq.trans (congrArg _ ?_) (h.trans ((dw_sum m c k 10 ht).trans
    (Fin.sum_mul_add_fin 11 384 (fun l : Fin 4224 => dwTerm m c k l))))
  exact at2 (at_first hi.1).symm (at_first hi.2).symm

end Cert.UpbKernelIdeal.Value
end
-- ==== Proof.UpbValue.lean ====
/-
  The gradient kernel of the first feed-forward layer and its reference compute the same two arrays over the extended reals.
-/
module

public import proofs.«01_k».proof.Proof.UpbBlocks
public import proofs.«01_k».proof.Proof.Gen.UpbReferenceIdeal.Read

@[expose] public section

noncomputable section

namespace Cert.UpbValue

open Cert.UpbKernelIdeal Cert.UpbKernelIdeal.Gen Cert.UpbKernelIdeal.Value Cert.UpbReferenceIdeal.Read
open Idealize.ShloMosaic Idealize.ShloMosaic.TcCoe Idealize.SL.Sem
open Cert.Numbers Cert.Finite

section reference
variable (x0 : Vec Ideal S4112x1024 .f32) (x1 : Vec Ideal S1x1024 .f32) (x2 x3 : Vec Ideal S1024x2816 .f32)
  (x4 : Vec Ideal S4112x1024 .f32) (x5 x6 : Vec Ideal S4112x2816 .f32)

/-- The gradient of the norm's output: the two cotangents' products with the transposed weights. -/
def gR (n : Fin 4112) (k : Fin 1024) : EReal :=
  (∑ j : Fin 2816, x6 (ix2 n j) * x3 (ix2 k j)) + ∑ j : Fin 2816, x5 (ix2 n j) * x2 (ix2 k j)

theorem ref_g (n : Fin 4112) (k : Fin 1024) : val_main_v19 (F := Ideal) x2 x3 x5 x6 (ix2 n k) = gR x2 x3 x5 x6 n k := by
  unfold gR
  pointwise [val_main_v19, val_main_v18, val_main_v17]

/-- A row of the gradient of the layer's input. -/
def dhR (n : Fin 4112) (k : Fin 1024) : EReal :=
  x4 (ix2 n k) + Norm.dx (fun k => x0 (ix2 n k)) (fun k => gR x2 x3 x5 x6 n k) (fun k => x1 (ix2 0 k)) k

theorem ref_dh (n : Fin 4112) (k : Fin 1024) :
    val_main_v39 (F := Ideal) x0 x1 x2 x3 x4 x5 x6 (ix2 n k) = dhR x0 x1 x2 x3 x4 x5 x6 n k := by
  unfold dhR Norm.dx
  rw [← add_assoc, ← add_assoc]
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, ref_g]
  rfl

/-- The first result: the gradient of the layer's input below 112 zero rows. -/
theorem ref_out0 (n : Fin 4224) (k : Fin 1024) : val_main_v41 (F := Ideal) x0 x1 x2 x3 x4 x5 x6 (ix2 n k)
    = if h : n.val < 112 then 0 else dhR x0 x1 x2 x3 x4 x5 x6 ⟨n.val - 112, by omega⟩ k := by
  pointwise [val_main_v41, val_main_v40, val_main_cst_7, ref_dh]

/-- The second result: the sums over the rows. -/
theorem ref_out1 (k : Fin 1024) : val_main_v22 (F := Ideal) x0 x2 x3 x5 x6 (ix2 0 k)
    = ∑ n : Fin 4112, Norm.dw (fun k => x0 (ix2 n k)) (fun k => gR x2 x3 x5 x6 n k) k := by
  pointwise [val_main_v22, val_main_v21, val_main_v20, val_main_v12, val_main_v11, val_main_v7, val_main_v6, val_main_v5, val_main_v4, val_main_v3, val_main_v2, val_main_v1, val_main_v0, val_main_cst, val_main_cst_0, val_main_cst_1, val_main_cst_3, ref_g]
  rfl

end reference

section kernel
variable (m : (ℓ : Loc nD τ sig) → Buf (Elt Ideal) ℓ) (c : Dev nD)

abbrev a0 : Vec Ideal S4112x1024 .f32 := m ((c.tc : Thread nD τ).loc main_arg0)
abbrev a1 : Vec Ideal S1x1024 .f32 := m ((c.tc : Thread nD τ).loc main_arg1)
abbrev a2 : Vec Ideal S1024x2816 .f32 := m ((c.tc : Thread nD τ).loc main_arg2)
abbrev a3 : Vec Ideal S1024x2816 .f32 := m ((c.tc : Thread nD τ).loc main_arg3)
abbrev a4 : Vec Ideal S4112x1024 .f32 := m ((c.tc : Thread nD τ).loc main_arg4)
abbrev a5 : Vec Ideal S4112x2816 .f32 := m ((c.tc : Thread nD τ).loc main_arg5)
abbrev a6 : Vec Ideal S4112x2816 .f32 := m ((c.tc : Thread nD τ).loc main_arg6)

/-- The padded cotangent of the sum. -/
theorem dho_eq (n : Fin 4224) (k : Fin 1024) :
    dhoA m c n k = if h : n.val < 112 then 0 else a4 m c (ix2 (⟨n.val - 112, by omega⟩ : Fin 4112) k) := by
  unfold dhoA
  dsimp only [V, hostOps0]
  after_results
  pointwise

theorem h_eq (n : Fin 4224) (k : Fin 1024) :
    hA m c n k = if h : n.val < 112 then 0 else a0 m c (ix2 (⟨n.val - 112, by omega⟩ : Fin 4112) k) := by
  unfold hA
  dsimp only [V, hostOps0]
  after_results
  pointwise

theorem nw_eq (k : Fin 1024) : nwA m c k = a1 m c (ix2 0 k) := by
  unfold nwA
  rw [V_main_arg1]

/-- The two weights, transposed, one below the other. -/
theorem wgu_eq (j : Fin 5632) (k : Fin 1024) : wguA m c j k = if h : j.val < 2816
    then a2 m c (ix2 k (⟨j.val, h⟩ : Fin 2816)) else a3 m c (ix2 k (⟨j.val - 2816, by omega⟩ : Fin 2816)) := by
  unfold wguA
  dsimp only [V, hostOps0]
  after_results
  pointwise

/-- The two cotangents side by side below 112 zero rows. -/
theorem dgu_eq (n : Fin 4224) (j : Fin 5632) : dguA m c n j = if h : n.val < 112 then 0 else if hj : j.val < 2816
    then a5 m c (ix2 (⟨n.val - 112, by omega⟩ : Fin 4112) (⟨j.val, hj⟩ : Fin 2816))
    else a6 m c (ix2 (⟨n.val - 112, by omega⟩ : Fin 4112) (⟨j.val - 2816, by omega⟩ : Fin 2816)) := by
  unfold dguA
  dsimp only [V, hostOps0]
  after_results
  pointwise

/-- The one long product is the sum of the two. -/
theorem gRow_eq (n : Fin 4224) (hn : ¬n.val < 112) (k : Fin 1024) :
    gRow m c n k = gR (a2 m c) (a3 m c) (a5 m c) (a6 m c) ⟨n.val - 112, by omega⟩ k := by
  unfold gRow gR
  simp only [dgu_eq, wgu_eq, dif_neg hn]
  refine (Fin.sum_univ_add (a := 2816) (b := 2816) _).trans ((add_comm _ _).trans (congrArg₂ (· + ·) ?_ ?_))
  · refine Finset.sum_congr rfl fun j _ => ?_
    have h : ¬2816 + j.val < 2816 := by omega
    simp only [Fin.val_natAdd, dif_neg h, Nat.add_sub_cancel_left]
  · refine Finset.sum_congr rfl fun j _ => ?_
    simp only [Fin.val_castAdd, dif_pos j.isLt]

/-- A row of the input's gradient is the reference's, zero in the padding. -/
theorem dhRow_eq (n : Fin 4224) (k : Fin 1024) : dhRow m c n k
    = if h : n.val < 112 then 0
      else dhR (a0 m c) (a1 m c) (a2 m c) (a3 m c) (a4 m c) (a5 m c) (a6 m c) ⟨n.val - 112, by omega⟩ k := by
  unfold dhRow dhR
  by_cases h : n.val < 112
  · rw [dif_pos h, if_neg (by omega), mul_zero]
  · rw [dif_neg h, if_pos (by omega), mul_one]
    simp only [gRow_eq m c n h, h_eq, dho_eq, nw_eq, dif_neg h]

/-- The first array is the reference's. -/
theorem dh_entry (n : Fin 4224) (k : Fin 1024) : (dats m 0 c).arrAt 5 cfg0.N (ix2 n k : S4224x1024.Idx)
    = val_main_v41 (F := Ideal) (a0 m c) (a1 m c) (a2 m c) (a3 m c) (a4 m c) (a5 m c) (a6 m c) (ix2 n k) :=
  (dh_at m c n k).trans ((dhRow_eq m c n k).trans (ref_out0 _ _ _ _ _ _ _ n k).symm)

theorem dh_arr : (dats m 0 c).arrAt 5 cfg0.N = val_main_v41 (F := Ideal) (a0 m c) (a1 m c) (a2 m c) (a3 m c) (a4 m c) (a5 m c) (a6 m c) := by
  funext i
  have e : i = ix2 (i 0) (i 1) := eq_ix2 i
  rw [e]
  exact dh_entry m c (i 0) (i 1)

/-- The sums over the rows are the reference's. -/
theorem dw_rows (k : Fin 1024) : ∑ n : Fin 4224, dwTerm m c k n
    = ∑ n : Fin 4112, Norm.dw (fun k => a0 m c (ix2 n k)) (fun k => gR (a2 m c) (a3 m c) (a5 m c) (a6 m c) n k) k := by
  rw [Norm.sum_rows]
  · refine Finset.sum_congr rfl fun n _ => ?_
    unfold dwTerm
    have h : ¬112 + n.val < 112 := by omega
    simp only [gRow_eq m c ⟨112 + n.val, by omega⟩ h, h_eq, dif_neg h, Nat.add_sub_cancel_left]
  · intro n hn
    unfold dwTerm
    exact Norm.dw_zero _ _ (fun k => by rw [h_eq, dif_pos hn]) k

/-- The second array is the reference's. -/
theorem dw_entry (k : Fin 1024) : (dats m 0 c).arrAt 6 cfg0.N (ix2 0 k : S1x1024.Idx)
    = val_main_v22 (F := Ideal) (a0 m c) (a2 m c) (a3 m c) (a5 m c) (a6 m c) (ix2 0 k) :=
  (dw_at m c k).trans ((dw_rows m c k).trans (ref_out1 _ _ _ _ _ k).symm)

theorem dw_eq : (dats m 0 c).arrAt 6 cfg0.N = val_main_v22 (F := Ideal) (a0 m c) (a2 m c) (a3 m c) (a5 m c) (a6 m c) := by
  funext i
  have e : i = ix2 0 (i 1) := by
    funext a
    match a with
    | ⟨0, _⟩ => exact Subsingleton.elim (α := Fin 1) _ _
    | ⟨1, _⟩ => rfl
  rw [e]
  exact dw_entry m c (i 1)

end kernel
end Cert.UpbValue
end
-- ==== Proof.UpbClaims.lean ====
/-
  The claims about the gradient kernel of the first feed-forward layer and its reference.
-/
module

public import proofs.«01_k».proof.Defs
public import proofs.«01_k».proof.Proof.UpbValue
public import proofs.«01_k».proof.Proof.Gen.UpbKernel.Frame
public import proofs.«01_k».proof.Proof.Gen.UpbReferenceIdeal.Run

@[expose] public section

noncomputable section

namespace Cert.UpbClaims

open Idealize.ShloMosaic Idealize.ShloMosaic.TcCoe Idealize.SL.Sem
open Cert.Numbers Cert.Finite

/-- The kernel runs without fault, keeps its arguments and leaves every counter at zero. -/
theorem frame_kernel : Cert.quiescent_UpbKernel := fun m ρ _ => Cert.UpbKernel.Gen.frame m ρ

/-- So does its ideal program. -/
theorem frame_ideal : Cert.quiescent_UpbKernelIdeal := fun m ρ _ => Cert.UpbKernelIdeal.Gen.frame m ρ

/-- So does the reference. -/
theorem frame_reference : Cert.quiescent_UpbReferenceIdeal := fun m ρ _ =>
  (θ_run _ _ _).mono (fun r h => ⟨fun c => (h c).2.2, sem_eq_zero_of_no_sems (by decide) r.2⟩)
    (Cert.UpbReferenceIdeal.Value.run m ρ)

/-- The kernel and the reference compute the same gradients of the layer's input and of the norm's weights. -/
theorem algebraic : Cert.algebraic_UpbKernelIdeal_UpbReferenceIdeal :=
  fun m g m' g' _ hargs =>
  ⟨fun c => (Cert.UpbKernelIdeal.Gen.dats m 0 c).arrAt 5 Cert.UpbKernelIdeal.cfg0.N,
   fun c => (Cert.UpbKernelIdeal.Gen.dats m 0 c).arrAt 6 Cert.UpbKernelIdeal.cfg0.N,
   Cert.UpbKernelIdeal.Value.run_blocks m g,
   (θ_run _ _ _).mono (fun r h c => by
      obtain ⟨r0, r1, hk⟩ := h c
      obtain ⟨e0, e1, e2, e3, e4, e5, e6⟩ := hargs c
      refine ⟨r0.trans ?_, r1.trans ?_, hk⟩
      · rw [Cert.UpbReferenceIdeal.Read.val_main_v41_eq, e0, e1, e2, e3, e4, e5, e6]
        exact (Cert.UpbValue.dh_arr m c).symm
      · rw [Cert.UpbReferenceIdeal.Read.val_main_v22_eq, e0, e2, e3, e5, e6]
        exact (Cert.UpbValue.dw_eq m c).symm)
    (Cert.UpbReferenceIdeal.Value.run m' g')⟩

end Cert.UpbClaims

end
-- ==== Proof.Words.lean ====
/-
  Integer words that hold small integers: what the programs' word arithmetic and comparisons are on them.
-/
module

public import proofs.«01_k».proof.Proof.Numbers

@[expose] public section

noncomputable section

namespace Cert.Words

open Idealize.ShloMosaic

/-- The word of an integer. -/
abbrev wd (z : ℤ) : BitVec 32 := BitVec.ofInt 32 z

theorem wd_nat (n : ℕ) : BitVec.ofNat 32 n = wd (n : ℤ) := (BitVec.ofInt_natCast 32 n).symm
theorem wd_fin {k : ℕ} (n : Fin k) : BitVec.ofNat 32 n.val = wd ((n.val : ℕ) : ℤ) := wd_nat n.val

theorem wd_add (a b : ℤ) : wd a + wd b = wd (a + b) := (BitVec.ofInt_add a b).symm
theorem wd_mul (a b : ℤ) : wd a * wd b = wd (a * b) := (BitVec.ofInt_mul a b).symm
theorem wd_sub (a b : ℤ) : wd a - wd b = wd (a - b) := by
  rw [BitVec.sub_eq_add_neg, ← BitVec.ofInt_neg, wd_add]; rfl

theorem toInt_wd {z : ℤ} (h : -2147483648 ≤ z) (h' : z < 2147483648) : (wd z).toInt = z := by
  rw [BitVec.toInt_ofInt, Int.bmod_eq_of_le] <;> norm_num <;> omega

theorem addi_wd (a b : ℤ) : IntOp.addi (wd a) (wd b) = wd (a + b) := wd_add a b
theorem subi_wd (a b : ℤ) : IntOp.subi (wd a) (wd b) = wd (a - b) := wd_sub a b
theorem muli_wd (a b : ℤ) : IntOp.muli (wd a) (wd b) = wd (a * b) := wd_mul a b

theorem slt_wd {a b : ℤ} (ha : -2147483648 ≤ a ∧ a < 2147483648) (hb : -2147483648 ≤ b ∧ b < 2147483648) :
    (wd a).slt (wd b) = decide (a < b) := by
  rw [BitVec.slt, toInt_wd ha.1 ha.2, toInt_wd hb.1 hb.2]

theorem sle_wd {a b : ℤ} (ha : -2147483648 ≤ a ∧ a < 2147483648) (hb : -2147483648 ≤ b ∧ b < 2147483648) :
    (wd a).sle (wd b) = decide (a ≤ b) := by
  rw [BitVec.sle, toInt_wd ha.1 ha.2, toInt_wd hb.1 hb.2]

theorem cmp_slt {a b : ℤ} (ha : -2147483648 ≤ a ∧ a < 2147483648) (hb : -2147483648 ≤ b ∧ b < 2147483648) :
    IntOp.cmpi .slt (wd a) (wd b) = if a < b then 1#1 else 0#1 := by
  show BitVec.ofBool _ = _
  rw [slt_wd ha hb]
  by_cases h : a < b <;> simp [h]

theorem cmp_sge {a b : ℤ} (ha : -2147483648 ≤ a ∧ a < 2147483648) (hb : -2147483648 ≤ b ∧ b < 2147483648) :
    IntOp.cmpi .sge (wd a) (wd b) = if b ≤ a then 1#1 else 0#1 := by
  show BitVec.ofBool _ = _
  rw [sle_wd hb ha]
  by_cases h : b ≤ a <;> simp [h]

theorem max_wd {a b : ℤ} (ha : -2147483648 ≤ a ∧ a < 2147483648) (hb : -2147483648 ≤ b ∧ b < 2147483648) :
    IntOp.maxsi (wd a) (wd b) = wd (max a b) := by
  unfold IntOp.maxsi
  rw [slt_wd hb ha]
  by_cases h : b < a
  · simp [h, max_eq_left h.le]
  · simp [h, max_eq_right (not_lt.mp h)]

theorem and_bit (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem or_bit (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

theorem not_bit (p : Prop) [Decidable p] :
    IntOp.xori (if p then 1#1 else 0#1) 1#1 = if ¬p then 1#1 else 0#1 := by
  by_cases hp : p <;> simp [hp, IntOp.xori]

/-- A truth bit as a number. -/
theorem bit_number (p : Prop) [Decidable p] :
    (FloatOps.sitofp (F := Ideal) .f32 (BitVec.setWidth 32 (if p then 1#1 else 0#1)) : EReal) = if p then 1 else 0 := by
  by_cases hp : p
  · rw [if_pos hp, if_pos hp]
    show (((1#32 : BitVec 32).toInt : ℝ) : EReal) = 1
    norm_num
  · rw [if_neg hp, if_neg hp]
    show (((0#32 : BitVec 32).toInt : ℝ) : EReal) = 0
    norm_num

end Cert.Words

end
-- ==== Proof.Bucket.lean ====
/-
  The bucket of a distance: rows of the table of relative biases. Distances from 128 on share the last bucket.
-/
module

public import proofs.«01_k».proof.Proof.Words
public import Idealize.ShloMosaic.Lib.Pointwise

@[expose] public section

noncomputable section

namespace Cert.Bucket

open Idealize.ShloMosaic Idealize.ShloMosaic.TcCoe Cert.Words Cert.Numbers

/-- The logarithmic part of the bucket of a positive distance word. -/
def far (w : BitVec 32) : BitVec 32 :=
  IntOp.minsi (IntOp.addi 16#32 (FloatOps.fptosi (F := Ideal) (φ := .f32) 32
    (Ideal.div (Ideal.log (Ideal.div (FloatOps.sitofp (F := Ideal) .f32 (IntOp.maxsi w 1#32)) (Ideal.ofBits .f32 0x41800000#32)))
      (Ideal.ofBits .f32 0x40051592#32) * Ideal.ofBits .f32 0x41800000#32))) 31#32

/-- The bucket of a distance that is not negative. -/
def near (w : BitVec 32) : BitVec 32 := Scalar.select (IntOp.cmpi .slt w 16#32) w (far w)

/-- The row of the table a distance word takes. -/
def row (w : BitVec 32) : BitVec 32 :=
  Scalar.select (IntOp.cmpi .slt (near (IntOp.maxsi w 0#32)) 0#32) (IntOp.addi (near (IntOp.maxsi w 0#32)) 32#32) (near (IntOp.maxsi w 0#32))

/-- The table's entry for a distance word and a head. -/
def entry (table : (⟨2, ![32, 8]⟩ : Shape).Idx → EReal) (w : BitVec 32) (h : Fin 8) : EReal :=
  table (ix2 ⟨min (row w).toInt.toNat (32 - 1), by omega⟩ h)

theorem entry_of (table : (⟨2, ![32, 8]⟩ : Shape).Idx → EReal) (w v : BitVec 32) (h : Fin 8) (e : v = row w) (hv : min v.toInt.toNat (32 - 1) < 32) :
    table (ix2 ⟨min v.toInt.toNat (32 - 1), hv⟩ h) = entry table w h := by subst e; rfl

theorem f32_16 : (Ideal.ofBits .f32 0x41800000#32 : EReal) = ((16 : ℝ) : EReal) := by
  simp [Ideal.ofBits, Ideal.ieee, -EReal.coe_mul]; norm_num

theorem f32_log8 : (Ideal.ofBits .f32 0x40051592#32 : EReal) = ((8721810 / 4194304 : ℝ) : EReal) := by
  simp [Ideal.ofBits, Ideal.ieee, -EReal.coe_mul]; norm_num

theorem log_two_large : (0.65 : ℝ) ≤ Real.log 2 := by
  rw [Real.le_log_iff_exp_le (by norm_num)]
  have h := Real.exp_bound' (x := 0.65) (by norm_num) (by norm_num) (n := 5) (by norm_num)
  refine h.trans ?_
  norm_num [Finset.sum_range_succ, Nat.factorial]

theorem log_bounds {x : ℝ} (h : 8 ≤ x) (h' : x ≤ 1000) : (1.95 : ℝ) ≤ Real.log x ∧ Real.log x ≤ 1000 := by
  constructor
  · have h8 : Real.log 8 = 3 * Real.log 2 := by
      rw [show (8 : ℝ) = 2 ^ 3 by norm_num, Real.log_pow]; norm_num
    have h2 := log_two_large
    have hm := Real.log_le_log (by norm_num) h
    linarith
  · have := Real.log_le_sub_one_of_pos (show 0 < x by linarith)
    linarith

theorem far_sat {z : ℤ} (h : 128 ≤ z) (h' : z < 10000) : far (wd z) = 31#32 := by
  unfold far
  rw [show (1#32 : BitVec 32) = wd 1 from rfl, max_wd (by omega) (by omega), max_eq_left (by omega), f32_16, f32_log8]
  have hs : (FloatOps.sitofp (F := Ideal) .f32 (wd z) : EReal) = ((z : ℝ) : EReal) := by
    show ((((wd z).toInt : ℤ) : ℝ) : EReal) = _
    rw [toInt_wd (by omega) (by omega)]
  have hz : (128 : ℝ) ≤ z := by exact_mod_cast h
  have hz' : (z : ℝ) < 10000 := by exact_mod_cast h'
  rw [hs]
  have hd : ∀ a b : ℝ, b ≠ 0 → Ideal.div (a : EReal) (b : EReal) = ((a / b : ℝ) : EReal) := by
    intro a b hb
    unfold Ideal.div
    rw [if_neg (by exact_mod_cast hb), ← EReal.coe_inv, ← EReal.coe_mul, div_eq_mul_inv]
  rw [hd _ _ (by norm_num)]
  have hl : Ideal.log (((z : ℝ) / 16 : ℝ) : EReal) = ((Real.log ((z : ℝ) / 16) : ℝ) : EReal) := by
    show (if (z : ℝ) / 16 ≤ 0 then ⊥ else _) = _
    rw [if_neg (by linarith)]
  rw [hl, hd _ _ (by norm_num), ← EReal.coe_mul]
  obtain ⟨b1, b2⟩ := log_bounds (x := (z : ℝ) / 16) (by linarith) (by linarith)
  have hx1 : (15 : ℝ) ≤ Real.log ((z : ℝ) / 16) / (8721810 / 4194304) * 16 := by linarith
  have hx2 : Real.log ((z : ℝ) / 16) / (8721810 / 4194304) * 16 ≤ 10000 := by linarith
  generalize Real.log ((z : ℝ) / 16) / (8721810 / 4194304) * 16 = x at hx1 hx2
  have hk1 : 15 ≤ ⌊x⌋ := Int.le_floor.mpr (by exact_mod_cast hx1)
  have hk2 : ⌊x⌋ ≤ 10000 := by
    have := Int.floor_le x
    have h3 : ((⌊x⌋ : ℤ) : ℝ) ≤ ((10000 : ℤ) : ℝ) := by push_cast; linarith
    exact_mod_cast h3
  have hf : (FloatOps.fptosi (F := Ideal) (φ := .f32) 32 ((x : ℝ) : EReal) : BitVec 32) = wd ⌊x⌋ := by
    show BitVec.ofInt 32 (max (-(2 ^ 31 : ℕ) : ℤ) (min ((2 ^ 31 : ℕ) - 1 : ℤ) (if 0 ≤ x then ⌊x⌋ else ⌈x⌉))) = _
    rw [if_pos (by linarith)]
    congr 1
    norm_num
    omega
  rw [hf, show (16#32 : BitVec 32) = wd 16 from rfl, addi_wd]
  unfold IntOp.minsi
  rw [show (31#32 : BitVec 32) = wd 31 from rfl, slt_wd (by omega) (by omega)]
  by_cases hh : 16 + ⌊x⌋ < 31
  · omega
  · simp [hh]

/-- From 128 on the row is the last. -/
theorem row_far {z : ℤ} (h : 128 ≤ z) (h' : z < 10000) : row (wd z) = 31#32 := by
  have hn : near (wd z) = 31#32 := by
    unfold near
    rw [far_sat h h', show (16#32 : BitVec 32) = wd 16 from rfl, cmp_slt (by omega) (by omega), if_neg (by omega)]
    rfl
  unfold row
  rw [show (0#32 : BitVec 32) = wd 0 from rfl, max_wd (by omega) (by omega), max_eq_left (by omega), hn]
  rfl

theorem entry_far (table : (⟨2, ![32, 8]⟩ : Shape).Idx → EReal) {z z' : ℤ} (h : 128 ≤ z ∧ z < 10000) (h' : 128 ≤ z' ∧ z' < 10000) (g : Fin 8) :
    entry table (wd z) g = entry table (wd z') g := by
  unfold entry
  simp only [row_far h.1 h.2, row_far h'.1 h'.2]

end Cert.Bucket

end
-- ==== Proof.Attn.lean ====
/-
  Sliding-window attention over the extended reals: the keys a block of 128 queries sees (a row of 16 first keys among 128, then
  256 band keys), its masks and distances, the softmax with a sink, and the same softmax with the keys in another order.
-/
module

public import proofs.«01_k».proof.Proof.Bucket

@[expose] public section

noncomputable section

namespace Cert.Attn

open Idealize.ShloMosaic Idealize.ShloMosaic.TcCoe Cert.Words Cert.Numbers

/-- Position of key `j` of the point `n`: a row of the padded array, less the padding. -/
def posK (n : ℕ) (j : ℕ) : ℤ := if j < 128 then (j : ℤ) - 112 else ((n : ℤ) - 1) * 128 + ((j : ℤ) - 128) - 112

/-- Distance from query `i` to key `j`. -/
def relK (n i j : ℕ) : ℤ := (n : ℤ) * 128 + i - 112 - posK n j

/-- Which keys query `i` sees: the 16 first rows of the array up to its own, and the 128 rows up to its own. -/
def seen (n i j : ℕ) : Prop :=
  (((j < 128 ∧ 0 ≤ posK n j) ∧ posK n j < 16) ∧ 0 ≤ relK n i j) ∨ (((¬ j < 128 ∧ 16 ≤ posK n j) ∧ 0 ≤ relK n i j) ∧ relK n i j < 128)

instance (n i j : ℕ) : Decidable (seen n i j) := by unfold seen; infer_instance

theorem posK_bound {n j : ℕ} (hn : n < 33) (hj : j < 384) : -10000 ≤ posK n j ∧ posK n j < 10000 := by
  unfold posK; split <;> omega

theorem relK_bound {n i j : ℕ} (hn : n < 33) (hi : i < 128) (hj : j < 384) : -20000 ≤ relK n i j ∧ relK n i j < 20000 := by
  have := posK_bound hn hj
  unfold relK; omega

/-- The half of the lanes a head uses. -/
def lane (b : ℕ) (l : Fin 128) : EReal := if l.val / 64 = b then 1 else 0

/-- The distance a bias block holds at a row and a lane. -/
def distK (b i j : ℕ) : ℤ := (b : ℤ) * 128 + i - (if j < 128 then (j : ℤ) else ((b : ℤ) - 2) * 128 + j)

/-- The row of the padded array key `j` of the point `n` is. -/
def rowOf (n : Fin 33) (j : Fin 384) : Fin 4224 :=
  ⟨if j.val < 128 then j.val else if j.val < 256 then (n.val - 1) * 128 + (j.val - 128) else n.val * 128 + (j.val - 256), by split_ifs <;> omega⟩

/-- The row of the padded array query `i` of the point `n` is. -/
def rowQ (n : Fin 33) (i : Fin 128) : Fin 4224 := ⟨n.val * 128 + i.val, by omega⟩

section arrays
variable (p : (⟨2, ![4112, 2824]⟩ : Shape).Idx → EReal) (tab : (⟨2, ![32, 8]⟩ : Shape).Idx → EReal) (sk : (⟨1, ![8]⟩ : Shape).Idx → EReal)

/-- The queries' columns of the padded array. -/
def qAt (n : Fin 4224) (k : Fin 512) : EReal :=
  if h : n.val < 112 then 0 else p (ix2 ⟨n.val - 112, by omega⟩ ⟨k.val, by omega⟩)

/-- The two keys' and two values' columns of the padded array, 64 each. -/
def kvOf (n : Fin 4224) (b : Fin 4) (d : Fin 64) : EReal :=
  if h : n.val < 112 then 0 else p (ix2 ⟨n.val - 112, by omega⟩ ⟨512 + b.val * 64 + d.val, by omega⟩)

/-- The product of a query and a key of head `h`. -/
def prod (n : Fin 33) (h : Fin 8) (i : Fin 128) (r : Fin 4224) : EReal :=
  ∑ d : Fin 64, qAt p (rowQ n i) ⟨h.val * 64 + d.val, by omega⟩ * kvOf p r ⟨h.val / 4, by omega⟩ d

/-- The score of key `j`: an eighth of the product, and the bias of the distance. -/
def scoreS (n : Fin 33) (h : Fin 8) (i : Fin 128) (j : Fin 384) : EReal :=
  prod p n h i (rowOf n j) * Ideal.ofBits .f32 0x3E000000#32 + Bucket.entry tab (wd (distK (min n.val 2) i.val j.val)) h

def maskedS (n : Fin 33) (h : Fin 8) (i : Fin 128) (j : Fin 384) : EReal := if seen n.val i.val j.val then scoreS p tab n h i j else ⊥

/-- The largest of a query's scores and the sink. -/
def topS (n : Fin 33) (h : Fin 8) (i : Fin 128) : EReal :=
  max (Finset.univ.fold max ⊥ fun j : Fin 384 => maskedS p tab n h i j) (sk (ix1 h))

/-- The sum the softmax divides by. -/
def denS (n : Fin 33) (h : Fin 8) (i : Fin 128) : EReal :=
  (∑ j : Fin 384, Ideal.exp (maskedS p tab n h i j - topS p tab sk n h i)) + Ideal.exp (sk (ix1 h) - topS p tab sk n h i)

/-- The weight of a score. -/
def weight (n : Fin 33) (h : Fin 8) (i : Fin 128) (x : EReal) : EReal :=
  Ideal.div (Ideal.exp (x - topS p tab sk n h i)) (denS p tab sk n h i)

/-- The attention of query `i`, head `h`, at value lane `d`. -/
def outS (n : Fin 33) (h : Fin 8) (i : Fin 128) (d : Fin 64) : EReal :=
  ∑ j : Fin 384, weight p tab sk n h i (maskedS p tab n h i j) * kvOf p (rowOf n j) ⟨2 + h.val / 4, by omega⟩ d

end arrays

/-- Half of the lanes: a product over 128 lanes with one half set to zero. -/
theorem sum_half (b : ℕ) (hb : b < 2) (x y : Fin 128 → EReal) :
    (∑ l : Fin 128, (x l * lane b l) * y l) = ∑ d : Fin 64, x ⟨b * 64 + d.val, by omega⟩ * y ⟨b * 64 + d.val, by omega⟩ := by
  rw [Fin.sum_univ_add (a := 64) (b := 64)]
  match b, hb with
  | 0, _ =>
    have e1 : ∀ d : Fin 64, lane 0 (Fin.castAdd 64 d) = 1 := fun d => if_pos (by show d.val / 64 = 0; omega)
    have e2 : ∀ d : Fin 64, lane 0 (Fin.natAdd 64 d) = 0 := fun d => if_neg (by show ¬(64 + d.val) / 64 = 0; omega)
    simp only [e1, e2, mul_one, mul_zero, zero_mul, Finset.sum_const_zero, add_zero]
    refine Finset.sum_congr rfl fun d _ => ?_
    have e : (⟨0 + d.val, by omega⟩ : Fin 128) = Fin.castAdd 64 d := Fin.ext (by show 0 + d.val = d.val; omega)
    rw [e]
  | 1, _ =>
    have e1 : ∀ d : Fin 64, lane 1 (Fin.castAdd 64 d) = 0 := fun d => if_neg (by show ¬d.val / 64 = 1; omega)
    have e2 : ∀ d : Fin 64, lane 1 (Fin.natAdd 64 d) = 1 := fun d => if_pos (by show (64 + d.val) / 64 = 1; omega)
    simp only [e1, e2, mul_one, mul_zero, zero_mul, Finset.sum_const_zero, zero_add]
    refine Finset.sum_congr rfl fun d _ => ?_
    have e : (⟨1 * 64 + d.val, by omega⟩ : Fin 128) = Fin.natAdd 64 d := Fin.ext (by show 1 * 64 + d.val = 64 + d.val; omega)
    rw [e]

section order

/-- A query's scores in the order band, first keys, sink. -/
def Reordered (f : Fin 384 → EReal) (s : EReal) (g : Fin 273 → EReal) : Prop :=
  (∀ k : Fin 256, g ⟨k.val, by omega⟩ = f ⟨128 + k.val, by omega⟩) ∧ (∀ k : Fin 16, g ⟨256 + k.val, by omega⟩ = f ⟨112 + k.val, by omega⟩)
    ∧ g ⟨272, by omega⟩ = s

variable {f : Fin 384 → EReal} {s : EReal} {g : Fin 273 → EReal}

theorem split273 (φ : Fin 273 → EReal) :
    (∑ t, φ t) = ((∑ k : Fin 256, φ ⟨k.val, by omega⟩) + ∑ k : Fin 16, φ ⟨256 + k.val, by omega⟩) + φ ⟨272, by omega⟩ := by
  rw [Fin.sum_univ_add (a := 272) (b := 1), Fin.sum_univ_add (a := 256) (b := 16), Fin.sum_univ_one]
  rfl

theorem split384 (φ : Fin 384 → EReal) (h0 : ∀ j : Fin 384, j.val < 112 → φ j = 0) :
    (∑ j, φ j) = (∑ k : Fin 256, φ ⟨128 + k.val, by omega⟩) + ∑ k : Fin 16, φ ⟨112 + k.val, by omega⟩ := by
  rw [Fin.sum_univ_add (a := 128) (b := 256), Fin.sum_univ_add (a := 112) (b := 16),
    Finset.sum_eq_zero fun (k : Fin 112) _ => h0 _ (by show k.val < 112; exact k.isLt), zero_add, add_comm]
  rfl

theorem Reordered.sum (hg : Reordered f s g) (h0 : ∀ j : Fin 384, j.val < 112 → f j = ⊥) (φ : EReal → EReal) (hφ : φ ⊥ = 0) :
    (∑ t, φ (g t)) = (∑ j, φ (f j)) + φ s := by
  rw [split273, split384 (fun j => φ (f j)) fun j hj => by rw [h0 j hj, hφ], hg.2.2]
  simp only [hg.1, hg.2.1]

theorem Reordered.fold (hg : Reordered f s g) (h0 : ∀ j : Fin 384, j.val < 112 → f j = ⊥) :
    Finset.univ.fold max ⊥ g = max (Finset.univ.fold max ⊥ f) s := by
  apply le_antisymm
  · rw [Finset.fold_max_le]
    refine ⟨bot_le, fun t _ => ?_⟩
    by_cases h1 : t.val < 256
    · refine (le_of_eq (hg.1 ⟨t.val, h1⟩)).trans (le_max_of_le_left ?_)
      exact Finset.le_fold_max _ |>.mpr (Or.inr ⟨_, Finset.mem_univ _, le_rfl⟩)
    · by_cases h2 : t.val < 272
      · have e : t = ⟨256 + (t.val - 256), by omega⟩ := Fin.ext (by show t.val = 256 + (t.val - 256); omega)
        rw [e]
        refine (le_of_eq (hg.2.1 ⟨t.val - 256, by omega⟩)).trans (le_max_of_le_left ?_)
        exact Finset.le_fold_max _ |>.mpr (Or.inr ⟨_, Finset.mem_univ _, le_rfl⟩)
      · have e : t = ⟨272, by omega⟩ := Fin.ext (by show t.val = 272; omega)
        rw [e, hg.2.2]
        exact le_max_right _ _
  · refine max_le ?_ ?_
    · rw [Finset.fold_max_le]
      refine ⟨bot_le, fun j _ => ?_⟩
      by_cases h1 : j.val < 112
      · rw [h0 j h1]; exact bot_le
      · by_cases h2 : j.val < 128
        · have e : j = ⟨112 + (j.val - 112), by omega⟩ := Fin.ext (by show j.val = 112 + (j.val - 112); omega)
          rw [e]
          refine (le_of_eq (hg.2.1 ⟨j.val - 112, by omega⟩).symm).trans ?_
          exact Finset.le_fold_max _ |>.mpr (Or.inr ⟨_, Finset.mem_univ _, le_rfl⟩)
        · have e : j = ⟨128 + (j.val - 128), by omega⟩ := Fin.ext (by show j.val = 128 + (j.val - 128); omega)
          rw [e]
          refine (le_of_eq (hg.1 ⟨j.val - 128, by omega⟩).symm).trans ?_
          exact Finset.le_fold_max _ |>.mpr (Or.inr ⟨_, Finset.mem_univ _, le_rfl⟩)
    · rw [← hg.2.2]
      exact Finset.le_fold_max _ |>.mpr (Or.inr ⟨_, Finset.mem_univ _, le_rfl⟩)

end order

end Cert.Attn
end
-- ==== Proof.AttnFinite.lean ====
/-
  The attention's softmax over finite arguments: a score is a real number or the mask, the largest one is real because the sink
  is, and the sum of the exponentials is not zero.
-/
module

public import proofs.«01_k».proof.Proof.Attn
public import proofs.«01_k».proof.Proof.Finite

@[expose] public section

noncomputable section

namespace Cert.Attn

open Idealize.ShloMosaic Cert.Finite Cert.Words

variable {p : (⟨2, ![4112, 2824]⟩ : Shape).Idx → EReal} {tab : (⟨2, ![32, 8]⟩ : Shape).Idx → EReal} {sk : (⟨1, ![8]⟩ : Shape).Idx → EReal}

theorem real_qAt (hp : ∀ i, IsReal (p i)) (n : Fin 4224) (k : Fin 512) : IsReal (qAt p n k) := by
  unfold qAt
  split
  · exact isReal_zero
  · exact hp _

theorem real_kvOf (hp : ∀ i, IsReal (p i)) (n : Fin 4224) (b : Fin 4) (d : Fin 64) : IsReal (kvOf p n b d) := by
  unfold kvOf
  split
  · exact isReal_zero
  · exact hp _

theorem f32_eighth : (Ideal.ofBits .f32 0x3E000000#32 : EReal) = ((1 / 8 : ℝ) : EReal) := by
  simp [Ideal.ofBits, Ideal.ieee, -EReal.coe_mul]; norm_num

/-- A score is a real number. -/
theorem real_score (hp : ∀ i, IsReal (p i)) (ht : ∀ i, IsReal (tab i)) (n : Fin 33) (h : Fin 8) (i : Fin 128) (j : Fin 384) :
    IsReal (scoreS p tab n h i j) := by
  unfold scoreS prod
  rw [f32_eighth]
  exact ((isReal_sum _ fun d => (real_qAt hp _ _).mul (real_kvOf hp _ _ d)).mul (isReal_coe _)).add (ht _)

theorem masked_lt (hp : ∀ i, IsReal (p i)) (ht : ∀ i, IsReal (tab i)) (n : Fin 33) (h : Fin 8) (i : Fin 128) (j : Fin 384) :
    maskedS p tab n h i j < ⊤ := by
  unfold maskedS
  split
  · obtain ⟨r, e⟩ := real_score hp ht n h i j
    rw [e]; exact EReal.coe_lt_top r
  · exact bot_lt_top

/-- The largest score is a real number. -/
theorem real_top (hp : ∀ i, IsReal (p i)) (ht : ∀ i, IsReal (tab i)) (hs : ∀ i, IsReal (sk i)) (n : Fin 33) (h : Fin 8) (i : Fin 128) :
    IsReal (topS p tab sk n h i) := by
  obtain ⟨s, e⟩ := hs (ix1 h)
  have h1 : topS p tab sk n h i < ⊤ := by
    unfold topS
    refine max_lt ?_ (e ▸ EReal.coe_lt_top s)
    exact (Finset.fold_max_lt _).mpr ⟨bot_lt_top, fun j _ => masked_lt hp ht n h i j⟩
  have h2 : ⊥ < topS p tab sk n h i := by
    unfold topS
    exact lt_of_lt_of_le (e ▸ EReal.bot_lt_coe s) (le_max_right _ _)
  exact ⟨_, (EReal.coe_toReal h1.ne h2.ne').symm⟩

theorem exp_nonneg (x : EReal) : 0 ≤ Ideal.exp x := by
  induction x using EReal.rec with
  | bot => exact le_refl _
  | coe r => exact EReal.coe_nonneg.mpr (Real.exp_pos r).le
  | top => exact le_top

/-- The softmax's sum is not zero. -/
theorem den_ne (hp : ∀ i, IsReal (p i)) (ht : ∀ i, IsReal (tab i)) (hs : ∀ i, IsReal (sk i)) (n : Fin 33) (h : Fin 8) (i : Fin 128) :
    denS p tab sk n h i ≠ 0 := by
  obtain ⟨t, e⟩ := real_top hp ht hs n h i
  obtain ⟨s, es⟩ := hs (ix1 h)
  unfold denS
  rw [e, es, ← EReal.coe_sub, exp_real]
  refine ne_of_gt (lt_of_lt_of_le (EReal.coe_pos.mpr (Real.exp_pos (s - t))) ?_)
  exact le_add_of_nonneg_left (Finset.sum_nonneg fun j _ => exp_nonneg _)

end Cert.Attn
end
-- ==== Proof.Stack.lean ====
/-
  Eight matrices stacked along a new first axis: piece `h` of the stack is matrix `h`.
-/
module

public import proofs.«01_k».proof.Proof.Numbers
public import Idealize.ShloMosaic.Lib.Pointwise

@[expose] public section

noncomputable section

namespace Cert.Stack

open Idealize.ShloMosaic

/-- Entry `(h, j, l)` of stacked matrices, where piece `h` of the list is matrix `x`. -/
theorem stack_piece {m n p : ℕ} (xs : List ((s : Shape) × (s.Idx → EReal)))
    (hc : Shape.Concatenates (xs.map (·.1)) ⟨3, ![p, m, n]⟩ 0) (h : Fin p) (j : Fin m) (l : Fin n) (hk : h.val < xs.length)
    (x : (⟨3, ![1, m, n]⟩ : Shape).Idx → EReal) (hx : xs[h.val] = ⟨⟨3, ![1, m, n]⟩, x⟩)
    (hp : (((xs.take h.val).map (·.1)).map fun s => if h' : s.rank = 3 then s.size ((0 : Fin 3).cast h'.symm) else 0).sum = h.val) :
    concatenate ⟨3, ![p, m, n]⟩ 0 xs hc (ix3 h j l) = x (ix3 0 j l) :=
  concatenate_apply_piece (α := EReal) (t := ⟨3, ![p, m, n]⟩) 0 xs hc _ h.val hk ⟨3, ![1, m, n]⟩ x hx rfl h.val hp (ix3 0 j l)
    (fun b hb => match b with
      | ⟨0, _⟩ => absurd rfl hb
      | ⟨1, _⟩ => rfl
      | ⟨2, _⟩ => rfl) rfl

/-- Entry `(h, j, l)` of eight stacked matrices is entry `(j, l)` of matrix `h`. -/
theorem stack8 {m n : ℕ} (x0 x1 x2 x3 x4 x5 x6 x7 : (⟨3, ![1, m, n]⟩ : Shape).Idx → EReal)
    (hc : Shape.Concatenates (([⟨⟨3, ![1, m, n]⟩, x0⟩, ⟨⟨3, ![1, m, n]⟩, x1⟩, ⟨⟨3, ![1, m, n]⟩, x2⟩, ⟨⟨3, ![1, m, n]⟩, x3⟩,
      ⟨⟨3, ![1, m, n]⟩, x4⟩, ⟨⟨3, ![1, m, n]⟩, x5⟩, ⟨⟨3, ![1, m, n]⟩, x6⟩, ⟨⟨3, ![1, m, n]⟩, x7⟩] : List ((s : Shape) × (s.Idx → EReal))).map (·.1)) ⟨3, ![8, m, n]⟩ 0)
    (h : Fin 8) (j : Fin m) (l : Fin n) :
    concatenate ⟨3, ![8, m, n]⟩ 0 [⟨⟨3, ![1, m, n]⟩, x0⟩, ⟨⟨3, ![1, m, n]⟩, x1⟩, ⟨⟨3, ![1, m, n]⟩, x2⟩, ⟨⟨3, ![1, m, n]⟩, x3⟩,
      ⟨⟨3, ![1, m, n]⟩, x4⟩, ⟨⟨3, ![1, m, n]⟩, x5⟩, ⟨⟨3, ![1, m, n]⟩, x6⟩, ⟨⟨3, ![1, m, n]⟩, x7⟩] hc (ix3 h j l)
      = (![x0, x1, x2, x3, x4, x5, x6, x7] h) (ix3 0 j l) :=
  match h with
  | ⟨0, _⟩ => stack_piece _ hc ⟨0, by decide⟩ j l (show _ < 8 by decide) x0 rfl rfl
  | ⟨1, _⟩ => stack_piece _ hc ⟨1, by decide⟩ j l (show _ < 8 by decide) x1 rfl rfl
  | ⟨2, _⟩ => stack_piece _ hc ⟨2, by decide⟩ j l (show _ < 8 by decide) x2 rfl rfl
  | ⟨3, _⟩ => stack_piece _ hc ⟨3, by decide⟩ j l (show _ < 8 by decide) x3 rfl rfl
  | ⟨4, _⟩ => stack_piece _ hc ⟨4, by decide⟩ j l (show _ < 8 by decide) x4 rfl rfl
  | ⟨5, _⟩ => stack_piece _ hc ⟨5, by decide⟩ j l (show _ < 8 by decide) x5 rfl rfl
  | ⟨6, _⟩ => stack_piece _ hc ⟨6, by decide⟩ j l (show _ < 8 by decide) x6 rfl rfl
  | ⟨7, _⟩ => stack_piece _ hc ⟨7, by decide⟩ j l (show _ < 8 by decide) x7 rfl rfl

end Cert.Stack

end
-- ==== Proof.SwfKernelValue.lean ====
/-
  What one grid point of the sliding-window attention's forward call computes over the extended reals: for each of its 128
  query rows and 8 heads, the softmax over 384 keys and the head's sink, times the values.
-/
module

public import proofs.«01_k».proof.Proof.Attn
public import proofs.«01_k».proof.Proof.Stack
public import proofs.«01_k».proof.Proof.Gen.SwfKernelIdeal.Value

@[expose] public section

noncomputable section

namespace Cert.SwfKernelIdeal.Value

open Cert.SwfKernelIdeal Cert.SwfKernelIdeal.Gen Idealize.ShloMosaic Idealize.ShloMosaic.TcCoe Idealize.SL.Sem
open Cert.Numbers Cert.Words Cert.Attn

/-- Whether key `j` is one of the first block's. -/
theorem pay8 (j : Fin 384) (i : Fin 128) : k0_pay8 (ix2 i j) = if j.val < 128 then 1#1 else 0#1 := by
  pointwise [k0_pay8]
  rw [wd_nat, show (128#32 : BitVec 32) = wd 128 from rfl, cmp_slt (by omega) (by omega)]
  norm_cast

/-- The word of the key's position. -/
theorem pay9 (t : grid0.Coords) (i : Fin 128) (j : Fin 384) : k0_pay9 t (ix2 i j) = wd (posK (t 0).val j.val) := by
  pointwise [k0_pay9, pay8]
  simp only [Scalar.subi, Scalar.muli, wd_nat, subi_wd, muli_wd, addi_wd]
  unfold posK
  by_cases h : j.val < 128
  · simp [h, Scalar.select]
  · simp [h, Scalar.select]

/-- The word of the distance. -/
theorem pay10 (t : grid0.Coords) (i : Fin 128) (j : Fin 384) : k0_pay10 t (ix2 i j) = wd (relK (t 0).val i.val j.val) := by
  pointwise [k0_pay10, pay9]
  simp only [Scalar.addi, Scalar.muli, wd_nat, subi_wd, muli_wd, addi_wd]
  unfold relK
  simp

/-- The mask of the point's keys, as a number. -/
theorem pay12 (t : grid0.Coords) (i : Fin 128) (j : Fin 384) :
    k0_pay12 (F := Ideal) k0_pay8 (k0_pay9 t) (k0_pay10 t) k0_pay11 (ix2 i j) = if seen (t 0).val i.val j.val then 1 else 0 := by
  have hn : (t 0).val < 33 := (t 0).isLt
  have hp := posK_bound hn j.isLt
  have hr := relK_bound hn i.isLt j.isLt
  pointwise [k0_pay12, k0_pay11, pay8, pay9, pay10]
  rw [show (0#32 : BitVec 32) = wd 0 from rfl, show (16#32 : BitVec 32) = wd 16 from rfl, show (128#32 : BitVec 32) = wd 128 from rfl,
    cmp_sge (by omega) (by omega), cmp_sge (by omega) (by omega), cmp_sge (by omega) (by omega), cmp_slt (by omega) (by omega), cmp_slt (by omega) (by omega)]
  rw [not_bit]
  simp only [and_bit, or_bit]
  exact bit_number (seen (t 0).val i.val j.val)

theorem pay14 (l : Fin 128) : k0_pay14 (F := Ideal) (ix2 0 l) = lane 0 l := by
  unfold lane
  pointwise [k0_pay14]
  rw [wd_nat, show (64#32 : BitVec 32) = wd 64 from rfl, cmp_slt (by omega) (by omega)]
  refine (bit_number _).trans (if_congr ?_ rfl rfl)
  omega

theorem pay15 (l : Fin 128) : k0_pay15 (F := Ideal) (ix2 0 l) = lane 1 l := by
  unfold lane
  pointwise [k0_pay15]
  rw [wd_nat, show (64#32 : BitVec 32) = wd 64 from rfl, cmp_sge (by omega) (by omega)]
  refine (bit_number _).trans (if_congr ?_ rfl rfl)
  omega

variable (q km kp kc : Vec Ideal S128x512 .f32) (bb : Vec Ideal S1x8x128x384 .f32) (sk : Vec Ideal S1x128 .f32)

/-- Row `j` of the three key blocks. -/
def kvAt (j : Fin 384) (l : Fin 512) : EReal :=
  if h : j.val < 128 then km (ix2 ⟨j.val, h⟩ l) else if h' : j.val < 256 then kp (ix2 ⟨j.val - 128, by omega⟩ l) else kc (ix2 ⟨j.val - 256, by omega⟩ l)

theorem pay13 (j : Fin 384) (l : Fin 512) : k0_pay13 (F := Ideal) km kp kc (ix2 j l) = kvAt km kp kc j l := by
  unfold kvAt
  pointwise [k0_pay13]
  by_cases h : j.val < 128
  · rw [dif_pos h, dif_pos h]
  · rw [dif_neg h, dif_neg h]
    by_cases h' : j.val < 256
    · rw [dif_pos (by omega), dif_pos h']
    · rw [dif_neg (by omega), dif_neg h']
      rfl

/-- The stacked values: head `h` uses the lanes of its group. -/
theorem pay16 (h : Fin 8) (j : Fin 384) (l : Fin 128) :
    k0_pay16 (F := Ideal) km kp kc (ix3 h j l) = kvAt km kp kc j ⟨(2 + h.val / 4) * 128 + l.val, by omega⟩ := by
  unfold k0_pay16
  rw [Stack.stack8]
  match h with
  | ⟨0, _⟩ => pointwise [pay13]
  | ⟨1, _⟩ => pointwise [pay13]
  | ⟨2, _⟩ => pointwise [pay13]
  | ⟨3, _⟩ => pointwise [pay13]
  | ⟨4, _⟩ => pointwise [pay13]
  | ⟨5, _⟩ => pointwise [pay13]
  | ⟨6, _⟩ => pointwise [pay13]
  | ⟨7, _⟩ => pointwise [pay13]

/-- The scores before the mask. -/
theorem pay19 (h : Fin 8) (i : Fin 128) (j : Fin 384) :
    k0_pay19 (F := Ideal) q (k0_pay6 bb) (k0_pay13 km kp kc) k0_pay14 k0_pay15 (k0_pay17 q) (k0_pay18 q) (ix3 h i j)
      = (∑ l : Fin 128, (q (ix2 i ⟨h.val / 2 * 128 + l.val, by omega⟩) * lane (h.val % 2) l) * kvAt km kp kc j ⟨h.val / 4 * 128 + l.val, by omega⟩) * Ideal.ofBits .f32 0x3E000000#32
        + bb (ix4 0 h i j) := by
  pointwise [k0_pay19, k0_pay6, Stack.stack8]
  match h with
  | ⟨0, _⟩ => pointwise [k0_pay17, k0_pay18, pay13, pay14, pay15] <;> rfl
  | ⟨1, _⟩ => pointwise [k0_pay17, k0_pay18, pay13, pay14, pay15] <;> rfl
  | ⟨2, _⟩ => pointwise [k0_pay17, k0_pay18, pay13, pay14, pay15] <;> rfl
  | ⟨3, _⟩ => pointwise [k0_pay17, k0_pay18, pay13, pay14, pay15] <;> rfl
  | ⟨4, _⟩ => pointwise [k0_pay17, k0_pay18, pay13, pay14, pay15] <;> rfl
  | ⟨5, _⟩ => pointwise [k0_pay17, k0_pay18, pay13, pay14, pay15] <;> rfl
  | ⟨6, _⟩ => pointwise [k0_pay17, k0_pay18, pay13, pay14, pay15] <;> rfl
  | ⟨7, _⟩ => pointwise [k0_pay17, k0_pay18, pay13, pay14, pay15] <;> rfl

theorem lane_eq : ∀ (l : Fin 128) (k : Fin 8), IntOp.cmpi .eq (BitVec.ofNat 32 l.val) (BitVec.ofNat 32 k.val) = if l.val = k.val then 1#1 else 0#1 := by
  decide +kernel

/-- A sum that picks one lane. -/
theorem sum_pick (f : Fin 128 → EReal) (k : Fin 8) :
    ∑ l : Fin 128, Scalar.select (IntOp.cmpi .eq (BitVec.ofNat 32 l.val) (BitVec.ofNat 32 k.val)) (f l) 0 = f ⟨k.val, by omega⟩ := by
  rw [Finset.sum_eq_single (⟨k.val, by omega⟩ : Fin 128)]
  · rw [lane_eq, if_pos rfl]; rfl
  · intro l _ hl
    rw [lane_eq, if_neg (fun h => hl (Fin.ext h))]; rfl
  · intro h; exact absurd (Finset.mem_univ _) h

/-- The sinks of the heads, each read from its lane. -/
theorem sink0 : k0_pay21 (F := Ideal) (k0_pay20 sk (iota .tc S1x128 32 [1] iota_S1x128_d1_w32)) (ix2 0 0) = sk (ix2 0 0) := by
  pointwise [k0_pay21, k0_pay20]; exact sum_pick (fun l => sk (ix2 0 l)) 0
theorem sink1 : k0_pay22 (F := Ideal) sk (iota .tc S1x128 32 [1] iota_S1x128_d1_w32) (ix2 0 0) = sk (ix2 0 1) := by
  pointwise [k0_pay22]; exact sum_pick (fun l => sk (ix2 0 l)) 1
theorem sink2 : k0_pay23 (F := Ideal) sk (iota .tc S1x128 32 [1] iota_S1x128_d1_w32) (ix2 0 0) = sk (ix2 0 2) := by
  pointwise [k0_pay23]; exact sum_pick (fun l => sk (ix2 0 l)) 2
theorem sink3 : k0_pay24 (F := Ideal) sk (iota .tc S1x128 32 [1] iota_S1x128_d1_w32) (ix2 0 0) = sk (ix2 0 3) := by
  pointwise [k0_pay24]; exact sum_pick (fun l => sk (ix2 0 l)) 3
theorem sink4 : k0_pay25 (F := Ideal) sk (iota .tc S1x128 32 [1] iota_S1x128_d1_w32) (ix2 0 0) = sk (ix2 0 4) := by
  pointwise [k0_pay25]; exact sum_pick (fun l => sk (ix2 0 l)) 4
theorem sink5 : k0_pay26 (F := Ideal) sk (iota .tc S1x128 32 [1] iota_S1x128_d1_w32) (ix2 0 0) = sk (ix2 0 5) := by
  pointwise [k0_pay26]; exact sum_pick (fun l => sk (ix2 0 l)) 5
theorem sink6 : k0_pay27 (F := Ideal) sk (iota .tc S1x128 32 [1] iota_S1x128_d1_w32) (ix2 0 0) = sk (ix2 0 6) := by
  pointwise [k0_pay27]; exact sum_pick (fun l => sk (ix2 0 l)) 6
theorem sink7 : (∑ l : Fin 128, Scalar.select (IntOp.cmpi .eq (BitVec.ofNat 32 l.val) 7#32) (sk (ix2 0 l)) 0) = sk (ix2 0 7) :=
  sum_pick (fun l => sk (ix2 0 l)) 7

/-- The score of key `j` for query `i` of head `h`, before the mask. -/
def score (h : Fin 8) (i : Fin 128) (j : Fin 384) : EReal :=
  (∑ l : Fin 128, (q (ix2 i ⟨h.val / 2 * 128 + l.val, by omega⟩) * lane (h.val % 2) l) * kvAt km kp kc j ⟨h.val / 4 * 128 + l.val, by omega⟩) * Ideal.ofBits .f32 0x3E000000#32
    + bb (ix4 0 h i j)

/-- The score after the mask, at point `n`. -/
def masked (n : ℕ) (h : Fin 8) (i : Fin 128) (j : Fin 384) : EReal := if seen n i.val j.val then score q km kp kc bb h i j else ⊥

/-- A score times its mask, plus the mask less one times the gap, is the score where the mask holds. -/
theorem mask_gap (p : Prop) [Decidable p] (x : EReal) :
    x * (if p then 1 else 0) + ((if p then 1 else 0) - 1) * Named.named (F := Ideal) κ "gap" (φ := .f32) 0x7149F2CA#32 = if p then x else ⊥ := by
  rw [IdealRules.named_const.ideal_named_scalar _ _ _ ⊤ rfl]
  by_cases h : p
  · simp only [if_pos h, mul_one]
    rw [show (1 : EReal) - 1 = 0 from by rw [← EReal.coe_one, ← EReal.coe_sub, sub_self, EReal.coe_zero], zero_mul, add_zero]
  · simp only [if_neg h, mul_zero, zero_add, zero_sub]
    rw [EReal.neg_mul, one_mul]; rfl

/-- The largest of a query's scores and the sink. -/
def top (n : ℕ) (h : Fin 8) (i : Fin 128) : EReal :=
  max (Finset.univ.fold max ⊥ fun j : Fin 384 => masked q km kp kc bb n h i j) (sk (ix2 0 ⟨h.val, by omega⟩))

/-- The sum the softmax divides by. -/
def den (n : ℕ) (h : Fin 8) (i : Fin 128) : EReal :=
  (∑ j : Fin 384, Ideal.exp (masked q km kp kc bb n h i j - top q km kp kc bb sk n h i))
    + Ideal.exp (sk (ix2 0 ⟨h.val, by omega⟩) - top q km kp kc bb sk n h i)

/-- The attention of query `i`, head `h`, lane `l`. -/
def outAt (n : ℕ) (h : Fin 8) (i : Fin 128) (l : Fin 128) : EReal :=
  ∑ j : Fin 384, Ideal.div (Ideal.exp (masked q km kp kc bb n h i j - top q km kp kc bb sk n h i)) (den q km kp kc bb sk n h i)
    * kvAt km kp kc j ⟨(2 + h.val / 4) * 128 + l.val, by omega⟩

/-- The stacked sinks. -/
theorem sinks (h : Fin 8) (x7 : S1x1x1.Idx → EReal) (h7 : x7 (ix3 0 0 0) = sk (ix2 0 7)) :
    ![shapeCast S1x1x1 (k0_pay21 (F := Ideal) (k0_pay20 sk (iota .tc S1x128 32 [1] iota_S1x128_d1_w32))) shapeCasts_S1x1_S1x1x1,
      shapeCast S1x1x1 (k0_pay22 (F := Ideal) sk (iota .tc S1x128 32 [1] iota_S1x128_d1_w32)) shapeCasts_S1x1_S1x1x1,
      shapeCast S1x1x1 (k0_pay23 (F := Ideal) sk (iota .tc S1x128 32 [1] iota_S1x128_d1_w32)) shapeCasts_S1x1_S1x1x1,
      shapeCast S1x1x1 (k0_pay24 (F := Ideal) sk (iota .tc S1x128 32 [1] iota_S1x128_d1_w32)) shapeCasts_S1x1_S1x1x1,
      shapeCast S1x1x1 (k0_pay25 (F := Ideal) sk (iota .tc S1x128 32 [1] iota_S1x128_d1_w32)) shapeCasts_S1x1_S1x1x1,
      shapeCast S1x1x1 (k0_pay26 (F := Ideal) sk (iota .tc S1x128 32 [1] iota_S1x128_d1_w32)) shapeCasts_S1x1_S1x1x1,
      shapeCast S1x1x1 (k0_pay27 (F := Ideal) sk (iota .tc S1x128 32 [1] iota_S1x128_d1_w32)) shapeCasts_S1x1_S1x1x1, x7] h (ix3 0 0 0)
      = sk (ix2 0 ⟨h.val, by omega⟩) :=
  match h with
  | ⟨0, _⟩ => by pointwise []; exact sink0 sk
  | ⟨1, _⟩ => by pointwise []; exact sink1 sk
  | ⟨2, _⟩ => by pointwise []; exact sink2 sk
  | ⟨3, _⟩ => by pointwise []; exact sink3 sk
  | ⟨4, _⟩ => by pointwise []; exact sink4 sk
  | ⟨5, _⟩ => by pointwise []; exact sink5 sk
  | ⟨6, _⟩ => by pointwise []; exact sink6 sk
  | ⟨7, _⟩ => h7

theorem ninf_eq : (Ideal.ofBits .f32 0xFF800000#32 : EReal) = ⊥ := by simp [Ideal.ofBits, Ideal.ieee]

theorem pay29 (t : grid0.Coords) (h : Fin 8) (i : Fin 128) (l : Fin 128) :
    k0_pay29 (F := Ideal) sk (k0_pay12 (F := Ideal) k0_pay8 (k0_pay9 t) (k0_pay10 t) k0_pay11) (k0_pay16 (F := Ideal) km kp kc)
      (k0_pay19 (F := Ideal) q (k0_pay6 bb) (k0_pay13 km kp kc) k0_pay14 k0_pay15 (k0_pay17 q) (k0_pay18 q))
      (k0_pay21 (k0_pay20 sk (iota .tc S1x128 32 [1] iota_S1x128_d1_w32))) (k0_pay22 sk (iota .tc S1x128 32 [1] iota_S1x128_d1_w32))
      (k0_pay23 sk (iota .tc S1x128 32 [1] iota_S1x128_d1_w32)) (k0_pay24 sk (iota .tc S1x128 32 [1] iota_S1x128_d1_w32))
      (k0_pay25 sk (iota .tc S1x128 32 [1] iota_S1x128_d1_w32)) (k0_pay26 sk (iota .tc S1x128 32 [1] iota_S1x128_d1_w32))
      (k0_pay27 sk (iota .tc S1x128 32 [1] iota_S1x128_d1_w32)) (k0_pay28 (iota .tc S1x128 32 [1] iota_S1x128_d1_w32)) (ix3 h i l)
      = outAt q km kp kc bb sk (t 0).val h i l := by
  pointwise [k0_pay29, Stack.stack8, pay12, pay19, pay16]
  rw [sinks sk h _ (by pointwise [k0_pay28]; exact sink7 sk)]
  simp only [mask_gap, ninf_eq]
  have hf := congrArg (fun f : Fin 384 → EReal => Finset.univ.fold max ⊥ f) (funext fun j => mask_gap (seen (t 0).val i.val j.val) (score q km kp kc bb h i j))
  dsimp only [score] at hf
  erw [hf]
  simp only [outAt, den, top, masked, score]

end Cert.SwfKernelIdeal.Value
end
-- ==== Proof.SwfOut.lean ====
/-
  The block one grid point of the sliding-window attention's forward call writes, over the extended reals: head by head, 64
  columns each.
-/
module

public import proofs.«01_k».proof.Proof.SwfKernelValue

@[expose] public section

noncomputable section

namespace Cert.SwfKernelIdeal.Value

open Cert.SwfKernelIdeal Cert.SwfKernelIdeal.Gen Idealize.ShloMosaic Idealize.ShloMosaic.TcCoe Idealize.SL.Sem
open Cert.Numbers Cert.Words Cert.Attn

/-- Two heads share 128 columns, each on its half of the lanes. -/
theorem pay1 (u v : FVec Ideal S1x128 .f32) (x : FVec Ideal S8x128x128 .f32) (y : FVec Ideal S128x128 .f32)
    (hy : ∀ i l, y (ix2 i l) = x (ix3 0 i l) * u (ix2 0 l) + x (ix3 1 i l) * v (ix2 0 l)) (z : FVec Ideal S128x128 .f32)
    (hz : ∀ i l, z (ix2 i l) = x (ix3 2 i l)) (p : Fin 4) (i l : Fin 128) :
    k0_pay1 (F := Ideal) u v x y z (k0_pay32 u) (ix2 i ⟨p.val * 128 + l.val, by omega⟩)
      = x (ix3 ⟨2 * p.val, by omega⟩ i l) * u (ix2 0 l) + x (ix3 ⟨2 * p.val + 1, by omega⟩ i l) * v (ix2 0 l) := by
  match p with
  | ⟨0, _⟩ =>
    pointwise [k0_pay1, k0_pay32]
    exact hy i l
  | ⟨1, _⟩ =>
    pointwise [k0_pay1, k0_pay32]
    rw [hz]
  | ⟨2, _⟩ =>
    pointwise [k0_pay1, k0_pay32]
    have e : ∀ h, (⟨256 + l.val - 128 - 128, h⟩ : Fin 128) = l := fun h => Fin.ext (by show 256 + l.val - 128 - 128 = l.val; omega)
    rw [dif_neg (by omega), dif_neg (by omega), dif_pos (by omega)]
    simp only [e]
  | ⟨3, _⟩ =>
    pointwise [k0_pay1, k0_pay32]
    have e : ∀ h, (⟨384 + l.val - 128 - 128 - 128, h⟩ : Fin 128) = l := fun h => Fin.ext (by show 384 + l.val - 128 - 128 - 128 = l.val; omega)
    rw [dif_neg (by omega), dif_neg (by omega), dif_neg (by omega)]
    simp only [e]

section cases
variable (c : Dev nD) (t : grid0.Coords) (a1 : Memref sig .tc .vmem S128x512 .f32) (h1 : a1.IsWhole) (a2 : Memref sig .tc .vmem S128x512 .f32) (h2 : a2.IsWhole)
  (a3 : Memref sig .tc .vmem S128x512 .f32) (h3 : a3.IsWhole) (a4 : Memref sig .tc .vmem S128x512 .f32) (h4 : a4.IsWhole)
  (a5 : Memref sig .tc .vmem S1x8x128x384 .f32) (h5 : a5.IsWhole) (a6 : Memref sig .tc .vmem S1x128 .f32) (h6 : a6.IsWhole)
  (a7 : Memref sig .tc .vmem S128x512 .f32) (h7 : a7.IsWhole)
  (q km kp kc : Vec Ideal S128x512 .f32) (bb : Vec Ideal S1x8x128x384 .f32) (sk : Vec Ideal S1x128 .f32)

theorem zeros2 : (![0, 0] : Fin 2 → ℕ) = fun _ => 0 := by decide
theorem zeros4 : (![0, 0, 0, 0] : Fin 4 → ℕ) = fun _ => 0 := by decide

theorem same_q : k0_pay2 (F := Ideal) q = q := by unfold k0_pay2; exact shapeCast_self _ _
theorem same_km : k0_pay3 (F := Ideal) km = km := by unfold k0_pay3; exact shapeCast_self _ _
theorem same_kp : k0_pay4 (F := Ideal) kp = kp := by unfold k0_pay4; exact shapeCast_self _ _
theorem same_kc : k0_pay5 (F := Ideal) kc = kc := by unfold k0_pay5; exact shapeCast_self _ _
theorem same_sk : k0_pay7 (F := Ideal) sk = sk := by unfold k0_pay7; exact shapeCast_self _ _

/-- The block a point writes, 128 columns of two heads at a time. -/
theorem out_payload (p : Fin 4) (i l : Fin 128) :
    out0_A_6 c t a1 h1 a2 h2 a3 h3 a4 h4 a5 h5 a6 h6 a7 h7 q km kp kc bb sk (ix2 i ⟨p.val * 128 + l.val, by omega⟩)
      = outAt q km kp kc bb sk (t 0).val ⟨2 * p.val, by omega⟩ i l * lane 0 l + outAt q km kp kc bb sk (t 0).val ⟨2 * p.val + 1, by omega⟩ i l * lane 1 l := by
  unfold out0_A_6
  rw [View.read_writes_eq_canon _ _ _ fun _ => cover0_A_6 ..]
  unfold kernelRun0_A
  dsimp only
  sl_unfold_words
  rw [View.canon_unit_zero zeros2]
  simp only [View.readAt_eq_ld, Memref.IsWhole.read_unread,
    ld_all, View.ld_unit_zero (S := S1x8x128x384) zeros4]
  rw [pay1 _ _ _ _ (fun i l => by pointwise [k0_pay30]) _ (fun i l => by pointwise [k0_pay31]), pay14, pay15]
  simp only [same_q, same_km, same_kp, same_kc, same_sk]
  exact congrArg₂ (· + ·) (congrArg (· * lane 0 l) (pay29 q km kp kc bb sk t _ i l)) (congrArg (· * lane 1 l) (pay29 q km kp kc bb sk t _ i l))

end cases

end Cert.SwfKernelIdeal.Value
end
-- ==== Proof.Take.lean ====
/-
  A table's rows taken by an array of row numbers, read at an entry.
-/
module

public import Idealize.ShloMosaic.Lib.Tactic
public import Idealize.ShloMosaic.Lib.Pointwise

@[expose] public section

noncomputable section

namespace Cert.Take

open Idealize.ShloMosaic

/-- Row numbers as `[A, B, C, 1]`, the table `[N, H]`, the result `[A, B, C, H]`: entry `(a, b, c, h)` is the table's in the row
    that the number at `(a, b, c)` names, clamped to the table. -/
theorem take_apply {α : Type} {N H A B C w : ℕ} (hN : 0 < N)
    (wf : GatherDims.WF ⟨2, ![N, H]⟩ ⟨4, ![A, B, C, 1]⟩ ⟨4, ![A, B, C, H]⟩ [3] [0] [] [0] [] 3 ![1, H])
    (x : (⟨2, ![N, H]⟩ : Shape).Idx → α) (idx : IVec ⟨4, ![A, B, C, 1]⟩ w) (a : Fin A) (b : Fin B) (c : Fin C) (h : Fin H) :
    Host.gather (s := ⟨2, ![N, H]⟩) (t := ⟨4, ![A, B, C, H]⟩)
        { offsetDims := [3], collapsedSliceDims := [0], operandBatchingDims := [], startIndicesBatchingDims := [], startIndexMap := [0],
          indexVectorDim := 3, sliceSizes := ![1, H], wf := wf } x idx (ix4 a b c h)
      = x (ix2 ⟨min (idx (ix4 a b c 0)).toInt.toNat (N - 1), by omega⟩ h) := by
  unfold Host.gather
  congr 1
  funext y
  refine Fin.ext ?_
  match y with
  | ⟨0, _⟩ =>
    show GatherDims.start _ _ _ 0 + GatherDims.batchCoord _ _ 0 + GatherDims.offCoord _ _ 0 = _
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ q hq, GatherDims.siIdx (s := ⟨2, ![N, H]⟩) (si := ⟨4, ![A, B, C, 1]⟩) (t := ⟨4, ![A, B, C, H]⟩)
        { offsetDims := [3], collapsedSliceDims := [0], operandBatchingDims := [], startIndicesBatchingDims := [], startIndexMap := [0],
          indexVectorDim := 3, sliceSizes := ![1, H], wf := wf } (ix4 a b c h) ⟨q, hq⟩ = ix4 a b c 0 := by
      intro q hq
      funext z; refine Fin.ext ?_
      match z with
      | ⟨0, _⟩ => rfl
      | ⟨1, _⟩ => rfl
      | ⟨2, _⟩ => rfl
      | ⟨3, _⟩ => exact Nat.lt_one_iff.mp (Fin.isLt _)
    rw [hsi]
    rfl
  | ⟨1, _⟩ =>
    show GatherDims.start _ _ _ 1 + GatherDims.batchCoord _ _ 1 + GatherDims.offCoord _ _ 1 = _
    rw [GatherDims.batchCoord_eq_zero _ _ _ (fun h => by simp at h)]
    unfold GatherDims.start
    rw [dif_neg (fun h => by simp at h)]
    rw [Nat.zero_add]
    rfl

end Cert.Take
end
-- ==== Proof.SwfBias.lean ====
/-
  The arrays the sliding-window attention's forward call reads, and its blocks, in terms of the arguments: the packed product
  padded by 112 rows, the biases of three kinds of blocks, and the sinks.
-/
module

public import proofs.«01_k».proof.Proof.SwfOut
public import proofs.«01_k».proof.Proof.Take

@[expose] public section

noncomputable section

namespace Cert.SwfKernelIdeal.Value

open Cert.SwfKernelIdeal Cert.SwfKernelIdeal.Gen Idealize.ShloMosaic Idealize.ShloMosaic.TcCoe Idealize.SL.Sem
open Cert.Numbers Cert.Words Cert.Attn

variable (m : (ℓ : Loc nD τ sig) → Buf (Elt Ideal) ℓ) (c : Dev nD)

abbrev pOf : Vec Ideal S4112x2824 .f32 := m ((c.tc : Thread nD τ).loc main_arg0)
abbrev tabOf : Vec Ideal S32x8 .f32 := m ((c.tc : Thread nD τ).loc main_arg1)
abbrev sinkOf : Vec Ideal S8 .f32 := m ((c.tc : Thread nD τ).loc main_arg2)

/-- The biases as the region finds them. -/
def biasA : Vec Ideal S3x8x128x384 .f32 := V m c main_v78

/-- Distances of one kind of block: rows `a` on, the second and third 128 lanes moved by `b`. -/
def relBlock (a b : BitVec 32) : IVec S1x128x384 32 :=
  broadcastInDim S1x128x384 ![1, 2] bcast_S128x384_S1x128x384_1_2 (subi
    (broadcastInDim S128x384 ![0, 1] bcast_S128x1_S128x384_0_1 (addi (broadcastInDim S128x1 ![] bcast_S_S128x1 (constantI S_ 32 a))
      (broadcastInDim S128x1 ![0] bcast_S128_S128x1_0 (iotaInDim S128 32 0))))
    (broadcastInDim S128x384 ![0, 1] bcast_S1x384_S128x384_0_1 (select
      (cmpi .slt (broadcastInDim S1x384 ![1] bcast_S384_S1x384_1 (iotaInDim S384 32 0)) (broadcastInDim S1x384 ![] bcast_S_S1x384 (constantI S_ 32 128#32)))
      (broadcastInDim S1x384 ![1] bcast_S384_S1x384_1 (iotaInDim S384 32 0))
      (addi (broadcastInDim S1x384 ![] bcast_S_S1x384 (constantI S_ 32 b)) (broadcastInDim S1x384 ![1] bcast_S384_S1x384_1 (iotaInDim S384 32 0))))))

def relAll : IVec S3x128x384 32 :=
  concatenate S3x128x384 0 [⟨S1x128x384, relBlock 0#32 4294967040#32⟩, ⟨S1x128x384, relBlock 128#32 4294967168#32⟩, ⟨S1x128x384, relBlock 256#32 0#32⟩]
    concatenates_S1x128x384_S1x128x384_S1x128x384_S3x128x384_d0

theorem relBlock_at (a b : ℤ) (i : Fin 128) (j : Fin 384) :
    relBlock (wd a) (wd b) (ix3 0 i j) = wd (a + i.val - (if j.val < 128 then (j.val : ℤ) else b + j.val)) := by
  unfold relBlock
  pointwise
  rw [wd_fin, wd_fin, addi_wd, addi_wd, show (128#32 : BitVec 32) = wd 128 from rfl, cmp_slt (by omega) (by omega)]
  by_cases h : j.val < 128
  · rw [if_pos (by omega), if_pos h]; exact subi_wd _ _
  · rw [if_neg (by omega), if_neg h]; exact subi_wd _ _

theorem relAll_at (b : Fin 3) (i : Fin 128) (j : Fin 384) : relAll (ix3 b i j) = wd (distK b.val i.val j.val) := by
  have e0 := relBlock_at 0 (-256) i j
  have e1 := relBlock_at 128 (-128) i j
  have e2 := relBlock_at 256 0 i j
  rw [show wd 0 = 0#32 from rfl, show wd (-256) = 4294967040#32 by decide] at e0
  rw [show wd 128 = 128#32 from rfl, show wd (-128) = 4294967168#32 by decide] at e1
  rw [show wd 0 = 0#32 from rfl, show wd 256 = 256#32 from rfl] at e2
  have p0 : relAll (ix3 0 i j) = relBlock 0#32 4294967040#32 (ix3 0 i j) := by unfold relAll; pointwise
  have p1 : relAll (ix3 1 i j) = relBlock 128#32 4294967168#32 (ix3 0 i j) := by unfold relAll; pointwise
  have p2 : relAll (ix3 2 i j) = relBlock 256#32 0#32 (ix3 0 i j) := by unfold relAll; pointwise
  match b with
  | ⟨0, _⟩ =>
    refine (p0.trans e0).trans (congrArg wd ?_)
    show _ = distK 0 i.val j.val
    unfold distK
    split <;> push_cast <;> omega
  | ⟨1, _⟩ =>
    refine (p1.trans e1).trans (congrArg wd ?_)
    show _ = distK 1 i.val j.val
    unfold distK
    split <;> push_cast <;> omega
  | ⟨2, _⟩ =>
    refine (p2.trans e2).trans (congrArg wd ?_)
    show _ = distK 2 i.val j.val
    unfold distK
    split <;> push_cast <;> omega

/-- The host operations up to the distances, and the ones after them. -/
abbrev opsA : List (HloOp τ sig (Elt Ideal)) :=
  List.flatten [hostOps0, hostOps0_1, hostOps0_2, hostOps0_3, hostOps0_4, hostOps0_5, hostOps0_6, hostOps0_7, hostOps0_8.take 7]
abbrev opsB : List (HloOp τ sig (Elt Ideal)) := List.flatten [hostOps0_8.drop 7, hostOps0_9, hostOps0_10, hostOps0_11]

theorem after_parts (l l' : List (HloOp τ sig (Elt Ideal))) (W : Valuation τ sig (Elt Ideal)) :
    StableHlo.after (l ++ l') W = StableHlo.after l' (StableHlo.after l W) := by
  induction l generalizing W with
  | nil => rfl
  | cons o l ih => exact ih _

theorem V_split (r : Ref sig .tc) : V m c r = StableHlo.after opsB (StableHlo.after opsA (fun b => m (c, b))) r := by
  rw [← after_parts]; rfl

theorem opsA_rel : StableHlo.after opsA (fun b => m (c, b)) main_v50 = relAll := by
  dsimp only [opsA, hostOps0, hostOps0_1, hostOps0_2, hostOps0_3, hostOps0_4, hostOps0_5, hostOps0_6, hostOps0_7, hostOps0_8]
  simp only [List.flatten_cons, List.flatten_nil, List.append_nil, List.cons_append, List.nil_append, List.take]
  after_results_simp
  rfl

theorem opsA_tab : StableHlo.after opsA (fun b => m (c, b)) main_arg1 = tabOf m c := by
  dsimp only [opsA, hostOps0, hostOps0_1, hostOps0_2, hostOps0_3, hostOps0_4, hostOps0_5, hostOps0_6, hostOps0_7, hostOps0_8]
  simp only [List.flatten_cons, List.flatten_nil, List.append_nil, List.cons_append, List.nil_append, List.take]
  after_results_simp

theorem biasA_at (b : Fin 3) (h : Fin 8) (i : Fin 128) (j : Fin 384) :
    biasA m c (ix4 b h i j) = Bucket.entry (tabOf m c) (wd (distK b.val i.val j.val)) h := by
  unfold biasA
  rw [V_split, ← relAll_at, ← opsA_rel m c, ← opsA_tab m c]
  generalize StableHlo.after opsA (fun b => m (c, b)) = W
  dsimp only [opsB, hostOps0_8, hostOps0_9, hostOps0_10, hostOps0_11]
  simp only [List.flatten_cons, List.flatten_nil, List.append_nil, List.cons_append, List.nil_append, List.drop]
  after_results_simp
  simp -implicitDefEqProofs only [StableHlo.TRef.toBuf, StableHlo.TRef.ofBuf, cast_cast, cast_eq]
  refine (transpose_apply [0, 3, 1, 2] _ _ (ix4 b h i j) (ix4 b i j h) (fun b => match b with | ⟨0, _⟩ => rfl | ⟨1, _⟩ => rfl | ⟨2, _⟩ => rfl | ⟨3, _⟩ => rfl)).trans ?_
  refine (Take.take_apply (by decide) _ _ _ b i j h).trans (Bucket.entry_of _ _ _ _ ?_ _)
  pointwise
  rfl

end Cert.SwfKernelIdeal.Value
end
-- ==== Proof.SwfBlocks.lean ====
/-
  The arrays the sliding-window attention's forward call reads, and its blocks, in terms of the arguments: the packed product
  padded by 112 rows, the biases of three kinds of blocks, and the sinks.
-/
module

public import proofs.«01_k».proof.Proof.SwfBias
public import Idealize.ShloMosaic.Lib.KernelVsHost

@[expose] public section

noncomputable section

namespace Cert.SwfKernelIdeal.Value

open Cert.SwfKernelIdeal Cert.SwfKernelIdeal.Gen Idealize.ShloMosaic Idealize.ShloMosaic.TcCoe Idealize.SL.Sem
open Cert.Numbers Cert.Words Cert.Attn

variable (m : (ℓ : Loc nD τ sig) → Buf (Elt Ideal) ℓ) (c : Dev nD)

section stack
variable (x0 : Vec Ideal S512x4112 .f32) (x1 x2 x3 x4 : Vec Ideal S64x4112 .f32)
    (x9 : Vec Ideal S2048x4112 .f32) (x10 x11 : Vec Ideal S4x4112 .f32) (x12 : Vec Ideal S120x4112 .f32)

/-- The stacked columns, the keys and values twice. -/
def stacked : Vec Ideal S3200x4112 .f32 :=
  concatenate S3200x4112 0 [⟨S512x4112, x0⟩, ⟨S64x4112, x1⟩, ⟨S64x4112, x1⟩, ⟨S64x4112, x2⟩, ⟨S64x4112, x2⟩, ⟨S64x4112, x3⟩,
        ⟨S64x4112, x3⟩, ⟨S64x4112, x4⟩, ⟨S64x4112, x4⟩, ⟨S2048x4112, x9⟩, ⟨S4x4112, x10⟩, ⟨S4x4112, x11⟩, ⟨S120x4112, x12⟩]
        concatenates_S512x4112_S64x4112_S64x4112_S64x4112_S64x4112_S64x4112_S64x4112_S64x4112_S64x4112_S2048x4112_S4x4112_S4x4112_S120x4112_S3200x4112_d0

theorem stacked_q (k : Fin 512) (r : Fin 4112) : stacked x0 x1 x2 x3 x4 x9 x10 x11 x12 (ix2 ⟨k.val, by omega⟩ r) = x0 (ix2 k r) :=
  concatenate_apply_piece (α := EReal) (t := S3200x4112) 0 [⟨S512x4112, x0⟩, ⟨S64x4112, x1⟩, ⟨S64x4112, x1⟩, ⟨S64x4112, x2⟩,
    ⟨S64x4112, x2⟩, ⟨S64x4112, x3⟩, ⟨S64x4112, x3⟩, ⟨S64x4112, x4⟩, ⟨S64x4112, x4⟩, ⟨S2048x4112, x9⟩, ⟨S4x4112, x10⟩,
    ⟨S4x4112, x11⟩, ⟨S120x4112, x12⟩] _ _ 0 (by decide : 0 < 13) S512x4112 x0 rfl rfl 0 rfl (ix2 k r)
    (fun b hb => match b with
      | ⟨0, _⟩ => absurd rfl hb
      | ⟨1, _⟩ => rfl) (Nat.zero_add k.val)

/-- The eight pieces after the queries. -/
theorem stacked_piece (q : ℕ) (hq : q < 8) (x : Vec Ideal S64x4112 .f32)
    (hx : [x1, x1, x2, x2, x3, x3, x4, x4][q]? = some x) (d : Fin 64) (r : Fin 4112) :
    stacked x0 x1 x2 x3 x4 x9 x10 x11 x12 (ix2 ⟨512 + q * 64 + d.val, by omega⟩ r) = x (ix2 d r) := by
  unfold stacked
  match q, hq with
  | 0, _ =>
    obtain rfl : x1 = x := by simpa using hx
    exact concatenate_apply_piece (α := EReal) (t := S3200x4112) 0 _ _ _ 1 (Nat.le_of_ble_eq_true rfl) S64x4112 x1 rfl rfl 512 rfl (ix2 d r)
      (fun b hb => match b with | ⟨0, _⟩ => absurd rfl hb | ⟨1, _⟩ => rfl) rfl
  | 1, _ =>
    obtain rfl : x1 = x := by simpa using hx
    exact concatenate_apply_piece (α := EReal) (t := S3200x4112) 0 _ _ _ 2 (Nat.le_of_ble_eq_true rfl) S64x4112 x1 rfl rfl 576 rfl (ix2 d r)
      (fun b hb => match b with | ⟨0, _⟩ => absurd rfl hb | ⟨1, _⟩ => rfl) rfl
  | 2, _ =>
    obtain rfl : x2 = x := by simpa using hx
    exact concatenate_apply_piece (α := EReal) (t := S3200x4112) 0 _ _ _ 3 (Nat.le_of_ble_eq_true rfl) S64x4112 x2 rfl rfl 640 rfl (ix2 d r)
      (fun b hb => match b with | ⟨0, _⟩ => absurd rfl hb | ⟨1, _⟩ => rfl) rfl
  | 3, _ =>
    obtain rfl : x2 = x := by simpa using hx
    exact concatenate_apply_piece (α := EReal) (t := S3200x4112) 0 _ _ _ 4 (Nat.le_of_ble_eq_true rfl) S64x4112 x2 rfl rfl 704 rfl (ix2 d r)
      (fun b hb => match b with | ⟨0, _⟩ => absurd rfl hb | ⟨1, _⟩ => rfl) rfl
  | 4, _ =>
    obtain rfl : x3 = x := by simpa using hx
    exact concatenate_apply_piece (α := EReal) (t := S3200x4112) 0 _ _ _ 5 (Nat.le_of_ble_eq_true rfl) S64x4112 x3 rfl rfl 768 rfl (ix2 d r)
      (fun b hb => match b with | ⟨0, _⟩ => absurd rfl hb | ⟨1, _⟩ => rfl) rfl
  | 5, _ =>
    obtain rfl : x3 = x := by simpa using hx
    exact concatenate_apply_piece (α := EReal) (t := S3200x4112) 0 _ _ _ 6 (Nat.le_of_ble_eq_true rfl) S64x4112 x3 rfl rfl 832 rfl (ix2 d r)
      (fun b hb => match b with | ⟨0, _⟩ => absurd rfl hb | ⟨1, _⟩ => rfl) rfl
  | 6, _ =>
    obtain rfl : x4 = x := by simpa using hx
    exact concatenate_apply_piece (α := EReal) (t := S3200x4112) 0 _ _ _ 7 (Nat.le_of_ble_eq_true rfl) S64x4112 x4 rfl rfl 896 rfl (ix2 d r)
      (fun b hb => match b with | ⟨0, _⟩ => absurd rfl hb | ⟨1, _⟩ => rfl) rfl
  | 7, _ =>
    obtain rfl : x4 = x := by simpa using hx
    exact concatenate_apply_piece (α := EReal) (t := S3200x4112) 0 _ _ _ 8 (Nat.le_of_ble_eq_true rfl) S64x4112 x4 rfl rfl 960 rfl (ix2 d r)
      (fun b hb => match b with | ⟨0, _⟩ => absurd rfl hb | ⟨1, _⟩ => rfl) rfl

end stack

/-- The padded array, the biases and the sinks as the region finds them. -/
def projA : Vec Ideal S4224x3200 .f32 := V m c main_v12
def sinkA : Vec Ideal S1x128 .f32 := V m c main_v80

theorem projA_eq : projA m c = pad S4224x3200 ![112, 0] ![0, 0] ![0, 0] (transpose S4112x3200 [1, 0] (stacked
      (extractStridedSlice S512x4112 ![0, 0] (transpose S2824x4112 [1, 0] (pOf m c) transposes_S4112x2824_S2824x4112_1_0) slices_S2824x4112_S512x4112_0_0)
      (extractStridedSlice S64x4112 ![512, 0] (transpose S2824x4112 [1, 0] (pOf m c) transposes_S4112x2824_S2824x4112_1_0) slices_S2824x4112_S64x4112_512_0)
      (extractStridedSlice S64x4112 ![576, 0] (transpose S2824x4112 [1, 0] (pOf m c) transposes_S4112x2824_S2824x4112_1_0) slices_S2824x4112_S64x4112_576_0)
      (extractStridedSlice S64x4112 ![640, 0] (transpose S2824x4112 [1, 0] (pOf m c) transposes_S4112x2824_S2824x4112_1_0) slices_S2824x4112_S64x4112_640_0)
      (extractStridedSlice S64x4112 ![704, 0] (transpose S2824x4112 [1, 0] (pOf m c) transposes_S4112x2824_S2824x4112_1_0) slices_S2824x4112_S64x4112_704_0)
      (extractStridedSlice S2048x4112 ![768, 0] (transpose S2824x4112 [1, 0] (pOf m c) transposes_S4112x2824_S2824x4112_1_0) slices_S2824x4112_S2048x4112_768_0)
      (extractStridedSlice S4x4112 ![2820, 0] (transpose S2824x4112 [1, 0] (pOf m c) transposes_S4112x2824_S2824x4112_1_0) slices_S2824x4112_S4x4112_2820_0)
      (extractStridedSlice S4x4112 ![2816, 0] (transpose S2824x4112 [1, 0] (pOf m c) transposes_S4112x2824_S2824x4112_1_0) slices_S2824x4112_S4x4112_2816_0)
      (broadcastInDim S120x4112 ![] bcast_S_S120x4112 (constant (F := Ideal) S_ .f32 0x00000000#32))) transposes_S3200x4112_S4112x3200_1_0)
      (sitofp (F := Ideal) .f32 (constantI S_ 32 0#32)) pads_S4112x3200_S4224x3200_11200_000 h_S_ := by
  unfold projA
  dsimp only [V, hostOps0, hostOps0_1, hostOps0_2, hostOps0_3, hostOps0_4, hostOps0_5, hostOps0_6, hostOps0_7, hostOps0_8, hostOps0_9, hostOps0_10, hostOps0_11]
  simp only [List.flatten_cons, List.flatten_nil, List.append_nil, List.cons_append, List.nil_append]
  after_results_simp
  simp -implicitDefEqProofs only [StableHlo.TRef.toBuf, StableHlo.TRef.ofBuf, cast_cast, cast_eq]
  rfl

theorem word0 : (FloatOps.sitofp (F := Ideal) .f32 (0#32 : BitVec 32) : EReal) = 0 := by
  show (((0#32 : BitVec 32).toInt : ℝ) : EReal) = 0
  simp

/-- Row `n` of the padded array at a column of the stack that holds column `k'` of the argument. -/
theorem projA_of (n : Fin 4224) (k : Fin 3200) (k' : Fin 2824)
    (h : ∀ r : Fin 4112, stacked
      (extractStridedSlice S512x4112 ![0, 0] (transpose S2824x4112 [1, 0] (pOf m c) transposes_S4112x2824_S2824x4112_1_0) slices_S2824x4112_S512x4112_0_0)
      (extractStridedSlice S64x4112 ![512, 0] (transpose S2824x4112 [1, 0] (pOf m c) transposes_S4112x2824_S2824x4112_1_0) slices_S2824x4112_S64x4112_512_0)
      (extractStridedSlice S64x4112 ![576, 0] (transpose S2824x4112 [1, 0] (pOf m c) transposes_S4112x2824_S2824x4112_1_0) slices_S2824x4112_S64x4112_576_0)
      (extractStridedSlice S64x4112 ![640, 0] (transpose S2824x4112 [1, 0] (pOf m c) transposes_S4112x2824_S2824x4112_1_0) slices_S2824x4112_S64x4112_640_0)
      (extractStridedSlice S64x4112 ![704, 0] (transpose S2824x4112 [1, 0] (pOf m c) transposes_S4112x2824_S2824x4112_1_0) slices_S2824x4112_S64x4112_704_0)
      (extractStridedSlice S2048x4112 ![768, 0] (transpose S2824x4112 [1, 0] (pOf m c) transposes_S4112x2824_S2824x4112_1_0) slices_S2824x4112_S2048x4112_768_0)
      (extractStridedSlice S4x4112 ![2820, 0] (transpose S2824x4112 [1, 0] (pOf m c) transposes_S4112x2824_S2824x4112_1_0) slices_S2824x4112_S4x4112_2820_0)
      (extractStridedSlice S4x4112 ![2816, 0] (transpose S2824x4112 [1, 0] (pOf m c) transposes_S4112x2824_S2824x4112_1_0) slices_S2824x4112_S4x4112_2816_0)
      (broadcastInDim S120x4112 ![] bcast_S_S120x4112 (constant (F := Ideal) S_ .f32 0x00000000#32)) (ix2 k r) = pOf m c (ix2 r k')) :
    projA m c (ix2 n k) = if hn : n.val < 112 then 0 else pOf m c (ix2 ⟨n.val - 112, by omega⟩ k') := by
  rw [projA_eq]
  by_cases hn : n.val < 112
  · rw [dif_pos hn]
    refine (pad_apply_of_not_inside _ _ _ _ _ _ _ (ix2 n k) 0 ?_).trans ?_
    · intro hh
      have h0 : (112 : ℕ) ≤ n.val := hh.1
      omega
    · exact word0
  · rw [dif_neg hn, ← h]
    refine (pad_apply_of_inside _ _ _ _ _ _ _ (ix2 n k) (ix2 (⟨n.val - 112, by omega⟩ : Fin 4112) k) ?_).trans ?_
    · intro a
      match a with
      | ⟨0, _⟩ => show n.val = 112 + (n.val - 112) * (0 + 1); omega
      | ⟨1, _⟩ => show k.val = 0 + k.val * (0 + 1); omega
    · exact transpose_apply [1, 0] _ _ _ (ix2 k (⟨n.val - 112, by omega⟩ : Fin 4112)) (fun b => match b with | ⟨0, _⟩ => rfl | ⟨1, _⟩ => rfl)

theorem projA_q (n : Fin 4224) (k : Fin 512) : projA m c (ix2 n ⟨k.val, by omega⟩) = qAt (pOf m c) n k :=
  projA_of m c n _ ⟨k.val, by omega⟩ fun r => (stacked_q _ _ _ _ _ _ _ _ _ k r).trans (by pointwise)

theorem projA_kv (n : Fin 4224) (b : Fin 4) (l : Fin 128) :
    projA m c (ix2 n ⟨512 + (b.val * 128 + l.val), by omega⟩) = kvOf (pOf m c) n b ⟨l.val % 64, Nat.mod_lt _ (by norm_num)⟩ := by
  have e : (⟨512 + (b.val * 128 + l.val), by omega⟩ : Fin 3200) = ⟨512 + (2 * b.val + l.val / 64) * 64 + l.val % 64, by omega⟩ := Fin.ext (by show 512 + (b.val * 128 + l.val) = 512 + (2 * b.val + l.val / 64) * 64 + l.val % 64; omega)
  rw [e]
  have hl : l.val / 64 = 0 ∨ l.val / 64 = 1 := by omega
  have hd : l.val % 64 < 64 := by omega
  refine projA_of m c n _ ⟨512 + b.val * 64 + l.val % 64, by omega⟩ fun r => ?_
  refine (stacked_piece _ _ _ _ _ _ _ _ _ (2 * b.val + l.val / 64) (by omega) (match b with
    | ⟨0, _⟩ => extractStridedSlice S64x4112 ![512, 0] (transpose S2824x4112 [1, 0] (pOf m c) transposes_S4112x2824_S2824x4112_1_0) slices_S2824x4112_S64x4112_512_0
    | ⟨1, _⟩ => extractStridedSlice S64x4112 ![576, 0] (transpose S2824x4112 [1, 0] (pOf m c) transposes_S4112x2824_S2824x4112_1_0) slices_S2824x4112_S64x4112_576_0
    | ⟨2, _⟩ => extractStridedSlice S64x4112 ![640, 0] (transpose S2824x4112 [1, 0] (pOf m c) transposes_S4112x2824_S2824x4112_1_0) slices_S2824x4112_S64x4112_640_0
    | ⟨3, _⟩ => extractStridedSlice S64x4112 ![704, 0] (transpose S2824x4112 [1, 0] (pOf m c) transposes_S4112x2824_S2824x4112_1_0) slices_S2824x4112_S64x4112_704_0)
    ?_ ⟨l.val % 64, hd⟩ r).trans ?_
  · match b with
    | ⟨0, _⟩ => rcases hl with h | h <;> rw [h] <;> rfl
    | ⟨1, _⟩ => rcases hl with h | h <;> rw [h] <;> rfl
    | ⟨2, _⟩ => rcases hl with h | h <;> rw [h] <;> rfl
    | ⟨3, _⟩ => rcases hl with h | h <;> rw [h] <;> rfl
  · match b with
    | ⟨0, _⟩ => pointwise
    | ⟨1, _⟩ => pointwise
    | ⟨2, _⟩ => pointwise
    | ⟨3, _⟩ => pointwise

theorem sinkA_at (h : Fin 8) : sinkA m c (ix2 0 ⟨h.val, by omega⟩) = sinkOf m c (ix1 h) := by
  unfold sinkA
  rw [V_split]
  have e : StableHlo.after opsA (fun b => m (c, b)) main_arg2 = sinkOf m c := by
    dsimp only [opsA, hostOps0, hostOps0_1, hostOps0_2, hostOps0_3, hostOps0_4, hostOps0_5, hostOps0_6, hostOps0_7, hostOps0_8]
    simp only [List.flatten_cons, List.flatten_nil, List.append_nil, List.cons_append, List.nil_append, List.take]
    after_results_simp
  rw [← e]
  generalize StableHlo.after opsA (fun b => m (c, b)) = W
  dsimp only [opsB, hostOps0_8, hostOps0_9, hostOps0_10, hostOps0_11]
  simp only [List.flatten_cons, List.flatten_nil, List.append_nil, List.cons_append, List.nil_append, List.drop]
  after_results_simp
  simp -implicitDefEqProofs only [StableHlo.TRef.toBuf, StableHlo.TRef.ofBuf, cast_cast, cast_eq]
  pointwise

end Cert.SwfKernelIdeal.Value
end
-- ==== Proof.SwfArray.lean ====
/-
  The array the sliding-window attention's forward call leaves: at a query's row and a head's lane, the softmax of the query's
  scores times the values.
-/
module

public import proofs.«01_k».proof.Proof.SwfBlocks

@[expose] public section

noncomputable section

namespace Cert.SwfKernelIdeal.Value

open Cert.SwfKernelIdeal Cert.SwfKernelIdeal.Gen Idealize.ShloMosaic Idealize.ShloMosaic.TcCoe Idealize.SL.Sem
open Cert.Numbers Cert.Words Cert.Attn

variable (m : (ℓ : Loc nD τ sig) → Buf (Elt Ideal) ℓ) (c : Dev nD)

/-- The block indices of the windows at a point. -/
theorem index_facts : ∀ t : Fin cfg0.N, (grid0.coords t 0).val = t.val ∧
    (win0_0.index t 0 = t.val ∧ win0_0.index t 1 = 0) ∧ (win0_1.index t 0 = 0 ∧ win0_1.index t 1 = 1) ∧
    (win0_2.index t 0 = t.val - 1 ∧ win0_2.index t 1 = 1) ∧ (win0_3.index t 0 = t.val ∧ win0_3.index t 1 = 1) ∧
    (win0_4.index t 0 = min t.val 2 ∧ win0_4.index t 1 = 0 ∧ win0_4.index t 2 = 0 ∧ win0_4.index t 3 = 0) ∧
    (win0_5.index t 0 = 0 ∧ win0_5.index t 1 = 0) ∧ (win0_6.index t 0 = t.val ∧ win0_6.index t 1 = 0) :=
  (by decide +kernel : ∀ t : Fin grid0.N, _)

abbrev pt (t : Fin cfg0.N) : Fin 33 := ⟨t.val, t.isLt⟩

theorem block_q (t : Fin cfg0.N) (r : Fin 128) (k : Fin 512) :
    (X0_0 m c t : Vec Ideal S128x512 .f32) (ix2 r k) = qAt (pOf m c) (rowQ (pt t) r) k := by
  have hi := index_facts t
  rw [← projA_q]
  unfold X0_0 projA Pipeline.Window.fill
  rw [dif_pos (moved0_0 t _)]
  unfold iblk
  rw [View.read_apply]
  show V m c main_v12 _ = V m c main_v12 _
  congr 1
  exact at2 (by show win0_0.index t 0 * 128 + 1 * r.val = t.val * 128 + r.val; rw [hi.2.1.1]; omega) (by show win0_0.index t 1 * 512 + 1 * k.val = k.val; rw [hi.2.1.2]; omega)

theorem block_m (t : Fin cfg0.N) (r : Fin 128) (b : Fin 4) (l : Fin 128) :
    (X0_1 m c t : Vec Ideal S128x512 .f32) (ix2 r ⟨b.val * 128 + l.val, by omega⟩)
      = kvOf (pOf m c) ⟨r.val, by omega⟩ b ⟨l.val % 64, Nat.mod_lt _ (by norm_num)⟩ := by
  have hi := index_facts t
  rw [← projA_kv]
  unfold X0_1 projA Pipeline.Window.fill
  rw [dif_pos (moved0_1 t _)]
  unfold iblk
  rw [View.read_apply]
  show V m c main_v12 _ = V m c main_v12 _
  congr 1
  exact at2 (by show win0_1.index t 0 * 128 + 1 * r.val = r.val; rw [hi.2.2.1.1]; omega) (by show win0_1.index t 1 * 512 + 1 * (b.val * 128 + l.val) = 512 + (b.val * 128 + l.val); rw [hi.2.2.1.2]; omega)

theorem block_p (t : Fin cfg0.N) (r : Fin 128) (b : Fin 4) (l : Fin 128) :
    (X0_2 m c t : Vec Ideal S128x512 .f32) (ix2 r ⟨b.val * 128 + l.val, by omega⟩)
      = kvOf (pOf m c) ⟨(t.val - 1) * 128 + r.val, by have ht : t.val < 33 := t.isLt; omega⟩ b ⟨l.val % 64, Nat.mod_lt _ (by norm_num)⟩ := by
  have hi := index_facts t
  rw [← projA_kv]
  unfold X0_2 projA Pipeline.Window.fill
  rw [dif_pos (moved0_2 t _)]
  unfold iblk
  rw [View.read_apply]
  show V m c main_v12 _ = V m c main_v12 _
  congr 1
  exact at2 (by show win0_2.index t 0 * 128 + 1 * r.val = (t.val - 1) * 128 + r.val; rw [hi.2.2.2.1.1]; omega) (by show win0_2.index t 1 * 512 + 1 * (b.val * 128 + l.val) = 512 + (b.val * 128 + l.val); rw [hi.2.2.2.1.2]; omega)

theorem block_c (t : Fin cfg0.N) (r : Fin 128) (b : Fin 4) (l : Fin 128) :
    (X0_3 m c t : Vec Ideal S128x512 .f32) (ix2 r ⟨b.val * 128 + l.val, by omega⟩)
      = kvOf (pOf m c) (rowQ (pt t) r) b ⟨l.val % 64, Nat.mod_lt _ (by norm_num)⟩ := by
  have hi := index_facts t
  rw [← projA_kv]
  unfold X0_3 projA Pipeline.Window.fill
  rw [dif_pos (moved0_3 t _)]
  unfold iblk
  rw [View.read_apply]
  show V m c main_v12 _ = V m c main_v12 _
  congr 1
  exact at2 (by show win0_3.index t 0 * 128 + 1 * r.val = t.val * 128 + r.val; rw [hi.2.2.2.2.1.1]; omega) (by show win0_3.index t 1 * 512 + 1 * (b.val * 128 + l.val) = 512 + (b.val * 128 + l.val); rw [hi.2.2.2.2.1.2]; omega)

theorem block_b (t : Fin cfg0.N) (h : Fin 8) (i : Fin 128) (j : Fin 384) :
    (iblk m c 4 t : Vec Ideal S1x8x128x384 .f32) (ix4 0 h i j) = Bucket.entry (tabOf m c) (wd (distK (min t.val 2) i.val j.val)) h := by
  have hi := index_facts t
  rw [← biasA_at m c ⟨min t.val 2, by omega⟩]
  unfold iblk biasA
  rw [View.read_apply]
  show V m c main_v78 _ = V m c main_v78 _
  congr 1
  funext a
  apply Fin.ext
  match a with
  | ⟨0, _⟩ => show win0_4.index t 0 * 1 + 1 * 0 = min t.val 2; rw [hi.2.2.2.2.2.1.1]; omega
  | ⟨1, _⟩ => show win0_4.index t 1 * 8 + 1 * h.val = h.val; rw [hi.2.2.2.2.2.1.2.1]; omega
  | ⟨2, _⟩ => show win0_4.index t 2 * 128 + 1 * i.val = i.val; rw [hi.2.2.2.2.2.1.2.2.1]; omega
  | ⟨3, _⟩ => show win0_4.index t 3 * 384 + 1 * j.val = j.val; rw [hi.2.2.2.2.2.1.2.2.2]; omega

theorem block_s (t : Fin cfg0.N) (h : Fin 8) :
    (iblk m c 5 t : Vec Ideal S1x128 .f32) (ix2 0 ⟨h.val, by omega⟩) = sinkOf m c (ix1 h) := by
  have hi := index_facts t
  rw [← sinkA_at]
  unfold iblk sinkA
  rw [View.read_apply]
  show V m c main_v80 _ = V m c main_v80 _
  congr 1
  exact at2 (by show win0_5.index t 0 * 1 + 1 * 0 = 0; rw [hi.2.2.2.2.2.2.1.1]) (by show win0_5.index t 1 * 128 + 1 * h.val = h.val; rw [hi.2.2.2.2.2.2.1.2]; omega)

theorem kv_eq (t : Fin cfg0.N) (j : Fin 384) (b : Fin 4) (l : Fin 128) :
    kvAt (X0_1 m c t) (X0_2 m c t) (X0_3 m c t) j ⟨b.val * 128 + l.val, by omega⟩
      = kvOf (pOf m c) (rowOf (pt t) j) b ⟨l.val % 64, Nat.mod_lt _ (by norm_num)⟩ := by
  unfold kvAt
  by_cases h : j.val < 128
  · rw [dif_pos h]
    refine (block_m m c t ⟨j.val, h⟩ b l).trans (congrArg (fun r => kvOf (pOf m c) r b _) (Fin.ext ?_))
    exact (if_pos h).symm
  · rw [dif_neg h]
    by_cases h' : j.val < 256
    · rw [dif_pos h']
      refine (block_p m c t ⟨j.val - 128, by omega⟩ b l).trans (congrArg (fun r => kvOf (pOf m c) r b _) (Fin.ext ?_))
      exact ((if_neg h).trans (if_pos h')).symm
    · rw [dif_neg h']
      refine (block_c m c t ⟨j.val - 256, by omega⟩ b l).trans (congrArg (fun r => kvOf (pOf m c) r b _) (Fin.ext ?_))
      exact ((if_neg h).trans (if_neg h')).symm

theorem score_eq (t : Fin cfg0.N) (h : Fin 8) (i : Fin 128) (j : Fin 384) :
    score (X0_0 m c t) (X0_1 m c t) (X0_2 m c t) (X0_3 m c t) (iblk m c 4 t) h i j = scoreS (pOf m c) (tabOf m c) (pt t) h i j := by
  unfold score scoreS prod
  rw [block_b, sum_half (h.val % 2) (by omega) (fun l => X0_0 m c t (ix2 i ⟨h.val / 2 * 128 + l.val, by omega⟩))
    (fun l => kvAt (X0_1 m c t) (X0_2 m c t) (X0_3 m c t) j ⟨h.val / 4 * 128 + l.val, by omega⟩)]
  congr 2
  refine Finset.sum_congr rfl fun d _ => ?_
  refine congrArg₂ (· * ·) ((block_q m c t i _).trans (congrArg (qAt _ _) (Fin.ext ?_)))
    ((kv_eq m c t j ⟨h.val / 4, by omega⟩ ⟨h.val % 2 * 64 + d.val, by omega⟩).trans (congrArg (kvOf _ _ _) (Fin.ext ?_)))
  · show h.val / 2 * 128 + (h.val % 2 * 64 + d.val) = h.val * 64 + d.val
    omega
  · show (h.val % 2 * 64 + d.val) % 64 = d.val
    omega

theorem masked_eq (t : Fin cfg0.N) (h : Fin 8) (i : Fin 128) (j : Fin 384) :
    masked (X0_0 m c t) (X0_1 m c t) (X0_2 m c t) (X0_3 m c t) (iblk m c 4 t) t.val h i j = maskedS (pOf m c) (tabOf m c) (pt t) h i j := by
  unfold masked maskedS
  rw [score_eq]

theorem top_eq (t : Fin cfg0.N) (h : Fin 8) (i : Fin 128) :
    top (X0_0 m c t) (X0_1 m c t) (X0_2 m c t) (X0_3 m c t) (iblk m c 4 t) (iblk m c 5 t) t.val h i
      = topS (pOf m c) (tabOf m c) (sinkOf m c) (pt t) h i := by
  unfold top topS
  simp only [masked_eq]
  rw [block_s]

theorem den_eq (t : Fin cfg0.N) (h : Fin 8) (i : Fin 128) :
    den (X0_0 m c t) (X0_1 m c t) (X0_2 m c t) (X0_3 m c t) (iblk m c 4 t) (iblk m c 5 t) t.val h i
      = denS (pOf m c) (tabOf m c) (sinkOf m c) (pt t) h i := by
  unfold den denS
  rw [top_eq, block_s]
  simp only [masked_eq]

theorem out_eq (t : Fin cfg0.N) (h : Fin 8) (i l : Fin 128) :
    outAt (X0_0 m c t) (X0_1 m c t) (X0_2 m c t) (X0_3 m c t) (iblk m c 4 t) (iblk m c 5 t) t.val h i l
      = outS (pOf m c) (tabOf m c) (sinkOf m c) (pt t) h i ⟨l.val % 64, Nat.mod_lt _ (by norm_num)⟩ := by
  unfold outAt outS weight
  rw [den_eq]
  simp only [masked_eq, top_eq]
  refine Finset.sum_congr rfl fun j _ => ?_
  exact congrArg₂ (· * ·) rfl (kv_eq m c t j ⟨2 + h.val / 4, by omega⟩ l)

/-- The block a point writes. -/
theorem outs_at (t : Fin cfg0.N) (h : Fin 8) (i : Fin 128) (d : Fin 64) :
    outsAt0 m c t (ix2 i ⟨h.val * 64 + d.val, by omega⟩) = outS (pOf m c) (tabOf m c) (sinkOf m c) (pt t) h i d := by
  unfold outsAt0
  have e : (⟨h.val * 64 + d.val, by omega⟩ : Fin 512) = ⟨h.val / 2 * 128 + (h.val % 2 * 64 + d.val), by omega⟩ := Fin.ext (by show h.val * 64 + d.val = h.val / 2 * 128 + (h.val % 2 * 64 + d.val); omega)
  rw [e]
  refine (out_payload c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (X0_0 m c t) (X0_1 m c t) (X0_2 m c t) (X0_3 m c t) (iblk m c 4 t) (iblk m c 5 t)
    ⟨h.val / 2, by omega⟩ i ⟨h.val % 2 * 64 + d.val, by omega⟩).trans ?_
  rw [(index_facts t).1, out_eq, out_eq]
  have ed : (⟨(h.val % 2 * 64 + d.val) % 64, Nat.mod_lt _ (by norm_num)⟩ : Fin 64) = d := Fin.ext (by show (h.val % 2 * 64 + d.val) % 64 = d.val; omega)
  have h2 : h.val % 2 = 0 ∨ h.val % 2 = 1 := by omega
  dsimp only
  rw [ed]
  rcases h2 with h2 | h2
  · rw [show lane 0 ⟨h.val % 2 * 64 + d.val, by omega⟩ = 1 from if_pos (by show (h.val % 2 * 64 + d.val) / 64 = 0; omega),
      show lane 1 ⟨h.val % 2 * 64 + d.val, by omega⟩ = 0 from if_neg (by show ¬ (h.val % 2 * 64 + d.val) / 64 = 1; omega), mul_one, mul_zero, add_zero]
    exact congrArg (fun g => outS _ _ _ _ g i d) (Fin.ext (by show 2 * (h.val / 2) = h.val; omega))
  · rw [show lane 0 ⟨h.val % 2 * 64 + d.val, by omega⟩ = 0 from if_neg (by show ¬ (h.val % 2 * 64 + d.val) / 64 = 0; omega),
      show lane 1 ⟨h.val % 2 * 64 + d.val, by omega⟩ = 1 from if_pos (by show (h.val % 2 * 64 + d.val) / 64 = 1; omega), mul_one, mul_zero, zero_add]
    exact congrArg (fun g => outS _ _ _ _ g i d) (Fin.ext (by show 2 * (h.val / 2) + 1 = h.val; omega))

/-- The array at a query's row and a head's lane. -/
theorem array_at (n : Fin 33) (h : Fin 8) (i : Fin 128) (d : Fin 64) :
    (dats m 0 c).arrAt 6 cfg0.N (ix2 (rowQ n i) (⟨h.val * 64 + d.val, by omega⟩ : Fin 512) : S4224x512.Idx)
      = outS (pOf m c) (tabOf m c) (sinkOf m c) n h i d := by
  have ht : n.val < cfg0.N := n.isLt
  have hi := index_facts ⟨_, ht⟩
  have hb := congrFun (blocks6 m c ⟨_, ht⟩ (flush0_6 _)) (ix2 i (⟨h.val * 64 + d.val, by omega⟩ : Fin 512))
  rw [flushed6, View.read_apply] at hb
  refine Eq.trans (congrArg _ ?_) (hb.trans (outs_at m c ⟨_, ht⟩ h i d))
  exact at2 (by show n.val * 128 + i.val = win0_6.index ⟨_, ht⟩ 0 * 128 + 1 * i.val; rw [hi.2.2.2.2.2.2.2.1]; dsimp only; omega) (by show h.val * 64 + d.val = win0_6.index ⟨_, ht⟩ 1 * 512 + 1 * (h.val * 64 + d.val); rw [hi.2.2.2.2.2.2.2.2]; omega)

end Cert.SwfKernelIdeal.Value
end
-- ==== Proof.SwfReference.lean ====
/-
  The reference of the sliding-window attention, stage by stage over the extended reals, in terms of the same scores, masks and
  softmax.
-/
module

public import proofs.«01_k».proof.Proof.Attn
public import proofs.«01_k».proof.Proof.Take
public import proofs.«01_k».proof.Proof.Gen.SwfReferenceIdeal.Run
public import proofs.«01_k».proof.Proof.Gen.SwfReferenceIdeal.Read

@[expose] public section

noncomputable section

namespace Cert.SwfReferenceIdeal.Value

open Cert.SwfReferenceIdeal Cert.SwfReferenceIdeal.Gen Cert.SwfReferenceIdeal.Read Idealize.ShloMosaic Idealize.ShloMosaic.TcCoe Idealize.SL.Sem
open Cert.Numbers Cert.Words Cert.Attn

variable (p : Vec Ideal S4112x2824 .f32) (tab : Vec Ideal S32x8 .f32) (sk : Vec Ideal S8 .f32)

abbrev head (κ : Fin 2) (g : Fin 4) : Fin 8 := ⟨κ.val * 4 + g.val, by omega⟩

theorem q_at (n : Fin 33) (i : Fin 128) (κ : Fin 2) (g : Fin 4) (d : Fin 64) :
    val_main_v8 (F := Ideal) p (ix5 n i κ g d) = qAt p (rowQ n i) ⟨(head κ g).val * 64 + d.val, by dsimp only [head]; omega⟩ := by
  unfold qAt rowQ
  pointwise [val_main_v0, val_main_v1, val_main_v2, val_main_v3, val_main_v4, val_main_v5, val_main_cst, val_main_v6, val_main_v7, val_main_v8]

theorem k_at (n : Fin 33) (i : Fin 128) (κ : Fin 2) (d : Fin 64) :
    val_main_v11 (F := Ideal) p (ix4 n i κ d) = kvOf p (rowQ n i) ⟨κ.val, by omega⟩ d := by
  unfold kvOf rowQ
  pointwise [val_main_v0, val_main_v1, val_main_v2, val_main_v3, val_main_v4, val_main_v5, val_main_cst, val_main_v6, val_main_v7, val_main_v8, val_main_cst_0, val_main_v9, val_main_v10, val_main_v11]
  exact dite_congr rfl (fun _ => rfl) fun h => congrArg (fun k => p (ix2 _ k)) (Fin.ext (by dsimp only; omega))

theorem v_at (n : Fin 33) (i : Fin 128) (κ : Fin 2) (d : Fin 64) :
    val_main_v14 (F := Ideal) p (ix4 n i κ d) = kvOf p (rowQ n i) ⟨2 + κ.val, by omega⟩ d := by
  unfold kvOf rowQ
  pointwise [val_main_v0, val_main_v1, val_main_v2, val_main_v3, val_main_v4, val_main_v5, val_main_cst, val_main_v6, val_main_v7, val_main_v8, val_main_cst_0, val_main_v9, val_main_v10, val_main_v11, val_main_cst_1, val_main_v12, val_main_v13, val_main_v14]
  exact dite_congr rfl (fun _ => rfl) fun h => congrArg (fun k => p (ix2 _ k)) (Fin.ext (by dsimp only; omega))

/-- Band keys: zero in the first point's first half. -/
def kvB (n : Fin 33) (k : Fin 256) (b : Fin 4) (d : Fin 64) : EReal :=
  if n.val = 0 ∧ k.val < 128 then 0 else kvOf p (rowOf n ⟨128 + k.val, by omega⟩) b d

/-- A band key or value, from the padded rows of its own block and of the block before. -/
theorem kvB_of (n : Fin 33) (k : Fin 256) (b : Fin 4) (d : Fin 64) (x : EReal)
    (h0 : k.val < 128 → n.val = 0 → x = 0)
    (h1 : ∀ (hk : k.val < 128) (hn : n.val ≠ 0), x = kvOf p (rowQ ⟨n.val - 1, by omega⟩ ⟨k.val, hk⟩) b d)
    (h2 : ∀ hk : ¬ k.val < 128, x = kvOf p (rowQ n ⟨k.val - 128, by omega⟩) b d) : x = kvB p n k b d := by
  unfold kvB
  by_cases hk : k.val < 128
  · by_cases hn : n.val = 0
    · rw [if_pos ⟨hn, hk⟩]; exact h0 hk hn
    · rw [if_neg (by omega), h1 hk hn]
      refine congrArg (fun r => kvOf p r b d) (Fin.ext ?_)
      show (n.val - 1) * 128 + k.val = if 128 + k.val < 128 then 128 + k.val else if 128 + k.val < 256 then (n.val - 1) * 128 + (128 + k.val - 128) else n.val * 128 + (128 + k.val - 256)
      split_ifs <;> omega
  · rw [if_neg (by omega), h2 hk]
    refine congrArg (fun r => kvOf p r b d) (Fin.ext ?_)
    show n.val * 128 + (k.val - 128) = if 128 + k.val < 128 then 128 + k.val else if 128 + k.val < 256 then (n.val - 1) * 128 + (128 + k.val - 128) else n.val * 128 + (128 + k.val - 256)
    split_ifs <;> omega

theorem kB_at (n : Fin 33) (k : Fin 256) (κ : Fin 2) (d : Fin 64) :
    val_main_v19 (F := Ideal) p (ix4 n k κ d) = kvB p n k ⟨κ.val, by omega⟩ d := by
  apply kvB_of
  · intro hk hn
    pointwise [val_main_v15, val_main_cst_2, val_main_v16, val_main_v17, val_main_v18, val_main_v19, k_at]
    rw [dif_pos hk, dif_pos (by omega)]
  · intro hk hn
    pointwise [val_main_v15, val_main_cst_2, val_main_v16, val_main_v17, val_main_v18, val_main_v19, k_at]
    rw [dif_pos hk, dif_neg (by omega)]
  · intro hk
    pointwise [val_main_v15, val_main_cst_2, val_main_v16, val_main_v17, val_main_v18, val_main_v19, k_at]
    rw [dif_neg hk]

theorem vB_at (n : Fin 33) (k : Fin 256) (κ : Fin 2) (d : Fin 64) :
    val_main_v24 (F := Ideal) p (ix4 n k κ d) = kvB p n k ⟨2 + κ.val, by omega⟩ d := by
  apply kvB_of
  · intro hk hn
    pointwise [val_main_v20, val_main_cst_3, val_main_v21, val_main_v22, val_main_v23, val_main_v24, v_at]
    rw [dif_pos hk, dif_pos (by omega)]
  · intro hk hn
    pointwise [val_main_v20, val_main_cst_3, val_main_v21, val_main_v22, val_main_v23, val_main_v24, v_at]
    rw [dif_pos hk, dif_neg (by omega)]
  · intro hk
    pointwise [val_main_v20, val_main_cst_3, val_main_v21, val_main_v22, val_main_v23, val_main_v24, v_at]
    rw [dif_neg hk]

/-- The first keys and values. -/
theorem first_k (n : Fin 33) (k : Fin 16) (κ : Fin 2) (d : Fin 64) :
    val_main_v25 (F := Ideal) p (ix3 k κ d) = kvOf p (rowOf n ⟨112 + k.val, by omega⟩) ⟨κ.val, by omega⟩ d := by
  have e : (rowOf n ⟨112 + k.val, by omega⟩).val = 112 + k.val := if_pos (by show 112 + k.val < 128; omega)
  unfold kvOf
  rw [dif_neg (by omega)]
  pointwise [val_main_v2, val_main_v3, val_main_v4, val_main_v5, val_main_v25, val_main_v26]
  exact congrArg p (congrArg₂ ix2 (Fin.ext (by dsimp only; omega)) (Fin.ext (by dsimp only; omega)))

theorem first_v (n : Fin 33) (k : Fin 16) (κ : Fin 2) (d : Fin 64) :
    val_main_v26 (F := Ideal) p (ix3 k κ d) = kvOf p (rowOf n ⟨112 + k.val, by omega⟩) ⟨2 + κ.val, by omega⟩ d := by
  have e : (rowOf n ⟨112 + k.val, by omega⟩).val = 112 + k.val := if_pos (by show 112 + k.val < 128; omega)
  unfold kvOf
  rw [dif_neg (by omega)]
  pointwise [val_main_v2, val_main_v3, val_main_v4, val_main_v5, val_main_v25, val_main_v26]
  exact congrArg p (congrArg₂ ix2 (Fin.ext (by dsimp only; omega)) (Fin.ext (by dsimp only; omega)))

theorem score_at (n : Fin 33) (i : Fin 128) (κ : Fin 2) (g : Fin 4) (k : Fin 256) :
    val_main_v30 (F := Ideal) p (ix5 κ g n i k) = (∑ d : Fin 64, qAt p (rowQ n i) ⟨(head κ g).val * 64 + d.val, by dsimp only [head]; omega⟩
      * kvB p n k ⟨κ.val, by omega⟩ d) * Ideal.ofBits .f32 0x3E000000#32 := by
  pointwise [val_main_v27, val_main_v28, val_main_cst_4, val_main_v29, val_main_v30, q_at, kB_at]
  exact congrArg (· * _) (Finset.sum_congr rfl fun d _ => mul_comm _ _)

theorem scoreM_at (n : Fin 33) (i : Fin 128) (κ : Fin 2) (g : Fin 4) (k : Fin 16) :
    val_main_v34 (F := Ideal) p (ix5 κ g n i k) = prod p n (head κ g) i (rowOf n ⟨112 + k.val, by omega⟩) * Ideal.ofBits .f32 0x3E000000#32 := by
  have hκ : (⟨(head κ g).val / 4, by dsimp only [head]; omega⟩ : Fin 4) = ⟨κ.val, by omega⟩ := Fin.ext (by dsimp only [head]; omega)
  unfold prod
  rw [hκ]
  pointwise [val_main_v31, val_main_v32, val_main_cst_5, val_main_v33, val_main_v34, q_at, first_k p n]
  exact congrArg (· * _) (Finset.sum_congr rfl fun d _ => mul_comm _ _)

theorem pos_at (n : Fin 33) (k : Fin 256) : val_main_v56 (F := Ideal) (ix2 n k) = wd (posK n.val (128 + k.val)) := by
  pointwise [val_main_c_7, val_main_v35, val_main_v36, val_main_v46, val_main_v47, val_main_v48, val_main_v49, val_main_v50, val_main_v51, val_main_v52, val_main_c_8, val_main_v53, val_main_v54, val_main_c_9, val_main_v55, val_main_v56]
  rw [wd_fin, wd_fin, show (128#32 : BitVec 32) = wd 128 from rfl, show (112#32 : BitVec 32) = wd 112 from rfl, muli_wd, addi_wd, subi_wd, subi_wd]
  refine congrArg wd ?_
  unfold posK
  rw [if_neg (by omega)]
  push_cast
  ring

theorem posQ_at (n : Fin 33) (i : Fin 128) : val_main_v45 (F := Ideal) (ix2 n i) = wd ((n.val : ℤ) * 128 + i.val - 112) := by
  pointwise [val_main_v35, val_main_v36, val_main_c, val_main_v37, val_main_v38, val_main_v39, val_main_v40, val_main_v41, val_main_v42, val_main_v43, val_main_c_6, val_main_v44, val_main_v45]
  rw [wd_fin, wd_fin, show (128#32 : BitVec 32) = wd 128 from rfl, show (112#32 : BitVec 32) = wd 112 from rfl, muli_wd, addi_wd, subi_wd]

theorem rel_at (n : Fin 33) (i : Fin 128) (k : Fin 256) : val_main_v61 (F := Ideal) (ix3 n i k) = wd (relK n.val i.val (128 + k.val)) := by
  pointwise [val_main_v57, val_main_v58, val_main_v59, val_main_v60, val_main_v61, pos_at, posQ_at]
  exact subi_wd _ _

theorem relM_at (n : Fin 33) (i : Fin 128) (k : Fin 16) : val_main_v77 (F := Ideal) (ix3 n i k) = wd (relK n.val i.val (112 + k.val)) := by
  pointwise [val_main_v72, val_main_v73, val_main_v74, val_main_v75, val_main_v76, val_main_v77, posQ_at]
  rw [wd_fin]
  refine (subi_wd _ _).trans (congrArg wd ?_)
  unfold relK posK
  rw [if_pos (by omega)]
  push_cast
  ring

theorem mask_at (n : Fin 33) (i : Fin 128) (k : Fin 256) :
    val_main_v71 (F := Ideal) (ix3 n i k) = if seen n.val i.val (128 + k.val) then 1#1 else 0#1 := by
  have hp := posK_bound n.isLt (show 128 + k.val < 384 by omega)
  have hr := relK_bound n.isLt i.isLt (show 128 + k.val < 384 by omega)
  pointwise [val_main_v62, val_main_c_10, val_main_v63, val_main_v64, val_main_c_11, val_main_v65, val_main_v66, val_main_v67, val_main_v68, val_main_c_12, val_main_v69, val_main_v70, val_main_v71, pos_at, rel_at]
  rw [show (128#32 : BitVec 32) = wd 128 from rfl, show (16#32 : BitVec 32) = wd 16 from rfl, show (0#32 : BitVec 32) = wd 0 from rfl,
    cmp_sge (by omega) (by omega), cmp_sge (by omega) (by omega), cmp_slt (by omega) (by omega)]
  refine (congrArg (fun x => IntOp.andi x _) (and_bit _ _)).trans ((and_bit _ _).trans (if_congr ?_ rfl rfl))
  unfold seen
  omega

theorem maskM_at (n : Fin 33) (i : Fin 128) (k : Fin 16) :
    val_main_v79 (F := Ideal) (ix3 n i k) = if seen n.val i.val (112 + k.val) then 1#1 else 0#1 := by
  have hr := relK_bound n.isLt i.isLt (show 112 + k.val < 384 by omega)
  pointwise [val_main_c_13, val_main_v78, val_main_v79, relM_at]
  rw [show (0#32 : BitVec 32) = wd 0 from rfl, cmp_sge (by omega) (by omega)]
  refine if_congr ?_ rfl rfl
  have e : posK n.val (112 + k.val) = k.val := by unfold posK; rw [if_pos (by omega)]; push_cast; ring
  unfold seen
  omega

theorem bias_at (n : Fin 33) (i : Fin 128) (κ : Fin 2) (g : Fin 4) (k : Fin 256) :
    val_main_v108 (F := Ideal) tab (ix5 κ g n i k) = Bucket.entry tab (wd (relK n.val i.val (128 + k.val))) (head κ g) := by
  pointwise [val_main_v107, val_main_v108]
  refine (Take.take_apply (by decide) _ _ _ n i k (head κ g)).trans (Bucket.entry_of _ _ _ _ ?_ _)
  pointwise [val_main_c_14, val_main_v80, val_main_v81, val_main_c_15, val_main_v82, val_main_v83, val_main_v84, val_main_cst_16, val_main_v85, val_main_v86, val_main_v87, val_main_cst_17, val_main_v88, val_main_v89, val_main_cst_18, val_main_v90, val_main_v91, val_main_v92, val_main_c_19, val_main_v93, val_main_v94, val_main_c_20, val_main_v95, val_main_v96, val_main_c_21, val_main_v97, val_main_v98, val_main_v99, val_main_c_22, val_main_v100, val_main_v101, val_main_c_23, val_main_v102, val_main_v103, val_main_v104, val_main_v105, rel_at]
  rfl

theorem biasM_at (n : Fin 33) (i : Fin 128) (κ : Fin 2) (g : Fin 4) (k : Fin 16) :
    val_main_v139 (F := Ideal) tab (ix5 κ g n i k) = Bucket.entry tab (wd (relK n.val i.val (112 + k.val))) (head κ g) := by
  pointwise [val_main_v138, val_main_v139]
  refine (Take.take_apply (by decide) _ _ _ n i k (head κ g)).trans (Bucket.entry_of _ _ _ _ ?_ _)
  pointwise [val_main_c_25, val_main_v111, val_main_v112, val_main_c_26, val_main_v113, val_main_v114, val_main_v115, val_main_cst_27, val_main_v116, val_main_v117, val_main_v118, val_main_cst_28, val_main_v119, val_main_v120, val_main_cst_29, val_main_v121, val_main_v122, val_main_v123, val_main_c_30, val_main_v124, val_main_v125, val_main_c_31, val_main_v126, val_main_v127, val_main_c_32, val_main_v128, val_main_v129, val_main_v130, val_main_c_33, val_main_v131, val_main_v132, val_main_c_34, val_main_v133, val_main_v134, val_main_v135, val_main_v136, relM_at]
  rfl

theorem ninf_eq : (Ideal.ofBits .f32 0xFF800000#32 : EReal) = ⊥ := by simp [Ideal.ofBits, Ideal.ieee]

/-- Band scores after the mask. -/
theorem masked_at (n : Fin 33) (i : Fin 128) (κ : Fin 2) (g : Fin 4) (k : Fin 256) :
    val_main_v110 (F := Ideal) p tab (ix5 κ g n i k) = maskedS p tab n (head κ g) i ⟨128 + k.val, by omega⟩ := by
  have hκ : (⟨(head κ g).val / 4, by dsimp only [head]; omega⟩ : Fin 4) = ⟨κ.val, by omega⟩ := Fin.ext (by dsimp only [head]; omega)
  pointwise [val_main_cst_24, val_main_call1_v0, val_main_call1_v1, val_main_call1_v2, val_main_v109, val_main_cst_24, val_main_call1_v0, val_main_call1_v1, val_main_call1_v2, val_main_v110, score_at, mask_at, bias_at]
  unfold maskedS
  by_cases h : seen n.val i.val (128 + k.val)
  · have hd : ¬(n.val = 0 ∧ k.val < 128) := by
      rintro ⟨h0, hk⟩
      unfold seen posK at h
      rw [if_neg (by omega)] at h
      omega
    rw [if_pos h, if_pos h]
    unfold scoreS prod
    rw [hκ]
    unfold kvB
    simp only [if_neg hd]
    refine congrArg (_ + ·) (congrArg (fun z => Bucket.entry tab (wd z) _) ?_)
    unfold relK posK distK
    rw [if_neg (by omega), if_neg (by omega)]
    push_cast
    ring
  · rw [if_neg h, if_neg h]
    exact ninf_eq

theorem maskedM_at (n : Fin 33) (i : Fin 128) (κ : Fin 2) (g : Fin 4) (k : Fin 16) :
    val_main_v141 (F := Ideal) p tab (ix5 κ g n i k) = maskedS p tab n (head κ g) i ⟨112 + k.val, by omega⟩ := by
  pointwise [val_main_cst_35, val_main_call3_v0, val_main_call3_v1, val_main_call3_v2, val_main_v140, val_main_cst_35, val_main_call3_v0, val_main_call3_v1, val_main_call3_v2, val_main_v141, scoreM_at, maskM_at, biasM_at]
  unfold maskedS
  by_cases h : seen n.val i.val (112 + k.val)
  · rw [if_pos h, if_pos h]
    unfold scoreS
    show prod p n (head κ g) i (rowOf n ⟨112 + k.val, by omega⟩) * Ideal.ofBits .f32 0x3E000000#32 + _ = _ + _
    refine congrArg (fun z : EReal => prod p n (head κ g) i (rowOf n ⟨112 + k.val, by omega⟩) * Ideal.ofBits .f32 0x3E000000#32 + z) ?_
    dsimp only
    have hk : posK n.val (112 + k.val) = k.val := by unfold posK; rw [if_pos (by omega)]; push_cast; ring
    by_cases hn : n.val ≤ 2
    · refine congrArg (fun z => Bucket.entry tab (wd z) _) ?_
      unfold relK distK
      rw [hk, if_pos (by omega), min_eq_left hn]
      push_cast
      ring
    · have e : ((min n.val 2 : ℕ) : ℤ) = 2 := by rw [min_eq_right (by omega)]; rfl
      have h2 : 128 ≤ distK (min n.val 2) i.val (112 + k.val) ∧ distK (min n.val 2) i.val (112 + k.val) < 10000 := by
        unfold distK
        rw [if_pos (by omega), e]
        push_cast
        omega
      exact Bucket.entry_far _ (by unfold relK; rw [hk]; omega) h2 _
  · rw [if_neg h, if_neg h]
    exact ninf_eq

theorem reordered (n : Fin 33) (i : Fin 128) (κ : Fin 2) (g : Fin 4) :
    Reordered (maskedS p tab n (head κ g) i) (sk (ix1 (head κ g))) (fun t => val_main_v144 (F := Ideal) p tab sk (ix5 κ g n i t)) := by
  refine ⟨fun k => ?_, fun k => ?_, ?_⟩
  · pointwise [val_main_v142, val_main_v143, val_main_v144, masked_at, maskedM_at]
  · pointwise [val_main_v142, val_main_v143, val_main_v144, masked_at, maskedM_at]
  · pointwise [val_main_v142, val_main_v143, val_main_v144, masked_at, maskedM_at]

/-- The keys before the 16 first rows are not seen. -/
theorem masked_low (n : Fin 33) (h : Fin 8) (i : Fin 128) (j : Fin 384) (hj : j.val < 112) : maskedS p tab n h i j = ⊥ := by
  refine if_neg ?_
  unfold seen posK
  rw [if_pos (by omega)]
  omega

theorem max_at (n : Fin 33) (i : Fin 128) (κ : Fin 2) (g : Fin 4) :
    val_main_v145 (F := Ideal) p tab sk (ix4 κ g n i) = Finset.univ.fold max (Ideal.ofBits .f32 0xFF800000#32) fun t : Fin 273 => val_main_v144 (F := Ideal) p tab sk (ix5 κ g n i t) := by
  pointwise [val_main_cst_36, val_main_v145]

end Cert.SwfReferenceIdeal.Value
end
-- ==== Proof.SwfAttn.lean ====
/-
  The softmax and the result of the sliding-window attention's reference.
-/
module

public import proofs.«01_k».proof.Proof.SwfReference

@[expose] public section

noncomputable section

namespace Cert.SwfReferenceIdeal.Value

open Cert.SwfReferenceIdeal Cert.SwfReferenceIdeal.Gen Cert.SwfReferenceIdeal.Read Idealize.ShloMosaic Idealize.ShloMosaic.TcCoe Idealize.SL.Sem
open Cert.Numbers Cert.Words Cert.Attn

variable (p : Vec Ideal S4112x2824 .f32) (tab : Vec Ideal S32x8 .f32) (sk : Vec Ideal S8 .f32)

theorem max_bot_left (x y : EReal) (h : x = ⊥) : max x y = y := by
  rw [h, max_eq_right bot_le]

theorem max_eq_top (n : Fin 33) (i : Fin 128) (κ : Fin 2) (g : Fin 4) :
    val_main_v145 (F := Ideal) p tab sk (ix4 κ g n i) = topS p tab sk n (head κ g) i := by
  rw [max_at]
  rw [ninf_eq, (reordered p tab sk n i κ g).fold (masked_low p tab n _ i)]
  unfold topS
  rfl

theorem maximumf_bot (x y : Ideal .f32) (h : x = (⊥ : EReal)) : FloatOps.maximumf (F := Ideal) x y = y :=
  max_bot_left x y h

theorem top_at (n : Fin 33) (i : Fin 128) (κ : Fin 2) (g : Fin 4) :
    val_main_v147 (F := Ideal) p tab sk (ix4 κ g n i) = topS p tab sk n (head κ g) i := by
  rw [val_main_v147_apply, max_eq_top]
  refine maximumf_bot _ _ ?_
  pointwise [val_main_cst_37, val_main_v146]
  exact ninf_eq

theorem exp_at (n : Fin 33) (i : Fin 128) (κ : Fin 2) (g : Fin 4) (t : Fin 273) :
    val_main_v151 (F := Ideal) p tab sk (ix5 κ g n i t) = Ideal.exp (val_main_v144 (F := Ideal) p tab sk (ix5 κ g n i t) - topS p tab sk n (head κ g) i) := by
  pointwise [val_main_v148, val_main_v149, val_main_v150, val_main_v151, top_at]

theorem exp_bot (x : EReal) : Ideal.exp (⊥ - x) = 0 := by
  rw [show (⊥ : EReal) - x = ⊥ from by rw [sub_eq_add_neg, EReal.bot_add]]
  rfl

theorem den_at (n : Fin 33) (i : Fin 128) (κ : Fin 2) (g : Fin 4) :
    val_main_v152 (F := Ideal) p tab sk (ix4 κ g n i) = denS p tab sk n (head κ g) i := by
  pointwise [val_main_cst_38, val_main_v152, exp_at]
  exact (reordered p tab sk n i κ g).sum (masked_low p tab n _ i) (fun x => Ideal.exp (x - topS p tab sk n (head κ g) i)) (exp_bot _)

theorem weight_at (n : Fin 33) (i : Fin 128) (κ : Fin 2) (g : Fin 4) (t : Fin 273) :
    val_main_v155 (F := Ideal) p tab sk (ix5 κ g n i t) = weight p tab sk n (head κ g) i (val_main_v144 (F := Ideal) p tab sk (ix5 κ g n i t)) := by
  pointwise [val_main_v153, val_main_v154, val_main_v155, den_at, exp_at]
  rfl

theorem attn_at (n : Fin 33) (i : Fin 128) (κ : Fin 2) (g : Fin 4) (d : Fin 64) (hden : denS p tab sk n (head κ g) i ≠ 0) :
    val_main_v162 (F := Ideal) p tab sk (ix5 n i κ g d) = outS p tab sk n (head κ g) i d := by
  have hκ : (⟨2 + (head κ g).val / 4, by dsimp only [head]; omega⟩ : Fin 4) = ⟨2 + κ.val, by omega⟩ := Fin.ext (by dsimp only [head]; omega)
  have hr := reordered p tab sk n i κ g
  have w0 : weight p tab sk n (head κ g) i ⊥ = 0 := by
    unfold weight Ideal.div
    rw [if_neg hden, exp_bot, zero_mul]
  unfold outS
  rw [split384 _ fun j hj => by rw [masked_low p tab n _ i j hj, w0, zero_mul], hκ]
  pointwise [val_main_v156, val_main_v157, val_main_v158, val_main_v159, val_main_v160, val_main_v161, val_main_v162, vB_at, first_v p n, weight_at]
  refine congrArg₂ (· + ·) (Finset.sum_congr rfl fun k _ => ?_) (Finset.sum_congr rfl fun k _ => ?_)
  · rw [mul_comm, show val_main_v144 (F := Ideal) p tab sk (ix5 κ g n i ⟨k.val, by omega⟩) = _ from hr.1 k]
    unfold kvB
    by_cases hd : n.val = 0 ∧ k.val < 128
    · have hs : maskedS p tab n (head κ g) i ⟨128 + k.val, by omega⟩ = ⊥ := by
        refine if_neg ?_
        dsimp only
        unfold seen posK
        rw [if_neg (by omega)]
        omega
      rw [hs, w0, zero_mul, zero_mul]
    · rw [if_neg hd]
  · rw [mul_comm, show val_main_v144 (F := Ideal) p tab sk (ix5 κ g n i ⟨256 + k.val, by omega⟩) = _ from hr.2.1 k]

/-- Every query of the padding sees no key. -/
theorem outS_low (n : Fin 33) (h : Fin 8) (i : Fin 128) (d : Fin 64) (hr : n.val * 128 + i.val < 112) (hden : denS p tab sk n h i ≠ 0) :
    outS p tab sk n h i d = 0 := by
  unfold outS
  refine Finset.sum_eq_zero fun j _ => ?_
  have hs : maskedS p tab n h i j = ⊥ := by
    refine if_neg ?_
    unfold seen relK posK
    split_ifs <;> omega
  rw [hs]
  unfold weight Ideal.div
  rw [if_neg hden, exp_bot, zero_mul, zero_mul]

/-- The result at a query's row and a head's lane. -/
theorem out_at (n : Fin 33) (i : Fin 128) (h : Fin 8) (d : Fin 64) (hden : denS p tab sk n h i ≠ 0) :
    val_main_v166 (F := Ideal) p tab sk (ix2 (rowQ n i) (⟨h.val * 64 + d.val, by omega⟩ : Fin 512)) = outS p tab sk n h i d := by
  have hh : h = head ⟨h.val / 4, by omega⟩ ⟨h.val % 4, by omega⟩ := Fin.ext (by dsimp only [head]; omega)
  by_cases hr : n.val * 128 + i.val < 112
  · rw [outS_low p tab sk n h i d hr hden]
    pointwise [val_main_cst_39, val_main_v163, val_main_v164, val_main_cst_39, val_main_v165, val_main_v166]
    unfold rowQ
    rw [dif_pos hr]
  · rw [hh] at hden
    refine Eq.trans ?_ ((attn_at p tab sk n i ⟨h.val / 4, by omega⟩ ⟨h.val % 4, by omega⟩ d hden).trans (congrArg (fun g => outS p tab sk n g i d) hh.symm))
    pointwise [val_main_cst_39, val_main_v163, val_main_v164, val_main_cst_39, val_main_v165, val_main_v166]
    unfold rowQ
    rw [dif_neg hr]
    refine congrArg (val_main_v162 (F := Ideal) p tab sk) ?_
    funext b
    exact match b with
      | ⟨0, _⟩ => Fin.ext (by show (112 + (n.val * 128 + i.val - 112)) / 128 = n.val; omega)
      | ⟨1, _⟩ => Fin.ext (by show (112 + (n.val * 128 + i.val - 112)) % 128 = i.val; omega)
      | ⟨2, _⟩ => Fin.ext (by show (h.val * 64 + d.val) / 256 = h.val / 4; omega)
      | ⟨3, _⟩ => Fin.ext (by show (h.val * 64 + d.val) / 64 % 4 = h.val % 4; omega)
      | ⟨4, _⟩ => rfl

end Cert.SwfReferenceIdeal.Value
end
-- ==== Proof.SwfClaims.lean ====
/-
  The claims about the forward kernel of the sliding-window attention and its reference.
-/
module

public import proofs.«01_k».proof.Defs
public import proofs.«01_k».proof.Proof.AttnFinite
public import proofs.«01_k».proof.Proof.SwfArray
public import proofs.«01_k».proof.Proof.SwfAttn
public import proofs.«01_k».proof.Proof.Gen.SwfKernel.Frame
public import proofs.«01_k».proof.Proof.Gen.SwfReferenceIdeal.Run

@[expose] public section

noncomputable section

namespace Cert.SwfClaims

open Idealize.ShloMosaic Idealize.ShloMosaic.TcCoe Idealize.SL.Sem
open Cert.Numbers Cert.Finite

/-- The shapes of the precondition fit. -/
theorem facts_pre : Cert.Pre_swf_finite.Facts := ⟨by decide, by decide, by decide, by decide⟩

/-- The kernel runs without fault, keeps its arguments and leaves every counter at zero. -/
theorem frame_kernel : Cert.quiescent_SwfKernel := fun m ρ _ => Cert.SwfKernel.Gen.frame m ρ

/-- So does its ideal program. -/
theorem frame_ideal : Cert.quiescent_SwfKernelIdeal := fun m ρ _ => Cert.SwfKernelIdeal.Gen.frame m ρ

/-- So does the reference. -/
theorem frame_reference : Cert.quiescent_SwfReferenceIdeal := fun m ρ _ =>
  (θ_run _ _ _).mono (fun r h => ⟨fun c => (h c).2, sem_eq_zero_of_no_sems (by decide) r.2⟩)
    (Cert.SwfReferenceIdeal.Value.run m ρ)

/-- The mask's constant is the number named, an infinity. -/
theorem preserves : Cert.preserves_SwfKernel_SwfKernelIdeal :=
  IdealRules.named_const.statement Cert.SwfKernelIdeal.κ "gap" .f32 0x7149F2CA#32 ⊤ rfl

/-- The kernel's array and the reference's are equal where the arguments are real numbers. -/
theorem arrays_eq (m : (ℓ : Loc Cert.SwfKernelIdeal.nD Cert.SwfKernelIdeal.τ Cert.SwfKernelIdeal.sig) → Buf (Elt Ideal) ℓ) (c : Dev Cert.SwfKernelIdeal.nD)
    (hp : ∀ i, IsReal (Cert.SwfKernelIdeal.Value.pOf m c i)) (ht : ∀ i, IsReal (Cert.SwfKernelIdeal.Value.tabOf m c i))
    (hs : ∀ i, IsReal (Cert.SwfKernelIdeal.Value.sinkOf m c i)) :
    (Cert.SwfKernelIdeal.Gen.dats m 0 c).arrAt 6 Cert.SwfKernelIdeal.cfg0.N
      = Cert.SwfReferenceIdeal.Read.val_main_v166 (F := Ideal) (Cert.SwfKernelIdeal.Value.pOf m c) (Cert.SwfKernelIdeal.Value.tabOf m c) (Cert.SwfKernelIdeal.Value.sinkOf m c) := by
  funext x
  have h0 : (x 0).val < 4224 := (x 0).isLt
  have h1 : (x 1).val < 512 := (x 1).isLt
  have e : x = (ix2 (Attn.rowQ ⟨(x 0).val / 128, by omega⟩ ⟨(x 0).val % 128, by omega⟩)
      (⟨(x 1).val / 64 * 64 + (x 1).val % 64, by omega⟩ : Fin 512) : (⟨2, ![4224, 512]⟩ : Shape).Idx) := by
    funext b
    exact match b with
      | ⟨0, _⟩ => Fin.ext (by show (x 0).val = (x 0).val / 128 * 128 + (x 0).val % 128; omega)
      | ⟨1, _⟩ => Fin.ext (by show (x 1).val = (x 1).val / 64 * 64 + (x 1).val % 64; omega)
  rw [e]
  exact (Cert.SwfKernelIdeal.Value.array_at m c ⟨(x 0).val / 128, by omega⟩ ⟨(x 1).val / 64, by omega⟩ ⟨(x 0).val % 128, by omega⟩ ⟨(x 1).val % 64, by omega⟩).trans
    (Cert.SwfReferenceIdeal.Value.out_at _ _ _ ⟨(x 0).val / 128, by omega⟩ ⟨(x 0).val % 128, by omega⟩ ⟨(x 1).val / 64, by omega⟩ ⟨(x 1).val % 64, by omega⟩
      (Attn.den_ne hp ht hs _ _ _)).symm

/-- The kernel and the reference compute the same attention where the projections, the table and the sinks are real numbers. -/
theorem algebraic : Cert.algebraic_SwfKernelIdeal_SwfReferenceIdeal_pre_swf_finite (hPre_swf_finite := facts_pre) :=
  fun m g m' g' hpre hargs =>
  ⟨fun c => (Cert.SwfKernelIdeal.Gen.dats m 0 c).arrAt 6 Cert.SwfKernelIdeal.cfg0.N,
   Cert.SwfKernelIdeal.Value.run_blocks m g,
   (θ_run _ _ _).mono (fun r h c => by
      obtain ⟨r0, hk⟩ := h c
      obtain ⟨e0, e1, e2⟩ := hargs c
      obtain ⟨p0, p1, p2⟩ := hpre c
      refine ⟨r0.trans ?_, hk⟩
      rw [Cert.SwfReferenceIdeal.Read.val_main_v166_eq]
      show Cert.SwfReferenceIdeal.Read.val_main_v166 (F := Ideal) (m' ((c.tc : Thread Cert.SwfReferenceIdeal.nD Cert.SwfReferenceIdeal.τ).loc Cert.SwfReferenceIdeal.main_arg0))
        (m' ((c.tc : Thread Cert.SwfReferenceIdeal.nD Cert.SwfReferenceIdeal.τ).loc Cert.SwfReferenceIdeal.main_arg1))
        (m' ((c.tc : Thread Cert.SwfReferenceIdeal.nD Cert.SwfReferenceIdeal.τ).loc Cert.SwfReferenceIdeal.main_arg2)) = _
      rw [e0, e1, e2]
      exact (arrays_eq m c (real_of_pre _ _ (fun _ => f32_inf) p0) (real_of_pre _ _ (fun _ => f32_inf) p1)
          (real_of_pre _ _ (fun _ => f32_inf) p2)).symm)
    (Cert.SwfReferenceIdeal.Value.run m' g')⟩

end Cert.SwfClaims

end
-- ==== Proof.Gla.lean ====
/-
  Gated linear attention over one chunk of 64 rows, as formulas over the extended reals: the decays, what a query reads inside
  the chunk and from the state before it, and the state after it.
-/
module

public import proofs.«01_k».proof.Proof.Finite

@[expose] public section

noncomputable section

namespace Cert.Gla

open Idealize.ShloMosaic Cert.Numbers Cert.Finite

variable (Q K G : Fin 4 → Fin 64 → Fin 128 → EReal) (V : Fin 4 → Fin 64 → Fin 256 → EReal) (S : Fin 4 → Fin 128 → Fin 256 → EReal)

/-- The logarithm of the decay from the start of the chunk to row `i`. -/
def cum (h : Fin 4) (i : Fin 64) (k : Fin 128) : EReal := ∑ j : Fin 64, if j ≤ i then G h j k else 0

/-- The logarithm of the decay over the chunk. -/
def tot (h : Fin 4) (k : Fin 128) : EReal := ∑ j : Fin 64, G h j k

/-- The query with its decay. -/
def qd (h : Fin 4) (i : Fin 64) (k : Fin 128) : EReal := Q h i k * Ideal.exp (cum G h i k)

/-- The weight of row `j` for the query of row `i`. -/
def att (h : Fin 4) (i j : Fin 64) : EReal :=
  if j ≤ i then ∑ k : Fin 128, qd Q G h i k * (K h j k * Ideal.exp (-cum G h j k)) else 0

/-- The key with the decay to the end of the chunk. -/
def kd (h : Fin 4) (i : Fin 64) (k : Fin 128) : EReal := K h i k * Ideal.exp (tot G h k - cum G h i k)

/-- What the query of row `i` reads. -/
def raw (h : Fin 4) (i : Fin 64) (v : Fin 256) : EReal :=
  (∑ j : Fin 64, att Q K G h i j * V h j v) + ∑ k : Fin 128, qd Q G h i k * S h k v

/-- The state after the chunk. -/
def next (h : Fin 4) (k : Fin 128) (v : Fin 256) : EReal :=
  S h k v * Ideal.exp (tot G h k) + ∑ i : Fin 64, kd K G h i k * V h i v

/-- A row of one head, normed and gated. -/
def gated (o g w : Fin 256 → EReal) (n : Fin 256) : EReal :=
  o n * Ideal.rsqrt (Ideal.div (∑ m : Fin 256, o m * o m) (Ideal.ofBits .f32 0x43800000#32) + Ideal.ofBits .f32 0x358637BD#32) * w n
    * (g n * Ideal.logistic (g n))

/-- A row whose gate is zero is zero. -/
theorem gated_zero (o g w : Fin 256 → EReal) (n : Fin 256) (h : g n = 0) : gated o g w n = 0 := by
  unfold gated
  rw [h, zero_mul, mul_zero]

/-- The decay over the chunk is the decay from its start to its last row. -/
theorem cum_last (h : Fin 4) (k : Fin 128) : cum G h 63 k = tot G h k :=
  Finset.sum_congr rfl fun j _ => if_pos (by show j.val ≤ 63; omega)

/-- Without keys and values, and without decay, the zero state stays zero. -/
theorem next_zero (hS : ∀ h k v, S h k v = 0) (hV : ∀ h i v, V h i v = 0) (h : Fin 4) (k : Fin 128) (v : Fin 256) : next K G V S h k v = 0 := by
  unfold next
  rw [hS, zero_mul, zero_add]
  exact Finset.sum_eq_zero fun i _ => by rw [hV, mul_zero]

end Cert.Gla

end
-- ==== Proof.LogSig.lean ====
/-
  The logarithm of one plus the exponential, for real arguments.
-/
module

public import proofs.«01_k».proof.Proof.Finite

@[expose] public section

noncomputable section

namespace Cert.LogSig

open Idealize.ShloMosaic Cert.Numbers Cert.Finite

/-- The logarithm of `1 + exp x`, written so that no exponential overflows. -/
def softp (x : EReal) : EReal := max x 0 + Ideal.log (1 + Ideal.exp (-(max x (-x))))

theorem isReal_max {x y : EReal} (hx : IsReal x) (hy : IsReal y) : IsReal (max x y) := by
  rcases max_choice x y with h | h <;> rw [h] <;> assumption

theorem isReal_log {x : EReal} (hx : IsReal x) : IsReal (Ideal.log (1 + Ideal.exp x)) := by
  obtain ⟨r, rfl⟩ := hx
  rw [exp_real, ← EReal.coe_one, ← EReal.coe_add, Ideal.log_coe, if_neg (not_le.mpr (by positivity))]
  exact ⟨_, rfl⟩

theorem isReal_softp {x : EReal} (hx : IsReal x) : IsReal (softp x) :=
  (isReal_max hx isReal_zero).add (isReal_log (isReal_max hx hx.neg).neg)

/-- The same value, by cases of the sign. -/
theorem softp_cases (x : EReal) (p : Prop) [Decidable p] (hp : p ↔ 0 < x) :
    (if p then x else 0) + Ideal.log (1 + Ideal.exp (if p then 0 - x else x)) = softp x := by
  unfold softp
  by_cases h : 0 < x
  · rw [if_pos (hp.mpr h), if_pos (hp.mpr h), max_eq_left h.le, max_eq_left, zero_sub]
    exact (EReal.neg_le.mpr (by rw [neg_zero]; exact h.le)).trans h.le
  · have h' : x ≤ 0 := not_lt.mp h
    rw [if_neg (mt hp.mp h), if_neg (mt hp.mp h), max_eq_right h', max_eq_right, neg_neg]
    exact h'.trans (EReal.le_neg_of_le_neg (by rw [neg_zero]; exact h'))

/-- Division by sixteen is multiplication by a sixteenth. -/
theorem div_sixteen {x : EReal} (hx : IsReal x) : Ideal.div x (Ideal.ofBits .f32 0x41800000#32) = x * Ideal.ofBits .f32 0x3D800000#32 := by
  obtain ⟨r, rfl⟩ := hx
  have e1 : (Ideal.ofBits .f32 0x41800000#32 : EReal) = ((16 : ℝ) : EReal) := by
    simp [Ideal.ofBits, Ideal.ieee, -EReal.coe_mul]; norm_num
  have e2 : (Ideal.ofBits .f32 0x3D800000#32 : EReal) = (((1 : ℝ) / 16 : ℝ) : EReal) := by
    simp [Ideal.ofBits, Ideal.ieee, -EReal.coe_mul]; norm_num
  rw [e1, e2, div_real _ (by norm_num), ← EReal.coe_mul, mul_one_div]

end Cert.LogSig

end
-- ==== Proof.GlaRows.lean ====
/-
  Gated linear attention over a sequence of 4112 rows, 112 rows of zeros in front of them, by 66 chunks of 64 rows: the queries,
  keys, values, decays and gates of a chunk in terms of the packed product, and the state before each chunk.
-/
module

public import proofs.«01_k».proof.Proof.Gla
public import proofs.«01_k».proof.Proof.LogSig
public import Idealize.ShloMosaic.Lib.Pointwise

@[expose] public section

noncomputable section

namespace Cert.GlaRows

open Idealize.ShloMosaic Cert.Numbers Cert.Finite Cert.Gla Cert.LogSig

variable (P : (⟨2, ![4112, 3088]⟩ : Shape).Idx → EReal) (W : (⟨2, ![16, 512]⟩ : Shape).Idx → EReal) (B : (⟨1, ![512]⟩ : Shape).Idx → EReal)
  (Nw : (⟨1, ![256]⟩ : Shape).Idx → EReal)

/-- Row `n` of the padded product. -/
def rowAt (n : ℕ) (c : Fin 3088) : EReal := if h : 112 ≤ n ∧ n < 4224 then P (ix2 ⟨n - 112, by omega⟩ c) else 0

theorem rowAt_of (n : ℕ) (h : 112 ≤ n) (h' : n < 4224) (c : Fin 3088) : rowAt P n c = P (ix2 ⟨n - 112, by omega⟩ c) := dif_pos ⟨h, h'⟩

theorem rowAt_pad (n : ℕ) (h : n < 112) (c : Fin 3088) : rowAt P n c = 0 := dif_neg (by omega)

/-- The scale of the queries. -/
def scale : EReal := Ideal.ofBits .f32 0x3DB504F3#32

/-- The queries, keys, values and gates of chunk `q`. -/
def Q (q : ℕ) (h : Fin 4) (i : Fin 64) (k : Fin 128) : EReal := rowAt P (q * 64 + i.val) ⟨h.val * 128 + k.val, by omega⟩ * scale
def K (q : ℕ) (h : Fin 4) (i : Fin 64) (k : Fin 128) : EReal := rowAt P (q * 64 + i.val) ⟨512 + (h.val * 128 + k.val), by omega⟩
def V (q : ℕ) (h : Fin 4) (i : Fin 64) (v : Fin 256) : EReal := rowAt P (q * 64 + i.val) ⟨1024 + (h.val * 256 + v.val), by omega⟩
def gate (q : ℕ) (h : Fin 4) (i : Fin 64) (v : Fin 256) : EReal := rowAt P (q * 64 + i.val) ⟨2048 + (h.val * 256 + v.val), by omega⟩

/-- The logit of a decay. -/
def logit (n : ℕ) (c : Fin 512) : EReal := (∑ m : Fin 16, rowAt P n ⟨3072 + m.val, by omega⟩ * W (ix2 m c)) + B (ix1 c)

/-- The logarithms of the decays of chunk `q`: none on the padding. -/
def G (q : ℕ) (h : Fin 4) (i : Fin 64) (k : Fin 128) : EReal :=
  if 112 ≤ q * 64 + i.val then -softp (-logit P W B (q * 64 + i.val) ⟨h.val * 128 + k.val, by omega⟩) * Ideal.ofBits .f32 0x3D800000#32 else 0

/-- The state before chunk `q`. -/
def state : ℕ → Fin 4 → Fin 128 → Fin 256 → EReal
  | 0 => fun _ _ _ => 0
  | q + 1 => next (K P q) (G P W B q) (V P q) (state q)

/-- What the queries of chunk `q` read. -/
def read (q : ℕ) (h : Fin 4) (i : Fin 64) (v : Fin 256) : EReal := raw (Q P q) (K P q) (G P W B q) (V P q) (state P W B q) h i v

/-- The output of chunk `q`. -/
def out (q : ℕ) (h : Fin 4) (i : Fin 64) (v : Fin 256) : EReal := gated (read P W B q h i) (gate P q h i) (fun v => Nw (ix1 v)) v

/-- The first chunk is padding: the state after it is zero. -/
theorem state_one (h : Fin 4) (k : Fin 128) (v : Fin 256) : state P W B 1 h k v = 0 :=
  next_zero _ _ _ _ (fun _ _ _ => rfl) (fun h i v => rowAt_pad P (0 * 64 + i.val) (by omega) _) h k v

/-- The output on the padding is zero. -/
theorem out_pad (q : ℕ) (h : Fin 4) (i : Fin 64) (v : Fin 256) (hq : q * 64 + i.val < 112) : out P W B Nw q h i v = 0 :=
  gated_zero _ _ _ _ (rowAt_pad P _ hq _)

end Cert.GlaRows

end
-- ==== Proof.Heads.lean ====
/-
  Four matrices stacked along a new first axis, and four matrices put side by side: what the result holds at an index.
-/
module

public import proofs.«01_k».proof.Proof.Stack

@[expose] public section

noncomputable section

namespace Cert.Stack

open Idealize.ShloMosaic

/-- Entry `(h, j, l)` of four stacked matrices is entry `(j, l)` of matrix `h`. -/
theorem stack4 {m n : ℕ} (x0 x1 x2 x3 : (⟨3, ![1, m, n]⟩ : Shape).Idx → EReal)
    (hc : Shape.Concatenates (([⟨⟨3, ![1, m, n]⟩, x0⟩, ⟨⟨3, ![1, m, n]⟩, x1⟩, ⟨⟨3, ![1, m, n]⟩, x2⟩, ⟨⟨3, ![1, m, n]⟩, x3⟩] :
      List ((s : Shape) × (s.Idx → EReal))).map (·.1)) ⟨3, ![4, m, n]⟩ 0) (h : Fin 4) (j : Fin m) (l : Fin n) :
    concatenate ⟨3, ![4, m, n]⟩ 0 [⟨⟨3, ![1, m, n]⟩, x0⟩, ⟨⟨3, ![1, m, n]⟩, x1⟩, ⟨⟨3, ![1, m, n]⟩, x2⟩, ⟨⟨3, ![1, m, n]⟩, x3⟩] hc (ix3 h j l)
      = (![x0, x1, x2, x3] h) (ix3 0 j l) :=
  match h with
  | ⟨0, _⟩ => stack_piece _ hc ⟨0, by decide⟩ j l (show _ < 4 by decide) x0 rfl rfl
  | ⟨1, _⟩ => stack_piece _ hc ⟨1, by decide⟩ j l (show _ < 4 by decide) x1 rfl rfl
  | ⟨2, _⟩ => stack_piece _ hc ⟨2, by decide⟩ j l (show _ < 4 by decide) x2 rfl rfl
  | ⟨3, _⟩ => stack_piece _ hc ⟨3, by decide⟩ j l (show _ < 4 by decide) x3 rfl rfl

end Cert.Stack

end
-- ==== Proof.MaskSums.lean ====
/-
  Sums over the extended reals weighted by masks that a kernel writes as words turned into numbers.
-/
module

public import proofs.«01_k».proof.Proof.Finite
public import proofs.«01_k».proof.Proof.Words
public import Idealize.ShloMosaic.Lib.Pointwise

@[expose] public section

noncomputable section

namespace Cert.MaskSums

open Idealize.ShloMosaic Cert.Words Cert.Finite

theorem sub_self_real {x : EReal} (h : IsReal x) : x - x = 0 := by
  obtain ⟨r, rfl⟩ := h
  rw [← EReal.coe_sub, sub_self, EReal.coe_zero]

theorem ite_mul_one (p : Prop) [Decidable p] (x : EReal) : (if p then (1 : EReal) else 0) * x = if p then x else 0 := by
  split <;> simp

theorem mul_ite_one (p : Prop) [Decidable p] (x : EReal) : x * (if p then (1 : EReal) else 0) = if p then x else 0 := by
  split <;> simp

/-- A sum weighted by the mask's words, plus the same sum of differences that vanish, is the sum over the masked rows. -/
theorem sum_masked (x : Fin 64 → EReal) (hx : ∀ j, IsReal (x j)) (i : Fin 64) :
    (∑ j : Fin 64, FloatOps.sitofp (F := Ideal) FTy.f32 (BitVec.setWidth 32 (IntOp.cmpi CmpIPredicate.sge (BitVec.ofNat 32 i.val) (BitVec.ofNat 32 j.val))) * x j)
      + (∑ j : Fin 64, FloatOps.sitofp (F := Ideal) FTy.f32 (BitVec.setWidth 32 (IntOp.cmpi CmpIPredicate.sge (BitVec.ofNat 32 i.val) (BitVec.ofNat 32 j.val))) * (x j - x j))
      = ∑ j : Fin 64, if j ≤ i then x j else 0 := by
  have e : ∀ j : Fin 64, FloatOps.sitofp (F := Ideal) FTy.f32 (BitVec.setWidth 32 (IntOp.cmpi CmpIPredicate.sge (BitVec.ofNat 32 i.val) (BitVec.ofNat 32 j.val)))
      = if j ≤ i then (1 : EReal) else 0 := fun j => by
    rw [wd_nat, wd_nat, cmp_sge (by omega) (by omega)]
    refine (bit_number _).trans (if_congr ?_ rfl rfl)
    rw [Fin.le_def]; omega
  refine (congrArg₂ (· + ·) (Finset.sum_congr rfl fun j _ => (congrArg (· * x j) (e j)).trans (ite_mul_one _ _))
    (Finset.sum_eq_zero fun j _ => ?_)).trans (add_zero _)
  rw [sub_self_real (hx j), mul_zero]

/-- A sum weighted by the words of one index is the term at that index. -/
theorem sum_one (x : Fin 128 → EReal) (m : Fin 128) :
    (∑ j : Fin 128, FloatOps.sitofp (F := Ideal) FTy.f32 (BitVec.setWidth 32 (IntOp.cmpi CmpIPredicate.eq (BitVec.ofNat 32 m.val) (BitVec.ofNat 32 j.val))) * x j)
      = x m := by
  have e : ∀ j : Fin 128, FloatOps.sitofp (F := Ideal) FTy.f32 (BitVec.setWidth 32 (IntOp.cmpi CmpIPredicate.eq (BitVec.ofNat 32 m.val) (BitVec.ofNat 32 j.val)))
      = if m = j then (1 : EReal) else 0 := fun j => by
    refine (congrArg (fun b => FloatOps.sitofp (F := Ideal) FTy.f32 (BitVec.setWidth 32 b)) (?_ : _ = if m = j then 1#1 else 0#1)).trans (bit_number _)
    show BitVec.ofBool _ = _
    by_cases h : m = j
    · subst h; simp
    · rw [if_neg h]
      have hn : BitVec.ofNat 32 m.val ≠ BitVec.ofNat 32 j.val := fun he => h (Fin.ext (by
        have := congrArg BitVec.toNat he
        simp only [BitVec.toNat_ofNat] at this; omega))
      exact congrArg BitVec.ofBool (beq_eq_false_iff_ne.mpr hn)
  refine (Finset.sum_congr rfl fun j _ => (congrArg (· * x j) (e j)).trans (ite_mul_one _ _)).trans ?_
  rw [Finset.sum_ite_eq, if_pos (Finset.mem_univ _)]

/-- The lane comparison's word. -/
theorem cmp_lane (j : Fin 128) (n : ℕ) (hn : n < 128) :
    IntOp.cmpi CmpIPredicate.eq (BitVec.ofNat 32 j.val) (BitVec.ofNat 32 n) = if j = ⟨n, hn⟩ then 1#1 else 0#1 := by
  show BitVec.ofBool _ = _
  by_cases h : j = ⟨n, hn⟩
  · subst h; simp
  · rw [if_neg h]
    have hne : BitVec.ofNat 32 j.val ≠ BitVec.ofNat 32 n := fun he => h (Fin.ext (by
      have := congrArg BitVec.toNat he
      simp only [BitVec.toNat_ofNat] at this
      show j.val = n
      omega))
    exact congrArg BitVec.ofBool (beq_eq_false_iff_ne.mpr hne)

/-- The sum over the lanes of what is kept of one lane is that lane's term. -/
theorem sum_pick (x : Fin 128 → EReal) (n : ℕ) (hn : n < 128) (z : EReal) (hz : z = 0) :
    (∑ j : Fin 128, Scalar.select (IntOp.cmpi CmpIPredicate.eq (BitVec.ofNat 32 j.val) (BitVec.ofNat 32 n)) (x j) z) = x ⟨n, hn⟩ := by
  refine (Finset.sum_congr rfl fun j _ => (?_ : _ = if j = ⟨n, hn⟩ then x j else 0)).trans ?_
  · rw [cmp_lane j n hn, hz]
    unfold Scalar.select
    by_cases h : j = ⟨n, hn⟩
    · rw [if_pos h, if_pos h]; rfl
    · rw [if_neg h, if_neg h]; rfl
  · rw [Finset.sum_ite_eq', if_pos (Finset.mem_univ _)]

end Cert.MaskSums

end
-- ==== Proof.GlfChunk.lean ====
/-
  One chunk of 64 rows of the gated linear attention, as the kernel computes it from the chunk's rows and the state before it: the
  block of the output it writes and the state it hands on. The six chunks of a grid point are this one function of the six
  row ranges.
-/
module

public import proofs.«01_k».proof.Proof.Rows
public import proofs.«01_k».proof.Proof.Gen.GlfKernelIdeal.Value

@[expose] public section

noncomputable section

namespace Cert.GlfKernelIdeal.Value

open Cert.GlfKernelIdeal Cert.GlfKernelIdeal.Gen Idealize.ShloMosaic Idealize.ShloMosaic.TcCoe Idealize.SL.Sem

variable {F : FTy → Type} [FloatOps F]

/-- The row numbers of chunk `k` of grid point `n`. -/
def rowsAt (n : BitVec 32) (k : BitVec 32) : IVec S64x1 32 :=
  addi (broadcast S64x1 (Scalar.muli (Scalar.addi (Scalar.muli 6#32 n) k) 64#32)) (iota .tc S64x1 32 [0] iota_S64x1_d0_w32)

/-- The logarithms of the chunk's decays. -/
def chunkGl (low : FVec F S64x128 .f32) (wgu : FVec F S128x512 .f32) (bg : FVec F S1x512 .f32) (rows : IVec S64x1 32) : FVec F S64x512 .f32 :=
  k0_pay13 low wgu bg rows

/-- What the chunk's queries read, before the norm and the gate. -/
def chunkRaw (q k : FVec F S64x512 .f32) (v : FVec F S64x1024 .f32) (gl : FVec F S64x512 .f32) (s : FVec F S4x128x256 .f32) : FVec F S4x64x256 .f32 :=
  k0_pay23 s k0_pay12 (k0_pay19 gl) (k0_pay20 k) (k0_pay21 v) (k0_pay22 q gl)

/-- The chunk's block of the output. -/
def chunkOut (q k : FVec F S64x512 .f32) (v g : FVec F S64x1024 .f32) (gl : FVec F S64x512 .f32) (nw : FVec F S1x256 .f32) (s : FVec F S4x128x256 .f32) :
    FVec F S64x1024 .f32 :=
  k0_pay26 g nw (chunkRaw q k v gl s) (k0_pay25 s k0_pay12 (k0_pay19 gl) (k0_pay20 k) (k0_pay21 v) (k0_pay22 q gl))

/-- The state after the chunk. -/
def chunkState (k : FVec F S64x512 .f32) (v : FVec F S64x1024 .f32) (low : FVec F S64x128 .f32) (wgu : FVec F S128x512 .f32) (bg : FVec F S1x512 .f32)
    (rows : IVec S64x1 32) (s : FVec F S4x128x256 .f32) : FVec F S4x128x256 .f32 :=
  k0_pay24 s (k0_pay18 (k0_pay14 low wgu bg rows) (k0_pay15 low wgu bg rows) (k0_pay16 low wgu bg rows) (k0_pay17 low wgu bg rows))
    (k0_pay19 (chunkGl low wgu bg rows)) (k0_pay20 k) (k0_pay21 v)

/-- Rows `64 k … 64 k + 63` of a block of 384. -/
def part (w : ℕ) (x : Vec F (⟨2, ![384, w]⟩ : Shape) .f32) (k : Fin 6) : Vec F (⟨2, ![64, w]⟩ : Shape) .f32 :=
  View.ld x (Rect.unit (s := (⟨2, ![384, w]⟩ : Shape)) ![64 * k.val, 0] (⟨2, ![64, w]⟩ : Shape).size
    (by intro a; match a with | ⟨0, _⟩ => show 64 * k.val + 64 ≤ 384; omega | ⟨1, _⟩ => show 0 + w ≤ w; omega))

/-- A grid point's block `k` of the output over the state before it. -/
def ptOut (i : grid0.Coords) (x0 x1 : Vec F S384x512 .f32) (x2 x3 : Vec F S384x1024 .f32) (x4 : Vec F S384x128 .f32) (x5 : Vec F S128x512 .f32)
    (x6 : Vec F S1x512 .f32) (x7 : Vec F S1x256 .f32) (k : Fin 6) (s : FVec F S4x128x256 .f32) : FVec F S64x1024 .f32 :=
  chunkOut (k0_pay3 (part 512 x0 k)) (k0_pay4 (part 512 x1 k)) (k0_pay5 (part 1024 x2 k)) (k0_pay6 (part 1024 x3 k))
    (chunkGl (k0_pay7 (part 128 x4 k)) (k0_pay8 x5) (k0_pay9 x6) (rowsAt (BitVec.ofNat 32 (i 0).val) (BitVec.ofNat 32 k.val))) (k0_pay10 x7) s

/-- The state after a grid point's chunk `k` over the state before it. -/
def ptState (i : grid0.Coords) (x1 : Vec F S384x512 .f32) (x2 : Vec F S384x1024 .f32) (x4 : Vec F S384x128 .f32) (x5 : Vec F S128x512 .f32)
    (x6 : Vec F S1x512 .f32) (k : Fin 6) (s : FVec F S4x128x256 .f32) : FVec F S4x128x256 .f32 :=
  chunkState (k0_pay4 (part 512 x1 k)) (k0_pay5 (part 1024 x2 k)) (k0_pay7 (part 128 x4 k)) (k0_pay8 x5) (k0_pay9 x6)
    (rowsAt (BitVec.ofNat 32 (i 0).val) (BitVec.ofNat 32 k.val)) s

/-- The state before a grid point's chunk `k`. -/
def ptBefore (i : grid0.Coords) (x1 : Vec F S384x512 .f32) (x2 : Vec F S384x1024 .f32) (x4 : Vec F S384x128 .f32) (x5 : Vec F S128x512 .f32)
    (x6 : Vec F S1x512 .f32) (s : FVec F S4x128x256 .f32) : ℕ → FVec F S4x128x256 .f32
  | 0 => s
  | k + 1 => if h : k < 6 then ptState i x1 x2 x4 x5 x6 ⟨k, h⟩ (ptBefore i x1 x2 x4 x5 x6 s k) else ptBefore i x1 x2 x4 x5 x6 s k

end Cert.GlfKernelIdeal.Value
end
-- ==== Proof.GlfKernelValue.lean ====
/-
  What one chunk of the gated linear attention's forward call computes over the extended reals.
-/
module

public import proofs.«01_k».proof.Proof.Gla
public import proofs.«01_k».proof.Proof.Heads
public import proofs.«01_k».proof.Proof.LogSig
public import proofs.«01_k».proof.Proof.MaskSums
public import proofs.«01_k».proof.Proof.GlfChunk

@[expose] public section

noncomputable section

namespace Cert.GlfKernelIdeal.Value

open Cert.GlfKernelIdeal Cert.GlfKernelIdeal.Gen Idealize.ShloMosaic Idealize.ShloMosaic.TcCoe Idealize.SL.Sem
open Cert.Numbers Cert.Words Cert.Finite Cert.Gla Cert.LogSig Cert.MaskSums

/-- The four heads of a matrix of 512 columns. -/
def heads (x : S64x512.Idx → EReal) (h : Fin 4) (i : Fin 64) (k : Fin 128) : EReal := x (ix2 i ⟨h.val * 128 + k.val, by omega⟩)

/-- The four heads of a matrix of 1024 columns. -/
def heads2 (x : S64x1024.Idx → EReal) (h : Fin 4) (i : Fin 64) (k : Fin 256) : EReal := x (ix2 i ⟨h.val * 256 + k.val, by omega⟩)

/-- The mask of the rows up to the query's own, as a number. -/
theorem pay12 (i j : Fin 64) : k0_pay12 (F := Ideal) (ix2 i j) = if j ≤ i then 1 else 0 := by
  pointwise [k0_pay12]
  rw [wd_nat, wd_nat, cmp_sge (by omega) (by omega)]
  refine (bit_number _).trans (if_congr ?_ rfl rfl)
  rw [Fin.le_def]; omega

variable (q k : FVec Ideal S64x512 .f32) (v g : FVec Ideal S64x1024 .f32) (gl : FVec Ideal S64x512 .f32) (nw : FVec Ideal S1x256 .f32) (s : FVec Ideal S4x128x256 .f32)

theorem pay19 (hgl : ∀ i, IsReal (gl i)) (h : Fin 4) (i : Fin 64) (n : Fin 128) : k0_pay19 (F := Ideal) gl (ix3 h i n) = cum (heads gl) h i n := by
  unfold cum heads
  match h with
  | ⟨0, _⟩ => pointwise [k0_pay19, Stack.stack4]; exact sum_masked _ (fun _ => hgl _) i
  | ⟨1, _⟩ => pointwise [k0_pay19, Stack.stack4]; exact sum_masked _ (fun _ => hgl _) i
  | ⟨2, _⟩ => pointwise [k0_pay19, Stack.stack4]; exact sum_masked _ (fun _ => hgl _) i
  | ⟨3, _⟩ => pointwise [k0_pay19, Stack.stack4]; exact sum_masked _ (fun _ => hgl _) i

theorem pay20 (h : Fin 4) (i : Fin 64) (n : Fin 128) : k0_pay20 (F := Ideal) k (ix3 h i n) = heads k h i n := by
  unfold heads
  match h with
  | ⟨0, _⟩ => pointwise [k0_pay20, Stack.stack4]
  | ⟨1, _⟩ => pointwise [k0_pay20, Stack.stack4]
  | ⟨2, _⟩ => pointwise [k0_pay20, Stack.stack4]
  | ⟨3, _⟩ => pointwise [k0_pay20, Stack.stack4]

theorem pay21 (h : Fin 4) (i : Fin 64) (n : Fin 256) : k0_pay21 (F := Ideal) v (ix3 h i n) = heads2 v h i n := by
  unfold heads2
  match h with
  | ⟨0, _⟩ => pointwise [k0_pay21, Stack.stack4]
  | ⟨1, _⟩ => pointwise [k0_pay21, Stack.stack4]
  | ⟨2, _⟩ => pointwise [k0_pay21, Stack.stack4]
  | ⟨3, _⟩ => pointwise [k0_pay21, Stack.stack4]

/-- The scale of the queries. -/
def scale : EReal := Ideal.ofBits .f32 0x3DB504F3#32

theorem pay22 (hgl : ∀ i, IsReal (gl i)) (h : Fin 4) (i : Fin 64) (n : Fin 128) :
    k0_pay22 (F := Ideal) q gl (ix3 h i n) = qd (fun h i n => heads q h i n * scale) (heads gl) h i n := by
  have e := pay19 gl hgl
  match h with
  | ⟨0, _⟩ => pointwise [k0_pay22, Stack.stack4, e]; unfold qd scale heads; pointwise []; done
  | ⟨1, _⟩ => pointwise [k0_pay22, Stack.stack4, e]; unfold qd scale heads; pointwise []; done
  | ⟨2, _⟩ => pointwise [k0_pay22, Stack.stack4, e]; unfold qd scale heads; pointwise []; done
  | ⟨3, _⟩ => pointwise [k0_pay22, Stack.stack4, e]; unfold qd scale heads; pointwise []; done

theorem pay23 (t : FVec Ideal S64x64 .f32) (b kk qq : FVec Ideal S4x64x128 .f32) (vv : FVec Ideal S4x64x256 .f32) (h : Fin 4) (i : Fin 64) (n : Fin 256) :
    k0_pay23 (F := Ideal) s t b kk vv qq (ix3 h i n)
      = (∑ j : Fin 64, (∑ m : Fin 128, qq (ix3 h i m) * (kk (ix3 h j m) * Ideal.exp (0 - b (ix3 h j m)))) * t (ix2 i j) * vv (ix3 h j n))
        + ∑ m : Fin 128, qq (ix3 h i m) * s (ix3 h m n) := by
  pointwise [k0_pay23]
  done

theorem pay24 (g1 b kk : FVec Ideal S4x64x128 .f32) (vv : FVec Ideal S4x64x256 .f32) (h : Fin 4) (m : Fin 128) (n : Fin 256) :
    k0_pay24 (F := Ideal) s g1 b kk vv (ix3 h m n)
      = s (ix3 h m n) * Ideal.exp (∑ j : Fin 64, g1 (ix3 h j m))
        + ∑ i : Fin 64, kk (ix3 h i m) * Ideal.exp ((∑ j : Fin 64, g1 (ix3 h j m)) - b (ix3 h i m)) * vv (ix3 h i n) := by
  pointwise [k0_pay24]
  exact congrArg (fun y => s (ix3 h m n) * Ideal.exp y + _) (sum_one _ m)

theorem pay25 (t : FVec Ideal S64x64 .f32) (b kk qq : FVec Ideal S4x64x128 .f32) (vv : FVec Ideal S4x64x256 .f32) (h : Fin 4) (i : Fin 64) (n : Fin 256) :
    k0_pay25 (F := Ideal) s t b kk vv qq (ix3 h i n)
      = Ideal.rsqrt (Ideal.div (∑ m : Fin 256, k0_pay23 (F := Ideal) s t b kk vv qq (ix3 h i m) * k0_pay23 (F := Ideal) s t b kk vv qq (ix3 h i m)) (Ideal.ofBits .f32 0x43800000#32)
          + Ideal.ofBits .f32 0x358637BD#32) := by
  pointwise [k0_pay25]
  done

theorem pay26 (o r : FVec Ideal S4x64x256 .f32) (h : Fin 4) (i : Fin 64) (n : Fin 256) :
    k0_pay26 (F := Ideal) g nw o r (ix2 i ⟨h.val * 256 + n.val, by omega⟩)
      = o (ix3 h i n) * r (ix3 h i n) * nw (ix2 0 n)
        * (heads2 g h i n * (Ideal.ofBits .f32 0x3F000000#32 * (Ideal.tanh (Ideal.ofBits .f32 0x3F000000#32 * heads2 g h i n) + Ideal.ofBits .f32 0x3F800000#32))) := by
  unfold heads2
  have e1 : 256 + n.val - 256 = n.val := by omega
  have e2 : 512 + n.val - 256 - 256 = n.val := by omega
  have e3 : 768 + n.val - 256 - 256 - 256 = n.val := by omega
  match h with
  | ⟨0, _⟩ =>
    pointwise [k0_pay26, Stack.stack4]
    done
  | ⟨1, _⟩ =>
    pointwise [k0_pay26, Stack.stack4]
    done
  | ⟨2, _⟩ =>
    pointwise [k0_pay26, Stack.stack4]
    rw [dif_neg (by omega), dif_neg (by omega), dif_pos (by omega)]
    simp only [e2]
  | ⟨3, _⟩ =>
    pointwise [k0_pay26, Stack.stack4]
    rw [dif_neg (by omega), dif_neg (by omega), dif_neg (by omega)]
    simp only [e3]

/-- The gate's logit. -/
def logit (low : FVec Ideal S64x128 .f32) (wgu : FVec Ideal S128x512 .f32) (bg : FVec Ideal S1x512 .f32) (i : Fin 64) (n : Fin 512) : EReal :=
  (∑ m : Fin 128, low (ix2 i m) * wgu (ix2 m n)) + bg (ix2 0 n)

theorem pay13 (low : FVec Ideal S64x128 .f32) (wgu : FVec Ideal S128x512 .f32) (bg : FVec Ideal S1x512 .f32) (rows : IVec S64x1 32)
    (hl : ∀ i, IsReal (low i)) (hw : ∀ i, IsReal (wgu i)) (hb : ∀ i, IsReal (bg i)) (i : Fin 64) (n : Fin 512) :
    k0_pay13 (F := Ideal) low wgu bg rows (ix2 i n)
      = -softp (-logit low wgu bg i n) * Ideal.ofBits .f32 0x3D800000#32
        * FloatOps.sitofp (F := Ideal) FTy.f32 (BitVec.setWidth 32 (IntOp.cmpi CmpIPredicate.sge (rows (ix2 i 0)) 112#32)) := by
  have hz : (∑ x : Fin 128, low (ix2 i x) * wgu (ix2 x n)) + ((∑ x : Fin 128, low (ix2 i x) * (wgu (ix2 x n) - wgu (ix2 x n)))
      + ∑ x : Fin 128, (low (ix2 i x) - low (ix2 i x)) * wgu (ix2 x n)) + bg (ix2 0 n) = logit low wgu bg i n := by
    unfold logit
    simp only [sub_self_real (hw _), sub_self_real (hl _), mul_zero, zero_mul, Finset.sum_const_zero, add_zero]
  pointwise [k0_pay13]
  simp only [hz]
  rw [softp_cases _ _ Iff.rfl, zero_sub, zero_sub]

/-- The logit is a real number when its arguments are. -/
theorem isReal_logit (low : FVec Ideal S64x128 .f32) (wgu : FVec Ideal S128x512 .f32) (bg : FVec Ideal S1x512 .f32)
    (hl : ∀ i, IsReal (low i)) (hw : ∀ i, IsReal (wgu i)) (hb : ∀ i, IsReal (bg i)) (i : Fin 64) (n : Fin 512) : IsReal (logit low wgu bg i n) :=
  (isReal_sum _ fun m => (hl _).mul (hw _)).add (hb _)

/-- The chunk's logarithms of decays at an index, `first` being the number of its first row. -/
theorem chunkGl_apply (low : FVec Ideal S64x128 .f32) (wgu : FVec Ideal S128x512 .f32) (bg : FVec Ideal S1x512 .f32) (n k : ℕ) (hn : n < 11) (hk : k < 6)
    (hl : ∀ i, IsReal (low i)) (hw : ∀ i, IsReal (wgu i)) (hb : ∀ i, IsReal (bg i)) (i : Fin 64) (c : Fin 512) :
    chunkGl (F := Ideal) low wgu bg (rowsAt (BitVec.ofNat 32 n) (BitVec.ofNat 32 k)) (ix2 i c)
      = if 112 ≤ (6 * n + k) * 64 + i.val then -softp (-logit low wgu bg i c) * Ideal.ofBits .f32 0x3D800000#32 else 0 := by
  have er : rowsAt (BitVec.ofNat 32 n) (BitVec.ofNat 32 k) (ix2 i 0) = wd ((6 * n + k : ℤ) * 64 + i.val) := by
    pointwise [rowsAt, Scalar.muli, Scalar.addi]
    rw [show (6#32 : BitVec 32) = wd 6 from rfl, show (64#32 : BitVec 32) = wd 64 from rfl, wd_nat, wd_nat, wd_nat, muli_wd, addi_wd, muli_wd, addi_wd]
  refine (pay13 low wgu bg _ hl hw hb i c).trans ?_
  rw [er, show (112#32 : BitVec 32) = wd 112 from rfl, cmp_sge (by omega) (by omega)]
  refine (congrArg (_ * ·) (bit_number _)).trans ((mul_ite_one _ _).trans (if_congr ?_ rfl rfl))
  omega

theorem isReal_sixteenth : IsReal (Ideal.ofBits .f32 0x3D800000#32) :=
  ⟨1 / 16, by simp [Ideal.ofBits, Ideal.ieee, -EReal.coe_mul]; norm_num⟩

theorem isReal_chunkGl (low : FVec Ideal S64x128 .f32) (wgu : FVec Ideal S128x512 .f32) (bg : FVec Ideal S1x512 .f32) (n k : ℕ) (hn : n < 11) (hk : k < 6)
    (hl : ∀ i, IsReal (low i)) (hw : ∀ i, IsReal (wgu i)) (hb : ∀ i, IsReal (bg i)) (i : S64x512.Idx) :
    IsReal (chunkGl (F := Ideal) low wgu bg (rowsAt (BitVec.ofNat 32 n) (BitVec.ofNat 32 k)) i) := by
  obtain ⟨a, b, rfl⟩ : ∃ a b, i = ix2 a b := ⟨i 0, i 1, by funext d; match d with | ⟨0, _⟩ => rfl | ⟨1, _⟩ => rfl⟩
  rw [chunkGl_apply low wgu bg n k hn hk hl hw hb]
  split
  · exact (isReal_softp (isReal_logit low wgu bg hl hw hb a b).neg).neg.mul isReal_sixteenth
  · exact isReal_zero

/-- What the chunk's queries read, at an index. -/
theorem chunkRaw_apply (hgl : ∀ i, IsReal (gl i)) (h : Fin 4) (i : Fin 64) (n : Fin 256) :
    chunkRaw (F := Ideal) q k v gl s (ix3 h i n)
      = raw (fun h i n => heads q h i n * scale) (heads k) (heads gl) (heads2 v) (fun h m n => s (ix3 h m n)) h i n := by
  refine (pay23 s _ _ _ _ _ h i n).trans ?_
  unfold raw att
  refine congrArg₂ (· + ·) (Finset.sum_congr rfl fun j _ => ?_) (Finset.sum_congr rfl fun m _ => ?_)
  · rw [pay21, pay12, mul_ite_one]
    refine congrArg (· * _) (if_congr Iff.rfl (Finset.sum_congr rfl fun m _ => ?_) rfl)
    rw [pay22 q gl hgl, pay20, pay19 gl hgl, zero_sub]
  · rw [pay22 q gl hgl]

/-- The chunk's block of the output, at an index. -/
theorem chunkOut_apply (hgl : ∀ i, IsReal (gl i)) (hg : ∀ i, IsReal (g i)) (h : Fin 4) (i : Fin 64) (n : Fin 256) :
    chunkOut (F := Ideal) q k v g gl nw s (ix2 i ⟨h.val * 256 + n.val, by omega⟩)
      = gated (raw (fun h i n => heads q h i n * scale) (heads k) (heads gl) (heads2 v) (fun h m n => s (ix3 h m n)) h i) (heads2 g h i)
          (fun n => nw (ix2 0 n)) n := by
  refine (pay26 g nw _ _ h i n).trans ?_
  rw [pay25, chunkRaw_apply q k v gl s hgl]
  have e : ∀ m, k0_pay23 (F := Ideal) s k0_pay12 (k0_pay19 gl) (k0_pay20 k) (k0_pay21 v) (k0_pay22 q gl) (ix3 h i m)
      = raw (fun h i n => heads q h i n * scale) (heads k) (heads gl) (heads2 v) (fun h m n => s (ix3 h m n)) h i m :=
    fun m => chunkRaw_apply q k v gl s hgl h i m
  simp only [e]
  unfold gated
  refine congrArg (_ * ·) (congrArg (_ * ·) ?_)
  obtain ⟨r, hr⟩ : IsReal (heads2 g h i n) := hg _
  rw [hr, f32_half, f32_one, EReal.coe_one, tanh_sig]
  exact (div_sig r).symm

/-- The state after the chunk, at an index. -/
theorem chunkState_apply (low : FVec Ideal S64x128 .f32) (wgu : FVec Ideal S128x512 .f32) (bg : FVec Ideal S1x512 .f32) (rows : IVec S64x1 32)
    (hgl : ∀ i, IsReal (chunkGl (F := Ideal) low wgu bg rows i)) (h : Fin 4) (m : Fin 128) (n : Fin 256) :
    chunkState (F := Ideal) k v low wgu bg rows s (ix3 h m n)
      = next (heads k) (heads (chunkGl (F := Ideal) low wgu bg rows)) (heads2 v) (fun h m n => s (ix3 h m n)) h m n := by
  have e18 : ∀ j, k0_pay18 (F := Ideal) (k0_pay14 low wgu bg rows) (k0_pay15 low wgu bg rows) (k0_pay16 low wgu bg rows) (k0_pay17 low wgu bg rows) (ix3 h j m)
      = heads (chunkGl (F := Ideal) low wgu bg rows) h j m := fun j => by
    unfold heads chunkGl
    match h with
    | ⟨0, _⟩ => pointwise [k0_pay18, k0_pay14, k0_pay15, k0_pay16, k0_pay17, Stack.stack4]; done
    | ⟨1, _⟩ => pointwise [k0_pay18, k0_pay14, k0_pay15, k0_pay16, k0_pay17, Stack.stack4]; done
    | ⟨2, _⟩ => pointwise [k0_pay18, k0_pay14, k0_pay15, k0_pay16, k0_pay17, Stack.stack4]; done
    | ⟨3, _⟩ => pointwise [k0_pay18, k0_pay14, k0_pay15, k0_pay16, k0_pay17, Stack.stack4]; done
  refine (pay24 s _ _ _ _ h m n).trans ?_
  simp only [e18, pay19 _ hgl, pay20, pay21]
  rfl

end Cert.GlfKernelIdeal.Value
end
-- ==== Proof.GlfOut.lean ====
/-
  What one grid point of the gated linear attention's forward call leaves in its block of the output and in the carried state: six
  chunks of 64 rows, one after the other, from the state the point before left; the first point starts from the zero state.
-/
module

public import proofs.«01_k».proof.Proof.GlfChunk
public import proofs.«01_k».proof.Proof.Gen.GlfKernelIdeal.Value
public import Idealize.ShloMosaic.Lib.Tactic
public import Idealize.ShloMosaic.Lib.Pointwise

@[expose] public section

noncomputable section

namespace Cert.GlfKernelIdeal.Value

open Cert.GlfKernelIdeal Cert.GlfKernelIdeal.Gen Idealize.ShloMosaic Idealize.ShloMosaic.TcCoe Idealize.SL.Sem
open Idealize.ShloMosaic.Pipeline (Dat)

variable {F : FTy → Type} [FloatOps F]
variable (c : Dev nD) (i : grid0.Coords) (a1 : Memref sig .tc .vmem S384x512 .f32) (h1 : a1.IsWhole) (a2 : Memref sig .tc .vmem S384x512 .f32) (h2 : a2.IsWhole)
  (a3 : Memref sig .tc .vmem S384x1024 .f32) (h3 : a3.IsWhole) (a4 : Memref sig .tc .vmem S384x1024 .f32) (h4 : a4.IsWhole)
  (a5 : Memref sig .tc .vmem S384x128 .f32) (h5 : a5.IsWhole) (a6 : Memref sig .tc .vmem S128x512 .f32) (h6 : a6.IsWhole)
  (a7 : Memref sig .tc .vmem S1x512 .f32) (h7 : a7.IsWhole) (a8 : Memref sig .tc .vmem S1x256 .f32) (h8 : a8.IsWhole)
  (a9 : Memref sig .tc .vmem S384x1024 .f32) (h9 : a9.IsWhole) (a10 : Memref sig .tc .vmem S6x4x128x256 .f32) (h10 : a10.IsWhole)
  (a11 : Memref sig .tc .vmem S4x128x256 .f32) (h11 : a11.IsWhole)
  (x0 x1 : Vec F S384x512 .f32) (x2 x3 : Vec F S384x1024 .f32) (x4 : Vec F S384x128 .f32) (x5 : Vec F S128x512 .f32)
  (x6 : Vec F S1x512 .f32) (x7 : Vec F S1x256 .f32) (xs0 : Vec F S4x128x256 .f32)

theorem zeros2 : (![0, 0] : Fin 2 → ℕ) = fun _ => 0 := by decide
theorem zeros3 : (![0, 0, 0] : Fin 3 → ℕ) = fun _ => 0 := by decide

theorem state_B (hc) : sout0_B_0 c i a1 h1 a2 h2 a3 h3 a4 h4 a5 h5 a6 h6 a7 h7 a8 h8 a9 h9 a10 h10 a11 h11 hc x0 x1 x2 x3 x4 x5 x6 x7 xs0 = shapeCast S4x128x256 (ptBefore i x1 x2 x4 x5 x6 xs0 6) shapeCasts_S4x128x256_S4x128x256 := by
  unfold sout0_B_0
  rw [View.read_writes_eq_canon _ _ _ (scover0_B_0 c i a1 h1 a2 h2 a3 h3 a4 h4 a5 h5 a6 h6 a7 h7 a8 h8 a9 h9 a10 h10 a11 h11 hc x0 x1 x2 x3 x4 x5 x6 x7 xs0)]
  unfold kernelRun0_B
  dsimp only
  sl_unfold_words
  rw [View.canon_unit_zero zeros3]
  simp only [View.readAt_eq_ld, h1.read_unread, h2.read_unread, h3.read_unread, h4.read_unread, h5.read_unread, h6.read_unread, h7.read_unread, h8.read_unread, h11.read_unread,
    View.ld_unit_zero (S := S128x512) zeros2, View.ld_unit_zero (S := S1x512) zeros2, View.ld_unit_zero (S := S1x256) zeros2, View.ld_unit_zero (S := S4x128x256) zeros3]
  sl_kernel_rfl

/-- The six stores of a grid point into its block of the output, the last first. -/
def ptPieces (s : Vec F S4x128x256 .f32) : List (View.Piece (Elt F) S384x1024 .f32) :=
  Rows.six (Val := Elt F) (e := .f32) fun k => ptOut i x0 x1 x2 x3 x4 x5 x6 x7 k (ptBefore i x1 x2 x4 x5 x6 s k.val)

theorem pieces_B (hc) : out0_B_8 c i a1 h1 a2 h2 a3 h3 a4 h4 a5 h5 a6 h6 a7 h7 a8 h8 a9 h9 a10 h10 a11 h11 hc x0 x1 x2 x3 x4 x5 x6 x7 xs0 = View.canon (ptPieces i x0 x1 x2 x3 x4 x5 x6 x7 xs0) := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 x7 xs0)]
  unfold kernelRun0_B
  dsimp only
  sl_unfold_words
  simp only [View.readAt_eq_ld, h1.read_unread, h2.read_unread, h3.read_unread, h4.read_unread, h5.read_unread, h6.read_unread, h7.read_unread, h8.read_unread, h11.read_unread,
    View.ld_unit_zero (S := S128x512) zeros2, View.ld_unit_zero (S := S1x512) zeros2, View.ld_unit_zero (S := S1x256) zeros2, View.ld_unit_zero (S := S4x128x256) zeros3]
  sl_kernel_rfl

/-- The zero state, as the first point stores it. -/
def state0 : Vec F S4x128x256 .f32 := k0_pay1

theorem state_A (hc) : sout0_A_0 c i a1 h1 a2 h2 a3 h3 a4 h4 a5 h5 a6 h6 a7 h7 a8 h8 a9 h9 a10 h10 a11 h11 hc x0 x1 x2 x3 x4 x5 x6 x7 = shapeCast S4x128x256 (ptBefore i x1 x2 x4 x5 x6 state0 6) shapeCasts_S4x128x256_S4x128x256 := by
  unfold sout0_A_0
  rw [View.read_writes_eq_canon _ _ _ (scover0_A_0 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero zeros3]
  simp only [View.readAt_eq_ld, h1.read_unread, h2.read_unread, h3.read_unread, h4.read_unread, h5.read_unread, h6.read_unread, h7.read_unread, h8.read_unread, h11.read_unread,
    View.readCov_unit_zero a11.view zeros3, View.ld_unit_zero (S := S128x512) zeros2, View.ld_unit_zero (S := S1x512) zeros2, View.ld_unit_zero (S := S1x256) zeros2, View.ld_unit_zero (S := S4x128x256) zeros3]
  sl_kernel_rfl

theorem pieces_A (hc) : out0_A_8 c i a1 h1 a2 h2 a3 h3 a4 h4 a5 h5 a6 h6 a7 h7 a8 h8 a9 h9 a10 h10 a11 h11 hc x0 x1 x2 x3 x4 x5 x6 x7 = View.canon (ptPieces i x0 x1 x2 x3 x4 x5 x6 x7 state0) := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h11.read_unread,
    View.readCov_unit_zero a11.view zeros3, View.ld_unit_zero (S := S128x512) zeros2, View.ld_unit_zero (S := S1x512) zeros2, View.ld_unit_zero (S := S1x256) zeros2, View.ld_unit_zero (S := S4x128x256) zeros3]
  sl_kernel_rfl

/-- The block a grid point leaves, row by row. -/
theorem pieces_at (s : Vec F S4x128x256 .f32) (k : Fin 6) (r : Fin 64) (n : Fin 1024) :
    View.canon (ptPieces i x0 x1 x2 x3 x4 x5 x6 x7 s) (ix2 (⟨64 * k.val + r.val, by omega⟩ : Fin 384) n)
      = ptOut i x0 x1 x2 x3 x4 x5 x6 x7 k (ptBefore i x1 x2 x4 x5 x6 s k.val) (ix2 r n) := by
  exact Rows.canon_six (Val := Elt F) (e := .f32) _ k r n _

end Cert.GlfKernelIdeal.Value
end
-- ==== Proof.GlfBlocks.lean ====
/-
  The arrays the gated linear attention's forward call reads, and its blocks, in terms of the arguments.
-/
module

public import proofs.«01_k».proof.Proof.GlaRows
public import proofs.«01_k».proof.Proof.GlfKernelValue
public import proofs.«01_k».proof.Proof.GlfOut
public import Idealize.ShloMosaic.Lib.KernelVsHost

@[expose] public section

noncomputable section

namespace Cert.GlfKernelIdeal.Value

open Cert.GlfKernelIdeal Cert.GlfKernelIdeal.Gen Idealize.ShloMosaic Idealize.ShloMosaic.TcCoe Idealize.SL.Sem
open Cert.Numbers Cert.Words Cert.Finite

variable (m : (ℓ : Loc nD τ sig) → Buf (Elt Ideal) ℓ) (c : Dev nD)

/-- The arguments. -/
def pOf : Vec Ideal S4112x3088 .f32 := m ((c : Thread nD τ).loc main_arg0)
def wOf : Vec Ideal S16x512 .f32 := m ((c : Thread nD τ).loc main_arg1)
def bOf : Vec Ideal S512 .f32 := m ((c : Thread nD τ).loc main_arg2)
def nOf : Vec Ideal S256 .f32 := m ((c : Thread nD τ).loc main_arg3)

/-- The arrays the region finds. -/
def projA : Vec Ideal S4224x3200 .f32 := V m c main_v0
def wguA : Vec Ideal S128x512 .f32 := V m c main_v1
def bgA : Vec Ideal S1x512 .f32 := V m c main_v2
def nwA : Vec Ideal S1x256 .f32 := V m c main_v3

theorem projA_eq : projA m c = pad S4224x3200 ![112, 0] ![0, 112] ![0, 0] (pOf m c)
    (sitofp (F := Ideal) .f32 (constantI S_ 32 0#32)) pads_S4112x3088_S4224x3200_11200_01120 h_S_ := by
  unfold projA
  dsimp only [V, hostOps0, hostOps0_1, hostOps0_2, hostOps0_3, hostOps0_4]
  simp only [List.flatten_cons, List.flatten_nil, List.append_nil, List.cons_append, List.nil_append]
  after_results_simp
  simp -implicitDefEqProofs only [StableHlo.TRef.toBuf, StableHlo.TRef.ofBuf, cast_cast, cast_eq]
  rfl

theorem wguA_eq : wguA m c = pad S128x512 ![0, 0] ![112, 0] ![0, 0] (wOf m c)
    (sitofp (F := Ideal) .f32 (constantI S_ 32 0#32)) pads_S16x512_S128x512_01120_000 h_S_ := by
  unfold wguA
  dsimp only [V, hostOps0, hostOps0_1, hostOps0_2, hostOps0_3, hostOps0_4]
  simp only [List.flatten_cons, List.flatten_nil, List.append_nil, List.cons_append, List.nil_append]
  after_results_simp
  simp -implicitDefEqProofs only [StableHlo.TRef.toBuf, StableHlo.TRef.ofBuf, cast_cast, cast_eq]
  rfl

theorem bgA_eq : bgA m c = shapeCast S1x512 (bOf m c) shapeCasts_S512_S1x512 := by
  unfold bgA
  dsimp only [V, hostOps0, hostOps0_1, hostOps0_2, hostOps0_3, hostOps0_4]
  simp only [List.flatten_cons, List.flatten_nil, List.append_nil, List.cons_append, List.nil_append]
  after_results_simp
  rfl

theorem nwA_eq : nwA m c = shapeCast S1x256 (nOf m c) shapeCasts_S256_S1x256 := by
  unfold nwA
  dsimp only [V, hostOps0, hostOps0_1, hostOps0_2, hostOps0_3, hostOps0_4]
  simp only [List.flatten_cons, List.flatten_nil, List.append_nil, List.cons_append, List.nil_append]
  after_results_simp
  rfl

theorem word0 : (FloatOps.sitofp (F := Ideal) .f32 (0#32 : BitVec 32) : EReal) = 0 := by
  show (((0#32 : BitVec 32).toInt : ℝ) : EReal) = 0
  simp

/-- The padded product: zeros in the rows in front and in the columns behind. -/
theorem projA_at (n : Fin 4224) (k : Fin 3200) :
    projA m c (ix2 n k) = if h : k.val < 3088 then GlaRows.rowAt (pOf m c) n.val ⟨k.val, h⟩ else 0 := by
  rw [projA_eq]
  by_cases hk : k.val < 3088
  · rw [dif_pos hk]
    by_cases hn : n.val < 112
    · rw [GlaRows.rowAt_pad _ _ hn]
      refine (pad_apply_of_not_inside _ _ _ _ _ _ _ (ix2 n k) 0 ?_).trans word0
      intro hh
      have h0 : (112 : ℕ) ≤ n.val := hh.1
      omega
    · rw [GlaRows.rowAt_of _ _ (by omega) n.isLt]
      refine pad_apply_of_inside _ _ _ _ _ _ _ (ix2 n k) (ix2 (⟨n.val - 112, by omega⟩ : Fin 4112) (⟨k.val, hk⟩ : Fin 3088)) ?_
      intro a
      match a with
      | ⟨0, _⟩ => show n.val = 112 + (n.val - 112) * (0 + 1); omega
      | ⟨1, _⟩ => show k.val = 0 + k.val * (0 + 1); omega
  · rw [dif_neg hk]
    refine (pad_apply_of_not_inside _ _ _ _ _ _ _ (ix2 n k) 1 ?_).trans word0
    intro hh
    have h0 : (k.val - 0) / (0 + 1) < 3088 := hh.2.2
    simp at h0
    omega

theorem wguA_at (r : Fin 128) (k : Fin 512) : wguA m c (ix2 r k) = if h : r.val < 16 then wOf m c (ix2 ⟨r.val, h⟩ k) else 0 := by
  rw [wguA_eq]
  by_cases hr : r.val < 16
  · rw [dif_pos hr]
    refine pad_apply_of_inside _ _ _ _ _ _ _ (ix2 r k) (ix2 (⟨r.val, hr⟩ : Fin 16) k) ?_
    intro a
    match a with
    | ⟨0, _⟩ => show r.val = 0 + r.val * (0 + 1); omega
    | ⟨1, _⟩ => show k.val = 0 + k.val * (0 + 1); omega
  · rw [dif_neg hr]
    refine (pad_apply_of_not_inside _ _ _ _ _ _ _ (ix2 r k) 0 ?_).trans word0
    intro hh
    have h0 : (r.val - 0) / (0 + 1) < 16 := hh.2.2
    simp at h0
    omega

theorem bgA_at (k : Fin 512) : bgA m c (ix2 0 k) = bOf m c (ix1 k) := by
  rw [bgA_eq]
  pointwise

theorem nwA_at (k : Fin 256) : nwA m c (ix2 0 k) = nOf m c (ix1 k) := by
  rw [nwA_eq]
  pointwise

/-- The block indices of the windows at a point: point `t` is row block `t`; the weights are whole. -/
theorem index_facts : ∀ t : Fin cfg0.N, (grid0.coords t 0).val = t.val ∧
    (win0_0.index t 0 = t.val ∧ win0_0.index t 1 = 0) ∧ (win0_1.index t 0 = t.val ∧ win0_1.index t 1 = 1) ∧
    (win0_2.index t 0 = t.val ∧ win0_2.index t 1 = 1) ∧ (win0_3.index t 0 = t.val ∧ win0_3.index t 1 = 2) ∧
    (win0_4.index t 0 = t.val ∧ win0_4.index t 1 = 24) ∧ (win0_5.index t 0 = 0 ∧ win0_5.index t 1 = 0) ∧
    (win0_6.index t 0 = 0 ∧ win0_6.index t 1 = 0) ∧ (win0_7.index t 0 = 0 ∧ win0_7.index t 1 = 0) :=
  (by decide +kernel : ∀ t : Fin grid0.N, _)

/-- Row `r` of the point's row block. -/
abbrev rowOf (t : Fin cfg0.N) (r : Fin 384) : Fin 4224 := ⟨t.val * 384 + r.val, by have ht : t.val < 11 := t.isLt; omega⟩

theorem block_q (t : Fin cfg0.N) (r : Fin 384) (k : Fin 512) :
    (X0_0 m c t : Vec Ideal S384x512 .f32) (ix2 r k) = projA m c (ix2 (rowOf t r) ⟨k.val, by omega⟩) := by
  have hi := (index_facts t).2.1
  unfold X0_0 projA Pipeline.Window.fill
  rw [dif_pos (moved0_0 t _)]
  unfold iblk
  rw [View.read_apply]
  show V m c main_v0 _ = V m c main_v0 _
  congr 1
  exact at2 (at_block hi.1) (at_first hi.2)

theorem block_k (t : Fin cfg0.N) (r : Fin 384) (k : Fin 512) :
    (X0_1 m c t : Vec Ideal S384x512 .f32) (ix2 r k) = projA m c (ix2 (rowOf t r) ⟨512 + k.val, by omega⟩) := by
  have hi := (index_facts t).2.2.1
  unfold X0_1 projA Pipeline.Window.fill
  rw [dif_pos (moved0_1 t _)]
  unfold iblk
  rw [View.read_apply]
  show V m c main_v0 _ = V m c main_v0 _
  congr 1
  exact at2 (at_block hi.1) (by show win0_1.index t 1 * 512 + 1 * k.val = 512 + k.val; rw [hi.2]; omega)

theorem block_v (t : Fin cfg0.N) (r : Fin 384) (k : Fin 1024) :
    (X0_2 m c t : Vec Ideal S384x1024 .f32) (ix2 r k) = projA m c (ix2 (rowOf t r) ⟨1024 + k.val, by omega⟩) := by
  have hi := (index_facts t).2.2.2.1
  unfold X0_2 projA Pipeline.Window.fill
  rw [dif_pos (moved0_2 t _)]
  unfold iblk
  rw [View.read_apply]
  show V m c main_v0 _ = V m c main_v0 _
  congr 1
  exact at2 (at_block hi.1) (by show win0_2.index t 1 * 1024 + 1 * k.val = 1024 + k.val; rw [hi.2]; omega)

theorem block_g (t : Fin cfg0.N) (r : Fin 384) (k : Fin 1024) :
    (X0_3 m c t : Vec Ideal S384x1024 .f32) (ix2 r k) = projA m c (ix2 (rowOf t r) ⟨2048 + k.val, by omega⟩) := by
  have hi := (index_facts t).2.2.2.2.1
  unfold X0_3 projA Pipeline.Window.fill
  rw [dif_pos (moved0_3 t _)]
  unfold iblk
  rw [View.read_apply]
  show V m c main_v0 _ = V m c main_v0 _
  congr 1
  exact at2 (at_block hi.1) (by show win0_3.index t 1 * 1024 + 1 * k.val = 2048 + k.val; rw [hi.2]; omega)

theorem block_low (t : Fin cfg0.N) (r : Fin 384) (k : Fin 128) :
    (iblk m c 4 t : Vec Ideal S384x128 .f32) (ix2 r k) = projA m c (ix2 (rowOf t r) ⟨3072 + k.val, by omega⟩) := by
  have hi := (index_facts t).2.2.2.2.2.1
  unfold iblk projA
  rw [View.read_apply]
  show V m c main_v0 _ = V m c main_v0 _
  congr 1
  exact at2 (at_block hi.1) (by show win0_4.index t 1 * 128 + 1 * k.val = 3072 + k.val; rw [hi.2]; omega)

theorem block_wgu (t : Fin cfg0.N) (r : Fin 128) (k : Fin 512) : (iblk m c 5 t : Vec Ideal S128x512 .f32) (ix2 r k) = wguA m c (ix2 r k) :=
  congrArg (V m c main_v1) (at2 (at_first (index_facts t).2.2.2.2.2.2.1.1) (at_first (index_facts t).2.2.2.2.2.2.1.2))

theorem block_bg (t : Fin cfg0.N) (k : Fin 512) : (iblk m c 6 t : Vec Ideal S1x512 .f32) (ix2 0 k) = bgA m c (ix2 0 k) :=
  congrArg (V m c main_v2) (at2 (at_first (index_facts t).2.2.2.2.2.2.2.1.1) (at_first (index_facts t).2.2.2.2.2.2.2.1.2))

theorem block_nw (t : Fin cfg0.N) (k : Fin 256) : (iblk m c 7 t : Vec Ideal S1x256 .f32) (ix2 0 k) = nwA m c (ix2 0 k) :=
  congrArg (V m c main_v3) (at2 (at_first (index_facts t).2.2.2.2.2.2.2.2.1) (at_first (index_facts t).2.2.2.2.2.2.2.2.2))

end Cert.GlfKernelIdeal.Value
end
-- ==== Proof.GlfRows.lean ====
/-
  The rows of a chunk that the gated linear attention's forward call reads at a grid point: chunk `k` of point `t` is chunk
  `6 t + k` of the sequence.
-/
module

public import proofs.«01_k».proof.Proof.GlfBlocks

@[expose] public section

noncomputable section

namespace Cert.GlfKernelIdeal.Value

open Cert.GlfKernelIdeal Cert.GlfKernelIdeal.Gen Idealize.ShloMosaic Idealize.ShloMosaic.TcCoe Idealize.SL.Sem
open Cert.Numbers Cert.Words Cert.Finite

theorem part_at (w : ℕ) (x : Vec Ideal (⟨2, ![384, w]⟩ : Shape) .f32) (k : Fin 6) (i : Fin 64) (n : Fin w) :
    part w x k (ix2 i n) = x (ix2 (⟨64 * k.val + i.val, by omega⟩ : Fin 384) n) :=
  Rows.ld_rows x (64 * k.val) _ i n (by omega)

/-- An index of a matrix is its pair of coordinates. -/
theorem idx2 {p q : ℕ} (i : (⟨2, ![p, q]⟩ : Shape).Idx) : ∃ a b, i = ix2 a b :=
  ⟨i 0, i 1, by funext d; match d with | ⟨0, _⟩ => rfl | ⟨1, _⟩ => rfl⟩

variable (m : (ℓ : Loc nD τ sig) → Buf (Elt Ideal) ℓ) (c : Dev nD) (t : Fin cfg0.N) (k : Fin 6)

/-- The chunk's operands. -/
def qT : FVec Ideal S64x512 .f32 := k0_pay3 (part 512 (X0_0 m c t) k)
def kT : FVec Ideal S64x512 .f32 := k0_pay4 (part 512 (X0_1 m c t) k)
def vT : FVec Ideal S64x1024 .f32 := k0_pay5 (part 1024 (X0_2 m c t) k)
def gT : FVec Ideal S64x1024 .f32 := k0_pay6 (part 1024 (X0_3 m c t) k)
def lowT : FVec Ideal S64x128 .f32 := k0_pay7 (part 128 (iblk m c 4 t) k)
def wguT : FVec Ideal S128x512 .f32 := k0_pay8 (iblk m c 5 t)
def bgT : FVec Ideal S1x512 .f32 := k0_pay9 (iblk m c 6 t)
def nwT : FVec Ideal S1x256 .f32 := k0_pay10 (iblk m c 7 t)
def glT : FVec Ideal S64x512 .f32 :=
  chunkGl (lowT m c t k) (wguT m c t) (bgT m c t) (rowsAt (BitVec.ofNat 32 ((grid0.coords t) 0).val) (BitVec.ofNat 32 k.val))

/-- A row of the padded product inside the columns it has. -/
theorem row_eq (r : Fin 64) (j : Fin 3200) (hj : j.val < 3088) :
    projA m c (ix2 (rowOf t ⟨64 * k.val + r.val, by omega⟩) j) = GlaRows.rowAt (pOf m c) ((6 * t.val + k.val) * 64 + r.val) ⟨j.val, hj⟩ := by
  rw [projA_at, dif_pos hj]
  refine congrArg (fun n => GlaRows.rowAt (pOf m c) n ⟨j.val, hj⟩) ?_
  show t.val * 384 + (64 * k.val + r.val) = _
  omega

theorem qT_at (r : Fin 64) (j : Fin 512) : qT m c t k (ix2 r j) = GlaRows.rowAt (pOf m c) ((6 * t.val + k.val) * 64 + r.val) ⟨j.val, by omega⟩ := by
  unfold qT k0_pay3
  rw [shapeCast_self, part_at, block_q, row_eq m c t k r _ (by dsimp only; omega)]

theorem kT_at (r : Fin 64) (j : Fin 512) : kT m c t k (ix2 r j) = GlaRows.rowAt (pOf m c) ((6 * t.val + k.val) * 64 + r.val) ⟨512 + j.val, by omega⟩ := by
  unfold kT k0_pay4
  rw [shapeCast_self, part_at, block_k, row_eq m c t k r _ (by dsimp only; omega)]

theorem vT_at (r : Fin 64) (j : Fin 1024) : vT m c t k (ix2 r j) = GlaRows.rowAt (pOf m c) ((6 * t.val + k.val) * 64 + r.val) ⟨1024 + j.val, by omega⟩ := by
  unfold vT k0_pay5
  rw [shapeCast_self, part_at, block_v, row_eq m c t k r _ (by dsimp only; omega)]

theorem gT_at (r : Fin 64) (j : Fin 1024) : gT m c t k (ix2 r j) = GlaRows.rowAt (pOf m c) ((6 * t.val + k.val) * 64 + r.val) ⟨2048 + j.val, by omega⟩ := by
  unfold gT k0_pay6
  rw [shapeCast_self, part_at, block_g, row_eq m c t k r _ (by dsimp only; omega)]

/-- The columns of the low-rank product, and zeros behind its 16 columns. -/
theorem lowT_at (r : Fin 64) (j : Fin 128) : lowT m c t k (ix2 r j)
    = if h : j.val < 16 then GlaRows.rowAt (pOf m c) ((6 * t.val + k.val) * 64 + r.val) ⟨3072 + j.val, by omega⟩ else 0 := by
  unfold lowT k0_pay7
  rw [shapeCast_self, part_at, block_low]
  by_cases h : j.val < 16
  · rw [dif_pos h, row_eq m c t k r _ (by dsimp only; omega)]
  · rw [dif_neg h, projA_at, dif_neg (by dsimp only; omega)]

theorem wguT_at (r : Fin 128) (j : Fin 512) : wguT m c t (ix2 r j) = if h : r.val < 16 then wOf m c (ix2 ⟨r.val, h⟩ j) else 0 := by
  unfold wguT k0_pay8
  rw [shapeCast_self, block_wgu, wguA_at]

theorem bgT_at (j : Fin 512) : bgT m c t (ix2 0 j) = bOf m c (ix1 j) := by
  unfold bgT k0_pay9
  rw [shapeCast_self, block_bg, bgA_at]

theorem nwT_at (j : Fin 256) : nwT m c t (ix2 0 j) = nOf m c (ix1 j) := by
  unfold nwT k0_pay10
  rw [shapeCast_self, block_nw, nwA_at]

section Real

variable (hp : ∀ i, IsReal (pOf m c i)) (hw : ∀ i, IsReal (wOf m c i)) (hb : ∀ i, IsReal (bOf m c i))
include hp

theorem isReal_row (n : ℕ) (j : Fin 3088) : IsReal (GlaRows.rowAt (pOf m c) n j) := by
  unfold GlaRows.rowAt
  split
  · exact hp _
  · exact isReal_zero

theorem isReal_gT (i) : IsReal (gT m c t k i) := by
  obtain ⟨a, b, rfl⟩ := idx2 i
  rw [gT_at]
  exact isReal_row m c hp _ _

theorem isReal_lowT (i) : IsReal (lowT m c t k i) := by
  obtain ⟨a, b, rfl⟩ := idx2 i
  rw [lowT_at]
  split
  · exact isReal_row m c hp _ _
  · exact isReal_zero

omit hp
include hw

theorem isReal_wguT (i) : IsReal (wguT m c t i) := by
  obtain ⟨a, b, rfl⟩ := idx2 i
  rw [wguT_at]
  split
  · exact hw _
  · exact isReal_zero

omit hw
include hb

theorem isReal_bgT (i) : IsReal (bgT m c t i) := by
  obtain ⟨a, b, rfl⟩ := idx2 i
  obtain rfl : a = 0 := Subsingleton.elim _ _
  rw [bgT_at]
  exact hb _

omit hb

/-- The logit of a decay: the columns behind the 16 of the low-rank product add nothing. -/
theorem logit_eq (r : Fin 64) (j : Fin 512) :
    logit (lowT m c t k) (wguT m c t) (bgT m c t) r j = GlaRows.logit (pOf m c) (wOf m c) (bOf m c) ((6 * t.val + k.val) * 64 + r.val) j := by
  unfold logit GlaRows.logit
  rw [bgT_at]
  refine congrArg (· + _) ((Fin.sum_univ_add (a := 16) (b := 112) _).trans ?_)
  rw [show (∑ i : Fin 112, lowT m c t k (ix2 r (Fin.natAdd 16 i)) * wguT m c t (ix2 (Fin.natAdd 16 i) j)) = 0 from
    Finset.sum_eq_zero fun i _ => by
      rw [lowT_at, dif_neg (by show ¬ (16 + i.val < 16); omega), zero_mul], add_zero]
  refine Finset.sum_congr rfl fun i _ => ?_
  rw [lowT_at, dif_pos (by show i.val < 16; omega), wguT_at, dif_pos (by show i.val < 16; omega)]
  rfl

include hp hw hb

theorem glT_at (r : Fin 64) (j : Fin 512) : glT m c t k (ix2 r j)
    = if 112 ≤ (6 * t.val + k.val) * 64 + r.val then
        -LogSig.softp (-GlaRows.logit (pOf m c) (wOf m c) (bOf m c) ((6 * t.val + k.val) * 64 + r.val) j) * Ideal.ofBits .f32 0x3D800000#32
      else 0 := by
  unfold glT
  rw [(index_facts t).1, chunkGl_apply _ _ _ t.val k.val t.isLt k.isLt (isReal_lowT m c t k hp) (isReal_wguT m c t hw) (isReal_bgT m c t hb), logit_eq]

theorem isReal_glT (i) : IsReal (glT m c t k i) := by
  unfold glT
  rw [(index_facts t).1]
  exact isReal_chunkGl _ _ _ t.val k.val t.isLt k.isLt (isReal_lowT m c t k hp) (isReal_wguT m c t hw) (isReal_bgT m c t hb) i

theorem heads_gl : heads (glT m c t k) = GlaRows.G (pOf m c) (wOf m c) (bOf m c) (6 * t.val + k.val) := by
  funext h i n
  exact glT_at m c t k hp hw hb i _

omit hp hw hb

theorem heads_q : (fun h i n => heads (qT m c t k) h i n * scale) = GlaRows.Q (pOf m c) (6 * t.val + k.val) := by
  funext h i n
  exact congrArg (· * scale) (qT_at m c t k i _)

theorem heads_k : heads (kT m c t k) = GlaRows.K (pOf m c) (6 * t.val + k.val) := by
  funext h i n
  exact kT_at m c t k i _

theorem heads_v : heads2 (vT m c t k) = GlaRows.V (pOf m c) (6 * t.val + k.val) := by
  funext h i n
  exact vT_at m c t k i _

theorem heads_g : heads2 (gT m c t k) = GlaRows.gate (pOf m c) (6 * t.val + k.val) := by
  funext h i n
  exact gT_at m c t k i _

theorem row_nw : (fun n => nwT m c t (ix2 0 n)) = fun n => nOf m c (ix1 n) := by
  funext n
  exact nwT_at m c t n

end Real

end Cert.GlfKernelIdeal.Value
end
-- ==== Proof.GlfArray.lean ====
/-
  The array the gated linear attention's forward call leaves: the output of chunk `6 t + k` in the rows of chunk `k` of point `t`.
-/
module

public import proofs.«01_k».proof.Proof.GlfRows

@[expose] public section

noncomputable section

namespace Cert.GlfKernelIdeal.Value

open Cert.GlfKernelIdeal Cert.GlfKernelIdeal.Gen Idealize.ShloMosaic Idealize.ShloMosaic.TcCoe Idealize.SL.Sem
open Cert.Numbers Cert.Words Cert.Finite

variable (m : (ℓ : Loc nD τ sig) → Buf (Elt Ideal) ℓ) (c : Dev nD)

/-- The state before chunk `q`, as an array. -/
def IsState (q : ℕ) (s : Vec Ideal S4x128x256 .f32) : Prop :=
  (fun h k v => s (ix3 h k v)) = GlaRows.state (pOf m c) (wOf m c) (bOf m c) q

variable (hp : ∀ i, IsReal (pOf m c i)) (hw : ∀ i, IsReal (wOf m c i)) (hb : ∀ i, IsReal (bOf m c i)) (t : Fin cfg0.N)
include hp hw hb

/-- One chunk takes the state before it to the state before the next. -/
theorem ptState_is (k : Fin 6) (s : Vec Ideal S4x128x256 .f32) (hs : IsState m c (6 * t.val + k.val) s) :
    IsState m c (6 * t.val + k.val + 1)
      (ptState (grid0.coords t) (X0_1 m c t) (X0_2 m c t) (iblk m c 4 t) (iblk m c 5 t) (iblk m c 6 t) k s) := by
  funext h d v
  refine (chunkState_apply (kT m c t k) (vT m c t k) s (lowT m c t k) (wguT m c t) (bgT m c t) _ (isReal_glT m c t k hp hw hb) h d v).trans ?_
  show Gla.next (heads (kT m c t k)) (heads (glT m c t k)) (heads2 (vT m c t k)) _ h d v = _
  rw [heads_k, heads_gl m c t k hp hw hb, heads_v, hs]
  rfl

/-- The state before each chunk of a point. -/
theorem ptBefore_is (s : Vec Ideal S4x128x256 .f32) (hs : IsState m c (6 * t.val) s) (k : ℕ) (hk : k ≤ 6) :
    IsState m c (6 * t.val + k)
      (ptBefore (grid0.coords t) (X0_1 m c t) (X0_2 m c t) (iblk m c 4 t) (iblk m c 5 t) (iblk m c 6 t) s k) := by
  induction k with
  | zero => exact hs
  | succ k ih =>
    unfold ptBefore
    rw [dif_pos (by omega)]
    exact ptState_is m c hp hw hb t ⟨k, by omega⟩ _ (ih (by omega))

/-- The block of the output a chunk writes. -/
theorem ptOut_is (k : Fin 6) (s : Vec Ideal S4x128x256 .f32) (hs : IsState m c (6 * t.val + k.val) s) (h : Fin 4) (i : Fin 64) (v : Fin 256) :
    ptOut (grid0.coords t) (X0_0 m c t) (X0_1 m c t) (X0_2 m c t) (X0_3 m c t) (iblk m c 4 t) (iblk m c 5 t) (iblk m c 6 t) (iblk m c 7 t) k s
        (ix2 i ⟨h.val * 256 + v.val, by omega⟩)
      = GlaRows.out (pOf m c) (wOf m c) (bOf m c) (nOf m c) (6 * t.val + k.val) h i v := by
  refine (chunkOut_apply (qT m c t k) (kT m c t k) (vT m c t k) (gT m c t k) (glT m c t k) (nwT m c t) s (isReal_glT m c t k hp hw hb)
    (isReal_gT m c t k hp) h i v).trans ?_
  rw [heads_q, heads_k, heads_gl m c t k hp hw hb, heads_v, heads_g, row_nw, hs]
  rfl

omit hp hw hb

theorem state0_is : IsState m c 0 (state0 (F := Ideal)) := by
  funext h k v
  unfold state0
  pointwise [k0_pay1]
  rfl

/-- The first point starts from the zero state. -/
theorem first (h0 : t.val % 11 = 0) :
    (outsAt0 m c t.val t.isLt).1 = View.canon (ptPieces (grid0.coords t) (X0_0 m c t) (X0_1 m c t) (X0_2 m c t) (X0_3 m c t) (iblk m c 4 t) (iblk m c 5 t) (iblk m c 6 t) (iblk m c 7 t) (state0 (F := Ideal))) ∧
    (outsAt0 m c t.val t.isLt).2.2 = ptBefore (grid0.coords t) (X0_1 m c t) (X0_2 m c t) (iblk m c 4 t) (iblk m c 5 t) (iblk m c 6 t) (state0 (F := Ideal)) 6 := by
  rw [outsAt0_A m c t h0]
  dsimp only
  rw [pieces_A, state_A, shapeCast_self]
  exact ⟨rfl, rfl⟩

/-- A later point starts from the state the point before left. -/
theorem later (h0 : ¬ t.val % 11 = 0) :
    (outsAt0 m c t.val t.isLt).1 = View.canon (ptPieces (grid0.coords t) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2) ∧
    (outsAt0 m c t.val t.isLt).2.2
      = ptBefore (grid0.coords t) (X0_1 m c t) (X0_2 m c t) (iblk m c 4 t) (iblk m c 5 t) (iblk m c 6 t) (outsAt0 m c (t.val - 1) (Nat.lt_of_le_of_lt (Nat.sub_le _ _) t.isLt)).2.2 6 := by
  generalize hs : (outsAt0 m c (t.val - 1) (Nat.lt_of_le_of_lt (Nat.sub_le _ _) t.isLt)).2.2 = s
  rw [outsAt0_B m c t h0, hs]
  dsimp only
  rw [pieces_B, state_B, shapeCast_self]
  exact ⟨rfl, rfl⟩

include hp hw hb

/-- What a point leaves, from a state that is the state before its first chunk. -/
theorem point_is : ∀ (n : ℕ) (t : Fin cfg0.N) (hn : t.val = n), ∃ s, IsState m c (6 * t.val) s ∧
    (outsAt0 m c t.val t.isLt).1 = View.canon (ptPieces (grid0.coords t) (X0_0 m c t) (X0_1 m c t) (X0_2 m c t) (X0_3 m c t) (iblk m c 4 t) (iblk m c 5 t) (iblk m c 6 t) (iblk m c 7 t) s) ∧
    IsState m c (6 * (t.val + 1)) (outsAt0 m c t.val t.isLt).2.2 := by
  intro n
  induction n with
  | zero =>
    intro t hn
    have hs : IsState m c (6 * t.val) (state0 (F := Ideal)) := by rw [hn]; exact state0_is m c
    obtain ⟨e1, e2⟩ := first m c t (by rw [hn])
    refine ⟨state0, hs, e1, ?_⟩
    rw [e2]
    exact ptBefore_is m c hp hw hb t _ hs 6 le_rfl
  | succ n ih =>
    intro t hn
    have hN : t.val < 11 := t.isLt
    obtain ⟨_, _, _, h3⟩ := ih ⟨t.val - 1, Nat.lt_of_le_of_lt (Nat.sub_le _ _) t.isLt⟩ (by dsimp only; omega)
    obtain ⟨e1, e2⟩ := later m c t (by omega)
    dsimp only at h3
    rw [show 6 * (t.val - 1 + 1) = 6 * t.val by omega] at h3
    refine ⟨_, h3, e1, ?_⟩
    rw [e2]
    exact ptBefore_is m c hp hw hb t _ h3 6 le_rfl

/-- The array at row `64 q + i` and lane `v` of head `h`. -/
theorem array_at (q : Fin 66) (h : Fin 4) (i : Fin 64) (v : Fin 256) :
    (dats m 0 c).arrAt 8 cfg0.N (ix2 (⟨q.val * 64 + i.val, by omega⟩ : Fin 4224) (⟨h.val * 256 + v.val, by omega⟩ : Fin 1024) : S4224x1024.Idx)
      = GlaRows.out (pOf m c) (wOf m c) (bOf m c) (nOf m c) q.val h i v := by
  have ht : q.val / 6 < cfg0.N := by show q.val / 6 < 11; omega
  have hi : win0_8.index ⟨_, ht⟩ 0 = q.val / 6 ∧ win0_8.index ⟨_, ht⟩ 1 = 0 :=
    (by decide +kernel : ∀ t : Fin grid0.N, win0_8.index t 0 = t.val ∧ win0_8.index t 1 = 0) ⟨_, ht⟩
  have hk : q.val % 6 < 6 := Nat.mod_lt _ (by norm_num)
  obtain ⟨s, hs, h1, _⟩ := point_is m c hp hw hb (q.val / 6) ⟨_, ht⟩ rfl
  have hb' := congrFun (blocks8 m c ⟨_, ht⟩ (flush0_8 _)) (ix2 (⟨64 * (q.val % 6) + i.val, by omega⟩ : Fin 384) (⟨h.val * 256 + v.val, by omega⟩ : Fin 1024))
  rw [flushed8, View.read_apply] at hb'
  refine Eq.trans (congrArg _ ?_) (hb'.trans ?_)
  · exact at2 (by show q.val * 64 + i.val = win0_8.index ⟨_, ht⟩ 0 * 384 + 1 * (64 * (q.val % 6) + i.val); rw [hi.1]; omega) (by show h.val * 256 + v.val = win0_8.index ⟨_, ht⟩ 1 * 1024 + 1 * (h.val * 256 + v.val); rw [hi.2]; omega)
  · refine (congrFun h1 _).trans ?_
    refine (pieces_at _ _ _ _ _ _ _ _ _ s ⟨q.val % 6, hk⟩ i _).trans ?_
    refine (ptOut_is m c hp hw hb ⟨_, ht⟩ ⟨q.val % 6, hk⟩ _ (ptBefore_is m c hp hw hb ⟨_, ht⟩ s hs (q.val % 6) hk.le) h i v).trans ?_
    exact congrArg (fun n => GlaRows.out (pOf m c) (wOf m c) (bOf m c) (nOf m c) n h i v) (by show 6 * (q.val / 6) + q.val % 6 = q.val; omega)

end Cert.GlfKernelIdeal.Value
end
-- ==== Proof.GlfLoopData.lean ====
/-
  What the reference of the gated linear attention computes before its loop over the chunks: trip `j` is chunk `j + 1` of the
  sequence padded to whole chunks of 64 rows with one chunk more in front.
-/
module

public import proofs.«01_k».proof.Proof.GlaRows
public import proofs.«01_k».proof.Proof.Words
public import proofs.«01_k».proof.Proof.Gen.GlfReferenceIdeal.Step

@[expose] public section

noncomputable section

namespace Cert.GlfReferenceIdeal.Step

open Cert.GlfReferenceIdeal Cert.GlfReferenceIdeal.Gen Idealize.ShloMosaic Idealize.ShloMosaic.TcCoe
open Cert.Numbers Cert.Words Cert.Finite

variable (p : Vec Ideal S4112x3088 .f32) (w : Vec Ideal S16x512 .f32) (b : Vec Ideal S512 .f32)

/-- The row of the arguments behind row `i` of trip `j`. -/
theorem row_of (j : Fin 65) (i : Fin 64) (h : ¬ j.val * 64 + i.val < 48) (c : Fin 3088) :
    GlaRows.rowAt p ((j.val + 1) * 64 + i.val) c = p (ix2 (⟨j.val * 64 + i.val - 48, by omega⟩ : Fin 4112) c) := by
  rw [GlaRows.rowAt_of p _ (by omega) (by omega)]
  exact congrArg (fun r => p (ix2 r c)) (Fin.ext (by show (j.val + 1) * 64 + i.val - 112 = _; dsimp only; omega))

theorem row_pad (j : Fin 65) (i : Fin 64) (h : j.val * 64 + i.val < 48) (c : Fin 3088) :
    GlaRows.rowAt p ((j.val + 1) * 64 + i.val) c = 0 := GlaRows.rowAt_pad p _ (by omega) c

theorem q_at (h : Fin 4) (j : Fin 65) (i : Fin 64) (k : Fin 128) : A_main_v34 (F := Ideal) p w b (ix4 h j i k) = GlaRows.Q p (j.val + 1) h i k := by
  pointwise [A_main_v34, A_main_v33, A_main_v32]
  unfold GlaRows.Q
  split
  · rename_i hl
    rw [row_pad p j i hl, zero_mul]
    pointwise [K_main_v31, K_main_cst_2]
  · rename_i hl
    rw [row_of p j i hl]
    pointwise [A_main_v27, A_main_v25, A_main_v0, K_main_v26, K_main_cst_1]
    rfl

theorem k_at (h : Fin 4) (j : Fin 65) (i : Fin 64) (k : Fin 128) : A_main_v38 (F := Ideal) p w b (ix4 h j i k) = GlaRows.K p (j.val + 1) h i k := by
  pointwise [A_main_v38, A_main_v37, A_main_v36]
  unfold GlaRows.K
  split
  · rename_i hl
    rw [row_pad p j i hl]
    pointwise [K_main_v35, K_main_cst_3]
  · rename_i hl
    rw [row_of p j i hl]
    pointwise [A_main_v28, A_main_v1]

theorem v_at (h : Fin 4) (j : Fin 65) (i : Fin 64) (v : Fin 256) : A_main_v42 (F := Ideal) p w b (ix4 h j i v) = GlaRows.V p (j.val + 1) h i v := by
  pointwise [A_main_v42, A_main_v41, A_main_v40]
  unfold GlaRows.V
  split
  · rename_i hl
    rw [row_pad p j i hl]
    pointwise [K_main_v39, K_main_cst_4]
  · rename_i hl
    rw [row_of p j i hl]
    pointwise [A_main_v29, A_main_v2]

variable (hp : ∀ i, IsReal (p i)) (hw : ∀ i, IsReal (w i)) (hb : ∀ i, IsReal (b i))
include hp hw hb

/-- The logarithm of a decay, as the reference writes it. -/
theorem gl_row (r : Fin 4112) (c : Fin 512) :
    A_main_v24 (F := Ideal) p w b (ix2 r c)
      = -LogSig.softp (-((∑ m : Fin 16, p (ix2 r ⟨3072 + m.val, by omega⟩) * w (ix2 m c)) + b (ix1 c))) * Ideal.ofBits .f32 0x3D800000#32 := by
  have hx : IsReal (-((∑ m : Fin 16, p (ix2 r ⟨3072 + m.val, by omega⟩) * w (ix2 m c)) + b (ix1 c))) :=
    ((isReal_sum _ fun m => (hp _).mul (hw _)).add (hb _)).neg
  pointwise [A_main_v24, A_main_v22, A_main_v21, A_main_v20, A_main_v19, A_main_v18, A_main_v17, A_main_v16, A_main_v15, A_main_v13, A_main_v12, A_main_v10,
    A_main_v8, A_main_v7, A_main_v6, A_main_v5, A_main_v4, A_main_v3, K_main_v9, K_main_cst, K_main_v11, K_main_v14, K_main_v23, K_main_cst_0]
  rw [if_neg (not_not.mpr rfl)]
  exact LogSig.div_sixteen (LogSig.isReal_softp hx).neg

theorem g_at (h : Fin 4) (j : Fin 65) (i : Fin 64) (k : Fin 128) : A_main_v46 (F := Ideal) p w b (ix4 h j i k) = GlaRows.G p w b (j.val + 1) h i k := by
  pointwise [A_main_v46, A_main_v45, A_main_v44]
  unfold GlaRows.G
  split
  · rename_i hl
    refine Eq.trans ?_ (if_neg (by omega)).symm
    pointwise [K_main_v43, K_main_cst_5]
  · rename_i hl
    refine Eq.trans ?_ (if_pos (by omega)).symm
    unfold GlaRows.logit
    simp only [row_of p j i hl]
    refine Eq.trans ?_ (gl_row p w b hp hw hb _ _)
    pointwise [A_main_v30]

theorem sge_bit (i l : Fin 64) :
    IntOp.cmpi .sge (IntOp.addi (BitVec.ofNat 32 i.val) 0#32) (BitVec.ofNat 32 l.val) = if l ≤ i then 1#1 else 0#1 := by
  rw [show (0#32 : BitVec 32) = wd 0 from rfl, wd_nat, wd_nat, addi_wd, cmp_sge (by omega) (by omega)]
  exact if_congr (by rw [Fin.le_def]; omega) rfl rfl

theorem cum_at (h : Fin 4) (j : Fin 65) (i : Fin 64) (k : Fin 128) :
    A_main_v52 (F := Ideal) p w b (ix4 h j i k) = Gla.cum (GlaRows.G p w b (j.val + 1)) h i k := by
  pointwise [A_main_v52, A_main_v51, K_main_v50, K_main_call1_v5, K_main_call1_v4, K_main_call1_v3, K_main_call1_v2, K_main_call1_v1, K_main_call1_v0,
    K_main_call1_c, K_main_call1_cst, K_main_v49, K_main_cst_6]
  unfold Gla.cum
  refine Finset.sum_congr rfl fun l _ => ?_
  rw [sge_bit p w b hp hw hb, g_at p w b hp hw hb]
  unfold Scalar.select
  split <;> split <;> simp_all

theorem qd_at (h : Fin 4) (j : Fin 65) (i : Fin 64) (k : Fin 128) :
    A_main_v54 (F := Ideal) p w b (ix4 h j i k) = Gla.qd (GlaRows.Q p (j.val + 1)) (GlaRows.G p w b (j.val + 1)) h i k := by
  pointwise [A_main_v54, A_main_v53]
  rw [q_at, cum_at p w b hp hw hb]
  rfl

theorem ke_at (h : Fin 4) (j : Fin 65) (i : Fin 64) (k : Fin 128) :
    A_main_v57 (F := Ideal) p w b (ix4 h j i k) = GlaRows.K p (j.val + 1) h i k * Ideal.exp (-Gla.cum (GlaRows.G p w b (j.val + 1)) h i k) := by
  pointwise [A_main_v57, A_main_v56, A_main_v55]
  rw [k_at, cum_at p w b hp hw hb]

theorem att_at (h : Fin 4) (j : Fin 65) (i l : Fin 64) :
    A_main_v59 (F := Ideal) p w b (ix4 h j i l) = Gla.att (GlaRows.Q p (j.val + 1)) (GlaRows.K p (j.val + 1)) (GlaRows.G p w b (j.val + 1)) h i l := by
  pointwise [A_main_v59, A_main_v58, K_main_call2_v1, K_main_call2_v2, K_main_call2_v0, K_main_cst_7, K_main_v48, K_main_call0_v5, K_main_call0_c_0,
    K_main_call0_v4, K_main_call0_v3, K_main_call0_v2, K_main_call0_v1, K_main_call0_v0, K_main_call0_c, K_main_v47, K_main_c]
  have e0 : (id (constant (F := Ideal) S_ .f32 0#32) ix0 : EReal) = 0 := by
    show constant (F := Ideal) S_ .f32 0#32 ix0 = 0
    pointwise
  rw [sge_bit p w b hp hw hb, e0]
  simp only [qd_at p w b hp hw hb, ke_at p w b hp hw hb]
  unfold Gla.att Scalar.select
  by_cases hl : l ≤ i
  · simp [hl]
  · simp [hl]

theorem kd_at (h : Fin 4) (j : Fin 65) (i : Fin 64) (k : Fin 128) :
    A_main_v64 (F := Ideal) p w b (ix4 h j i k) = Gla.kd (GlaRows.K p (j.val + 1)) (GlaRows.G p w b (j.val + 1)) h i k := by
  pointwise [A_main_v64, A_main_v63, A_main_v62, A_main_v61, A_main_v60]
  rw [k_at, cum_at p w b hp hw hb, cum_at p w b hp hw hb, Gla.cum_last]
  rfl

theorem decay_at (h : Fin 4) (j : Fin 65) (k : Fin 128) :
    A_main_v71 (F := Ideal) p w b (ix3 j h k) = Ideal.exp (Gla.tot (GlaRows.G p w b (j.val + 1)) h k) := by
  pointwise [A_main_v71, A_main_v66, A_main_v65, A_main_v60]
  rw [cum_at p w b hp hw hb, Gla.cum_last]

end Cert.GlfReferenceIdeal.Step
end
-- ==== Proof.GlfRun.lean ====
/-
  The run of the reference of the gated linear attention: its loop goes through the states of `Step.step`.
-/
module

public import proofs.«01_k».proof.Proof.Gen.GlfReferenceIdeal.Run
public import proofs.«01_k».proof.Proof.Gen.GlfReferenceIdeal.Step

@[expose] public section

noncomputable section

namespace Cert.GlfReferenceIdeal.Loop

open Idealize.ShloMosaic Idealize.ShloMosaic.TcCoe Idealize.SL.Sem Idealize.ShloMosaic.StableHlo
open Cert.GlfReferenceIdeal Cert.GlfReferenceIdeal.Gen Cert.GlfReferenceIdeal.Value
open Cert.GlfReferenceIdeal.Step (State step init)

variable {F : FTy → Type} [FloatOps F]

/-- The buffers of the loop hold the state `s` before trip `n`. -/
def At (V : Valuation τ sig (Elt F)) (s : State F) (n : ℕ) : Prop :=
  V (Proc.devRef .tc main_v74_5) = constantI S_ 32 (BitVec.ofNat 32 n) ∧ V (Proc.devRef .tc main_v74_6) = s.main_v74_6
    ∧ V (Proc.devRef .tc main_v74_7) = s.main_v74_7 ∧ V (Proc.devRef .tc main_v74_0) = s.main_v74_0 ∧ V (Proc.devRef .tc main_v74_1) = s.main_v74_1
    ∧ V (Proc.devRef .tc main_v74_2) = s.main_v74_2 ∧ V (Proc.devRef .tc main_v74_3) = s.main_v74_3 ∧ V (Proc.devRef .tc main_v74_4) = s.main_v74_4

variable {V : Valuation τ sig (Elt F)} {s : State F} {n : ℕ}

set_option maxRecDepth 8192 in
theorem count_at (h : At V s n) : step_main_v74_5 V = constantI S_ 32 (BitVec.ofNat 32 (n + 1)) := by
  unfold step_main_v74_5
  rw [h.1]
  exact funext fun _ => (BitVec.ofNat_add n 1).symm

set_option maxRecDepth 8192 in
/-- A trip's state. -/
theorem state_at (h : At V s n) : step_main_v74_6 V = (step n s).main_v74_6 := by
  obtain ⟨h5, h6, h7, h0, h1, h2, h3, h4⟩ := h
  unfold step_main_v74_6 res_main_while0b_v100
  rw [h5, h6, h1, h2, h3]
  rfl

set_option maxRecDepth 8192 in
/-- What a trip writes. -/
theorem outputs_at (h : At V s n) : step_main_v74_7 V = (step n s).main_v74_7 := by
  obtain ⟨h5, h6, h7, h0, h1, h2, h3, h4⟩ := h
  unfold step_main_v74_7 res_main_while0b_v100
  rw [h5, h6, h7, h0, h2, h4]
  rfl

/-- One trip. -/
theorem at_step (h : At V s n) : At (STEP V) (step n s) (n + 1) :=
  ⟨(STEP_main_v74_5 V).trans (count_at h), (STEP_main_v74_6 V).trans (state_at h), (STEP_main_v74_7 V).trans (outputs_at h),
    (STEP_main_v74_0 V).trans h.2.2.2.1, (STEP_main_v74_1 V).trans h.2.2.2.2.1, (STEP_main_v74_2 V).trans h.2.2.2.2.2.1,
    (STEP_main_v74_3 V).trans h.2.2.2.2.2.2.1, (STEP_main_v74_4 V).trans h.2.2.2.2.2.2.2⟩

variable (m : (ℓ : Loc nD τ sig) → Buf (Elt F) ℓ) (c : Dev nD)

/-- The states of the loop, from the arrays of the arguments. -/
def iter (p : Vec F S4112x3088 .f32) (w : Vec F S16x512 .f32) (b : Vec F S512 .f32) : ℕ → State F
  | 0 => init p w b
  | n + 1 => step n (iter p w b n)

/-- The states of the loop on device `c`. -/
abbrev states : ℕ → State F :=
  iter (m ((c.tc : Thread nD τ).loc main_arg0)) (m ((c.tc : Thread nD τ).loc main_arg1)) (m ((c.tc : Thread nD τ).loc main_arg2))

set_option maxRecDepth 65536 in
set_option maxHeartbeats 700000 in
/-- Before the first trip. -/
theorem at_entry : At (entryContents preI m c) (states m c 0) 0 := by
  refine ⟨?_, ?_, ?_, ?_, ?_, ?_, ?_, ?_⟩ <;> (simp only [entryContents, afterL_cons, afterL_nil]; after_reads_simp) <;> rfl

/-- Before trip `n`. -/
theorem at_trip : ∀ n, At (STEP^[n] (entryContents preI m c)) (states m c n) n
  | 0 => at_entry m c
  | n + 1 => by
    rw [Function.iterate_succ_apply']
    exact at_step (at_trip n)

set_option maxRecDepth 8192 in
/-- The result. -/
theorem result_eq : out_main_v97 (STEP^[65] (entryContents preI m c))
    = Step.R_main_v97 (states m c 65) (m ((c.tc : Thread nD τ).loc main_arg0)) (m ((c.tc : Thread nD τ).loc main_arg3)) := by
  unfold out_main_v97 Step.R_main_v97
  rw [(at_trip m c 65).2.2.1, iter_main_arg0 m c 65, iter_main_arg3 m c 65]

/-- The reference ends with its result, its arguments unchanged. -/
theorem run_loop (ρ : Dev nD → PrngReg) :
    θ_run (defs (F := F)) (onTc (τ := τ) (main (F := F))) ⟨m, fun _ => 0, ρ⟩ fun r => ∀ c : Dev nD,
      r.2.mem ((c.tc : Thread nD τ).loc main_v97)
          = Step.R_main_v97 (states m c 65) (m ((c.tc : Thread nD τ).loc main_arg0)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c).1.trans (result_eq m c), (h c).2⟩) (Value.run m ρ)

end Cert.GlfReferenceIdeal.Loop

end
-- ==== Proof.Trips.lean ====
/-
  A loop's trip reads its slice of an array stacked along the first axis, and writes its slice of the outputs.
-/
module

public import proofs.«01_k».proof.Proof.Numbers
public import Idealize.ShloMosaic.Lib.WordCmp
public import Idealize.ShloMosaic.Lib.Pointwise

@[expose] public section

noncomputable section

namespace Cert.Trips

open Idealize.ShloMosaic

variable {α : Type} {n a b c : ℕ}

/-- Slice `j` of an array of four axes. -/
theorem slice4 (x : (⟨4, ![n, a, b, c]⟩ : Shape).Idx → α) (start : Fin 4 → ℤ) (hf : (⟨4, ![n, a, b, c]⟩ : Shape).Slices (fun _ => 0) ⟨4, ![1, a, b, c]⟩)
    (j : Fin n) (h0 : start 0 = (j.val : ℤ)) (h1 : start 1 = 0) (h2 : start 2 = 0) (h3 : start 3 = 0) (p : Fin a) (q : Fin b) (r : Fin c) :
    Host.dynamicSlice ⟨4, ![1, a, b, c]⟩ x start hf (ix4 0 p q r) = x (ix4 j p q r) := by
  have hk : (⟨4, ![n, a, b, c]⟩ : Shape).Slices (![j.val, 0, 0, 0] : Fin 4 → ℕ) ⟨4, ![1, a, b, c]⟩ :=
    ⟨rfl, fun d => match d with
      | ⟨0, _⟩ => j.isLt
      | ⟨1, _⟩ => (Nat.zero_add a).le
      | ⟨2, _⟩ => (Nat.zero_add b).le
      | ⟨3, _⟩ => (Nat.zero_add c).le⟩
  rw [WordCmp.dynamicSlice_eq_extract _ x start hf (![j.val, 0, 0, 0] : Fin 4 → ℕ) hk
    (fun d => match d with | ⟨0, _⟩ => h0 | ⟨1, _⟩ => h1 | ⟨2, _⟩ => h2 | ⟨3, _⟩ => h3)]
  show x _ = x _
  congr 1
  funext d
  apply Fin.ext
  match d with
  | ⟨0, _⟩ => exact Nat.add_zero j.val
  | ⟨1, _⟩ => exact Nat.zero_add p.val
  | ⟨2, _⟩ => exact Nat.zero_add q.val
  | ⟨3, _⟩ => exact Nat.zero_add r.val

/-- Slice `j` of an array of three axes. -/
theorem slice3 (x : (⟨3, ![n, a, b]⟩ : Shape).Idx → α) (start : Fin 3 → ℤ) (hf : (⟨3, ![n, a, b]⟩ : Shape).Slices (fun _ => 0) ⟨3, ![1, a, b]⟩)
    (j : Fin n) (h0 : start 0 = (j.val : ℤ)) (h1 : start 1 = 0) (h2 : start 2 = 0) (p : Fin a) (q : Fin b) :
    Host.dynamicSlice ⟨3, ![1, a, b]⟩ x start hf (ix3 0 p q) = x (ix3 j p q) := by
  have hk : (⟨3, ![n, a, b]⟩ : Shape).Slices (![j.val, 0, 0] : Fin 3 → ℕ) ⟨3, ![1, a, b]⟩ :=
    ⟨rfl, fun d => match d with
      | ⟨0, _⟩ => j.isLt
      | ⟨1, _⟩ => (Nat.zero_add a).le
      | ⟨2, _⟩ => (Nat.zero_add b).le⟩
  rw [WordCmp.dynamicSlice_eq_extract _ x start hf (![j.val, 0, 0] : Fin 3 → ℕ) hk
    (fun d => match d with | ⟨0, _⟩ => h0 | ⟨1, _⟩ => h1 | ⟨2, _⟩ => h2)]
  show x _ = x _
  congr 1
  funext d
  apply Fin.ext
  match d with
  | ⟨0, _⟩ => exact Nat.add_zero j.val
  | ⟨1, _⟩ => exact Nat.zero_add p.val
  | ⟨2, _⟩ => exact Nat.zero_add q.val

/-- Writing slice `j` of an array of four axes. -/
theorem update4 (x : (⟨4, ![n, a, b, c]⟩ : Shape).Idx → α) (y : (⟨4, ![1, a, b, c]⟩ : Shape).Idx → α) (start : Fin 4 → ℤ)
    (hf : (⟨4, ![n, a, b, c]⟩ : Shape).Slices (fun _ => 0) ⟨4, ![1, a, b, c]⟩)
    (j : Fin n) (h0 : start 0 = (j.val : ℤ)) (h1 : start 1 = 0) (h2 : start 2 = 0) (h3 : start 3 = 0) (i : Fin n) (p : Fin a) (q : Fin b) (r : Fin c) :
    Host.dynamicUpdateSlice x y start hf (ix4 i p q r) = if i = j then y (ix4 0 p q r) else x (ix4 i p q r) := by
  have hk : (⟨4, ![n, a, b, c]⟩ : Shape).Slices (![j.val, 0, 0, 0] : Fin 4 → ℕ) ⟨4, ![1, a, b, c]⟩ :=
    ⟨rfl, fun d => match d with
      | ⟨0, _⟩ => j.isLt
      | ⟨1, _⟩ => (Nat.zero_add a).le
      | ⟨2, _⟩ => (Nat.zero_add b).le
      | ⟨3, _⟩ => (Nat.zero_add c).le⟩
  rw [WordCmp.dynamicUpdateSlice_eq_update x y start hf (![j.val, 0, 0, 0] : Fin 4 → ℕ) hk
    (fun d => match d with | ⟨0, _⟩ => h0 | ⟨1, _⟩ => h1 | ⟨2, _⟩ => h2 | ⟨3, _⟩ => h3)]
  unfold updateSlice
  by_cases hn : i = j
  · subst hn
    rw [if_pos rfl, dif_pos]
    · congr 1
      funext d
      apply Fin.ext
      match d with
      | ⟨0, _⟩ => exact Nat.sub_self i.val
      | ⟨1, _⟩ => exact Nat.sub_zero p.val
      | ⟨2, _⟩ => exact Nat.sub_zero q.val
      | ⟨3, _⟩ => exact Nat.sub_zero r.val
    · exact fun d => match d with
        | ⟨0, _⟩ => ⟨le_rfl, Nat.lt_succ_self _⟩
        | ⟨1, _⟩ => ⟨Nat.zero_le _, by show p.val < 0 + a; omega⟩
        | ⟨2, _⟩ => ⟨Nat.zero_le _, by show q.val < 0 + b; omega⟩
        | ⟨3, _⟩ => ⟨Nat.zero_le _, by show r.val < 0 + c; omega⟩
  · rw [if_neg hn, dif_neg]
    intro hh
    have h0 : j.val ≤ i.val ∧ i.val < j.val + 1 := hh 0
    exact hn (Fin.ext (by omega))

/-- Slice `j` of a matrix. -/
theorem slice2 (x : (⟨2, ![n, a]⟩ : Shape).Idx → α) (start : Fin 2 → ℤ) (hf : (⟨2, ![n, a]⟩ : Shape).Slices (fun _ => 0) ⟨2, ![1, a]⟩)
    (j : Fin n) (h0 : start 0 = (j.val : ℤ)) (h1 : start 1 = 0) (p : Fin a) :
    Host.dynamicSlice ⟨2, ![1, a]⟩ x start hf (ix2 0 p) = x (ix2 j p) := by
  have hk : (⟨2, ![n, a]⟩ : Shape).Slices (![j.val, 0] : Fin 2 → ℕ) ⟨2, ![1, a]⟩ :=
    ⟨rfl, fun d => match d with
      | ⟨0, _⟩ => j.isLt
      | ⟨1, _⟩ => (Nat.zero_add a).le⟩
  rw [WordCmp.dynamicSlice_eq_extract _ x start hf (![j.val, 0] : Fin 2 → ℕ) hk
    (fun d => match d with | ⟨0, _⟩ => h0 | ⟨1, _⟩ => h1)]
  show x _ = x _
  congr 1
  funext d
  apply Fin.ext
  match d with
  | ⟨0, _⟩ => exact Nat.add_zero j.val
  | ⟨1, _⟩ => exact Nat.zero_add p.val

/-- Writing slice `j` of an array of three axes. -/
theorem update3 (x : (⟨3, ![n, a, b]⟩ : Shape).Idx → α) (y : (⟨3, ![1, a, b]⟩ : Shape).Idx → α) (start : Fin 3 → ℤ)
    (hf : (⟨3, ![n, a, b]⟩ : Shape).Slices (fun _ => 0) ⟨3, ![1, a, b]⟩)
    (j : Fin n) (h0 : start 0 = (j.val : ℤ)) (h1 : start 1 = 0) (h2 : start 2 = 0) (i : Fin n) (p : Fin a) (q : Fin b) :
    Host.dynamicUpdateSlice x y start hf (ix3 i p q) = if i = j then y (ix3 0 p q) else x (ix3 i p q) := by
  have hk : (⟨3, ![n, a, b]⟩ : Shape).Slices (![j.val, 0, 0] : Fin 3 → ℕ) ⟨3, ![1, a, b]⟩ :=
    ⟨rfl, fun d => match d with
      | ⟨0, _⟩ => j.isLt
      | ⟨1, _⟩ => (Nat.zero_add a).le
      | ⟨2, _⟩ => (Nat.zero_add b).le⟩
  rw [WordCmp.dynamicUpdateSlice_eq_update x y start hf (![j.val, 0, 0] : Fin 3 → ℕ) hk
    (fun d => match d with | ⟨0, _⟩ => h0 | ⟨1, _⟩ => h1 | ⟨2, _⟩ => h2)]
  unfold updateSlice
  by_cases hn : i = j
  · subst hn
    rw [if_pos rfl, dif_pos]
    · congr 1
      funext d
      apply Fin.ext
      match d with
      | ⟨0, _⟩ => exact Nat.sub_self i.val
      | ⟨1, _⟩ => exact Nat.sub_zero p.val
      | ⟨2, _⟩ => exact Nat.sub_zero q.val
    · exact fun d => match d with
        | ⟨0, _⟩ => ⟨le_rfl, Nat.lt_succ_self _⟩
        | ⟨1, _⟩ => ⟨Nat.zero_le _, by show p.val < 0 + a; omega⟩
        | ⟨2, _⟩ => ⟨Nat.zero_le _, by show q.val < 0 + b; omega⟩
  · rw [if_neg hn, dif_neg]
    intro hh
    have h0 : j.val ≤ i.val ∧ i.val < j.val + 1 := hh 0
    exact hn (Fin.ext (by omega))

end Cert.Trips

end
-- ==== Proof.GlfLoop.lean ====
/-
  The reference's loop over the chunks of the gated linear attention: the state before each trip, and the outputs it has written.
-/
module

public import proofs.«01_k».proof.Proof.GlfLoopData
public import proofs.«01_k».proof.Proof.GlfRun
public import proofs.«01_k».proof.Proof.Trips

@[expose] public section

noncomputable section

namespace Cert.GlfReferenceIdeal.Step

open Cert.GlfReferenceIdeal.Loop (iter)
open Cert.GlfReferenceIdeal Cert.GlfReferenceIdeal.Gen Idealize.ShloMosaic Idealize.ShloMosaic.TcCoe
open Cert.Numbers Cert.Words Cert.Finite

section Slices

variable (j : Fin 65) (s : State Ideal)

theorem word_trip : (BitVec.ofNat 32 j.val).toInt = (j.val : ℤ) := WordCmp.toInt_ofNat_of_lt (by omega)

theorem b4_at (h : Fin 4) (i : Fin 64) (k : Fin 128) : b4 (F := Ideal) j.val s (ix3 h i k) = s.main_v74_0 (ix4 j h i k) := by
  pointwise [b4]
  exact Trips.slice4 s.main_v74_0 _ _ j (word_trip j) rfl rfl rfl h i k

theorem b9_at (h : Fin 4) (i : Fin 64) (k : Fin 128) : b9 (F := Ideal) j.val s (ix3 h i k) = s.main_v74_1 (ix4 j h i k) := by
  pointwise [b9]
  exact Trips.slice4 s.main_v74_1 _ _ j (word_trip j) rfl rfl rfl h i k

theorem b14_at (h : Fin 4) (i : Fin 64) (v : Fin 256) : b14 (F := Ideal) j.val s (ix3 h i v) = s.main_v74_2 (ix4 j h i v) := by
  pointwise [b14]
  exact Trips.slice4 s.main_v74_2 _ _ j (word_trip j) rfl rfl rfl h i v

theorem b18_at (h : Fin 4) (k : Fin 128) : b18 (F := Ideal) j.val s (ix2 h k) = s.main_v74_3 (ix3 j h k) := by
  pointwise [b18]
  exact Trips.slice3 s.main_v74_3 _ _ j (word_trip j) rfl rfl h k

theorem b23_at (h : Fin 4) (i l : Fin 64) : b23 (F := Ideal) j.val s (ix3 h i l) = s.main_v74_4 (ix4 j h i l) := by
  pointwise [b23]
  exact Trips.slice4 s.main_v74_4 _ _ j (word_trip j) rfl rfl rfl h i l

/-- A trip writes its chunk of the outputs and leaves the others. -/
theorem b36_at (n : Fin 65) (h : Fin 4) (i : Fin 64) (v : Fin 256) :
    b36 (F := Ideal) j.val s (ix4 n h i v) = if n = j then b26 (F := Ideal) j.val s (ix3 h i v) else s.main_v74_7 (ix4 n h i v) := by
  refine (Trips.update4 s.main_v74_7 (b32 (F := Ideal) j.val s) _ _ j (word_trip j) rfl rfl rfl n h i v).trans ?_
  refine if_congr Iff.rfl ?_ rfl
  pointwise [b32]

end Slices

variable (p : Vec Ideal S4112x3088 .f32) (w : Vec Ideal S16x512 .f32) (b : Vec Ideal S512 .f32)

/-- The arrays the trips read stay what they are. -/
theorem iter_kept (n : ℕ) : (iter p w b n).main_v74_0 = A_main_v68 p w b ∧ (iter p w b n).main_v74_1 = A_main_v69 p w b ∧
    (iter p w b n).main_v74_2 = A_main_v70 p w b ∧ (iter p w b n).main_v74_3 = A_main_v71 p w b ∧ (iter p w b n).main_v74_4 = A_main_v72 p w b := by
  induction n with
  | zero => exact ⟨rfl, rfl, rfl, rfl, rfl⟩
  | succ n ih => exact ih

variable (hp : ∀ i, IsReal (p i)) (hw : ∀ i, IsReal (w i)) (hb : ∀ i, IsReal (b i))
include hp hw hb

theorem q_trip (j : Fin 65) (h : Fin 4) (i : Fin 64) (k : Fin 128) :
    b4 (F := Ideal) j.val (iter p w b j.val) (ix3 h i k) = Gla.qd (GlaRows.Q p (j.val + 1)) (GlaRows.G p w b (j.val + 1)) h i k := by
  rw [b4_at, (iter_kept p w b j.val).1]
  pointwise [A_main_v68]
  exact qd_at p w b hp hw hb h j i k

theorem k_trip (j : Fin 65) (h : Fin 4) (i : Fin 64) (k : Fin 128) :
    b9 (F := Ideal) j.val (iter p w b j.val) (ix3 h i k) = Gla.kd (GlaRows.K p (j.val + 1)) (GlaRows.G p w b (j.val + 1)) h i k := by
  rw [b9_at, (iter_kept p w b j.val).2.1]
  pointwise [A_main_v69]
  exact kd_at p w b hp hw hb h j i k

omit hp hw hb in
theorem v_trip (j : Fin 65) (h : Fin 4) (i : Fin 64) (v : Fin 256) :
    b14 (F := Ideal) j.val (iter p w b j.val) (ix3 h i v) = GlaRows.V p (j.val + 1) h i v := by
  rw [b14_at, (iter_kept p w b j.val).2.2.1]
  pointwise [A_main_v70]
  exact v_at p w b h j i v

theorem decay_trip (j : Fin 65) (h : Fin 4) (k : Fin 128) :
    b18 (F := Ideal) j.val (iter p w b j.val) (ix2 h k) = Ideal.exp (Gla.tot (GlaRows.G p w b (j.val + 1)) h k) := by
  rw [b18_at, (iter_kept p w b j.val).2.2.2.1]
  exact decay_at p w b hp hw hb h j k

theorem att_trip (j : Fin 65) (h : Fin 4) (i l : Fin 64) :
    b23 (F := Ideal) j.val (iter p w b j.val) (ix3 h i l)
      = Gla.att (GlaRows.Q p (j.val + 1)) (GlaRows.K p (j.val + 1)) (GlaRows.G p w b (j.val + 1)) h i l := by
  rw [b23_at, (iter_kept p w b j.val).2.2.2.2]
  pointwise [A_main_v72]
  exact att_at p w b hp hw hb h j i l

/-- The state before trip `n` is the state before chunk `n + 1`. -/
theorem state_at (n : ℕ) (hn : n ≤ 65) (h : Fin 4) (k : Fin 128) (v : Fin 256) :
    (iter p w b n).main_v74_6 (ix3 h k v) = GlaRows.state p w b (n + 1) h k v := by
  induction n generalizing h k v with
  | zero =>
    rw [GlaRows.state_one]
    show K_main_v67 (F := Ideal) (ix3 h k v) = 0
    pointwise [K_main_v67, K_main_cst_8]
  | succ n ih =>
    have hj : n < 65 := hn
    show b31 (F := Ideal) n (iter p w b n) (ix3 h k v) = Gla.next _ _ _ (GlaRows.state p w b (n + 1)) h k v
    pointwise [b31, b29, b28, b27, b30]
    unfold Gla.next
    rw [ih (by omega), decay_trip p w b hp hw hb ⟨n, hj⟩]
    refine congrArg (_ + ·) (Finset.sum_congr rfl fun i _ => ?_)
    rw [k_trip p w b hp hw hb ⟨n, hj⟩, v_trip p w b ⟨n, hj⟩]

/-- What a trip writes. -/
theorem read_at (j : Fin 65) (h : Fin 4) (i : Fin 64) (v : Fin 256) :
    b26 (F := Ideal) j.val (iter p w b j.val) (ix3 h i v) = GlaRows.read p w b (j.val + 1) h i v := by
  pointwise [b26, b25, b24]
  unfold GlaRows.read Gla.raw
  refine congrArg₂ (· + ·) (Finset.sum_congr rfl fun l _ => ?_) (Finset.sum_congr rfl fun k _ => ?_)
  · rw [att_trip p w b hp hw hb j, v_trip p w b j]
  · rw [q_trip p w b hp hw hb j, state_at p w b hp hw hb j.val (by omega)]

/-- The outputs before trip `n`: those of the trips before it. -/
theorem outputs_at (n : ℕ) (hn : n ≤ 65) (j : Fin 65) (hj : j.val < n) (h : Fin 4) (i : Fin 64) (v : Fin 256) :
    (iter p w b n).main_v74_7 (ix4 j h i v) = GlaRows.read p w b (j.val + 1) h i v := by
  induction n with
  | zero => omega
  | succ n ih =>
    have hlt : n < 65 := hn
    refine (b36_at ⟨n, hlt⟩ (iter p w b n) j h i v).trans ?_
    by_cases e : j = ⟨n, hlt⟩
    · rw [if_pos e]
      subst e
      exact read_at p w b hp hw hb ⟨n, hlt⟩ h i v
    · rw [if_neg e]
      refine ih (by omega) ?_
      have : j.val ≠ n := fun h => e (Fin.ext h)
      omega

end Cert.GlfReferenceIdeal.Step
end
-- ==== Proof.GlfReference.lean ====
/-
  The result of the reference of the gated linear attention, at a row of chunk `q` and a lane of a head.
-/
module

public import proofs.«01_k».proof.Proof.GlfLoop
public import Idealize.ShloMosaic.Lib.KernelVsHost

@[expose] public section

noncomputable section

namespace Cert.GlfReferenceIdeal.Step

open Cert.GlfReferenceIdeal.Loop (iter)
open Cert.GlfReferenceIdeal Cert.GlfReferenceIdeal.Gen Idealize.ShloMosaic Idealize.ShloMosaic.TcCoe
open Cert.Numbers Cert.Words Cert.Finite

variable (p : Vec Ideal S4112x3088 .f32) (w : Vec Ideal S16x512 .f32) (b : Vec Ideal S512 .f32) (nw : Vec Ideal S256 .f32)

theorem word0 : (FloatOps.sitofp (F := Ideal) .f32 (0#32 : BitVec 32) : EReal) = 0 := by
  show (((0#32 : BitVec 32).toInt : ℝ) : EReal) = 0
  simp

variable (hp : ∀ i, IsReal (p i)) (hw : ∀ i, IsReal (w i)) (hb : ∀ i, IsReal (b i))
include hp hw hb

/-- What the loop leaves at the row of chunk `q` the result reads. -/
theorem row_read (q : Fin 66) (h : Fin 4) (i : Fin 64) (hq : ¬ q.val * 64 + i.val < 112) (h1 : (48 + (q.val * 64 + i.val - 112)) / 64 < 65)
    (h2 : (48 + (q.val * 64 + i.val - 112)) % 64 < 64) (v : Fin 256) :
    (iter p w b 65).main_v74_7 (ix4 ⟨(48 + (q.val * 64 + i.val - 112)) / 64, h1⟩ h ⟨(48 + (q.val * 64 + i.val - 112)) % 64, h2⟩ v)
      = GlaRows.read p w b q.val h i v := by
  have e1 : (48 + (q.val * 64 + i.val - 112)) / 64 = q.val - 1 := by omega
  have e2 : (48 + (q.val * 64 + i.val - 112)) % 64 = i.val := by omega
  have e3 : q.val - 1 + 1 = q.val := by omega
  have hq1 : q.val - 1 < 65 := by omega
  have key := outputs_at p w b hp hw hb 65 le_rfl ⟨q.val - 1, hq1⟩ hq1 h i v
  rw [show ((⟨q.val - 1, hq1⟩ : Fin 65).val + 1) = q.val from e3] at key
  refine (congrArg (iter p w b 65).main_v74_7 ?_).trans key
  exact congrArg₂ (fun x y => ix4 x h y v) (Fin.ext e1) (Fin.ext e2)

/-- The reference's result. -/
theorem result_at (q : Fin 66) (h : Fin 4) (i : Fin 64) (v : Fin 256) :
    R_main_v97 (F := Ideal) (iter p w b 65) p nw (ix2 (⟨q.val * 64 + i.val, by omega⟩ : Fin 4224) (⟨h.val * 256 + v.val, by omega⟩ : Fin 1024))
      = GlaRows.out p w b nw q.val h i v := by
  unfold R_main_v97
  by_cases hq : q.val * 64 + i.val < 112
  · rw [GlaRows.out_pad _ _ _ _ _ _ _ _ hq]
    refine (pad_apply_of_not_inside _ _ _ _ _ _ _ (ix2 _ _) 0 ?_).trans word0
    intro hh
    have h0 : (112 : ℕ) ≤ q.val * 64 + i.val := hh.1
    omega
  · refine (pad_apply_of_inside _ _ _ _ _ _ _ (ix2 _ _)
      (ix2 (⟨q.val * 64 + i.val - 112, by omega⟩ : Fin 4112) (⟨h.val * 256 + v.val, by omega⟩ : Fin 1024)) ?_).trans ?_
    · intro a
      match a with
      | ⟨0, _⟩ => show q.val * 64 + i.val = 112 + (q.val * 64 + i.val - 112) * (0 + 1); omega
      | ⟨1, _⟩ => show h.val * 256 + v.val = 0 + (h.val * 256 + v.val) * (0 + 1); omega
    · pointwise
      unfold GlaRows.out Gla.gated GlaRows.gate
      simp only [row_read p w b hp hw hb q h i hq, GlaRows.rowAt_of p (q.val * 64 + i.val) (by omega) (by omega)]
      rfl

end Cert.GlfReferenceIdeal.Step
end
-- ==== Proof.GlfClaims.lean ====
/-
  The claims about the forward kernel of the gated linear attention and its reference.
-/
module

public import proofs.«01_k».proof.Defs
public import proofs.«01_k».proof.Proof.GlfArray
public import proofs.«01_k».proof.Proof.GlfReference
public import proofs.«01_k».proof.Proof.Gen.GlfKernel.Frame

@[expose] public section

noncomputable section

namespace Cert.GlfClaims

open Idealize.ShloMosaic Idealize.ShloMosaic.TcCoe Idealize.SL.Sem
open Cert.Numbers Cert.Finite

/-- The shapes of the precondition fit. -/
theorem facts_pre : Cert.Pre_glf_finite.Facts := ⟨by decide, by decide, by decide, by decide⟩

/-- The kernel runs without fault, keeps its arguments and leaves every counter at zero. -/
theorem frame_kernel : Cert.quiescent_GlfKernel := fun m ρ _ => Cert.GlfKernel.Gen.frame m ρ

/-- So does its ideal program. -/
theorem frame_ideal : Cert.quiescent_GlfKernelIdeal := fun m ρ _ => Cert.GlfKernelIdeal.Gen.frame m ρ

/-- So does the reference. -/
theorem frame_reference : Cert.quiescent_GlfReferenceIdeal := fun m ρ _ =>
  (θ_run _ _ _).mono (fun r h => ⟨fun c => (h c).2, sem_eq_zero_of_no_sems (by decide) r.2⟩) (Cert.GlfReferenceIdeal.Loop.run_loop m ρ)

/-- The kernel's array and the reference's are equal where the projections, the gate's weights and its bias are real numbers. -/
theorem arrays_eq (m : (ℓ : Loc Cert.GlfKernelIdeal.nD Cert.GlfKernelIdeal.τ Cert.GlfKernelIdeal.sig) → Buf (Elt Ideal) ℓ) (c : Dev Cert.GlfKernelIdeal.nD)
    (hp : ∀ i, IsReal (Cert.GlfKernelIdeal.Value.pOf m c i)) (hw : ∀ i, IsReal (Cert.GlfKernelIdeal.Value.wOf m c i))
    (hb : ∀ i, IsReal (Cert.GlfKernelIdeal.Value.bOf m c i)) :
    (Cert.GlfKernelIdeal.Gen.dats m 0 c).arrAt 8 Cert.GlfKernelIdeal.cfg0.N
      = Cert.GlfReferenceIdeal.Step.R_main_v97 (F := Ideal)
          (Cert.GlfReferenceIdeal.Loop.iter (Cert.GlfKernelIdeal.Value.pOf m c) (Cert.GlfKernelIdeal.Value.wOf m c) (Cert.GlfKernelIdeal.Value.bOf m c) 65)
          (Cert.GlfKernelIdeal.Value.pOf m c) (Cert.GlfKernelIdeal.Value.nOf m c) := by
  funext x
  have h0 : (x 0).val < 4224 := (x 0).isLt
  have h1 : (x 1).val < 1024 := (x 1).isLt
  have e : x = (ix2 (⟨(x 0).val / 64 * 64 + (x 0).val % 64, by omega⟩ : Fin 4224)
      (⟨(x 1).val / 256 * 256 + (x 1).val % 256, by omega⟩ : Fin 1024) : (⟨2, ![4224, 1024]⟩ : Shape).Idx) := by
    funext b
    exact match b with
      | ⟨0, _⟩ => Fin.ext (by show (x 0).val = (x 0).val / 64 * 64 + (x 0).val % 64; omega)
      | ⟨1, _⟩ => Fin.ext (by show (x 1).val = (x 1).val / 256 * 256 + (x 1).val % 256; omega)
  rw [e]
  exact (Cert.GlfKernelIdeal.Value.array_at m c hp hw hb ⟨(x 0).val / 64, by omega⟩ ⟨(x 1).val / 256, by omega⟩ ⟨(x 0).val % 64, by omega⟩
      ⟨(x 1).val % 256, by omega⟩).trans
    (Cert.GlfReferenceIdeal.Step.result_at _ _ _ _ hp hw hb ⟨(x 0).val / 64, by omega⟩ ⟨(x 1).val / 256, by omega⟩ ⟨(x 0).val % 64, by omega⟩
      ⟨(x 1).val % 256, by omega⟩).symm

/-- The kernel and the reference compute the same gated linear attention where the projections, the gate's weights and its bias
    are real numbers. -/
theorem algebraic : Cert.algebraic_GlfKernelIdeal_GlfReferenceIdeal_pre_glf_finite (hPre_glf_finite := facts_pre) :=
  fun m g m' g' hpre hargs =>
  ⟨fun c => (Cert.GlfKernelIdeal.Gen.dats m 0 c).arrAt 8 Cert.GlfKernelIdeal.cfg0.N,
   (θ_run _ _ _).mono (fun r h c => ⟨(h c).1, (h c).2.2⟩) (Cert.GlfKernelIdeal.Value.run_blocks m g),
   (θ_run _ _ _).mono (fun r h c => by
      obtain ⟨r0, hk⟩ := h c
      obtain ⟨e0, e1, e2, e3⟩ := hargs c
      obtain ⟨p0, p1, p2⟩ := hpre c
      refine ⟨r0.trans ?_, hk⟩
      dsimp only [Cert.GlfReferenceIdeal.Loop.states]
      rw [e0, e1, e2, e3]
      exact (arrays_eq m c (real_of_pre _ _ (fun _ => f32_inf) p0) (real_of_pre _ _ (fun _ => f32_inf) p1)
          (real_of_pre _ _ (fun _ => f32_inf) p2)).symm)
    (Cert.GlfReferenceIdeal.Loop.run_loop m' g')⟩

end Cert.GlfClaims

end
-- ==== Proof.Gdn.lean ====
/-
  The gated delta rule over the reals, by rows and by chunks of 64 rows.

  By rows: the state is scaled by the row's decay, and the row's key times the update's value is added; the update's value is what the
  row's value differs from what the scaled state says of the row's key, times the row's strength.

  By chunks: the updates' values of a chunk solve a triangular system whose right-hand side depends on the state before the chunk, and
  the inverse of the system's matrix is a product of doublings, since the matrix without its diagonal has vanishing 64th power.
-/
module

public import Mathlib.Data.Matrix.Mul
public import Mathlib.Analysis.SpecialFunctions.Exp
public import Mathlib.Tactic.Ring
public import Mathlib.Tactic.Linarith
public import Mathlib.Tactic.NoncommRing

@[expose] public section

noncomputable section

namespace Cert.Gdn

variable (k v : ℕ → Fin 128 → ℝ) (g b : ℕ → ℝ) (S : Fin 128 → Fin 128 → ℝ)

/-- The update's value of row `n` over the state `s` before it. -/
def upd (s : Fin 128 → Fin 128 → ℝ) (n : ℕ) (c : Fin 128) : ℝ := (v n c - ∑ a, s a c * Real.exp (g n) * k n a) * b n

/-- The state before row `n`, from the state `S`. -/
def st : ℕ → Fin 128 → Fin 128 → ℝ
  | 0 => S
  | n + 1 => fun a c => st n a c * Real.exp (g n) + k n a * upd k v g b (st n) n c

/-- The update's value of row `n`. -/
def dv (n : ℕ) (c : Fin 128) : ℝ := upd k v g b (st k v g b S n) n c

/-- What the query `q` of row `n` reads: the state after the row. -/
def rd (q : Fin 128 → ℝ) (n : ℕ) (c : Fin 128) : ℝ := ∑ a, st k v g b S (n + 1) a c * q a

/-- The rows from `m` on are a sequence of their own. -/
theorem st_add (m n : ℕ) :
    st k v g b S (m + n) = st (fun i => k (m + i)) (fun i => v (m + i)) (fun i => g (m + i)) (fun i => b (m + i)) (st k v g b S m) n := by
  induction n with
  | zero => rfl
  | succ n ih =>
    rw [← Nat.add_assoc]
    unfold st
    rw [ih]
    rfl

/-- The logarithm of the decay over the first `n` rows. -/
def cs (n : ℕ) : ℝ := ∑ j ∈ Finset.range n, g j

theorem cs_succ (n : ℕ) : cs g (n + 1) = cs g n + g n := Finset.sum_range_succ _ _

/-- The state before row `n` is the first state and the updates, each with its decay. -/
theorem st_eq (n : ℕ) (a c : Fin 128) :
    st k v g b S n a c = S a c * Real.exp (cs g n) + ∑ j ∈ Finset.range n, k j a * Real.exp (cs g n - cs g (j + 1)) * dv k v g b S j c := by
  induction n with
  | zero => simp [st, cs]
  | succ n ih =>
    show st k v g b S n a c * Real.exp (g n) + k n a * dv k v g b S n c = _
    rw [ih, Finset.sum_range_succ, sub_self, Real.exp_zero, mul_one, cs_succ, Real.exp_add, add_mul, Finset.sum_mul, ← add_assoc]
    refine congrArg (· + _) (congrArg₂ (· + ·) (by ring) (Finset.sum_congr rfl fun j _ => ?_))
    rw [show cs g n + g n - cs g (j + 1) = (cs g n - cs g (j + 1)) + g n by ring, Real.exp_add]
    ring

/-- The update's value of a row, in terms of those of the rows before it. -/
theorem dv_eq (n : ℕ) (c : Fin 128) :
    dv k v g b S n c + ∑ j ∈ Finset.range n, (∑ a, k n a * b n * k j a) * Real.exp (cs g (n + 1) - cs g (j + 1)) * dv k v g b S j c
      = v n c * b n - ∑ a, k n a * b n * Real.exp (cs g (n + 1)) * S a c := by
  have e : ∑ a, st k v g b S n a c * Real.exp (g n) * k n a
      = (∑ a, k n a * Real.exp (cs g (n + 1)) * S a c)
        + ∑ j ∈ Finset.range n, (∑ a, k n a * k j a) * Real.exp (cs g (n + 1) - cs g (j + 1)) * dv k v g b S j c := by
    simp only [Finset.sum_mul]
    rw [Finset.sum_comm, ← Finset.sum_add_distrib]
    refine Finset.sum_congr rfl fun a _ => ?_
    rw [st_eq, add_mul, add_mul, Finset.sum_mul, Finset.sum_mul, cs_succ, Real.exp_add]
    refine congrArg₂ (· + ·) (by ring) (Finset.sum_congr rfl fun j _ => ?_)
    rw [show cs g n + g n - cs g (j + 1) = (cs g n - cs g (j + 1)) + g n by ring, Real.exp_add]
    ring
  have e2 : dv k v g b S n c = (v n c - ∑ a, st k v g b S n a c * Real.exp (g n) * k n a) * b n := rfl
  have e3 : ∑ a, k n a * b n * Real.exp (cs g (n + 1)) * S a c = b n * ∑ a, k n a * Real.exp (cs g (n + 1)) * S a c := by
    rw [Finset.mul_sum]; exact Finset.sum_congr rfl fun a _ => by ring
  have e4 : ∑ j ∈ Finset.range n, (∑ a, k n a * b n * k j a) * Real.exp (cs g (n + 1) - cs g (j + 1)) * dv k v g b S j c
      = b n * ∑ j ∈ Finset.range n, (∑ a, k n a * k j a) * Real.exp (cs g (n + 1) - cs g (j + 1)) * dv k v g b S j c := by
    rw [Finset.mul_sum]
    refine Finset.sum_congr rfl fun j _ => ?_
    rw [show ∑ a, k n a * b n * k j a = b n * ∑ a, k n a * k j a by rw [Finset.mul_sum]; exact Finset.sum_congr rfl fun a _ => by ring]
    ring
  rw [e2, e3, e4, e]
  ring

/-! ## The inverse by doubling -/

variable (A : Matrix (Fin 64) (Fin 64) ℝ)

/-- The doublings. -/
def pw : ℕ → Matrix (Fin 64) (Fin 64) ℝ
  | 0 => A
  | m + 1 => pw m * pw m

/-- The product of the doublings. -/
def iv : ℕ → Matrix (Fin 64) (Fin 64) ℝ
  | 0 => 1 - A
  | m + 1 => iv m + iv m * pw A (m + 1)

theorem pw_eq (m : ℕ) : pw A m = A ^ 2 ^ m := by
  induction m with
  | zero => simp [pw]
  | succ m ih => rw [pw, ih, ← pow_add]; congr 1; rw [pow_succ]; ring

theorem iv_mul (m : ℕ) : iv A m * (1 + A) = 1 - A ^ 2 ^ (m + 1) := by
  induction m with
  | zero => rw [iv]; simp only [zero_add, pow_one, pow_two]; noncomm_ring
  | succ m ih =>
    have hc : pw A (m + 1) * (1 + A) = (1 + A) * pw A (m + 1) := by
      rw [pw_eq, mul_add, add_mul, mul_one, one_mul, ← pow_succ, ← pow_succ']
    rw [iv, add_mul, mul_assoc, hc, ← mul_assoc, ih, pw_eq, sub_mul, one_mul, ← pow_add, show 2 ^ (m + 1) + 2 ^ (m + 1) = 2 ^ (m + 1 + 1) by rw [pow_succ 2 (m + 1)]; ring]
    abel

theorem pow_zero_of (hA : ∀ i j : Fin 64, i ≤ j → A i j = 0) (n : ℕ) (i j : Fin 64) (h : i.val < j.val + n) : (A ^ n) i j = 0 := by
  induction n generalizing i j with
  | zero => rw [pow_zero, Matrix.one_apply_ne (by intro e; subst e; omega)]
  | succ n ih =>
    rw [pow_succ, Matrix.mul_apply]
    refine Finset.sum_eq_zero fun l _ => ?_
    by_cases hl : i.val < l.val + n
    · rw [ih i l hl, zero_mul]
    · rw [hA l j (by rw [Fin.le_def]; omega), mul_zero]

/-- A strictly lower matrix: the product of the doublings is the inverse of one plus it. -/
theorem iv_inv (hA : ∀ i j : Fin 64, i ≤ j → A i j = 0) : iv A 5 * (1 + A) = 1 := by
  rw [iv_mul, show (2 : ℕ) ^ (5 + 1) = 64 by norm_num, sub_eq_self]
  ext i j
  rw [pow_zero_of A hA 64 i j (by omega), Matrix.zero_apply]

/-! ## A chunk -/

/-- The decay from row `j` to row `i`. -/
def gam (i j : Fin 64) : ℝ := Real.exp ((cs g (i.val + 1) - cs g (j.val + 1)) * (if j ≤ i then 1 else 0)) * (if j ≤ i then 1 else 0)

/-- The strictly lower matrix of the updates. -/
def low : Matrix (Fin 64) (Fin 64) ℝ := fun i j =>
  (∑ a, k i.val a * b i.val * k j.val a) * gam g i j * (if j < i then 1 else 0)

theorem low_zero (i j : Fin 64) (h : i ≤ j) : low k g b i j = 0 := by
  unfold low
  rw [if_neg (not_lt.mpr h), mul_zero]

/-- The updates' values, through the inverse. -/
def new (i : Fin 64) (c : Fin 128) : ℝ :=
  (∑ j, iv (low k g b) 5 i j * (v j.val c * b j.val))
    - ∑ a, (∑ j, iv (low k g b) 5 i j * (k j.val a * b j.val * Real.exp (cs g (j.val + 1)))) * S a c

theorem gam_le (i j : Fin 64) (h : j ≤ i) : gam g i j = Real.exp (cs g (i.val + 1) - cs g (j.val + 1)) := by
  unfold gam; rw [if_pos h, mul_one, mul_one]

theorem gam_gt (i j : Fin 64) (h : ¬ j ≤ i) : gam g i j = 0 := by
  unfold gam; rw [if_neg h, mul_zero]

/-- A sum over the rows before row `i`. -/
theorem sum_before (i : Fin 64) (f : ℕ → ℝ) : ∑ j ∈ Finset.range i.val, f j = ∑ j : Fin 64, if j < i then f j.val else 0 := by
  refine Eq.trans ?_ ((Fin.sum_univ_eq_sum_range (fun j => if j < i.val then f j else 0) 64).symm.trans (Finset.sum_congr rfl fun j _ => if_congr Iff.rfl rfl rfl))
  rw [← Finset.sum_filter]
  refine Finset.sum_congr ?_ fun _ _ => rfl
  ext j
  simp only [Finset.mem_range, Finset.mem_filter]
  omega

/-- A sum over the rows up to row `i`. -/
theorem sum_upto (i : Fin 64) (f : ℕ → ℝ) : ∑ j ∈ Finset.range (i.val + 1), f j = ∑ j : Fin 64, if j ≤ i then f j.val else 0 := by
  refine Eq.trans ?_ ((Fin.sum_univ_eq_sum_range (fun j => if j ≤ i.val then f j else 0) 64).symm.trans (Finset.sum_congr rfl fun j _ => if_congr Iff.rfl rfl rfl))
  rw [← Finset.sum_filter]
  refine Finset.sum_congr ?_ fun _ _ => rfl
  ext j
  simp only [Finset.mem_range, Finset.mem_filter]
  omega

/-- They are the updates' values of the rows. -/
theorem new_eq (i : Fin 64) (c : Fin 128) : new k v g b S i c = dv k v g b S i.val c := by
  let D : Matrix (Fin 64) (Fin 128) ℝ := fun j c => dv k v g b S j.val c
  let W : Matrix (Fin 64) (Fin 128) ℝ := fun j a => k j.val a * b j.val * Real.exp (cs g (j.val + 1))
  let V : Matrix (Fin 64) (Fin 128) ℝ := fun j c => v j.val c * b j.val
  let T : Matrix (Fin 128) (Fin 128) ℝ := S
  have h : (1 + low k g b) * D = V - W * T := by
    refine Matrix.ext fun j c => ?_
    rw [Matrix.add_mul, Matrix.one_mul, Matrix.add_apply, Matrix.sub_apply, Matrix.mul_apply, Matrix.mul_apply]
    refine Eq.trans (congrArg (D j c + ·) ?_) (dv_eq k v g b S j.val c)
    rw [sum_before]
    refine Finset.sum_congr rfl fun l _ => ?_
    show (∑ a, k j.val a * b j.val * k l.val a) * gam g j l * (if l < j then 1 else 0) * dv k v g b S l.val c = _
    by_cases hl : l < j
    · rw [if_pos hl, if_pos hl, mul_one, gam_le g j l hl.le]
    · rw [if_neg hl, if_neg hl, mul_zero, zero_mul]
  have h2 : D = iv (low k g b) 5 * V - iv (low k g b) 5 * W * T := by
    rw [Matrix.mul_assoc, ← Matrix.mul_sub, ← h, ← Matrix.mul_assoc, iv_inv _ (low_zero k g b), Matrix.one_mul]
  exact (congrFun (congrFun h2 i) c).symm

/-- What the query of row `i` reads, by the chunk. -/
theorem rd_eq (q : Fin 128 → ℝ) (i : Fin 64) (c : Fin 128) :
    (∑ a, q a * Real.exp (cs g (i.val + 1)) * S a c) + ∑ j, (∑ a, q a * k j.val a) * gam g i j * new k v g b S j c
      = rd k v g b S q i.val c := by
  unfold rd
  simp only [st_eq, add_mul, Finset.sum_add_distrib, Finset.sum_mul]
  refine congrArg₂ (· + ·) (Finset.sum_congr rfl fun a _ => by ring) ?_
  rw [Finset.sum_comm]
  refine Finset.sum_congr rfl fun a _ => ?_
  rw [sum_upto]
  refine Finset.sum_congr rfl fun j _ => ?_
  rw [new_eq]
  by_cases hj : j ≤ i
  · rw [if_pos hj, gam_le g i j hj]; ring
  · rw [if_neg hj, gam_gt g i j hj, mul_zero, zero_mul]

/-- The state after the chunk. -/
theorem next_eq (a c : Fin 128) :
    S a c * Real.exp (cs g 64) + ∑ j : Fin 64, k j.val a * Real.exp (cs g 64 - cs g (j.val + 1)) * new k v g b S j c = st k v g b S 64 a c := by
  rw [st_eq, ← Fin.sum_univ_eq_sum_range (fun j => k j a * Real.exp (cs g 64 - cs g (j + 1)) * dv k v g b S j c) 64]
  refine congrArg (_ + ·) (Finset.sum_congr rfl fun j _ => ?_)
  rw [new_eq]

end Cert.Gdn

end
-- ==== Proof.GdnRow.lean ====
/-
  The gated delta rule's queries, keys, values, decays and strengths of one row over the extended reals, and their real values.
-/
module

public import proofs.«01_k».proof.Proof.LogSig

@[expose] public section

noncomputable section

namespace Cert.GdnRow

open Idealize.ShloMosaic Cert.Numbers Cert.Finite Cert.LogSig

/-- The logistic function times its argument. -/
def silu (x : EReal) : EReal := x * Ideal.logistic x

/-- An entry of a row divided by the row's length. -/
def unitRow (x : Fin 128 → EReal) (n : Fin 128) : EReal := x n * Ideal.rsqrt ((∑ m, x m * x m) + Ideal.ofBits .f32 0x358637BD#32)

/-- The scale of the queries. -/
def scale : EReal := Ideal.ofBits .f32 0x3DB504F3#32

variable (y : Fin 1536 → EReal)

def q (h : Fin 4) (n : Fin 128) : EReal := unitRow (fun m => silu (y ⟨h.val * 128 + m.val, by omega⟩)) n * scale
def k (h : Fin 4) (n : Fin 128) : EReal := unitRow (fun m => silu (y ⟨512 + h.val * 128 + m.val, by omega⟩)) n
def v (h : Fin 4) (n : Fin 128) : EReal := silu (y ⟨1024 + h.val * 128 + n.val, by omega⟩)

/-- The logarithm of a decay. -/
def decay (al x : EReal) : EReal := -Ideal.exp al * softp x

/-- A row of one head, normed and gated. -/
def gated (o z w : Fin 128 → EReal) (n : Fin 128) : EReal :=
  o n * Ideal.rsqrt (Ideal.div (∑ m : Fin 128, o m * o m) (Ideal.ofBits .f32 0x43000000#32) + Ideal.ofBits .f32 0x358637BD#32) * w n * silu (z n)

/-- A row whose gate is zero is zero. -/
theorem gated_zero (o z w : Fin 128 → EReal) (n : Fin 128) (h : z n = 0) : gated o z w n = 0 := by
  unfold gated silu
  rw [h, zero_mul, mul_zero]

theorem isReal_logistic {x : EReal} (h : IsReal x) : IsReal (Ideal.logistic x) := by
  obtain ⟨r, rfl⟩ := h
  exact ⟨sig r, div_sig r⟩

theorem isReal_silu {x : EReal} (h : IsReal x) : IsReal (silu x) := h.mul (isReal_logistic h)

theorem isReal_unitRow (x : Fin 128 → EReal) (h : ∀ n, IsReal (x n)) (n : Fin 128) : IsReal (unitRow x n) := by
  choose r hr using h
  obtain ⟨e, he, e'⟩ := f32_eps
  unfold unitRow
  simp only [hr, e', ← EReal.coe_mul, coe_sum, ← EReal.coe_add]
  rw [rsqrt_real (by have := Finset.sum_nonneg fun m (_ : m ∈ Finset.univ) => mul_self_nonneg (r m); linarith)]
  exact ⟨_, (EReal.coe_mul _ _).symm⟩

theorem isReal_scale : IsReal scale := ⟨_, by unfold scale; simp [Ideal.ofBits, Ideal.ieee, -EReal.coe_mul]; rfl⟩

theorem isReal_decay {al x : EReal} (ha : IsReal al) (hx : IsReal x) : IsReal (decay al x) := (isReal_exp ha).neg.mul (isReal_softp hx)

section Real

variable (hy : ∀ n, IsReal (y n))
include hy

theorem isReal_q (h : Fin 4) (n : Fin 128) : IsReal (q y h n) := (isReal_unitRow _ (fun _ => isReal_silu (hy _)) n).mul isReal_scale
theorem isReal_k (h : Fin 4) (n : Fin 128) : IsReal (k y h n) := isReal_unitRow _ (fun _ => isReal_silu (hy _)) n
theorem isReal_v (h : Fin 4) (n : Fin 128) : IsReal (v y h n) := isReal_silu (hy _)

end Real

/-- The number of an extended real that is a real number. -/
theorem coe_of {x : EReal} (h : IsReal x) : x = ((x.toReal : ℝ) : EReal) := by
  obtain ⟨r, rfl⟩ := h
  rfl

/-- The logistic function as the kernel writes it. -/
theorem half_logistic {x : EReal} (h : IsReal x) :
    Ideal.ofBits .f32 0x3F000000#32 * (Ideal.tanh (Ideal.ofBits .f32 0x3F000000#32 * x) + 1) = Ideal.logistic x := by
  obtain ⟨r, rfl⟩ := h
  rw [f32_half, tanh_sig]
  exact (div_sig r).symm

/-- A product with the logistic function as the kernel writes it. -/
theorem silu_kernel {x : EReal} (h : IsReal x) :
    x * (Ideal.ofBits .f32 0x3F000000#32 * (Ideal.tanh (Ideal.ofBits .f32 0x3F000000#32 * x) + 1)) = silu x := by
  rw [half_logistic h]; rfl

end Cert.GdnRow

end
-- ==== Proof.GdnRows.lean ====
/-
  The gated delta rule over a sequence of 4112 rows, 112 rows of zeros in front of them: the queries, keys, values, decays and strengths
  of a row, the state before it and the row of the output.
-/
module

public import proofs.«01_k».proof.Proof.Gdn
public import proofs.«01_k».proof.Proof.GdnRow
public import Idealize.ShloMosaic.Lib.Pointwise

@[expose] public section

noncomputable section

namespace Cert.GdnRows

open Idealize.ShloMosaic Cert.Numbers Cert.Finite Cert.LogSig

variable (P : (⟨2, ![4112, 2824]⟩ : Shape).Idx → EReal) (Y : (⟨2, ![4112, 1536]⟩ : Shape).Idx → EReal)
  (Al Dt : (⟨1, ![4]⟩ : Shape).Idx → EReal) (Nw : (⟨1, ![128]⟩ : Shape).Idx → EReal)

/-- Row `n` of a padded array. -/
def rowAt {w : ℕ} (X : (⟨2, ![4112, w]⟩ : Shape).Idx → EReal) (n : ℕ) (c : Fin w) : EReal :=
  if h : 112 ≤ n ∧ n < 4224 then X (ix2 ⟨n - 112, by omega⟩ c) else 0

theorem rowAt_of {w : ℕ} (X : (⟨2, ![4112, w]⟩ : Shape).Idx → EReal) (n : ℕ) (h : 112 ≤ n) (h' : n < 4224) (c : Fin w) :
    rowAt X n c = X (ix2 ⟨n - 112, by omega⟩ c) := dif_pos ⟨h, h'⟩

theorem rowAt_pad {w : ℕ} (X : (⟨2, ![4112, w]⟩ : Shape).Idx → EReal) (n : ℕ) (h : n < 112) (c : Fin w) : rowAt X n c = 0 := dif_neg (by omega)

theorem isReal_rowAt {w : ℕ} (X : (⟨2, ![4112, w]⟩ : Shape).Idx → EReal) (hx : ∀ i, IsReal (X i)) (n : ℕ) (c : Fin w) : IsReal (rowAt X n c) := by
  unfold rowAt
  split
  · exact hx _
  · exact isReal_zero

/-- The queries, keys, values, logarithms of decays and strengths of head `h` by rows. -/
def Q (h : Fin 4) (n : ℕ) (a : Fin 128) : ℝ := (GdnRow.q (rowAt Y n) h a).toReal
def K (h : Fin 4) (n : ℕ) (a : Fin 128) : ℝ := (GdnRow.k (rowAt Y n) h a).toReal
def V (h : Fin 4) (n : ℕ) (a : Fin 128) : ℝ := (GdnRow.v (rowAt Y n) h a).toReal
def G (h : Fin 4) (n : ℕ) : ℝ := if 112 ≤ n then (GdnRow.decay (Al (ix1 h)) (rowAt P n ⟨2820 + h.val, by omega⟩ + Dt (ix1 h))).toReal else 0
def B (h : Fin 4) (n : ℕ) : ℝ := (Ideal.logistic (rowAt P n ⟨2816 + h.val, by omega⟩)).toReal

/-- The state of head `h` before row `n`. -/
def state (h : Fin 4) (n : ℕ) : Fin 128 → Fin 128 → ℝ := Gdn.st (K Y h) (V Y h) (G P Al Dt h) (B P h) (fun _ _ => 0) n

/-- What the query of row `n` reads. -/
def read (h : Fin 4) (n : ℕ) (c : Fin 128) : ℝ := Gdn.rd (K Y h) (V Y h) (G P Al Dt h) (B P h) (fun _ _ => 0) (Q Y h n) n c

/-- The row of the output. -/
def out (h : Fin 4) (n : ℕ) (c : Fin 128) : EReal :=
  GdnRow.gated (fun c => (read P Y Al Dt h n c : EReal)) (fun c => rowAt P n ⟨2304 + (h.val * 128 + c.val), by omega⟩) (fun c => Nw (ix1 c)) c

/-- The keys on the padding are zero. -/
theorem K_pad (h : Fin 4) (n : ℕ) (hn : n < 112) (a : Fin 128) : K Y h n a = 0 := by
  unfold K GdnRow.k GdnRow.unitRow GdnRow.silu
  beta_reduce
  rw [rowAt_pad Y n hn, zero_mul, zero_mul]
  rfl

/-- The state is zero up to the end of the padding. -/
theorem state_pad (h : Fin 4) (n : ℕ) (hn : n ≤ 112) : state P Y Al Dt h n = fun _ _ => 0 := by
  induction n with
  | zero => rfl
  | succ n ih =>
    funext a c
    have e := ih (by omega)
    unfold state at e ⊢
    rw [Gdn.st, e]
    beta_reduce
    rw [K_pad Y h n (by omega), zero_mul, zero_mul, add_zero]

theorem state_succ (h : Fin 4) (n : ℕ) (a c : Fin 128) :
    state P Y Al Dt h (n + 1) a c = state P Y Al Dt h n a c * Real.exp (G P Al Dt h n)
      + K Y h n a * ((V Y h n c - ∑ a, state P Y Al Dt h n a c * Real.exp (G P Al Dt h n) * K Y h n a) * B P h n) := rfl

theorem read_eq (h : Fin 4) (n : ℕ) (c : Fin 128) : read P Y Al Dt h n c = ∑ a, state P Y Al Dt h (n + 1) a c * Q Y h n a := rfl

/-- The output on the padding is zero. -/
theorem out_pad (h : Fin 4) (n : ℕ) (c : Fin 128) (hn : n < 112) : out P Y Al Dt Nw h n c = 0 :=
  GdnRow.gated_zero _ _ _ _ (rowAt_pad P n hn _)

/-- The state by chunks, and what a chunk's queries read. -/
theorem state_chunk (h : Fin 4) (m : ℕ) :
    Gdn.st (fun i => K Y h (m + i)) (fun i => V Y h (m + i)) (fun i => G P Al Dt h (m + i)) (fun i => B P h (m + i)) (state P Y Al Dt h m) 64
      = state P Y Al Dt h (m + 64) := (Gdn.st_add _ _ _ _ _ m 64).symm

theorem read_chunk (h : Fin 4) (m i : ℕ) (c : Fin 128) :
    Gdn.rd (fun i => K Y h (m + i)) (fun i => V Y h (m + i)) (fun i => G P Al Dt h (m + i)) (fun i => B P h (m + i)) (state P Y Al Dt h m) (Q Y h (m + i)) i c
      = read P Y Al Dt h (m + i) c := by
  unfold Gdn.rd
  rw [read_eq]
  refine Finset.sum_congr rfl fun a _ => congrArg (· * _) ?_
  exact (congrFun (congrFun (Gdn.st_add (K Y h) (V Y h) (G P Al Dt h) (B P h) (fun _ _ => 0) m (i + 1)) a) c).symm

section Real

variable (hp : ∀ i, IsReal (P i)) (hy : ∀ i, IsReal (Y i)) (ha : ∀ i, IsReal (Al i)) (hd : ∀ i, IsReal (Dt i))

include hy in
theorem coe_Q (h : Fin 4) (n : ℕ) (a : Fin 128) : GdnRow.q (rowAt Y n) h a = (Q Y h n a : EReal) := GdnRow.coe_of (GdnRow.isReal_q _ (fun _ => isReal_rowAt Y hy _ _) h a)
include hy in
theorem coe_K (h : Fin 4) (n : ℕ) (a : Fin 128) : GdnRow.k (rowAt Y n) h a = (K Y h n a : EReal) := GdnRow.coe_of (GdnRow.isReal_k _ (fun _ => isReal_rowAt Y hy _ _) h a)
include hy in
theorem coe_V (h : Fin 4) (n : ℕ) (a : Fin 128) : GdnRow.v (rowAt Y n) h a = (V Y h n a : EReal) := GdnRow.coe_of (GdnRow.isReal_v _ (fun _ => isReal_rowAt Y hy _ _) h a)
include hp in
theorem coe_B (h : Fin 4) (n : ℕ) : Ideal.logistic (rowAt P n ⟨2816 + h.val, by omega⟩) = (B P h n : EReal) :=
  GdnRow.coe_of (GdnRow.isReal_logistic (isReal_rowAt P hp _ _))
include hp ha hd in
theorem coe_G (h : Fin 4) (n : ℕ) :
    GdnRow.decay (Al (ix1 h)) (rowAt P n ⟨2820 + h.val, by omega⟩ + Dt (ix1 h)) * (if 112 ≤ n then 1 else 0) = (G P Al Dt h n : EReal) := by
  unfold G
  by_cases hn : 112 ≤ n
  · rw [if_pos hn, if_pos hn, mul_one]
    exact GdnRow.coe_of (GdnRow.isReal_decay (ha _) ((isReal_rowAt P hp _ _).add (hd _)))
  · rw [if_neg hn, if_neg hn, mul_zero, EReal.coe_zero]

end Real

end Cert.GdnRows

end
-- ==== Proof.DnfChunk.lean ====
/-
  One chunk of 64 rows of the gated delta rule, as the kernel computes it from the chunk's rows and the state before it: the block of
  the output it writes and the state it hands on. The six chunks of a grid point are this one function of the six row ranges.
-/
module

public import proofs.«01_k».proof.Proof.Rows
public import proofs.«01_k».proof.Proof.Gen.DnfKernelIdeal.Value

@[expose] public section

noncomputable section

namespace Cert.DnfKernelIdeal.Value

open Cert.DnfKernelIdeal Cert.DnfKernelIdeal.Gen Idealize.ShloMosaic Idealize.ShloMosaic.TcCoe Idealize.SL.Sem

variable {F : FTy → Type} [FloatOps F]

/-- The numbers of the lanes. -/
def lanes : IVec S1x128 32 := iota .tc S1x128 32 [1] iota_S1x128_d1_w32

/-- The lanes that hold a head. -/
def headLanes : IVec S1x128 1 := k0_pay23 lanes

/-- The rows of chunk `k` of grid point `n` that hold a token, as numbers. -/
def rowMask (n k : BitVec 32) : FVec F S64x1 .f32 :=
  sitofp .f32 (extui 32 (cmpi .sge (addi (broadcast S64x1 (Scalar.muli (Scalar.addi (Scalar.muli 6#32 n) k) 64#32))
    (iota .tc S64x1 32 [0] iota_S64x1_d0_w32)) (broadcast S64x1 112#32)) natLt_1_32)

/-- The mask of the rows up to the query's own. -/
def upTo : FVec F S64x64 .f32 := k0_pay14 k0_pay13

/-- The mask of the rows before the query's own. -/
def before : FVec F S64x64 .f32 := k0_pay15 (iota .tc S64x64 32 [0] iota_S64x64_d0_w32) (iota .tc S64x64 32 [1] iota_S64x64_d1_w32)

/-- The unit matrix. -/
def unit : FVec F S64x64 .f32 := k0_pay16 (iota .tc S64x64 32 [0] iota_S64x64_d0_w32) (iota .tc S64x64 32 [1] iota_S64x64_d1_w32)

/-- The zero word. -/
def zero : F .f32 := Scalar.ofBits .f32 0x00000000#32

/-- The running sums of the logarithms of the decays, head by head. -/
def chunkGc (sm : FVec F S64x128 .f32) (al dt : FVec F S1x128 .f32) (rows : FVec F S64x1 .f32) : FVec F S4x64x1 .f32 :=
  k0_pay32 lanes (k0_pay27 rows headLanes (k0_pay24 sm al dt) zero) (k0_pay29 rows lanes headLanes (k0_pay24 sm al dt) zero)
    (k0_pay30 rows lanes headLanes (k0_pay24 sm al dt) zero) (k0_pay31 lanes) zero

/-- The sums of the logarithms of the decays over the chunk, head by head. -/
def chunkSum (sm : FVec F S64x128 .f32) (al dt : FVec F S1x128 .f32) (rows : FVec F S64x1 .f32) : FVec F S4x1x1 .f32 :=
  k0_pay38 lanes (k0_pay28 rows headLanes (k0_pay24 sm al dt) zero)

/-- The strengths of the updates, head by head. -/
def chunkBeta (sm : FVec F S64x128 .f32) : FVec F S4x64x1 .f32 :=
  k0_pay37 (k0_pay26 sm) (k0_pay33 lanes (k0_pay26 sm)) (k0_pay34 lanes (k0_pay26 sm)) (k0_pay35 lanes (k0_pay26 sm)) (k0_pay36 lanes) zero

/-- The keys. -/
def chunkK (y : FVec F S64x1536 .f32) : FVec F S4x64x128 .f32 := k0_pay21 (k0_pay18 y) (k0_pay19 y) k0_pay20

/-- The decays from one row to another. -/
def chunkGamma (gc : FVec F S4x64x1 .f32) : FVec F S4x64x64 .f32 := k0_pay40 upTo gc (k0_pay39 unit gc)

/-- The strictly lower matrix of the updates. -/
def chunkA (k : FVec F S4x64x128 .f32) (gc beta : FVec F S4x64x1 .f32) : FVec F S4x64x64 .f32 :=
  k0_pay43 upTo before k gc beta (k0_pay39 unit gc)

/-- A product of stacked matrices in three products of halves. -/
def split3 (x y : FVec F S4x64x64 .f32) : FVec F S4x64x64 .f32 :=
  addf (matmul dot_S4x64x64_S4x64x64_S4x64x64_2_1_1_2_0_0 none (truncf .bf16 x bitsLt_bf16_f32) (truncf .bf16 y bitsLt_bf16_f32) (constant S4x64x64 .f32 0x00000000#32))
    (addf
      (matmul dot_S4x64x64_S4x64x64_S4x64x64_2_1_1_2_0_0 none (truncf .bf16 x bitsLt_bf16_f32)
        (truncf .bf16 (subf y (extf .f32 (truncf .bf16 y bitsLt_bf16_f32) bitsLt_bf16_f32)) bitsLt_bf16_f32) (constant S4x64x64 .f32 0x00000000#32))
      (matmul dot_S4x64x64_S4x64x64_S4x64x64_2_1_1_2_0_0 none
        (truncf .bf16 (subf x (extf .f32 (truncf .bf16 x bitsLt_bf16_f32) bitsLt_bf16_f32)) bitsLt_bf16_f32)
        (truncf .bf16 y bitsLt_bf16_f32) (constant S4x64x64 .f32 0x00000000#32)))

/-- The matrix squared again and again. -/
def power (a : FVec F S4x64x64 .f32) : ℕ → FVec F S4x64x64 .f32
  | 0 => a
  | m + 1 => split3 (power a m) (power a m)

/-- The inverse of one plus the matrix, by doubling. -/
def inverse (a : FVec F S4x64x64 .f32) : ℕ → FVec F S4x64x64 .f32
  | 0 => subf (broadcastTo S4x64x64 (shapeCast S1x64x64 unit shapeCasts_S64x64_S1x64x64) broadcasts_S1x64x64_S4x64x64) a
  | m + 1 => addf (inverse a m) (split3 (inverse a m) (power a (m + 1)))

/-- The inverse's product with a matrix of 256 columns, in three products of halves. -/
def split3w (x : FVec F S4x64x64 .f32) (y : FVec F S4x64x256 .f32) : FVec F S4x64x256 .f32 :=
  addf (matmul dot_S4x64x64_S4x64x256_S4x64x256_2_1_1_2_0_0 none (truncf .bf16 x bitsLt_bf16_f32) (truncf .bf16 y bitsLt_bf16_f32) (constant S4x64x256 .f32 0x00000000#32))
    (addf
      (matmul dot_S4x64x64_S4x64x256_S4x64x256_2_1_1_2_0_0 none (truncf .bf16 x bitsLt_bf16_f32)
        (truncf .bf16 (subf y (extf .f32 (truncf .bf16 y bitsLt_bf16_f32) bitsLt_bf16_f32)) bitsLt_bf16_f32) (constant S4x64x256 .f32 0x00000000#32))
      (matmul dot_S4x64x64_S4x64x256_S4x64x256_2_1_1_2_0_0 none
        (truncf .bf16 (subf x (extf .f32 (truncf .bf16 x bitsLt_bf16_f32) bitsLt_bf16_f32)) bitsLt_bf16_f32)
        (truncf .bf16 y bitsLt_bf16_f32) (constant S4x64x256 .f32 0x00000000#32)))

/-- The scaled values and the scaled decayed keys, side by side. -/
def chunkVK (k v : FVec F S4x64x128 .f32) (gc beta : FVec F S4x64x1 .f32) : FVec F S4x64x256 .f32 :=
  concatenate S4x64x256 2 [⟨S4x64x128, k0_pay42 v beta⟩,
    ⟨S4x64x128, mulf (k0_pay41 k beta) (broadcastTo S4x64x128 (k0_pay64 gc) broadcasts_S4x64x1_S4x64x128)⟩] concatenates_S4x64x128_S4x64x128_S4x64x256_d2

/-- The updates' values, given the inverse's product. -/
def newOf (uw : FVec F S4x64x256 .f32) (s : FVec F S4x128x128 .f32) : FVec F S4x64x128 .f32 :=
  subf (extractStridedSlice S4x64x128 ![0, 0, 0] uw slices_S4x64x256_o0_0_0_S4x64x128)
    (matmul dot_S4x64x128_S4x128x128_S4x64x128_2_1_1_2_0_0 none
      (truncf .bf16 (extractStridedSlice S4x64x128 ![0, 0, 128] uw slices_S4x64x256_o0_0_128_S4x64x128) bitsLt_bf16_f32)
      (truncf .bf16 s bitsLt_bf16_f32) (constant S4x64x128 .f32 0x00000000#32))

/-- The updates' values of the chunk. -/
def chunkNew (k v : FVec F S4x64x128 .f32) (gc beta : FVec F S4x64x1 .f32) (s : FVec F S4x128x128 .f32) : FVec F S4x64x128 .f32 :=
  newOf (split3w (inverse (chunkA k gc beta) 5) (chunkVK k v gc beta)) s

/-- What the chunk's queries read, given the updates' values. -/
def rawOf (q k : FVec F S4x64x128 .f32) (gc : FVec F S4x64x1 .f32) (gamma : FVec F S4x64x64 .f32) (d : FVec F S4x64x128 .f32) (s : FVec F S4x128x128 .f32) :
    FVec F S4x64x128 .f32 :=
  addf (matmul dot_S4x64x128_S4x128x128_S4x64x128_2_1_1_2_0_0 none
      (truncf .bf16 (mulf q (broadcastTo S4x64x128 (k0_pay64 gc) broadcasts_S4x64x1_S4x64x128)) bitsLt_bf16_f32)
      (truncf .bf16 s bitsLt_bf16_f32) (constant S4x64x128 .f32 0x00000000#32))
    (matmul dot_S4x64x64_S4x64x128_S4x64x128_2_1_1_2_0_0 none
      (truncf .bf16 (mulf (matmul dot_S4x64x128_S4x64x128_S4x64x64_2_2_1_1_0_0 none (truncf .bf16 q bitsLt_bf16_f32) (truncf .bf16 k bitsLt_bf16_f32)
        (constant S4x64x64 .f32 0x00000000#32)) gamma) bitsLt_bf16_f32)
      (truncf .bf16 d bitsLt_bf16_f32) (constant S4x64x128 .f32 0x00000000#32))

/-- The chunk's block of the output. -/
def chunkOut (y : FVec F S64x1536 .f32) (z : FVec F S64x512 .f32) (nw : FVec F S1x128 .f32) (gc beta : FVec F S4x64x1 .f32) (s : FVec F S4x128x128 .f32) :
    FVec F S64x512 .f32 :=
  k0_pay70 z nw (rawOf (k0_pay17 y) (chunkK y) gc (chunkGamma gc) (chunkNew (chunkK y) (k0_pay22 y) gc beta s) s)

/-- The state after the chunk. -/
def chunkState (y : FVec F S64x1536 .f32) (gc beta : FVec F S4x64x1 .f32) (gl : FVec F S4x1x1 .f32) (s : FVec F S4x128x128 .f32) : FVec F S4x128x128 .f32 :=
  k0_pay69 s (k0_pay65 (chunkK y) gc gl) (chunkNew (chunkK y) (k0_pay22 y) gc beta s) (k0_pay68 gl)

/-- Rows `64 k … 64 k + 63` of a block of 384. -/
def part (w : ℕ) (x : Vec F (⟨2, ![384, w]⟩ : Shape) .f32) (k : Fin 6) : Vec F (⟨2, ![64, w]⟩ : Shape) .f32 :=
  View.ld x (Rect.unit (s := (⟨2, ![384, w]⟩ : Shape)) ![64 * k.val, 0] (⟨2, ![64, w]⟩ : Shape).size
    (by intro a; match a with | ⟨0, _⟩ => show 64 * k.val + 64 ≤ 384; omega | ⟨1, _⟩ => show 0 + w ≤ w; omega))

/-- The running sums of a grid point's chunk `k`. -/
def ptGc (i : grid0.Coords) (x2 : Vec F S384x128 .f32) (x3 x4 : Vec F S1x128 .f32) (k : Fin 6) : FVec F S4x64x1 .f32 :=
  chunkGc (k0_pay8 (part 128 x2 k)) (k0_pay9 x3) (k0_pay10 x4) (rowMask (BitVec.ofNat 32 (i 0).val) (BitVec.ofNat 32 k.val))

/-- The sums over a grid point's chunk `k`. -/
def ptSum (i : grid0.Coords) (x2 : Vec F S384x128 .f32) (x3 x4 : Vec F S1x128 .f32) (k : Fin 6) : FVec F S4x1x1 .f32 :=
  chunkSum (k0_pay8 (part 128 x2 k)) (k0_pay9 x3) (k0_pay10 x4) (rowMask (BitVec.ofNat 32 (i 0).val) (BitVec.ofNat 32 k.val))

/-- A grid point's block `k` of the output over the state before it. -/
def ptOut (i : grid0.Coords) (x0 : Vec F S384x1536 .f32) (x1 : Vec F S384x512 .f32) (x2 : Vec F S384x128 .f32) (x3 x4 x5 : Vec F S1x128 .f32) (k : Fin 6)
    (s : FVec F S4x128x128 .f32) : FVec F S64x512 .f32 :=
  chunkOut (k0_pay6 (part 1536 x0 k)) (k0_pay7 (part 512 x1 k)) (k0_pay11 x5) (ptGc i x2 x3 x4 k) (chunkBeta (k0_pay8 (part 128 x2 k))) s

/-- The state after a grid point's chunk `k` over the state before it. -/
def ptState (i : grid0.Coords) (x0 : Vec F S384x1536 .f32) (x2 : Vec F S384x128 .f32) (x3 x4 : Vec F S1x128 .f32) (k : Fin 6)
    (s : FVec F S4x128x128 .f32) : FVec F S4x128x128 .f32 :=
  chunkState (k0_pay6 (part 1536 x0 k)) (ptGc i x2 x3 x4 k) (chunkBeta (k0_pay8 (part 128 x2 k))) (ptSum i x2 x3 x4 k) s

/-- The state before a grid point's chunk `k`. -/
def ptBefore (i : grid0.Coords) (x0 : Vec F S384x1536 .f32) (x2 : Vec F S384x128 .f32) (x3 x4 : Vec F S1x128 .f32)
    (s : FVec F S4x128x128 .f32) : ℕ → FVec F S4x128x128 .f32
  | 0 => s
  | k + 1 => if h : k < 6 then ptState i x0 x2 x3 x4 ⟨k, h⟩ (ptBefore i x0 x2 x3 x4 s k) else ptBefore i x0 x2 x3 x4 s k

end Cert.DnfKernelIdeal.Value
end
-- ==== Proof.DnfKernelValue.lean ====
/-
  What one chunk of the gated delta rule's forward call computes over the extended reals, up to its triangular system: the running sums
  of the logarithms of the decays, the strengths of the updates, the queries, the keys and the values.
-/
module

public import proofs.«01_k».proof.Proof.MaskSums
public import proofs.«01_k».proof.Proof.Heads
public import proofs.«01_k».proof.Proof.GdnRow
public import proofs.«01_k».proof.Proof.DnfChunk

@[expose] public section

noncomputable section

namespace Cert.DnfKernelIdeal.Value

open Cert.DnfKernelIdeal Cert.DnfKernelIdeal.Gen Idealize.ShloMosaic Idealize.ShloMosaic.TcCoe Idealize.SL.Sem
open Cert.Numbers Cert.Words Cert.Finite Cert.LogSig Cert.MaskSums

variable (sm : FVec Ideal S64x128 .f32) (al dt : FVec Ideal S1x128 .f32) (rows : FVec Ideal S64x1 .f32)

/-- The logarithm of a decay, before the padding is masked. -/
theorem pay24 (i : Fin 64) (n : Fin 128) :
    k0_pay24 (F := Ideal) sm al dt (ix2 i n) = GdnRow.decay (al (ix2 0 n)) (sm (ix2 i n) + dt (ix2 0 n)) := by
  pointwise [k0_pay24]
  rw [softp_cases _ _ Iff.rfl, zero_sub]
  rfl

/-- The masked logarithms of the decays on a head's lane. -/
theorem pay25 (h : Fin 4) (i : Fin 64) :
    k0_pay25 (F := Ideal) rows headLanes (k0_pay24 sm al dt) zero (ix2 i ⟨h.val, by omega⟩)
      = GdnRow.decay (al (ix2 0 ⟨h.val, by omega⟩)) (sm (ix2 i ⟨h.val, by omega⟩) + dt (ix2 0 ⟨h.val, by omega⟩)) * rows (ix2 i 0) := by
  pointwise [k0_pay25, headLanes, k0_pay23, lanes]
  rw [pay24, show (4#32 : BitVec 32) = wd 4 from rfl, wd_nat, cmp_slt (by omega) (by omega), if_pos (by omega)]
  rfl

section Sums

variable (hr : ∀ h i, IsReal (k0_pay25 (F := Ideal) rows headLanes (k0_pay24 sm al dt) zero (ix2 i ⟨(h : Fin 4).val, by omega⟩)))
include hr

theorem pay27 (h : Fin 4) (i : Fin 64) :
    k0_pay27 (F := Ideal) rows headLanes (k0_pay24 sm al dt) zero (ix2 i ⟨h.val, by omega⟩)
      = ∑ j : Fin 64, if j ≤ i then k0_pay25 (F := Ideal) rows headLanes (k0_pay24 sm al dt) zero (ix2 j ⟨h.val, by omega⟩) else 0 := by
  pointwise [k0_pay27]
  exact sum_masked _ (fun j => hr h j) i

/-- The running sums of a head. -/
theorem chunkGc_at (h : Fin 4) (i : Fin 64) :
    chunkGc (F := Ideal) sm al dt rows (ix3 h i 0)
      = ∑ j : Fin 64, if j ≤ i then k0_pay25 (F := Ideal) rows headLanes (k0_pay24 sm al dt) zero (ix2 j ⟨h.val, by omega⟩) else 0 := by
  refine Eq.trans ?_ (pay27 sm al dt rows hr h i)
  match h with
  | ⟨0, _⟩ => pointwise [chunkGc, k0_pay32, k0_pay29, k0_pay30, k0_pay31, lanes, Stack.stack4]; exact sum_pick _ 0 (by norm_num) _ (by first | rfl | exact f32_zero)
  | ⟨1, _⟩ => pointwise [chunkGc, k0_pay32, k0_pay29, k0_pay30, k0_pay31, lanes, Stack.stack4]; exact sum_pick _ 1 (by norm_num) _ (by first | rfl | exact f32_zero)
  | ⟨2, _⟩ => pointwise [chunkGc, k0_pay32, k0_pay29, k0_pay30, k0_pay31, lanes, Stack.stack4]; exact sum_pick _ 2 (by norm_num) _ (by first | rfl | exact f32_zero)
  | ⟨3, _⟩ => pointwise [chunkGc, k0_pay32, k0_pay29, k0_pay30, k0_pay31, lanes, Stack.stack4]; exact sum_pick _ 3 (by norm_num) _ (by first | rfl | exact f32_zero)

end Sums

/-- The sum over the chunk of a head. -/
theorem chunkSum_at (h : Fin 4) :
    chunkSum (F := Ideal) sm al dt rows (ix3 h 0 0) = ∑ i : Fin 64, k0_pay25 (F := Ideal) rows headLanes (k0_pay24 sm al dt) zero (ix2 i ⟨h.val, by omega⟩) := by
  match h with
  | ⟨0, _⟩ =>
    pointwise [chunkSum, k0_pay38, k0_pay28, lanes, Stack.stack4]
    exact sum_pick (fun x => ∑ j : Fin 64, k0_pay25 (F := Ideal) rows headLanes (k0_pay24 sm al dt) zero (ix2 j x)) 0 (by norm_num) _ rfl
  | ⟨1, _⟩ =>
    pointwise [chunkSum, k0_pay38, k0_pay28, lanes, Stack.stack4]
    exact sum_pick (fun x => ∑ j : Fin 64, k0_pay25 (F := Ideal) rows headLanes (k0_pay24 sm al dt) zero (ix2 j x)) 1 (by norm_num) _ rfl
  | ⟨2, _⟩ =>
    pointwise [chunkSum, k0_pay38, k0_pay28, lanes, Stack.stack4]
    exact sum_pick (fun x => ∑ j : Fin 64, k0_pay25 (F := Ideal) rows headLanes (k0_pay24 sm al dt) zero (ix2 j x)) 2 (by norm_num) _ rfl
  | ⟨3, _⟩ =>
    pointwise [chunkSum, k0_pay38, k0_pay28, lanes, Stack.stack4]
    exact sum_pick (fun x => ∑ j : Fin 64, k0_pay25 (F := Ideal) rows headLanes (k0_pay24 sm al dt) zero (ix2 j x)) 3 (by norm_num) _ rfl

/-- The strength of an update. -/
theorem chunkBeta_at (h : Fin 4) (i : Fin 64) (hs : IsReal (sm (ix2 i ⟨4 + h.val, by omega⟩))) :
    chunkBeta (F := Ideal) sm (ix3 h i 0) = Ideal.logistic (sm (ix2 i ⟨4 + h.val, by omega⟩)) := by
  refine Eq.trans ?_ (GdnRow.half_logistic hs)
  have e : ∀ n, k0_pay26 (F := Ideal) sm (ix2 i n) = Ideal.ofBits .f32 0x3F000000#32 * (Ideal.tanh (Ideal.ofBits .f32 0x3F000000#32 * sm (ix2 i n)) + 1) := fun n => by
    pointwise [k0_pay26]
  refine Eq.trans ?_ (e _)
  match h with
  | ⟨0, _⟩ => pointwise [chunkBeta, k0_pay37, k0_pay33, k0_pay34, k0_pay35, k0_pay36, lanes, Stack.stack4]; exact sum_pick _ 4 (by norm_num) _ (by first | rfl | exact f32_zero)
  | ⟨1, _⟩ => pointwise [chunkBeta, k0_pay37, k0_pay33, k0_pay34, k0_pay35, k0_pay36, lanes, Stack.stack4]; exact sum_pick _ 5 (by norm_num) _ (by first | rfl | exact f32_zero)
  | ⟨2, _⟩ => pointwise [chunkBeta, k0_pay37, k0_pay33, k0_pay34, k0_pay35, k0_pay36, lanes, Stack.stack4]; exact sum_pick _ 6 (by norm_num) _ (by first | rfl | exact f32_zero)
  | ⟨3, _⟩ => pointwise [chunkBeta, k0_pay37, k0_pay33, k0_pay34, k0_pay35, k0_pay36, lanes, Stack.stack4]; exact sum_pick _ 7 (by norm_num) _ (by first | rfl | exact f32_zero)

variable (y : FVec Ideal S64x1536 .f32) (hy : ∀ i, IsReal (y i))
include hy

/-- The queries. -/
theorem pay17 (h : Fin 4) (i : Fin 64) (n : Fin 128) : k0_pay17 (F := Ideal) y (ix3 h i n) = GdnRow.q (fun c => y (ix2 i c)) h n := by
  unfold GdnRow.q GdnRow.unitRow GdnRow.scale
  match h with
  | ⟨0, _⟩ => pointwise [k0_pay17, Stack.stack4]; simp only [GdnRow.silu_kernel (hy _)]
  | ⟨1, _⟩ => pointwise [k0_pay17, Stack.stack4]; simp only [GdnRow.silu_kernel (hy _)]
  | ⟨2, _⟩ => pointwise [k0_pay17, Stack.stack4]; simp only [GdnRow.silu_kernel (hy _)]
  | ⟨3, _⟩ => pointwise [k0_pay17, Stack.stack4]; simp only [GdnRow.silu_kernel (hy _)]

/-- The keys. -/
theorem chunkK_at (h : Fin 4) (i : Fin 64) (n : Fin 128) : chunkK (F := Ideal) y (ix3 h i n) = GdnRow.k (fun c => y (ix2 i c)) h n := by
  unfold GdnRow.k GdnRow.unitRow
  match h with
  | ⟨0, _⟩ => pointwise [chunkK, k0_pay21, k0_pay19, k0_pay18, k0_pay20, Stack.stack4]; simp only [GdnRow.silu_kernel (hy _)]
  | ⟨1, _⟩ => pointwise [chunkK, k0_pay21, k0_pay19, k0_pay18, k0_pay20, Stack.stack4]; simp only [GdnRow.silu_kernel (hy _)]
  | ⟨2, _⟩ => pointwise [chunkK, k0_pay21, k0_pay19, k0_pay18, k0_pay20, Stack.stack4]; simp only [GdnRow.silu_kernel (hy _)]
  | ⟨3, _⟩ => pointwise [chunkK, k0_pay21, k0_pay19, k0_pay18, k0_pay20, Stack.stack4]; simp only [GdnRow.silu_kernel (hy _)]

/-- The values. -/
theorem pay22 (h : Fin 4) (i : Fin 64) (n : Fin 128) : k0_pay22 (F := Ideal) y (ix3 h i n) = GdnRow.v (fun c => y (ix2 i c)) h n := by
  unfold GdnRow.v
  match h with
  | ⟨0, _⟩ => pointwise [k0_pay22, Stack.stack4]; simp only [GdnRow.silu_kernel (hy _)]
  | ⟨1, _⟩ => pointwise [k0_pay22, Stack.stack4]; simp only [GdnRow.silu_kernel (hy _)]
  | ⟨2, _⟩ => pointwise [k0_pay22, Stack.stack4]; simp only [GdnRow.silu_kernel (hy _)]
  | ⟨3, _⟩ => pointwise [k0_pay22, Stack.stack4]; simp only [GdnRow.silu_kernel (hy _)]

end Cert.DnfKernelIdeal.Value
end
-- ==== Proof.DnfChunkValue.lean ====
/-
  What one chunk of the gated delta rule's forward call computes: over real operands its triangular inverse, its updates' values, what its
  queries read and the state it hands on are those of the delta rule by chunks.
-/
module

public import proofs.«01_k».proof.Proof.DnfKernelValue
public import proofs.«01_k».proof.Proof.Gdn

@[expose] public section

noncomputable section

namespace Cert.DnfKernelIdeal.Value

open Cert.DnfKernelIdeal Cert.DnfKernelIdeal.Gen Idealize.ShloMosaic Idealize.ShloMosaic.TcCoe Idealize.SL.Sem
open Cert.Numbers Cert.Words Cert.Finite Cert.MaskSums

theorem coe_bit (p : Prop) [Decidable p] : ((if p then (1 : ℝ) else 0 : ℝ) : EReal) = if p then 1 else 0 := by split <;> simp

theorem upTo_at (i j : Fin 64) : upTo (F := Ideal) (ix2 i j) = ((if j ≤ i then (1 : ℝ) else 0 : ℝ) : EReal) := by
  pointwise [upTo, k0_pay14, k0_pay13]
  rw [wd_nat, wd_nat, cmp_sge (by omega) (by omega), coe_bit]
  refine (bit_number _).trans (if_congr ?_ rfl rfl)
  rw [Fin.le_def]; omega

theorem before_at (i j : Fin 64) : before (F := Ideal) (ix2 i j) = ((if j < i then (1 : ℝ) else 0 : ℝ) : EReal) := by
  pointwise [before, k0_pay15]
  rw [wd_nat, wd_nat, show IntOp.cmpi .sgt (wd (i.val : ℤ)) (wd (j.val : ℤ)) = IntOp.cmpi .slt (wd (j.val : ℤ)) (wd (i.val : ℤ)) from rfl, cmp_slt (by omega) (by omega), coe_bit]
  refine (bit_number _).trans (if_congr ?_ rfl rfl)
  rw [Fin.lt_def]; omega

theorem unit_at (i j : Fin 64) : unit (F := Ideal) (ix2 i j) = ((if i = j then (1 : ℝ) else 0 : ℝ) : EReal) := by
  pointwise [unit, k0_pay16]
  rw [coe_bit]
  refine (congrArg (fun b => FloatOps.sitofp (F := Ideal) FTy.f32 (BitVec.setWidth 32 b)) (cmp_lane ⟨i.val, by omega⟩ j.val (by omega))).trans
    ((bit_number _).trans (if_congr ?_ rfl rfl))
  rw [Fin.ext_iff, Fin.ext_iff]

section Split

variable {n : ℕ} (x : Fin n → EReal) (y : Fin n → EReal) (X Y : Fin n → ℝ) (hx : ∀ l, x l = (X l : EReal)) (hy : ∀ l, y l = (Y l : EReal))
include hx hy

/-- A sum of products of reals. -/
theorem sum_real : ∑ l, x l * y l = ((∑ l, X l * Y l : ℝ) : EReal) := by
  simp only [hx, hy, ← EReal.coe_mul, coe_sum]

/-- A sum in three products of halves. -/
theorem sum_split : ∑ l, x l * y l + (∑ l, x l * (y l - y l) + ∑ l, (x l - x l) * y l) = ((∑ l, X l * Y l : ℝ) : EReal) := by
  rw [← sum_real x y X Y hx hy]
  simp only [sub_self_real ⟨_, hx _⟩, sub_self_real ⟨_, hy _⟩, mul_zero, zero_mul, Finset.sum_const_zero, add_zero]

end Split

/-- A product in three products of halves, over the reals. -/
theorem split3_at (x y : FVec Ideal S4x64x64 .f32) (X Y : Fin 4 → Matrix (Fin 64) (Fin 64) ℝ) (hx : ∀ h i j, x (ix3 h i j) = (X h i j : EReal))
    (hy : ∀ h i j, y (ix3 h i j) = (Y h i j : EReal)) (h : Fin 4) (i j : Fin 64) : split3 (F := Ideal) x y (ix3 h i j) = ((X h * Y h) i j : ℝ) := by
  pointwise [split3]
  exact sum_split _ _ _ _ (fun l => hx h i l) (fun l => hy h l j)

theorem split3w_at (x : FVec Ideal S4x64x64 .f32) (y : FVec Ideal S4x64x256 .f32) (X : Fin 4 → Matrix (Fin 64) (Fin 64) ℝ) (h : Fin 4) (Y : Fin 64 → ℝ) (j : Fin 256)
    (hx : ∀ h i j, x (ix3 h i j) = (X h i j : EReal)) (hy : ∀ i, y (ix3 h i j) = (Y i : EReal)) (i : Fin 64) :
    split3w (F := Ideal) x y (ix3 h i j) = ((∑ l, X h i l * Y l : ℝ) : EReal) := by
  pointwise [split3w]
  exact sum_split _ _ _ _ (fun l => hx h i l) hy

theorem power_at (a : FVec Ideal S4x64x64 .f32) (A : Fin 4 → Matrix (Fin 64) (Fin 64) ℝ) (ha : ∀ h i j, a (ix3 h i j) = (A h i j : EReal)) (m : ℕ) :
    ∀ h i j, power (F := Ideal) a m (ix3 h i j) = (Gdn.pw (A h) m i j : EReal) := by
  induction m with
  | zero => exact ha
  | succ m ih => exact fun h i j => split3_at _ _ (fun h => Gdn.pw (A h) m) (fun h => Gdn.pw (A h) m) ih ih h i j

theorem inverse_at (a : FVec Ideal S4x64x64 .f32) (A : Fin 4 → Matrix (Fin 64) (Fin 64) ℝ) (ha : ∀ h i j, a (ix3 h i j) = (A h i j : EReal)) (m : ℕ) :
    ∀ h i j, inverse (F := Ideal) a m (ix3 h i j) = (Gdn.iv (A h) m i j : EReal) := by
  induction m with
  | zero =>
    intro h i j
    refine Eq.trans (b := unit (F := Ideal) (ix2 i j) - a (ix3 h i j)) ?_ ?_
    · pointwise [inverse]
    · rw [unit_at, ha, ← EReal.coe_sub]; rfl
  | succ m ih =>
    intro h i j
    refine Eq.trans (b := inverse (F := Ideal) a m (ix3 h i j) + split3 (inverse a m) (power a (m + 1)) (ix3 h i j)) rfl ?_
    rw [ih, split3_at _ _ (fun h => Gdn.iv (A h) m) (fun h => Gdn.pw (A h) (m + 1)) ih (power_at a A ha (m + 1)), ← EReal.coe_add]
    rfl

section Chunk

variable (gc beta : FVec Ideal S4x64x1 .f32) (kk vv qq d : FVec Ideal S4x64x128 .f32) (s : FVec Ideal S4x128x128 .f32) (gl : FVec Ideal S4x1x1 .f32)
variable (k v q : Fin 4 → ℕ → Fin 128 → ℝ) (g b : Fin 4 → ℕ → ℝ) (S : Fin 4 → Fin 128 → Fin 128 → ℝ)
variable (hk : ∀ h (i : Fin 64) n, kk (ix3 h i n) = (k h i.val n : EReal)) (hv : ∀ h (i : Fin 64) n, vv (ix3 h i n) = (v h i.val n : EReal))
  (hq : ∀ h (i : Fin 64) n, qq (ix3 h i n) = (q h i.val n : EReal)) (hg : ∀ h (i : Fin 64), gc (ix3 h i 0) = (Gdn.cs (g h) (i.val + 1) : EReal))
  (hb : ∀ h (i : Fin 64), beta (ix3 h i 0) = (b h i.val : EReal)) (hs : ∀ h a n, s (ix3 h a n) = (S h a n : EReal))
  (hl : ∀ h, gl (ix3 h 0 0) = (Gdn.cs (g h) 64 : EReal))

/-- The running sums as a row. -/
theorem pay39 (h : Fin 4) (j : Fin 64) :
    k0_pay39 (F := Ideal) unit gc (ix3 h 0 j) = gc (ix3 h j 0) := by
  pointwise [k0_pay39]
  have e : ∀ i : Fin 64, unit (F := Ideal) (ix2 i j) * gc (ix3 h i 0) = if i = j then gc (ix3 h i 0) else 0 := fun i => by
    rw [unit_at, coe_bit, ite_mul_one]
  rw [Finset.sum_congr rfl fun i _ => e i, Finset.sum_ite_eq' _ _, if_pos (Finset.mem_univ _)]

include hg in
/-- The decays from one row to another. -/
theorem gamma_at (h : Fin 4) (i j : Fin 64) : chunkGamma (F := Ideal) gc (ix3 h i j) = (Gdn.gam (g h) i j : EReal) := by
  pointwise [chunkGamma, k0_pay40]
  rw [pay39, hg, hg, upTo_at, ← EReal.coe_sub, ← EReal.coe_mul, exp_real, ← EReal.coe_mul]
  rfl

include hk hg hb in
/-- The strictly lower matrix. -/
theorem chunkA_at (h : Fin 4) (i j : Fin 64) : chunkA (F := Ideal) kk gc beta (ix3 h i j) = (Gdn.low (k h) (g h) (b h) i j : EReal) := by
  have e : k0_pay40 (F := Ideal) upTo gc (k0_pay39 unit gc) (ix3 h i j) = (Gdn.gam (g h) i j : EReal) := gamma_at gc g hg h i j
  pointwise [chunkA, k0_pay43, k0_pay41]
  simp only [e, before_at, hk, hb, ← EReal.coe_mul, coe_sum]
  rfl

include hk hg hb hv in
theorem vk_at (h : Fin 4) (i : Fin 64) (n : Fin 128) :
    chunkVK (F := Ideal) kk vv gc beta (ix3 h i ⟨n.val, by omega⟩) = ((v h i.val n * b h i.val : ℝ) : EReal)
      ∧ chunkVK (F := Ideal) kk vv gc beta (ix3 h i ⟨128 + n.val, by omega⟩) = ((k h i.val n * b h i.val * Real.exp (Gdn.cs (g h) (i.val + 1)) : ℝ) : EReal) := by
  constructor
  · refine Eq.trans (b := vv (ix3 h i n) * beta (ix3 h i 0)) ?_ ?_
    · pointwise [chunkVK, k0_pay42, k0_pay41, k0_pay64]
    · rw [hv, hb, ← EReal.coe_mul]
  · refine Eq.trans (b := kk (ix3 h i n) * beta (ix3 h i 0) * Ideal.exp (gc (ix3 h i 0))) ?_ ?_
    · pointwise [chunkVK, k0_pay42, k0_pay41, k0_pay64]
    · rw [hk, hb, hg, exp_real, ← EReal.coe_mul, ← EReal.coe_mul]

include hk hg hb hv hs in
/-- The updates' values. -/
theorem chunkNew_at (h : Fin 4) (i : Fin 64) (n : Fin 128) :
    chunkNew (F := Ideal) kk vv gc beta s (ix3 h i n) = (Gdn.new (k h) (v h) (g h) (b h) (S h) i n : EReal) := by
  have hi := inverse_at _ _ (chunkA_at gc beta kk k g b hk hg hb) 5
  have hvk := vk_at gc beta kk vv k v g b hk hv hg hb h
  have e1 := split3w_at _ (chunkVK (F := Ideal) kk vv gc beta) _ h _ ⟨n.val, by omega⟩ hi (fun j => (hvk j n).1) i
  have e2 := fun a : Fin 128 => split3w_at _ (chunkVK (F := Ideal) kk vv gc beta) _ h _ ⟨128 + a.val, by omega⟩ hi (fun j => (hvk j a).2) i
  unfold chunkNew
  pointwise [newOf]
  rw [e1, sum_real _ _ _ _ (fun a => e2 a) (fun a => hs h a n), ← EReal.coe_sub]
  rfl

include hk hg hq hs in
/-- What the queries read. -/
theorem rawOf_at (hd : ∀ h (i : Fin 64) n, d (ix3 h i n) = (Gdn.new (k h) (v h) (g h) (b h) (S h) i n : EReal)) (h : Fin 4) (i : Fin 64) (n : Fin 128) :
    rawOf (F := Ideal) qq kk gc (chunkGamma gc) d s (ix3 h i n) = (Gdn.rd (k h) (v h) (g h) (b h) (S h) (q h i.val) i.val n : EReal) := by
  refine Eq.trans ?_ (congrArg _ (Gdn.rd_eq (k h) (v h) (g h) (b h) (S h) (q h i.val) i n))
  pointwise [rawOf, k0_pay64]
  simp only [hq, hk, hg, hs, hd, gamma_at gc g hg, exp_real, ← EReal.coe_mul, coe_sum, ← EReal.coe_add]

include hk hg hs hl in
/-- The state after the chunk. -/
theorem pay69 (hd : ∀ h (i : Fin 64) n, d (ix3 h i n) = (Gdn.new (k h) (v h) (g h) (b h) (S h) i n : EReal)) (h : Fin 4) (a n : Fin 128) :
    k0_pay69 s (k0_pay65 kk gc gl) d (k0_pay68 gl) (ix3 h a n) = (Gdn.st (k h) (v h) (g h) (b h) (S h) 64 a n : EReal) := by
  refine Eq.trans ?_ (congrArg _ (Gdn.next_eq (k h) (v h) (g h) (b h) (S h) a n))
  pointwise [k0_pay69, k0_pay65, k0_pay68]
  simp only [hk, hg, hs, hd, hl, exp_real, ← EReal.coe_sub, ← EReal.coe_mul, coe_sum, ← EReal.coe_add]

end Chunk

set_option maxHeartbeats 1000000 in
/-- A chunk's output, normed and gated. -/
theorem pay70 (d : FVec Ideal S4x64x128 .f32) (z : FVec Ideal S64x512 .f32) (nw : FVec Ideal S1x128 .f32) (hz : ∀ i, IsReal (z i)) (h : Fin 4) (i : Fin 64) (n : Fin 128) :
    k0_pay70 (F := Ideal) z nw d (ix2 i ⟨h.val * 128 + n.val, by omega⟩)
      = GdnRow.gated (fun m => d (ix3 h i m)) (fun m => z (ix2 i ⟨h.val * 128 + m.val, by omega⟩)) (fun m => nw (ix2 0 m)) n := by
  unfold GdnRow.gated
  have e2 : 256 + n.val - 128 - 128 = n.val := by omega
  have e3 : 384 + n.val - 128 - 128 - 128 = n.val := by omega
  match h with
  | ⟨0, _⟩ =>
    pointwise [k0_pay70, Stack.stack4]
    rw [GdnRow.silu_kernel (hz (ix2 i ⟨n.val, by omega⟩))]
  | ⟨1, _⟩ =>
    pointwise [k0_pay70, Stack.stack4]
    rw [GdnRow.silu_kernel (hz (ix2 i ⟨128 + n.val, by omega⟩))]
  | ⟨2, _⟩ =>
    pointwise [k0_pay70, Stack.stack4]
    rw [dif_neg (by omega), dif_neg (by omega), dif_pos (by omega)]
    simp only [e2]
    rw [GdnRow.silu_kernel (hz (ix2 i ⟨256 + n.val, by omega⟩))]
  | ⟨3, _⟩ =>
    pointwise [k0_pay70, Stack.stack4]
    rw [dif_neg (by omega), dif_neg (by omega), dif_neg (by omega)]
    simp only [e3]
    rw [GdnRow.silu_kernel (hz (ix2 i ⟨384 + n.val, by omega⟩))]

end Cert.DnfKernelIdeal.Value
end
-- ==== Proof.DnfOut.lean ====
/-
  What one grid point of the gated delta rule's forward call leaves in its block of the output and in the carried state: six
  chunks of 64 rows, one after the other, from the state the point before left; the first point starts from the zero state.
-/
module

public import proofs.«01_k».proof.Proof.DnfChunk
public import proofs.«01_k».proof.Proof.Gen.DnfKernelIdeal.Value
public import Idealize.ShloMosaic.Lib.Tactic
public import Idealize.ShloMosaic.Lib.Pointwise

@[expose] public section

noncomputable section

namespace Cert.DnfKernelIdeal.Value

open Cert.DnfKernelIdeal Cert.DnfKernelIdeal.Gen Idealize.ShloMosaic Idealize.ShloMosaic.TcCoe Idealize.SL.Sem
open Idealize.ShloMosaic.Pipeline (Dat)

variable {F : FTy → Type} [FloatOps F]
variable (c : Dev nD) (i : grid0.Coords) (a1 : Memref sig .tc .vmem S384x1536 .f32) (h1 : a1.IsWhole) (a2 : Memref sig .tc .vmem S384x512 .f32) (h2 : a2.IsWhole)
  (a3 : Memref sig .tc .vmem S384x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (a7 : Memref sig .tc .vmem S384x512 .f32) (h7 : a7.IsWhole) (a8 : Memref sig .tc .vmem S6x4x128x128 .f32) (h8 : a8.IsWhole)
  (a9 : Memref sig .tc .vmem S6x4x64x64 .f32) (h9 : a9.IsWhole) (a10 : Memref sig .tc .vmem S4x128x128 .f32) (h10 : a10.IsWhole)
  (x0 : Vec F S384x1536 .f32) (x1 : Vec F S384x512 .f32) (x2 : Vec F S384x128 .f32) (x3 x4 x5 : Vec F S1x128 .f32) (xs0 : Vec F S4x128x128 .f32)

theorem zeros2 : (![0, 0] : Fin 2 → ℕ) = fun _ => 0 := by decide
theorem zeros3 : (![0, 0, 0] : Fin 3 → ℕ) = fun _ => 0 := by decide

theorem state_B (hc) : sout0_B_0 c i a1 h1 a2 h2 a3 h3 a4 h4 a5 h5 a6 h6 a7 h7 a8 h8 a9 h9 a10 h10 hc x0 x1 x2 x3 x4 x5 xs0 = shapeCast S4x128x128 (ptBefore i x0 x2 x3 x4 xs0 6) shapeCasts_S4x128x128_S4x128x128 := by
  unfold sout0_B_0
  rw [View.read_writes_eq_canon _ _ _ (scover0_B_0 c i a1 h1 a2 h2 a3 h3 a4 h4 a5 h5 a6 h6 a7 h7 a8 h8 a9 h9 a10 h10 hc x0 x1 x2 x3 x4 x5 xs0)]
  unfold kernelRun0_B
  dsimp only
  sl_unfold_words
  rw [View.canon_unit_zero zeros3]
  simp only [View.readAt_eq_ld, h1.read_unread, h2.read_unread, h3.read_unread, h4.read_unread, h5.read_unread, h6.read_unread, h10.read_unread,
    View.ld_unit_zero (S := S1x128) zeros2, View.ld_unit_zero (S := S4x128x128) zeros3]
  sl_kernel_rfl

/-- The six stores of a grid point into its block of the output, the last first. -/
def ptPieces (s : Vec F S4x128x128 .f32) : List (View.Piece (Elt F) S384x512 .f32) :=
  Rows.six (Val := Elt F) (e := .f32) fun k => ptOut i x0 x1 x2 x3 x4 x5 k (ptBefore i x0 x2 x3 x4 s k.val)

theorem pieces_B (hc) : out0_B_6 c i a1 h1 a2 h2 a3 h3 a4 h4 a5 h5 a6 h6 a7 h7 a8 h8 a9 h9 a10 h10 hc x0 x1 x2 x3 x4 x5 xs0 = View.canon (ptPieces i x0 x1 x2 x3 x4 x5 xs0) := by
  unfold out0_B_6
  rw [View.read_writes_eq_canon _ _ _ (cover0_B_6 c i a1 h1 a2 h2 a3 h3 a4 h4 a5 h5 a6 h6 a7 h7 a8 h8 a9 h9 a10 h10 hc x0 x1 x2 x3 x4 x5 xs0)]
  unfold kernelRun0_B
  dsimp only
  sl_unfold_words
  simp only [View.readAt_eq_ld, h1.read_unread, h2.read_unread, h3.read_unread, h4.read_unread, h5.read_unread, h6.read_unread, h10.read_unread,
    View.ld_unit_zero (S := S1x128) zeros2, View.ld_unit_zero (S := S4x128x128) zeros3]
  sl_kernel_rfl

/-- The zero state, as the first point stores it. -/
def state0 : Vec F S4x128x128 .f32 := k0_pay4

theorem state_A (hc) : sout0_A_0 c i a1 h1 a2 h2 a3 h3 a4 h4 a5 h5 a6 h6 a7 h7 a8 h8 a9 h9 a10 h10 hc x0 x1 x2 x3 x4 x5 = shapeCast S4x128x128 (ptBefore i x0 x2 x3 x4 state0 6) shapeCasts_S4x128x128_S4x128x128 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5)]
  unfold kernelRun0_A
  dsimp only
  sl_unfold_words
  rw [View.canon_cons_unit_zero zeros3]
  simp only [View.readAt_eq_ld, h1.read_unread, h2.read_unread, h3.read_unread, h4.read_unread, h5.read_unread, h6.read_unread, h10.read_unread,
    View.readCov_unit_zero a10.view zeros3, View.ld_unit_zero (S := S1x128) zeros2, View.ld_unit_zero (S := S4x128x128) zeros3]
  sl_kernel_rfl

theorem pieces_A (hc) : out0_A_6 c i a1 h1 a2 h2 a3 h3 a4 h4 a5 h5 a6 h6 a7 h7 a8 h8 a9 h9 a10 h10 hc x0 x1 x2 x3 x4 x5 = View.canon (ptPieces i x0 x1 x2 x3 x4 x5 state0) := by
  unfold out0_A_6
  rw [View.read_writes_eq_canon _ _ _ (cover0_A_6 c i a1 h1 a2 h2 a3 h3 a4 h4 a5 h5 a6 h6 a7 h7 a8 h8 a9 h9 a10 h10 hc x0 x1 x2 x3 x4 x5)]
  unfold kernelRun0_A
  dsimp only
  sl_unfold_words
  simp only [View.readAt_eq_ld, h1.read_unread, h2.read_unread, h3.read_unread, h4.read_unread, h5.read_unread, h6.read_unread, h10.read_unread,
    View.readCov_unit_zero a10.view zeros3, View.ld_unit_zero (S := S1x128) zeros2, View.ld_unit_zero (S := S4x128x128) zeros3]
  sl_kernel_rfl

/-- The block a grid point leaves, row by row. -/
theorem pieces_at (s : Vec F S4x128x128 .f32) (k : Fin 6) (r : Fin 64) (n : Fin 512) :
    View.canon (ptPieces i x0 x1 x2 x3 x4 x5 s) (ix2 (⟨64 * k.val + r.val, by omega⟩ : Fin 384) n)
      = ptOut i x0 x1 x2 x3 x4 x5 k (ptBefore i x0 x2 x3 x4 s k.val) (ix2 r n) := by
  exact Rows.canon_six (Val := Elt F) (e := .f32) _ k r n _

end Cert.DnfKernelIdeal.Value
end
-- ==== Proof.DnfBlocks.lean ====
/-
  The arrays the gated delta rule's forward call reads, and its blocks, in terms of the arguments: the packed product's columns are laid
  out anew, and all arrays have 112 rows of zeros in front.
-/
module

public import proofs.«01_k».proof.Proof.GdnRows
public import proofs.«01_k».proof.Proof.DnfChunkValue
public import proofs.«01_k».proof.Proof.DnfOut
public import Idealize.ShloMosaic.Lib.KernelVsHost

@[expose] public section

noncomputable section

namespace Cert.DnfKernelIdeal.Value

open Cert.DnfKernelIdeal Cert.DnfKernelIdeal.Gen Idealize.ShloMosaic Idealize.ShloMosaic.TcCoe Idealize.SL.Sem
open Cert.Numbers Cert.Words Cert.Finite

variable (m : (ℓ : Loc nD τ sig) → Buf (Elt Ideal) ℓ) (c : Dev nD)

/-- The arguments. -/
def pOf : Vec Ideal S4112x2824 .f32 := m ((c : Thread nD τ).loc main_arg0)
def yOf : Vec Ideal S4112x1536 .f32 := m ((c : Thread nD τ).loc main_arg1)
def aOf : Vec Ideal S4 .f32 := m ((c : Thread nD τ).loc main_arg2)
def dOf : Vec Ideal S4 .f32 := m ((c : Thread nD τ).loc main_arg3)
def nOf : Vec Ideal S128 .f32 := m ((c : Thread nD τ).loc main_arg4)

/-- The arrays the region finds. -/
def projA : Vec Ideal S4224x3200 .f32 := V m c main_v12
def yA : Vec Ideal S4224x1536 .f32 := V m c main_v13
def aA : Vec Ideal S1x128 .f32 := V m c main_v15
def dA : Vec Ideal S1x128 .f32 := V m c main_v17
def nA : Vec Ideal S1x128 .f32 := V m c main_v18

/-- The columns laid out anew: the delta rule's columns in one range, the logits of the decays before those of the strengths. -/
def columns (x0 : Vec Ideal S512x4112 .f32) (x1 x2 x3 x4 : Vec Ideal S64x4112 .f32) (x9 : Vec Ideal S2048x4112 .f32) (x10 x11 : Vec Ideal S4x4112 .f32)
    (x12 : Vec Ideal S120x4112 .f32) : Vec Ideal S3200x4112 .f32 :=
  concatenate S3200x4112 0 [⟨S512x4112, x0⟩, ⟨S64x4112, x1⟩, ⟨S64x4112, x1⟩, ⟨S64x4112, x2⟩, ⟨S64x4112, x2⟩, ⟨S64x4112, x3⟩,
    ⟨S64x4112, x3⟩, ⟨S64x4112, x4⟩, ⟨S64x4112, x4⟩, ⟨S2048x4112, x9⟩, ⟨S4x4112, x10⟩, ⟨S4x4112, x11⟩, ⟨S120x4112, x12⟩]
    concatenates_S512x4112_S64x4112_S64x4112_S64x4112_S64x4112_S64x4112_S64x4112_S64x4112_S64x4112_S2048x4112_S4x4112_S4x4112_S120x4112_S3200x4112_d0

section columns

variable (x0 : Vec Ideal S512x4112 .f32) (x1 x2 x3 x4 : Vec Ideal S64x4112 .f32) (x9 : Vec Ideal S2048x4112 .f32) (x10 x11 : Vec Ideal S4x4112 .f32)
  (x12 : Vec Ideal S120x4112 .f32) (r : Fin 4112)

theorem columns_rule (d : Fin 2048) : columns x0 x1 x2 x3 x4 x9 x10 x11 x12 (ix2 ⟨1024 + d.val, by omega⟩ r) = x9 (ix2 d r) := by
  unfold columns
  exact concatenate_apply_piece (α := EReal) (t := S3200x4112) 0 _ _ _ 9 (Nat.le_of_ble_eq_true rfl) S2048x4112 x9 rfl rfl 1024 rfl (ix2 d r)
    (fun b hb => match b with | ⟨0, _⟩ => absurd rfl hb | ⟨1, _⟩ => rfl) rfl

theorem columns_decay (d : Fin 4) : columns x0 x1 x2 x3 x4 x9 x10 x11 x12 (ix2 ⟨3072 + d.val, by omega⟩ r) = x10 (ix2 d r) := by
  unfold columns
  exact concatenate_apply_piece (α := EReal) (t := S3200x4112) 0 _ _ _ 10 (Nat.le_of_ble_eq_true rfl) S4x4112 x10 rfl rfl 3072 (by sl_kernel_rfl) (ix2 d r)
    (fun b hb => match b with | ⟨0, _⟩ => absurd rfl hb | ⟨1, _⟩ => rfl) rfl

theorem columns_strength (d : Fin 4) : columns x0 x1 x2 x3 x4 x9 x10 x11 x12 (ix2 ⟨3076 + d.val, by omega⟩ r) = x11 (ix2 d r) := by
  unfold columns
  exact concatenate_apply_piece (α := EReal) (t := S3200x4112) 0 _ _ _ 11 (Nat.le_of_ble_eq_true rfl) S4x4112 x11 rfl rfl 3076 (by sl_kernel_rfl) (ix2 d r)
    (fun b hb => match b with | ⟨0, _⟩ => absurd rfl hb | ⟨1, _⟩ => rfl) rfl

end columns

/-- The columns of the packed product laid out anew. -/
def laid : Vec Ideal S3200x4112 .f32 :=
  columns (extractStridedSlice S512x4112 ![0, 0] (transpose S2824x4112 [1, 0] (pOf m c) transposes_S4112x2824_S2824x4112_1_0) slices_S2824x4112_S512x4112_0_0)
      (extractStridedSlice S64x4112 ![512, 0] (transpose S2824x4112 [1, 0] (pOf m c) transposes_S4112x2824_S2824x4112_1_0) slices_S2824x4112_S64x4112_512_0)
      (extractStridedSlice S64x4112 ![576, 0] (transpose S2824x4112 [1, 0] (pOf m c) transposes_S4112x2824_S2824x4112_1_0) slices_S2824x4112_S64x4112_576_0)
      (extractStridedSlice S64x4112 ![640, 0] (transpose S2824x4112 [1, 0] (pOf m c) transposes_S4112x2824_S2824x4112_1_0) slices_S2824x4112_S64x4112_640_0)
      (extractStridedSlice S64x4112 ![704, 0] (transpose S2824x4112 [1, 0] (pOf m c) transposes_S4112x2824_S2824x4112_1_0) slices_S2824x4112_S64x4112_704_0)
      (extractStridedSlice S2048x4112 ![768, 0] (transpose S2824x4112 [1, 0] (pOf m c) transposes_S4112x2824_S2824x4112_1_0) slices_S2824x4112_S2048x4112_768_0)
      (extractStridedSlice S4x4112 ![2820, 0] (transpose S2824x4112 [1, 0] (pOf m c) transposes_S4112x2824_S2824x4112_1_0) slices_S2824x4112_S4x4112_2820_0)
      (extractStridedSlice S4x4112 ![2816, 0] (transpose S2824x4112 [1, 0] (pOf m c) transposes_S4112x2824_S2824x4112_1_0) slices_S2824x4112_S4x4112_2816_0)
      (broadcastInDim S120x4112 ![] bcast_S_S120x4112 (constant (F := Ideal) S_ .f32 0x00000000#32))

theorem projA_eq : projA m c = pad S4224x3200 ![112, 0] ![0, 0] ![0, 0] (transpose S4112x3200 [1, 0] (laid m c) transposes_S3200x4112_S4112x3200_1_0)
    (sitofp (F := Ideal) .f32 (constantI S_ 32 0#32)) pads_S4112x3200_S4224x3200_11200_000 h_S_ := by
  unfold projA
  dsimp only [V, hostOps0, hostOps0_1, hostOps0_2, hostOps0_3, hostOps0_4, hostOps0_5, hostOps0_6, hostOps0_7, hostOps0_8]
  simp only [List.flatten_cons, List.flatten_nil, List.append_nil, List.cons_append, List.nil_append]
  after_results_simp
  simp -implicitDefEqProofs only [StableHlo.TRef.toBuf, StableHlo.TRef.ofBuf, cast_cast, cast_eq]
  rfl

theorem yA_eq : yA m c = pad S4224x1536 ![112, 0] ![0, 0] ![0, 0] (yOf m c) (sitofp (F := Ideal) .f32 (constantI S_ 32 0#32)) pads_S4112x1536_S4224x1536_11200_000 h_S_ := by
  unfold yA
  dsimp only [V, hostOps0, hostOps0_1, hostOps0_2, hostOps0_3, hostOps0_4, hostOps0_5, hostOps0_6, hostOps0_7, hostOps0_8]
  simp only [List.flatten_cons, List.flatten_nil, List.append_nil, List.cons_append, List.nil_append]
  after_results_simp
  simp -implicitDefEqProofs only [StableHlo.TRef.toBuf, StableHlo.TRef.ofBuf, cast_cast, cast_eq]
  rfl

theorem aA_eq : aA m c = pad S1x128 ![0, 0] ![0, 124] ![0, 0] (shapeCast S1x4 (aOf m c) shapeCasts_S4_S1x4) (sitofp (F := Ideal) .f32 (constantI S_ 32 0#32)) pads_S1x4_S1x128_000_01240 h_S_ := by
  unfold aA
  dsimp only [V, hostOps0, hostOps0_1, hostOps0_2, hostOps0_3, hostOps0_4, hostOps0_5, hostOps0_6, hostOps0_7, hostOps0_8]
  simp only [List.flatten_cons, List.flatten_nil, List.append_nil, List.cons_append, List.nil_append]
  after_results_simp
  simp -implicitDefEqProofs only [StableHlo.TRef.toBuf, StableHlo.TRef.ofBuf, cast_cast, cast_eq]
  rfl

theorem dA_eq : dA m c = pad S1x128 ![0, 0] ![0, 124] ![0, 0] (shapeCast S1x4 (dOf m c) shapeCasts_S4_S1x4) (sitofp (F := Ideal) .f32 (constantI S_ 32 0#32)) pads_S1x4_S1x128_000_01240 h_S_ := by
  unfold dA
  dsimp only [V, hostOps0, hostOps0_1, hostOps0_2, hostOps0_3, hostOps0_4, hostOps0_5, hostOps0_6, hostOps0_7, hostOps0_8]
  simp only [List.flatten_cons, List.flatten_nil, List.append_nil, List.cons_append, List.nil_append]
  after_results_simp
  simp -implicitDefEqProofs only [StableHlo.TRef.toBuf, StableHlo.TRef.ofBuf, cast_cast, cast_eq]
  rfl

theorem nA_eq : nA m c = shapeCast S1x128 (nOf m c) shapeCasts_S128_S1x128 := by
  unfold nA
  dsimp only [V, hostOps0, hostOps0_1, hostOps0_2, hostOps0_3, hostOps0_4, hostOps0_5, hostOps0_6, hostOps0_7, hostOps0_8]
  simp only [List.flatten_cons, List.flatten_nil, List.append_nil, List.cons_append, List.nil_append]
  after_results_simp
  rfl

theorem word0 : (FloatOps.sitofp (F := Ideal) .f32 (0#32 : BitVec 32) : EReal) = 0 := by
  show (((0#32 : BitVec 32).toInt : ℝ) : EReal) = 0
  simp

/-- An array with 112 rows of zeros in front. -/
theorem padded {w : ℕ} (x : (⟨2, ![4112, w]⟩ : Shape).Idx → EReal) (hp) (n : Fin 4224) (k : Fin w) :
    pad (⟨2, ![4224, w]⟩ : Shape) ![112, 0] ![0, 0] ![0, 0] x (sitofp (F := Ideal) .f32 (constantI S_ 32 0#32)) hp h_S_ (ix2 n k) = GdnRows.rowAt x n.val k := by
  by_cases hn : n.val < 112
  · rw [GdnRows.rowAt_pad _ _ hn]
    refine (pad_apply_of_not_inside _ _ _ _ _ _ _ (ix2 n k) 0 ?_).trans word0
    intro hh
    have h0 : (112 : ℕ) ≤ n.val := hh.1
    omega
  · rw [GdnRows.rowAt_of _ _ (by omega) n.isLt]
    refine pad_apply_of_inside _ _ _ _ _ _ _ (ix2 n k) (ix2 (⟨n.val - 112, by omega⟩ : Fin 4112) k) ?_
    intro a
    match a with
    | ⟨0, _⟩ => show n.val = 112 + (n.val - 112) * (0 + 1); omega
    | ⟨1, _⟩ => show k.val = 0 + k.val * (0 + 1); omega

/-- A row of a few lanes with zeros behind them. -/
theorem lane_row (x : (⟨1, ![4]⟩ : Shape).Idx → EReal) (h : Fin 4) :
    pad S1x128 ![0, 0] ![0, 124] ![0, 0] (shapeCast S1x4 x shapeCasts_S4_S1x4) (sitofp (F := Ideal) .f32 (constantI S_ 32 0#32)) pads_S1x4_S1x128_000_01240 h_S_
      (ix2 0 ⟨h.val, by omega⟩) = x (ix1 h) := by
  refine (pad_apply_of_inside _ _ _ _ _ _ _ _ (ix2 0 h) ?_).trans (by pointwise)
  intro a
  match a with
  | ⟨0, _⟩ => rfl
  | ⟨1, _⟩ => show h.val = 0 + h.val * (0 + 1); omega

theorem yA_at (n : Fin 4224) (k : Fin 1536) : yA m c (ix2 n k) = GdnRows.rowAt (yOf m c) n.val k := by
  rw [yA_eq]; exact padded _ _ n k
theorem aA_at (h : Fin 4) : aA m c (ix2 0 ⟨h.val, by omega⟩) = aOf m c (ix1 h) := by rw [aA_eq]; exact lane_row _ h
theorem dA_at (h : Fin 4) : dA m c (ix2 0 ⟨h.val, by omega⟩) = dOf m c (ix1 h) := by rw [dA_eq]; exact lane_row _ h
theorem nA_at (k : Fin 128) : nA m c (ix2 0 k) = nOf m c (ix1 k) := by
  rw [nA_eq]
  pointwise

/-- A column laid out anew holds column `k'` of the packed product. -/
theorem projA_of (n : Fin 4224) (k : Fin 3200) (k' : Fin 2824) (h : ∀ r : Fin 4112, laid m c (ix2 k r) = pOf m c (ix2 r k')) :
    projA m c (ix2 n k) = GdnRows.rowAt (pOf m c) n.val k' := by
  rw [projA_eq]
  refine (padded _ _ n k).trans ?_
  unfold GdnRows.rowAt
  refine dite_congr rfl (fun hn => ?_) fun _ => rfl
  rw [← h]
  exact transpose_apply [1, 0] _ _ _ (ix2 k _) (fun b => match b with | ⟨0, _⟩ => rfl | ⟨1, _⟩ => rfl)

theorem projA_z (n : Fin 4224) (k : Fin 512) : projA m c (ix2 n ⟨2560 + k.val, by omega⟩) = GdnRows.rowAt (pOf m c) n.val ⟨2304 + k.val, by omega⟩ := by
  have e : (⟨2560 + k.val, by omega⟩ : Fin 3200) = ⟨1024 + (⟨1536 + k.val, by omega⟩ : Fin 2048).val, by dsimp only; omega⟩ := Fin.ext (by dsimp only; omega)
  rw [e]
  refine projA_of m c n _ _ fun r => (columns_rule _ _ _ _ _ _ _ _ _ r ⟨1536 + k.val, by omega⟩).trans ?_
  have e2 : 768 + (1536 + k.val) = 2304 + k.val := by omega
  pointwise
  simp only [e2]

theorem projA_a (n : Fin 4224) (k : Fin 4) : projA m c (ix2 n ⟨3072 + k.val, by omega⟩) = GdnRows.rowAt (pOf m c) n.val ⟨2820 + k.val, by omega⟩ :=
  projA_of m c n _ _ fun r => (columns_decay _ _ _ _ _ _ _ _ _ r k).trans (by pointwise)

theorem projA_b (n : Fin 4224) (k : Fin 4) : projA m c (ix2 n ⟨3076 + k.val, by omega⟩) = GdnRows.rowAt (pOf m c) n.val ⟨2816 + k.val, by omega⟩ :=
  projA_of m c n _ _ fun r => (columns_strength _ _ _ _ _ _ _ _ _ r k).trans (by pointwise)

/-- The block indices of the windows at a point: point `t` is row block `t`; the last three arrays are whole. -/
theorem index_facts : ∀ t : Fin cfg0.N, (grid0.coords t 0).val = t.val ∧
    (win0_0.index t 0 = t.val ∧ win0_0.index t 1 = 0) ∧ (win0_1.index t 0 = t.val ∧ win0_1.index t 1 = 5) ∧
    (win0_2.index t 0 = t.val ∧ win0_2.index t 1 = 24) ∧ (win0_3.index t 0 = 0 ∧ win0_3.index t 1 = 0) ∧
    (win0_4.index t 0 = 0 ∧ win0_4.index t 1 = 0) ∧ (win0_5.index t 0 = 0 ∧ win0_5.index t 1 = 0) :=
  (by decide +kernel : ∀ t : Fin grid0.N, _)

/-- Row `r` of the point's row block. -/
abbrev rowOf (t : Fin cfg0.N) (r : Fin 384) : Fin 4224 := ⟨t.val * 384 + r.val, by have ht : t.val < 11 := t.isLt; omega⟩

theorem block_y (t : Fin cfg0.N) (r : Fin 384) (k : Fin 1536) : (iblk m c 0 t : Vec Ideal S384x1536 .f32) (ix2 r k) = yA m c (ix2 (rowOf t r) k) :=
  congrArg (V m c main_v13) (at2 (at_block (index_facts t).2.1.1) (at_first (index_facts t).2.1.2))

theorem block_z (t : Fin cfg0.N) (r : Fin 384) (k : Fin 512) :
    (X0_1 m c t : Vec Ideal S384x512 .f32) (ix2 r k) = projA m c (ix2 (rowOf t r) ⟨2560 + k.val, by omega⟩) := by
  have hi := (index_facts t).2.2.1
  unfold X0_1 projA Pipeline.Window.fill
  rw [dif_pos (moved0_1 t _)]
  unfold iblk
  rw [View.read_apply]
  show V m c main_v12 _ = V m c main_v12 _
  congr 1
  exact at2 (at_block hi.1) (by show win0_1.index t 1 * 512 + 1 * k.val = 2560 + k.val; rw [hi.2]; omega)

theorem block_small (t : Fin cfg0.N) (r : Fin 384) (k : Fin 128) :
    (iblk m c 2 t : Vec Ideal S384x128 .f32) (ix2 r k) = projA m c (ix2 (rowOf t r) ⟨3072 + k.val, by omega⟩) := by
  have hi := (index_facts t).2.2.2.1
  unfold iblk projA
  rw [View.read_apply]
  show V m c main_v12 _ = V m c main_v12 _
  congr 1
  exact at2 (at_block hi.1) (by show win0_2.index t 1 * 128 + 1 * k.val = 3072 + k.val; rw [hi.2]; omega)

theorem block_a (t : Fin cfg0.N) (k : Fin 128) : (iblk m c 3 t : Vec Ideal S1x128 .f32) (ix2 0 k) = aA m c (ix2 0 k) :=
  congrArg (V m c main_v15) (at2 (at_first (index_facts t).2.2.2.2.1.1) (at_first (index_facts t).2.2.2.2.1.2))

theorem block_d (t : Fin cfg0.N) (k : Fin 128) : (iblk m c 4 t : Vec Ideal S1x128 .f32) (ix2 0 k) = dA m c (ix2 0 k) :=
  congrArg (V m c main_v17) (at2 (at_first (index_facts t).2.2.2.2.2.1.1) (at_first (index_facts t).2.2.2.2.2.1.2))

theorem block_n (t : Fin cfg0.N) (k : Fin 128) : (iblk m c 5 t : Vec Ideal S1x128 .f32) (ix2 0 k) = nA m c (ix2 0 k) :=
  congrArg (V m c main_v18) (at2 (at_first (index_facts t).2.2.2.2.2.2.1) (at_first (index_facts t).2.2.2.2.2.2.2))

end Cert.DnfKernelIdeal.Value
end
-- ==== Proof.DnfRows.lean ====
/-
  The rows of a chunk that the gated delta rule's forward call reads at a grid point: chunk `k` of point `t` is chunk `6 t + k` of the
  sequence.
-/
module

public import proofs.«01_k».proof.Proof.DnfBlocks

@[expose] public section

noncomputable section

namespace Cert.DnfKernelIdeal.Value

open Cert.DnfKernelIdeal Cert.DnfKernelIdeal.Gen Idealize.ShloMosaic Idealize.ShloMosaic.TcCoe Idealize.SL.Sem
open Cert.Numbers Cert.Words Cert.Finite

theorem part_at (w : ℕ) (x : Vec Ideal (⟨2, ![384, w]⟩ : Shape) .f32) (k : Fin 6) (i : Fin 64) (n : Fin w) :
    part w x k (ix2 i n) = x (ix2 (⟨64 * k.val + i.val, by omega⟩ : Fin 384) n) :=
  Rows.ld_rows x (64 * k.val) _ i n (by omega)

/-- An index of a matrix is its pair of coordinates. -/
theorem idx2 {p q : ℕ} (i : (⟨2, ![p, q]⟩ : Shape).Idx) : ∃ a b, i = ix2 a b :=
  ⟨i 0, i 1, by funext d; match d with | ⟨0, _⟩ => rfl | ⟨1, _⟩ => rfl⟩

/-- The mask of a chunk's rows, as a number. -/
theorem rowMask_at (n k : ℕ) (hn : n < 11) (hk : k < 6) (i : Fin 64) :
    rowMask (F := Ideal) (BitVec.ofNat 32 n) (BitVec.ofNat 32 k) (ix2 i 0) = if 112 ≤ (6 * n + k) * 64 + i.val then 1 else 0 := by
  pointwise [rowMask, Scalar.muli, Scalar.addi]
  rw [show (6#32 : BitVec 32) = wd 6 from rfl, show (64#32 : BitVec 32) = wd 64 from rfl, wd_nat, wd_nat, wd_nat, muli_wd, addi_wd, muli_wd, addi_wd,
    show (112#32 : BitVec 32) = wd 112 from rfl, cmp_sge (by omega) (by omega)]
  refine (bit_number _).trans (if_congr ?_ rfl rfl)
  omega

variable (m : (ℓ : Loc nD τ sig) → Buf (Elt Ideal) ℓ) (c : Dev nD) (t : Fin cfg0.N) (k : Fin 6)

/-- The first row of the chunk. -/
abbrev start : ℕ := (6 * t.val + k.val) * 64

/-- The chunk's operands. -/
def yT : FVec Ideal S64x1536 .f32 := k0_pay6 (part 1536 (iblk m c 0 t) k)
def zT : FVec Ideal S64x512 .f32 := k0_pay7 (part 512 (X0_1 m c t) k)
def smT : FVec Ideal S64x128 .f32 := k0_pay8 (part 128 (iblk m c 2 t) k)
def alT : FVec Ideal S1x128 .f32 := k0_pay9 (iblk m c 3 t)
def dtT : FVec Ideal S1x128 .f32 := k0_pay10 (iblk m c 4 t)
def nwT : FVec Ideal S1x128 .f32 := k0_pay11 (iblk m c 5 t)
def rowsT : FVec Ideal S64x1 .f32 := rowMask (BitVec.ofNat 32 ((grid0.coords t) 0).val) (BitVec.ofNat 32 k.val)

theorem row_eq (i : Fin 64) : (rowOf t ⟨64 * k.val + i.val, by omega⟩).val = start t k + i.val := by
  show t.val * 384 + (64 * k.val + i.val) = (6 * t.val + k.val) * 64 + i.val
  omega

theorem yT_at (i : Fin 64) (j : Fin 1536) : yT m c t k (ix2 i j) = GdnRows.rowAt (yOf m c) (start t k + i.val) j := by
  unfold yT k0_pay6
  rw [shapeCast_self, part_at, block_y, yA_at, row_eq]

theorem zT_at (i : Fin 64) (j : Fin 512) : zT m c t k (ix2 i j) = GdnRows.rowAt (pOf m c) (start t k + i.val) ⟨2304 + j.val, by omega⟩ := by
  unfold zT k0_pay7
  rw [shapeCast_self, part_at, block_z, projA_z, row_eq]

theorem smT_a (i : Fin 64) (h : Fin 4) : smT m c t k (ix2 i ⟨h.val, by omega⟩) = GdnRows.rowAt (pOf m c) (start t k + i.val) ⟨2820 + h.val, by omega⟩ := by
  unfold smT k0_pay8
  rw [shapeCast_self, part_at, block_small, projA_a, row_eq]

theorem smT_b (i : Fin 64) (h : Fin 4) : smT m c t k (ix2 i ⟨4 + h.val, by omega⟩) = GdnRows.rowAt (pOf m c) (start t k + i.val) ⟨2816 + h.val, by omega⟩ := by
  unfold smT k0_pay8
  rw [shapeCast_self, part_at, block_small]
  have e : (⟨3072 + (4 + h.val), by omega⟩ : Fin 3200) = ⟨3076 + h.val, by omega⟩ := Fin.ext (by dsimp only; omega)
  rw [show (⟨3072 + (⟨4 + h.val, by omega⟩ : Fin 128).val, by dsimp only; omega⟩ : Fin 3200) = ⟨3076 + h.val, by omega⟩ from e, projA_b, row_eq]

theorem alT_at (h : Fin 4) : alT m c t (ix2 0 ⟨h.val, by omega⟩) = aOf m c (ix1 h) := by
  unfold alT k0_pay9
  rw [shapeCast_self, block_a, aA_at]

theorem dtT_at (h : Fin 4) : dtT m c t (ix2 0 ⟨h.val, by omega⟩) = dOf m c (ix1 h) := by
  unfold dtT k0_pay10
  rw [shapeCast_self, block_d, dA_at]

theorem nwT_at (j : Fin 128) : nwT m c t (ix2 0 j) = nOf m c (ix1 j) := by
  unfold nwT k0_pay11
  rw [shapeCast_self, block_n, nA_at]

theorem rowsT_at (i : Fin 64) : rowsT t k (ix2 i 0) = if 112 ≤ start t k + i.val then 1 else 0 := by
  unfold rowsT
  rw [(index_facts t).1, rowMask_at _ _ t.isLt k.isLt]

section Real

variable (hp : ∀ i, IsReal (pOf m c i)) (hy : ∀ i, IsReal (yOf m c i)) (ha : ∀ i, IsReal (aOf m c i)) (hd : ∀ i, IsReal (dOf m c i))

include hy in
theorem isReal_yT (i) : IsReal (yT m c t k i) := by
  obtain ⟨a, b, rfl⟩ := idx2 i
  rw [yT_at]
  exact GdnRows.isReal_rowAt _ hy _ _

include hp in
theorem isReal_zT (i) : IsReal (zT m c t k i) := by
  obtain ⟨a, b, rfl⟩ := idx2 i
  rw [zT_at]
  exact GdnRows.isReal_rowAt _ hp _ _

theorem row_y (i : Fin 64) : (fun c' => yT m c t k (ix2 i c')) = GdnRows.rowAt (yOf m c) (start t k + i.val) := funext fun j => yT_at m c t k i j

include hy in
theorem qT_at (h : Fin 4) (i : Fin 64) (a : Fin 128) : k0_pay17 (F := Ideal) (yT m c t k) (ix3 h i a) = (GdnRows.Q (yOf m c) h (start t k + i.val) a : EReal) := by
  rw [pay17 _ (isReal_yT m c t k hy), row_y, GdnRows.coe_Q _ hy]

include hy in
theorem kT_at (h : Fin 4) (i : Fin 64) (a : Fin 128) : chunkK (F := Ideal) (yT m c t k) (ix3 h i a) = (GdnRows.K (yOf m c) h (start t k + i.val) a : EReal) := by
  rw [chunkK_at _ (isReal_yT m c t k hy), row_y, GdnRows.coe_K _ hy]

include hy in
theorem vT_at (h : Fin 4) (i : Fin 64) (a : Fin 128) : k0_pay22 (F := Ideal) (yT m c t k) (ix3 h i a) = (GdnRows.V (yOf m c) h (start t k + i.val) a : EReal) := by
  rw [pay22 _ (isReal_yT m c t k hy), row_y, GdnRows.coe_V _ hy]

include hp in
theorem betaT_at (h : Fin 4) (i : Fin 64) : chunkBeta (F := Ideal) (smT m c t k) (ix3 h i 0) = (GdnRows.B (pOf m c) h (start t k + i.val) : EReal) := by
  rw [chunkBeta_at _ h i (by rw [smT_b]; exact GdnRows.isReal_rowAt _ hp _ _), smT_b, GdnRows.coe_B _ hp]

include hp ha hd

/-- The masked logarithm of a decay. -/
theorem gT_at (h : Fin 4) (i : Fin 64) :
    k0_pay25 (F := Ideal) (rowsT t k) headLanes (k0_pay24 (smT m c t k) (alT m c t) (dtT m c t)) zero (ix2 i ⟨h.val, by omega⟩)
      = (GdnRows.G (pOf m c) (aOf m c) (dOf m c) h (start t k + i.val) : EReal) := by
  rw [pay25, smT_a, alT_at, dtT_at, rowsT_at, GdnRows.coe_G _ _ _ hp ha hd]

theorem gcT_at (h : Fin 4) (i : Fin 64) :
    chunkGc (F := Ideal) (smT m c t k) (alT m c t) (dtT m c t) (rowsT t k) (ix3 h i 0)
      = (Gdn.cs (fun j => GdnRows.G (pOf m c) (aOf m c) (dOf m c) h (start t k + j)) (i.val + 1) : EReal) := by
  rw [chunkGc_at _ _ _ _ (fun h i => ⟨_, gT_at m c t k hp ha hd h i⟩)]
  unfold Gdn.cs
  rw [Gdn.sum_upto, ← coe_sum]
  refine Finset.sum_congr rfl fun j _ => ?_
  rw [gT_at m c t k hp ha hd]
  split
  · rfl
  · rfl

theorem sumT_at (h : Fin 4) :
    chunkSum (F := Ideal) (smT m c t k) (alT m c t) (dtT m c t) (rowsT t k) (ix3 h 0 0)
      = (Gdn.cs (fun j => GdnRows.G (pOf m c) (aOf m c) (dOf m c) h (start t k + j)) 64 : EReal) := by
  rw [chunkSum_at]
  unfold Gdn.cs
  rw [← Fin.sum_univ_eq_sum_range (fun j => GdnRows.G (pOf m c) (aOf m c) (dOf m c) h (start t k + j)) 64, ← coe_sum]
  exact Finset.sum_congr rfl fun j _ => gT_at m c t k hp ha hd h j

end Real

end Cert.DnfKernelIdeal.Value
end
-- ==== Proof.DnfArray.lean ====
/-
  The array the gated delta rule's forward call leaves: the output's rows, row `64 q + i` in chunk `q % 6` of point `q / 6`.
-/
module

public import proofs.«01_k».proof.Proof.DnfRows

@[expose] public section

noncomputable section

namespace Cert.DnfKernelIdeal.Value

open Cert.DnfKernelIdeal Cert.DnfKernelIdeal.Gen Idealize.ShloMosaic Idealize.ShloMosaic.TcCoe Idealize.SL.Sem
open Cert.Numbers Cert.Words Cert.Finite

variable (m : (ℓ : Loc nD τ sig) → Buf (Elt Ideal) ℓ) (c : Dev nD)

/-- The state before chunk `q`, as an array. -/
def IsState (q : ℕ) (s : Vec Ideal S4x128x128 .f32) : Prop :=
  ∀ h a n, s (ix3 h a n) = (GdnRows.state (pOf m c) (yOf m c) (aOf m c) (dOf m c) h (q * 64) a n : EReal)

variable (hp : ∀ i, IsReal (pOf m c i)) (hy : ∀ i, IsReal (yOf m c i)) (ha : ∀ i, IsReal (aOf m c i)) (hd : ∀ i, IsReal (dOf m c i)) (t : Fin cfg0.N)
include hp hy ha hd

/-- The updates' values of a chunk. -/
theorem newT_at (k : Fin 6) (s : Vec Ideal S4x128x128 .f32) (hs : IsState m c (6 * t.val + k.val) s) (h : Fin 4) (i : Fin 64) (n : Fin 128) :
    chunkNew (F := Ideal) (chunkK (yT m c t k)) (k0_pay22 (yT m c t k)) (chunkGc (smT m c t k) (alT m c t) (dtT m c t) (rowsT t k)) (chunkBeta (smT m c t k)) s (ix3 h i n)
      = (Gdn.new (fun j => GdnRows.K (yOf m c) h (start t k + j)) (fun j => GdnRows.V (yOf m c) h (start t k + j))
          (fun j => GdnRows.G (pOf m c) (aOf m c) (dOf m c) h (start t k + j)) (fun j => GdnRows.B (pOf m c) h (start t k + j))
          (GdnRows.state (pOf m c) (yOf m c) (aOf m c) (dOf m c) h (start t k)) i n : EReal) :=
  chunkNew_at _ _ _ _ s (fun h j => GdnRows.K (yOf m c) h (start t k + j)) (fun h j => GdnRows.V (yOf m c) h (start t k + j))
    (fun h j => GdnRows.G (pOf m c) (aOf m c) (dOf m c) h (start t k + j)) (fun h j => GdnRows.B (pOf m c) h (start t k + j))
    (fun h => GdnRows.state (pOf m c) (yOf m c) (aOf m c) (dOf m c) h (start t k))
    (kT_at m c t k hy) (vT_at m c t k hy) (gcT_at m c t k hp ha hd) (betaT_at m c t k hp) hs h i n

/-- One chunk takes the state before it to the state before the next. -/
theorem ptState_is (k : Fin 6) (s : Vec Ideal S4x128x128 .f32) (hs : IsState m c (6 * t.val + k.val) s) :
    IsState m c (6 * t.val + k.val + 1) (ptState (grid0.coords t) (iblk m c 0 t) (iblk m c 2 t) (iblk m c 3 t) (iblk m c 4 t) k s) := by
  intro h a n
  refine (pay69 _ _ _ s _ (fun h j => GdnRows.K (yOf m c) h (start t k + j)) (fun h j => GdnRows.V (yOf m c) h (start t k + j))
    (fun h j => GdnRows.G (pOf m c) (aOf m c) (dOf m c) h (start t k + j)) (fun h j => GdnRows.B (pOf m c) h (start t k + j))
    (fun h => GdnRows.state (pOf m c) (yOf m c) (aOf m c) (dOf m c) h (start t k))
    (kT_at m c t k hy) (gcT_at m c t k hp ha hd) hs (sumT_at m c t k hp ha hd) (newT_at m c hp hy ha hd t k s hs) h a n).trans ?_
  rw [GdnRows.state_chunk, show (6 * t.val + k.val + 1) * 64 = start t k + 64 by show _ = (6 * t.val + k.val) * 64 + 64; omega]

/-- The state before each chunk of a point. -/
theorem ptBefore_is (s : Vec Ideal S4x128x128 .f32) (hs : IsState m c (6 * t.val) s) (k : ℕ) (hk : k ≤ 6) :
    IsState m c (6 * t.val + k) (ptBefore (grid0.coords t) (iblk m c 0 t) (iblk m c 2 t) (iblk m c 3 t) (iblk m c 4 t) s k) := by
  induction k with
  | zero => exact hs
  | succ k ih =>
    unfold ptBefore
    rw [dif_pos (by omega)]
    exact ptState_is m c hp hy ha hd t ⟨k, by omega⟩ _ (ih (by omega))

/-- The block of the output a chunk writes. -/
theorem ptOut_is (k : Fin 6) (s : Vec Ideal S4x128x128 .f32) (hs : IsState m c (6 * t.val + k.val) s) (h : Fin 4) (i : Fin 64) (v : Fin 128) :
    ptOut (grid0.coords t) (iblk m c 0 t) (X0_1 m c t) (iblk m c 2 t) (iblk m c 3 t) (iblk m c 4 t) (iblk m c 5 t) k s (ix2 i ⟨h.val * 128 + v.val, by omega⟩)
      = GdnRows.out (pOf m c) (yOf m c) (aOf m c) (dOf m c) (nOf m c) h (start t k + i.val) v := by
  refine (pay70 _ (zT m c t k) (nwT m c t) (isReal_zT m c t k hp) h i v).trans ?_
  unfold GdnRows.out
  refine congrFun (congr (congr (congrArg GdnRow.gated (funext fun n => ?_)) (funext fun n => zT_at m c t k i _)) (funext fun n => nwT_at m c t n)) v
  refine (rawOf_at _ _ _ _ s (fun h j => GdnRows.K (yOf m c) h (start t k + j)) (fun h j => GdnRows.V (yOf m c) h (start t k + j)) (fun h j => GdnRows.Q (yOf m c) h (start t k + j))
    (fun h j => GdnRows.G (pOf m c) (aOf m c) (dOf m c) h (start t k + j)) (fun h j => GdnRows.B (pOf m c) h (start t k + j))
    (fun h => GdnRows.state (pOf m c) (yOf m c) (aOf m c) (dOf m c) h (start t k))
    (kT_at m c t k hy) (qT_at m c t k hy) (gcT_at m c t k hp ha hd) hs (newT_at m c hp hy ha hd t k s hs) h i n).trans ?_
  rw [GdnRows.read_chunk]

omit hp hy ha hd

theorem state0_is : IsState m c 0 (state0 (F := Ideal)) := by
  intro h a n
  refine Eq.trans ?_ EReal.coe_zero.symm
  unfold state0
  pointwise [k0_pay4]

/-- The first point starts from the zero state. -/
theorem first (h0 : t.val % 11 = 0) :
    (outsAt0 m c t.val t.isLt).1 = View.canon (ptPieces (grid0.coords t) (iblk m c 0 t) (X0_1 m c t) (iblk m c 2 t) (iblk m c 3 t) (iblk m c 4 t) (iblk m c 5 t) (state0 (F := Ideal))) ∧
    (outsAt0 m c t.val t.isLt).2.2.2 = ptBefore (grid0.coords t) (iblk m c 0 t) (iblk m c 2 t) (iblk m c 3 t) (iblk m c 4 t) (state0 (F := Ideal)) 6 := by
  rw [outsAt0_A m c t h0]
  dsimp only
  rw [pieces_A, state_A, shapeCast_self]
  exact ⟨rfl, rfl⟩

/-- A later point starts from the state the point before left. -/
theorem later (h0 : ¬ t.val % 11 = 0) :
    (outsAt0 m c t.val t.isLt).1 = View.canon (ptPieces (grid0.coords t) (iblk m c 0 t) (X0_1 m c t) (iblk m c 2 t) (iblk m c 3 t) (iblk m c 4 t) (iblk m c 5 t) (outsAt0 m c (t.val - 1) (Nat.lt_of_le_of_lt (Nat.sub_le _ _) t.isLt)).2.2.2) ∧
    (outsAt0 m c t.val t.isLt).2.2.2
      = ptBefore (grid0.coords t) (iblk m c 0 t) (iblk m c 2 t) (iblk m c 3 t) (iblk m c 4 t) (outsAt0 m c (t.val - 1) (Nat.lt_of_le_of_lt (Nat.sub_le _ _) t.isLt)).2.2.2 6 := by
  generalize hs : (outsAt0 m c (t.val - 1) (Nat.lt_of_le_of_lt (Nat.sub_le _ _) t.isLt)).2.2.2 = s
  rw [outsAt0_B m c t h0, hs]
  dsimp only
  rw [pieces_B, state_B, shapeCast_self]
  exact ⟨rfl, rfl⟩

include hp hy ha hd

/-- What a point leaves, from a state that is the state before its first chunk. -/
theorem point_is : ∀ (n : ℕ) (t : Fin cfg0.N) (hn : t.val = n), ∃ s, IsState m c (6 * t.val) s ∧
    (outsAt0 m c t.val t.isLt).1 = View.canon (ptPieces (grid0.coords t) (iblk m c 0 t) (X0_1 m c t) (iblk m c 2 t) (iblk m c 3 t) (iblk m c 4 t) (iblk m c 5 t) s) ∧
    IsState m c (6 * (t.val + 1)) (outsAt0 m c t.val t.isLt).2.2.2 := by
  intro n
  induction n with
  | zero =>
    intro t hn
    have hs : IsState m c (6 * t.val) (state0 (F := Ideal)) := by rw [hn]; exact state0_is m c
    obtain ⟨e1, e2⟩ := first m c t (by rw [hn])
    refine ⟨state0, hs, e1, ?_⟩
    rw [e2]
    exact ptBefore_is m c hp hy ha hd t _ hs 6 le_rfl
  | succ n ih =>
    intro t hn
    have hN : t.val < 11 := t.isLt
    obtain ⟨_, _, _, h3⟩ := ih ⟨t.val - 1, Nat.lt_of_le_of_lt (Nat.sub_le _ _) t.isLt⟩ (by dsimp only; omega)
    obtain ⟨e1, e2⟩ := later m c t (by omega)
    dsimp only at h3
    rw [show 6 * (t.val - 1 + 1) = 6 * t.val by omega] at h3
    refine ⟨_, h3, e1, ?_⟩
    rw [e2]
    exact ptBefore_is m c hp hy ha hd t _ h3 6 le_rfl

/-- The array at row `64 q + i` and lane `v` of head `h`. -/
theorem array_at (q : Fin 66) (h : Fin 4) (i : Fin 64) (v : Fin 128) :
    (dats m 0 c).arrAt 6 cfg0.N (ix2 (⟨q.val * 64 + i.val, by omega⟩ : Fin 4224) (⟨h.val * 128 + v.val, by omega⟩ : Fin 512) : S4224x512.Idx)
      = GdnRows.out (pOf m c) (yOf m c) (aOf m c) (dOf m c) (nOf m c) h (q.val * 64 + i.val) v := by
  have ht : q.val / 6 < cfg0.N := by show q.val / 6 < 11; omega
  have hi : win0_6.index ⟨_, ht⟩ 0 = q.val / 6 ∧ win0_6.index ⟨_, ht⟩ 1 = 0 :=
    (by decide +kernel : ∀ t : Fin grid0.N, win0_6.index t 0 = t.val ∧ win0_6.index t 1 = 0) ⟨_, ht⟩
  have hk : q.val % 6 < 6 := Nat.mod_lt _ (by norm_num)
  obtain ⟨s, hs, h1, _⟩ := point_is m c hp hy ha hd (q.val / 6) ⟨_, ht⟩ rfl
  have hb' := congrFun (blocks6 m c ⟨_, ht⟩ (flush0_6 _)) (ix2 (⟨64 * (q.val % 6) + i.val, by omega⟩ : Fin 384) (⟨h.val * 128 + v.val, by omega⟩ : Fin 512))
  rw [flushed6, View.read_apply] at hb'
  refine Eq.trans (congrArg _ ?_) (hb'.trans ?_)
  · exact at2 (by show q.val * 64 + i.val = win0_6.index ⟨_, ht⟩ 0 * 384 + 1 * (64 * (q.val % 6) + i.val); rw [hi.1]; omega) (by show h.val * 128 + v.val = win0_6.index ⟨_, ht⟩ 1 * 512 + 1 * (h.val * 128 + v.val); rw [hi.2]; omega)
  · refine (congrFun h1 _).trans ?_
    refine (pieces_at _ _ _ _ _ _ _ s ⟨q.val % 6, hk⟩ i _).trans ?_
    refine (ptOut_is m c hp hy ha hd ⟨_, ht⟩ ⟨q.val % 6, hk⟩ _ (ptBefore_is m c hp hy ha hd ⟨_, ht⟩ s hs (q.val % 6) hk.le) h i v).trans ?_
    exact congrArg (fun n => GdnRows.out (pOf m c) (yOf m c) (aOf m c) (dOf m c) (nOf m c) h n v) (by show (6 * (q.val / 6) + q.val % 6) * 64 + i.val = q.val * 64 + i.val; omega)

end Cert.DnfKernelIdeal.Value
end
-- ==== Proof.DnfLoopData.lean ====
/-
  What the reference of the gated delta rule computes before its loop over the rows: the queries, keys, values, decays and strengths of
  row `j` of the arguments, which is row `112 + j` of the padded sequence.
-/
module

public import proofs.«01_k».proof.Proof.GdnRows
public import proofs.«01_k».proof.Proof.Words
public import proofs.«01_k».proof.Proof.Gen.DnfReferenceIdeal.Step

@[expose] public section

noncomputable section

namespace Cert.DnfReferenceIdeal.Step

open Cert.DnfReferenceIdeal Cert.DnfReferenceIdeal.Gen Idealize.ShloMosaic Idealize.ShloMosaic.TcCoe
open Cert.Numbers Cert.Words Cert.Finite

variable (p : Vec Ideal S4112x2824 .f32) (y : Vec Ideal S4112x1536 .f32) (al dt : Vec Ideal S4 .f32)

theorem row_of {w : ℕ} (X : (⟨2, ![4112, w]⟩ : Shape).Idx → EReal) (j : Fin 4112) (c : Fin w) : GdnRows.rowAt X (112 + j.val) c = X (ix2 j c) := by
  rw [GdnRows.rowAt_of X _ (by omega) (by omega)]
  exact congrArg (fun r => X (ix2 r c)) (Fin.ext (by show 112 + j.val - 112 = j.val; omega))

/-- The activation of an entry. -/
theorem silu_at (j : Fin 4112) (c : Fin 1536) : A_main_v2 (F := Ideal) p y al dt (ix2 j c) = GdnRow.silu (y (ix2 j c)) := by
  pointwise [A_main_v2, A_main_call0_v5, A_main_call0_v3, A_main_call0_v1, A_main_call0_v0, K_main_call0_v4, K_main_call0_v2, K_main_call0_cst,
    K_main_call0_cst_0]
  rfl

theorem qrow_at (j : Fin 4112) (h : Fin 4) (a : Fin 128) :
    A_main_v4 (F := Ideal) p y al dt (ix3 j h a) = GdnRow.silu (y (ix2 j ⟨h.val * 128 + a.val, by omega⟩)) := by
  pointwise [A_main_v4, A_main_v3]
  exact silu_at p y al dt j _

theorem krow_at (j : Fin 4112) (h : Fin 4) (a : Fin 128) :
    A_main_v6 (F := Ideal) p y al dt (ix3 j h a) = GdnRow.silu (y (ix2 j ⟨512 + h.val * 128 + a.val, by omega⟩)) := by
  pointwise [A_main_v6, A_main_v5]
  refine (silu_at p y al dt j _).trans (congrArg (fun c => GdnRow.silu (y (ix2 j c))) (Fin.ext ?_))
  first | rfl | (dsimp only; omega)

theorem v_at (j : Fin 4112) (h : Fin 4) (a : Fin 128) :
    A_main_v8 (F := Ideal) p y al dt (ix3 j h a) = GdnRow.v (GdnRows.rowAt y (112 + j.val)) h a := by
  unfold GdnRow.v
  rw [row_of]
  pointwise [A_main_v8, A_main_v7]
  refine (silu_at p y al dt j _).trans (congrArg (fun c => GdnRow.silu (y (ix2 j c))) (Fin.ext ?_))
  first | rfl | (dsimp only; omega)

theorem q_at (j : Fin 4112) (h : Fin 4) (a : Fin 128) :
    A_main_v18 (F := Ideal) p y al dt (ix3 j h a) = GdnRow.q (GdnRows.rowAt y (112 + j.val)) h a := by
  unfold GdnRow.q GdnRow.unitRow
  simp only [row_of]
  pointwise [A_main_v18, A_main_v16, A_main_v15, A_main_v14, A_main_v13, A_main_v11, A_main_v10, A_main_v9, K_main_v12, K_main_cst_0, K_main_cst,
    K_main_v17, K_main_cst_1]
  simp only [qrow_at]
  rfl

theorem k_at (j : Fin 4112) (h : Fin 4) (a : Fin 128) :
    A_main_v26 (F := Ideal) p y al dt (ix3 j h a) = GdnRow.k (GdnRows.rowAt y (112 + j.val)) h a := by
  unfold GdnRow.k GdnRow.unitRow
  simp only [row_of]
  pointwise [A_main_v26, A_main_v25, A_main_v24, A_main_v23, A_main_v21, A_main_v20, A_main_v19, K_main_v22, K_main_cst_3, K_main_cst_2]
  simp only [krow_at]

theorem beta_at (j : Fin 4112) (h : Fin 4) :
    A_main_v32 (F := Ideal) p y al dt (ix2 j h) = Ideal.logistic (GdnRows.rowAt p (112 + j.val) ⟨2816 + h.val, by omega⟩) := by
  rw [row_of]
  pointwise [A_main_v32, A_main_v30, A_main_v28, A_main_v27, A_main_v0, K_main_v31, K_main_cst_5, K_main_v29, K_main_cst_4]
  rfl

theorem g_at (j : Fin 4112) (h : Fin 4) :
    A_main_v41 (F := Ideal) p y al dt (ix2 j h)
      = GdnRow.decay (al (ix1 h)) (GdnRows.rowAt p (112 + j.val) ⟨2820 + h.val, by omega⟩ + dt (ix1 h)) := by
  rw [row_of]
  pointwise [A_main_v41, A_main_v40, A_main_v39, A_main_v34, A_main_v33, A_main_v38, A_main_call1_v11, A_main_call1_v10, A_main_call1_v9, A_main_call1_v8,
    A_main_call1_v7, A_main_call1_v6, A_main_call1_v4, A_main_call1_v3, A_main_call1_v1, A_main_v37, A_main_v36, A_main_v35, A_main_v1, K_main_call1_v0,
    K_main_call1_v2, K_main_call1_v5, K_main_call1_cst]
  rw [if_neg (not_not.mpr rfl)]
  rfl

end Cert.DnfReferenceIdeal.Step
end
-- ==== Proof.DnfRun.lean ====
/-
  The run of the reference of the gated delta rule: its loop goes through the states of `Step.step`.
-/
module

public import proofs.«01_k».proof.Proof.Gen.DnfReferenceIdeal.Run
public import proofs.«01_k».proof.Proof.Gen.DnfReferenceIdeal.Step

@[expose] public section

noncomputable section

namespace Cert.DnfReferenceIdeal.Loop

open Idealize.ShloMosaic Idealize.ShloMosaic.TcCoe Idealize.SL.Sem Idealize.ShloMosaic.StableHlo
open Cert.DnfReferenceIdeal Cert.DnfReferenceIdeal.Gen Cert.DnfReferenceIdeal.Value
open Cert.DnfReferenceIdeal.Step (State step init)

variable {F : FTy → Type} [FloatOps F]

/-- The buffers of the loop hold the state `s` before trip `n`. -/
def At (V : Valuation τ sig (Elt F)) (s : State F) (n : ℕ) : Prop :=
  V (Proc.devRef .tc main_v45_5) = constantI S_ 32 (BitVec.ofNat 32 n) ∧ V (Proc.devRef .tc main_v45_6) = s.main_v45_6
    ∧ V (Proc.devRef .tc main_v45_7) = s.main_v45_7 ∧ V (Proc.devRef .tc main_v45_0) = s.main_v45_0 ∧ V (Proc.devRef .tc main_v45_1) = s.main_v45_1
    ∧ V (Proc.devRef .tc main_v45_2) = s.main_v45_2 ∧ V (Proc.devRef .tc main_v45_3) = s.main_v45_3 ∧ V (Proc.devRef .tc main_v45_4) = s.main_v45_4

variable {V : Valuation τ sig (Elt F)} {s : State F} {n : ℕ}

set_option maxRecDepth 8192 in
theorem count_at (h : At V s n) : step_main_v45_5 V = constantI S_ 32 (BitVec.ofNat 32 (n + 1)) := by
  unfold step_main_v45_5
  rw [h.1]
  exact funext fun _ => (BitVec.ofNat_add n 1).symm

set_option maxRecDepth 8192 in
/-- A trip's state. -/
theorem state_at (h : At V s n) : step_main_v45_6 V = (step n s).main_v45_6 := by
  obtain ⟨h5, h6, h7, h0, h1, h2, h3, h4⟩ := h
  unfold step_main_v45_6 res_main_while0b_v83 res_main_while0b_v72 res_main_while0b_v66
  rw [h5, h6, h1, h2, h3, h4]
  rfl

set_option maxRecDepth 8192 in
/-- What a trip writes. -/
theorem outputs_at (h : At V s n) : step_main_v45_7 V = (step n s).main_v45_7 := by
  obtain ⟨h5, h6, h7, h0, h1, h2, h3, h4⟩ := h
  unfold step_main_v45_7 res_main_while0b_v83 res_main_while0b_v72 res_main_while0b_v66
  rw [h5, h6, h7, h0, h1, h2, h3, h4]
  rfl

/-- One trip. -/
theorem at_step (h : At V s n) : At (STEP V) (step n s) (n + 1) :=
  ⟨(STEP_main_v45_5 V).trans (count_at h), (STEP_main_v45_6 V).trans (state_at h), (STEP_main_v45_7 V).trans (outputs_at h),
    (STEP_main_v45_0 V).trans h.2.2.2.1, (STEP_main_v45_1 V).trans h.2.2.2.2.1, (STEP_main_v45_2 V).trans h.2.2.2.2.2.1,
    (STEP_main_v45_3 V).trans h.2.2.2.2.2.2.1, (STEP_main_v45_4 V).trans h.2.2.2.2.2.2.2⟩

variable (m : (ℓ : Loc nD τ sig) → Buf (Elt F) ℓ) (c : Dev nD)

/-- The states of the loop, from the arrays of the arguments. -/
def iter (p : Vec F S4112x2824 .f32) (y : Vec F S4112x1536 .f32) (al dt : Vec F S4 .f32) : ℕ → State F
  | 0 => init p y al dt
  | n + 1 => step n (iter p y al dt n)

/-- The states of the loop on device `c`. -/
abbrev states : ℕ → State F :=
  iter (m ((c.tc : Thread nD τ).loc main_arg0)) (m ((c.tc : Thread nD τ).loc main_arg1)) (m ((c.tc : Thread nD τ).loc main_arg2))
    (m ((c.tc : Thread nD τ).loc main_arg3))

set_option maxRecDepth 65536 in
set_option maxHeartbeats 700000 in
/-- Before the first trip. -/
theorem at_entry : At (entryContents preI m c) (states m c 0) 0 := by
  refine ⟨?_, ?_, ?_, ?_, ?_, ?_, ?_, ?_⟩ <;> (simp only [entryContents, afterL_cons, afterL_nil]; after_reads_simp) <;> rfl

/-- Before trip `n`. -/
theorem at_trip : ∀ n, At (STEP^[n] (entryContents preI m c)) (states m c n) n
  | 0 => at_entry m c
  | n + 1 => by
    rw [Function.iterate_succ_apply']
    exact at_step (at_trip n)

set_option maxRecDepth 8192 in
/-- The result. -/
theorem result_eq : out_main_v64 (STEP^[4112] (entryContents preI m c))
    = Step.R_main_v64 (states m c 4112) (m ((c.tc : Thread nD τ).loc main_arg0)) (m ((c.tc : Thread nD τ).loc main_arg4)) := by
  unfold out_main_v64 Step.R_main_v64
  rw [(at_trip m c 4112).2.2.1, iter_main_arg0 m c 4112, iter_main_arg4 m c 4112]
  rfl

/-- The reference ends with its result, its arguments unchanged. -/
theorem run_loop (ρ : Dev nD → PrngReg) :
    θ_run (defs (F := F)) (onTc (τ := τ) (main (F := F))) ⟨m, fun _ => 0, ρ⟩ fun r => ∀ c : Dev nD,
      r.2.mem ((c.tc : Thread nD τ).loc main_v64)
          = Step.R_main_v64 (states m c 4112) (m ((c.tc : Thread nD τ).loc main_arg0)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c).1.trans (result_eq m c), (h c).2⟩) (Value.run m ρ)

end Cert.DnfReferenceIdeal.Loop

end
-- ==== Proof.DnfLoop.lean ====
/-
  The reference's loop over the rows of the gated delta rule: the state before each trip, and the rows it has written.
-/
module

public import proofs.«01_k».proof.Proof.DnfLoopData
public import proofs.«01_k».proof.Proof.DnfRun
public import proofs.«01_k».proof.Proof.Trips

@[expose] public section

noncomputable section

namespace Cert.DnfReferenceIdeal.Step

open Cert.DnfReferenceIdeal.Loop (iter)
open Cert.DnfReferenceIdeal Cert.DnfReferenceIdeal.Gen Idealize.ShloMosaic Idealize.ShloMosaic.TcCoe
open Cert.Numbers Cert.Words Cert.Finite

section Slices

variable (j : Fin 4112) (s : State Ideal)

theorem word_trip : (BitVec.ofNat 32 j.val).toInt = (j.val : ℤ) := WordCmp.toInt_ofNat_of_lt (by omega)

theorem b3_at (h : Fin 4) (a : Fin 128) : b3 (F := Ideal) j.val s (ix2 h a) = s.main_v45_0 (ix3 j h a) := by
  pointwise [b3]
  exact Trips.slice3 s.main_v45_0 _ _ j (word_trip j) rfl rfl h a

theorem b7_at (h : Fin 4) (a : Fin 128) : b7 (F := Ideal) j.val s (ix2 h a) = s.main_v45_1 (ix3 j h a) := by
  pointwise [b7]
  exact Trips.slice3 s.main_v45_1 _ _ j (word_trip j) rfl rfl h a

theorem b11_at (h : Fin 4) (a : Fin 128) : b11 (F := Ideal) j.val s (ix2 h a) = s.main_v45_2 (ix3 j h a) := by
  pointwise [b11]
  exact Trips.slice3 s.main_v45_2 _ _ j (word_trip j) rfl rfl h a

theorem b14_at (h : Fin 4) : b14 (F := Ideal) j.val s (ix1 h) = s.main_v45_3 (ix2 j h) := by
  pointwise [b14]
  exact Trips.slice2 s.main_v45_3 _ _ j (word_trip j) rfl h

theorem b17_at (h : Fin 4) : b17 (F := Ideal) j.val s (ix1 h) = s.main_v45_4 (ix2 j h) := by
  pointwise [b17]
  exact Trips.slice2 s.main_v45_4 _ _ j (word_trip j) rfl h

/-- A trip writes its row of the outputs and leaves the others. -/
theorem b36_at (n : Fin 4112) (h : Fin 4) (a : Fin 128) :
    b36 (F := Ideal) j.val s (ix3 n h a) = if n = j then b32 (F := Ideal) j.val s (ix2 h a) else s.main_v45_7 (ix3 n h a) := by
  refine (Trips.update3 s.main_v45_7 (b33 (F := Ideal) j.val s) _ _ j (word_trip j) rfl rfl n h a).trans ?_
  refine if_congr Iff.rfl ?_ rfl
  pointwise [b33]

end Slices

variable (p : Vec Ideal S4112x2824 .f32) (y : Vec Ideal S4112x1536 .f32) (al dt : Vec Ideal S4 .f32)

/-- The arrays the trips read stay what they are. -/
theorem iter_kept (n : ℕ) : (iter p y al dt n).main_v45_0 = A_main_v18 p y al dt ∧ (iter p y al dt n).main_v45_1 = A_main_v26 p y al dt ∧
    (iter p y al dt n).main_v45_2 = A_main_v8 p y al dt ∧ (iter p y al dt n).main_v45_3 = A_main_v43 p y al dt ∧
    (iter p y al dt n).main_v45_4 = A_main_v32 p y al dt := by
  induction n with
  | zero => exact ⟨rfl, rfl, rfl, rfl, rfl⟩
  | succ n ih => exact ih

variable (hp : ∀ i, IsReal (p i)) (hy : ∀ i, IsReal (y i)) (ha : ∀ i, IsReal (al i)) (hd : ∀ i, IsReal (dt i))

include hy in
theorem q_trip (j : Fin 4112) (h : Fin 4) (a : Fin 128) :
    b3 (F := Ideal) j.val (iter p y al dt j.val) (ix2 h a) = (GdnRows.Q y h (112 + j.val) a : EReal) := by
  rw [b3_at, (iter_kept p y al dt j.val).1, q_at, GdnRows.coe_Q y hy]

include hy in
theorem k_trip (j : Fin 4112) (h : Fin 4) (a : Fin 128) :
    b7 (F := Ideal) j.val (iter p y al dt j.val) (ix2 h a) = (GdnRows.K y h (112 + j.val) a : EReal) := by
  rw [b7_at, (iter_kept p y al dt j.val).2.1, k_at, GdnRows.coe_K y hy]

include hy in
theorem v_trip (j : Fin 4112) (h : Fin 4) (a : Fin 128) :
    b11 (F := Ideal) j.val (iter p y al dt j.val) (ix2 h a) = (GdnRows.V y h (112 + j.val) a : EReal) := by
  rw [b11_at, (iter_kept p y al dt j.val).2.2.1, v_at, GdnRows.coe_V y hy]

include hp ha hd in
theorem decay_trip (j : Fin 4112) (h : Fin 4) :
    b14 (F := Ideal) j.val (iter p y al dt j.val) (ix1 h) = (Real.exp (GdnRows.G p al dt h (112 + j.val)) : EReal) := by
  rw [b14_at, (iter_kept p y al dt j.val).2.2.2.1]
  pointwise [A_main_v43]
  have e := GdnRows.coe_G p al dt hp ha hd h (112 + j.val)
  rw [if_pos (Nat.le_add_right _ _), mul_one] at e
  rw [g_at, e, exp_real]

include hp in
theorem beta_trip (j : Fin 4112) (h : Fin 4) :
    b17 (F := Ideal) j.val (iter p y al dt j.val) (ix1 h) = (GdnRows.B p h (112 + j.val) : EReal) := by
  rw [b17_at, (iter_kept p y al dt j.val).2.2.2.2, beta_at, GdnRows.coe_B p hp]

include hp hy ha hd

/-- A trip's state, from the state before it. -/
theorem state_trip (j : Fin 4112)
    (ih : ∀ h a c, (iter p y al dt j.val).main_v45_6 (ix3 h a c) = (GdnRows.state p y al dt h (112 + j.val) a c : EReal)) (h : Fin 4) (a c : Fin 128) :
    b31 (F := Ideal) j.val (iter p y al dt j.val) (ix3 h a c) = (GdnRows.state p y al dt h (112 + j.val + 1) a c : EReal) := by
  pointwise [b31, b30, b29, b28, b27, b26, b25, b24, b23, b22, b21, b20, b19, b18]
  simp only [ih, k_trip p y al dt hy, v_trip p y al dt hy, decay_trip p y al dt hp ha hd, beta_trip p y al dt hp]
  rw [GdnRows.state_succ]
  simp only [← EReal.coe_mul, ← EReal.coe_sub, ← EReal.coe_add, coe_sum]

/-- The state before trip `n` is the state before row `112 + n`. -/
theorem state_at (n : ℕ) (hn : n ≤ 4112) (h : Fin 4) (a c : Fin 128) :
    (iter p y al dt n).main_v45_6 (ix3 h a c) = (GdnRows.state p y al dt h (112 + n) a c : EReal) := by
  induction n generalizing h a c with
  | zero =>
    rw [GdnRows.state_pad _ _ _ _ _ _ le_rfl, EReal.coe_zero]
    show K_main_v42 (F := Ideal) (ix3 h a c) = 0
    pointwise [K_main_v42, K_main_cst_6]
  | succ n ih => exact state_trip p y al dt hp hy ha hd ⟨n, hn⟩ (fun h a c => ih (by omega) h a c) h a c

/-- What a trip writes. -/
theorem read_at (j : Fin 4112) (h : Fin 4) (c : Fin 128) :
    b32 (F := Ideal) j.val (iter p y al dt j.val) (ix2 h c) = (GdnRows.read p y al dt h (112 + j.val) c : EReal) := by
  pointwise [b32]
  simp only [q_trip p y al dt hy, state_trip p y al dt hp hy ha hd j fun h a c => state_at p y al dt hp hy ha hd j.val (by omega) h a c]
  rw [GdnRows.read_eq]
  simp only [← EReal.coe_mul, coe_sum]

/-- The outputs before trip `n`: the rows of the trips before it. -/
theorem outputs_at (n : ℕ) (hn : n ≤ 4112) (j : Fin 4112) (hj : j.val < n) (h : Fin 4) (c : Fin 128) :
    (iter p y al dt n).main_v45_7 (ix3 j h c) = (GdnRows.read p y al dt h (112 + j.val) c : EReal) := by
  induction n with
  | zero => omega
  | succ n ih =>
    have hlt : n < 4112 := hn
    refine (b36_at ⟨n, hlt⟩ (iter p y al dt n) j h c).trans ?_
    by_cases e : j = ⟨n, hlt⟩
    · rw [if_pos e]
      subst e
      exact read_at p y al dt hp hy ha hd ⟨n, hlt⟩ h c
    · rw [if_neg e]
      refine ih (by omega) ?_
      have : j.val ≠ n := fun h => e (Fin.ext h)
      omega

end Cert.DnfReferenceIdeal.Step
end
-- ==== Proof.DnfReference.lean ====
/-
  The result of the reference of the gated delta rule, at a row and a lane of a head.
-/
module

public import proofs.«01_k».proof.Proof.DnfLoop
public import Idealize.ShloMosaic.Lib.KernelVsHost

@[expose] public section

noncomputable section

namespace Cert.DnfReferenceIdeal.Step

open Cert.DnfReferenceIdeal.Loop (iter)
open Cert.DnfReferenceIdeal Cert.DnfReferenceIdeal.Gen Idealize.ShloMosaic Idealize.ShloMosaic.TcCoe
open Cert.Numbers Cert.Words Cert.Finite

variable (p : Vec Ideal S4112x2824 .f32) (y : Vec Ideal S4112x1536 .f32) (al dt : Vec Ideal S4 .f32) (nw : Vec Ideal S128 .f32)

theorem word0 : (FloatOps.sitofp (F := Ideal) .f32 (0#32 : BitVec 32) : EReal) = 0 := by
  show (((0#32 : BitVec 32).toInt : ℝ) : EReal) = 0
  simp

variable (hp : ∀ i, IsReal (p i)) (hy : ∀ i, IsReal (y i)) (ha : ∀ i, IsReal (al i)) (hd : ∀ i, IsReal (dt i))
include hp hy ha hd

/-- The reference's result. -/
theorem result_at (n : Fin 4224) (h : Fin 4) (v : Fin 128) :
    R_main_v64 (F := Ideal) (iter p y al dt 4112) p nw (ix2 n (⟨h.val * 128 + v.val, by omega⟩ : Fin 512)) = GdnRows.out p y al dt nw h n.val v := by
  unfold R_main_v64
  by_cases hn : n.val < 112
  · rw [GdnRows.out_pad _ _ _ _ _ _ _ _ hn]
    refine (pad_apply_of_not_inside _ _ _ _ _ _ _ (ix2 _ _) 0 ?_).trans word0
    intro hh
    have h0 : (112 : ℕ) ≤ n.val := hh.1
    omega
  · have hj : n.val - 112 < 4112 := by omega
    have e : 112 + (n.val - 112) = n.val := by omega
    refine (pad_apply_of_inside _ _ _ _ _ _ _ (ix2 _ _)
      (ix2 (⟨n.val - 112, hj⟩ : Fin 4112) (⟨h.val * 128 + v.val, by omega⟩ : Fin 512)) ?_).trans ?_
    · intro a
      match a with
      | ⟨0, _⟩ => show n.val = 112 + (n.val - 112) * (0 + 1); omega
      | ⟨1, _⟩ => show h.val * 128 + v.val = 0 + (h.val * 128 + v.val) * (0 + 1); omega
    · pointwise
      have key := fun c => outputs_at p y al dt hp hy ha hd 4112 le_rfl ⟨n.val - 112, hj⟩ hj h c
      simp only [e] at key
      unfold GdnRows.out GdnRow.gated GdnRow.silu
      simp only [key, GdnRows.rowAt_of p n.val (by omega) n.isLt]
      rfl

end Cert.DnfReferenceIdeal.Step
end
-- ==== Proof.DnfClaims.lean ====
/-
  The claims about the forward kernel of the gated delta rule and its reference.
-/
module

public import proofs.«01_k».proof.Defs
public import proofs.«01_k».proof.Proof.DnfArray
public import proofs.«01_k».proof.Proof.DnfReference
public import proofs.«01_k».proof.Proof.Gen.DnfKernel.Frame

@[expose] public section

noncomputable section

namespace Cert.DnfClaims

open Idealize.ShloMosaic Idealize.ShloMosaic.TcCoe Idealize.SL.Sem
open Cert.Numbers Cert.Finite

/-- The shapes of the precondition fit. -/
theorem facts_pre : Cert.Pre_dnf_finite.Facts := ⟨by decide, by decide, by decide, by decide⟩

/-- The kernel runs without fault, keeps its arguments and leaves every counter at zero. -/
theorem frame_kernel : Cert.quiescent_DnfKernel := fun m ρ _ => Cert.DnfKernel.Gen.frame m ρ

/-- So does its ideal program. -/
theorem frame_ideal : Cert.quiescent_DnfKernelIdeal := fun m ρ _ => Cert.DnfKernelIdeal.Gen.frame m ρ

/-- So does the reference. -/
theorem frame_reference : Cert.quiescent_DnfReferenceIdeal := fun m ρ _ =>
  (θ_run _ _ _).mono (fun r h => ⟨fun c => (h c).2, sem_eq_zero_of_no_sems (by decide) r.2⟩) (Cert.DnfReferenceIdeal.Loop.run_loop m ρ)

/-- The kernel's array and the reference's are equal where the projections, the convolution's rows and the decay's parameters are real
    numbers. -/
theorem arrays_eq (m : (ℓ : Loc Cert.DnfKernelIdeal.nD Cert.DnfKernelIdeal.τ Cert.DnfKernelIdeal.sig) → Buf (Elt Ideal) ℓ) (c : Dev Cert.DnfKernelIdeal.nD)
    (hp : ∀ i, IsReal (Cert.DnfKernelIdeal.Value.pOf m c i)) (hy : ∀ i, IsReal (Cert.DnfKernelIdeal.Value.yOf m c i))
    (ha : ∀ i, IsReal (Cert.DnfKernelIdeal.Value.aOf m c i)) (hd : ∀ i, IsReal (Cert.DnfKernelIdeal.Value.dOf m c i)) :
    (Cert.DnfKernelIdeal.Gen.dats m 0 c).arrAt 6 Cert.DnfKernelIdeal.cfg0.N
      = Cert.DnfReferenceIdeal.Step.R_main_v64 (F := Ideal)
          (Cert.DnfReferenceIdeal.Loop.iter (Cert.DnfKernelIdeal.Value.pOf m c) (Cert.DnfKernelIdeal.Value.yOf m c) (Cert.DnfKernelIdeal.Value.aOf m c)
            (Cert.DnfKernelIdeal.Value.dOf m c) 4112)
          (Cert.DnfKernelIdeal.Value.pOf m c) (Cert.DnfKernelIdeal.Value.nOf m c) := by
  funext x
  have h0 : (x 0).val < 4224 := (x 0).isLt
  have h1 : (x 1).val < 512 := (x 1).isLt
  have e : x = (ix2 (⟨(x 0).val / 64 * 64 + (x 0).val % 64, by omega⟩ : Fin 4224)
      (⟨(x 1).val / 128 * 128 + (x 1).val % 128, by omega⟩ : Fin 512) : (⟨2, ![4224, 512]⟩ : Shape).Idx) := by
    funext b
    exact match b with
      | ⟨0, _⟩ => Fin.ext (by show (x 0).val = (x 0).val / 64 * 64 + (x 0).val % 64; omega)
      | ⟨1, _⟩ => Fin.ext (by show (x 1).val = (x 1).val / 128 * 128 + (x 1).val % 128; omega)
  rw [e]
  exact (Cert.DnfKernelIdeal.Value.array_at m c hp hy ha hd ⟨(x 0).val / 64, by omega⟩ ⟨(x 1).val / 128, by omega⟩ ⟨(x 0).val % 64, by omega⟩
      ⟨(x 1).val % 128, by omega⟩).trans
    (Cert.DnfReferenceIdeal.Step.result_at _ _ _ _ _ hp hy ha hd ⟨(x 0).val / 64 * 64 + (x 0).val % 64, by omega⟩ ⟨(x 1).val / 128, by omega⟩
      ⟨(x 1).val % 128, by omega⟩).symm

/-- The kernel and the reference compute the same gated delta rule where the projections, the convolution's rows and the decay's
    parameters are real numbers. -/
theorem algebraic : Cert.algebraic_DnfKernelIdeal_DnfReferenceIdeal_pre_dnf_finite (hPre_dnf_finite := facts_pre) :=
  fun m g m' g' hpre hargs =>
  ⟨fun c => (Cert.DnfKernelIdeal.Gen.dats m 0 c).arrAt 6 Cert.DnfKernelIdeal.cfg0.N,
   (θ_run _ _ _).mono (fun r h c => ⟨(h c).1, (h c).2.2.2⟩) (Cert.DnfKernelIdeal.Value.run_blocks m g),
   (θ_run _ _ _).mono (fun r h c => by
      obtain ⟨r0, hk⟩ := h c
      obtain ⟨e0, e1, e2, e3, e4⟩ := hargs c
      obtain ⟨p0, p1, p2, p3⟩ := hpre c
      refine ⟨r0.trans ?_, hk⟩
      dsimp only [Cert.DnfReferenceIdeal.Loop.states]
      rw [e0, e1, e2, e3, e4]
      exact (arrays_eq m c (real_of_pre _ _ (fun _ => f32_inf) p0) (real_of_pre _ _ (fun _ => f32_inf) p1)
          (real_of_pre _ _ (fun _ => f32_inf) p2) (real_of_pre _ _ (fun _ => f32_inf) p3)).symm)
    (Cert.DnfReferenceIdeal.Loop.run_loop m' g')⟩

end Cert.DnfClaims

end
-- ==== Proof.NormOut.lean ====
/-
  The root-mean-square norm of one row, as both the kernels and the reference compute it from the row and the weights.
-/
module

public import proofs.«01_k».proof.Proof.Norm

@[expose] public section

noncomputable section

namespace Cert.Norm

open Idealize.ShloMosaic Cert.Numbers Cert.Finite

variable (x w : Fin 1024 → EReal)

/-- Entry `k` of the norm of a row. -/
def out (k : Fin 1024) : EReal := x k * rr x * w k

/-- The norm of a row of zeros is zero. -/
theorem out_zero (hx : ∀ k, x k = 0) (k : Fin 1024) : out x w k = 0 := by
  unfold out
  rw [hx k, zero_mul, zero_mul]

end Cert.Norm

end
-- ==== Proof.FfuKernelValue.lean ====
/-
  What one grid point of the first feed-forward layer computes over the extended reals: its rows of the normed input, their
  products with the gate's and the other weights, and the gated product.
-/
module

public import proofs.«01_k».proof.Proof.NormOut
public import proofs.«01_k».proof.Proof.Rows
public import proofs.«01_k».proof.Proof.Gen.FfuKernelIdeal.Value
public import Idealize.ShloMosaic.Lib.Tactic
public import Idealize.ShloMosaic.Lib.Pointwise

@[expose] public section

noncomputable section

namespace Cert.FfuKernelIdeal.Value

open Cert.FfuKernelIdeal Cert.FfuKernelIdeal.Gen Idealize.ShloMosaic Idealize.ShloMosaic.TcCoe Idealize.SL.Sem
open Cert.Numbers Cert.Rows

section point
variable (x0 : Vec Ideal S384x1024 .f32) (x1 : Vec Ideal S1x1024 .f32) (x2 : Vec Ideal S5632x1024 .bf16)

/-- Entry `(r, k)` of the normed input. -/
def hnAt (r : Fin 384) (k : Fin 1024) : EReal := Norm.out (fun k => x0 (ix2 r k)) (fun k => x1 (ix2 0 k)) k

theorem pay_hn (r : Fin 384) (k : Fin 1024) : k0_pay1 (F := Ideal) x0 x1 (ix2 r k) = hnAt x0 x1 r k := by
  unfold hnAt
  pointwise [k0_pay1]
  rfl

/-- Entry `(r, j)` of the product with both weights side by side. -/
def guAt (r : Fin 384) (j : Fin 5632) : EReal := ∑ k : Fin 1024, hnAt x0 x1 r k * x2 (ix2 j k)

theorem pay_gu (r : Fin 384) (j : Fin 5632) : k0_pay2 (F := Ideal) x0 x1 x2 (ix2 r j) = guAt x0 x1 x2 r j := by
  unfold guAt
  pointwise [k0_pay2, pay_hn]

/-- The gate's columns and the others. -/
def gAt (r : Fin 384) (j : Fin 2816) : EReal := guAt x0 x1 x2 r ⟨j.val, by omega⟩
def uAt (r : Fin 384) (j : Fin 2816) : EReal := guAt x0 x1 x2 r ⟨2816 + j.val, by omega⟩

theorem pay_g3 (r : Fin 384) (j : Fin 2816) : k0_pay3 (F := Ideal) x0 x1 x2 (ix2 r j) = gAt x0 x1 x2 r j := by
  unfold gAt
  pointwise [k0_pay3, pay_gu]

theorem pay_u4 (r : Fin 384) (j : Fin 2816) : k0_pay4 (F := Ideal) x0 x1 x2 (ix2 r j) = uAt x0 x1 x2 r j := by
  unfold uAt
  pointwise [k0_pay4, pay_gu]

theorem pay_g (r : Fin 384) (j : Fin 2816) : k0_pay5 (F := Ideal) x0 x1 x2 (ix2 r j) = gAt x0 x1 x2 r j := by
  pointwise [k0_pay5, pay_g3]

theorem pay_u (r : Fin 384) (j : Fin 2816) : k0_pay6 (F := Ideal) x0 x1 x2 (ix2 r j) = uAt x0 x1 x2 r j := by
  pointwise [k0_pay6, pay_u4]

/-- Entry `(r, j)` of the gated product; the gate is written with the hyperbolic tangent. -/
def sAt (r : Fin 384) (j : Fin 2816) : EReal :=
  gAt x0 x1 x2 r j * (Ideal.ofBits .f32 0x3F000000#32
    * (Ideal.tanh (Ideal.ofBits .f32 0x3F000000#32 * gAt x0 x1 x2 r j) + 1)) * uAt x0 x1 x2 r j

theorem pay_s (r : Fin 384) (j : Fin 2816) : k0_pay7 (F := Ideal) x0 x1 x2 (ix2 r j) = sAt x0 x1 x2 r j := by
  unfold sAt
  pointwise [k0_pay7, pay_g3, pay_u4]

/-- The block of the normed input. -/
theorem out_hn (r : Fin 384) (k : Fin 1024) : out0_3 x0 x1 x2 (ix2 r k) = hnAt x0 x1 r k := by
  unfold out0_3
  rw [View.canon_unit_zero zeros2]
  simp only [View.ld_unit_zero (S := S384x1024) zeros2, View.ld_unit_zero (S := S1x1024) zeros2]
  exact pay_hn x0 x1 r k

/-- The block of the gate's product. -/
theorem out_g (r : Fin 384) (k : Fin 2816) : out0_4 x0 x1 x2 (ix2 r k) = gAt x0 x1 x2 r k := by
  unfold out0_4
  rw [View.canon_unit_zero zeros2]
  simp only [View.ld_unit_zero (S := S384x1024) zeros2, View.ld_unit_zero (S := S1x1024) zeros2, View.ld_unit_zero (S := S5632x1024) zeros2]
  exact pay_g x0 x1 x2 r k

/-- The block of the other product. -/
theorem out_u (r : Fin 384) (k : Fin 2816) : out0_5 x0 x1 x2 (ix2 r k) = uAt x0 x1 x2 r k := by
  unfold out0_5
  rw [View.canon_unit_zero zeros2]
  simp only [View.ld_unit_zero (S := S384x1024) zeros2, View.ld_unit_zero (S := S1x1024) zeros2, View.ld_unit_zero (S := S5632x1024) zeros2]
  exact pay_u x0 x1 x2 r k

/-- The block of the gated product. -/
theorem out_s (r : Fin 384) (k : Fin 2816) : out0_6 x0 x1 x2 (ix2 r k) = sAt x0 x1 x2 r k := by
  unfold out0_6
  rw [View.canon_unit_zero zeros2]
  simp only [View.ld_unit_zero (S := S384x1024) zeros2, View.ld_unit_zero (S := S1x1024) zeros2, View.ld_unit_zero (S := S5632x1024) zeros2]
  exact pay_s x0 x1 x2 r k

end point
end Cert.FfuKernelIdeal.Value
end
-- ==== Proof.FfuBlocks.lean ====
/-
  The four arrays the first feed-forward layer leaves over the extended reals, row by row.
-/
module

public import proofs.«01_k».proof.Proof.FfuKernelValue

@[expose] public section

noncomputable section

namespace Cert.FfuKernelIdeal.Value

open Cert.FfuKernelIdeal Cert.FfuKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (win0_0.index t 0 = t.val ∧ win0_0.index t 1 = 0) ∧
    (win0_1.index t 0 = 0 ∧ win0_1.index t 1 = 0) ∧
    (win0_2.index t 0 = 0 ∧ win0_2.index t 1 = 0) ∧
    (win0_3.index t 0 = t.val ∧ win0_3.index t 1 = 0) ∧
    (win0_4.index t 0 = t.val ∧ win0_4.index t 1 = 0) ∧
    (win0_5.index t 0 = t.val ∧ win0_5.index t 1 = 0) ∧
    (win0_6.index t 0 = t.val ∧ win0_6.index t 1 = 0) :=
  (by decide +kernel : ∀ t : Fin grid0.N, _)

/-- The arrays the region finds: the layer's input, the norm's weights, the two weights transposed one below the other. -/
def hA (n : Fin 4224) (k : Fin 1024) : EReal := (V m c main_v5 : Vec Ideal S4224x1024 .f32) (ix2 n k)
def nwA (k : Fin 1024) : EReal := (V m c main_arg1 : Vec Ideal S1x1024 .f32) (ix2 0 k)
def wA (j : Fin 5632) (k : Fin 1024) : EReal := (V m c main_v3 : Vec Ideal S5632x1024 .bf16) (ix2 j k)

/-- Row `r` of the point's row block. -/
abbrev rowOf (t : Fin cfg0.N) (r : Fin 384) : Fin 4224 := ⟨t.val * 384 + r.val, by have ht : t.val < 11 := t.isLt; omega⟩

theorem block_h (t : Fin cfg0.N) (r : Fin 384) (k : Fin 1024) :
    (iblk m c 0 t : Vec Ideal S384x1024 .f32) (ix2 r k) = hA m c (rowOf t r) k :=
  congrArg (V m c main_v5) (at2 (at_block (index_facts t).1.1) (at_first (index_facts t).1.2))

theorem block_nw (t : Fin cfg0.N) (k : Fin 1024) :
    (iblk m c 1 t : Vec Ideal S1x1024 .f32) (ix2 0 k) = nwA m c k :=
  congrArg (V m c main_arg1) (at2 (at_first (index_facts t).2.1.1) (at_first (index_facts t).2.1.2))

theorem block_w (t : Fin cfg0.N) (r : Fin 5632) (k : Fin 1024) :
    (iblk m c 2 t : Vec Ideal S5632x1024 .bf16) (ix2 r k) = wA m c r k :=
  congrArg (V m c main_v3) (at2 (at_first (index_facts t).2.2.1.1) (at_first (index_facts t).2.2.1.2))

/-- Row `n` of the normed input. -/
def hnRow (n : Fin 4224) (k : Fin 1024) : EReal := Norm.out (fun k => hA m c n k) (fun k => nwA m c k) k

/-- Row `n` of the products. -/
def gRow (n : Fin 4224) (j : Fin 2816) : EReal := ∑ k : Fin 1024, hnRow m c n k * wA m c ⟨j.val, by omega⟩ k
def uRow (n : Fin 4224) (j : Fin 2816) : EReal := ∑ k : Fin 1024, hnRow m c n k * wA m c ⟨2816 + j.val, by omega⟩ k

/-- Row `n` of the gated product. -/
def sRow (n : Fin 4224) (j : Fin 2816) : EReal :=
  gRow m c n j * (Ideal.ofBits .f32 0x3F000000#32 * (Ideal.tanh (Ideal.ofBits .f32 0x3F000000#32 * gRow m c n j) + 1)) * uRow m c n j

theorem hnAt_eq (t : Fin cfg0.N) (r : Fin 384) (k : Fin 1024) :
    hnAt (iblk m c 0 t) (iblk m c 1 t) r k = hnRow m c (rowOf t r) k := by
  unfold hnAt hnRow
  simp only [block_h, block_nw]

theorem gAt_eq (t : Fin cfg0.N) (r : Fin 384) (j : Fin 2816) : gAt (iblk m c 0 t) (iblk m c 1 t) (iblk m c 2 t) r j = gRow m c (rowOf t r) j := by
  unfold gAt guAt gRow
  simp only [hnAt_eq, block_w]

theorem uAt_eq (t : Fin cfg0.N) (r : Fin 384) (j : Fin 2816) : uAt (iblk m c 0 t) (iblk m c 1 t) (iblk m c 2 t) r j = uRow m c (rowOf t r) j := by
  unfold uAt guAt uRow
  simp only [hnAt_eq, block_w]

theorem block_hn (t : Fin cfg0.N) (r : Fin 384) (k : Fin 1024) : out0_3 (iblk m c 0 t) (iblk m c 1 t) (iblk m c 2 t) (ix2 r k) = hnRow m c (rowOf t r) k :=
  (out_hn _ _ _ r k).trans (hnAt_eq m c t r k)

theorem block_g (t : Fin cfg0.N) (r : Fin 384) (j : Fin 2816) : out0_4 (iblk m c 0 t) (iblk m c 1 t) (iblk m c 2 t) (ix2 r j) = gRow m c (rowOf t r) j :=
  (out_g _ _ _ r j).trans (gAt_eq m c t r j)

theorem block_u (t : Fin cfg0.N) (r : Fin 384) (j : Fin 2816) : out0_5 (iblk m c 0 t) (iblk m c 1 t) (iblk m c 2 t) (ix2 r j) = uRow m c (rowOf t r) j :=
  (out_u _ _ _ r j).trans (uAt_eq m c t r j)

theorem block_s (t : Fin cfg0.N) (r : Fin 384) (j : Fin 2816) : out0_6 (iblk m c 0 t) (iblk m c 1 t) (iblk m c 2 t) (ix2 r j) = sRow m c (rowOf t r) j := by
  refine (out_s _ _ _ r j).trans ?_
  unfold sAt sRow
  simp only [gAt_eq, uAt_eq]

/-- The array of the normed input at an entry. -/
theorem hn_at (n : Fin 4224) (k : Fin 1024) :
    (dats m 0 c).arrAt 3 cfg0.N (ix2 n k : S4224x1024.Idx) = hnRow m c n k := by
  have ht : n.val / 384 < cfg0.N := by show _ < 11; omega
  have hi := (index_facts ⟨_, ht⟩).2.2.2.1
  have h := congrFun (blocks3 m c ⟨_, ht⟩ (flush0_3 _)) (ix2 (⟨n.val % 384, by omega⟩ : Fin 384) k)
  rw [flushed3, View.read_apply] at h
  refine Eq.trans (congrArg _ ?_) (h.trans ((block_hn m c ⟨_, ht⟩ ⟨n.val % 384, by omega⟩ k).trans ?_))
  · exact at2 (at_row hi.1) (at_first hi.2).symm
  · congr 1
    exact Fin.ext (by dsimp only; omega)

/-- The array of the gate's product at an entry. -/
theorem g_at (n : Fin 4224) (k : Fin 2816) :
    (dats m 0 c).arrAt 4 cfg0.N (ix2 n k : S4224x2816.Idx) = gRow m c n k := by
  have ht : n.val / 384 < cfg0.N := by show _ < 11; omega
  have hi := (index_facts ⟨_, ht⟩).2.2.2.2.1
  have h := congrFun (blocks4 m c ⟨_, ht⟩ (flush0_4 _)) (ix2 (⟨n.val % 384, by omega⟩ : Fin 384) k)
  rw [flushed4, View.read_apply] at h
  refine Eq.trans (congrArg _ ?_) (h.trans ((block_g m c ⟨_, ht⟩ ⟨n.val % 384, by omega⟩ k).trans ?_))
  · exact at2 (at_row hi.1) (at_first hi.2).symm
  · congr 1
    exact Fin.ext (by dsimp only; omega)

/-- The array of the other product at an entry. -/
theorem u_at (n : Fin 4224) (k : Fin 2816) :
    (dats m 0 c).arrAt 5 cfg0.N (ix2 n k : S4224x2816.Idx) = uRow m c n k := by
  have ht : n.val / 384 < cfg0.N := by show _ < 11; omega
  have hi := (index_facts ⟨_, ht⟩).2.2.2.2.2.1
  have h := congrFun (blocks5 m c ⟨_, ht⟩ (flush0_5 _)) (ix2 (⟨n.val % 384, by omega⟩ : Fin 384) k)
  rw [flushed5, View.read_apply] at h
  refine Eq.trans (congrArg _ ?_) (h.trans ((block_u m c ⟨_, ht⟩ ⟨n.val % 384, by omega⟩ k).trans ?_))
  · exact at2 (at_row hi.1) (at_first hi.2).symm
  · congr 1
    exact Fin.ext (by dsimp only; omega)

/-- The array of the gated product at an entry. -/
theorem s_at (n : Fin 4224) (k : Fin 2816) :
    (dats m 0 c).arrAt 6 cfg0.N (ix2 n k : S4224x2816.Idx) = sRow m c n k := by
  have ht : n.val / 384 < cfg0.N := by show _ < 11; omega
  have hi := (index_facts ⟨_, ht⟩).2.2.2.2.2.2
  have h := congrFun (blocks6 m c ⟨_, ht⟩ (flush0_6 _)) (ix2 (⟨n.val % 384, by omega⟩ : Fin 384) k)
  rw [flushed6, View.read_apply] at h
  refine Eq.trans (congrArg _ ?_) (h.trans ((block_s m c ⟨_, ht⟩ ⟨n.val % 384, by omega⟩ k).trans ?_))
  · exact at2 (at_row hi.1) (at_first hi.2).symm
  · congr 1
    exact Fin.ext (by dsimp only; omega)

end Cert.FfuKernelIdeal.Value
end
-- ==== Proof.FfuValue.lean ====
/-
  The first feed-forward layer's kernel and its reference compute the same four arrays over the extended reals.
-/
module

public import proofs.«01_k».proof.Proof.FfuBlocks
public import proofs.«01_k».proof.Proof.Gen.FfuReferenceIdeal.Read
public import Idealize.ShloMosaic.Lib.KernelVsHost

@[expose] public section

noncomputable section

namespace Cert.FfuValue

open Cert.FfuKernelIdeal Cert.FfuKernelIdeal.Gen Cert.FfuKernelIdeal.Value Cert.FfuReferenceIdeal.Read
open Idealize.ShloMosaic Idealize.ShloMosaic.TcCoe Idealize.SL.Sem
open Cert.Numbers Cert.Finite

section reference
variable (x0 : Vec Ideal S4112x1024 .f32) (x1 : Vec Ideal S1x1024 .f32) (x2 x3 : Vec Ideal S1024x2816 .f32)

/-- The normed input. -/
def hnR (n : Fin 4112) (k : Fin 1024) : EReal := Norm.out (fun k => x0 (ix2 n k)) (fun k => x1 (ix2 0 k)) k

theorem ref_hn (n : Fin 4112) (k : Fin 1024) : val_main_v11 (F := Ideal) x0 x1 (ix2 n k) = hnR x0 x1 n k := by
  unfold hnR
  pointwise [val_main_v11, val_main_v10, val_main_v9, val_main_v8, val_main_v7, val_main_v6, val_main_v5, val_main_v4, val_main_v3, val_main_v2, val_main_v1, val_main_v0, val_main_cst, val_main_cst_0, val_main_cst_1]
  rfl

/-- Its product with a weight. -/
def dotR (x : Vec Ideal S1024x2816 .f32) (n : Fin 4112) (j : Fin 2816) : EReal := ∑ k : Fin 1024, hnR x0 x1 n k * x (ix2 k j)

theorem ref_g (n : Fin 4112) (j : Fin 2816) : val_main_v12 (F := Ideal) x0 x1 x2 (ix2 n j) = dotR x0 x1 x2 n j := by
  unfold dotR
  pointwise [val_main_v12, ref_hn]

theorem ref_u (n : Fin 4112) (j : Fin 2816) : val_main_v13 (F := Ideal) x0 x1 x3 (ix2 n j) = dotR x0 x1 x3 n j := by
  unfold dotR
  pointwise [val_main_v13, ref_hn]

/-- The gated product; the gate is the logistic function. -/
def sR (n : Fin 4112) (j : Fin 2816) : EReal :=
  dotR x0 x1 x2 n j * Ideal.div 1 (1 + Ideal.exp (-(dotR x0 x1 x2 n j))) * dotR x0 x1 x3 n j

theorem ref_s (n : Fin 4112) (j : Fin 2816) : val_main_v15 (F := Ideal) x0 x1 x2 x3 (ix2 n j) = sR x0 x1 x2 x3 n j := by
  unfold sR
  pointwise [val_main_v15, val_main_v14, val_main_call0_v0, val_main_call0_v1, val_main_call0_v2, val_main_call0_v3, val_main_call0_v4, val_main_call0_v5, val_main_call0_cst, val_main_call0_cst_0, ref_g, ref_u]

/-- The four results, each below 112 zero rows. -/
theorem ref_out0 (n : Fin 4224) (k : Fin 1024) : val_main_v18 (F := Ideal) x0 x1 (ix2 n k)
    = if h : n.val < 112 then 0 else hnR x0 x1 ⟨n.val - 112, by omega⟩ k := by
  pointwise [val_main_v18, val_main_v17, val_main_v16, val_main_cst_2, ref_hn]

theorem ref_out1 (n : Fin 4224) (j : Fin 2816) : val_main_v21 (F := Ideal) x0 x1 x2 (ix2 n j)
    = if h : n.val < 112 then 0 else dotR x0 x1 x2 ⟨n.val - 112, by omega⟩ j := by
  pointwise [val_main_v21, val_main_v20, val_main_v19, val_main_cst_3, ref_g]

theorem ref_out2 (n : Fin 4224) (j : Fin 2816) : val_main_v24 (F := Ideal) x0 x1 x3 (ix2 n j)
    = if h : n.val < 112 then 0 else dotR x0 x1 x3 ⟨n.val - 112, by omega⟩ j := by
  pointwise [val_main_v24, val_main_v23, val_main_v22, val_main_cst_4, ref_u]

theorem ref_out3 (n : Fin 4224) (j : Fin 2816) : val_main_v27 (F := Ideal) x0 x1 x2 x3 (ix2 n j)
    = if h : n.val < 112 then 0 else sR x0 x1 x2 x3 ⟨n.val - 112, by omega⟩ j := by
  pointwise [val_main_v27, val_main_v26, val_main_v25, val_main_cst_5, ref_s]

/-- The two ways to write the gate agree, also at the infinities. -/
theorem gate_eq (x : EReal) :
    Ideal.ofBits .f32 0x3F000000#32 * (Ideal.tanh (Ideal.ofBits .f32 0x3F000000#32 * x) + 1) = Ideal.div 1 (1 + Ideal.exp (-x)) := by
  rw [f32_half]
  induction x using EReal.rec with
  | bot =>
    rw [EReal.coe_mul_bot_of_pos (by norm_num : (0 : ℝ) < 1 / 2), EReal.neg_bot]
    show _ * (((-1 : ℝ) : EReal) + 1) = Ideal.div 1 (1 + ⊤)
    rw [← EReal.coe_one, ← EReal.coe_add, EReal.coe_add_top]
    simp [Ideal.div]
  | coe r => rw [tanh_sig, div_sig]
  | top =>
    rw [EReal.coe_mul_top_of_pos (by norm_num : (0 : ℝ) < 1 / 2), EReal.neg_top]
    show _ * (((1 : ℝ) : EReal) + 1) = Ideal.div 1 (1 + 0)
    rw [← EReal.coe_one, ← EReal.coe_add, ← EReal.coe_mul, add_zero, EReal.coe_one]
    norm_num [Ideal.div]

end reference

section kernel
variable (m : (ℓ : Loc nD τ sig) → Buf (Elt Ideal) ℓ) (c : Dev nD)

abbrev a0 : Vec Ideal S4112x1024 .f32 := m ((c.tc : Thread nD τ).loc main_arg0)
abbrev a1 : Vec Ideal S1x1024 .f32 := m ((c.tc : Thread nD τ).loc main_arg1)
abbrev a2 : Vec Ideal S1024x2816 .f32 := m ((c.tc : Thread nD τ).loc main_arg2)
abbrev a3 : Vec Ideal S1024x2816 .f32 := m ((c.tc : Thread nD τ).loc main_arg3)

/-- The input, padded. -/
theorem h_eq (n : Fin 4224) (k : Fin 1024) :
    hA m c n k = if h : n.val < 112 then 0 else a0 m c (ix2 (⟨n.val - 112, by omega⟩ : Fin 4112) k) := by
  unfold hA
  dsimp only [V, hostOps0]
  after_results
  pointwise

theorem nw_eq (k : Fin 1024) : nwA m c k = a1 m c (ix2 0 k) := by
  unfold nwA
  rw [V_main_arg1]

/-- The gate's weights are the upper half of the array, the others the lower. -/
theorem wg_eq (j : Fin 2816) (k : Fin 1024) : wA m c ⟨j.val, by omega⟩ k = a2 m c (ix2 k j) := by
  unfold wA
  dsimp only [V, hostOps0]
  after_results
  pointwise

theorem wu_eq (j : Fin 2816) (k : Fin 1024) : wA m c ⟨2816 + j.val, by omega⟩ k = a3 m c (ix2 k j) := by
  unfold wA
  dsimp only [V, hostOps0]
  after_results
  pointwise

/-- A row of the normed input is the reference's, zero in the padding. -/
theorem hnRow_eq (n : Fin 4224) (k : Fin 1024) : hnRow m c n k
    = if h : n.val < 112 then 0 else hnR (a0 m c) (a1 m c) ⟨n.val - 112, by omega⟩ k := by
  unfold hnRow hnR
  by_cases h : n.val < 112
  · rw [dif_pos h, Norm.out_zero _ _ (fun k => by rw [h_eq, dif_pos h])]
  · rw [dif_neg h]
    simp only [h_eq, nw_eq, dif_neg h]

theorem gRow_eq (n : Fin 4224) (j : Fin 2816) : gRow m c n j
    = if h : n.val < 112 then 0 else dotR (a0 m c) (a1 m c) (a2 m c) ⟨n.val - 112, by omega⟩ j := by
  unfold gRow dotR
  by_cases h : n.val < 112
  · rw [dif_pos h]
    simp only [hnRow_eq, dif_pos h, zero_mul, Finset.sum_const_zero]
  · rw [dif_neg h]
    simp only [hnRow_eq, wg_eq, dif_neg h]

theorem uRow_eq (n : Fin 4224) (j : Fin 2816) : uRow m c n j
    = if h : n.val < 112 then 0 else dotR (a0 m c) (a1 m c) (a3 m c) ⟨n.val - 112, by omega⟩ j := by
  unfold uRow dotR
  by_cases h : n.val < 112
  · rw [dif_pos h]
    simp only [hnRow_eq, dif_pos h, zero_mul, Finset.sum_const_zero]
  · rw [dif_neg h]
    simp only [hnRow_eq, wu_eq, dif_neg h]

theorem sRow_eq (n : Fin 4224) (j : Fin 2816) :
    sRow m c n j = if h : n.val < 112 then 0 else sR (a0 m c) (a1 m c) (a2 m c) (a3 m c) ⟨n.val - 112, by omega⟩ j := by
  unfold sRow sR
  by_cases h : n.val < 112
  · rw [dif_pos h, gRow_eq, dif_pos h, zero_mul, zero_mul]
  · rw [dif_neg h, gRow_eq, dif_neg h, uRow_eq, dif_neg h, gate_eq]

/-- The first array is the reference's. -/
theorem hn_eq : (dats m 0 c).arrAt 3 cfg0.N = val_main_v18 (F := Ideal) (a0 m c) (a1 m c) := by
  funext i
  have e : i = ix2 (i 0) (i 1) := eq_ix2 i
  rw [e]
  exact (hn_at m c (i 0) (i 1)).trans ((hnRow_eq m c (i 0) (i 1)).trans (ref_out0 _ _ (i 0) (i 1)).symm)

/-- The second array is the reference's. -/
theorem g_eq : (dats m 0 c).arrAt 4 cfg0.N = val_main_v21 (F := Ideal) (a0 m c) (a1 m c) (a2 m c) := by
  funext i
  have e : i = ix2 (i 0) (i 1) := eq_ix2 i
  rw [e]
  exact (g_at m c (i 0) (i 1)).trans ((gRow_eq m c (i 0) (i 1)).trans (ref_out1 _ _ _ (i 0) (i 1)).symm)

/-- The third array is the reference's. -/
theorem u_eq : (dats m 0 c).arrAt 5 cfg0.N = val_main_v24 (F := Ideal) (a0 m c) (a1 m c) (a3 m c) := by
  funext i
  have e : i = ix2 (i 0) (i 1) := eq_ix2 i
  rw [e]
  exact (u_at m c (i 0) (i 1)).trans ((uRow_eq m c (i 0) (i 1)).trans (ref_out2 _ _ _ (i 0) (i 1)).symm)

/-- The fourth array is the reference's. -/
theorem s_eq : (dats m 0 c).arrAt 6 cfg0.N = val_main_v27 (F := Ideal) (a0 m c) (a1 m c) (a2 m c) (a3 m c) := by
  funext i
  have e : i = ix2 (i 0) (i 1) := eq_ix2 i
  rw [e]
  exact (s_at m c (i 0) (i 1)).trans ((sRow_eq m c (i 0) (i 1)).trans (ref_out3 _ _ _ _ (i 0) (i 1)).symm)

end kernel
end Cert.FfuValue
end
-- ==== Proof.FfuClaims.lean ====
/-
  The claims about the first feed-forward layer's kernel and its reference.
-/
module

public import proofs.«01_k».proof.Defs
public import proofs.«01_k».proof.Proof.FfuValue
public import proofs.«01_k».proof.Proof.Gen.FfuKernel.Frame
public import proofs.«01_k».proof.Proof.Gen.FfuReferenceIdeal.Run

@[expose] public section

noncomputable section

namespace Cert.FfuClaims

open Idealize.ShloMosaic Idealize.ShloMosaic.TcCoe Idealize.SL.Sem
open Cert.Numbers Cert.Finite

/-- The kernel runs without fault, keeps its arguments and leaves every counter at zero. -/
theorem frame_kernel : Cert.quiescent_FfuKernel := fun m ρ _ => Cert.FfuKernel.Gen.frame m ρ

/-- So does its ideal program. -/
theorem frame_ideal : Cert.quiescent_FfuKernelIdeal := fun m ρ _ => Cert.FfuKernelIdeal.Gen.frame m ρ

/-- So does the reference. -/
theorem frame_reference : Cert.quiescent_FfuReferenceIdeal := fun m ρ _ =>
  (θ_run _ _ _).mono (fun r h => ⟨fun c => (h c).2.2.2.2, sem_eq_zero_of_no_sems (by decide) r.2⟩)
    (Cert.FfuReferenceIdeal.Value.run m ρ)

/-- The kernel and the reference compute the same four arrays. -/
theorem algebraic : Cert.algebraic_FfuKernelIdeal_FfuReferenceIdeal :=
  fun m g m' g' _ hargs =>
  ⟨fun c => (Cert.FfuKernelIdeal.Gen.dats m 0 c).arrAt 3 Cert.FfuKernelIdeal.cfg0.N,
   fun c => (Cert.FfuKernelIdeal.Gen.dats m 0 c).arrAt 4 Cert.FfuKernelIdeal.cfg0.N,
   fun c => (Cert.FfuKernelIdeal.Gen.dats m 0 c).arrAt 5 Cert.FfuKernelIdeal.cfg0.N,
   fun c => (Cert.FfuKernelIdeal.Gen.dats m 0 c).arrAt 6 Cert.FfuKernelIdeal.cfg0.N,
   Cert.FfuKernelIdeal.Value.run_blocks m g,
   (θ_run _ _ _).mono (fun r h c => by
      obtain ⟨r0, r1, r2, r3, hk⟩ := h c
      obtain ⟨e0, e1, e2, e3⟩ := hargs c
      refine ⟨r0.trans ?_, r1.trans ?_, r2.trans ?_, r3.trans ?_, hk⟩
      · rw [Cert.FfuReferenceIdeal.Read.val_main_v18_eq, e0, e1]
        exact (Cert.FfuValue.hn_eq m c).symm
      · rw [Cert.FfuReferenceIdeal.Read.val_main_v21_eq, e0, e1, e2]
        exact (Cert.FfuValue.g_eq m c).symm
      · rw [Cert.FfuReferenceIdeal.Read.val_main_v24_eq, e0, e1, e3]
        exact (Cert.FfuValue.u_eq m c).symm
      · rw [Cert.FfuReferenceIdeal.Read.val_main_v27_eq, e0, e1, e2, e3]
        exact (Cert.FfuValue.s_eq m c).symm)
    (Cert.FfuReferenceIdeal.Value.run m' g')⟩

end Cert.FfuClaims

end
-- ==== Proof.FfdKernelValue.lean ====
/-
  What one grid point of the second feed-forward layer computes over the extended reals: its rows of the layer's product, and
  its rows of the input plus half the norm of that product.
-/
module

public import proofs.«01_k».proof.Proof.NormOut
public import proofs.«01_k».proof.Proof.Rows
public import proofs.«01_k».proof.Proof.Gen.FfdKernelIdeal.Value
public import Idealize.ShloMosaic.Lib.Tactic
public import Idealize.ShloMosaic.Lib.Pointwise

@[expose] public section

noncomputable section

namespace Cert.FfdKernelIdeal.Value

open Cert.FfdKernelIdeal Cert.FfdKernelIdeal.Gen Idealize.ShloMosaic Idealize.ShloMosaic.TcCoe Idealize.SL.Sem
open Cert.Numbers Cert.Rows

section point
variable (x0 : Vec Ideal S384x2816 .bf16) (x1 : Vec Ideal S2816x1024 .bf16) (x2 : Vec Ideal S384x1024 .f32) (x3 : Vec Ideal S1x1024 .f32)

/-- Entry `(r, k)` of the layer's product. -/
def fAt (r : Fin 384) (k : Fin 1024) : EReal := ∑ j : Fin 2816, x0 (ix2 r j) * x1 (ix2 j k)

theorem pay_f (r : Fin 384) (k : Fin 1024) : k0_pay1 (F := Ideal) x0 x1 (ix2 r k) = fAt x0 x1 r k := by
  unfold fAt
  pointwise [k0_pay1]

/-- Entry `(r, k)` of the input plus half the norm of the product. -/
def hoAt (r : Fin 384) (k : Fin 1024) : EReal :=
  x2 (ix2 r k) + Ideal.ofBits .f32 0x3F000000#32 * Norm.out (fun k => fAt x0 x1 r k) (fun k => x3 (ix2 0 k)) k

theorem pay_ho (r : Fin 384) (k : Fin 1024) : k0_pay2 (F := Ideal) x0 x1 x2 x3 (ix2 r k) = hoAt x0 x1 x2 x3 r k := by
  unfold hoAt
  pointwise [k0_pay2, pay_f]
  rfl

/-- The block of the product. -/
theorem out_f (r : Fin 384) (k : Fin 1024) : out0_4 x0 x1 x2 x3 (ix2 r k) = fAt x0 x1 r k := by
  unfold out0_4
  rw [View.canon_unit_zero zeros2]
  simp only [View.ld_unit_zero (S := S384x2816) zeros2, View.ld_unit_zero (S := S2816x1024) zeros2]
  exact pay_f x0 x1 r k

/-- The block of the sum. -/
theorem out_ho (r : Fin 384) (k : Fin 1024) : out0_5 x0 x1 x2 x3 (ix2 r k) = hoAt x0 x1 x2 x3 r k := by
  unfold out0_5
  rw [View.canon_unit_zero zeros2]
  simp only [View.ld_unit_zero (S := S384x2816) zeros2, View.ld_unit_zero (S := S2816x1024) zeros2,
    View.ld_unit_zero (S := S384x1024) zeros2, View.ld_unit_zero (S := S1x1024) zeros2]
  exact pay_ho x0 x1 x2 x3 r k

end point
end Cert.FfdKernelIdeal.Value
end
-- ==== Proof.FfdBlocks.lean ====
/-
  The two arrays the second feed-forward layer leaves over the extended reals, row by row.
-/
module

public import proofs.«01_k».proof.Proof.FfdKernelValue

@[expose] public section

noncomputable section

namespace Cert.FfdKernelIdeal.Value

open Cert.FfdKernelIdeal Cert.FfdKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (win0_0.index t 0 = t.val ∧ win0_0.index t 1 = 0) ∧
    (win0_1.index t 0 = 0 ∧ win0_1.index t 1 = 0) ∧
    (win0_2.index t 0 = t.val ∧ win0_2.index t 1 = 0) ∧
    (win0_3.index t 0 = 0 ∧ win0_3.index t 1 = 0) ∧
    (win0_4.index t 0 = t.val ∧ win0_4.index t 1 = 0) ∧
    (win0_5.index t 0 = t.val ∧ win0_5.index t 1 = 0) :=
  (by decide +kernel : ∀ t : Fin grid0.N, _)

/-- The arrays the region finds: the activations, the layer's weights, its input, the norm's weights. -/
def aA (n : Fin 4224) (j : Fin 2816) : EReal := (V m c main_v2 : Vec Ideal S4224x2816 .bf16) (ix2 n j)
def wA (j : Fin 2816) (k : Fin 1024) : EReal := (V m c main_v3 : Vec Ideal S2816x1024 .bf16) (ix2 j k)
def hA (n : Fin 4224) (k : Fin 1024) : EReal := (V m c main_v5 : Vec Ideal S4224x1024 .f32) (ix2 n k)
def nwA (k : Fin 1024) : EReal := (V m c main_arg3 : Vec Ideal S1x1024 .f32) (ix2 0 k)

/-- Row `r` of the point's row block. -/
abbrev rowOf (t : Fin cfg0.N) (r : Fin 384) : Fin 4224 := ⟨t.val * 384 + r.val, by have ht : t.val < 11 := t.isLt; omega⟩

theorem block_a (t : Fin cfg0.N) (r : Fin 384) (k : Fin 2816) :
    (iblk m c 0 t : Vec Ideal S384x2816 .bf16) (ix2 r k) = aA m c (rowOf t r) k :=
  congrArg (V m c main_v2) (at2 (at_block (index_facts t).1.1) (at_first (index_facts t).1.2))

theorem block_w (t : Fin cfg0.N) (r : Fin 2816) (k : Fin 1024) :
    (iblk m c 1 t : Vec Ideal S2816x1024 .bf16) (ix2 r k) = wA m c r k :=
  congrArg (V m c main_v3) (at2 (at_first (index_facts t).2.1.1) (at_first (index_facts t).2.1.2))

theorem block_h (t : Fin cfg0.N) (r : Fin 384) (k : Fin 1024) :
    (iblk m c 2 t : Vec Ideal S384x1024 .f32) (ix2 r k) = hA m c (rowOf t r) k :=
  congrArg (V m c main_v5) (at2 (at_block (index_facts t).2.2.1.1) (at_first (index_facts t).2.2.1.2))

theorem block_nw (t : Fin cfg0.N) (k : Fin 1024) :
    (iblk m c 3 t : Vec Ideal S1x1024 .f32) (ix2 0 k) = nwA m c k :=
  congrArg (V m c main_arg3) (at2 (at_first (index_facts t).2.2.2.1.1) (at_first (index_facts t).2.2.2.1.2))

/-- Row `n` of the product. -/
def fRow (n : Fin 4224) (k : Fin 1024) : EReal := ∑ j : Fin 2816, aA m c n j * wA m c j k

/-- Row `n` of the sum. -/
def hoRow (n : Fin 4224) (k : Fin 1024) : EReal :=
  hA m c n k + Ideal.ofBits .f32 0x3F000000#32 * Norm.out (fun k => fRow m c n k) (fun k => nwA m c k) k

theorem fAt_eq (t : Fin cfg0.N) (r : Fin 384) (k : Fin 1024) :
    fAt (iblk m c 0 t) (iblk m c 1 t) r k = fRow m c (rowOf t r) k := by
  unfold fAt fRow
  simp only [block_a, block_w]

theorem block_f (t : Fin cfg0.N) (r : Fin 384) (k : Fin 1024) :
    out0_4 (iblk m c 0 t) (iblk m c 1 t) (iblk m c 2 t) (iblk m c 3 t) (ix2 r k) = fRow m c (rowOf t r) k :=
  (out_f _ _ _ _ r k).trans (fAt_eq m c t r k)

theorem block_ho (t : Fin cfg0.N) (r : Fin 384) (k : Fin 1024) :
    out0_5 (iblk m c 0 t) (iblk m c 1 t) (iblk m c 2 t) (iblk m c 3 t) (ix2 r k) = hoRow m c (rowOf t r) k := by
  refine (out_ho _ _ _ _ r k).trans ?_
  unfold hoAt hoRow
  simp only [fAt_eq, block_h, block_nw]

/-- The array of the product at an entry. -/
theorem f_at (n : Fin 4224) (k : Fin 1024) :
    (dats m 0 c).arrAt 4 cfg0.N (ix2 n k : S4224x1024.Idx) = fRow m c n k := by
  have ht : n.val / 384 < cfg0.N := by show _ < 11; omega
  have hi := (index_facts ⟨_, ht⟩).2.2.2.2.1
  have h := congrFun (blocks4 m c ⟨_, ht⟩ (flush0_4 _)) (ix2 (⟨n.val % 384, by omega⟩ : Fin 384) k)
  rw [flushed4, View.read_apply] at h
  refine Eq.trans (congrArg _ ?_) (h.trans ((block_f m c ⟨_, ht⟩ ⟨n.val % 384, by omega⟩ k).trans ?_))
  · exact at2 (at_row hi.1) (at_first hi.2).symm
  · congr 1
    exact Fin.ext (by dsimp only; omega)

/-- The array of the sum at an entry. -/
theorem ho_at (n : Fin 4224) (k : Fin 1024) :
    (dats m 0 c).arrAt 5 cfg0.N (ix2 n k : S4224x1024.Idx) = hoRow m c n k := by
  have ht : n.val / 384 < cfg0.N := by show _ < 11; omega
  have hi := (index_facts ⟨_, ht⟩).2.2.2.2.2
  have h := congrFun (blocks5 m c ⟨_, ht⟩ (flush0_5 _)) (ix2 (⟨n.val % 384, by omega⟩ : Fin 384) k)
  rw [flushed5, View.read_apply] at h
  refine Eq.trans (congrArg _ ?_) (h.trans ((block_ho m c ⟨_, ht⟩ ⟨n.val % 384, by omega⟩ k).trans ?_))
  · exact at2 (at_row hi.1) (at_first hi.2).symm
  · congr 1
    exact Fin.ext (by dsimp only; omega)

end Cert.FfdKernelIdeal.Value
end
-- ==== Proof.FfdValue.lean ====
/-
  The second feed-forward layer's kernel and its reference compute the same two arrays over the extended reals.
-/
module

public import proofs.«01_k».proof.Proof.FfdBlocks
public import proofs.«01_k».proof.Proof.Gen.FfdReferenceIdeal.Read

@[expose] public section

noncomputable section

namespace Cert.FfdValue

open Cert.FfdKernelIdeal Cert.FfdKernelIdeal.Gen Cert.FfdKernelIdeal.Value Cert.FfdReferenceIdeal.Read
open Idealize.ShloMosaic Idealize.ShloMosaic.TcCoe Idealize.SL.Sem
open Cert.Numbers Cert.Finite

section reference
variable (x0 : Vec Ideal S4112x2816 .f32) (x1 : Vec Ideal S2816x1024 .f32) (x2 : Vec Ideal S4112x1024 .f32) (x3 : Vec Ideal S1x1024 .f32)

/-- The layer's product. -/
def fR (n : Fin 4112) (k : Fin 1024) : EReal := ∑ j : Fin 2816, x0 (ix2 n j) * x1 (ix2 j k)

theorem ref_f (n : Fin 4112) (k : Fin 1024) : val_main_v0 (F := Ideal) x0 x1 (ix2 n k) = fR x0 x1 n k := by
  unfold fR
  pointwise [val_main_v0]

/-- The input plus half the norm of the product. -/
def hoR (n : Fin 4112) (k : Fin 1024) : EReal :=
  x2 (ix2 n k) + Ideal.ofBits .f32 0x3F000000#32 * Norm.out (fun k => fR x0 x1 n k) (fun k => x3 (ix2 0 k)) k

theorem ref_ho (n : Fin 4112) (k : Fin 1024) : val_main_v17 (F := Ideal) x0 x1 x2 x3 (ix2 n k) = hoR x0 x1 x2 x3 n k := by
  unfold hoR
  simp only [← ref_f]
  pointwise [val_main_v17, val_main_v16, val_main_v15, val_main_v14, val_main_v13, val_main_v12, val_main_v11, val_main_v10, val_main_v9, val_main_v8, val_main_v7, val_main_v6, val_main_v5, val_main_v4, val_main_v3, val_main_cst_0, val_main_cst_1, val_main_cst_2, val_main_cst_3]
  rfl

/-- The first result: the product below 112 zero rows. -/
theorem ref_out0 (n : Fin 4224) (k : Fin 1024) : val_main_v2 (F := Ideal) x0 x1 (ix2 n k)
    = if h : n.val < 112 then 0 else fR x0 x1 ⟨n.val - 112, by omega⟩ k := by
  pointwise [val_main_v2, val_main_v1, val_main_cst, ref_f]

/-- The second result: the sum below 112 zero rows. -/
theorem ref_out1 (n : Fin 4224) (k : Fin 1024) : val_main_v19 (F := Ideal) x0 x1 x2 x3 (ix2 n k)
    = if h : n.val < 112 then 0 else hoR x0 x1 x2 x3 ⟨n.val - 112, by omega⟩ k := by
  pointwise [val_main_v19, val_main_v18, val_main_cst_4, ref_ho]

end reference

section kernel
variable (m : (ℓ : Loc nD τ sig) → Buf (Elt Ideal) ℓ) (c : Dev nD)

abbrev a0 : Vec Ideal S4112x2816 .f32 := m ((c.tc : Thread nD τ).loc main_arg0)
abbrev a1 : Vec Ideal S2816x1024 .f32 := m ((c.tc : Thread nD τ).loc main_arg1)
abbrev a2 : Vec Ideal S4112x1024 .f32 := m ((c.tc : Thread nD τ).loc main_arg2)
abbrev a3 : Vec Ideal S1x1024 .f32 := m ((c.tc : Thread nD τ).loc main_arg3)

/-- The padded activations. -/
theorem a_eq (n : Fin 4224) (j : Fin 2816) :
    aA m c n j = if h : n.val < 112 then 0 else a0 m c (ix2 (⟨n.val - 112, by omega⟩ : Fin 4112) j) := by
  unfold aA
  dsimp only [V, hostOps0]
  after_results
  pointwise

theorem w_eq (j : Fin 2816) (k : Fin 1024) : wA m c j k = a1 m c (ix2 j k) := by
  unfold wA
  dsimp only [V, hostOps0]
  after_results
  pointwise

/-- The padded input. -/
theorem h_eq (n : Fin 4224) (k : Fin 1024) :
    hA m c n k = if h : n.val < 112 then 0 else a2 m c (ix2 (⟨n.val - 112, by omega⟩ : Fin 4112) k) := by
  unfold hA
  dsimp only [V, hostOps0]
  after_results
  pointwise

theorem nw_eq (k : Fin 1024) : nwA m c k = a3 m c (ix2 0 k) := by
  unfold nwA
  rw [V_main_arg3]

/-- A row of the product is the reference's, zero in the padding. -/
theorem fRow_eq (n : Fin 4224) (k : Fin 1024) : fRow m c n k
    = if h : n.val < 112 then 0 else fR (a0 m c) (a1 m c) ⟨n.val - 112, by omega⟩ k := by
  unfold fRow fR
  by_cases h : n.val < 112
  · rw [dif_pos h]
    simp only [a_eq, dif_pos h, zero_mul, Finset.sum_const_zero]
  · rw [dif_neg h]
    simp only [a_eq, w_eq, dif_neg h]

theorem hoRow_eq (n : Fin 4224) (k : Fin 1024) : hoRow m c n k
    = if h : n.val < 112 then 0 else hoR (a0 m c) (a1 m c) (a2 m c) (a3 m c) ⟨n.val - 112, by omega⟩ k := by
  unfold hoRow hoR
  by_cases h : n.val < 112
  · rw [dif_pos h, h_eq, dif_pos h, Norm.out_zero _ _ (fun k => by rw [fRow_eq, dif_pos h]), mul_zero, add_zero]
  · rw [dif_neg h]
    simp only [fRow_eq, h_eq, nw_eq, dif_neg h]

/-- The first array is the reference's. -/
theorem f_entry (n : Fin 4224) (k : Fin 1024) : (dats m 0 c).arrAt 4 cfg0.N (ix2 n k : S4224x1024.Idx)
    = val_main_v2 (F := Ideal) (a0 m c) (a1 m c) (ix2 n k) :=
  (f_at m c n k).trans ((fRow_eq m c n k).trans (ref_out0 _ _ n k).symm)

theorem f_eq : (dats m 0 c).arrAt 4 cfg0.N = val_main_v2 (F := Ideal) (a0 m c) (a1 m c) := by
  funext i
  have e : i = ix2 (i 0) (i 1) := eq_ix2 i
  rw [e]
  exact f_entry m c (i 0) (i 1)

/-- The second array is the reference's. -/
theorem ho_entry (n : Fin 4224) (k : Fin 1024) : (dats m 0 c).arrAt 5 cfg0.N (ix2 n k : S4224x1024.Idx)
    = val_main_v19 (F := Ideal) (a0 m c) (a1 m c) (a2 m c) (a3 m c) (ix2 n k) :=
  (ho_at m c n k).trans ((hoRow_eq m c n k).trans (ref_out1 _ _ _ _ n k).symm)

theorem ho_eq : (dats m 0 c).arrAt 5 cfg0.N = val_main_v19 (F := Ideal) (a0 m c) (a1 m c) (a2 m c) (a3 m c) := by
  funext i
  have e : i = ix2 (i 0) (i 1) := eq_ix2 i
  rw [e]
  exact ho_entry m c (i 0) (i 1)

end kernel
end Cert.FfdValue
end
-- ==== Proof.FfdClaims.lean ====
/-
  The claims about the second feed-forward layer's kernel and its reference.
-/
module

public import proofs.«01_k».proof.Defs
public import proofs.«01_k».proof.Proof.FfdValue
public import proofs.«01_k».proof.Proof.Gen.FfdKernel.Frame
public import proofs.«01_k».proof.Proof.Gen.FfdReferenceIdeal.Run

@[expose] public section

noncomputable section

namespace Cert.FfdClaims

open Idealize.ShloMosaic Idealize.ShloMosaic.TcCoe Idealize.SL.Sem
open Cert.Numbers Cert.Finite

/-- The kernel runs without fault, keeps its arguments and leaves every counter at zero. -/
theorem frame_kernel : Cert.quiescent_FfdKernel := fun m ρ _ => Cert.FfdKernel.Gen.frame m ρ

/-- So does its ideal program. -/
theorem frame_ideal : Cert.quiescent_FfdKernelIdeal := fun m ρ _ => Cert.FfdKernelIdeal.Gen.frame m ρ

/-- So does the reference. -/
theorem frame_reference : Cert.quiescent_FfdReferenceIdeal := fun m ρ _ =>
  (θ_run _ _ _).mono (fun r h => ⟨fun c => (h c).2.2, sem_eq_zero_of_no_sems (by decide) r.2⟩)
    (Cert.FfdReferenceIdeal.Value.run m ρ)

/-- The kernel and the reference compute the same product and the same sum. -/
theorem algebraic : Cert.algebraic_FfdKernelIdeal_FfdReferenceIdeal :=
  fun m g m' g' _ hargs =>
  ⟨fun c => (Cert.FfdKernelIdeal.Gen.dats m 0 c).arrAt 4 Cert.FfdKernelIdeal.cfg0.N,
   fun c => (Cert.FfdKernelIdeal.Gen.dats m 0 c).arrAt 5 Cert.FfdKernelIdeal.cfg0.N,
   Cert.FfdKernelIdeal.Value.run_blocks m g,
   (θ_run _ _ _).mono (fun r h c => by
      obtain ⟨r0, r1, hk⟩ := h c
      obtain ⟨e0, e1, e2, e3⟩ := hargs c
      refine ⟨r0.trans ?_, r1.trans ?_, hk⟩
      · rw [Cert.FfdReferenceIdeal.Read.val_main_v2_eq, e0, e1]
        exact (Cert.FfdValue.f_eq m c).symm
      · rw [Cert.FfdReferenceIdeal.Read.val_main_v19_eq, e0, e1, e2, e3]
        exact (Cert.FfdValue.ho_eq m c).symm)
    (Cert.FfdReferenceIdeal.Value.run m' g')⟩

end Cert.FfdClaims

end
-- ==== Proof.MxiKernelValue.lean ====
/-
  What one grid point of a mixer's input layer computes over the extended reals: its rows of the normed input, and their
  product with the layer's weights.
-/
module

public import proofs.«01_k».proof.Proof.NormOut
public import proofs.«01_k».proof.Proof.Rows
public import proofs.«01_k».proof.Proof.Gen.MxiKernelIdeal.Value
public import Idealize.ShloMosaic.Lib.Tactic
public import Idealize.ShloMosaic.Lib.Pointwise

@[expose] public section

noncomputable section

namespace Cert.MxiKernelIdeal.Value

open Cert.MxiKernelIdeal Cert.MxiKernelIdeal.Gen Idealize.ShloMosaic Idealize.ShloMosaic.TcCoe Idealize.SL.Sem
open Cert.Numbers Cert.Rows

section point
variable (x0 : Vec Ideal S384x1024 .f32) (x1 : Vec Ideal S1x1024 .f32) (x2 : Vec Ideal S3200x1024 .bf16)

/-- Entry `(r, k)` of the normed input. -/
def hnAt (r : Fin 384) (k : Fin 1024) : EReal := Norm.out (fun k => x0 (ix2 r k)) (fun k => x1 (ix2 0 k)) k

theorem pay_hn (r : Fin 384) (k : Fin 1024) : k0_pay1 (F := Ideal) x0 x1 (ix2 r k) = hnAt x0 x1 r k := by
  unfold hnAt
  pointwise [k0_pay1]
  rfl

/-- Entry `(r, j)` of the product. -/
def pAt (r : Fin 384) (j : Fin 3200) : EReal := ∑ k : Fin 1024, hnAt x0 x1 r k * x2 (ix2 j k)

theorem pay_p (r : Fin 384) (j : Fin 3200) : k0_pay2 (F := Ideal) x0 x1 x2 (ix2 r j) = pAt x0 x1 x2 r j := by
  unfold pAt
  pointwise [k0_pay2, pay_hn]

/-- The block of the normed input. -/
theorem out_hn (r : Fin 384) (k : Fin 1024) : out0_3 x0 x1 x2 (ix2 r k) = hnAt x0 x1 r k := by
  unfold out0_3
  rw [View.canon_unit_zero zeros2]
  simp only [View.ld_unit_zero (S := S384x1024) zeros2, View.ld_unit_zero (S := S1x1024) zeros2]
  exact pay_hn x0 x1 r k

/-- The block of the product. -/
theorem out_p (r : Fin 384) (j : Fin 3200) : out0_4 x0 x1 x2 (ix2 r j) = pAt x0 x1 x2 r j := by
  unfold out0_4
  rw [View.canon_unit_zero zeros2]
  simp only [View.ld_unit_zero (S := S384x1024) zeros2, View.ld_unit_zero (S := S1x1024) zeros2, View.ld_unit_zero (S := S3200x1024) zeros2]
  exact pay_p x0 x1 x2 r j

end point
end Cert.MxiKernelIdeal.Value
end
-- ==== Proof.MxiBlocks.lean ====
/-
  The two arrays a mixer's input layer leaves over the extended reals, row by row.
-/
module

public import proofs.«01_k».proof.Proof.MxiKernelValue

@[expose] public section

noncomputable section

namespace Cert.MxiKernelIdeal.Value

open Cert.MxiKernelIdeal Cert.MxiKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (win0_0.index t 0 = t.val ∧ win0_0.index t 1 = 0) ∧
    (win0_1.index t 0 = 0 ∧ win0_1.index t 1 = 0) ∧
    (win0_2.index t 0 = 0 ∧ win0_2.index t 1 = 0) ∧
    (win0_3.index t 0 = t.val ∧ win0_3.index t 1 = 0) ∧
    (win0_4.index t 0 = t.val ∧ win0_4.index t 1 = 0) :=
  (by decide +kernel : ∀ t : Fin grid0.N, _)

/-- The arrays the region finds: the layer's input, the norm's weights, the layer's weights transposed and padded. -/
def hA (n : Fin 4224) (k : Fin 1024) : EReal := (V m c main_v4 : Vec Ideal S4224x1024 .f32) (ix2 n k)
def nwA (k : Fin 1024) : EReal := (V m c main_arg1 : Vec Ideal S1x1024 .f32) (ix2 0 k)
def wA (j : Fin 3200) (k : Fin 1024) : EReal := (V m c main_v2 : Vec Ideal S3200x1024 .bf16) (ix2 j k)

/-- Row `r` of the point's row block. -/
abbrev rowOf (t : Fin cfg0.N) (r : Fin 384) : Fin 4224 := ⟨t.val * 384 + r.val, by have ht : t.val < 11 := t.isLt; omega⟩

theorem block_h (t : Fin cfg0.N) (r : Fin 384) (k : Fin 1024) :
    (iblk m c 0 t : Vec Ideal S384x1024 .f32) (ix2 r k) = hA m c (rowOf t r) k :=
  congrArg (V m c main_v4) (at2 (at_block (index_facts t).1.1) (at_first (index_facts t).1.2))

theorem block_nw (t : Fin cfg0.N) (k : Fin 1024) :
    (iblk m c 1 t : Vec Ideal S1x1024 .f32) (ix2 0 k) = nwA m c k :=
  congrArg (V m c main_arg1) (at2 (at_first (index_facts t).2.1.1) (at_first (index_facts t).2.1.2))

theorem block_w (t : Fin cfg0.N) (r : Fin 3200) (k : Fin 1024) :
    (iblk m c 2 t : Vec Ideal S3200x1024 .bf16) (ix2 r k) = wA m c r k :=
  congrArg (V m c main_v2) (at2 (at_first (index_facts t).2.2.1.1) (at_first (index_facts t).2.2.1.2))

/-- Row `n` of the normed input. -/
def hnRow (n : Fin 4224) (k : Fin 1024) : EReal := Norm.out (fun k => hA m c n k) (fun k => nwA m c k) k

/-- Row `n` of the product. -/
def pRow (n : Fin 4224) (j : Fin 3200) : EReal := ∑ k : Fin 1024, hnRow m c n k * wA m c j k

theorem hnAt_eq (t : Fin cfg0.N) (r : Fin 384) (k : Fin 1024) :
    hnAt (iblk m c 0 t) (iblk m c 1 t) r k = hnRow m c (rowOf t r) k := by
  unfold hnAt hnRow
  simp only [block_h, block_nw]

theorem block_hn (t : Fin cfg0.N) (r : Fin 384) (k : Fin 1024) :
    out0_3 (iblk m c 0 t) (iblk m c 1 t) (iblk m c 2 t) (ix2 r k) = hnRow m c (rowOf t r) k :=
  (out_hn _ _ _ r k).trans (hnAt_eq m c t r k)

theorem block_p (t : Fin cfg0.N) (r : Fin 384) (j : Fin 3200) :
    out0_4 (iblk m c 0 t) (iblk m c 1 t) (iblk m c 2 t) (ix2 r j) = pRow m c (rowOf t r) j := by
  refine (out_p _ _ _ r j).trans ?_
  unfold pAt pRow
  simp only [hnAt_eq, block_w]

/-- The array of the normed input at an entry. -/
theorem hn_at (n : Fin 4224) (k : Fin 1024) :
    (dats m 0 c).arrAt 3 cfg0.N (ix2 n k : S4224x1024.Idx) = hnRow m c n k := by
  have ht : n.val / 384 < cfg0.N := by show _ < 11; omega
  have hi := (index_facts ⟨_, ht⟩).2.2.2.1
  have h := congrFun (blocks3 m c ⟨_, ht⟩ (flush0_3 _)) (ix2 (⟨n.val % 384, by omega⟩ : Fin 384) k)
  rw [flushed3, View.read_apply] at h
  refine Eq.trans (congrArg _ ?_) (h.trans ((block_hn m c ⟨_, ht⟩ ⟨n.val % 384, by omega⟩ k).trans ?_))
  · exact at2 (at_row hi.1) (at_first hi.2).symm
  · congr 1
    exact Fin.ext (by dsimp only; omega)

/-- The array of the product at an entry. -/
theorem p_at (n : Fin 4224) (k : Fin 3200) :
    (dats m 0 c).arrAt 4 cfg0.N (ix2 n k : S4224x3200.Idx) = pRow m c n k := by
  have ht : n.val / 384 < cfg0.N := by show _ < 11; omega
  have hi := (index_facts ⟨_, ht⟩).2.2.2.2
  have h := congrFun (blocks4 m c ⟨_, ht⟩ (flush0_4 _)) (ix2 (⟨n.val % 384, by omega⟩ : Fin 384) k)
  rw [flushed4, View.read_apply] at h
  refine Eq.trans (congrArg _ ?_) (h.trans ((block_p m c ⟨_, ht⟩ ⟨n.val % 384, by omega⟩ k).trans ?_))
  · exact at2 (at_row hi.1) (at_first hi.2).symm
  · congr 1
    exact Fin.ext (by dsimp only; omega)

end Cert.MxiKernelIdeal.Value
end
-- ==== Proof.MxiValue.lean ====
/-
  A mixer's input layer's kernel and its reference compute the same two arrays over the extended reals.
-/
module

public import proofs.«01_k».proof.Proof.MxiBlocks
public import proofs.«01_k».proof.Proof.Gen.MxiReferenceIdeal.Read
public import Idealize.ShloMosaic.Lib.KernelVsHost

@[expose] public section

noncomputable section

namespace Cert.MxiValue

open Cert.MxiKernelIdeal Cert.MxiKernelIdeal.Gen Cert.MxiKernelIdeal.Value Cert.MxiReferenceIdeal.Read
open Idealize.ShloMosaic Idealize.ShloMosaic.TcCoe Idealize.SL.Sem
open Cert.Numbers Cert.Finite

section reference
variable (x0 : Vec Ideal S4112x1024 .f32) (x1 : Vec Ideal S1x1024 .f32) (x2 : Vec Ideal S1024x3088 .f32)

/-- The normed input. -/
def hnR (n : Fin 4112) (k : Fin 1024) : EReal := Norm.out (fun k => x0 (ix2 n k)) (fun k => x1 (ix2 0 k)) k

theorem ref_hn (n : Fin 4112) (k : Fin 1024) : val_main_v11 (F := Ideal) x0 x1 (ix2 n k) = hnR x0 x1 n k := by
  unfold hnR
  pointwise [val_main_v11, val_main_v10, val_main_v9, val_main_v8, val_main_v7, val_main_v6, val_main_v5, val_main_v4, val_main_v3, val_main_v2, val_main_v1, val_main_v0, val_main_cst, val_main_cst_0, val_main_cst_1]
  rfl

/-- Its product with the weights. -/
def pR (n : Fin 4112) (j : Fin 3088) : EReal := ∑ k : Fin 1024, hnR x0 x1 n k * x2 (ix2 k j)

theorem ref_p (n : Fin 4112) (j : Fin 3088) : val_main_v15 (F := Ideal) x0 x1 x2 (ix2 n j) = pR x0 x1 x2 n j := by
  unfold pR
  pointwise [val_main_v15, ref_hn]

/-- The first result: the normed input below 112 zero rows. -/
theorem ref_out0 (n : Fin 4224) (k : Fin 1024) : val_main_v14 (F := Ideal) x0 x1 (ix2 n k)
    = if h : n.val < 112 then 0 else hnR x0 x1 ⟨n.val - 112, by omega⟩ k := by
  pointwise [val_main_v14, val_main_v13, val_main_v12, val_main_cst_2, ref_hn]

/-- The number the product is padded with. -/
theorem ref_fill (i : S_.Idx) : val_main_call0_v0 (F := Ideal) i = 0 := by
  show (((0#32 : BitVec 32).toInt : ℝ) : EReal) = 0
  simp

/-- The second result: the product below 112 zero rows and left of 112 zero columns. -/
theorem ref_out1 (n : Fin 4224) (j : Fin 3200) : val_main_v16 (F := Ideal) x0 x1 x2 (ix2 n j)
    = if h : 112 ≤ n.val ∧ j.val < 3088 then pR x0 x1 x2 ⟨n.val - 112, by omega⟩ ⟨j.val, h.2⟩ else 0 := by
  unfold val_main_v16
  by_cases h : 112 ≤ n.val ∧ j.val < 3088
  · rw [dif_pos h]
    refine (pad_apply_of_inside _ _ _ _ _ _ _ (ix2 n j) (ix2 (⟨n.val - 112, by omega⟩ : Fin 4112) (⟨j.val, h.2⟩ : Fin 3088)) ?_).trans
      (ref_p x0 x1 x2 _ _)
    intro a
    match a with
    | ⟨0, _⟩ => show n.val = 112 + (n.val - 112) * (0 + 1); omega
    | ⟨1, _⟩ => show j.val = 0 + j.val * (0 + 1); omega
  · rw [dif_neg h]
    by_cases hn : 112 ≤ n.val
    · refine (pad_apply_of_not_inside _ _ _ _ _ _ _ (ix2 n j) 1 fun hh => ?_).trans (ref_fill _)
      have h0 : (j.val - 0) / (0 + 1) < 3088 := hh.2.2
      simp at h0
      omega
    · refine (pad_apply_of_not_inside _ _ _ _ _ _ _ (ix2 n j) 0 fun hh => ?_).trans (ref_fill _)
      exact hn hh.1

end reference

section kernel
variable (m : (ℓ : Loc nD τ sig) → Buf (Elt Ideal) ℓ) (c : Dev nD)

abbrev a0 : Vec Ideal S4112x1024 .f32 := m ((c.tc : Thread nD τ).loc main_arg0)
abbrev a1 : Vec Ideal S1x1024 .f32 := m ((c.tc : Thread nD τ).loc main_arg1)
abbrev a2 : Vec Ideal S1024x3088 .f32 := m ((c.tc : Thread nD τ).loc main_arg2)

/-- The input, padded. -/
theorem h_eq (n : Fin 4224) (k : Fin 1024) :
    hA m c n k = if h : n.val < 112 then 0 else a0 m c (ix2 (⟨n.val - 112, by omega⟩ : Fin 4112) k) := by
  unfold hA
  dsimp only [V, hostOps0, hostOps0_1, hostOps0_2]
  simp only [List.flatten_cons, List.flatten_nil, List.append_nil, List.cons_append, List.nil_append]
  after_results_simp
  pointwise

theorem nw_eq (k : Fin 1024) : nwA m c k = a1 m c (ix2 0 k) := by
  unfold nwA
  rw [V_main_arg1]

theorem wA_eq (j : Fin 3200) (k : Fin 1024) : wA m c j k = pad S3200x1024 ![0, 0] ![112, 0] ![0, 0]
    (transpose S3088x1024 [1, 0] (a2 m c) transposes_S1024x3088_S3088x1024_1_0) (sitofp (F := Ideal) .f32 (constantI S_ 32 0#32))
    pads_S3088x1024_S3200x1024_01120_000 h_S_ (ix2 j k) := by
  unfold wA
  dsimp only [V, hostOps0, hostOps0_1, hostOps0_2]
  simp only [List.flatten_cons, List.flatten_nil, List.append_nil, List.cons_append, List.nil_append]
  after_results_simp
  simp -implicitDefEqProofs only [StableHlo.TRef.toBuf, StableHlo.TRef.ofBuf, cast_cast, cast_eq]
  rfl

/-- The weights, transposed and padded. -/
theorem w_eq (j : Fin 3200) (k : Fin 1024) : wA m c j k = if h : j.val < 3088 then a2 m c (ix2 k (⟨j.val, h⟩ : Fin 3088)) else 0 := by
  rw [wA_eq]
  by_cases hj : j.val < 3088
  · rw [dif_pos hj]
    refine (pad_apply_of_inside _ _ _ _ _ _ _ (ix2 j k) (ix2 (⟨j.val, hj⟩ : Fin 3088) k) fun a => ?_).trans ?_
    · match a with
      | ⟨0, _⟩ => show j.val = 0 + j.val * (0 + 1); omega
      | ⟨1, _⟩ => show k.val = 0 + k.val * (0 + 1); omega
    · pointwise
  · rw [dif_neg hj]
    refine (pad_apply_of_not_inside _ _ _ _ _ _ _ (ix2 j k) 0 fun hh => ?_).trans (ref_fill (ix0))
    have h0 : (j.val - 0) / (0 + 1) < 3088 := hh.2.2
    simp at h0
    omega

/-- A row of the normed input is the reference's, zero in the padding. -/
theorem hnRow_eq (n : Fin 4224) (k : Fin 1024) : hnRow m c n k
    = if h : n.val < 112 then 0 else hnR (a0 m c) (a1 m c) ⟨n.val - 112, by omega⟩ k := by
  unfold hnRow hnR
  by_cases h : n.val < 112
  · rw [dif_pos h, Norm.out_zero _ _ (fun k => by rw [h_eq, dif_pos h])]
  · rw [dif_neg h]
    simp only [h_eq, nw_eq, dif_neg h]

theorem pRow_eq (n : Fin 4224) (j : Fin 3200) : pRow m c n j
    = if h : 112 ≤ n.val ∧ j.val < 3088 then pR (a0 m c) (a1 m c) (a2 m c) ⟨n.val - 112, by omega⟩ ⟨j.val, h.2⟩ else 0 := by
  unfold pRow pR
  by_cases h : n.val < 112
  · rw [dif_neg (by omega)]
    simp only [hnRow_eq, dif_pos h, zero_mul, Finset.sum_const_zero]
  · by_cases hj : j.val < 3088
    · rw [dif_pos ⟨by omega, hj⟩]
      simp only [hnRow_eq, w_eq, dif_neg h, dif_pos hj]
    · rw [dif_neg (fun h => hj h.2)]
      simp only [w_eq, dif_neg hj, mul_zero, Finset.sum_const_zero]

/-- The first array is the reference's. -/
theorem hn_eq : (dats m 0 c).arrAt 3 cfg0.N = val_main_v14 (F := Ideal) (a0 m c) (a1 m c) := by
  funext i
  have e : i = ix2 (i 0) (i 1) := eq_ix2 i
  rw [e]
  exact (hn_at m c (i 0) (i 1)).trans ((hnRow_eq m c (i 0) (i 1)).trans (ref_out0 _ _ (i 0) (i 1)).symm)

/-- The second array is the reference's. -/
theorem p_eq : (dats m 0 c).arrAt 4 cfg0.N = val_main_v16 (F := Ideal) (a0 m c) (a1 m c) (a2 m c) := by
  funext i
  have e : i = ix2 (i 0) (i 1) := eq_ix2 i
  rw [e]
  exact (p_at m c (i 0) (i 1)).trans ((pRow_eq m c (i 0) (i 1)).trans (ref_out1 _ _ _ (i 0) (i 1)).symm)

end kernel
end Cert.MxiValue
end
-- ==== Proof.MxiClaims.lean ====
/-
  The claims about a mixer's input layer's kernel and its reference.
-/
module

public import proofs.«01_k».proof.Defs
public import proofs.«01_k».proof.Proof.MxiValue
public import proofs.«01_k».proof.Proof.Gen.MxiKernel.Frame
public import proofs.«01_k».proof.Proof.Gen.MxiReferenceIdeal.Run

@[expose] public section

noncomputable section

namespace Cert.MxiClaims

open Idealize.ShloMosaic Idealize.ShloMosaic.TcCoe Idealize.SL.Sem
open Cert.Numbers Cert.Finite

/-- The kernel runs without fault, keeps its arguments and leaves every counter at zero. -/
theorem frame_kernel : Cert.quiescent_MxiKernel := fun m ρ _ => Cert.MxiKernel.Gen.frame m ρ

/-- So does its ideal program. -/
theorem frame_ideal : Cert.quiescent_MxiKernelIdeal := fun m ρ _ => Cert.MxiKernelIdeal.Gen.frame m ρ

/-- So does the reference. -/
theorem frame_reference : Cert.quiescent_MxiReferenceIdeal := fun m ρ _ =>
  (θ_run _ _ _).mono (fun r h => ⟨fun c => (h c).2.2, sem_eq_zero_of_no_sems (by decide) r.2⟩)
    (Cert.MxiReferenceIdeal.Value.run m ρ)

/-- The kernel and the reference compute the same normed input and the same product. -/
theorem algebraic : Cert.algebraic_MxiKernelIdeal_MxiReferenceIdeal :=
  fun m g m' g' _ hargs =>
  ⟨fun c => (Cert.MxiKernelIdeal.Gen.dats m 0 c).arrAt 3 Cert.MxiKernelIdeal.cfg0.N,
   fun c => (Cert.MxiKernelIdeal.Gen.dats m 0 c).arrAt 4 Cert.MxiKernelIdeal.cfg0.N,
   Cert.MxiKernelIdeal.Value.run_blocks m g,
   (θ_run _ _ _).mono (fun r h c => by
      obtain ⟨r0, r1, hk⟩ := h c
      obtain ⟨e0, e1, e2⟩ := hargs c
      refine ⟨r0.trans ?_, r1.trans ?_, hk⟩
      · rw [Cert.MxiReferenceIdeal.Read.val_main_v14_eq, e0, e1]
        exact (Cert.MxiValue.hn_eq m c).symm
      · rw [Cert.MxiReferenceIdeal.Read.val_main_v16_eq, e0, e1, e2]
        exact (Cert.MxiValue.p_eq m c).symm)
    (Cert.MxiReferenceIdeal.Value.run m' g')⟩

end Cert.MxiClaims

end
-- ==== Proof.MxoKernelValue.lean ====
/-
  What one grid point of a mixer's output layer computes over the extended reals: its rows of the product of the two halves of
  the mixer's output with the layer's weights, and its rows of the input plus the norm of that product.
-/
module

public import proofs.«01_k».proof.Proof.NormOut
public import proofs.«01_k».proof.Proof.Rows
public import proofs.«01_k».proof.Proof.Gen.MxoKernelIdeal.Value
public import Idealize.ShloMosaic.Lib.Tactic
public import Idealize.ShloMosaic.Lib.Pointwise

@[expose] public section

noncomputable section

namespace Cert.MxoKernelIdeal.Value

open Cert.MxoKernelIdeal Cert.MxoKernelIdeal.Gen Idealize.ShloMosaic Idealize.ShloMosaic.TcCoe Idealize.SL.Sem
open Cert.Numbers Cert.Rows

section point
variable (x0 x1 : Vec Ideal S384x512 .f32) (x2 : Vec Ideal S1024x1024 .bf16) (x3 : Vec Ideal S384x1024 .f32) (x4 : Vec Ideal S1x1024 .f32)

/-- The upper and the lower half of the weights, as the body reads them. -/
abbrev wTop : Vec Ideal S512x1024 .bf16 := View.ld x2 r0_1
abbrev wLow : Vec Ideal S512x1024 .bf16 := View.ld x2 r0_2

theorem wTop_at (j : Fin 512) (k : Fin 1024) : wTop x2 (ix2 j k) = x2 (ix2 ⟨j.val, by omega⟩ k) := by
  refine (ld_rows x2 0 _ j k (by omega)).trans ?_
  simp only [Nat.zero_add]

theorem wLow_at (j : Fin 512) (k : Fin 1024) : wLow x2 (ix2 j k) = x2 (ix2 ⟨512 + j.val, by omega⟩ k) :=
  ld_rows x2 512 _ j k (by omega)

/-- Entry `(r, k)` of the product. -/
def fAt (r : Fin 384) (k : Fin 1024) : EReal :=
  (∑ j : Fin 512, x0 (ix2 r j) * x2 (ix2 ⟨j.val, by omega⟩ k)) + ∑ j : Fin 512, x1 (ix2 r j) * x2 (ix2 ⟨512 + j.val, by omega⟩ k)

theorem pay_f (r : Fin 384) (k : Fin 1024) : k0_pay1 (F := Ideal) x0 (wTop x2) x1 (wLow x2) (ix2 r k) = fAt x0 x1 x2 r k := by
  unfold fAt
  simp only [← wTop_at, ← wLow_at]
  pointwise [k0_pay1]

/-- Entry `(r, k)` of the input plus the norm of the product. -/
def hoAt (r : Fin 384) (k : Fin 1024) : EReal :=
  x3 (ix2 r k) + Ideal.ofBits .f32 0x3F800000#32 * Norm.out (fun k => fAt x0 x1 x2 r k) (fun k => x4 (ix2 0 k)) k

theorem pay_ho (r : Fin 384) (k : Fin 1024) :
    k0_pay2 (F := Ideal) x0 (wTop x2) x1 (wLow x2) x3 x4 (ix2 r k) = hoAt x0 x1 x2 x3 x4 r k := by
  unfold hoAt
  pointwise [k0_pay2, pay_f]
  rfl

/-- The block of the product. -/
theorem out_f (r : Fin 384) (k : Fin 1024) : out0_5 x0 x1 x2 x3 x4 (ix2 r k) = fAt x0 x1 x2 r k := by
  unfold out0_5
  rw [View.canon_unit_zero zeros2]
  simp only [View.ld_unit_zero (S := S384x512) zeros2]
  exact pay_f x0 x1 x2 r k

/-- The block of the sum. -/
theorem out_ho (r : Fin 384) (k : Fin 1024) : out0_6 x0 x1 x2 x3 x4 (ix2 r k) = hoAt x0 x1 x2 x3 x4 r k := by
  unfold out0_6
  rw [View.canon_unit_zero zeros2]
  simp only [View.ld_unit_zero (S := S384x512) zeros2, View.ld_unit_zero (S := S384x1024) zeros2, View.ld_unit_zero (S := S1x1024) zeros2]
  exact pay_ho x0 x1 x2 x3 x4 r k

end point
end Cert.MxoKernelIdeal.Value
end
-- ==== Proof.MxoBlocks.lean ====
/-
  The two arrays a mixer's output layer leaves over the extended reals, row by row.
-/
module

public import proofs.«01_k».proof.Proof.MxoKernelValue

@[expose] public section

noncomputable section

namespace Cert.MxoKernelIdeal.Value

open Cert.MxoKernelIdeal Cert.MxoKernelIdeal.Gen Idealize.ShloMosaic Idealize.ShloMosaic.TcCoe Idealize.SL.Sem
open Cert.Numbers Cert.Rows

variable (m : (ℓ : Loc nD τ sig) → Buf (Elt Ideal) ℓ) (c : Dev nD)

/-- The block indices of the windows at a point: point `t` is row block `t`; the weights are whole. -/
theorem index_facts : ∀ t : Fin cfg0.N, (win0_0.index t 0 = t.val ∧ win0_0.index t 1 = 0) ∧
    (win0_1.index t 0 = t.val ∧ win0_1.index t 1 = 0) ∧
    (win0_2.index t 0 = 0 ∧ win0_2.index t 1 = 0) ∧
    (win0_3.index t 0 = t.val ∧ win0_3.index t 1 = 0) ∧
    (win0_4.index t 0 = 0 ∧ win0_4.index t 1 = 0) ∧
    (win0_5.index t 0 = t.val ∧ win0_5.index t 1 = 0) ∧
    (win0_6.index t 0 = t.val ∧ win0_6.index t 1 = 0) :=
  (by decide +kernel : ∀ t : Fin grid0.N, _)

/-- The arrays the region finds: the two halves of the mixer's output, the layer's weights, its input, the norm's weights. -/
def aA (n : Fin 4224) (j : Fin 512) : EReal := (V m c main_v1 : Vec Ideal S4224x512 .f32) (ix2 n j)
def bA (n : Fin 4224) (j : Fin 512) : EReal := (V m c main_v3 : Vec Ideal S4224x512 .f32) (ix2 n j)
def wA (j : Fin 1024) (k : Fin 1024) : EReal := (V m c main_v4 : Vec Ideal S1024x1024 .bf16) (ix2 j k)
def hA (n : Fin 4224) (k : Fin 1024) : EReal := (V m c main_v6 : Vec Ideal S4224x1024 .f32) (ix2 n k)
def nwA (k : Fin 1024) : EReal := (V m c main_arg4 : Vec Ideal S1x1024 .f32) (ix2 0 k)

/-- Row `r` of the point's row block. -/
abbrev rowOf (t : Fin cfg0.N) (r : Fin 384) : Fin 4224 := ⟨t.val * 384 + r.val, by have ht : t.val < 11 := t.isLt; omega⟩

theorem block_a (t : Fin cfg0.N) (r : Fin 384) (k : Fin 512) :
    (iblk m c 0 t : Vec Ideal S384x512 .f32) (ix2 r k) = aA m c (rowOf t r) k :=
  congrArg (V m c main_v1) (at2 (at_block (index_facts t).1.1) (at_first (index_facts t).1.2))

theorem block_b (t : Fin cfg0.N) (r : Fin 384) (k : Fin 512) :
    (iblk m c 1 t : Vec Ideal S384x512 .f32) (ix2 r k) = bA m c (rowOf t r) k :=
  congrArg (V m c main_v3) (at2 (at_block (index_facts t).2.1.1) (at_first (index_facts t).2.1.2))

theorem block_w (t : Fin cfg0.N) (r : Fin 1024) (k : Fin 1024) :
    (iblk m c 2 t : Vec Ideal S1024x1024 .bf16) (ix2 r k) = wA m c r k :=
  congrArg (V m c main_v4) (at2 (at_first (index_facts t).2.2.1.1) (at_first (index_facts t).2.2.1.2))

theorem block_h (t : Fin cfg0.N) (r : Fin 384) (k : Fin 1024) :
    (iblk m c 3 t : Vec Ideal S384x1024 .f32) (ix2 r k) = hA m c (rowOf t r) k :=
  congrArg (V m c main_v6) (at2 (at_block (index_facts t).2.2.2.1.1) (at_first (index_facts t).2.2.2.1.2))

theorem block_nw (t : Fin cfg0.N) (k : Fin 1024) :
    (iblk m c 4 t : Vec Ideal S1x1024 .f32) (ix2 0 k) = nwA m c k :=
  congrArg (V m c main_arg4) (at2 (at_first (index_facts t).2.2.2.2.1.1) (at_first (index_facts t).2.2.2.2.1.2))

/-- Row `n` of the product. -/
def fRow (n : Fin 4224) (k : Fin 1024) : EReal :=
  (∑ j : Fin 512, aA m c n j * wA m c ⟨j.val, by omega⟩ k) + ∑ j : Fin 512, bA m c n j * wA m c ⟨512 + j.val, by omega⟩ k

/-- Row `n` of the sum. -/
def hoRow (n : Fin 4224) (k : Fin 1024) : EReal :=
  hA m c n k + Ideal.ofBits .f32 0x3F800000#32 * Norm.out (fun k => fRow m c n k) (fun k => nwA m c k) k

theorem fAt_eq (t : Fin cfg0.N) (r : Fin 384) (k : Fin 1024) :
    fAt (iblk m c 0 t) (iblk m c 1 t) (iblk m c 2 t) r k = fRow m c (rowOf t r) k := by
  unfold fAt fRow
  simp only [block_a, block_b, block_w]

theorem block_f (t : Fin cfg0.N) (r : Fin 384) (k : Fin 1024) :
    out0_5 (iblk m c 0 t) (iblk m c 1 t) (iblk m c 2 t) (iblk m c 3 t) (iblk m c 4 t) (ix2 r k) = fRow m c (rowOf t r) k :=
  (out_f _ _ _ _ _ r k).trans (fAt_eq m c t r k)

theorem block_ho (t : Fin cfg0.N) (r : Fin 384) (k : Fin 1024) :
    out0_6 (iblk m c 0 t) (iblk m c 1 t) (iblk m c 2 t) (iblk m c 3 t) (iblk m c 4 t) (ix2 r k) = hoRow m c (rowOf t r) k := by
  refine (out_ho _ _ _ _ _ r k).trans ?_
  unfold hoAt hoRow
  simp only [fAt_eq, block_h, block_nw]

/-- The array of the product at an entry. -/
theorem f_at (n : Fin 4224) (k : Fin 1024) :
    (dats m 0 c).arrAt 5 cfg0.N (ix2 n k : S4224x1024.Idx) = fRow m c n k := by
  have ht : n.val / 384 < cfg0.N := by show _ < 11; omega
  have hi := (index_facts ⟨_, ht⟩).2.2.2.2.2.1
  have h := congrFun (blocks5 m c ⟨_, ht⟩ (flush0_5 _)) (ix2 (⟨n.val % 384, by omega⟩ : Fin 384) k)
  rw [flushed5, View.read_apply] at h
  refine Eq.trans (congrArg _ ?_) (h.trans ((block_f m c ⟨_, ht⟩ ⟨n.val % 384, by omega⟩ k).trans ?_))
  · exact at2 (at_row hi.1) (at_first hi.2).symm
  · congr 1
    exact Fin.ext (by dsimp only; omega)

/-- The array of the sum at an entry. -/
theorem ho_at (n : Fin 4224) (k : Fin 1024) :
    (dats m 0 c).arrAt 6 cfg0.N (ix2 n k : S4224x1024.Idx) = hoRow m c n k := by
  have ht : n.val / 384 < cfg0.N := by show _ < 11; omega
  have hi := (index_facts ⟨_, ht⟩).2.2.2.2.2.2
  have h := congrFun (blocks6 m c ⟨_, ht⟩ (flush0_6 _)) (ix2 (⟨n.val % 384, by omega⟩ : Fin 384) k)
  rw [flushed6, View.read_apply] at h
  refine Eq.trans (congrArg _ ?_) (h.trans ((block_ho m c ⟨_, ht⟩ ⟨n.val % 384, by omega⟩ k).trans ?_))
  · exact at2 (at_row hi.1) (at_first hi.2).symm
  · congr 1
    exact Fin.ext (by dsimp only; omega)

end Cert.MxoKernelIdeal.Value
end
-- ==== Proof.MxoValue.lean ====
/-
  A mixer's output layer's kernel and its reference compute the same two arrays over the extended reals.
-/
module

public import proofs.«01_k».proof.Proof.MxoBlocks
public import proofs.«01_k».proof.Proof.Gen.MxoReferenceIdeal.Read
public import Idealize.ShloMosaic.Lib.KernelVsHost

@[expose] public section

noncomputable section

namespace Cert.MxoValue

open Cert.MxoKernelIdeal Cert.MxoKernelIdeal.Gen Cert.MxoKernelIdeal.Value Cert.MxoReferenceIdeal.Read
open Idealize.ShloMosaic Idealize.ShloMosaic.TcCoe Idealize.SL.Sem
open Cert.Numbers Cert.Finite

section reference
variable (x0 x1 : Vec Ideal S4112x512 .f32) (x2 : Vec Ideal S1024x1024 .f32) (x3 : Vec Ideal S4112x1024 .f32) (x4 : Vec Ideal S1x1024 .f32)

/-- The layer's product, the sum over the two halves. -/
def fR (n : Fin 4112) (k : Fin 1024) : EReal :=
  (∑ j : Fin 512, x0 (ix2 n j) * x2 (ix2 ⟨j.val, by omega⟩ k)) + ∑ j : Fin 512, x1 (ix2 n j) * x2 (ix2 ⟨512 + j.val, by omega⟩ k)

theorem ref_left (n : Fin 4112) (j : Fin 512) : val_main_v0 (F := Ideal) x0 x1 (ix2 n (⟨j.val, by omega⟩ : Fin 1024)) = x0 (ix2 n j) := by
  have h : j.val < 512 := j.isLt
  pointwise [val_main_v0]

theorem ref_right (n : Fin 4112) (j : Fin 512) : val_main_v0 (F := Ideal) x0 x1 (ix2 n (⟨512 + j.val, by omega⟩ : Fin 1024)) = x1 (ix2 n j) := by
  have h : ¬512 + j.val < 512 := by omega
  pointwise [val_main_v0]

theorem ref_f (n : Fin 4112) (k : Fin 1024) : val_main_v1 (F := Ideal) x0 x1 x2 (ix2 n k) = fR x0 x1 x2 n k := by
  have e : val_main_v1 (F := Ideal) x0 x1 x2 (ix2 n k) = ∑ j : Fin 1024, val_main_v0 (F := Ideal) x0 x1 (ix2 n j) * x2 (ix2 j k) := by
    pointwise [val_main_v1]
  refine e.trans ((Fin.sum_univ_add (a := 512) (b := 512) fun j : Fin 1024 => val_main_v0 (F := Ideal) x0 x1 (ix2 n j) * x2 (ix2 j k)).trans ?_)
  unfold fR
  refine congrArg₂ _ (Finset.sum_congr rfl fun j _ => ?_) (Finset.sum_congr rfl fun j _ => ?_)
  · exact congrArg (· * _) (ref_left x0 x1 n j)
  · exact congrArg (· * _) (ref_right x0 x1 n j)

/-- The input plus the norm of the product. -/
def hoR (n : Fin 4112) (k : Fin 1024) : EReal :=
  x3 (ix2 n k) + Norm.out (fun k => fR x0 x1 x2 n k) (fun k => x4 (ix2 0 k)) k

theorem ref_ho (n : Fin 4112) (k : Fin 1024) : val_main_v16 (F := Ideal) x0 x1 x2 x3 x4 (ix2 n k) = hoR x0 x1 x2 x3 x4 n k := by
  unfold hoR
  simp only [← ref_f]
  pointwise [val_main_v16, val_main_v15, val_main_v14, val_main_v13, val_main_v12, val_main_v11, val_main_v10, val_main_v9, val_main_v8, val_main_v7, val_main_v6, val_main_v5, val_main_v4, val_main_cst_0, val_main_cst_1, val_main_cst_2]
  rfl

/-- The first result: the product below 112 zero rows. -/
theorem ref_out0 (n : Fin 4224) (k : Fin 1024) : val_main_v3 (F := Ideal) x0 x1 x2 (ix2 n k)
    = if h : n.val < 112 then 0 else fR x0 x1 x2 ⟨n.val - 112, by omega⟩ k := by
  pointwise [val_main_v3, val_main_v2, val_main_cst, ref_f]

/-- The second result: the sum below 112 zero rows. -/
theorem ref_out1 (n : Fin 4224) (k : Fin 1024) : val_main_v18 (F := Ideal) x0 x1 x2 x3 x4 (ix2 n k)
    = if h : n.val < 112 then 0 else hoR x0 x1 x2 x3 x4 ⟨n.val - 112, by omega⟩ k := by
  pointwise [val_main_v18, val_main_v17, val_main_cst_3, ref_ho]

end reference

section kernel
variable (m : (ℓ : Loc nD τ sig) → Buf (Elt Ideal) ℓ) (c : Dev nD)

abbrev a0 : Vec Ideal S4112x512 .f32 := m ((c.tc : Thread nD τ).loc main_arg0)
abbrev a1 : Vec Ideal S4112x512 .f32 := m ((c.tc : Thread nD τ).loc main_arg1)
abbrev a2 : Vec Ideal S1024x1024 .f32 := m ((c.tc : Thread nD τ).loc main_arg2)
abbrev a3 : Vec Ideal S4112x1024 .f32 := m ((c.tc : Thread nD τ).loc main_arg3)
abbrev a4 : Vec Ideal S1x1024 .f32 := m ((c.tc : Thread nD τ).loc main_arg4)

/-- The first half, padded. -/
theorem a_eq (n : Fin 4224) (k : Fin 512) :
    aA m c n k = if h : n.val < 112 then 0 else a0 m c (ix2 (⟨n.val - 112, by omega⟩ : Fin 4112) k) := by
  unfold aA
  dsimp only [V, hostOps0]
  after_results
  pointwise

/-- The second half, padded. -/
theorem b_eq (n : Fin 4224) (k : Fin 512) :
    bA m c n k = if h : n.val < 112 then 0 else a1 m c (ix2 (⟨n.val - 112, by omega⟩ : Fin 4112) k) := by
  unfold bA
  dsimp only [V, hostOps0]
  after_results
  pointwise

/-- The input, padded. -/
theorem h_eq (n : Fin 4224) (k : Fin 1024) :
    hA m c n k = if h : n.val < 112 then 0 else a3 m c (ix2 (⟨n.val - 112, by omega⟩ : Fin 4112) k) := by
  unfold hA
  dsimp only [V, hostOps0]
  after_results
  pointwise

theorem w_eq (j : Fin 1024) (k : Fin 1024) : wA m c j k = a2 m c (ix2 j k) := by
  unfold wA
  dsimp only [V, hostOps0]
  after_results
  pointwise

theorem nw_eq (k : Fin 1024) : nwA m c k = a4 m c (ix2 0 k) := by
  unfold nwA
  rw [V_main_arg4]

/-- A row of the product is the reference's, zero in the padding. -/
theorem fRow_eq (n : Fin 4224) (k : Fin 1024) : fRow m c n k
    = if h : n.val < 112 then 0 else fR (a0 m c) (a1 m c) (a2 m c) ⟨n.val - 112, by omega⟩ k := by
  unfold fRow fR
  by_cases h : n.val < 112
  · rw [dif_pos h]
    simp only [a_eq, b_eq, dif_pos h, zero_mul, Finset.sum_const_zero, add_zero]
  · rw [dif_neg h]
    simp only [a_eq, b_eq, w_eq, dif_neg h]

theorem hoRow_eq (n : Fin 4224) (k : Fin 1024) : hoRow m c n k
    = if h : n.val < 112 then 0 else hoR (a0 m c) (a1 m c) (a2 m c) (a3 m c) (a4 m c) ⟨n.val - 112, by omega⟩ k := by
  unfold hoRow hoR
  rw [f32_one, EReal.coe_one, one_mul]
  by_cases h : n.val < 112
  · rw [dif_pos h, h_eq, dif_pos h, Norm.out_zero _ _ (fun k => by rw [fRow_eq, dif_pos h]), add_zero]
  · rw [dif_neg h]
    simp only [fRow_eq, h_eq, nw_eq, dif_neg h]

/-- The first array is the reference's. -/
theorem f_eq : (dats m 0 c).arrAt 5 cfg0.N = val_main_v3 (F := Ideal) (a0 m c) (a1 m c) (a2 m c) := by
  funext i
  have e : i = ix2 (i 0) (i 1) := eq_ix2 i
  rw [e]
  exact (f_at m c (i 0) (i 1)).trans ((fRow_eq m c (i 0) (i 1)).trans (ref_out0 _ _ _ (i 0) (i 1)).symm)

/-- The second array is the reference's. -/
theorem ho_eq : (dats m 0 c).arrAt 6 cfg0.N = val_main_v18 (F := Ideal) (a0 m c) (a1 m c) (a2 m c) (a3 m c) (a4 m c) := by
  funext i
  have e : i = ix2 (i 0) (i 1) := eq_ix2 i
  rw [e]
  exact (ho_at m c (i 0) (i 1)).trans ((hoRow_eq m c (i 0) (i 1)).trans (ref_out1 _ _ _ _ _ (i 0) (i 1)).symm)

end kernel
end Cert.MxoValue
end
-- ==== Proof.MxoClaims.lean ====
/-
  The claims about a mixer's output layer's kernel and its reference.
-/
module

public import proofs.«01_k».proof.Defs
public import proofs.«01_k».proof.Proof.MxoValue
public import proofs.«01_k».proof.Proof.Gen.MxoKernel.Frame
public import proofs.«01_k».proof.Proof.Gen.MxoReferenceIdeal.Run

@[expose] public section

noncomputable section

namespace Cert.MxoClaims

open Idealize.ShloMosaic Idealize.ShloMosaic.TcCoe Idealize.SL.Sem
open Cert.Numbers Cert.Finite

/-- The kernel runs without fault, keeps its arguments and leaves every counter at zero. -/
theorem frame_kernel : Cert.quiescent_MxoKernel := fun m ρ _ => Cert.MxoKernel.Gen.frame m ρ

/-- So does its ideal program. -/
theorem frame_ideal : Cert.quiescent_MxoKernelIdeal := fun m ρ _ => Cert.MxoKernelIdeal.Gen.frame m ρ

/-- So does the reference. -/
theorem frame_reference : Cert.quiescent_MxoReferenceIdeal := fun m ρ _ =>
  (θ_run _ _ _).mono (fun r h => ⟨fun c => (h c).2.2, sem_eq_zero_of_no_sems (by decide) r.2⟩)
    (Cert.MxoReferenceIdeal.Value.run m ρ)

/-- The kernel and the reference compute the same product and the same sum. -/
theorem algebraic : Cert.algebraic_MxoKernelIdeal_MxoReferenceIdeal :=
  fun m g m' g' _ hargs =>
  ⟨fun c => (Cert.MxoKernelIdeal.Gen.dats m 0 c).arrAt 5 Cert.MxoKernelIdeal.cfg0.N,
   fun c => (Cert.MxoKernelIdeal.Gen.dats m 0 c).arrAt 6 Cert.MxoKernelIdeal.cfg0.N,
   Cert.MxoKernelIdeal.Value.run_blocks m g,
   (θ_run _ _ _).mono (fun r h c => by
      obtain ⟨r0, r1, hk⟩ := h c
      obtain ⟨e0, e1, e2, e3, e4⟩ := hargs c
      refine ⟨r0.trans ?_, r1.trans ?_, hk⟩
      · rw [Cert.MxoReferenceIdeal.Read.val_main_v3_eq, e0, e1, e2]
        exact (Cert.MxoValue.f_eq m c).symm
      · rw [Cert.MxoReferenceIdeal.Read.val_main_v18_eq, e0, e1, e2, e3, e4]
        exact (Cert.MxoValue.ho_eq m c).symm)
    (Cert.MxoReferenceIdeal.Value.run m' g')⟩

end Cert.MxoClaims

end
-- ==== Proof.CvfBlocks.lean ====
/-
  The array the causal convolution leaves over the extended reals, row by row. The point's rows of the input, with the rows
  before them, are laid out as in the kernel of its gradient.
-/
module

public import proofs.«01_k».proof.Proof.ConvKernelValue
public import proofs.«01_k».proof.Proof.Gen.CvfKernelIdeal.Value

@[expose] public section

noncomputable section

namespace Cert.CvfKernelIdeal.Value

open Cert.CvfKernelIdeal Cert.CvfKernelIdeal.Gen Idealize.ShloMosaic Idealize.ShloMosaic.TcCoe Idealize.SL.Sem
open Cert.Numbers Cert.Rows
open Cert.ConvKernelIdeal.Value (xRow)

section point
variable (c : Dev nD) (i : grid0.Coords) (a2 : Memref sig .tc .vmem S384x512 .f32) (h2 : a2.IsWhole)
  (a3 : Memref sig .tc .vmem S8x512 .f32) (h3 : a3.IsWhole) (a4 : Memref sig .tc .vmem S4x512 .f32) (h4 : a4.IsWhole)
  (a5 : Memref sig .tc .vmem S384x512 .f32) (h5 : a5.IsWhole) (a6 : Memref sig .tc .vmem S392x512 .f32) (h6 : a6.IsWhole)
  (x0 : Vec Ideal S384x512 .f32) (x1 : Vec Ideal S8x512 .f32) (x2 : Vec Ideal S4x512 .f32)

/-- Entry `(r, k)` of the point's block. -/
def yAt (r : Fin 384) (k : Fin 512) : EReal :=
  x2 (ix2 0 k) * xRow i x0 x1 ⟨5 + r.val, by omega⟩ k + x2 (ix2 1 k) * xRow i x0 x1 ⟨6 + r.val, by omega⟩ k
    + x2 (ix2 2 k) * xRow i x0 x1 ⟨7 + r.val, by omega⟩ k + x2 (ix2 3 k) * xRow i x0 x1 ⟨8 + r.val, by omega⟩ k

/-- The value stored into the block. -/
theorem pay_y (v : View sig .tc .vmem S392x512 .f32) (r : Fin 384) (k : Fin 512) (L)
    (hL : ∀ s k, View.canon L (ix2 s k) = xRow i x0 x1 s k) :
    k0_pay1 (F := Ideal) (k0_pay4 (View.ld x2 (Rect.unit ![0, 0] ![1, 512] inb_S4x512_S1x512_0_0))
        (v.readCov L (Rect.unit ![5, 0] ![384, 512] inb_S392x512_S384x512_5_0).toLoadRect)
        (View.ld x2 (Rect.unit ![1, 0] ![1, 512] inb_S4x512_S1x512_1_0))
        (v.readCov L (Rect.unit ![6, 0] ![384, 512] inb_S392x512_S384x512_6_0).toLoadRect)
        (View.ld x2 (Rect.unit ![2, 0] ![1, 512] inb_S4x512_S1x512_2_0))
        (v.readCov L (Rect.unit ![7, 0] ![384, 512] inb_S392x512_S384x512_7_0).toLoadRect))
      (v.readCov L (Rect.unit ![8, 0] ![384, 512] inb_S392x512_S384x512_8_0).toLoadRect)
      (k0_pay5 (View.ld x2 (Rect.unit ![3, 0] ![1, 512] inb_S4x512_S1x512_3_0))) (ix2 r k) = yAt i x0 x1 x2 r k := by
  pointwise [k0_pay1, k0_pay4, k0_pay5]
  unfold yAt
  have e (o : Nat) (inb) (h : o + r.val < 392) :
      v.readCov L (Rect.unit (s := S392x512) ![o, 0] ![384, 512] inb).toLoadRect (ix2 r k) = xRow i x0 x1 ⟨o + r.val, h⟩ k :=
    (readCov_rows (k := 384) v L o inb r k h).trans (hL _ k)
  exact congrArg₂ (· + ·) (congrArg₂ (· + ·) (congrArg₂ (· + ·) (congrArg _ (e 5 _ _)) (congrArg _ (e 6 _ _)))
    (congrArg _ (e 7 _ _))) (congrArg _ (e 8 _ _))

/-- What a point stores in its block. -/
theorem out_y (r : Fin 384) (k : Fin 512) :
    out0_A_3 c i a2 h2 a3 h3 a4 h4 a5 h5 a6 h6 x0 x1 x2 (ix2 r k) = yAt i x0 x1 x2 r k := by
  unfold out0_A_3
  rw [View.read_writes_eq_canon _ _ _ fun _ => cover0_A_3 ..]
  unfold kernelRun0_A; dsimp only; sl_unfold_words
  rw [View.canon_unit_zero zeros2]
  simp only [View.readAt_eq_ld, Memref.IsWhole.read_unread]
  exact pay_y i x0 x1 x2 a6.view r k _ (Cert.ConvKernelIdeal.Value.xbuf_at i x0 x1)

end point

variable (m : (ℓ : Loc nD τ sig) → Buf (Elt Ideal) ℓ) (c : Dev nD)

/-- The block indices of the windows at a point: point `t` is column block `t / 11`, row block `t % 11`. -/
theorem index_facts : ∀ t : Fin cfg0.N, (grid0.coords t 1).val = t.val % 11 ∧
    win0_0.index t 0 = t.val % 11 ∧ win0_0.index t 1 = 2 + t.val / 11 ∧
    win0_1.index t 0 = t.val % 11 * 48 - 1 ∧ win0_1.index t 1 = 2 + t.val / 11 ∧
    win0_2.index t 0 = 0 ∧ win0_2.index t 1 = t.val / 11 ∧
    win0_3.index t 0 = t.val % 11 ∧ win0_3.index t 1 = t.val / 11 ∧ (cfg0.win 3).flush t = true :=
  (by decide +kernel : ∀ t : Fin grid0.N, _)

/-- The padded columns of the input (from the packed product), as the region finds them. -/
def xs (n : Fin 4224) (k : Fin 1536) : EReal := (V m c main_v13 : Vec Ideal S4224x3200 .f32) (ix2 n ⟨1024 + k.val, by omega⟩)
def ws (j : Fin 4) (k : Fin 1536) : EReal := (m ((c.tc : Thread nD τ).loc main_arg1) : Vec Ideal S4x1536 .f32) (ix2 j k)

/-- Row `n - o` of the input, zero before the first row. -/
def xBack (n : ℕ) (o : ℕ) (hn : n < 4224 + o) (k : Fin 1536) : EReal := if h : n < o then 0 else xs m c ⟨n - o, by omega⟩ k

abbrev colOf (t : Fin cfg0.N) (k : Fin 512) : Fin 1536 := ⟨t.val / 11 * 512 + k.val, by have ht : t.val < 33 := t.isLt; omega⟩

theorem block_x (t : Fin cfg0.N) (r : Fin 384) (k : Fin 512) :
    (X0_0 m c t : Vec Ideal S384x512 .f32) (ix2 r k)
      = xs m c ⟨t.val % 11 * 384 + r.val, by omega⟩ (colOf t k) := by
  have hi := index_facts t
  unfold X0_0 xs Pipeline.Window.fill
  rw [dif_pos (moved0_0 t _)]
  unfold iblk
  rw [View.read_apply]
  show V m c main_v13 _ = V m c main_v13 _
  congr 1
  exact at2 (by show win0_0.index t 0 * 384 + 1 * r.val = t.val % 11 * 384 + r.val; rw [hi.2.1]; omega) (by show win0_0.index t 1 * 512 + 1 * k.val = 1024 + (t.val / 11 * 512 + k.val); rw [hi.2.2.1]; omega)

theorem block_xhalo (t : Fin cfg0.N) (ht : t.val % 11 ≠ 0) (r : Fin 8) (k : Fin 512) :
    (X0_1 m c t : Vec Ideal S8x512 .f32) (ix2 r k)
      = xs m c ⟨t.val % 11 * 384 + r.val - 8, by omega⟩ (colOf t k) := by
  have hi := index_facts t
  unfold X0_1 xs Pipeline.Window.fill
  rw [dif_pos (moved0_1 t _)]
  unfold iblk
  rw [View.read_apply]
  show V m c main_v13 _ = V m c main_v13 _
  congr 1
  exact at2 (by show win0_1.index t 0 * 8 + 1 * r.val = t.val % 11 * 384 + r.val - 8; rw [hi.2.2.2.1]; omega) (by show win0_1.index t 1 * 512 + 1 * k.val = 1024 + (t.val / 11 * 512 + k.val); rw [hi.2.2.2.2.1]; omega)

theorem block_w (t : Fin cfg0.N) (j : Fin 4) (k : Fin 512) :
    (iblk m c 2 t : Vec Ideal S4x512 .f32) (ix2 j k) = ws m c j (colOf t k) := by
  have hi := index_facts t
  unfold iblk ws
  rw [View.read_apply]
  show V m c main_arg1 _ = _
  rw [V_main_arg1]
  congr 1
  exact at2 (by show win0_2.index t 0 * 4 + 1 * j.val = j.val; rw [hi.2.2.2.2.2.1]; omega) (by show win0_2.index t 1 * 512 + 1 * k.val = t.val / 11 * 512 + k.val; rw [hi.2.2.2.2.2.2.1]; omega)

/-- The point's rows with the rows before them, as rows of the array. -/
theorem xRow_eq (t : Fin cfg0.N) (s : Fin 392) (k : Fin 512) :
    xRow (grid0.coords t) (X0_0 m c t) (X0_1 m c t) s k
      = xBack m c (t.val % 11 * 384 + s.val) 8 (by omega) (colOf t k) := by
  have hi := index_facts t
  unfold xRow xBack
  by_cases h : s.val < 8
  · rw [dif_pos h]
    by_cases h0 : t.val % 11 = 0
    · rw [dif_pos (by omega)]
      exact if_pos (hi.1.trans h0)
    · rw [dif_neg (by omega)]
      exact (if_neg fun e => h0 (hi.1.symm.trans e)).trans (block_xhalo m c t h0 _ _)
  · rw [dif_neg h, dif_neg (by omega)]
    refine (block_x m c t _ _).trans ?_
    congr 1
    exact Fin.ext (by dsimp only; omega)

/-- Row `n` of the convolution: four rows of the input, weighted. -/
def yRow (n : Fin 4224) (k : Fin 1536) : EReal :=
  ws m c 0 k * xBack m c n.val 3 (by omega) k + ws m c 1 k * xBack m c n.val 2 (by omega) k
    + ws m c 2 k * xBack m c n.val 1 (by omega) k + ws m c 3 k * xBack m c n.val 0 (by omega) k

theorem back_eq (n d o : ℕ) (hn) (hn') (hd : d ≤ 8) (ho : o = 8 - d) (k : Fin 1536) :
    xBack m c (n + d) 8 hn k = xBack m c n o hn' k := by
  subst ho
  unfold xBack
  by_cases h : n + d < 8
  · rw [dif_pos h, dif_pos (by omega)]
  · rw [dif_neg h, dif_neg (by omega)]
    congr 1
    exact Fin.ext (by dsimp only; omega)

theorem block_y (t : Fin cfg0.N) (r : Fin 384) (k : Fin 512) :
    outsAt0 m c t (ix2 r k) = yRow m c ⟨t.val % 11 * 384 + r.val, by omega⟩ (colOf t k) := by
  unfold outsAt0
  refine (out_y c _ _ _ _ _ _ _ _ _ _ _ _ _ _ r k).trans ?_
  unfold yAt yRow
  have e (d o : ℕ) (hd : d + r.val < 392) (hd' : d ≤ 8) (ho : o = 8 - d) (hn) :
      xRow (grid0.coords t) (X0_0 m c t) (X0_1 m c t) ⟨d + r.val, hd⟩ k
        = xBack m c (t.val % 11 * 384 + r.val) o hn (colOf t k) := by
    refine (xRow_eq m c t _ k).trans ?_
    rw [← back_eq m c (t.val % 11 * 384 + r.val) d o (by omega) hn hd' ho]
    congr 1
    dsimp only
    omega
  exact congrArg₂ (· + ·) (congrArg₂ (· + ·) (congrArg₂ (· + ·)
    (congrArg₂ (· * ·) (block_w m c t 0 k) (e 5 3 (by omega) (by decide) rfl (by omega)))
    (congrArg₂ (· * ·) (block_w m c t 1 k) (e 6 2 (by omega) (by decide) rfl (by omega))))
    (congrArg₂ (· * ·) (block_w m c t 2 k) (e 7 1 (by omega) (by decide) rfl (by omega))))
    (congrArg₂ (· * ·) (block_w m c t 3 k) (e 8 0 (by omega) (by decide) rfl (by omega)))

/-- The array at an entry. -/
theorem y_at (n : Fin 4224) (k : Fin 1536) : (dats m 0 c).arrAt 3 cfg0.N (ix2 n k : S4224x1536.Idx) = yRow m c n k := by
  have ht : k.val / 512 * 11 + n.val / 384 < cfg0.N := by show _ < 33; omega
  have hi := index_facts ⟨_, ht⟩
  have h := congrFun (blocks3 m c ⟨_, ht⟩ hi.2.2.2.2.2.2.2.2.2) (ix2 (⟨n.val % 384, by omega⟩ : Fin 384) (⟨k.val % 512, by omega⟩ : Fin 512))
  rw [flushed3, View.read_apply] at h
  refine Eq.trans (congrArg _ ?_) (h.trans ((block_y m c ⟨_, ht⟩ ⟨n.val % 384, by omega⟩ ⟨k.val % 512, by omega⟩).trans ?_))
  · exact at2 (by show n.val = win0_3.index ⟨_, ht⟩ 0 * 384 + 1 * (n.val % 384); rw [hi.2.2.2.2.2.2.2.1]; dsimp only; omega) (by show k.val = win0_3.index ⟨_, ht⟩ 1 * 512 + 1 * (k.val % 512); rw [hi.2.2.2.2.2.2.2.2.1]; dsimp only; omega)
  · congr 1 <;> exact Fin.ext (by dsimp only; omega)

end Cert.CvfKernelIdeal.Value
end
-- ==== Proof.CvfValue.lean ====
/-
  The causal convolution's kernel and its reference compute the same array over the extended reals.
-/
module

public import proofs.«01_k».proof.Proof.CvfBlocks
public import proofs.«01_k».proof.Proof.ConvValue
public import proofs.«01_k».proof.Proof.Gen.CvfReferenceIdeal.Read

@[expose] public section

noncomputable section

namespace Cert.CvfValue

open Cert.CvfKernelIdeal Cert.CvfKernelIdeal.Gen Cert.CvfKernelIdeal.Value Cert.CvfReferenceIdeal.Read
open Idealize.ShloMosaic Idealize.ShloMosaic.TcCoe Idealize.SL.Sem
open Cert.ConvValue (xPad)

section reference
variable (x : Vec Ideal S4112x2824 .f32) (w : Vec Ideal S4x1536 .f32)

/-- Row `n - 3` of the convolved columns, zero before the first row. -/
def xShift (n : ℕ) (hn : n < 4115) (k : Fin 1536) : EReal :=
  if h : n < 3 then 0 else x (ix2 ⟨n - 3, by omega⟩ ⟨768 + k.val, by omega⟩)

theorem ref_shift (n : Fin 4115) (k : Fin 1536) : val_main_v2 (F := Ideal) x (ix2 n k) = xShift x n.val n.isLt k := by
  unfold xShift
  pointwise [val_main_v2, val_main_v1, val_main_v0, val_main_cst]

/-- The convolution at a row. -/
def yR (n : Fin 4112) (k : Fin 1536) : EReal :=
  w (ix2 0 k) * xShift x (0 + n.val) (by omega) k + w (ix2 1 k) * xShift x (1 + n.val) (by omega) k
    + w (ix2 2 k) * xShift x (2 + n.val) (by omega) k + w (ix2 3 k) * xShift x (3 + n.val) (by omega) k

theorem ref_y (n : Fin 4112) (k : Fin 1536) : val_main_v31 (F := Ideal) x w (ix2 n k) = yR x w n k := by
  unfold yR
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0, ref_shift]

theorem ref_out (n : Fin 4224) (k : Fin 1536) : val_main_v33 (F := Ideal) x w (ix2 n k)
    = if h : n.val < 112 then 0 else yR x w ⟨n.val - 112, by omega⟩ k := by
  pointwise [val_main_v33, val_main_v32, val_main_cst_1, ref_y]

end reference

section kernel
variable (m : (ℓ : Loc nD τ sig) → Buf (Elt Ideal) ℓ) (c : Dev nD)

abbrev xOf : Vec Ideal S4112x2824 .f32 := m ((c.tc : Thread nD τ).loc main_arg0)
abbrev wOf : Vec Ideal S4x1536 .f32 := m ((c.tc : Thread nD τ).loc main_arg1)

theorem xs_eq (n : Fin 4224) (k : Fin 1536) : xs m c n k = xPad (xOf m c) n k := by
  unfold xs xPad
  dsimp only [V, hostOps0]
  after_results
  rw [concatenate_pair_apply]
  by_cases h : n.val < 112
  · rw [dif_pos h]
    refine (dif_pos h).trans ?_
    pointwise
  · rw [dif_neg h]
    refine (dif_neg h).trans ((transpose_apply [1, 0] _ _ _ (ix2 (⟨1024 + k.val, by omega⟩ : Fin 3200) (⟨n.val - 112, by omega⟩ : Fin 4112)) (fun b => match b with | ⟨0, _⟩ => rfl | ⟨1, _⟩ => rfl)).trans ?_)
    refine Eq.trans (Cert.ConvValue.proj_row _ _ _ _ _ _ _ _ _ _ _ _ _ ⟨k.val, by omega⟩ ⟨n.val - 112, by omega⟩) ?_
    show HloOp.result _ _ (Proc.devRef .tc main_v7) (ix2 (⟨k.val, by omega⟩ : Fin 2048) (⟨n.val - 112, by omega⟩ : Fin 4112)) = _
    after_results_steps
    pointwise

/-- A row some rows back is the reference's shifted row, and zero in the padding. -/
theorem back_ref (n o j : ℕ) (hn : n < 4224) (hj : o + j = 3) (k : Fin 1536) :
    xBack m c n o (by omega) k = if h : n < 112 then 0 else xShift (xOf m c) (j + (n - 112)) (by omega) k := by
  unfold xBack xShift
  by_cases h : n < 112
  · rw [dif_pos h]
    by_cases h' : n < o
    · rw [dif_pos h']
    · rw [dif_neg h', xs_eq]
      exact dif_pos (by dsimp only; omega)
  · rw [dif_neg h, dif_neg (by omega), xs_eq]
    unfold xPad
    by_cases h' : n - o < 112
    · rw [dif_pos h', dif_pos (by omega)]
    · rw [dif_neg h', dif_neg (by omega)]
      congr 2
      exact Fin.ext (by dsimp only; omega)

theorem yRow_eq (n : Fin 4224) (k : Fin 1536) : yRow m c n k
    = if h : n.val < 112 then 0 else yR (xOf m c) (wOf m c) ⟨n.val - 112, by omega⟩ k := by
  unfold yRow yR ws
  rw [back_ref m c n.val 3 0 n.isLt rfl, back_ref m c n.val 2 1 n.isLt rfl, back_ref m c n.val 1 2 n.isLt rfl,
    back_ref m c n.val 0 3 n.isLt rfl]
  by_cases h : n.val < 112
  · simp only [dif_pos h, mul_zero, add_zero]
  · simp only [dif_neg h]

/-- The array is the reference's. -/
theorem y_eq : (dats m 0 c).arrAt 3 cfg0.N = val_main_v33 (F := Ideal) (xOf m c) (wOf m c) := by
  funext i
  have e : i = ix2 (i 0) (i 1) := eq_ix2 i
  rw [e]
  exact (y_at m c (i 0) (i 1)).trans ((yRow_eq m c (i 0) (i 1)).trans (ref_out _ _ (i 0) (i 1)).symm)

end kernel
end Cert.CvfValue
end
-- ==== Proof.CvfClaims.lean ====
/-
  The claims about the causal convolution's kernel and its reference.
-/
module

public import proofs.«01_k».proof.Defs
public import proofs.«01_k».proof.Proof.CvfValue
public import proofs.«01_k».proof.Proof.Gen.CvfKernel.Frame
public import proofs.«01_k».proof.Proof.Gen.CvfReferenceIdeal.Run

@[expose] public section

noncomputable section

namespace Cert.CvfClaims

open Idealize.ShloMosaic Idealize.ShloMosaic.TcCoe Idealize.SL.Sem

/-- The kernel runs without fault, keeps its arguments and leaves every counter at zero. -/
theorem frame_kernel : Cert.quiescent_CvfKernel := fun m ρ _ => Cert.CvfKernel.Gen.frame m ρ

/-- So does its ideal program. -/
theorem frame_ideal : Cert.quiescent_CvfKernelIdeal := fun m ρ _ => Cert.CvfKernelIdeal.Gen.frame m ρ

/-- So does the reference. -/
theorem frame_reference : Cert.quiescent_CvfReferenceIdeal := fun m ρ _ =>
  (θ_run _ _ _).mono (fun r h => ⟨fun c => (h c).2, sem_eq_zero_of_no_sems (by decide) r.2⟩)
    (Cert.CvfReferenceIdeal.Value.run m ρ)

/-- The kernel and the reference compute the same convolved columns. -/
theorem algebraic : Cert.algebraic_CvfKernelIdeal_CvfReferenceIdeal :=
  fun m g m' g' _ hargs =>
  ⟨fun c => (Cert.CvfKernelIdeal.Gen.dats m 0 c).arrAt 3 Cert.CvfKernelIdeal.cfg0.N,
   Cert.CvfKernelIdeal.Value.run_blocks m g,
   (θ_run _ _ _).mono (fun r h c => by
      obtain ⟨r0, hk⟩ := h c
      obtain ⟨e0, e1⟩ := hargs c
      refine ⟨r0.trans ?_, hk⟩
      · rw [Cert.CvfReferenceIdeal.Read.val_main_v33_eq, e0, e1]
        exact (Cert.CvfValue.y_eq m c).symm)
    (Cert.CvfReferenceIdeal.Value.run m' g')⟩

end Cert.CvfClaims

end
-- ==== Proof.TnBlocks.lean ====
/-
  The array the product of the feed-forward layer's gradient and its normed input leaves over the extended reals, entry by
  entry: each grid point computes 512 rows of the gradient of the weights, a sum over all tokens.
-/
module

public import proofs.«01_k».proof.Proof.NormOut
public import proofs.«01_k».proof.Proof.Rows
public import proofs.«01_k».proof.Proof.Gen.TnKernelIdeal.Value

@[expose] public section

noncomputable section

namespace Cert.TnKernelIdeal.Value

open Cert.TnKernelIdeal Cert.TnKernelIdeal.Gen Idealize.ShloMosaic Idealize.ShloMosaic.TcCoe Idealize.SL.Sem
open Cert.Numbers Cert.Rows

/-- What a grid point stores is the product of its two blocks. -/
theorem out_eq (c : Dev nD) (i : grid0.Coords) (a1 : Memref sig .tc .vmem S4224x512 .bf16) (h1 : a1.IsWhole)
    (a2 : Memref sig .tc .vmem S4224x1024 .bf16) (h2 : a2.IsWhole) (a4 : Memref sig .tc .vmem S512x1024 .bf16) (h4 : a4.IsWhole)
    (x0 : Vec Ideal S4224x512 .bf16) (x1 : Vec Ideal S4224x1024 .bf16) :
    out0_A_2 c i a1 h1 a2 h2 a4 h4 x0 x1 = k0_pay1 x0 x1 := by
  unfold out0_A_2
  rw [View.read_writes_eq_canon _ _ _ fun _ => cover0_A_2 ..]
  unfold kernelRun0_A
  dsimp only
  sl_unfold_words
  rw [View.canon_cons_unit_zero zeros2]
  simp only [View.readAt_eq_ld, Memref.IsWhole.read_unread, ld_all]

theorem pay_at (x0 : Vec Ideal S4224x512 .bf16) (x1 : Vec Ideal S4224x1024 .bf16) (r : Fin 512) (k : Fin 1024) :
    k0_pay1 (F := Ideal) x0 x1 (ix2 r k) = ∑ n : Fin 4224, x0 (ix2 n r) * x1 (ix2 n k) := by
  pointwise [k0_pay1]

variable (m : (ℓ : Loc nD τ sig) → Buf (Elt Ideal) ℓ) (c : Dev nD)

/-- The block indices of the windows at a point: point `t` is column block `t` of the gradient and row block `t` of the result. -/
theorem index_facts : ∀ t : Fin cfg0.N, (win0_0.index t 0 = 0 ∧ win0_0.index t 1 = t.val) ∧
    (win0_1.index t 0 = 0 ∧ win0_1.index t 1 = 0) ∧ (win0_2.index t 0 = t.val ∧ win0_2.index t 1 = 0) :=
  (by decide +kernel : ∀ t : Fin grid0.N, _)

/-- The arrays the region finds: the gradient of the gate's and the up layer's outputs, and the normed input. -/
def gA (n : Fin 4224) (j : Fin 5632) : EReal := (V m c main_v3 : Vec Ideal S4224x5632 .bf16) (ix2 n j)
def hnA (n : Fin 4224) (k : Fin 1024) : EReal := (V m c main_v18 : Vec Ideal S4224x1024 .bf16) (ix2 n k)

theorem block_g (t : Fin cfg0.N) (n : Fin 4224) (r : Fin 512) :
    (iblk m c 0 t : Vec Ideal S4224x512 .bf16) (ix2 n r)
      = gA m c n ⟨t.val * 512 + r.val, by have ht : t.val < 11 := t.isLt; omega⟩ :=
  congrArg (V m c main_v3) (at2 (at_first (index_facts t).1.1) (at_block (index_facts t).1.2))

theorem block_hn (t : Fin cfg0.N) (n : Fin 4224) (k : Fin 1024) :
    (iblk m c 1 t : Vec Ideal S4224x1024 .bf16) (ix2 n k) = hnA m c n k :=
  congrArg (V m c main_v18) (at2 (at_first (index_facts t).2.1.1) (at_first (index_facts t).2.1.2))

/-- The array at an entry. -/
theorem w_at (j : Fin 5632) (k : Fin 1024) :
    (dats m 0 c).arrAt 2 cfg0.N (ix2 j k : S5632x1024.Idx) = ∑ n : Fin 4224, gA m c n j * hnA m c n k := by
  have ht : j.val / 512 < cfg0.N := by show _ < 11; omega
  have hi := (index_facts ⟨_, ht⟩).2.2
  have h := congrFun (blocks2 m c ⟨_, ht⟩ (flush0_2 _)) (ix2 (⟨j.val % 512, by omega⟩ : Fin 512) k)
  rw [flushed2_A, View.read_apply, out_eq] at h
  refine Eq.trans (congrArg _ ?_) (h.trans ((pay_at _ _ ⟨j.val % 512, by omega⟩ k).trans ?_))
  · exact at2 (at_row hi.1) (at_first hi.2).symm
  · simp only [block_g, block_hn]
    refine Finset.sum_congr rfl fun n _ => congrArg (fun a => gA m c n a * _) (Fin.ext ?_)
    dsimp only
    omega

end Cert.TnKernelIdeal.Value
end
-- ==== Proof.TnValue.lean ====
/-
  The product of the feed-forward layer's gradient and its normed input is the gradient of the gate's and the up layer's weights.
-/
module

public import proofs.«01_k».proof.Proof.TnBlocks
public import proofs.«01_k».proof.Proof.Gen.TnReferenceIdeal.Read
public import Idealize.ShloMosaic.Lib.KernelVsHost

@[expose] public section

noncomputable section

namespace Cert.TnValue

open Cert.TnKernelIdeal Cert.TnKernelIdeal.Gen Cert.TnKernelIdeal.Value Cert.TnReferenceIdeal.Read
open Idealize.ShloMosaic Idealize.ShloMosaic.TcCoe Idealize.SL.Sem
open Cert.Numbers

section reference
variable (x0 x1 : Vec Ideal S4112x2816 .f32) (x2 : Vec Ideal S4112x1024 .f32) (x3 : Vec Ideal S1x1024 .f32)

/-- The normed input. -/
def hnR (n : Fin 4112) (k : Fin 1024) : EReal := Norm.out (fun k => x2 (ix2 n k)) (fun k => x3 (ix2 0 k)) k

/-- The gradient with respect to the outputs of the gate (the first columns) and of the up layer. -/
def gR (n : Fin 4112) (j : Fin 5632) : EReal :=
  if h : j.val < 2816 then x0 (ix2 n ⟨j.val, h⟩) else x1 (ix2 n ⟨j.val - 2816, by omega⟩)

theorem ref_hn (n : Fin 4112) (k : Fin 1024) : val_main_v12 (F := Ideal) x2 x3 (ix2 n k) = hnR x2 x3 n k := by
  unfold hnR
  pointwise [val_main_v12, val_main_v11, val_main_v10, val_main_v9, val_main_v8, val_main_v7, val_main_v6, val_main_v5, val_main_v4, val_main_v3, val_main_v2, val_main_v1, val_main_cst_0, val_main_cst_1, val_main_cst_2]
  rfl

theorem ref_hn' (n : Fin 4112) (k : Fin 1024) : val_main_v25 (F := Ideal) x2 x3 (ix2 n k) = hnR x2 x3 n k := by
  unfold hnR
  pointwise [val_main_v25, val_main_v24, val_main_v23, val_main_v22, val_main_v21, val_main_v20, val_main_v19, val_main_v18, val_main_v17, val_main_v16, val_main_v15, val_main_v14, val_main_cst_3, val_main_cst_4, val_main_cst_5]
  rfl

/-- The result: the sum over the tokens. -/
theorem ref_w (j : Fin 5632) (k : Fin 1024) : val_main_v33 (F := Ideal) x0 x1 x2 x3 (ix2 j k)
    = ∑ n : Fin 4112, gR x0 x1 n j * hnR x2 x3 n k := by
  unfold gR
  by_cases h : j.val < 2816
  · simp only [dif_pos h]
    pointwise [val_main_v33, val_main_v32, val_main_v31, val_main_v30, val_main_v29, val_main_v28, val_main_v27, ref_hn, ref_hn']
    simp only [h, dif_pos, ↓reduceIte]
  · simp only [dif_neg h]
    pointwise [val_main_v33, val_main_v32, val_main_v31, val_main_v30, val_main_v29, val_main_v28, val_main_v27, ref_hn, ref_hn']
    simp only [h, ↓reduceIte, ↓reduceDIte]

end reference

section kernel
variable (m : (ℓ : Loc nD τ sig) → Buf (Elt Ideal) ℓ) (c : Dev nD)

abbrev a0 : Vec Ideal S4112x2816 .f32 := m ((c.tc : Thread nD τ).loc main_arg0)
abbrev a1 : Vec Ideal S4112x2816 .f32 := m ((c.tc : Thread nD τ).loc main_arg1)
abbrev a2 : Vec Ideal S4112x1024 .f32 := m ((c.tc : Thread nD τ).loc main_arg2)
abbrev a3 : Vec Ideal S1x1024 .f32 := m ((c.tc : Thread nD τ).loc main_arg3)

/-- The gradient, padded. -/
theorem g_eq (n : Fin 4224) (j : Fin 5632) :
    gA m c n j = if h : n.val < 112 then 0 else gR (a0 m c) (a1 m c) ⟨n.val - 112, by omega⟩ j := by
  unfold gA gR
  dsimp only [V, hostOps0]
  after_results
  pointwise

/-- The normed input, padded. -/
theorem hn_eq (n : Fin 4224) (k : Fin 1024) :
    hnA m c n k = if h : n.val < 112 then 0 else hnR (a2 m c) (a3 m c) ⟨n.val - 112, by omega⟩ k := by
  unfold hnA hnR
  dsimp only [V, hostOps0]
  after_results
  pointwise
  rfl

/-- The sum over all rows, the padding among them, is the sum over the tokens. -/
theorem w_row (j : Fin 5632) (k : Fin 1024) : ∑ n : Fin 4224, gA m c n j * hnA m c n k
    = ∑ n : Fin 4112, gR (a0 m c) (a1 m c) n j * hnR (a2 m c) (a3 m c) n k := by
  refine (Norm.sum_rows _ fun n hn => by rw [g_eq, dif_pos hn, zero_mul]).trans (Finset.sum_congr rfl fun n _ => ?_)
  have hn : ¬112 + n.val < 112 := by omega
  have en : (⟨112 + n.val - 112, by omega⟩ : Fin 4112) = n := Fin.ext (by dsimp only; omega)
  rw [g_eq, hn_eq, dif_neg hn, dif_neg hn, en]

/-- The array is the reference's. -/
theorem w_eq : (dats m 0 c).arrAt 2 cfg0.N = val_main_v33 (F := Ideal) (a0 m c) (a1 m c) (a2 m c) (a3 m c) := by
  funext i
  have e : i = ix2 (i 0) (i 1) := eq_ix2 i
  rw [e]
  exact (w_at m c (i 0) (i 1)).trans ((w_row m c (i 0) (i 1)).trans (ref_w _ _ _ _ (i 0) (i 1)).symm)

end kernel
end Cert.TnValue
end
-- ==== Proof.TnClaims.lean ====
/-
  The claims about the gradient of a feed-forward layer's weights: the product's kernel and its reference.
-/
module

public import proofs.«01_k».proof.Defs
public import proofs.«01_k».proof.Proof.TnValue
public import proofs.«01_k».proof.Proof.Gen.TnKernel.Frame
public import proofs.«01_k».proof.Proof.Gen.TnReferenceIdeal.Run

@[expose] public section

noncomputable section

namespace Cert.TnClaims

open Idealize.ShloMosaic Idealize.ShloMosaic.TcCoe Idealize.SL.Sem
open Cert.Numbers Cert.Finite

/-- The kernel runs without fault, keeps its arguments and leaves every counter at zero. -/
theorem frame_kernel : Cert.quiescent_TnKernel := fun m ρ _ => Cert.TnKernel.Gen.frame m ρ

/-- So does its ideal program. -/
theorem frame_ideal : Cert.quiescent_TnKernelIdeal := fun m ρ _ => Cert.TnKernelIdeal.Gen.frame m ρ

/-- So does the reference. -/
theorem frame_reference : Cert.quiescent_TnReferenceIdeal := fun m ρ _ =>
  (θ_run _ _ _).mono (fun r h => ⟨fun c => (h c).2, sem_eq_zero_of_no_sems (by decide) r.2⟩)
    (Cert.TnReferenceIdeal.Value.run m ρ)

/-- The kernel and the reference compute the same gradient of the weights. -/
theorem algebraic : Cert.algebraic_TnKernelIdeal_TnReferenceIdeal :=
  fun m g m' g' _ hargs =>
  ⟨fun c => (Cert.TnKernelIdeal.Gen.dats m 0 c).arrAt 2 Cert.TnKernelIdeal.cfg0.N,
   Cert.TnKernelIdeal.Value.run_blocks m g,
   (θ_run _ _ _).mono (fun r h c => by
      obtain ⟨r0, hk⟩ := h c
      obtain ⟨e0, e1, e2, e3, _⟩ := hargs c
      refine ⟨r0.trans ?_, hk⟩
      rw [Cert.TnReferenceIdeal.Read.val_main_v33_eq, e0, e1, e2, e3]
      exact (Cert.TnValue.w_eq m c).symm)
    (Cert.TnReferenceIdeal.Value.run m' g')⟩

end Cert.TnClaims

end
-- ==== Proof.AdaBlocks.lean ====
/-
  What the optimiser's kernel leaves over the extended reals, entry by entry: the sum of the received gradient pieces, and
  the step, the moments taken from it. One grid point does the whole weight.
-/
module

public import proofs.«01_k».proof.Proof.Rows
public import proofs.«01_k».proof.Proof.Gen.AdaKernelIdeal.Value

@[expose] public section

noncomputable section

namespace Cert.AdaKernelIdeal.Value

open Cert.AdaKernelIdeal Cert.AdaKernelIdeal.Gen Idealize.ShloMosaic Idealize.ShloMosaic.TcCoe Idealize.SL.Sem

theorem zeros2 : (![0, 0] : Fin 2 → Nat) = fun _ => 0 := funext fun a => by fin_cases a <;> rfl
theorem zeros3 : (![0, 0, 0] : Fin 3 → Nat) = fun _ => 0 := funext fun a => by fin_cases a <;> rfl

/-- The f32 number of a word. -/
abbrev num (b : BitVec 32) : EReal := Ideal.ofBits .f32 b

/-- The new moments, and the step of a weight `w`, from its gradient `g`. -/
def newM (g m : EReal) : EReal := num 0x3F666666#32 * m + num 0x3DCCCCCD#32 * g
def newV (g v : EReal) : EReal := num 0x3F7FBE77#32 * v + num 0x3A83126F#32 * (g * g)
def step (g w m v : EReal) : EReal := num 0xBA83126F#32 *
  (Ideal.div (newM g m * num 0x3FC48605#32) (Ideal.sqrt (newV g v * num 0x42C8E6D3#32) + num 0x322BCC77#32) + num 0x3C23D70A#32 * w)

/-- The gradient: the sum of the eight pieces. -/
def gAt (x0 : Vec Ideal S8x400x1024 .bf16) (r : Fin 386) (k : Fin 1024) : EReal := ∑ j : Fin 8, x0 (ix3 j ⟨r.val, by omega⟩ k)
def gVec (x0 : Vec Ideal S8x400x1024 .bf16) : Vec Ideal S386x1024 .f32 := fun i => gAt x0 (i 0) (i 1)

/-- The buffer of the sum, read back without its padding, is the gradient. -/
theorem sum_read (v : View sig .tc .vmem S400x1024 .f32) (x0 : Vec Ideal S8x400x1024 .bf16) :
    v.readCov [⟨Rect.unit (s := S400x1024) ![0, 0] S400x1024.size inb_S400x1024_S400x1024_0_0, k0_pay2 (F := Ideal)
      (View.ld x0 (Rect.unit ![0, 0, 0] ![1, 400, 1024] inb_S8x400x1024_S1x400x1024_0_0_0))
      (View.ld x0 (Rect.unit ![1, 0, 0] ![1, 400, 1024] inb_S8x400x1024_S1x400x1024_1_0_0))
      (View.ld x0 (Rect.unit ![2, 0, 0] ![1, 400, 1024] inb_S8x400x1024_S1x400x1024_2_0_0))
      (View.ld x0 (Rect.unit ![3, 0, 0] ![1, 400, 1024] inb_S8x400x1024_S1x400x1024_3_0_0))
      (View.ld x0 (Rect.unit ![4, 0, 0] ![1, 400, 1024] inb_S8x400x1024_S1x400x1024_4_0_0))
      (View.ld x0 (Rect.unit ![5, 0, 0] ![1, 400, 1024] inb_S8x400x1024_S1x400x1024_5_0_0))
      (View.ld x0 (Rect.unit ![6, 0, 0] ![1, 400, 1024] inb_S8x400x1024_S1x400x1024_6_0_0))
      (View.ld x0 (Rect.unit ![7, 0, 0] ![1, 400, 1024] inb_S8x400x1024_S1x400x1024_7_0_0))⟩]
      (Rect.unit (s := S400x1024) ![0, 0] ![386, 1024] inb_S400x1024_S386x1024_0_0).toLoadRect = gVec x0 := by
  funext i
  have e : i = ix2 (i 0) (i 1) := eq_ix2 i
  rw [e]
  refine (Cert.Rows.readCov_rows (k := 386) v _ 0 _ (i 0) (i 1) (by have h : (i 0).val < 386 := (i 0).isLt; omega)).trans ?_
  rw [View.canon_unit_zero zeros2]
  pointwise [k0_pay2]
  show _ = gAt x0 (i 0) (i 1)
  unfold gAt
  rw [Fin.sum_univ_eight]

section point
variable (c : Dev nD) (i : grid0.Coords) (a2 : Memref sig .tc .vmem S8x400x1024 .bf16) (h2 : a2.IsWhole)
  (a3 a4 a5 a6 a7 a8 a9 : Memref sig .tc .vmem S1x386x1024 .f32) (h3 : a3.IsWhole) (h4 : a4.IsWhole) (h5 : a5.IsWhole)
  (h6 : a6.IsWhole) (h7 : a7.IsWhole) (h8 : a8.IsWhole) (h9 : a9.IsWhole)
  (a10 : Memref sig .tc .vmem S400x1024 .f32) (h10 : a10.IsWhole) (hc0 : k0_cond1 i = 1#1)
  (x0 : Vec Ideal S8x400x1024 .bf16) (x1 x2 x3 : Vec Ideal S1x386x1024 .f32)

theorem out_g : out0_A_4 c i a2 h2 a3 h3 a4 h4 a5 h5 a6 h6 a7 h7 a8 h8 a9 h9 a10 h10 hc0 x0 x1 x2 x3 = k0_pay5 (gVec x0) := by
  unfold out0_A_4
  rw [View.read_writes_eq_canon _ _ _ fun _ => cover0_A_4 ..]
  unfold kernelRun0_A
  dsimp only
  sl_unfold_words
  rw [View.canon_unit_zero zeros3]
  simp only [View.readAt_eq_ld, Memref.IsWhole.read_unread]
  exact congrArg k0_pay5 (sum_read a10.view x0)

theorem out_d : out0_A_5 c i a2 h2 a3 h3 a4 h4 a5 h5 a6 h6 a7 h7 a8 h8 a9 h9 a10 h10 hc0 x0 x1 x2 x3
    = k0_pay1 (k0_pay8 (gVec x0) x2) (k0_pay9 (gVec x0) x3) x1 := by
  unfold out0_A_5
  rw [View.read_writes_eq_canon _ _ _ fun _ => cover0_A_5 ..]
  unfold kernelRun0_A
  dsimp only
  sl_unfold_words
  rw [View.canon_unit_zero zeros3]
  simp only [View.readAt_eq_ld, Memref.IsWhole.read_unread, View.ld_unit_zero (S := S1x386x1024) zeros3]
  exact congrArg (fun g => k0_pay1 (k0_pay8 g x2) (k0_pay9 g x3) x1) (sum_read a10.view x0)

theorem out_m : out0_A_6 c i a2 h2 a3 h3 a4 h4 a5 h5 a6 h6 a7 h7 a8 h8 a9 h9 a10 h10 hc0 x0 x1 x2 x3 = k0_pay6 (gVec x0) x2 := by
  unfold out0_A_6
  rw [View.read_writes_eq_canon _ _ _ fun _ => cover0_A_6 ..]
  unfold kernelRun0_A
  dsimp only
  sl_unfold_words
  rw [View.canon_unit_zero zeros3]
  simp only [View.readAt_eq_ld, Memref.IsWhole.read_unread, View.ld_unit_zero (S := S1x386x1024) zeros3]
  exact congrArg (fun g => k0_pay6 g x2) (sum_read a10.view x0)

theorem out_v : out0_A_7 c i a2 h2 a3 h3 a4 h4 a5 h5 a6 h6 a7 h7 a8 h8 a9 h9 a10 h10 hc0 x0 x1 x2 x3 = k0_pay7 (gVec x0) x3 := by
  unfold out0_A_7
  rw [View.read_writes_eq_canon _ _ _ fun _ => cover0_A_7 ..]
  unfold kernelRun0_A
  dsimp only
  sl_unfold_words
  rw [View.canon_unit_zero zeros3]
  simp only [View.readAt_eq_ld, Memref.IsWhole.read_unread, View.ld_unit_zero (S := S1x386x1024) zeros3]
  exact congrArg (fun g => k0_pay7 g x3) (sum_read a10.view x0)

end point

section values
variable (x0 : Vec Ideal S8x400x1024 .bf16) (w μ v : Vec Ideal S1x386x1024 .f32)

/-- The four results: the gradient, the step and the new moments. -/
def gRes : Vec Ideal S1x386x1024 .f32 := fun i => gAt x0 (i 1) (i 2)
def dRes : Vec Ideal S1x386x1024 .f32 := fun i => step (gAt x0 (i 1) (i 2)) (w i) (μ i) (v i)
def mRes : Vec Ideal S1x386x1024 .f32 := fun i => newM (gAt x0 (i 1) (i 2)) (μ i)
def vRes : Vec Ideal S1x386x1024 .f32 := fun i => newV (gAt x0 (i 1) (i 2)) (v i)

theorem ext3 {f g : Vec Ideal S1x386x1024 .f32} (h : ∀ r k, f (ix3 0 r k) = g (ix3 0 r k)) : f = g := by
  funext i
  have e : i = ix3 0 (i 1) (i 2) := by
    funext a
    match a with
    | ⟨0, _⟩ => exact Fin.ext (by have h : (i 0).val < 1 := (i 0).isLt; show (i 0).val = 0; omega)
    | ⟨1, _⟩ => rfl
    | ⟨2, _⟩ => rfl
  rw [e]
  exact h _ _

theorem pay_g : k0_pay5 (F := Ideal) (gVec x0) = gRes x0 := ext3 fun r k => by
  pointwise [k0_pay5]
  rfl

theorem pay_m : k0_pay6 (F := Ideal) (gVec x0) μ = mRes x0 μ := ext3 fun r k => by
  pointwise [k0_pay6, k0_pay3]
  rfl

theorem pay_v : k0_pay7 (F := Ideal) (gVec x0) v = vRes x0 v := ext3 fun r k => by
  pointwise [k0_pay7, k0_pay4]
  rfl

theorem pay_d : k0_pay1 (F := Ideal) (k0_pay8 (gVec x0) μ) (k0_pay9 (gVec x0) v) w = dRes x0 w μ v := ext3 fun r k => by
  pointwise [k0_pay1, k0_pay8, k0_pay9, k0_pay3, k0_pay4]
  rfl

end values

section array
variable (m : (ℓ : Loc nD τ sig) → Buf (Elt Ideal) ℓ) (c : Dev nD)

abbrev a0 : Vec Ideal S8x400x1024 .bf16 := m ((c.tc : Thread nD τ).loc main_arg0)
abbrev a1 : Vec Ideal S1x386x1024 .f32 := m ((c.tc : Thread nD τ).loc main_arg1)
abbrev a2 : Vec Ideal S1x386x1024 .f32 := m ((c.tc : Thread nD τ).loc main_arg2)
abbrev a3 : Vec Ideal S1x386x1024 .f32 := m ((c.tc : Thread nD τ).loc main_arg3)

/-- The one grid point. -/
abbrev p0 : Fin cfg0.N := ⟨0, by decide +kernel⟩

theorem index_facts : (∀ a, win0_0.index p0 a = 0) ∧ (∀ a, win0_1.index p0 a = 0) ∧
    (∀ a, win0_2.index p0 a = 0) ∧ (∀ a, win0_3.index p0 a = 0) ∧
    (∀ a, win0_4.index p0 a = 0) ∧ (∀ a, win0_5.index p0 a = 0) ∧
    (∀ a, win0_6.index p0 a = 0) ∧ (∀ a, win0_7.index p0 a = 0) := by decide +kernel

/-- A block as large as its array is the array. -/
theorem idx (f g : Fin 3 → Nat) (hf : ∀ a, f a = 0) (e y : (⟨3, g⟩ : Shape).Idx)
    (h : ∀ a, (e a).val = f a * g a + 1 * (y a).val) : e = y :=
  funext fun a => Fin.ext (by rw [h a, hf a]; omega)

theorem in0 : (iblk m c 0 p0 : Vec Ideal S8x400x1024 .bf16) = a0 m c := by
  funext i
  unfold iblk
  rw [View.read_apply]
  show V m c main_arg0 _ = _
  rw [V_main_arg0]
  exact congrArg _ (idx (win0_0.index p0) _ index_facts.1 _ _ fun _ => rfl)

theorem in1 : (iblk m c 1 p0 : Vec Ideal S1x386x1024 .f32) = a1 m c := by
  funext i
  unfold iblk
  rw [View.read_apply]
  show V m c main_arg1 _ = _
  rw [V_main_arg1]
  exact congrArg _ (idx (win0_1.index p0) _ index_facts.2.1 _ _ fun _ => rfl)

theorem in2 : (iblk m c 2 p0 : Vec Ideal S1x386x1024 .f32) = a2 m c := by
  funext i
  unfold iblk
  rw [View.read_apply]
  show V m c main_arg2 _ = _
  rw [V_main_arg2]
  exact congrArg _ (idx (win0_2.index p0) _ index_facts.2.2.1 _ _ fun _ => rfl)

theorem in3 : (iblk m c 3 p0 : Vec Ideal S1x386x1024 .f32) = a3 m c := by
  funext i
  unfold iblk
  rw [View.read_apply]
  show V m c main_arg3 _ = _
  rw [V_main_arg3]
  exact congrArg _ (idx (win0_3.index p0) _ index_facts.2.2.2.1 _ _ fun _ => rfl)

theorem g_eq : (dats m 0 c).arrAt 4 cfg0.N = gRes (a0 m c) := by
  funext i
  have h := congrFun (blocks4 m c p0 (flush0_4 p0)) i
  rw [flushed4_A, View.read_apply, out_g, pay_g, in0] at h
  exact Eq.trans (congrArg _ (idx (win0_4.index p0) _ index_facts.2.2.2.2.1 _ _ fun _ => rfl).symm) h

theorem d_eq : (dats m 0 c).arrAt 5 cfg0.N = dRes (a0 m c) (a1 m c) (a2 m c) (a3 m c) := by
  funext i
  have h := congrFun (blocks5 m c p0 (flush0_5 p0)) i
  rw [flushed5_A, View.read_apply, out_d, pay_d, in0, in1, in2, in3] at h
  exact Eq.trans (congrArg _ (idx (win0_5.index p0) _ index_facts.2.2.2.2.2.1 _ _ fun _ => rfl).symm) h

theorem m_eq : (dats m 0 c).arrAt 6 cfg0.N = mRes (a0 m c) (a2 m c) := by
  funext i
  have h := congrFun (blocks6 m c p0 (flush0_6 p0)) i
  rw [flushed6_A, View.read_apply, out_m, pay_m, in0, in2] at h
  exact Eq.trans (congrArg _ (idx (win0_6.index p0) _ index_facts.2.2.2.2.2.2.1 _ _ fun _ => rfl).symm) h

theorem v_eq : (dats m 0 c).arrAt 7 cfg0.N = vRes (a0 m c) (a3 m c) := by
  funext i
  have h := congrFun (blocks7 m c p0 (flush0_7 p0)) i
  rw [flushed7_A, View.read_apply, out_v, pay_v, in0, in3] at h
  exact Eq.trans (congrArg _ (idx (win0_7.index p0) _ index_facts.2.2.2.2.2.2.2 _ _ fun _ => rfl).symm) h

end array

end Cert.AdaKernelIdeal.Value
end
-- ==== Proof.AdaClaims.lean ====
/-
  The claims about the optimiser's kernel and its reference.
-/
module

public import proofs.«01_k».proof.Defs
public import proofs.«01_k».proof.Proof.AdaBlocks
public import proofs.«01_k».proof.Proof.Gen.AdaKernel.Frame
public import proofs.«01_k».proof.Proof.Gen.AdaReferenceIdeal.Run
public import proofs.«01_k».proof.Proof.Gen.AdaReferenceIdeal.Read
public import Idealize.ShloMosaic.Lib.KernelVsHost

@[expose] public section

noncomputable section

namespace Cert.AdaClaims

open Idealize.ShloMosaic Idealize.ShloMosaic.TcCoe Idealize.SL.Sem
open Cert.AdaKernelIdeal Cert.AdaKernelIdeal.Value Cert.AdaReferenceIdeal.Read

section reference
variable (x0 : Vec Ideal S8x400x1024 .bf16) (w μ v : Vec Ideal S1x386x1024 .f32)

theorem ref_g : val_main_v3 (F := Ideal) x0 = gRes x0 := ext3 fun r k => by
  pointwise [val_main_v3, val_main_v2, val_main_v1, val_main_v0, val_main_cst]
  rfl

theorem ref_m : val_main_v8 (F := Ideal) x0 μ = mRes x0 μ := ext3 fun r k => by
  pointwise [val_main_v8, val_main_v7, val_main_v6, val_main_v5, val_main_v4, val_main_cst_0, val_main_cst_1, ref_g]
  rfl

theorem ref_v : val_main_v14 (F := Ideal) x0 v = vRes x0 v := ext3 fun r k => by
  pointwise [val_main_v14, val_main_v13, val_main_v12, val_main_v11, val_main_v10, val_main_v9, val_main_cst_2, val_main_cst_3, ref_g]
  rfl

theorem ref_d : val_main_v27 (F := Ideal) x0 w μ v = dRes x0 w μ v := ext3 fun r k => by
  pointwise [val_main_v27, val_main_v26, val_main_v25, val_main_v24, val_main_v23, val_main_v22, val_main_v21, val_main_v20, val_main_v19, val_main_v18, val_main_v17, val_main_v16, val_main_v15, val_main_cst_4, val_main_cst_5, val_main_cst_6, val_main_cst_7, val_main_cst_8, ref_m, ref_v]
  rfl

end reference

/-- The kernel runs without fault, keeps its arguments and leaves every counter at zero. -/
theorem frame_kernel : Cert.quiescent_AdaKernel := fun m ρ _ => Cert.AdaKernel.Gen.frame m ρ

/-- So does its ideal program. -/
theorem frame_ideal : Cert.quiescent_AdaKernelIdeal := fun m ρ _ => Cert.AdaKernelIdeal.Gen.frame m ρ

/-- So does the reference. -/
theorem frame_reference : Cert.quiescent_AdaReferenceIdeal := fun m ρ _ =>
  (θ_run _ _ _).mono (fun r h => ⟨fun c => (h c).2.2.2.2, sem_eq_zero_of_no_sems (by decide) r.2⟩)
    (Cert.AdaReferenceIdeal.Value.run m ρ)

/-- The kernel and the reference compute the same gradient, step and moments. -/
theorem algebraic : Cert.algebraic_AdaKernelIdeal_AdaReferenceIdeal := fun m g m' g' _ hargs =>
  ⟨fun c => (Cert.AdaKernelIdeal.Gen.dats m 0 c).arrAt 4 Cert.AdaKernelIdeal.cfg0.N,
   fun c => (Cert.AdaKernelIdeal.Gen.dats m 0 c).arrAt 5 Cert.AdaKernelIdeal.cfg0.N,
   fun c => (Cert.AdaKernelIdeal.Gen.dats m 0 c).arrAt 6 Cert.AdaKernelIdeal.cfg0.N,
   fun c => (Cert.AdaKernelIdeal.Gen.dats m 0 c).arrAt 7 Cert.AdaKernelIdeal.cfg0.N,
   Cert.AdaKernelIdeal.Value.run_blocks m g,
   (θ_run _ _ _).mono (fun r h c => by
      obtain ⟨r0, r1, r2, r3, hk⟩ := h c
      obtain ⟨e0, e1, e2, e3⟩ := hargs c
      refine ⟨r0.trans ?_, r1.trans ?_, r2.trans ?_, r3.trans ?_, hk⟩
      · rw [val_main_v3_eq, e0]
        exact (ref_g _).trans (g_eq m c).symm
      · rw [val_main_v27_eq, e0, e1, e2, e3]
        exact (ref_d _ _ _ _).trans (d_eq m c).symm
      · rw [val_main_v8_eq, e0, e2]
        exact (ref_m _ _).trans (m_eq m c).symm
      · rw [val_main_v14_eq, e0, e3]
        exact (ref_v _ _).trans (v_eq m c).symm)
    (Cert.AdaReferenceIdeal.Value.run m' g')⟩

end Cert.AdaClaims

end
-- ==== Proof.BiaBlocks.lean ====
/-
  What the kernel of the bias table's gradient leaves over the extended reals, entry by entry: row `b`, column `h` holds the
  sum of the gradient of head `h`'s bias over the pairs of positions whose bucket is `b`; the columns past the heads hold zero.
-/
module

public import proofs.«01_k».proof.Proof.Rows
public import proofs.«01_k».proof.Proof.Gen.BiaKernelIdeal.Value

@[expose] public section

noncomputable section

namespace Cert.BiaKernelIdeal.Value

open Cert.BiaKernelIdeal Cert.BiaKernelIdeal.Gen Idealize.ShloMosaic Idealize.ShloMosaic.TcCoe Idealize.SL.Sem

variable (x : Vec Ideal S3x8x128x384 .f32) (u : Vec Ideal S3x128x384 .i32)

theorem inb_u (c : Fin 3) : ∀ a, (![c.val, 0, 0] : Fin 3 → Nat) a + S1x128x384.size a ≤ S3x128x384.size a
  | ⟨0, _⟩ => by show c.val + 1 ≤ 3; omega
  | ⟨1, _⟩ => by show 0 + 128 ≤ 128; omega
  | ⟨2, _⟩ => by show 0 + 384 ≤ 384; omega
theorem inb_x (c : Fin 3) (h : Fin 8) :
    ∀ a, (![c.val, h.val, 0, 0] : Fin 4 → Nat) a + S1x1x128x384.size a ≤ S3x8x128x384.size a
  | ⟨0, _⟩ => by show c.val + 1 ≤ 3; omega
  | ⟨1, _⟩ => by show h.val + 1 ≤ 8; omega
  | ⟨2, _⟩ => by show 0 + 128 ≤ 128; omega
  | ⟨3, _⟩ => by show 0 + 384 ≤ 384; omega
theorem inb_o (b : Fin 32) : ∀ a, (![b.val, 0] : Fin 2 → Nat) a + S1x128.size a ≤ S32x128.size a
  | ⟨0, _⟩ => by show b.val + 1 ≤ 32; omega
  | ⟨1, _⟩ => by show 0 + 128 ≤ 128; omega

/-- A block of a head's gradient, kept at the positions whose bucket is `b`. -/
def keep (b : Fin 32) (v : Vec Ideal S1x128x384 .i32) (y : Vec Ideal S1x1x128x384 .f32) : FVec Ideal S128x384 .f32 :=
  select (cmpi .eq (shapeCast S128x384 v shapeCasts_S1x128x384_S128x384) (broadcast S128x384 (BitVec.ofNat 32 b.val)))
    (shapeCast S128x384 y shapeCasts_S1x1x128x384_S128x384) (broadcast S128x384 (Scalar.ofBits .f32 0x00000000#32))

/-- The same of class `c` and head `h`. -/
def kept (b : Fin 32) (c : Fin 3) (h : Fin 8) : FVec Ideal S128x384 .f32 :=
  keep b (View.ld u (Rect.unit (s := S3x128x384) ![c.val, 0, 0] S1x128x384.size (inb_u c)))
    (View.ld x (Rect.unit (s := S3x8x128x384) ![c.val, h.val, 0, 0] S1x1x128x384.size (inb_x c h)))

/-- The sum of it. -/
def tot (b : Fin 32) (c : Fin 3) (h : Fin 8) : FVec Ideal S1x1 .f32 :=
  shapeCast S1x1 (multiReduction .add [0] S1 (shapeCast S128x1 (multiReduction .add [1] S128 (kept x u b c h)
      0x00000000#32 reduces_S128x384_S128 (.inl rfl) rfl) shapeCasts_S128_S128x1)
    0x00000000#32 reduces_S128x1_S1 (.inl rfl) rfl) shapeCasts_S1_S1x1

/-- That sum in the head's column, zero in the others. -/
def term (b : Fin 32) (c : Fin 3) (h : Fin 8) : FVec Ideal S1x128 .f32 :=
  select (cmpi .eq (iota .tc S1x128 32 [1] iota_S1x128_d1_w32) (broadcast S1x128 (BitVec.ofNat 32 h.val)))
    (broadcastTo S1x128 (shapeCast S1x1 (tot x u b c h) shapeCasts_S1x1_S1x1) broadcasts_S1x1_S1x128)
    (broadcast S1x128 (Scalar.ofBits .f32 0x00000000#32))

/-- The eight heads' terms of a class added to a row. -/
def heads (b : Fin 32) (c : Fin 3) (r : FVec Ideal S1x128 .f32) : FVec Ideal S1x128 .f32 :=
  addf (addf (addf (addf (addf (addf (addf (addf r (term x u b c 0)) (term x u b c 1)) (term x u b c 2)) (term x u b c 3))
    (term x u b c 4)) (term x u b c 5)) (term x u b c 6)) (term x u b c 7)

/-- Row `b` of the result. -/
def row (b : Fin 32) : FVec Ideal S1x128 .f32 :=
  heads x u b 2 (heads x u b 1 (heads x u b 0 (broadcast S1x128 (Scalar.ofBits .f32 0x00000000#32))))

/-- The stores of the rows of a list. -/
def rows (L : List (Fin 32)) : List (View.Piece (Elt Ideal) S32x128 .f32) :=
  L.map fun b => ⟨Rect.unit (s := S32x128) ![b.val, 0] S1x128.size (inb_o b), row x u b⟩

/-- The result is the stores of its rows, the last first. -/
theorem stores : G2 (F := Ideal) x u = View.canon (rows x u [31, 30, 29, 28, 27, 26, 25, 24, 23, 22, 21, 20, 19, 18, 17, 16, 15,
    14, 13, 12, 11, 10, 9, 8, 7, 6, 5, 4, 3, 2, 1, 0]) := rfl

/-- One class's part of the gradient of the table's entry: the sum over the pairs of positions whose bucket is `b`. -/
def part (b : Fin 32) (h : Fin 8) (c : Fin 3) : EReal :=
  ∑ q : Fin 128, ∑ k : Fin 384, if u (ix3 c q k) = BitVec.ofNat 32 b.val then x (ix4 c h q k) else 0

theorem ld_u (c : Fin 3) (q : Fin 128) (k : Fin 384) :
    View.ld u (Rect.unit (s := S3x128x384) ![c.val, 0, 0] S1x128x384.size (inb_u c)) (ix3 0 q k) = u (ix3 c q k) :=
  congrArg u (funext fun a => Fin.ext (match a with
    | ⟨0, _⟩ => by show c.val + 1 * 0 = c.val; omega
    | ⟨1, _⟩ => by show 0 + 1 * q.val = q.val; omega
    | ⟨2, _⟩ => by show 0 + 1 * k.val = k.val; omega))

theorem ld_x (c : Fin 3) (h : Fin 8) (q : Fin 128) (k : Fin 384) :
    View.ld x (Rect.unit (s := S3x8x128x384) ![c.val, h.val, 0, 0] S1x1x128x384.size (inb_x c h)) (ix4 0 0 q k) = x (ix4 c h q k) :=
  congrArg x (funext fun a => Fin.ext (match a with
    | ⟨0, _⟩ => by show c.val + 1 * 0 = c.val; omega
    | ⟨1, _⟩ => by show h.val + 1 * 0 = h.val; omega
    | ⟨2, _⟩ => by show 0 + 1 * q.val = q.val; omega
    | ⟨3, _⟩ => by show 0 + 1 * k.val = k.val; omega))

theorem select_eq (i j : BitVec 32) (p q : EReal) : Scalar.select (IntOp.cmpi .eq i j) p q = if i = j then p else q := by
  by_cases e : i = j
  · simp [Scalar.select, IntOp.cmpi, e]
  · simp [Scalar.select, IntOp.cmpi, e, beq_false_of_ne e]

theorem keep_at (b : Fin 32) (v : Vec Ideal S1x128x384 .i32) (y : Vec Ideal S1x1x128x384 .f32) (q : Fin 128) (k : Fin 384) :
    keep b v y (ix2 q k) = if v (ix3 0 q k) = BitVec.ofNat 32 b.val then y (ix4 0 0 q k) else 0 := by
  pointwise [keep]
  exact select_eq ..

theorem kept_at (b : Fin 32) (c : Fin 3) (h : Fin 8) (q : Fin 128) (k : Fin 384) :
    kept x u b c h (ix2 q k) = if u (ix3 c q k) = BitVec.ofNat 32 b.val then x (ix4 c h q k) else 0 := by
  refine (keep_at ..).trans ?_
  rw [ld_u, ld_x]

theorem tot_at (b : Fin 32) (c : Fin 3) (h : Fin 8) : tot x u b c h (ix2 0 0) = part x u b h c := by
  unfold tot
  generalize hz : kept x u b c h = z
  pointwise
  subst z
  exact Finset.sum_congr rfl fun q _ => Finset.sum_congr rfl fun k _ => kept_at x u b c h q k

theorem term_at (b : Fin 32) (c : Fin 3) (h : Fin 8) (k : Fin 128) :
    term x u b c h (ix2 0 k) = if k.val = h.val then part x u b h c else 0 := by
  pointwise [term]
  have e : (BitVec.ofNat 32 k.val = BitVec.ofNat 32 h.val) ↔ k.val = h.val := by
    rw [← BitVec.toNat_inj]; simp only [BitVec.toNat_ofNat]; omega
  rw [tot_at, select_eq]
  simp only [e]

theorem heads_at (b : Fin 32) (c : Fin 3) (r : FVec Ideal S1x128 .f32) (k : Fin 128) : heads x u b c r (ix2 0 k)
    = r (ix2 0 k) + if h : k.val < 8 then part x u b ⟨k.val, h⟩ c else 0 := by
  have e : heads x u b c r (ix2 0 k) = r (ix2 0 k) + term x u b c 0 (ix2 0 k) + term x u b c 1 (ix2 0 k) + term x u b c 2 (ix2 0 k)
    + term x u b c 3 (ix2 0 k) + term x u b c 4 (ix2 0 k) + term x u b c 5 (ix2 0 k) + term x u b c 6 (ix2 0 k)
    + term x u b c 7 (ix2 0 k) := rfl
  rw [e]
  simp only [term_at]
  by_cases h : k.val < 8
  · rw [dif_pos h]
    generalize hj : (⟨k.val, h⟩ : Fin 8) = j
    have hk : k.val = j.val := by rw [← hj]
    rw [hk]
    clear hj hk e h
    fin_cases j <;> simp
  · rw [dif_neg h, add_zero]
    have n (j : Fin 8) : ¬ k.val = j.val := by omega
    simp only [if_neg (n _), add_zero]

/-- The result at its entries. -/
def res : Vec Ideal S32x128 .f32 := fun i => if h : (i 1).val < 8 then ∑ c : Fin 3, part x u (i 0) ⟨(i 1).val, h⟩ c else 0

theorem row_at (b : Fin 32) (k : Fin 128) : row x u b (ix2 0 k) = res x u (ix2 b k) := by
  unfold row
  rw [heads_at, heads_at, heads_at]
  have z : (broadcast S1x128 (Scalar.ofBits .f32 0x00000000#32) : FVec Ideal S1x128 .f32) (ix2 0 k) = 0 := by pointwise
  rw [z]
  show _ = if h : k.val < 8 then ∑ c : Fin 3, part x u b ⟨k.val, h⟩ c else 0
  split
  · rw [Fin.sum_univ_three, zero_add]
  · simp

theorem rows_at (b : Fin 32) (k : Fin 128) : ∀ L : List (Fin 32), b ∈ L → View.canon (rows x u L) (ix2 b k) = res x u (ix2 b k)
  | [], h => absurd h List.not_mem_nil
  | a :: L, h => by
    refine (Cert.Rows.canon_rows_cons a.val _ _ _ _ _).trans ?_
    split
    · rename_i g
      obtain rfl : a = b := Fin.ext (by omega)
      rw [← row_at]
      exact congrArg (fun j => row x u a (ix2 j k)) (Subsingleton.elim (α := Fin 1) _ _)
    · rename_i g
      exact rows_at b k L ((List.mem_cons.mp h).resolve_left fun e => g (by subst e; omega))

/-- What the kernel leaves. -/
theorem result : G2 (F := Ideal) x u = res x u := by
  rw [stores]
  funext i
  have e : i = ix2 (i 0) (i 1) := eq_ix2 i
  rw [e]
  exact rows_at x u _ _ _ (by
    have : ∀ b : Fin 32, b ∈ ([31, 30, 29, 28, 27, 26, 25, 24, 23, 22, 21, 20, 19, 18, 17, 16, 15,
      14, 13, 12, 11, 10, 9, 8, 7, 6, 5, 4, 3, 2, 1, 0] : List (Fin 32)) := by decide
    exact this _)

end Cert.BiaKernelIdeal.Value

end
-- ==== Proof.BiaClaims.lean ====
/-
  The claims about the kernel of the bias table's gradient and its reference.
-/
module

public import proofs.«01_k».proof.Defs
public import proofs.«01_k».proof.Proof.BiaBlocks
public import proofs.«01_k».proof.Proof.Gen.BiaKernel.Frame
public import proofs.«01_k».proof.Proof.Gen.BiaReferenceIdeal.Run
public import Idealize.ShloMosaic.Lib.KernelVsHost

@[expose] public section

noncomputable section

namespace Cert.BiaClaims

open Idealize.ShloMosaic Idealize.ShloMosaic.TcCoe Idealize.SL.Sem
open Cert.BiaKernelIdeal.Value

section reference
open Cert.BiaReferenceIdeal Cert.BiaReferenceIdeal.Gen
variable (x : Vec Ideal S3x8x128x384 .f32) (u : Vec Ideal S3x128x384 .i32)

/-- The rows of the reference's products: the gradient with its heads last, and the matrix that marks each pair's bucket. -/
def dOut : FVec Ideal S384x384x8 .f32 :=
  shapeCast S384x384x8 (transpose S3x128x384x8 [0, 2, 3, 1] x transposes_S3x8x128x384_S3x128x384x8_0_2_3_1)
    shapeCasts_S3x128x384x8_S384x384x8
def mark : FVec Ideal S384x384x32 .f32 :=
  uitofp .f32 (cmpi .eq
    (broadcastInDim S384x384x32 ![0, 1, 2] bcast_S384x384x1_S384x384x32_0_1_2
      (broadcastInDim S384x384x1 ![0, 1] bcast_S384x384_S384x384x1_0_1 (shapeCast S384x384 u shapeCasts_S3x128x384_S384x384)))
    (broadcastInDim S384x384x32 ![0, 1, 2] bcast_S1x1x32_S384x384x32_0_1_2
      (broadcastInDim S1x1x32 ![2] bcast_S32_S1x1x32_2 (iotaInDim S32 32 0))))

/-- What the reference leaves. -/
def ref : FVec Ideal S32x128 .f32 :=
  pad S32x128 ![0, 0] ![0, 120] ![0, 0] (transpose S32x8 [1, 0]
      (Host.dotGeneral dot_S384x384x8_S384x384x32_S8x32_01_01_2_2_n_n none (dOut x) (mark u)) transposes_S8x32_S32x8_1_0)
    (sitofp .f32 (constantI S_ 32 0#32)) pads_S32x8_S32x128_000_01200 h_S_

theorem dOut_at (i k : Fin 384) (h : Fin 8) :
    dOut x (ix3 i k h) = x (ix4 ⟨i.val / 128, by omega⟩ h ⟨i.val % 128, by omega⟩ k) := by pointwise [dOut]

theorem mark_at (i k : Fin 384) (b : Fin 32) : mark u (ix3 i k b)
    = if u (ix3 ⟨i.val / 128, by omega⟩ ⟨i.val % 128, by omega⟩ k) = BitVec.ofNat 32 b.val then 1 else 0 := by
  pointwise [mark]
  by_cases e : u (ix3 ⟨i.val / 128, by omega⟩ ⟨i.val % 128, by omega⟩ k) = BitVec.ofNat 32 b.val
  · rw [if_pos e, e]
    simp only [IntOp.cmpi, beq_self_eq_true, BitVec.ofBool_true]
    show (((1#1 : BitVec 1).toNat : ℝ) : EReal) = 1
    norm_num
  · rw [if_neg e]
    simp only [IntOp.cmpi, beq_false_of_ne e, BitVec.ofBool_false]
    show (((0#1 : BitVec 1).toNat : ℝ) : EReal) = 0
    norm_num

/-- A sum over 384 rows, by classes of 128. -/
theorem split (f : Fin 3 → Fin 128 → EReal) :
    ∑ i : Fin 384, f ⟨i.val / 128, by omega⟩ ⟨i.val % 128, by omega⟩ = ∑ c : Fin 3, ∑ q : Fin 128, f c q := by
  rw [← Fintype.sum_prod_type' f]
  exact Fintype.sum_equiv (finProdFinEquiv (m := 3) (n := 128)).symm _ _ fun i => rfl

theorem ref_at (b : Fin 32) (k : Fin 128) : ref x u (ix2 b k) = res x u (ix2 b k) := by
  pointwise [ref]
  show _ = if h : k.val < 8 then ∑ c : Fin 3, part x u b ⟨k.val, h⟩ c else 0
  by_cases h : k.val < 8
  · rw [dif_pos h, dif_pos h]
    refine Eq.trans ?_ (split fun c q => ∑ l : Fin 384, if u (ix3 c q l) = BitVec.ofNat 32 b.val then x (ix4 c ⟨k.val, h⟩ q l) else 0)
    refine Finset.sum_congr rfl fun i _ => Finset.sum_congr rfl fun l _ => ?_
    rw [dOut_at, mark_at, mul_ite, mul_one, mul_zero]
  · rw [dif_neg h, dif_neg h]
    exact sitofp_zero (φ := .f32)

theorem ref_eq : ref x u = res x u := by
  funext i
  have e : i = ix2 (i 0) (i 1) := eq_ix2 i
  rw [e]
  exact ref_at x u _ _

end reference

open Cert.BiaKernelIdeal

/-- The kernel runs without fault, keeps its arguments and leaves every counter at zero. -/
theorem frame_kernel : Cert.quiescent_BiaKernel := fun m ρ _ => Cert.BiaKernel.Gen.frame m ρ

/-- So does its ideal program. -/
theorem frame_ideal : Cert.quiescent_BiaKernelIdeal := fun m ρ _ => Cert.BiaKernelIdeal.Gen.frame m ρ

/-- So does the reference. -/
theorem frame_reference : Cert.quiescent_BiaReferenceIdeal := fun m ρ _ =>
  (θ_run _ _ _).mono (fun r h => ⟨fun c => (h c).2, sem_eq_zero_of_no_sems (by decide) r.2⟩)
    (Cert.BiaReferenceIdeal.Value.run m ρ)

/-- The kernel and the reference compute the same gradient. -/
theorem algebraic : Cert.algebraic_BiaKernelIdeal_BiaReferenceIdeal := fun m g m' g' _ hargs =>
  ⟨fun c => G2 (m ((c.tc : Thread nD τ).loc main_arg0)) (m ((c.tc : Thread nD τ).loc main_arg1)),
   Cert.BiaKernelIdeal.Value.run m g,
   (θ_run _ _ _).mono (fun r h c => by
      obtain ⟨r0, hk⟩ := h c
      obtain ⟨e0, e1⟩ := hargs c
      refine ⟨r0.trans ?_, hk⟩
      rw [e0, e1]
      exact (ref_eq _ _).trans (result _ _).symm)
    (Cert.BiaReferenceIdeal.Value.run m' g')⟩

end Cert.BiaClaims

end
-- ==== Proof.BifBlocks.lean ====
/-
  What the kernel of the attention's bias leaves over the extended reals: head `h` of a pair of positions holds the table's
  entry of the pair's bucket, zero where the bucket is none of the table's rows.
-/
module

public import proofs.«01_k».proof.Proof.BiaBlocks
public import proofs.«01_k».proof.Proof.Gen.BifKernelIdeal.Value
public import Idealize.ShloMosaic.Lib.Tactic

@[expose] public section

noncomputable section

namespace Cert.BifKernelIdeal.Value

open Cert.BifKernelIdeal Cert.BifKernelIdeal.Gen Idealize.ShloMosaic Idealize.ShloMosaic.TcCoe Idealize.SL.Sem
open Cert.BiaKernelIdeal.Value (inb_u inb_x ld_u select_eq)

section body
variable (x : Vec Ideal S32x8 .f32) (u : Vec Ideal S3x128x384 .i32)

theorem inb_t (b : Fin 32) (h : Fin 8) : ∀ a, (![b.val, h.val] : Fin 2 → Nat) a + S1x1.size a ≤ S32x8.size a
  | ⟨0, _⟩ => by show b.val + 1 ≤ 32; omega
  | ⟨1, _⟩ => by show h.val + 1 ≤ 8; omega

/-- The buckets of class `c`. -/
def slab (c : Fin 3) : IVec S128x384 32 :=
  shapeCast S128x384 (View.ld u (Rect.unit (s := S3x128x384) ![c.val, 0, 0] S1x128x384.size (inb_u c))) shapeCasts_S1x128x384_S128x384

/-- Entry `(b, h)` of the table. -/
def word (b : Fin 32) (h : Fin 8) : EReal :=
  View.ld x (Rect.unit (s := S32x8) ![b.val, h.val] S1x1.size (inb_t b h)) (Shape.Idx.first (s := S1x1) (numel1_S1x1.symm ▸ Nat.one_pos))

/-- The entries picked for the buckets of a list, the last first. -/
def picks (c : Fin 3) (h : Fin 8) : List (Fin 32) → FVec Ideal S128x384 .f32
  | [] => broadcast S128x384 (Scalar.ofBits .f32 0x00000000#32)
  | b :: L => select (cmpi .eq (slab u c) (broadcast S128x384 (BitVec.ofNat 32 b.val))) (broadcast S128x384 (word x b h)) (picks c h L)

/-- All buckets, the last first. -/
def buckets : List (Fin 32) := (List.finRange 32).reverse

/-- The stores of the heads of a list of classes and heads. -/
def planes (L : List (Fin 3 × Fin 8)) : List (View.Piece (Elt Ideal) S3x8x128x384 .f32) :=
  L.map fun p => ⟨Rect.unit (s := S3x8x128x384) ![p.1.val, p.2.val, 0, 0] S1x1x128x384.size (inb_x p.1 p.2),
    shapeCast S1x1x128x384 (picks x u p.1 p.2 buckets) shapeCasts_S128x384_S1x1x128x384⟩

/-- All classes and heads, the last first. -/
def pairs : List (Fin 3 × Fin 8) := ((List.finRange 3).product (List.finRange 8)).reverse

/-- The body leaves these stores. -/
theorem stores (c : Dev nD) (a0 : Memref sig .tc .smem S32x8 .f32) (h0 : a0.IsWhole) (a1 : Memref sig .tc .vmem S3x128x384 .i32)
    (h1 : a1.IsWhole) (a2 : Memref sig .tc .vmem S3x8x128x384 .f32) (h2 : a2.IsWhole) :
    out0_A_2 c a0 h0 a1 h1 a2 h2 x u = View.canon (planes x u pairs) := by
  unfold out0_A_2
  rw [View.read_writes_eq_canon _ _ _ fun _ => cover0_A_2 ..]
  unfold kernelRun0_A; dsimp only; sl_unfold_words
  simp only [View.readAt_eq_ld, Memref.IsWhole.read_unread]
  rfl

theorem word_eq (b : Fin 32) (h : Fin 8) : word x b h = x (ix2 b h) :=
  congrArg x (funext fun a => Fin.ext (by fin_cases a <;> rfl))

theorem slab_at (c : Fin 3) (q : Fin 128) (k : Fin 384) : slab u c (ix2 q k) = u (ix3 c q k) := by
  have e (v : Vec Ideal S1x128x384 .i32) : (shapeCast S128x384 v shapeCasts_S1x128x384_S128x384 : IVec S128x384 32) (ix2 q k)
      = v (ix3 0 q k) := by pointwise
  exact (e _).trans (ld_u ..)

theorem picks_at (c : Fin 3) (h : Fin 8) (q : Fin 128) (k : Fin 384) : ∀ L : List (Fin 32), L.Nodup →
    picks x u c h L (ix2 q k) = (L.map fun b => if u (ix3 c q k) = BitVec.ofNat 32 b.val then x (ix2 b h) else 0).sum
  | [], _ => by
    show (broadcast S128x384 (Scalar.ofBits .f32 0x00000000#32) : FVec Ideal S128x384 .f32) (ix2 q k) = 0
    pointwise
  | b :: L, n => by
    obtain ⟨n, nL⟩ := List.nodup_cons.mp n
    show Scalar.select (IntOp.cmpi .eq (slab u c (ix2 q k)) (BitVec.ofNat 32 b.val)) (word x b h) (picks x u c h L (ix2 q k)) = _
    rw [select_eq, slab_at, word_eq, picks_at c h q k L nL, List.map_cons, List.sum_cons]
    split
    · rename_i e
      rw [List.sum_eq_zero fun y hy => ?_, add_zero]
      obtain ⟨d, hd, rfl⟩ := List.mem_map.mp hy
      refine if_neg fun e' => n ?_
      have s : BitVec.ofNat 32 b.val = BitVec.ofNat 32 d.val := e.symm.trans e'
      rw [← BitVec.toNat_inj] at s
      simp only [BitVec.toNat_ofNat] at s
      obtain rfl : b = d := Fin.ext (by omega)
      exact hd
    · rw [zero_add]

/-- The result at its entries. -/
def res : Vec Ideal S3x8x128x384 .f32 := fun i =>
  ∑ b : Fin 32, if u (ix3 (i 0) (i 2) (i 3)) = BitVec.ofNat 32 b.val then x (ix2 b (i 1)) else 0

theorem planes_at (c : Fin 3) (h : Fin 8) (q : Fin 128) (k : Fin 384) : ∀ L : List (Fin 3 × Fin 8), (c, h) ∈ L →
    View.canon (planes x u L) (ix4 c h q k) = res x u (ix4 c h q k)
  | [], m => absurd m List.not_mem_nil
  | a :: L, m => by
    by_cases e : a = (c, h)
    · subst e
      refine Eq.trans (congrArg _ ?_) ((View.canon_cons_emb (Rect.unit (s := S3x8x128x384) ![c.val, h.val, 0, 0] S1x1x128x384.size
        (inb_x c h)) _ (planes x u L) (ix4 (0 : Fin 1) (0 : Fin 1) q k)).trans ?_)
      · exact funext fun a => Fin.ext (match a with
          | ⟨0, _⟩ | ⟨1, _⟩ => rfl
          | ⟨2, _⟩ => by show q.val = 0 + 1 * q.val; omega
          | ⟨3, _⟩ => by show k.val = 0 + 1 * k.val; omega)
      · have t : (shapeCast S1x1x128x384 (picks x u c h buckets) shapeCasts_S128x384_S1x1x128x384 : FVec Ideal S1x1x128x384 .f32)
            (ix4 0 0 q k) = picks x u c h buckets (ix2 q k) := by
          generalize picks x u c h buckets = v
          pointwise
        refine t.trans ((picks_at x u c h q k buckets (by decide)).trans ?_)
        rw [← List.sum_toFinset _ (by decide), show buckets.toFinset = Finset.univ by decide]
        rfl
    · refine (View.canon_cons_of_not_mem _ _ fun hm => e ?_).trans (planes_at c h q k L ((List.mem_cons.mp m).resolve_left (Ne.symm e)))
      have m0 := (Rect.mem_set_unit (inb := inb_x a.1 a.2) |>.mp hm) 0
      have m1 := (Rect.mem_set_unit (inb := inb_x a.1 a.2) |>.mp hm) 1
      change a.1.val ≤ c.val ∧ c.val < a.1.val + 1 at m0
      change a.2.val ≤ h.val ∧ h.val < a.2.val + 1 at m1
      exact Prod.ext (Fin.ext (by show a.1.val = c.val; omega)) (Fin.ext (by show a.2.val = h.val; omega))

end body

variable (m : (ℓ : Loc nD τ sig) → Buf (Elt Ideal) ℓ) (c : Dev nD)

/-- The one point's blocks are the whole arrays. -/
theorem index_facts (t : Fin cfg0.N) : (∀ a, win0_0.index t a = 0) ∧ (∀ a, win0_1.index t a = 0) ∧ ∀ a, win0_2.index t a = 0 :=
  (by decide +kernel : ∀ t : Fin grid0.N, (∀ a, win0_0.index t a = 0) ∧ (∀ a, win0_1.index t a = 0) ∧ ∀ a, win0_2.index t a = 0) t

theorem block_t (t : Fin cfg0.N) : iblk m c 0 t = m ((c.tc : Thread nD τ).loc main_arg0) := by
  funext y
  unfold iblk
  rw [View.read_apply]
  show V m c main_arg0 _ = _
  rw [V_main_arg0]
  congr 1
  have hi := (index_facts t).1
  exact funext fun a => Fin.ext (by show win0_0.index t a * S32x8.size a + 1 * (y a).val = (y a).val; rw [hi]; omega)

theorem block_u (t : Fin cfg0.N) : iblk m c 1 t = m ((c.tc : Thread nD τ).loc main_arg1) := by
  funext y
  unfold iblk
  rw [View.read_apply]
  show V m c main_arg1 _ = _
  rw [V_main_arg1]
  congr 1
  have hi := (index_facts t).2.1
  exact funext fun a => Fin.ext (by show win0_1.index t a * S3x128x384.size a + 1 * (y a).val = (y a).val; rw [hi]; omega)

/-- What the kernel leaves. -/
theorem result : (dats m 0 c).arrAt 2 cfg0.N
    = res (m ((c.tc : Thread nD τ).loc main_arg0)) (m ((c.tc : Thread nD τ).loc main_arg1)) := by
  funext y
  let t : Fin cfg0.N := ⟨0, by decide +kernel⟩
  have hi := (index_facts t).2.2
  have h := congrFun (blocks2 m c t (flush0_2 t)) y
  rw [flushed2, View.read_apply] at h
  refine Eq.trans (congrArg _ ?_) (h.trans ?_)
  · exact funext fun a => Fin.ext (by show (y a).val = win0_2.index t a * S3x8x128x384.size a + 1 * (y a).val; rw [hi]; omega)
  · show outsAt0 m c t y = _
    unfold outsAt0
    rw [stores, block_t, block_u, eq_ix4 y]
    exact planes_at _ _ (y 0) (y 1) (y 2) (y 3) pairs (by
      have : ∀ p : Fin 3 × Fin 8, p ∈ pairs := by decide
      exact this _)

end Cert.BifKernelIdeal.Value

end
-- ==== Proof.BifClaims.lean ====
/-
  The claims about the kernel of the attention's bias and its reference.
-/
module

public import proofs.«01_k».proof.Proof.BifBlocks
public import proofs.«01_k».proof.Proof.BiaClaims
public import proofs.«01_k».proof.Proof.Gen.BifKernel.Frame
public import proofs.«01_k».proof.Proof.Gen.BifReferenceIdeal.Run

@[expose] public section

noncomputable section

namespace Cert.BifClaims

open Idealize.ShloMosaic Idealize.ShloMosaic.TcCoe Idealize.SL.Sem
open Cert.BifKernelIdeal.Value

section reference
open Cert.BifReferenceIdeal Cert.BifReferenceIdeal.Gen
variable (x : FVec Ideal S32x8 .f32) (u : Vec Ideal S3x128x384 .i32)

/-- What the reference leaves. -/
def ref : FVec Ideal S3x8x128x384 .f32 :=
  transpose S3x8x128x384 [0, 3, 1, 2] (shapeCast S3x128x384x8
      (Host.dotGeneral dot_S384x384x32_S32x8_S384x384x8_2_0_01_1_n_n none (Cert.BiaClaims.mark u) x)
    shapeCasts_S384x384x8_S3x128x384x8) transposes_S3x128x384x8_S3x8x128x384_0_3_1_2

theorem ref_at (c : Fin 3) (h : Fin 8) (q : Fin 128) (k : Fin 384) : ref x u (ix4 c h q k) = res x u (ix4 c h q k) := by
  pointwise [ref]
  refine Finset.sum_congr rfl fun b _ => ?_
  rw [Cert.BiaClaims.mark_at, ite_mul, one_mul, zero_mul]
  have e : (⟨(c.val * 128 + q.val) / 128, by omega⟩ : Fin 3) = c := Fin.ext (by dsimp only; omega)
  have f : (⟨(c.val * 128 + q.val) % 128, by omega⟩ : Fin 128) = q := Fin.ext (by dsimp only; omega)
  simp only [e, f]
  rfl

theorem ref_eq : ref x u = res x u := by
  funext i
  rw [eq_ix4 i]
  exact ref_at ..

end reference

open Cert.BifKernelIdeal

/-- The kernel runs without fault, keeps its arguments and leaves every counter at zero. -/
theorem frame_kernel : Cert.quiescent_BifKernel := fun m ρ _ => Cert.BifKernel.Gen.frame m ρ

/-- So does its ideal program. -/
theorem frame_ideal : Cert.quiescent_BifKernelIdeal := fun m ρ _ => Cert.BifKernelIdeal.Gen.frame m ρ

/-- So does the reference. -/
theorem frame_reference : Cert.quiescent_BifReferenceIdeal := fun m ρ _ =>
  (θ_run _ _ _).mono (fun r h => ⟨fun c => (h c).2, sem_eq_zero_of_no_sems (by decide) r.2⟩)
    (Cert.BifReferenceIdeal.Value.run m ρ)

/-- The kernel and the reference compute the same bias. -/
theorem algebraic : Cert.algebraic_BifKernelIdeal_BifReferenceIdeal := fun m g m' g' _ hargs =>
  ⟨fun c => (Cert.BifKernelIdeal.Gen.dats m 0 c).arrAt 2 cfg0.N,
   Cert.BifKernelIdeal.Value.run_blocks m g,
   (θ_run _ _ _).mono (fun r h c => by
      obtain ⟨r0, hk⟩ := h c
      obtain ⟨e0, e1⟩ := hargs c
      refine ⟨r0.trans ?_, hk⟩
      rw [e0, e1]
      exact (ref_eq _ _).trans (result m c).symm)
    (Cert.BifReferenceIdeal.Value.run m' g')⟩

end Cert.BifClaims

end
-- ==== Proof.lean ====
/-
  Every claim of the certificate, each from its own module: the frames of a pair, preserves, and the two programs' equal results.
-/
module

public import proofs.«01_k».proof.Defs
public import proofs.«01_k».proof.Proof.LossClaims
public import proofs.«01_k».proof.Proof.ConvClaims
public import proofs.«01_k».proof.Proof.FfndClaims
public import proofs.«01_k».proof.Proof.MobClaims
public import proofs.«01_k».proof.Proof.UpbClaims
public import proofs.«01_k».proof.Proof.SwfClaims
public import proofs.«01_k».proof.Proof.GlfClaims
public import proofs.«01_k».proof.Proof.DnfClaims
public import proofs.«01_k».proof.Proof.FfuClaims
public import proofs.«01_k».proof.Proof.FfdClaims
public import proofs.«01_k».proof.Proof.MxiClaims
public import proofs.«01_k».proof.Proof.MxoClaims
public import proofs.«01_k».proof.Proof.CvfClaims
public import proofs.«01_k».proof.Proof.TnClaims
public import proofs.«01_k».proof.Proof.AdaClaims
public import proofs.«01_k».proof.Proof.BiaClaims
public import proofs.«01_k».proof.Proof.BifClaims
public import Idealize.ShloMosaic.Adequacy
public import Idealize.ShloMosaic.Init

@[expose] public section

noncomputable section

namespace Cert.Proof

open Idealize.ShloMosaic Idealize.SL.Sem Cert.LossKernel

theorem claim : Cert.Claim := ⟨Cert.LossKernel.Gen.facts,
  Cert.LossKernelIdeal.Gen.facts,
  Cert.LossReferenceIdeal.Gen.facts,
  Cert.ConvKernel.Gen.facts,
  Cert.ConvKernelIdeal.Gen.facts,
  Cert.ConvReferenceIdeal.Gen.facts,
  Cert.FfndKernel.Gen.facts,
  Cert.FfndKernelIdeal.Gen.facts,
  Cert.FfndReferenceIdeal.Gen.facts,
  Cert.MobKernel.Gen.facts,
  Cert.MobKernelIdeal.Gen.facts,
  Cert.MobReferenceIdeal.Gen.facts,
  Cert.UpbKernel.Gen.facts,
  Cert.UpbKernelIdeal.Gen.facts,
  Cert.UpbReferenceIdeal.Gen.facts,
  Cert.SwfKernel.Gen.facts,
  Cert.SwfKernelIdeal.Gen.facts,
  Cert.SwfReferenceIdeal.Gen.facts,
  Cert.GlfKernel.Gen.facts,
  Cert.GlfKernelIdeal.Gen.facts,
  Cert.GlfReferenceIdeal.Gen.facts,
  Cert.DnfKernel.Gen.facts,
  Cert.DnfKernelIdeal.Gen.facts,
  Cert.DnfReferenceIdeal.Gen.facts,
  Cert.FfuKernel.Gen.facts,
  Cert.FfuKernelIdeal.Gen.facts,
  Cert.FfuReferenceIdeal.Gen.facts,
  Cert.FfdKernel.Gen.facts,
  Cert.FfdKernelIdeal.Gen.facts,
  Cert.FfdReferenceIdeal.Gen.facts,
  Cert.MxiKernel.Gen.facts,
  Cert.MxiKernelIdeal.Gen.facts,
  Cert.MxiReferenceIdeal.Gen.facts,
  Cert.MxoKernel.Gen.facts,
  Cert.MxoKernelIdeal.Gen.facts,
  Cert.MxoReferenceIdeal.Gen.facts,
  Cert.CvfKernel.Gen.facts,
  Cert.CvfKernelIdeal.Gen.facts,
  Cert.CvfReferenceIdeal.Gen.facts,
  Cert.TnKernel.Gen.facts,
  Cert.TnKernelIdeal.Gen.facts,
  Cert.TnReferenceIdeal.Gen.facts,
  Cert.AdaKernel.Gen.facts,
  Cert.AdaKernelIdeal.Gen.facts,
  Cert.AdaReferenceIdeal.Gen.facts,
  Cert.BiaKernel.Gen.facts,
  Cert.BiaKernelIdeal.Gen.facts,
  Cert.BiaReferenceIdeal.Gen.facts,
  Cert.BifKernel.Gen.facts,
  Cert.BifKernelIdeal.Gen.facts,
  Cert.BifReferenceIdeal.Gen.facts,
  Cert.FfndClaims.facts_pre,
  Cert.SwfClaims.facts_pre,
  Cert.GlfClaims.facts_pre,
  Cert.DnfClaims.facts_pre,
  Cert.LossClaims.frame_kernel,
  Cert.LossClaims.frame_ideal,
  Cert.LossClaims.frame_reference,
  Cert.ConvClaims.frame_kernel,
  Cert.ConvClaims.frame_ideal,
  Cert.ConvClaims.frame_reference,
  Cert.FfndClaims.frame_kernel,
  Cert.FfndClaims.frame_ideal,
  fun m ρ _ => Cert.FfndClaims.frame_ideal m ρ trivial,
  Cert.FfndClaims.frame_reference,
  fun m ρ _ => Cert.FfndClaims.frame_reference m ρ trivial,
  Cert.MobClaims.frame_kernel,
  Cert.MobClaims.frame_ideal,
  Cert.MobClaims.frame_reference,
  Cert.UpbClaims.frame_kernel,
  Cert.UpbClaims.frame_ideal,
  Cert.UpbClaims.frame_reference,
  Cert.SwfClaims.frame_kernel,
  Cert.SwfClaims.frame_ideal,
  fun m ρ _ => Cert.SwfClaims.frame_ideal m ρ trivial,
  Cert.SwfClaims.frame_reference,
  fun m ρ _ => Cert.SwfClaims.frame_reference m ρ trivial,
  Cert.GlfClaims.frame_kernel,
  Cert.GlfClaims.frame_ideal,
  fun m ρ _ => Cert.GlfClaims.frame_ideal m ρ trivial,
  Cert.GlfClaims.frame_reference,
  fun m ρ _ => Cert.GlfClaims.frame_reference m ρ trivial,
  Cert.DnfClaims.frame_kernel,
  Cert.DnfClaims.frame_ideal,
  fun m ρ _ => Cert.DnfClaims.frame_ideal m ρ trivial,
  Cert.DnfClaims.frame_reference,
  fun m ρ _ => Cert.DnfClaims.frame_reference m ρ trivial,
  Cert.FfuClaims.frame_kernel,
  Cert.FfuClaims.frame_ideal,
  Cert.FfuClaims.frame_reference,
  Cert.FfdClaims.frame_kernel,
  Cert.FfdClaims.frame_ideal,
  Cert.FfdClaims.frame_reference,
  Cert.MxiClaims.frame_kernel,
  Cert.MxiClaims.frame_ideal,
  Cert.MxiClaims.frame_reference,
  Cert.MxoClaims.frame_kernel,
  Cert.MxoClaims.frame_ideal,
  Cert.MxoClaims.frame_reference,
  Cert.CvfClaims.frame_kernel,
  Cert.CvfClaims.frame_ideal,
  Cert.CvfClaims.frame_reference,
  Cert.TnClaims.frame_kernel,
  Cert.TnClaims.frame_ideal,
  Cert.TnClaims.frame_reference,
  Cert.AdaClaims.frame_kernel,
  Cert.AdaClaims.frame_ideal,
  Cert.AdaClaims.frame_reference,
  Cert.BiaClaims.frame_kernel,
  Cert.BiaClaims.frame_ideal,
  Cert.BiaClaims.frame_reference,
  Cert.BifClaims.frame_kernel,
  Cert.BifClaims.frame_ideal,
  Cert.BifClaims.frame_reference,
  trivial,
  Cert.LossClaims.algebraic,
  trivial,
  Cert.ConvClaims.algebraic,
  trivial,
  Cert.FfndClaims.algebraic,
  trivial,
  Cert.MobClaims.algebraic,
  trivial,
  Cert.UpbClaims.algebraic,
  Cert.SwfClaims.preserves,
  Cert.SwfClaims.algebraic,
  trivial,
  Cert.GlfClaims.algebraic,
  trivial,
  Cert.DnfClaims.algebraic,
  trivial,
  Cert.FfuClaims.algebraic,
  trivial,
  Cert.FfdClaims.algebraic,
  trivial,
  Cert.MxiClaims.algebraic,
  trivial,
  Cert.MxoClaims.algebraic,
  trivial,
  Cert.CvfClaims.algebraic,
  trivial,
  Cert.TnClaims.algebraic,
  trivial,
  Cert.AdaClaims.algebraic,
  trivial,
  Cert.BiaClaims.algebraic,
  trivial,
  Cert.BifClaims.algebraic⟩

end Cert.Proof

end
